-- ==== Defs.lean ====
def Pre_KernelDwr (m : (ℓ : Loc Cert.KernelDwr.nD Cert.KernelDwr.τ Cert.KernelDwr.sig) → Buf (Elt Bits) ℓ) : Prop :=
  True

def Pre_KernelDwrIdeal (m : (ℓ : Loc Cert.KernelDwrIdeal.nD Cert.KernelDwrIdeal.τ Cert.KernelDwrIdeal.sig) → Buf (Elt Ideal) ℓ) : Prop :=
  True

def Pre_ReferenceDwrIdeal (m : (ℓ : Loc Cert.ReferenceDwrIdeal.nD Cert.ReferenceDwrIdeal.τ Cert.ReferenceDwrIdeal.sig) → Buf (Elt Ideal) ℓ) : Prop :=
  True

def Pre_KernelDwc (m : (ℓ : Loc Cert.KernelDwc.nD Cert.KernelDwc.τ Cert.KernelDwc.sig) → Buf (Elt Bits) ℓ) : Prop :=
  True

def Pre_KernelDwcIdeal (m : (ℓ : Loc Cert.KernelDwcIdeal.nD Cert.KernelDwcIdeal.τ Cert.KernelDwcIdeal.sig) → Buf (Elt Ideal) ℓ) : Prop :=
  True

def Pre_ReferenceDwcIdeal (m : (ℓ : Loc Cert.ReferenceDwcIdeal.nD Cert.ReferenceDwcIdeal.τ Cert.ReferenceDwcIdeal.sig) → Buf (Elt Ideal) ℓ) : Prop :=
  True

def Pre_KernelDwg (m : (ℓ : Loc Cert.KernelDwg.nD Cert.KernelDwg.τ Cert.KernelDwg.sig) → Buf (Elt Bits) ℓ) : Prop :=
  True

def Pre_KernelDwgIdeal (m : (ℓ : Loc Cert.KernelDwgIdeal.nD Cert.KernelDwgIdeal.τ Cert.KernelDwgIdeal.sig) → Buf (Elt Ideal) ℓ) : Prop :=
  True

def Pre_ReferenceDwgIdeal (m : (ℓ : Loc Cert.ReferenceDwgIdeal.nD Cert.ReferenceDwgIdeal.τ Cert.ReferenceDwgIdeal.sig) → Buf (Elt Ideal) ℓ) : Prop :=
  True

def Pre_KernelDwRetOut (m : (ℓ : Loc Cert.KernelDwRetOut.nD Cert.KernelDwRetOut.τ Cert.KernelDwRetOut.sig) → Buf (Elt Bits) ℓ) : Prop :=
  True

def Pre_KernelDwRetOutIdeal (m : (ℓ : Loc Cert.KernelDwRetOutIdeal.nD Cert.KernelDwRetOutIdeal.τ Cert.KernelDwRetOutIdeal.sig) → Buf (Elt Ideal) ℓ) : Prop :=
  True

def Pre_ReferenceDwRetOutIdeal (m : (ℓ : Loc Cert.ReferenceDwRetOutIdeal.nD Cert.ReferenceDwRetOutIdeal.τ Cert.ReferenceDwRetOutIdeal.sig) → Buf (Elt Ideal) ℓ) : Prop :=
  True

def Pre_KernelDwConvOut (m : (ℓ : Loc Cert.KernelDwConvOut.nD Cert.KernelDwConvOut.τ Cert.KernelDwConvOut.sig) → Buf (Elt Bits) ℓ) : Prop :=
  True

def Pre_KernelDwConvOutIdeal (m : (ℓ : Loc Cert.KernelDwConvOutIdeal.nD Cert.KernelDwConvOutIdeal.τ Cert.KernelDwConvOutIdeal.sig) → Buf (Elt Ideal) ℓ) : Prop :=
  True

def Pre_ReferenceDwConvOutIdeal (m : (ℓ : Loc Cert.ReferenceDwConvOutIdeal.nD Cert.ReferenceDwConvOutIdeal.τ Cert.ReferenceDwConvOutIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_ReferenceHeadIdeal (m : (ℓ : Loc Cert.ReferenceHeadIdeal.nD Cert.ReferenceHeadIdeal.τ Cert.ReferenceHeadIdeal.sig) → Buf (Elt Ideal) ℓ) : Prop :=
  True

def Pre_KernelSumSmall (m : (ℓ : Loc Cert.KernelSumSmall.nD Cert.KernelSumSmall.τ Cert.KernelSumSmall.sig) → Buf (Elt Bits) ℓ) : Prop :=
  True

def Pre_KernelSumSmallIdeal (m : (ℓ : Loc Cert.KernelSumSmallIdeal.nD Cert.KernelSumSmallIdeal.τ Cert.KernelSumSmallIdeal.sig) → Buf (Elt Ideal) ℓ) : Prop :=
  True

def Pre_ReferenceSumSmallIdeal (m : (ℓ : Loc Cert.ReferenceSumSmallIdeal.nD Cert.ReferenceSumSmallIdeal.τ Cert.ReferenceSumSmallIdeal.sig) → Buf (Elt Ideal) ℓ) : Prop :=
  True

def Pre_KernelSumConvW (m : (ℓ : Loc Cert.KernelSumConvW.nD Cert.KernelSumConvW.τ Cert.KernelSumConvW.sig) → Buf (Elt Bits) ℓ) : Prop :=
  True

def Pre_KernelSumConvWIdeal (m : (ℓ : Loc Cert.KernelSumConvWIdeal.nD Cert.KernelSumConvWIdeal.τ Cert.KernelSumConvWIdeal.sig) → Buf (Elt Ideal) ℓ) : Prop :=
  True

def Pre_ReferenceSumConvWIdeal (m : (ℓ : Loc Cert.ReferenceSumConvWIdeal.nD Cert.ReferenceSumConvWIdeal.τ Cert.ReferenceSumConvWIdeal.sig) → Buf (Elt Ideal) ℓ) : Prop :=
  True

def Pre_KernelGradWAda (m : (ℓ : Loc Cert.KernelGradWAda.nD Cert.KernelGradWAda.τ Cert.KernelGradWAda.sig) → Buf (Elt Bits) ℓ) : Prop :=
  True

def Pre_KernelGradWAdaIdeal (m : (ℓ : Loc Cert.KernelGradWAdaIdeal.nD Cert.KernelGradWAdaIdeal.τ Cert.KernelGradWAdaIdeal.sig) → Buf (Elt Ideal) ℓ) : Prop :=
  True

def Pre_ReferenceGradWAdaIdeal (m : (ℓ : Loc Cert.ReferenceGradWAdaIdeal.nD Cert.ReferenceGradWAdaIdeal.τ Cert.ReferenceGradWAdaIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelAdamConvW (m : (ℓ : Loc Cert.KernelAdamConvW.nD Cert.KernelAdamConvW.τ Cert.KernelAdamConvW.sig) → Buf (Elt Bits) ℓ) : Prop :=
  True

def Pre_KernelAdamConvWIdeal (m : (ℓ : Loc Cert.KernelAdamConvWIdeal.nD Cert.KernelAdamConvWIdeal.τ Cert.KernelAdamConvWIdeal.sig) → Buf (Elt Ideal) ℓ) : Prop :=
  True

def Pre_ReferenceAdamConvWIdeal (m : (ℓ : Loc Cert.ReferenceAdamConvWIdeal.nD Cert.ReferenceAdamConvWIdeal.τ Cert.ReferenceAdamConvWIdeal.sig) → Buf (Elt Ideal) ℓ) : Prop :=
  True

def Pre_KernelAdamWAda (m : (ℓ : Loc Cert.KernelAdamWAda.nD Cert.KernelAdamWAda.τ Cert.KernelAdamWAda.sig) → Buf (Elt Bits) ℓ) : Prop :=
  True

def Pre_KernelAdamWAdaIdeal (m : (ℓ : Loc Cert.KernelAdamWAdaIdeal.nD Cert.KernelAdamWAdaIdeal.τ Cert.KernelAdamWAdaIdeal.sig) → Buf (Elt Ideal) ℓ) : Prop :=
  True

def Pre_ReferenceAdamWAdaIdeal (m : (ℓ : Loc Cert.ReferenceAdamWAdaIdeal.nD Cert.ReferenceAdamWAdaIdeal.τ Cert.ReferenceAdamWAdaIdeal.sig) → Buf (Elt Ideal) ℓ) : Prop :=
  True

def Pre_KernelAdamWIn (m : (ℓ : Loc Cert.KernelAdamWIn.nD Cert.KernelAdamWIn.τ Cert.KernelAdamWIn.sig) → Buf (Elt Bits) ℓ) : Prop :=
  True

def Pre_KernelAdamWInIdeal (m : (ℓ : Loc Cert.KernelAdamWInIdeal.nD Cert.KernelAdamWInIdeal.τ Cert.KernelAdamWInIdeal.sig) → Buf (Elt Ideal) ℓ) : Prop :=
  True

def Pre_ReferenceAdamWInIdeal (m : (ℓ : Loc Cert.ReferenceAdamWInIdeal.nD Cert.ReferenceAdamWInIdeal.τ Cert.ReferenceAdamWInIdeal.sig) → Buf (Elt Ideal) ℓ) : Prop :=
  True

def Pre_KernelAdamWRetOut (m : (ℓ : Loc Cert.KernelAdamWRetOut.nD Cert.KernelAdamWRetOut.τ Cert.KernelAdamWRetOut.sig) → Buf (Elt Bits) ℓ) : Prop :=
  True

def Pre_KernelAdamWRetOutIdeal (m : (ℓ : Loc Cert.KernelAdamWRetOutIdeal.nD Cert.KernelAdamWRetOutIdeal.τ Cert.KernelAdamWRetOutIdeal.sig) → Buf (Elt Ideal) ℓ) : Prop :=
  True

def Pre_ReferenceAdamWRetOutIdeal (m : (ℓ : Loc Cert.ReferenceAdamWRetOutIdeal.nD Cert.ReferenceAdamWRetOutIdeal.τ Cert.ReferenceAdamWRetOutIdeal.sig) → Buf (Elt Ideal) ℓ) : Prop :=
  True

def Pre_KernelAdamWOut (m : (ℓ : Loc Cert.KernelAdamWOut.nD Cert.KernelAdamWOut.τ Cert.KernelAdamWOut.sig) → Buf (Elt Bits) ℓ) : Prop :=
  True

def Pre_KernelAdamWOutIdeal (m : (ℓ : Loc Cert.KernelAdamWOutIdeal.nD Cert.KernelAdamWOutIdeal.τ Cert.KernelAdamWOutIdeal.sig) → Buf (Elt Ideal) ℓ) : Prop :=
  True

def Pre_ReferenceAdamWOutIdeal (m : (ℓ : Loc Cert.ReferenceAdamWOutIdeal.nD Cert.ReferenceAdamWOutIdeal.τ Cert.ReferenceAdamWOutIdeal.sig) → Buf (Elt Ideal) ℓ) : Prop :=
  True

def Pre_KernelRf (m : (ℓ : Loc Cert.KernelRf.nD Cert.KernelRf.τ Cert.KernelRf.sig) → Buf (Elt Bits) ℓ) : Prop :=
  True

def Pre_KernelRfIdeal (m : (ℓ : Loc Cert.KernelRfIdeal.nD Cert.KernelRfIdeal.τ Cert.KernelRfIdeal.sig) → Buf (Elt Ideal) ℓ) : Prop :=
  True

def Pre_ReferenceRfIdeal (m : (ℓ : Loc Cert.ReferenceRfIdeal.nD Cert.ReferenceRfIdeal.τ Cert.ReferenceRfIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def quiescent_KernelDwr [hKernelDwr : Cert.KernelDwr.Facts] : Prop :=
  ∀ (m : (ℓ : Loc Cert.KernelDwr.nD Cert.KernelDwr.τ Cert.KernelDwr.sig) → Buf (Elt Bits) ℓ) (g : Dev Cert.KernelDwr.nD → PrngReg), Pre_KernelDwr m →
    θ_run (Cert.KernelDwr.defs (F := Bits)) (onTc (τ := Cert.KernelDwr.τ) (Cert.KernelDwr.main (F := Bits))) ⟨m, fun _ => 0, g⟩ (fun r => (∀ c : Dev Cert.KernelDwr.nD,
      r.2.mem ((c.tc : Thread Cert.KernelDwr.nD Cert.KernelDwr.τ).loc Cert.KernelDwr.main_arg0) = m ((c.tc : Thread Cert.KernelDwr.nD Cert.KernelDwr.τ).loc Cert.KernelDwr.main_arg0)
      ∧ r.2.mem ((c.tc : Thread Cert.KernelDwr.nD Cert.KernelDwr.τ).loc Cert.KernelDwr.main_arg1) = m ((c.tc : Thread Cert.KernelDwr.nD Cert.KernelDwr.τ).loc Cert.KernelDwr.main_arg1))
      ∧ r.2.sem = fun _ => 0)

def quiescent_KernelDwrIdeal [hKernelDwrIdeal : Cert.KernelDwrIdeal.Facts] : Prop :=
  ∀ (m : (ℓ : Loc Cert.KernelDwrIdeal.nD Cert.KernelDwrIdeal.τ Cert.KernelDwrIdeal.sig) → Buf (Elt Ideal) ℓ) (g : Dev Cert.KernelDwrIdeal.nD → PrngReg), Pre_KernelDwrIdeal m →
    θ_run (Cert.KernelDwrIdeal.defs (F := Ideal)) (onTc (τ := Cert.KernelDwrIdeal.τ) (Cert.KernelDwrIdeal.main (F := Ideal))) ⟨m, fun _ => 0, g⟩ (fun r => (∀ c : Dev Cert.KernelDwrIdeal.nD,
      r.2.mem ((c.tc : Thread Cert.KernelDwrIdeal.nD Cert.KernelDwrIdeal.τ).loc Cert.KernelDwrIdeal.main_arg0) = m ((c.tc : Thread Cert.KernelDwrIdeal.nD Cert.KernelDwrIdeal.τ).loc Cert.KernelDwrIdeal.main_arg0)
      ∧ r.2.mem ((c.tc : Thread Cert.KernelDwrIdeal.nD Cert.KernelDwrIdeal.τ).loc Cert.KernelDwrIdeal.main_arg1) = m ((c.tc : Thread Cert.KernelDwrIdeal.nD Cert.KernelDwrIdeal.τ).loc Cert.KernelDwrIdeal.main_arg1))
      ∧ r.2.sem = fun _ => 0)

def quiescent_ReferenceDwrIdeal [hReferenceDwrIdeal : Cert.ReferenceDwrIdeal.Facts] : Prop :=
  ∀ (m : (ℓ : Loc Cert.ReferenceDwrIdeal.nD Cert.ReferenceDwrIdeal.τ Cert.ReferenceDwrIdeal.sig) → Buf (Elt Ideal) ℓ) (g : Dev Cert.ReferenceDwrIdeal.nD → PrngReg), Pre_ReferenceDwrIdeal m →
    θ_run (Cert.ReferenceDwrIdeal.defs (F := Ideal)) (onTc (τ := Cert.ReferenceDwrIdeal.τ) (Cert.ReferenceDwrIdeal.main (F := Ideal))) ⟨m, fun _ => 0, g⟩ (fun r => (∀ c : Dev Cert.ReferenceDwrIdeal.nD,
      r.2.mem ((c.tc : Thread Cert.ReferenceDwrIdeal.nD Cert.ReferenceDwrIdeal.τ).loc Cert.ReferenceDwrIdeal.main_arg0) = m ((c.tc : Thread Cert.ReferenceDwrIdeal.nD Cert.ReferenceDwrIdeal.τ).loc Cert.ReferenceDwrIdeal.main_arg0)
      ∧ r.2.mem ((c.tc : Thread Cert.ReferenceDwrIdeal.nD Cert.ReferenceDwrIdeal.τ).loc Cert.ReferenceDwrIdeal.main_arg1) = m ((c.tc : Thread Cert.ReferenceDwrIdeal.nD Cert.ReferenceDwrIdeal.τ).loc Cert.ReferenceDwrIdeal.main_arg1))
      ∧ r.2.sem = fun _ => 0)

def quiescent_KernelDwc [hKernelDwc : Cert.KernelDwc.Facts] : Prop :=
  ∀ (m : (ℓ : Loc Cert.KernelDwc.nD Cert.KernelDwc.τ Cert.KernelDwc.sig) → Buf (Elt Bits) ℓ) (g : Dev Cert.KernelDwc.nD → PrngReg), Pre_KernelDwc m →
    θ_run (Cert.KernelDwc.defs (F := Bits)) (onTc (τ := Cert.KernelDwc.τ) (Cert.KernelDwc.main (F := Bits))) ⟨m, fun _ => 0, g⟩ (fun r => (∀ c : Dev Cert.KernelDwc.nD,
      r.2.mem ((c.tc : Thread Cert.KernelDwc.nD Cert.KernelDwc.τ).loc Cert.KernelDwc.main_arg0) = m ((c.tc : Thread Cert.KernelDwc.nD Cert.KernelDwc.τ).loc Cert.KernelDwc.main_arg0)
      ∧ r.2.mem ((c.tc : Thread Cert.KernelDwc.nD Cert.KernelDwc.τ).loc Cert.KernelDwc.main_arg1) = m ((c.tc : Thread Cert.KernelDwc.nD Cert.KernelDwc.τ).loc Cert.KernelDwc.main_arg1))
      ∧ r.2.sem = fun _ => 0)

def quiescent_KernelDwcIdeal [hKernelDwcIdeal : Cert.KernelDwcIdeal.Facts] : Prop :=
  ∀ (m : (ℓ : Loc Cert.KernelDwcIdeal.nD Cert.KernelDwcIdeal.τ Cert.KernelDwcIdeal.sig) → Buf (Elt Ideal) ℓ) (g : Dev Cert.KernelDwcIdeal.nD → PrngReg), Pre_KernelDwcIdeal m →
    θ_run (Cert.KernelDwcIdeal.defs (F := Ideal)) (onTc (τ := Cert.KernelDwcIdeal.τ) (Cert.KernelDwcIdeal.main (F := Ideal))) ⟨m, fun _ => 0, g⟩ (fun r => (∀ c : Dev Cert.KernelDwcIdeal.nD,
      r.2.mem ((c.tc : Thread Cert.KernelDwcIdeal.nD Cert.KernelDwcIdeal.τ).loc Cert.KernelDwcIdeal.main_arg0) = m ((c.tc : Thread Cert.KernelDwcIdeal.nD Cert.KernelDwcIdeal.τ).loc Cert.KernelDwcIdeal.main_arg0)
      ∧ r.2.mem ((c.tc : Thread Cert.KernelDwcIdeal.nD Cert.KernelDwcIdeal.τ).loc Cert.KernelDwcIdeal.main_arg1) = m ((c.tc : Thread Cert.KernelDwcIdeal.nD Cert.KernelDwcIdeal.τ).loc Cert.KernelDwcIdeal.main_arg1))
      ∧ r.2.sem = fun _ => 0)

def quiescent_ReferenceDwcIdeal [hReferenceDwcIdeal : Cert.ReferenceDwcIdeal.Facts] : Prop :=
  ∀ (m : (ℓ : Loc Cert.ReferenceDwcIdeal.nD Cert.ReferenceDwcIdeal.τ Cert.ReferenceDwcIdeal.sig) → Buf (Elt Ideal) ℓ) (g : Dev Cert.ReferenceDwcIdeal.nD → PrngReg), Pre_ReferenceDwcIdeal m →
    θ_run (Cert.ReferenceDwcIdeal.defs (F := Ideal)) (onTc (τ := Cert.ReferenceDwcIdeal.τ) (Cert.ReferenceDwcIdeal.main (F := Ideal))) ⟨m, fun _ => 0, g⟩ (fun r => (∀ c : Dev Cert.ReferenceDwcIdeal.nD,
      r.2.mem ((c.tc : Thread Cert.ReferenceDwcIdeal.nD Cert.ReferenceDwcIdeal.τ).loc Cert.ReferenceDwcIdeal.main_arg0) = m ((c.tc : Thread Cert.ReferenceDwcIdeal.nD Cert.ReferenceDwcIdeal.τ).loc Cert.ReferenceDwcIdeal.main_arg0)
      ∧ r.2.mem ((c.tc : Thread Cert.ReferenceDwcIdeal.nD Cert.ReferenceDwcIdeal.τ).loc Cert.ReferenceDwcIdeal.main_arg1) = m ((c.tc : Thread Cert.ReferenceDwcIdeal.nD Cert.ReferenceDwcIdeal.τ).loc Cert.ReferenceDwcIdeal.main_arg1))
      ∧ r.2.sem = fun _ => 0)

def quiescent_KernelDwg [hKernelDwg : Cert.KernelDwg.Facts] : Prop :=
  ∀ (m : (ℓ : Loc Cert.KernelDwg.nD Cert.KernelDwg.τ Cert.KernelDwg.sig) → Buf (Elt Bits) ℓ) (g : Dev Cert.KernelDwg.nD → PrngReg), Pre_KernelDwg m →
    θ_run (Cert.KernelDwg.defs (F := Bits)) (onTc (τ := Cert.KernelDwg.τ) (Cert.KernelDwg.main (F := Bits))) ⟨m, fun _ => 0, g⟩ (fun r => (∀ c : Dev Cert.KernelDwg.nD,
      r.2.mem ((c.tc : Thread Cert.KernelDwg.nD Cert.KernelDwg.τ).loc Cert.KernelDwg.main_arg0) = m ((c.tc : Thread Cert.KernelDwg.nD Cert.KernelDwg.τ).loc Cert.KernelDwg.main_arg0)
      ∧ r.2.mem ((c.tc : Thread Cert.KernelDwg.nD Cert.KernelDwg.τ).loc Cert.KernelDwg.main_arg1) = m ((c.tc : Thread Cert.KernelDwg.nD Cert.KernelDwg.τ).loc Cert.KernelDwg.main_arg1))
      ∧ r.2.sem = fun _ => 0)

def quiescent_KernelDwgIdeal [hKernelDwgIdeal : Cert.KernelDwgIdeal.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg), Pre_KernelDwgIdeal m →
    θ_run (Cert.KernelDwgIdeal.defs (F := Ideal)) (onTc (τ := Cert.KernelDwgIdeal.τ) (Cert.KernelDwgIdeal.main (F := Ideal))) ⟨m, fun _ => 0, g⟩ (fun r => (∀ c : Dev Cert.KernelDwgIdeal.nD,
      r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
      ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ r.2.sem = fun _ => 0)

def quiescent_ReferenceDwgIdeal [hReferenceDwgIdeal : Cert.ReferenceDwgIdeal.Facts] : Prop :=
  ∀ (m : (ℓ : Loc Cert.ReferenceDwgIdeal.nD Cert.ReferenceDwgIdeal.τ Cert.ReferenceDwgIdeal.sig) → Buf (Elt Ideal) ℓ) (g : Dev Cert.ReferenceDwgIdeal.nD → PrngReg), Pre_ReferenceDwgIdeal m →
    θ_run (Cert.ReferenceDwgIdeal.defs (F := Ideal)) (onTc (τ := Cert.ReferenceDwgIdeal.τ) (Cert.ReferenceDwgIdeal.main (F := Ideal))) ⟨m, fun _ => 0, g⟩ (fun r => (∀ c : Dev Cert.ReferenceDwgIdeal.nD,
      r.2.mem ((c.tc : Thread Cert.ReferenceDwgIdeal.nD Cert.ReferenceDwgIdeal.τ).loc Cert.ReferenceDwgIdeal.main_arg0) = m ((c.tc : Thread Cert.ReferenceDwgIdeal.nD Cert.ReferenceDwgIdeal.τ).loc Cert.ReferenceDwgIdeal.main_arg0)
      ∧ r.2.mem ((c.tc : Thread Cert.ReferenceDwgIdeal.nD Cert.ReferenceDwgIdeal.τ).loc Cert.ReferenceDwgIdeal.main_arg1) = m ((c.tc : Thread Cert.ReferenceDwgIdeal.nD Cert.ReferenceDwgIdeal.τ).loc Cert.ReferenceDwgIdeal.main_arg1))
      ∧ r.2.sem = fun _ => 0)

def quiescent_KernelDwRetOut [hKernelDwRetOut : Cert.KernelDwRetOut.Facts] : Prop :=
  ∀ (m : (ℓ : Loc Cert.KernelDwRetOut.nD Cert.KernelDwRetOut.τ Cert.KernelDwRetOut.sig) → Buf (Elt Bits) ℓ) (g : Dev Cert.KernelDwRetOut.nD → PrngReg), Pre_KernelDwRetOut m →
    θ_run (Cert.KernelDwRetOut.defs (F := Bits)) (onTc (τ := Cert.KernelDwRetOut.τ) (Cert.KernelDwRetOut.main (F := Bits))) ⟨m, fun _ => 0, g⟩ (fun r => (∀ c : Dev Cert.KernelDwRetOut.nD,
      r.2.mem ((c.tc : Thread Cert.KernelDwRetOut.nD Cert.KernelDwRetOut.τ).loc Cert.KernelDwRetOut.main_arg0) = m ((c.tc : Thread Cert.KernelDwRetOut.nD Cert.KernelDwRetOut.τ).loc Cert.KernelDwRetOut.main_arg0)
      ∧ r.2.mem ((c.tc : Thread Cert.KernelDwRetOut.nD Cert.KernelDwRetOut.τ).loc Cert.KernelDwRetOut.main_arg1) = m ((c.tc : Thread Cert.KernelDwRetOut.nD Cert.KernelDwRetOut.τ).loc Cert.KernelDwRetOut.main_arg1))
      ∧ r.2.sem = fun _ => 0)

def quiescent_KernelDwRetOutIdeal [hKernelDwRetOutIdeal : Cert.KernelDwRetOutIdeal.Facts] : Prop :=
  ∀ (m : (ℓ : Loc Cert.KernelDwRetOutIdeal.nD Cert.KernelDwRetOutIdeal.τ Cert.KernelDwRetOutIdeal.sig) → Buf (Elt Ideal) ℓ) (g : Dev Cert.KernelDwRetOutIdeal.nD → PrngReg), Pre_KernelDwRetOutIdeal m →
    θ_run (Cert.KernelDwRetOutIdeal.defs (F := Ideal)) (onTc (τ := Cert.KernelDwRetOutIdeal.τ) (Cert.KernelDwRetOutIdeal.main (F := Ideal))) ⟨m, fun _ => 0, g⟩ (fun r => (∀ c : Dev Cert.KernelDwRetOutIdeal.nD,
      r.2.mem ((c.tc : Thread Cert.KernelDwRetOutIdeal.nD Cert.KernelDwRetOutIdeal.τ).loc Cert.KernelDwRetOutIdeal.main_arg0) = m ((c.tc : Thread Cert.KernelDwRetOutIdeal.nD Cert.KernelDwRetOutIdeal.τ).loc Cert.KernelDwRetOutIdeal.main_arg0)
      ∧ r.2.mem ((c.tc : Thread Cert.KernelDwRetOutIdeal.nD Cert.KernelDwRetOutIdeal.τ).loc Cert.KernelDwRetOutIdeal.main_arg1) = m ((c.tc : Thread Cert.KernelDwRetOutIdeal.nD Cert.KernelDwRetOutIdeal.τ).loc Cert.KernelDwRetOutIdeal.main_arg1))
      ∧ r.2.sem = fun _ => 0)

def quiescent_ReferenceDwRetOutIdeal [hReferenceDwRetOutIdeal : Cert.ReferenceDwRetOutIdeal.Facts] : Prop :=
  ∀ (m : (ℓ : Loc Cert.ReferenceDwRetOutIdeal.nD Cert.ReferenceDwRetOutIdeal.τ Cert.ReferenceDwRetOutIdeal.sig) → Buf (Elt Ideal) ℓ) (g : Dev Cert.ReferenceDwRetOutIdeal.nD → PrngReg), Pre_ReferenceDwRetOutIdeal m →
    θ_run (Cert.ReferenceDwRetOutIdeal.defs (F := Ideal)) (onTc (τ := Cert.ReferenceDwRetOutIdeal.τ) (Cert.ReferenceDwRetOutIdeal.main (F := Ideal))) ⟨m, fun _ => 0, g⟩ (fun r => (∀ c : Dev Cert.ReferenceDwRetOutIdeal.nD,
      r.2.mem ((c.tc : Thread Cert.ReferenceDwRetOutIdeal.nD Cert.ReferenceDwRetOutIdeal.τ).loc Cert.ReferenceDwRetOutIdeal.main_arg0) = m ((c.tc : Thread Cert.ReferenceDwRetOutIdeal.nD Cert.ReferenceDwRetOutIdeal.τ).loc Cert.ReferenceDwRetOutIdeal.main_arg0)
      ∧ r.2.mem ((c.tc : Thread Cert.ReferenceDwRetOutIdeal.nD Cert.ReferenceDwRetOutIdeal.τ).loc Cert.ReferenceDwRetOutIdeal.main_arg1) = m ((c.tc : Thread Cert.ReferenceDwRetOutIdeal.nD Cert.ReferenceDwRetOutIdeal.τ).loc Cert.ReferenceDwRetOutIdeal.main_arg1))
      ∧ r.2.sem = fun _ => 0)

def quiescent_KernelDwConvOut [hKernelDwConvOut : Cert.KernelDwConvOut.Facts] : Prop :=
  ∀ (m : (ℓ : Loc Cert.KernelDwConvOut.nD Cert.KernelDwConvOut.τ Cert.KernelDwConvOut.sig) → Buf (Elt Bits) ℓ) (g : Dev Cert.KernelDwConvOut.nD → PrngReg), Pre_KernelDwConvOut m →
    θ_run (Cert.KernelDwConvOut.defs (F := Bits)) (onTc (τ := Cert.KernelDwConvOut.τ) (Cert.KernelDwConvOut.main (F := Bits))) ⟨m, fun _ => 0, g⟩ (fun r => (∀ c : Dev Cert.KernelDwConvOut.nD,
      r.2.mem ((c.tc : Thread Cert.KernelDwConvOut.nD Cert.KernelDwConvOut.τ).loc Cert.KernelDwConvOut.main_arg0) = m ((c.tc : Thread Cert.KernelDwConvOut.nD Cert.KernelDwConvOut.τ).loc Cert.KernelDwConvOut.main_arg0)
      ∧ r.2.mem ((c.tc : Thread Cert.KernelDwConvOut.nD Cert.KernelDwConvOut.τ).loc Cert.KernelDwConvOut.main_arg1) = m ((c.tc : Thread Cert.KernelDwConvOut.nD Cert.KernelDwConvOut.τ).loc Cert.KernelDwConvOut.main_arg1))
      ∧ r.2.sem = fun _ => 0)

def quiescent_KernelDwConvOutIdeal [hKernelDwConvOutIdeal : Cert.KernelDwConvOutIdeal.Facts] : Prop :=
  ∀ (m : (ℓ : Loc Cert.KernelDwConvOutIdeal.nD Cert.KernelDwConvOutIdeal.τ Cert.KernelDwConvOutIdeal.sig) → Buf (Elt Ideal) ℓ) (g : Dev Cert.KernelDwConvOutIdeal.nD → PrngReg), Pre_KernelDwConvOutIdeal m →
    θ_run (Cert.KernelDwConvOutIdeal.defs (F := Ideal)) (onTc (τ := Cert.KernelDwConvOutIdeal.τ) (Cert.KernelDwConvOutIdeal.main (F := Ideal))) ⟨m, fun _ => 0, g⟩ (fun r => (∀ c : Dev Cert.KernelDwConvOutIdeal.nD,
      r.2.mem ((c.tc : Thread Cert.KernelDwConvOutIdeal.nD Cert.KernelDwConvOutIdeal.τ).loc Cert.KernelDwConvOutIdeal.main_arg0) = m ((c.tc : Thread Cert.KernelDwConvOutIdeal.nD Cert.KernelDwConvOutIdeal.τ).loc Cert.KernelDwConvOutIdeal.main_arg0)
      ∧ r.2.mem ((c.tc : Thread Cert.KernelDwConvOutIdeal.nD Cert.KernelDwConvOutIdeal.τ).loc Cert.KernelDwConvOutIdeal.main_arg1) = m ((c.tc : Thread Cert.KernelDwConvOutIdeal.nD Cert.KernelDwConvOutIdeal.τ).loc Cert.KernelDwConvOutIdeal.main_arg1))
      ∧ r.2.sem = fun _ => 0)

def quiescent_ReferenceDwConvOutIdeal [hReferenceDwConvOutIdeal : Cert.ReferenceDwConvOutIdeal.Facts] : Prop :=
  ∀ (m : (ℓ : Loc Cert.ReferenceDwConvOutIdeal.nD Cert.ReferenceDwConvOutIdeal.τ Cert.ReferenceDwConvOutIdeal.sig) → Buf (Elt Ideal) ℓ) (g : Dev Cert.ReferenceDwConvOutIdeal.nD → PrngReg), Pre_ReferenceDwConvOutIdeal m →
    θ_run (Cert.ReferenceDwConvOutIdeal.defs (F := Ideal)) (onTc (τ := Cert.ReferenceDwConvOutIdeal.τ) (Cert.ReferenceDwConvOutIdeal.main (F := Ideal))) ⟨m, fun _ => 0, g⟩ (fun r => (∀ c : Dev Cert.ReferenceDwConvOutIdeal.nD,
      r.2.mem ((c.tc : Thread Cert.ReferenceDwConvOutIdeal.nD Cert.ReferenceDwConvOutIdeal.τ).loc Cert.ReferenceDwConvOutIdeal.main_arg0) = m ((c.tc : Thread Cert.ReferenceDwConvOutIdeal.nD Cert.ReferenceDwConvOutIdeal.τ).loc Cert.ReferenceDwConvOutIdeal.main_arg0)
      ∧ r.2.mem ((c.tc : Thread Cert.ReferenceDwConvOutIdeal.nD Cert.ReferenceDwConvOutIdeal.τ).loc Cert.ReferenceDwConvOutIdeal.main_arg1) = m ((c.tc : Thread Cert.ReferenceDwConvOutIdeal.nD Cert.ReferenceDwConvOutIdeal.τ).loc Cert.ReferenceDwConvOutIdeal.main_arg1))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4)
      ∧ r.2.mem ((c.tc : Thread Cert.KernelDh.nD Cert.KernelDh.τ).loc Cert.KernelDh.main_arg5) = m ((c.tc : Thread Cert.KernelDh.nD Cert.KernelDh.τ).loc Cert.KernelDh.main_arg5)
      ∧ r.2.mem ((c.tc : Thread Cert.KernelDh.nD Cert.KernelDh.τ).loc Cert.KernelDh.main_arg6) = m ((c.tc : Thread Cert.KernelDh.nD Cert.KernelDh.τ).loc Cert.KernelDh.main_arg6)
      ∧ r.2.mem ((c.tc : Thread Cert.KernelDh.nD Cert.KernelDh.τ).loc Cert.KernelDh.main_arg7) = m ((c.tc : Thread Cert.KernelDh.nD Cert.KernelDh.τ).loc Cert.KernelDh.main_arg7))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
      ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
      ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6)
      ∧ r.2.mem ((c.tc : Thread Cert.KernelDhIdeal.nD Cert.KernelDhIdeal.τ).loc Cert.KernelDhIdeal.main_arg7) = m ((c.tc : Thread Cert.KernelDhIdeal.nD Cert.KernelDhIdeal.τ).loc Cert.KernelDhIdeal.main_arg7))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4)
      ∧ r.2.mem ((c.tc : Thread Cert.ReferenceDhIdeal.nD Cert.ReferenceDhIdeal.τ).loc Cert.ReferenceDhIdeal.main_arg5) = m ((c.tc : Thread Cert.ReferenceDhIdeal.nD Cert.ReferenceDhIdeal.τ).loc Cert.ReferenceDhIdeal.main_arg5)
      ∧ r.2.mem ((c.tc : Thread Cert.ReferenceDhIdeal.nD Cert.ReferenceDhIdeal.τ).loc Cert.ReferenceDhIdeal.main_arg6) = m ((c.tc : Thread Cert.ReferenceDhIdeal.nD Cert.ReferenceDhIdeal.τ).loc Cert.ReferenceDhIdeal.main_arg6)
      ∧ r.2.mem ((c.tc : Thread Cert.ReferenceDhIdeal.nD Cert.ReferenceDhIdeal.τ).loc Cert.ReferenceDhIdeal.main_arg7) = m ((c.tc : Thread Cert.ReferenceDhIdeal.nD Cert.ReferenceDhIdeal.τ).loc Cert.ReferenceDhIdeal.main_arg7))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3)
      ∧ r.2.mem ((c.tc : Thread Cert.KernelHead.nD Cert.KernelHead.τ).loc Cert.KernelHead.main_arg4) = m ((c.tc : Thread Cert.KernelHead.nD Cert.KernelHead.τ).loc Cert.KernelHead.main_arg4)
      ∧ r.2.mem ((c.tc : Thread Cert.KernelHead.nD Cert.KernelHead.τ).loc Cert.KernelHead.main_arg5) = m ((c.tc : Thread Cert.KernelHead.nD Cert.KernelHead.τ).loc Cert.KernelHead.main_arg5)
      ∧ r.2.mem ((c.tc : Thread Cert.KernelHead.nD Cert.KernelHead.τ).loc Cert.KernelHead.main_arg6) = m ((c.tc : Thread Cert.KernelHead.nD Cert.KernelHead.τ).loc Cert.KernelHead.main_arg6)
      ∧ r.2.mem ((c.tc : Thread Cert.KernelHead.nD Cert.KernelHead.τ).loc Cert.KernelHead.main_arg7) = m ((c.tc : Thread Cert.KernelHead.nD Cert.KernelHead.τ).loc Cert.KernelHead.main_arg7)
      ∧ r.2.mem ((c.tc : Thread Cert.KernelHead.nD Cert.KernelHead.τ).loc Cert.KernelHead.main_arg8) = m ((c.tc : Thread Cert.KernelHead.nD Cert.KernelHead.τ).loc Cert.KernelHead.main_arg8)
      ∧ r.2.mem ((c.tc : Thread Cert.KernelHead.nD Cert.KernelHead.τ).loc Cert.KernelHead.main_arg9) = m ((c.tc : Thread Cert.KernelHead.nD Cert.KernelHead.τ).loc Cert.KernelHead.main_arg9))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
      ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
      ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5)
      ∧ r.2.mem ((c.tc : Thread Cert.KernelHeadIdeal.nD Cert.KernelHeadIdeal.τ).loc Cert.KernelHeadIdeal.main_arg6) = m ((c.tc : Thread Cert.KernelHeadIdeal.nD Cert.KernelHeadIdeal.τ).loc Cert.KernelHeadIdeal.main_arg6)
      ∧ r.2.mem ((c.tc : Thread Cert.KernelHeadIdeal.nD Cert.KernelHeadIdeal.τ).loc Cert.KernelHeadIdeal.main_arg7) = m ((c.tc : Thread Cert.KernelHeadIdeal.nD Cert.KernelHeadIdeal.τ).loc Cert.KernelHeadIdeal.main_arg7)
      ∧ r.2.mem ((c.tc : Thread Cert.KernelHeadIdeal.nD Cert.KernelHeadIdeal.τ).loc Cert.KernelHeadIdeal.main_arg8) = m ((c.tc : Thread Cert.KernelHeadIdeal.nD Cert.KernelHeadIdeal.τ).loc Cert.KernelHeadIdeal.main_arg8)
      ∧ r.2.mem ((c.tc : Thread Cert.KernelHeadIdeal.nD Cert.KernelHeadIdeal.τ).loc Cert.KernelHeadIdeal.main_arg9) = m ((c.tc : Thread Cert.KernelHeadIdeal.nD Cert.KernelHeadIdeal.τ).loc Cert.KernelHeadIdeal.main_arg9))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3)
      ∧ r.2.mem ((c.tc : Thread Cert.ReferenceHeadIdeal.nD Cert.ReferenceHeadIdeal.τ).loc Cert.ReferenceHeadIdeal.main_arg4) = m ((c.tc : Thread Cert.ReferenceHeadIdeal.nD Cert.ReferenceHeadIdeal.τ).loc Cert.ReferenceHeadIdeal.main_arg4)
      ∧ r.2.mem ((c.tc : Thread Cert.ReferenceHeadIdeal.nD Cert.ReferenceHeadIdeal.τ).loc Cert.ReferenceHeadIdeal.main_arg5) = m ((c.tc : Thread Cert.ReferenceHeadIdeal.nD Cert.ReferenceHeadIdeal.τ).loc Cert.ReferenceHeadIdeal.main_arg5)
      ∧ r.2.mem ((c.tc : Thread Cert.ReferenceHeadIdeal.nD Cert.ReferenceHeadIdeal.τ).loc Cert.ReferenceHeadIdeal.main_arg6) = m ((c.tc : Thread Cert.ReferenceHeadIdeal.nD Cert.ReferenceHeadIdeal.τ).loc Cert.ReferenceHeadIdeal.main_arg6)
      ∧ r.2.mem ((c.tc : Thread Cert.ReferenceHeadIdeal.nD Cert.ReferenceHeadIdeal.τ).loc Cert.ReferenceHeadIdeal.main_arg7) = m ((c.tc : Thread Cert.ReferenceHeadIdeal.nD Cert.ReferenceHeadIdeal.τ).loc Cert.ReferenceHeadIdeal.main_arg7)
      ∧ r.2.mem ((c.tc : Thread Cert.ReferenceHeadIdeal.nD Cert.ReferenceHeadIdeal.τ).loc Cert.ReferenceHeadIdeal.main_arg8) = m ((c.tc : Thread Cert.ReferenceHeadIdeal.nD Cert.ReferenceHeadIdeal.τ).loc Cert.ReferenceHeadIdeal.main_arg8)
      ∧ r.2.mem ((c.tc : Thread Cert.ReferenceHeadIdeal.nD Cert.ReferenceHeadIdeal.τ).loc Cert.ReferenceHeadIdeal.main_arg9) = m ((c.tc : Thread Cert.ReferenceHeadIdeal.nD Cert.ReferenceHeadIdeal.τ).loc Cert.ReferenceHeadIdeal.main_arg9))
      ∧ r.2.sem = fun _ => 0)

def quiescent_KernelSumSmall [hKernelSumSmall : Cert.KernelSumSmall.Facts] : Prop :=
  ∀ (m : (ℓ : Loc Cert.KernelSumSmall.nD Cert.KernelSumSmall.τ Cert.KernelSumSmall.sig) → Buf (Elt Bits) ℓ) (g : Dev Cert.KernelSumSmall.nD → PrngReg), Pre_KernelSumSmall m →
    θ_run (Cert.KernelSumSmall.defs (F := Bits)) (onTc (τ := Cert.KernelSumSmall.τ) (Cert.KernelSumSmall.main (F := Bits))) ⟨m, fun _ => 0, g⟩ (fun r => (∀ c : Dev Cert.KernelSumSmall.nD,
      r.2.mem ((c.tc : Thread Cert.KernelSumSmall.nD Cert.KernelSumSmall.τ).loc Cert.KernelSumSmall.main_arg0) = m ((c.tc : Thread Cert.KernelSumSmall.nD Cert.KernelSumSmall.τ).loc Cert.KernelSumSmall.main_arg0))
      ∧ r.2.sem = fun _ => 0)

def quiescent_KernelSumSmallIdeal [hKernelSumSmallIdeal : Cert.KernelSumSmallIdeal.Facts] : Prop :=
  ∀ (m : (ℓ : Loc Cert.KernelSumSmallIdeal.nD Cert.KernelSumSmallIdeal.τ Cert.KernelSumSmallIdeal.sig) → Buf (Elt Ideal) ℓ) (g : Dev Cert.KernelSumSmallIdeal.nD → PrngReg), Pre_KernelSumSmallIdeal m →
    θ_run (Cert.KernelSumSmallIdeal.defs (F := Ideal)) (onTc (τ := Cert.KernelSumSmallIdeal.τ) (Cert.KernelSumSmallIdeal.main (F := Ideal))) ⟨m, fun _ => 0, g⟩ (fun r => (∀ c : Dev Cert.KernelSumSmallIdeal.nD,
      r.2.mem ((c.tc : Thread Cert.KernelSumSmallIdeal.nD Cert.KernelSumSmallIdeal.τ).loc Cert.KernelSumSmallIdeal.main_arg0) = m ((c.tc : Thread Cert.KernelSumSmallIdeal.nD Cert.KernelSumSmallIdeal.τ).loc Cert.KernelSumSmallIdeal.main_arg0))
      ∧ r.2.sem = fun _ => 0)

def quiescent_ReferenceSumSmallIdeal [hReferenceSumSmallIdeal : Cert.ReferenceSumSmallIdeal.Facts] : Prop :=
  ∀ (m : (ℓ : Loc Cert.ReferenceSumSmallIdeal.nD Cert.ReferenceSumSmallIdeal.τ Cert.ReferenceSumSmallIdeal.sig) → Buf (Elt Ideal) ℓ) (g : Dev Cert.ReferenceSumSmallIdeal.nD → PrngReg), Pre_ReferenceSumSmallIdeal m →
    θ_run (Cert.ReferenceSumSmallIdeal.defs (F := Ideal)) (onTc (τ := Cert.ReferenceSumSmallIdeal.τ) (Cert.ReferenceSumSmallIdeal.main (F := Ideal))) ⟨m, fun _ => 0, g⟩ (fun r => (∀ c : Dev Cert.ReferenceSumSmallIdeal.nD,
      r.2.mem ((c.tc : Thread Cert.ReferenceSumSmallIdeal.nD Cert.ReferenceSumSmallIdeal.τ).loc Cert.ReferenceSumSmallIdeal.main_arg0) = m ((c.tc : Thread Cert.ReferenceSumSmallIdeal.nD Cert.ReferenceSumSmallIdeal.τ).loc Cert.ReferenceSumSmallIdeal.main_arg0))
      ∧ r.2.sem = fun _ => 0)

def quiescent_KernelSumConvW [hKernelSumConvW : Cert.KernelSumConvW.Facts] : Prop :=
  ∀ (m : (ℓ : Loc Cert.KernelSumConvW.nD Cert.KernelSumConvW.τ Cert.KernelSumConvW.sig) → Buf (Elt Bits) ℓ) (g : Dev Cert.KernelSumConvW.nD → PrngReg), Pre_KernelSumConvW m →
    θ_run (Cert.KernelSumConvW.defs (F := Bits)) (onTc (τ := Cert.KernelSumConvW.τ) (Cert.KernelSumConvW.main (F := Bits))) ⟨m, fun _ => 0, g⟩ (fun r => (∀ c : Dev Cert.KernelSumConvW.nD,
      r.2.mem ((c.tc : Thread Cert.KernelSumConvW.nD Cert.KernelSumConvW.τ).loc Cert.KernelSumConvW.main_arg0) = m ((c.tc : Thread Cert.KernelSumConvW.nD Cert.KernelSumConvW.τ).loc Cert.KernelSumConvW.main_arg0))
      ∧ r.2.sem = fun _ => 0)

def quiescent_KernelSumConvWIdeal [hKernelSumConvWIdeal : Cert.KernelSumConvWIdeal.Facts] : Prop :=
  ∀ (m : (ℓ : Loc Cert.KernelSumConvWIdeal.nD Cert.KernelSumConvWIdeal.τ Cert.KernelSumConvWIdeal.sig) → Buf (Elt Ideal) ℓ) (g : Dev Cert.KernelSumConvWIdeal.nD → PrngReg), Pre_KernelSumConvWIdeal m →
    θ_run (Cert.KernelSumConvWIdeal.defs (F := Ideal)) (onTc (τ := Cert.KernelSumConvWIdeal.τ) (Cert.KernelSumConvWIdeal.main (F := Ideal))) ⟨m, fun _ => 0, g⟩ (fun r => (∀ c : Dev Cert.KernelSumConvWIdeal.nD,
      r.2.mem ((c.tc : Thread Cert.KernelSumConvWIdeal.nD Cert.KernelSumConvWIdeal.τ).loc Cert.KernelSumConvWIdeal.main_arg0) = m ((c.tc : Thread Cert.KernelSumConvWIdeal.nD Cert.KernelSumConvWIdeal.τ).loc Cert.KernelSumConvWIdeal.main_arg0))
      ∧ r.2.sem = fun _ => 0)

def quiescent_ReferenceSumConvWIdeal [hReferenceSumConvWIdeal : Cert.ReferenceSumConvWIdeal.Facts] : Prop :=
  ∀ (m : (ℓ : Loc Cert.ReferenceSumConvWIdeal.nD Cert.ReferenceSumConvWIdeal.τ Cert.ReferenceSumConvWIdeal.sig) → Buf (Elt Ideal) ℓ) (g : Dev Cert.ReferenceSumConvWIdeal.nD → PrngReg), Pre_ReferenceSumConvWIdeal m →
    θ_run (Cert.ReferenceSumConvWIdeal.defs (F := Ideal)) (onTc (τ := Cert.ReferenceSumConvWIdeal.τ) (Cert.ReferenceSumConvWIdeal.main (F := Ideal))) ⟨m, fun _ => 0, g⟩ (fun r => (∀ c : Dev Cert.ReferenceSumConvWIdeal.nD,
      r.2.mem ((c.tc : Thread Cert.ReferenceSumConvWIdeal.nD Cert.ReferenceSumConvWIdeal.τ).loc Cert.ReferenceSumConvWIdeal.main_arg0) = m ((c.tc : Thread Cert.ReferenceSumConvWIdeal.nD Cert.ReferenceSumConvWIdeal.τ).loc Cert.ReferenceSumConvWIdeal.main_arg0))
      ∧ r.2.sem = fun _ => 0)

def quiescent_KernelGradWAda [hKernelGradWAda : Cert.KernelGradWAda.Facts] : Prop :=
  ∀ (m : (ℓ : Loc Cert.KernelGradWAda.nD Cert.KernelGradWAda.τ Cert.KernelGradWAda.sig) → Buf (Elt Bits) ℓ) (g : Dev Cert.KernelGradWAda.nD → PrngReg), Pre_KernelGradWAda m →
    θ_run (Cert.KernelGradWAda.defs (F := Bits)) (onTc (τ := Cert.KernelGradWAda.τ) (Cert.KernelGradWAda.main (F := Bits))) ⟨m, fun _ => 0, g⟩ (fun r => (∀ c : Dev Cert.KernelGradWAda.nD,
      r.2.mem ((c.tc : Thread Cert.KernelGradWAda.nD Cert.KernelGradWAda.τ).loc Cert.KernelGradWAda.main_arg0) = m ((c.tc : Thread Cert.KernelGradWAda.nD Cert.KernelGradWAda.τ).loc Cert.KernelGradWAda.main_arg0)
      ∧ r.2.mem ((c.tc : Thread Cert.KernelGradWAda.nD Cert.KernelGradWAda.τ).loc Cert.KernelGradWAda.main_arg1) = m ((c.tc : Thread Cert.KernelGradWAda.nD Cert.KernelGradWAda.τ).loc Cert.KernelGradWAda.main_arg1))
      ∧ r.2.sem = fun _ => 0)

def quiescent_KernelGradWAdaIdeal [hKernelGradWAdaIdeal : Cert.KernelGradWAdaIdeal.Facts] : Prop :=
  ∀ (m : (ℓ : Loc Cert.KernelGradWAdaIdeal.nD Cert.KernelGradWAdaIdeal.τ Cert.KernelGradWAdaIdeal.sig) → Buf (Elt Ideal) ℓ) (g : Dev Cert.KernelGradWAdaIdeal.nD → PrngReg), Pre_KernelGradWAdaIdeal m →
    θ_run (Cert.KernelGradWAdaIdeal.defs (F := Ideal)) (onTc (τ := Cert.KernelGradWAdaIdeal.τ) (Cert.KernelGradWAdaIdeal.main (F := Ideal))) ⟨m, fun _ => 0, g⟩ (fun r => (∀ c : Dev Cert.KernelGradWAdaIdeal.nD,
      r.2.mem ((c.tc : Thread Cert.KernelGradWAdaIdeal.nD Cert.KernelGradWAdaIdeal.τ).loc Cert.KernelGradWAdaIdeal.main_arg0) = m ((c.tc : Thread Cert.KernelGradWAdaIdeal.nD Cert.KernelGradWAdaIdeal.τ).loc Cert.KernelGradWAdaIdeal.main_arg0)
      ∧ r.2.mem ((c.tc : Thread Cert.KernelGradWAdaIdeal.nD Cert.KernelGradWAdaIdeal.τ).loc Cert.KernelGradWAdaIdeal.main_arg1) = m ((c.tc : Thread Cert.KernelGradWAdaIdeal.nD Cert.KernelGradWAdaIdeal.τ).loc Cert.KernelGradWAdaIdeal.main_arg1))
      ∧ r.2.sem = fun _ => 0)

def quiescent_ReferenceGradWAdaIdeal [hReferenceGradWAdaIdeal : Cert.ReferenceGradWAdaIdeal.Facts] : Prop :=
  ∀ (m : (ℓ : Loc Cert.ReferenceGradWAdaIdeal.nD Cert.ReferenceGradWAdaIdeal.τ Cert.ReferenceGradWAdaIdeal.sig) → Buf (Elt Ideal) ℓ) (g : Dev Cert.ReferenceGradWAdaIdeal.nD → PrngReg), Pre_ReferenceGradWAdaIdeal m →
    θ_run (Cert.ReferenceGradWAdaIdeal.defs (F := Ideal)) (onTc (τ := Cert.ReferenceGradWAdaIdeal.τ) (Cert.ReferenceGradWAdaIdeal.main (F := Ideal))) ⟨m, fun _ => 0, g⟩ (fun r => (∀ c : Dev Cert.ReferenceGradWAdaIdeal.nD,
      r.2.mem ((c.tc : Thread Cert.ReferenceGradWAdaIdeal.nD Cert.ReferenceGradWAdaIdeal.τ).loc Cert.ReferenceGradWAdaIdeal.main_arg0) = m ((c.tc : Thread Cert.ReferenceGradWAdaIdeal.nD Cert.ReferenceGradWAdaIdeal.τ).loc Cert.ReferenceGradWAdaIdeal.main_arg0)
      ∧ r.2.mem ((c.tc : Thread Cert.ReferenceGradWAdaIdeal.nD Cert.ReferenceGradWAdaIdeal.τ).loc Cert.ReferenceGradWAdaIdeal.main_arg1) = m ((c.tc : Thread Cert.ReferenceGradWAdaIdeal.nD Cert.ReferenceGradWAdaIdeal.τ).loc Cert.ReferenceGradWAdaIdeal.main_arg1))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelAdamConvW [hKernelAdamConvW : Cert.KernelAdamConvW.Facts] : Prop :=
  ∀ (m : (ℓ : Loc Cert.KernelAdamConvW.nD Cert.KernelAdamConvW.τ Cert.KernelAdamConvW.sig) → Buf (Elt Bits) ℓ) (g : Dev Cert.KernelAdamConvW.nD → PrngReg), Pre_KernelAdamConvW m →
    θ_run (Cert.KernelAdamConvW.defs (F := Bits)) (onTc (τ := Cert.KernelAdamConvW.τ) (Cert.KernelAdamConvW.main (F := Bits))) ⟨m, fun _ => 0, g⟩ (fun r => (∀ c : Dev Cert.KernelAdamConvW.nD,
      r.2.mem ((c.tc : Thread Cert.KernelAdamConvW.nD Cert.KernelAdamConvW.τ).loc Cert.KernelAdamConvW.main_arg0) = m ((c.tc : Thread Cert.KernelAdamConvW.nD Cert.KernelAdamConvW.τ).loc Cert.KernelAdamConvW.main_arg0)
      ∧ r.2.mem ((c.tc : Thread Cert.KernelAdamConvW.nD Cert.KernelAdamConvW.τ).loc Cert.KernelAdamConvW.main_arg1) = m ((c.tc : Thread Cert.KernelAdamConvW.nD Cert.KernelAdamConvW.τ).loc Cert.KernelAdamConvW.main_arg1)
      ∧ r.2.mem ((c.tc : Thread Cert.KernelAdamConvW.nD Cert.KernelAdamConvW.τ).loc Cert.KernelAdamConvW.main_arg2) = m ((c.tc : Thread Cert.KernelAdamConvW.nD Cert.KernelAdamConvW.τ).loc Cert.KernelAdamConvW.main_arg2)
      ∧ r.2.mem ((c.tc : Thread Cert.KernelAdamConvW.nD Cert.KernelAdamConvW.τ).loc Cert.KernelAdamConvW.main_arg3) = m ((c.tc : Thread Cert.KernelAdamConvW.nD Cert.KernelAdamConvW.τ).loc Cert.KernelAdamConvW.main_arg3))
      ∧ r.2.sem = fun _ => 0)

def quiescent_KernelAdamConvWIdeal [hKernelAdamConvWIdeal : Cert.KernelAdamConvWIdeal.Facts] : Prop :=
  ∀ (m : (ℓ : Loc Cert.KernelAdamConvWIdeal.nD Cert.KernelAdamConvWIdeal.τ Cert.KernelAdamConvWIdeal.sig) → Buf (Elt Ideal) ℓ) (g : Dev Cert.KernelAdamConvWIdeal.nD → PrngReg), Pre_KernelAdamConvWIdeal m →
    θ_run (Cert.KernelAdamConvWIdeal.defs (F := Ideal)) (onTc (τ := Cert.KernelAdamConvWIdeal.τ) (Cert.KernelAdamConvWIdeal.main (F := Ideal))) ⟨m, fun _ => 0, g⟩ (fun r => (∀ c : Dev Cert.KernelAdamConvWIdeal.nD,
      r.2.mem ((c.tc : Thread Cert.KernelAdamConvWIdeal.nD Cert.KernelAdamConvWIdeal.τ).loc Cert.KernelAdamConvWIdeal.main_arg0) = m ((c.tc : Thread Cert.KernelAdamConvWIdeal.nD Cert.KernelAdamConvWIdeal.τ).loc Cert.KernelAdamConvWIdeal.main_arg0)
      ∧ r.2.mem ((c.tc : Thread Cert.KernelAdamConvWIdeal.nD Cert.KernelAdamConvWIdeal.τ).loc Cert.KernelAdamConvWIdeal.main_arg1) = m ((c.tc : Thread Cert.KernelAdamConvWIdeal.nD Cert.KernelAdamConvWIdeal.τ).loc Cert.KernelAdamConvWIdeal.main_arg1)
      ∧ r.2.mem ((c.tc : Thread Cert.KernelAdamConvWIdeal.nD Cert.KernelAdamConvWIdeal.τ).loc Cert.KernelAdamConvWIdeal.main_arg2) = m ((c.tc : Thread Cert.KernelAdamConvWIdeal.nD Cert.KernelAdamConvWIdeal.τ).loc Cert.KernelAdamConvWIdeal.main_arg2)
      ∧ r.2.mem ((c.tc : Thread Cert.KernelAdamConvWIdeal.nD Cert.KernelAdamConvWIdeal.τ).loc Cert.KernelAdamConvWIdeal.main_arg3) = m ((c.tc : Thread Cert.KernelAdamConvWIdeal.nD Cert.KernelAdamConvWIdeal.τ).loc Cert.KernelAdamConvWIdeal.main_arg3))
      ∧ r.2.sem = fun _ => 0)

def quiescent_ReferenceAdamConvWIdeal [hReferenceAdamConvWIdeal : Cert.ReferenceAdamConvWIdeal.Facts] : Prop :=
  ∀ (m : (ℓ : Loc Cert.ReferenceAdamConvWIdeal.nD Cert.ReferenceAdamConvWIdeal.τ Cert.ReferenceAdamConvWIdeal.sig) → Buf (Elt Ideal) ℓ) (g : Dev Cert.ReferenceAdamConvWIdeal.nD → PrngReg), Pre_ReferenceAdamConvWIdeal m →
    θ_run (Cert.ReferenceAdamConvWIdeal.defs (F := Ideal)) (onTc (τ := Cert.ReferenceAdamConvWIdeal.τ) (Cert.ReferenceAdamConvWIdeal.main (F := Ideal))) ⟨m, fun _ => 0, g⟩ (fun r => (∀ c : Dev Cert.ReferenceAdamConvWIdeal.nD,
      r.2.mem ((c.tc : Thread Cert.ReferenceAdamConvWIdeal.nD Cert.ReferenceAdamConvWIdeal.τ).loc Cert.ReferenceAdamConvWIdeal.main_arg0) = m ((c.tc : Thread Cert.ReferenceAdamConvWIdeal.nD Cert.ReferenceAdamConvWIdeal.τ).loc Cert.ReferenceAdamConvWIdeal.main_arg0)
      ∧ r.2.mem ((c.tc : Thread Cert.ReferenceAdamConvWIdeal.nD Cert.ReferenceAdamConvWIdeal.τ).loc Cert.ReferenceAdamConvWIdeal.main_arg1) = m ((c.tc : Thread Cert.ReferenceAdamConvWIdeal.nD Cert.ReferenceAdamConvWIdeal.τ).loc Cert.ReferenceAdamConvWIdeal.main_arg1)
      ∧ r.2.mem ((c.tc : Thread Cert.ReferenceAdamConvWIdeal.nD Cert.ReferenceAdamConvWIdeal.τ).loc Cert.ReferenceAdamConvWIdeal.main_arg2) = m ((c.tc : Thread Cert.ReferenceAdamConvWIdeal.nD Cert.ReferenceAdamConvWIdeal.τ).loc Cert.ReferenceAdamConvWIdeal.main_arg2)
      ∧ r.2.mem ((c.tc : Thread Cert.ReferenceAdamConvWIdeal.nD Cert.ReferenceAdamConvWIdeal.τ).loc Cert.ReferenceAdamConvWIdeal.main_arg3) = m ((c.tc : Thread Cert.ReferenceAdamConvWIdeal.nD Cert.ReferenceAdamConvWIdeal.τ).loc Cert.ReferenceAdamConvWIdeal.main_arg3))
      ∧ r.2.sem = fun _ => 0)

def quiescent_KernelAdamWAda [hKernelAdamWAda : Cert.KernelAdamWAda.Facts] : Prop :=
  ∀ (m : (ℓ : Loc Cert.KernelAdamWAda.nD Cert.KernelAdamWAda.τ Cert.KernelAdamWAda.sig) → Buf (Elt Bits) ℓ) (g : Dev Cert.KernelAdamWAda.nD → PrngReg), Pre_KernelAdamWAda m →
    θ_run (Cert.KernelAdamWAda.defs (F := Bits)) (onTc (τ := Cert.KernelAdamWAda.τ) (Cert.KernelAdamWAda.main (F := Bits))) ⟨m, fun _ => 0, g⟩ (fun r => (∀ c : Dev Cert.KernelAdamWAda.nD,
      r.2.mem ((c.tc : Thread Cert.KernelAdamWAda.nD Cert.KernelAdamWAda.τ).loc Cert.KernelAdamWAda.main_arg0) = m ((c.tc : Thread Cert.KernelAdamWAda.nD Cert.KernelAdamWAda.τ).loc Cert.KernelAdamWAda.main_arg0)
      ∧ r.2.mem ((c.tc : Thread Cert.KernelAdamWAda.nD Cert.KernelAdamWAda.τ).loc Cert.KernelAdamWAda.main_arg1) = m ((c.tc : Thread Cert.KernelAdamWAda.nD Cert.KernelAdamWAda.τ).loc Cert.KernelAdamWAda.main_arg1)
      ∧ r.2.mem ((c.tc : Thread Cert.KernelAdamWAda.nD Cert.KernelAdamWAda.τ).loc Cert.KernelAdamWAda.main_arg2) = m ((c.tc : Thread Cert.KernelAdamWAda.nD Cert.KernelAdamWAda.τ).loc Cert.KernelAdamWAda.main_arg2)
      ∧ r.2.mem ((c.tc : Thread Cert.KernelAdamWAda.nD Cert.KernelAdamWAda.τ).loc Cert.KernelAdamWAda.main_arg3) = m ((c.tc : Thread Cert.KernelAdamWAda.nD Cert.KernelAdamWAda.τ).loc Cert.KernelAdamWAda.main_arg3))
      ∧ r.2.sem = fun _ => 0)

def quiescent_KernelAdamWAdaIdeal [hKernelAdamWAdaIdeal : Cert.KernelAdamWAdaIdeal.Facts] : Prop :=
  ∀ (m : (ℓ : Loc Cert.KernelAdamWAdaIdeal.nD Cert.KernelAdamWAdaIdeal.τ Cert.KernelAdamWAdaIdeal.sig) → Buf (Elt Ideal) ℓ) (g : Dev Cert.KernelAdamWAdaIdeal.nD → PrngReg), Pre_KernelAdamWAdaIdeal m →
    θ_run (Cert.KernelAdamWAdaIdeal.defs (F := Ideal)) (onTc (τ := Cert.KernelAdamWAdaIdeal.τ) (Cert.KernelAdamWAdaIdeal.main (F := Ideal))) ⟨m, fun _ => 0, g⟩ (fun r => (∀ c : Dev Cert.KernelAdamWAdaIdeal.nD,
      r.2.mem ((c.tc : Thread Cert.KernelAdamWAdaIdeal.nD Cert.KernelAdamWAdaIdeal.τ).loc Cert.KernelAdamWAdaIdeal.main_arg0) = m ((c.tc : Thread Cert.KernelAdamWAdaIdeal.nD Cert.KernelAdamWAdaIdeal.τ).loc Cert.KernelAdamWAdaIdeal.main_arg0)
      ∧ r.2.mem ((c.tc : Thread Cert.KernelAdamWAdaIdeal.nD Cert.KernelAdamWAdaIdeal.τ).loc Cert.KernelAdamWAdaIdeal.main_arg1) = m ((c.tc : Thread Cert.KernelAdamWAdaIdeal.nD Cert.KernelAdamWAdaIdeal.τ).loc Cert.KernelAdamWAdaIdeal.main_arg1)
      ∧ r.2.mem ((c.tc : Thread Cert.KernelAdamWAdaIdeal.nD Cert.KernelAdamWAdaIdeal.τ).loc Cert.KernelAdamWAdaIdeal.main_arg2) = m ((c.tc : Thread Cert.KernelAdamWAdaIdeal.nD Cert.KernelAdamWAdaIdeal.τ).loc Cert.KernelAdamWAdaIdeal.main_arg2)
      ∧ r.2.mem ((c.tc : Thread Cert.KernelAdamWAdaIdeal.nD Cert.KernelAdamWAdaIdeal.τ).loc Cert.KernelAdamWAdaIdeal.main_arg3) = m ((c.tc : Thread Cert.KernelAdamWAdaIdeal.nD Cert.KernelAdamWAdaIdeal.τ).loc Cert.KernelAdamWAdaIdeal.main_arg3))
      ∧ r.2.sem = fun _ => 0)

def quiescent_ReferenceAdamWAdaIdeal [hReferenceAdamWAdaIdeal : Cert.ReferenceAdamWAdaIdeal.Facts] : Prop :=
  ∀ (m : (ℓ : Loc Cert.ReferenceAdamWAdaIdeal.nD Cert.ReferenceAdamWAdaIdeal.τ Cert.ReferenceAdamWAdaIdeal.sig) → Buf (Elt Ideal) ℓ) (g : Dev Cert.ReferenceAdamWAdaIdeal.nD → PrngReg), Pre_ReferenceAdamWAdaIdeal m →
    θ_run (Cert.ReferenceAdamWAdaIdeal.defs (F := Ideal)) (onTc (τ := Cert.ReferenceAdamWAdaIdeal.τ) (Cert.ReferenceAdamWAdaIdeal.main (F := Ideal))) ⟨m, fun _ => 0, g⟩ (fun r => (∀ c : Dev Cert.ReferenceAdamWAdaIdeal.nD,
      r.2.mem ((c.tc : Thread Cert.ReferenceAdamWAdaIdeal.nD Cert.ReferenceAdamWAdaIdeal.τ).loc Cert.ReferenceAdamWAdaIdeal.main_arg0) = m ((c.tc : Thread Cert.ReferenceAdamWAdaIdeal.nD Cert.ReferenceAdamWAdaIdeal.τ).loc Cert.ReferenceAdamWAdaIdeal.main_arg0)
      ∧ r.2.mem ((c.tc : Thread Cert.ReferenceAdamWAdaIdeal.nD Cert.ReferenceAdamWAdaIdeal.τ).loc Cert.ReferenceAdamWAdaIdeal.main_arg1) = m ((c.tc : Thread Cert.ReferenceAdamWAdaIdeal.nD Cert.ReferenceAdamWAdaIdeal.τ).loc Cert.ReferenceAdamWAdaIdeal.main_arg1)
      ∧ r.2.mem ((c.tc : Thread Cert.ReferenceAdamWAdaIdeal.nD Cert.ReferenceAdamWAdaIdeal.τ).loc Cert.ReferenceAdamWAdaIdeal.main_arg2) = m ((c.tc : Thread Cert.ReferenceAdamWAdaIdeal.nD Cert.ReferenceAdamWAdaIdeal.τ).loc Cert.ReferenceAdamWAdaIdeal.main_arg2)
      ∧ r.2.mem ((c.tc : Thread Cert.ReferenceAdamWAdaIdeal.nD Cert.ReferenceAdamWAdaIdeal.τ).loc Cert.ReferenceAdamWAdaIdeal.main_arg3) = m ((c.tc : Thread Cert.ReferenceAdamWAdaIdeal.nD Cert.ReferenceAdamWAdaIdeal.τ).loc Cert.ReferenceAdamWAdaIdeal.main_arg3))
      ∧ r.2.sem = fun _ => 0)

def quiescent_KernelAdamWIn [hKernelAdamWIn : Cert.KernelAdamWIn.Facts] : Prop :=
  ∀ (m : (ℓ : Loc Cert.KernelAdamWIn.nD Cert.KernelAdamWIn.τ Cert.KernelAdamWIn.sig) → Buf (Elt Bits) ℓ) (g : Dev Cert.KernelAdamWIn.nD → PrngReg), Pre_KernelAdamWIn m →
    θ_run (Cert.KernelAdamWIn.defs (F := Bits)) (onTc (τ := Cert.KernelAdamWIn.τ) (Cert.KernelAdamWIn.main (F := Bits))) ⟨m, fun _ => 0, g⟩ (fun r => (∀ c : Dev Cert.KernelAdamWIn.nD,
      r.2.mem ((c.tc : Thread Cert.KernelAdamWIn.nD Cert.KernelAdamWIn.τ).loc Cert.KernelAdamWIn.main_arg0) = m ((c.tc : Thread Cert.KernelAdamWIn.nD Cert.KernelAdamWIn.τ).loc Cert.KernelAdamWIn.main_arg0)
      ∧ r.2.mem ((c.tc : Thread Cert.KernelAdamWIn.nD Cert.KernelAdamWIn.τ).loc Cert.KernelAdamWIn.main_arg1) = m ((c.tc : Thread Cert.KernelAdamWIn.nD Cert.KernelAdamWIn.τ).loc Cert.KernelAdamWIn.main_arg1)
      ∧ r.2.mem ((c.tc : Thread Cert.KernelAdamWIn.nD Cert.KernelAdamWIn.τ).loc Cert.KernelAdamWIn.main_arg2) = m ((c.tc : Thread Cert.KernelAdamWIn.nD Cert.KernelAdamWIn.τ).loc Cert.KernelAdamWIn.main_arg2)
      ∧ r.2.mem ((c.tc : Thread Cert.KernelAdamWIn.nD Cert.KernelAdamWIn.τ).loc Cert.KernelAdamWIn.main_arg3) = m ((c.tc : Thread Cert.KernelAdamWIn.nD Cert.KernelAdamWIn.τ).loc Cert.KernelAdamWIn.main_arg3))
      ∧ r.2.sem = fun _ => 0)

def quiescent_KernelAdamWInIdeal [hKernelAdamWInIdeal : Cert.KernelAdamWInIdeal.Facts] : Prop :=
  ∀ (m : (ℓ : Loc Cert.KernelAdamWInIdeal.nD Cert.KernelAdamWInIdeal.τ Cert.KernelAdamWInIdeal.sig) → Buf (Elt Ideal) ℓ) (g : Dev Cert.KernelAdamWInIdeal.nD → PrngReg), Pre_KernelAdamWInIdeal m →
    θ_run (Cert.KernelAdamWInIdeal.defs (F := Ideal)) (onTc (τ := Cert.KernelAdamWInIdeal.τ) (Cert.KernelAdamWInIdeal.main (F := Ideal))) ⟨m, fun _ => 0, g⟩ (fun r => (∀ c : Dev Cert.KernelAdamWInIdeal.nD,
      r.2.mem ((c.tc : Thread Cert.KernelAdamWInIdeal.nD Cert.KernelAdamWInIdeal.τ).loc Cert.KernelAdamWInIdeal.main_arg0) = m ((c.tc : Thread Cert.KernelAdamWInIdeal.nD Cert.KernelAdamWInIdeal.τ).loc Cert.KernelAdamWInIdeal.main_arg0)
      ∧ r.2.mem ((c.tc : Thread Cert.KernelAdamWInIdeal.nD Cert.KernelAdamWInIdeal.τ).loc Cert.KernelAdamWInIdeal.main_arg1) = m ((c.tc : Thread Cert.KernelAdamWInIdeal.nD Cert.KernelAdamWInIdeal.τ).loc Cert.KernelAdamWInIdeal.main_arg1)
      ∧ r.2.mem ((c.tc : Thread Cert.KernelAdamWInIdeal.nD Cert.KernelAdamWInIdeal.τ).loc Cert.KernelAdamWInIdeal.main_arg2) = m ((c.tc : Thread Cert.KernelAdamWInIdeal.nD Cert.KernelAdamWInIdeal.τ).loc Cert.KernelAdamWInIdeal.main_arg2)
      ∧ r.2.mem ((c.tc : Thread Cert.KernelAdamWInIdeal.nD Cert.KernelAdamWInIdeal.τ).loc Cert.KernelAdamWInIdeal.main_arg3) = m ((c.tc : Thread Cert.KernelAdamWInIdeal.nD Cert.KernelAdamWInIdeal.τ).loc Cert.KernelAdamWInIdeal.main_arg3))
      ∧ r.2.sem = fun _ => 0)

def quiescent_ReferenceAdamWInIdeal [hReferenceAdamWInIdeal : Cert.ReferenceAdamWInIdeal.Facts] : Prop :=
  ∀ (m : (ℓ : Loc Cert.ReferenceAdamWInIdeal.nD Cert.ReferenceAdamWInIdeal.τ Cert.ReferenceAdamWInIdeal.sig) → Buf (Elt Ideal) ℓ) (g : Dev Cert.ReferenceAdamWInIdeal.nD → PrngReg), Pre_ReferenceAdamWInIdeal m →
    θ_run (Cert.ReferenceAdamWInIdeal.defs (F := Ideal)) (onTc (τ := Cert.ReferenceAdamWInIdeal.τ) (Cert.ReferenceAdamWInIdeal.main (F := Ideal))) ⟨m, fun _ => 0, g⟩ (fun r => (∀ c : Dev Cert.ReferenceAdamWInIdeal.nD,
      r.2.mem ((c.tc : Thread Cert.ReferenceAdamWInIdeal.nD Cert.ReferenceAdamWInIdeal.τ).loc Cert.ReferenceAdamWInIdeal.main_arg0) = m ((c.tc : Thread Cert.ReferenceAdamWInIdeal.nD Cert.ReferenceAdamWInIdeal.τ).loc Cert.ReferenceAdamWInIdeal.main_arg0)
      ∧ r.2.mem ((c.tc : Thread Cert.ReferenceAdamWInIdeal.nD Cert.ReferenceAdamWInIdeal.τ).loc Cert.ReferenceAdamWInIdeal.main_arg1) = m ((c.tc : Thread Cert.ReferenceAdamWInIdeal.nD Cert.ReferenceAdamWInIdeal.τ).loc Cert.ReferenceAdamWInIdeal.main_arg1)
      ∧ r.2.mem ((c.tc : Thread Cert.ReferenceAdamWInIdeal.nD Cert.ReferenceAdamWInIdeal.τ).loc Cert.ReferenceAdamWInIdeal.main_arg2) = m ((c.tc : Thread Cert.ReferenceAdamWInIdeal.nD Cert.ReferenceAdamWInIdeal.τ).loc Cert.ReferenceAdamWInIdeal.main_arg2)
      ∧ r.2.mem ((c.tc : Thread Cert.ReferenceAdamWInIdeal.nD Cert.ReferenceAdamWInIdeal.τ).loc Cert.ReferenceAdamWInIdeal.main_arg3) = m ((c.tc : Thread Cert.ReferenceAdamWInIdeal.nD Cert.ReferenceAdamWInIdeal.τ).loc Cert.ReferenceAdamWInIdeal.main_arg3))
      ∧ r.2.sem = fun _ => 0)

def quiescent_KernelAdamWRetOut [hKernelAdamWRetOut : Cert.KernelAdamWRetOut.Facts] : Prop :=
  ∀ (m : (ℓ : Loc Cert.KernelAdamWRetOut.nD Cert.KernelAdamWRetOut.τ Cert.KernelAdamWRetOut.sig) → Buf (Elt Bits) ℓ) (g : Dev Cert.KernelAdamWRetOut.nD → PrngReg), Pre_KernelAdamWRetOut m →
    θ_run (Cert.KernelAdamWRetOut.defs (F := Bits)) (onTc (τ := Cert.KernelAdamWRetOut.τ) (Cert.KernelAdamWRetOut.main (F := Bits))) ⟨m, fun _ => 0, g⟩ (fun r => (∀ c : Dev Cert.KernelAdamWRetOut.nD,
      r.2.mem ((c.tc : Thread Cert.KernelAdamWRetOut.nD Cert.KernelAdamWRetOut.τ).loc Cert.KernelAdamWRetOut.main_arg0) = m ((c.tc : Thread Cert.KernelAdamWRetOut.nD Cert.KernelAdamWRetOut.τ).loc Cert.KernelAdamWRetOut.main_arg0)
      ∧ r.2.mem ((c.tc : Thread Cert.KernelAdamWRetOut.nD Cert.KernelAdamWRetOut.τ).loc Cert.KernelAdamWRetOut.main_arg1) = m ((c.tc : Thread Cert.KernelAdamWRetOut.nD Cert.KernelAdamWRetOut.τ).loc Cert.KernelAdamWRetOut.main_arg1)
      ∧ r.2.mem ((c.tc : Thread Cert.KernelAdamWRetOut.nD Cert.KernelAdamWRetOut.τ).loc Cert.KernelAdamWRetOut.main_arg2) = m ((c.tc : Thread Cert.KernelAdamWRetOut.nD Cert.KernelAdamWRetOut.τ).loc Cert.KernelAdamWRetOut.main_arg2)
      ∧ r.2.mem ((c.tc : Thread Cert.KernelAdamWRetOut.nD Cert.KernelAdamWRetOut.τ).loc Cert.KernelAdamWRetOut.main_arg3) = m ((c.tc : Thread Cert.KernelAdamWRetOut.nD Cert.KernelAdamWRetOut.τ).loc Cert.KernelAdamWRetOut.main_arg3))
      ∧ r.2.sem = fun _ => 0)

def quiescent_KernelAdamWRetOutIdeal [hKernelAdamWRetOutIdeal : Cert.KernelAdamWRetOutIdeal.Facts] : Prop :=
  ∀ (m : (ℓ : Loc Cert.KernelAdamWRetOutIdeal.nD Cert.KernelAdamWRetOutIdeal.τ Cert.KernelAdamWRetOutIdeal.sig) → Buf (Elt Ideal) ℓ) (g : Dev Cert.KernelAdamWRetOutIdeal.nD → PrngReg), Pre_KernelAdamWRetOutIdeal m →
    θ_run (Cert.KernelAdamWRetOutIdeal.defs (F := Ideal)) (onTc (τ := Cert.KernelAdamWRetOutIdeal.τ) (Cert.KernelAdamWRetOutIdeal.main (F := Ideal))) ⟨m, fun _ => 0, g⟩ (fun r => (∀ c : Dev Cert.KernelAdamWRetOutIdeal.nD,
      r.2.mem ((c.tc : Thread Cert.KernelAdamWRetOutIdeal.nD Cert.KernelAdamWRetOutIdeal.τ).loc Cert.KernelAdamWRetOutIdeal.main_arg0) = m ((c.tc : Thread Cert.KernelAdamWRetOutIdeal.nD Cert.KernelAdamWRetOutIdeal.τ).loc Cert.KernelAdamWRetOutIdeal.main_arg0)
      ∧ r.2.mem ((c.tc : Thread Cert.KernelAdamWRetOutIdeal.nD Cert.KernelAdamWRetOutIdeal.τ).loc Cert.KernelAdamWRetOutIdeal.main_arg1) = m ((c.tc : Thread Cert.KernelAdamWRetOutIdeal.nD Cert.KernelAdamWRetOutIdeal.τ).loc Cert.KernelAdamWRetOutIdeal.main_arg1)
      ∧ r.2.mem ((c.tc : Thread Cert.KernelAdamWRetOutIdeal.nD Cert.KernelAdamWRetOutIdeal.τ).loc Cert.KernelAdamWRetOutIdeal.main_arg2) = m ((c.tc : Thread Cert.KernelAdamWRetOutIdeal.nD Cert.KernelAdamWRetOutIdeal.τ).loc Cert.KernelAdamWRetOutIdeal.main_arg2)
      ∧ r.2.mem ((c.tc : Thread Cert.KernelAdamWRetOutIdeal.nD Cert.KernelAdamWRetOutIdeal.τ).loc Cert.KernelAdamWRetOutIdeal.main_arg3) = m ((c.tc : Thread Cert.KernelAdamWRetOutIdeal.nD Cert.KernelAdamWRetOutIdeal.τ).loc Cert.KernelAdamWRetOutIdeal.main_arg3))
      ∧ r.2.sem = fun _ => 0)

def quiescent_ReferenceAdamWRetOutIdeal [hReferenceAdamWRetOutIdeal : Cert.ReferenceAdamWRetOutIdeal.Facts] : Prop :=
  ∀ (m : (ℓ : Loc Cert.ReferenceAdamWRetOutIdeal.nD Cert.ReferenceAdamWRetOutIdeal.τ Cert.ReferenceAdamWRetOutIdeal.sig) → Buf (Elt Ideal) ℓ) (g : Dev Cert.ReferenceAdamWRetOutIdeal.nD → PrngReg), Pre_ReferenceAdamWRetOutIdeal m →
    θ_run (Cert.ReferenceAdamWRetOutIdeal.defs (F := Ideal)) (onTc (τ := Cert.ReferenceAdamWRetOutIdeal.τ) (Cert.ReferenceAdamWRetOutIdeal.main (F := Ideal))) ⟨m, fun _ => 0, g⟩ (fun r => (∀ c : Dev Cert.ReferenceAdamWRetOutIdeal.nD,
      r.2.mem ((c.tc : Thread Cert.ReferenceAdamWRetOutIdeal.nD Cert.ReferenceAdamWRetOutIdeal.τ).loc Cert.ReferenceAdamWRetOutIdeal.main_arg0) = m ((c.tc : Thread Cert.ReferenceAdamWRetOutIdeal.nD Cert.ReferenceAdamWRetOutIdeal.τ).loc Cert.ReferenceAdamWRetOutIdeal.main_arg0)
      ∧ r.2.mem ((c.tc : Thread Cert.ReferenceAdamWRetOutIdeal.nD Cert.ReferenceAdamWRetOutIdeal.τ).loc Cert.ReferenceAdamWRetOutIdeal.main_arg1) = m ((c.tc : Thread Cert.ReferenceAdamWRetOutIdeal.nD Cert.ReferenceAdamWRetOutIdeal.τ).loc Cert.ReferenceAdamWRetOutIdeal.main_arg1)
      ∧ r.2.mem ((c.tc : Thread Cert.ReferenceAdamWRetOutIdeal.nD Cert.ReferenceAdamWRetOutIdeal.τ).loc Cert.ReferenceAdamWRetOutIdeal.main_arg2) = m ((c.tc : Thread Cert.ReferenceAdamWRetOutIdeal.nD Cert.ReferenceAdamWRetOutIdeal.τ).loc Cert.ReferenceAdamWRetOutIdeal.main_arg2)
      ∧ r.2.mem ((c.tc : Thread Cert.ReferenceAdamWRetOutIdeal.nD Cert.ReferenceAdamWRetOutIdeal.τ).loc Cert.ReferenceAdamWRetOutIdeal.main_arg3) = m ((c.tc : Thread Cert.ReferenceAdamWRetOutIdeal.nD Cert.ReferenceAdamWRetOutIdeal.τ).loc Cert.ReferenceAdamWRetOutIdeal.main_arg3))
      ∧ r.2.sem = fun _ => 0)

def quiescent_KernelAdamWOut [hKernelAdamWOut : Cert.KernelAdamWOut.Facts] : Prop :=
  ∀ (m : (ℓ : Loc Cert.KernelAdamWOut.nD Cert.KernelAdamWOut.τ Cert.KernelAdamWOut.sig) → Buf (Elt Bits) ℓ) (g : Dev Cert.KernelAdamWOut.nD → PrngReg), Pre_KernelAdamWOut m →
    θ_run (Cert.KernelAdamWOut.defs (F := Bits)) (onTc (τ := Cert.KernelAdamWOut.τ) (Cert.KernelAdamWOut.main (F := Bits))) ⟨m, fun _ => 0, g⟩ (fun r => (∀ c : Dev Cert.KernelAdamWOut.nD,
      r.2.mem ((c.tc : Thread Cert.KernelAdamWOut.nD Cert.KernelAdamWOut.τ).loc Cert.KernelAdamWOut.main_arg0) = m ((c.tc : Thread Cert.KernelAdamWOut.nD Cert.KernelAdamWOut.τ).loc Cert.KernelAdamWOut.main_arg0)
      ∧ r.2.mem ((c.tc : Thread Cert.KernelAdamWOut.nD Cert.KernelAdamWOut.τ).loc Cert.KernelAdamWOut.main_arg1) = m ((c.tc : Thread Cert.KernelAdamWOut.nD Cert.KernelAdamWOut.τ).loc Cert.KernelAdamWOut.main_arg1)
      ∧ r.2.mem ((c.tc : Thread Cert.KernelAdamWOut.nD Cert.KernelAdamWOut.τ).loc Cert.KernelAdamWOut.main_arg2) = m ((c.tc : Thread Cert.KernelAdamWOut.nD Cert.KernelAdamWOut.τ).loc Cert.KernelAdamWOut.main_arg2)
      ∧ r.2.mem ((c.tc : Thread Cert.KernelAdamWOut.nD Cert.KernelAdamWOut.τ).loc Cert.KernelAdamWOut.main_arg3) = m ((c.tc : Thread Cert.KernelAdamWOut.nD Cert.KernelAdamWOut.τ).loc Cert.KernelAdamWOut.main_arg3))
      ∧ r.2.sem = fun _ => 0)

def quiescent_KernelAdamWOutIdeal [hKernelAdamWOutIdeal : Cert.KernelAdamWOutIdeal.Facts] : Prop :=
  ∀ (m : (ℓ : Loc Cert.KernelAdamWOutIdeal.nD Cert.KernelAdamWOutIdeal.τ Cert.KernelAdamWOutIdeal.sig) → Buf (Elt Ideal) ℓ) (g : Dev Cert.KernelAdamWOutIdeal.nD → PrngReg), Pre_KernelAdamWOutIdeal m →
    θ_run (Cert.KernelAdamWOutIdeal.defs (F := Ideal)) (onTc (τ := Cert.KernelAdamWOutIdeal.τ) (Cert.KernelAdamWOutIdeal.main (F := Ideal))) ⟨m, fun _ => 0, g⟩ (fun r => (∀ c : Dev Cert.KernelAdamWOutIdeal.nD,
      r.2.mem ((c.tc : Thread Cert.KernelAdamWOutIdeal.nD Cert.KernelAdamWOutIdeal.τ).loc Cert.KernelAdamWOutIdeal.main_arg0) = m ((c.tc : Thread Cert.KernelAdamWOutIdeal.nD Cert.KernelAdamWOutIdeal.τ).loc Cert.KernelAdamWOutIdeal.main_arg0)
      ∧ r.2.mem ((c.tc : Thread Cert.KernelAdamWOutIdeal.nD Cert.KernelAdamWOutIdeal.τ).loc Cert.KernelAdamWOutIdeal.main_arg1) = m ((c.tc : Thread Cert.KernelAdamWOutIdeal.nD Cert.KernelAdamWOutIdeal.τ).loc Cert.KernelAdamWOutIdeal.main_arg1)
      ∧ r.2.mem ((c.tc : Thread Cert.KernelAdamWOutIdeal.nD Cert.KernelAdamWOutIdeal.τ).loc Cert.KernelAdamWOutIdeal.main_arg2) = m ((c.tc : Thread Cert.KernelAdamWOutIdeal.nD Cert.KernelAdamWOutIdeal.τ).loc Cert.KernelAdamWOutIdeal.main_arg2)
      ∧ r.2.mem ((c.tc : Thread Cert.KernelAdamWOutIdeal.nD Cert.KernelAdamWOutIdeal.τ).loc Cert.KernelAdamWOutIdeal.main_arg3) = m ((c.tc : Thread Cert.KernelAdamWOutIdeal.nD Cert.KernelAdamWOutIdeal.τ).loc Cert.KernelAdamWOutIdeal.main_arg3))
      ∧ r.2.sem = fun _ => 0)

def quiescent_ReferenceAdamWOutIdeal [hReferenceAdamWOutIdeal : Cert.ReferenceAdamWOutIdeal.Facts] : Prop :=
  ∀ (m : (ℓ : Loc Cert.ReferenceAdamWOutIdeal.nD Cert.ReferenceAdamWOutIdeal.τ Cert.ReferenceAdamWOutIdeal.sig) → Buf (Elt Ideal) ℓ) (g : Dev Cert.ReferenceAdamWOutIdeal.nD → PrngReg), Pre_ReferenceAdamWOutIdeal m →
    θ_run (Cert.ReferenceAdamWOutIdeal.defs (F := Ideal)) (onTc (τ := Cert.ReferenceAdamWOutIdeal.τ) (Cert.ReferenceAdamWOutIdeal.main (F := Ideal))) ⟨m, fun _ => 0, g⟩ (fun r => (∀ c : Dev Cert.ReferenceAdamWOutIdeal.nD,
      r.2.mem ((c.tc : Thread Cert.ReferenceAdamWOutIdeal.nD Cert.ReferenceAdamWOutIdeal.τ).loc Cert.ReferenceAdamWOutIdeal.main_arg0) = m ((c.tc : Thread Cert.ReferenceAdamWOutIdeal.nD Cert.ReferenceAdamWOutIdeal.τ).loc Cert.ReferenceAdamWOutIdeal.main_arg0)
      ∧ r.2.mem ((c.tc : Thread Cert.ReferenceAdamWOutIdeal.nD Cert.ReferenceAdamWOutIdeal.τ).loc Cert.ReferenceAdamWOutIdeal.main_arg1) = m ((c.tc : Thread Cert.ReferenceAdamWOutIdeal.nD Cert.ReferenceAdamWOutIdeal.τ).loc Cert.ReferenceAdamWOutIdeal.main_arg1)
      ∧ r.2.mem ((c.tc : Thread Cert.ReferenceAdamWOutIdeal.nD Cert.ReferenceAdamWOutIdeal.τ).loc Cert.ReferenceAdamWOutIdeal.main_arg2) = m ((c.tc : Thread Cert.ReferenceAdamWOutIdeal.nD Cert.ReferenceAdamWOutIdeal.τ).loc Cert.ReferenceAdamWOutIdeal.main_arg2)
      ∧ r.2.mem ((c.tc : Thread Cert.ReferenceAdamWOutIdeal.nD Cert.ReferenceAdamWOutIdeal.τ).loc Cert.ReferenceAdamWOutIdeal.main_arg3) = m ((c.tc : Thread Cert.ReferenceAdamWOutIdeal.nD Cert.ReferenceAdamWOutIdeal.τ).loc Cert.ReferenceAdamWOutIdeal.main_arg3))
      ∧ r.2.sem = fun _ => 0)

def quiescent_KernelRf [hKernelRf : Cert.KernelRf.Facts] : Prop :=
  ∀ (m : (ℓ : Loc Cert.KernelRf.nD Cert.KernelRf.τ Cert.KernelRf.sig) → Buf (Elt Bits) ℓ) (g : Dev Cert.KernelRf.nD → PrngReg), Pre_KernelRf m →
    θ_run (Cert.KernelRf.defs (F := Bits)) (onTc (τ := Cert.KernelRf.τ) (Cert.KernelRf.main (F := Bits))) ⟨m, fun _ => 0, g⟩ (fun r => (∀ c : Dev Cert.KernelRf.nD,
      r.2.mem ((c.tc : Thread Cert.KernelRf.nD Cert.KernelRf.τ).loc Cert.KernelRf.main_arg0) = m ((c.tc : Thread Cert.KernelRf.nD Cert.KernelRf.τ).loc Cert.KernelRf.main_arg0)
      ∧ r.2.mem ((c.tc : Thread Cert.KernelRf.nD Cert.KernelRf.τ).loc Cert.KernelRf.main_arg1) = m ((c.tc : Thread Cert.KernelRf.nD Cert.KernelRf.τ).loc Cert.KernelRf.main_arg1)
      ∧ r.2.mem ((c.tc : Thread Cert.KernelRf.nD Cert.KernelRf.τ).loc Cert.KernelRf.main_arg2) = m ((c.tc : Thread Cert.KernelRf.nD Cert.KernelRf.τ).loc Cert.KernelRf.main_arg2))
      ∧ r.2.sem = fun _ => 0)

def quiescent_KernelRfIdeal [hKernelRfIdeal : Cert.KernelRfIdeal.Facts] : Prop :=
  ∀ (m : (ℓ : Loc Cert.KernelRfIdeal.nD Cert.KernelRfIdeal.τ Cert.KernelRfIdeal.sig) → Buf (Elt Ideal) ℓ) (g : Dev Cert.KernelRfIdeal.nD → PrngReg), Pre_KernelRfIdeal m →
    θ_run (Cert.KernelRfIdeal.defs (F := Ideal)) (onTc (τ := Cert.KernelRfIdeal.τ) (Cert.KernelRfIdeal.main (F := Ideal))) ⟨m, fun _ => 0, g⟩ (fun r => (∀ c : Dev Cert.KernelRfIdeal.nD,
      r.2.mem ((c.tc : Thread Cert.KernelRfIdeal.nD Cert.KernelRfIdeal.τ).loc Cert.KernelRfIdeal.main_arg0) = m ((c.tc : Thread Cert.KernelRfIdeal.nD Cert.KernelRfIdeal.τ).loc Cert.KernelRfIdeal.main_arg0)
      ∧ r.2.mem ((c.tc : Thread Cert.KernelRfIdeal.nD Cert.KernelRfIdeal.τ).loc Cert.KernelRfIdeal.main_arg1) = m ((c.tc : Thread Cert.KernelRfIdeal.nD Cert.KernelRfIdeal.τ).loc Cert.KernelRfIdeal.main_arg1)
      ∧ r.2.mem ((c.tc : Thread Cert.KernelRfIdeal.nD Cert.KernelRfIdeal.τ).loc Cert.KernelRfIdeal.main_arg2) = m ((c.tc : Thread Cert.KernelRfIdeal.nD Cert.KernelRfIdeal.τ).loc Cert.KernelRfIdeal.main_arg2))
      ∧ r.2.sem = fun _ => 0)

def quiescent_ReferenceRfIdeal [hReferenceRfIdeal : Cert.ReferenceRfIdeal.Facts] : Prop :=
  ∀ (m : (ℓ : Loc Cert.ReferenceRfIdeal.nD Cert.ReferenceRfIdeal.τ Cert.ReferenceRfIdeal.sig) → Buf (Elt Ideal) ℓ) (g : Dev Cert.ReferenceRfIdeal.nD → PrngReg), Pre_ReferenceRfIdeal m →
    θ_run (Cert.ReferenceRfIdeal.defs (F := Ideal)) (onTc (τ := Cert.ReferenceRfIdeal.τ) (Cert.ReferenceRfIdeal.main (F := Ideal))) ⟨m, fun _ => 0, g⟩ (fun r => (∀ c : Dev Cert.ReferenceRfIdeal.nD,
      r.2.mem ((c.tc : Thread Cert.ReferenceRfIdeal.nD Cert.ReferenceRfIdeal.τ).loc Cert.ReferenceRfIdeal.main_arg0) = m ((c.tc : Thread Cert.ReferenceRfIdeal.nD Cert.ReferenceRfIdeal.τ).loc Cert.ReferenceRfIdeal.main_arg0)
      ∧ r.2.mem ((c.tc : Thread Cert.ReferenceRfIdeal.nD Cert.ReferenceRfIdeal.τ).loc Cert.ReferenceRfIdeal.main_arg1) = m ((c.tc : Thread Cert.ReferenceRfIdeal.nD Cert.ReferenceRfIdeal.τ).loc Cert.ReferenceRfIdeal.main_arg1)
      ∧ r.2.mem ((c.tc : Thread Cert.ReferenceRfIdeal.nD Cert.ReferenceRfIdeal.τ).loc Cert.ReferenceRfIdeal.main_arg2) = m ((c.tc : Thread Cert.ReferenceRfIdeal.nD Cert.ReferenceRfIdeal.τ).loc Cert.ReferenceRfIdeal.main_arg2))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def preserves_KernelDwr_KernelDwrIdeal : Prop :=
  True

def algebraic_KernelDwrIdeal_ReferenceDwrIdeal [hKernelDwrIdeal : Cert.KernelDwrIdeal.Facts] [hReferenceDwrIdeal : Cert.ReferenceDwrIdeal.Facts] : Prop :=
  ∀ (m : (ℓ : Loc Cert.KernelDwrIdeal.nD Cert.KernelDwrIdeal.τ Cert.KernelDwrIdeal.sig) → Buf (Elt Ideal) ℓ) (g : Dev Cert.KernelDwrIdeal.nD → PrngReg)
    (m' : (ℓ : Loc Cert.ReferenceDwrIdeal.nD Cert.ReferenceDwrIdeal.τ Cert.ReferenceDwrIdeal.sig) → Buf (Elt Ideal) ℓ) (g' : Dev Cert.ReferenceDwrIdeal.nD → PrngReg), Pre_KernelDwrIdeal m →
    (∀ c : Dev Cert.KernelDwrIdeal.nD,
      m' ((c.tc : Thread Cert.ReferenceDwrIdeal.nD Cert.ReferenceDwrIdeal.τ).loc Cert.ReferenceDwrIdeal.main_arg0) = m ((c.tc : Thread Cert.KernelDwrIdeal.nD Cert.KernelDwrIdeal.τ).loc Cert.KernelDwrIdeal.main_arg0)
      ∧ m' ((c.tc : Thread Cert.ReferenceDwrIdeal.nD Cert.ReferenceDwrIdeal.τ).loc Cert.ReferenceDwrIdeal.main_arg1) = m ((c.tc : Thread Cert.KernelDwrIdeal.nD Cert.KernelDwrIdeal.τ).loc Cert.KernelDwrIdeal.main_arg1)) →
    ∃ (v0 : (c : Dev Cert.KernelDwrIdeal.nD) → Buf (Elt Ideal) ((c.tc : Thread Cert.KernelDwrIdeal.nD Cert.KernelDwrIdeal.τ).loc Cert.KernelDwrIdeal.main_v0_0)) (v1 : (c : Dev Cert.KernelDwrIdeal.nD) → Buf (Elt Ideal) ((c.tc : Thread Cert.KernelDwrIdeal.nD Cert.KernelDwrIdeal.τ).loc Cert.KernelDwrIdeal.main_v0_1)) (v2 : (c : Dev Cert.KernelDwrIdeal.nD) → Buf (Elt Ideal) ((c.tc : Thread Cert.KernelDwrIdeal.nD Cert.KernelDwrIdeal.τ).loc Cert.KernelDwrIdeal.main_v0_2)) (v3 : (c : Dev Cert.KernelDwrIdeal.nD) → Buf (Elt Ideal) ((c.tc : Thread Cert.KernelDwrIdeal.nD Cert.KernelDwrIdeal.τ).loc Cert.KernelDwrIdeal.main_v0_3)),
      θ_run (Cert.KernelDwrIdeal.defs (F := Ideal)) (onTc (τ := Cert.KernelDwrIdeal.τ) (Cert.KernelDwrIdeal.main (F := Ideal))) ⟨m, fun _ => 0, g⟩ (fun r => ∀ c : Dev Cert.KernelDwrIdeal.nD,
          r.2.mem ((c.tc : Thread Cert.KernelDwrIdeal.nD Cert.KernelDwrIdeal.τ).loc Cert.KernelDwrIdeal.main_v0_0) = v0 c
          ∧ r.2.mem ((c.tc : Thread Cert.KernelDwrIdeal.nD Cert.KernelDwrIdeal.τ).loc Cert.KernelDwrIdeal.main_v0_1) = v1 c
          ∧ r.2.mem ((c.tc : Thread Cert.KernelDwrIdeal.nD Cert.KernelDwrIdeal.τ).loc Cert.KernelDwrIdeal.main_v0_2) = v2 c
          ∧ r.2.mem ((c.tc : Thread Cert.KernelDwrIdeal.nD Cert.KernelDwrIdeal.τ).loc Cert.KernelDwrIdeal.main_v0_3) = v3 c
          ∧ r.2.mem ((c.tc : Thread Cert.KernelDwrIdeal.nD Cert.KernelDwrIdeal.τ).loc Cert.KernelDwrIdeal.main_arg0) = m ((c.tc : Thread Cert.KernelDwrIdeal.nD Cert.KernelDwrIdeal.τ).loc Cert.KernelDwrIdeal.main_arg0)
          ∧ r.2.mem ((c.tc : Thread Cert.KernelDwrIdeal.nD Cert.KernelDwrIdeal.τ).loc Cert.KernelDwrIdeal.main_arg1) = m ((c.tc : Thread Cert.KernelDwrIdeal.nD Cert.KernelDwrIdeal.τ).loc Cert.KernelDwrIdeal.main_arg1))
      ∧ θ_run (Cert.ReferenceDwrIdeal.defs (F := Ideal)) (onTc (τ := Cert.ReferenceDwrIdeal.τ) (Cert.ReferenceDwrIdeal.main (F := Ideal))) ⟨m', fun _ => 0, g'⟩ (fun r => ∀ c : Dev Cert.ReferenceDwrIdeal.nD,
          r.2.mem ((c.tc : Thread Cert.ReferenceDwrIdeal.nD Cert.ReferenceDwrIdeal.τ).loc Cert.ReferenceDwrIdeal.main_v11) = v0 c
          ∧ r.2.mem ((c.tc : Thread Cert.ReferenceDwrIdeal.nD Cert.ReferenceDwrIdeal.τ).loc Cert.ReferenceDwrIdeal.main_v18) = v1 c
          ∧ r.2.mem ((c.tc : Thread Cert.ReferenceDwrIdeal.nD Cert.ReferenceDwrIdeal.τ).loc Cert.ReferenceDwrIdeal.main_v25) = v2 c
          ∧ r.2.mem ((c.tc : Thread Cert.ReferenceDwrIdeal.nD Cert.ReferenceDwrIdeal.τ).loc Cert.ReferenceDwrIdeal.main_v32) = v3 c
          ∧ r.2.mem ((c.tc : Thread Cert.ReferenceDwrIdeal.nD Cert.ReferenceDwrIdeal.τ).loc Cert.ReferenceDwrIdeal.main_arg0) = m' ((c.tc : Thread Cert.ReferenceDwrIdeal.nD Cert.ReferenceDwrIdeal.τ).loc Cert.ReferenceDwrIdeal.main_arg0)
          ∧ r.2.mem ((c.tc : Thread Cert.ReferenceDwrIdeal.nD Cert.ReferenceDwrIdeal.τ).loc Cert.ReferenceDwrIdeal.main_arg1) = m' ((c.tc : Thread Cert.ReferenceDwrIdeal.nD Cert.ReferenceDwrIdeal.τ).loc Cert.ReferenceDwrIdeal.main_arg1))

def preserves_KernelDwc_KernelDwcIdeal : Prop :=
  True

def algebraic_KernelDwcIdeal_ReferenceDwcIdeal [hKernelDwcIdeal : Cert.KernelDwcIdeal.Facts] [hReferenceDwcIdeal : Cert.ReferenceDwcIdeal.Facts] : Prop :=
  ∀ (m : (ℓ : Loc Cert.KernelDwcIdeal.nD Cert.KernelDwcIdeal.τ Cert.KernelDwcIdeal.sig) → Buf (Elt Ideal) ℓ) (g : Dev Cert.KernelDwcIdeal.nD → PrngReg)
    (m' : (ℓ : Loc Cert.ReferenceDwcIdeal.nD Cert.ReferenceDwcIdeal.τ Cert.ReferenceDwcIdeal.sig) → Buf (Elt Ideal) ℓ) (g' : Dev Cert.ReferenceDwcIdeal.nD → PrngReg), Pre_KernelDwcIdeal m →
    (∀ c : Dev Cert.KernelDwcIdeal.nD,
      m' ((c.tc : Thread Cert.ReferenceDwcIdeal.nD Cert.ReferenceDwcIdeal.τ).loc Cert.ReferenceDwcIdeal.main_arg0) = m ((c.tc : Thread Cert.KernelDwcIdeal.nD Cert.KernelDwcIdeal.τ).loc Cert.KernelDwcIdeal.main_arg0)
      ∧ m' ((c.tc : Thread Cert.ReferenceDwcIdeal.nD Cert.ReferenceDwcIdeal.τ).loc Cert.ReferenceDwcIdeal.main_arg1) = m ((c.tc : Thread Cert.KernelDwcIdeal.nD Cert.KernelDwcIdeal.τ).loc Cert.KernelDwcIdeal.main_arg1)) →
    ∃ (v0 : (c : Dev Cert.KernelDwcIdeal.nD) → Buf (Elt Ideal) ((c.tc : Thread Cert.KernelDwcIdeal.nD Cert.KernelDwcIdeal.τ).loc Cert.KernelDwcIdeal.main_v0)),
      θ_run (Cert.KernelDwcIdeal.defs (F := Ideal)) (onTc (τ := Cert.KernelDwcIdeal.τ) (Cert.KernelDwcIdeal.main (F := Ideal))) ⟨m, fun _ => 0, g⟩ (fun r => ∀ c : Dev Cert.KernelDwcIdeal.nD,
          r.2.mem ((c.tc : Thread Cert.KernelDwcIdeal.nD Cert.KernelDwcIdeal.τ).loc Cert.KernelDwcIdeal.main_v0) = v0 c
          ∧ r.2.mem ((c.tc : Thread Cert.KernelDwcIdeal.nD Cert.KernelDwcIdeal.τ).loc Cert.KernelDwcIdeal.main_arg0) = m ((c.tc : Thread Cert.KernelDwcIdeal.nD Cert.KernelDwcIdeal.τ).loc Cert.KernelDwcIdeal.main_arg0)
          ∧ r.2.mem ((c.tc : Thread Cert.KernelDwcIdeal.nD Cert.KernelDwcIdeal.τ).loc Cert.KernelDwcIdeal.main_arg1) = m ((c.tc : Thread Cert.KernelDwcIdeal.nD Cert.KernelDwcIdeal.τ).loc Cert.KernelDwcIdeal.main_arg1))
      ∧ θ_run (Cert.ReferenceDwcIdeal.defs (F := Ideal)) (onTc (τ := Cert.ReferenceDwcIdeal.τ) (Cert.ReferenceDwcIdeal.main (F := Ideal))) ⟨m', fun _ => 0, g'⟩ (fun r => ∀ c : Dev Cert.ReferenceDwcIdeal.nD,
          r.2.mem ((c.tc : Thread Cert.ReferenceDwcIdeal.nD Cert.ReferenceDwcIdeal.τ).loc Cert.ReferenceDwcIdeal.main_v5) = v0 c
          ∧ r.2.mem ((c.tc : Thread Cert.ReferenceDwcIdeal.nD Cert.ReferenceDwcIdeal.τ).loc Cert.ReferenceDwcIdeal.main_arg0) = m' ((c.tc : Thread Cert.ReferenceDwcIdeal.nD Cert.ReferenceDwcIdeal.τ).loc Cert.ReferenceDwcIdeal.main_arg0)
          ∧ r.2.mem ((c.tc : Thread Cert.ReferenceDwcIdeal.nD Cert.ReferenceDwcIdeal.τ).loc Cert.ReferenceDwcIdeal.main_arg1) = m' ((c.tc : Thread Cert.ReferenceDwcIdeal.nD Cert.ReferenceDwcIdeal.τ).loc Cert.ReferenceDwcIdeal.main_arg1))

def preserves_KernelDwg_KernelDwgIdeal : Prop :=
  True

def algebraic_KernelDwgIdeal_ReferenceDwgIdeal [hKernelDwgIdeal : Cert.KernelDwgIdeal.Facts] [hReferenceDwgIdeal : Cert.ReferenceDwgIdeal.Facts] : Prop :=
  ∀ (m : (ℓ : Loc Cert.KernelDwgIdeal.nD Cert.KernelDwgIdeal.τ Cert.KernelDwgIdeal.sig) → Buf (Elt Ideal) ℓ) (g : Dev Cert.KernelDwgIdeal.nD → PrngReg)
    (m' : (ℓ : Loc Cert.ReferenceDwgIdeal.nD Cert.ReferenceDwgIdeal.τ Cert.ReferenceDwgIdeal.sig) → Buf (Elt Ideal) ℓ) (g' : Dev Cert.ReferenceDwgIdeal.nD → PrngReg), Pre_KernelDwgIdeal m →
    (∀ c : Dev Cert.KernelDwgIdeal.nD,
      m' ((c.tc : Thread Cert.ReferenceDwgIdeal.nD Cert.ReferenceDwgIdeal.τ).loc Cert.ReferenceDwgIdeal.main_arg0) = m ((c.tc : Thread Cert.KernelDwgIdeal.nD Cert.KernelDwgIdeal.τ).loc Cert.KernelDwgIdeal.main_arg0)
      ∧ m' ((c.tc : Thread Cert.ReferenceDwgIdeal.nD Cert.ReferenceDwgIdeal.τ).loc Cert.ReferenceDwgIdeal.main_arg1) = m ((c.tc : Thread Cert.KernelDwgIdeal.nD Cert.KernelDwgIdeal.τ).loc Cert.KernelDwgIdeal.main_arg1)) →
    ∃ (v0 : (c : Dev Cert.KernelDwgIdeal.nD) → Buf (Elt Ideal) ((c.tc : Thread Cert.KernelDwgIdeal.nD Cert.KernelDwgIdeal.τ).loc Cert.KernelDwgIdeal.main_v0)),
      θ_run (Cert.KernelDwgIdeal.defs (F := Ideal)) (onTc (τ := Cert.KernelDwgIdeal.τ) (Cert.KernelDwgIdeal.main (F := Ideal))) ⟨m, fun _ => 0, g⟩ (fun r => ∀ c : Dev Cert.KernelDwgIdeal.nD,
          r.2.mem ((c.tc : Thread Cert.KernelDwgIdeal.nD Cert.KernelDwgIdeal.τ).loc Cert.KernelDwgIdeal.main_v0) = v0 c
          ∧ r.2.mem ((c.tc : Thread Cert.KernelDwgIdeal.nD Cert.KernelDwgIdeal.τ).loc Cert.KernelDwgIdeal.main_arg0) = m ((c.tc : Thread Cert.KernelDwgIdeal.nD Cert.KernelDwgIdeal.τ).loc Cert.KernelDwgIdeal.main_arg0)
          ∧ r.2.mem ((c.tc : Thread Cert.KernelDwgIdeal.nD Cert.KernelDwgIdeal.τ).loc Cert.KernelDwgIdeal.main_arg1) = m ((c.tc : Thread Cert.KernelDwgIdeal.nD Cert.KernelDwgIdeal.τ).loc Cert.KernelDwgIdeal.main_arg1))
      ∧ θ_run (Cert.ReferenceDwgIdeal.defs (F := Ideal)) (onTc (τ := Cert.ReferenceDwgIdeal.τ) (Cert.ReferenceDwgIdeal.main (F := Ideal))) ⟨m', fun _ => 0, g'⟩ (fun r => ∀ c : Dev Cert.ReferenceDwgIdeal.nD,
          r.2.mem ((c.tc : Thread Cert.ReferenceDwgIdeal.nD Cert.ReferenceDwgIdeal.τ).loc Cert.ReferenceDwgIdeal.main_v5) = v0 c
          ∧ r.2.mem ((c.tc : Thread Cert.ReferenceDwgIdeal.nD Cert.ReferenceDwgIdeal.τ).loc Cert.ReferenceDwgIdeal.main_arg0) = m' ((c.tc : Thread Cert.ReferenceDwgIdeal.nD Cert.ReferenceDwgIdeal.τ).loc Cert.ReferenceDwgIdeal.main_arg0)
          ∧ r.2.mem ((c.tc : Thread Cert.ReferenceDwgIdeal.nD Cert.ReferenceDwgIdeal.τ).loc Cert.ReferenceDwgIdeal.main_arg1) = m' ((c.tc : Thread Cert.ReferenceDwgIdeal.nD Cert.ReferenceDwgIdeal.τ).loc Cert.ReferenceDwgIdeal.main_arg1))

def preserves_KernelDwRetOut_KernelDwRetOutIdeal : Prop :=
  True

def algebraic_KernelDwRetOutIdeal_ReferenceDwRetOutIdeal [hKernelDwRetOutIdeal : Cert.KernelDwRetOutIdeal.Facts] [hReferenceDwRetOutIdeal : Cert.ReferenceDwRetOutIdeal.Facts] : Prop :=
  ∀ (m : (ℓ : Loc Cert.KernelDwRetOutIdeal.nD Cert.KernelDwRetOutIdeal.τ Cert.KernelDwRetOutIdeal.sig) → Buf (Elt Ideal) ℓ) (g : Dev Cert.KernelDwRetOutIdeal.nD → PrngReg)
    (m' : (ℓ : Loc Cert.ReferenceDwRetOutIdeal.nD Cert.ReferenceDwRetOutIdeal.τ Cert.ReferenceDwRetOutIdeal.sig) → Buf (Elt Ideal) ℓ) (g' : Dev Cert.ReferenceDwRetOutIdeal.nD → PrngReg), Pre_KernelDwRetOutIdeal m →
    (∀ c : Dev Cert.KernelDwRetOutIdeal.nD,
      m' ((c.tc : Thread Cert.ReferenceDwRetOutIdeal.nD Cert.ReferenceDwRetOutIdeal.τ).loc Cert.ReferenceDwRetOutIdeal.main_arg0) = m ((c.tc : Thread Cert.KernelDwRetOutIdeal.nD Cert.KernelDwRetOutIdeal.τ).loc Cert.KernelDwRetOutIdeal.main_arg0)
      ∧ m' ((c.tc : Thread Cert.ReferenceDwRetOutIdeal.nD Cert.ReferenceDwRetOutIdeal.τ).loc Cert.ReferenceDwRetOutIdeal.main_arg1) = m ((c.tc : Thread Cert.KernelDwRetOutIdeal.nD Cert.KernelDwRetOutIdeal.τ).loc Cert.KernelDwRetOutIdeal.main_arg1)) →
    ∃ (v0 : (c : Dev Cert.KernelDwRetOutIdeal.nD) → Buf (Elt Ideal) ((c.tc : Thread Cert.KernelDwRetOutIdeal.nD Cert.KernelDwRetOutIdeal.τ).loc Cert.KernelDwRetOutIdeal.main_v0)),
      θ_run (Cert.KernelDwRetOutIdeal.defs (F := Ideal)) (onTc (τ := Cert.KernelDwRetOutIdeal.τ) (Cert.KernelDwRetOutIdeal.main (F := Ideal))) ⟨m, fun _ => 0, g⟩ (fun r => ∀ c : Dev Cert.KernelDwRetOutIdeal.nD,
          r.2.mem ((c.tc : Thread Cert.KernelDwRetOutIdeal.nD Cert.KernelDwRetOutIdeal.τ).loc Cert.KernelDwRetOutIdeal.main_v0) = v0 c
          ∧ r.2.mem ((c.tc : Thread Cert.KernelDwRetOutIdeal.nD Cert.KernelDwRetOutIdeal.τ).loc Cert.KernelDwRetOutIdeal.main_arg0) = m ((c.tc : Thread Cert.KernelDwRetOutIdeal.nD Cert.KernelDwRetOutIdeal.τ).loc Cert.KernelDwRetOutIdeal.main_arg0)
          ∧ r.2.mem ((c.tc : Thread Cert.KernelDwRetOutIdeal.nD Cert.KernelDwRetOutIdeal.τ).loc Cert.KernelDwRetOutIdeal.main_arg1) = m ((c.tc : Thread Cert.KernelDwRetOutIdeal.nD Cert.KernelDwRetOutIdeal.τ).loc Cert.KernelDwRetOutIdeal.main_arg1))
      ∧ θ_run (Cert.ReferenceDwRetOutIdeal.defs (F := Ideal)) (onTc (τ := Cert.ReferenceDwRetOutIdeal.τ) (Cert.ReferenceDwRetOutIdeal.main (F := Ideal))) ⟨m', fun _ => 0, g'⟩ (fun r => ∀ c : Dev Cert.ReferenceDwRetOutIdeal.nD,
          r.2.mem ((c.tc : Thread Cert.ReferenceDwRetOutIdeal.nD Cert.ReferenceDwRetOutIdeal.τ).loc Cert.ReferenceDwRetOutIdeal.main_v5) = v0 c
          ∧ r.2.mem ((c.tc : Thread Cert.ReferenceDwRetOutIdeal.nD Cert.ReferenceDwRetOutIdeal.τ).loc Cert.ReferenceDwRetOutIdeal.main_arg0) = m' ((c.tc : Thread Cert.ReferenceDwRetOutIdeal.nD Cert.ReferenceDwRetOutIdeal.τ).loc Cert.ReferenceDwRetOutIdeal.main_arg0)
          ∧ r.2.mem ((c.tc : Thread Cert.ReferenceDwRetOutIdeal.nD Cert.ReferenceDwRetOutIdeal.τ).loc Cert.ReferenceDwRetOutIdeal.main_arg1) = m' ((c.tc : Thread Cert.ReferenceDwRetOutIdeal.nD Cert.ReferenceDwRetOutIdeal.τ).loc Cert.ReferenceDwRetOutIdeal.main_arg1))

def preserves_KernelDwConvOut_KernelDwConvOutIdeal : Prop :=
  True

def algebraic_KernelDwConvOutIdeal_ReferenceDwConvOutIdeal [hKernelDwConvOutIdeal : Cert.KernelDwConvOutIdeal.Facts] [hReferenceDwConvOutIdeal : Cert.ReferenceDwConvOutIdeal.Facts] : Prop :=
  ∀ (m : (ℓ : Loc Cert.KernelDwConvOutIdeal.nD Cert.KernelDwConvOutIdeal.τ Cert.KernelDwConvOutIdeal.sig) → Buf (Elt Ideal) ℓ) (g : Dev Cert.KernelDwConvOutIdeal.nD → PrngReg)
    (m' : (ℓ : Loc Cert.ReferenceDwConvOutIdeal.nD Cert.ReferenceDwConvOutIdeal.τ Cert.ReferenceDwConvOutIdeal.sig) → Buf (Elt Ideal) ℓ) (g' : Dev Cert.ReferenceDwConvOutIdeal.nD → PrngReg), Pre_KernelDwConvOutIdeal m →
    (∀ c : Dev Cert.KernelDwConvOutIdeal.nD,
      m' ((c.tc : Thread Cert.ReferenceDwConvOutIdeal.nD Cert.ReferenceDwConvOutIdeal.τ).loc Cert.ReferenceDwConvOutIdeal.main_arg0) = m ((c.tc : Thread Cert.KernelDwConvOutIdeal.nD Cert.KernelDwConvOutIdeal.τ).loc Cert.KernelDwConvOutIdeal.main_arg0)
      ∧ m' ((c.tc : Thread Cert.ReferenceDwConvOutIdeal.nD Cert.ReferenceDwConvOutIdeal.τ).loc Cert.ReferenceDwConvOutIdeal.main_arg1) = m ((c.tc : Thread Cert.KernelDwConvOutIdeal.nD Cert.KernelDwConvOutIdeal.τ).loc Cert.KernelDwConvOutIdeal.main_arg1)) →
    ∃ (v0 : (c : Dev Cert.KernelDwConvOutIdeal.nD) → Buf (Elt Ideal) ((c.tc : Thread Cert.KernelDwConvOutIdeal.nD Cert.KernelDwConvOutIdeal.τ).loc Cert.KernelDwConvOutIdeal.main_v0)),
      θ_run (Cert.KernelDwConvOutIdeal.defs (F := Ideal)) (onTc (τ := Cert.KernelDwConvOutIdeal.τ) (Cert.KernelDwConvOutIdeal.main (F := Ideal))) ⟨m, fun _ => 0, g⟩ (fun r => ∀ c : Dev Cert.KernelDwConvOutIdeal.nD,
          r.2.mem ((c.tc : Thread Cert.KernelDwConvOutIdeal.nD Cert.KernelDwConvOutIdeal.τ).loc Cert.KernelDwConvOutIdeal.main_v0) = v0 c
          ∧ r.2.mem ((c.tc : Thread Cert.KernelDwConvOutIdeal.nD Cert.KernelDwConvOutIdeal.τ).loc Cert.KernelDwConvOutIdeal.main_arg0) = m ((c.tc : Thread Cert.KernelDwConvOutIdeal.nD Cert.KernelDwConvOutIdeal.τ).loc Cert.KernelDwConvOutIdeal.main_arg0)
          ∧ r.2.mem ((c.tc : Thread Cert.KernelDwConvOutIdeal.nD Cert.KernelDwConvOutIdeal.τ).loc Cert.KernelDwConvOutIdeal.main_arg1) = m ((c.tc : Thread Cert.KernelDwConvOutIdeal.nD Cert.KernelDwConvOutIdeal.τ).loc Cert.KernelDwConvOutIdeal.main_arg1))
      ∧ θ_run (Cert.ReferenceDwConvOutIdeal.defs (F := Ideal)) (onTc (τ := Cert.ReferenceDwConvOutIdeal.τ) (Cert.ReferenceDwConvOutIdeal.main (F := Ideal))) ⟨m', fun _ => 0, g'⟩ (fun r => ∀ c : Dev Cert.ReferenceDwConvOutIdeal.nD,
          r.2.mem ((c.tc : Thread Cert.ReferenceDwConvOutIdeal.nD Cert.ReferenceDwConvOutIdeal.τ).loc Cert.ReferenceDwConvOutIdeal.main_v5) = v0 c
          ∧ r.2.mem ((c.tc : Thread Cert.ReferenceDwConvOutIdeal.nD Cert.ReferenceDwConvOutIdeal.τ).loc Cert.ReferenceDwConvOutIdeal.main_arg0) = m' ((c.tc : Thread Cert.ReferenceDwConvOutIdeal.nD Cert.ReferenceDwConvOutIdeal.τ).loc Cert.ReferenceDwConvOutIdeal.main_arg0)
          ∧ r.2.mem ((c.tc : Thread Cert.ReferenceDwConvOutIdeal.nD Cert.ReferenceDwConvOutIdeal.τ).loc Cert.ReferenceDwConvOutIdeal.main_arg1) = m' ((c.tc : Thread Cert.ReferenceDwConvOutIdeal.nD Cert.ReferenceDwConvOutIdeal.τ).loc Cert.ReferenceDwConvOutIdeal.main_arg1))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v5) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)
      ∧ m' ((c.tc : Thread Cert.ReferenceDhIdeal.nD Cert.ReferenceDhIdeal.τ).loc Cert.ReferenceDhIdeal.main_arg5) = m ((c.tc : Thread Cert.KernelDhIdeal.nD Cert.KernelDhIdeal.τ).loc Cert.KernelDhIdeal.main_arg5)
      ∧ m' ((c.tc : Thread Cert.ReferenceDhIdeal.nD Cert.ReferenceDhIdeal.τ).loc Cert.ReferenceDhIdeal.main_arg6) = m ((c.tc : Thread Cert.KernelDhIdeal.nD Cert.KernelDhIdeal.τ).loc Cert.KernelDhIdeal.main_arg6)
      ∧ m' ((c.tc : Thread Cert.ReferenceDhIdeal.nD Cert.ReferenceDhIdeal.τ).loc Cert.ReferenceDhIdeal.main_arg7) = m ((c.tc : Thread Cert.KernelDhIdeal.nD Cert.KernelDhIdeal.τ).loc Cert.KernelDhIdeal.main_arg7)) →
    ∃ (v0 : (c : Dev Cert.KernelDhIdeal.nD) → Buf (Elt Ideal) ((c.tc : Thread Cert.KernelDhIdeal.nD Cert.KernelDhIdeal.τ).loc Cert.KernelDhIdeal.main_v1_0)) (v1 : (c : Dev Cert.KernelDhIdeal.nD) → Buf (Elt Ideal) ((c.tc : Thread Cert.KernelDhIdeal.nD Cert.KernelDhIdeal.τ).loc Cert.KernelDhIdeal.main_v1_1)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v1_0) = v0 c
          ∧ r.2.mem ((c.tc : Thread Cert.KernelDhIdeal.nD Cert.KernelDhIdeal.τ).loc Cert.KernelDhIdeal.main_v1_1) = v1 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4)
          ∧ r.2.mem ((c.tc : Thread Cert.KernelDhIdeal.nD Cert.KernelDhIdeal.τ).loc Cert.KernelDhIdeal.main_arg5) = m ((c.tc : Thread Cert.KernelDhIdeal.nD Cert.KernelDhIdeal.τ).loc Cert.KernelDhIdeal.main_arg5)
          ∧ r.2.mem ((c.tc : Thread Cert.KernelDhIdeal.nD Cert.KernelDhIdeal.τ).loc Cert.KernelDhIdeal.main_arg6) = m ((c.tc : Thread Cert.KernelDhIdeal.nD Cert.KernelDhIdeal.τ).loc Cert.KernelDhIdeal.main_arg6)
          ∧ r.2.mem ((c.tc : Thread Cert.KernelDhIdeal.nD Cert.KernelDhIdeal.τ).loc Cert.KernelDhIdeal.main_arg7) = m ((c.tc : Thread Cert.KernelDhIdeal.nD Cert.KernelDhIdeal.τ).loc Cert.KernelDhIdeal.main_arg7))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v63) = v0 c
          ∧ r.2.mem ((c.tc : Thread Cert.ReferenceDhIdeal.nD Cert.ReferenceDhIdeal.τ).loc Cert.ReferenceDhIdeal.main_v65) = v1 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4)
          ∧ r.2.mem ((c.tc : Thread Cert.ReferenceDhIdeal.nD Cert.ReferenceDhIdeal.τ).loc Cert.ReferenceDhIdeal.main_arg5) = m' ((c.tc : Thread Cert.ReferenceDhIdeal.nD Cert.ReferenceDhIdeal.τ).loc Cert.ReferenceDhIdeal.main_arg5)
          ∧ r.2.mem ((c.tc : Thread Cert.ReferenceDhIdeal.nD Cert.ReferenceDhIdeal.τ).loc Cert.ReferenceDhIdeal.main_arg6) = m' ((c.tc : Thread Cert.ReferenceDhIdeal.nD Cert.ReferenceDhIdeal.τ).loc Cert.ReferenceDhIdeal.main_arg6)
          ∧ r.2.mem ((c.tc : Thread Cert.ReferenceDhIdeal.nD Cert.ReferenceDhIdeal.τ).loc Cert.ReferenceDhIdeal.main_arg7) = m' ((c.tc : Thread Cert.ReferenceDhIdeal.nD Cert.ReferenceDhIdeal.τ).loc Cert.ReferenceDhIdeal.main_arg7))

def preserves_KernelHead_KernelHeadIdeal : Prop :=
  True

def algebraic_KernelHeadIdeal_ReferenceHeadIdeal [hKernelHeadIdeal : Cert.KernelHeadIdeal.Facts] [hReferenceHeadIdeal : Cert.ReferenceHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)
      ∧ m' ((c.tc : Thread Cert.ReferenceHeadIdeal.nD Cert.ReferenceHeadIdeal.τ).loc Cert.ReferenceHeadIdeal.main_arg2) = m ((c.tc : Thread Cert.KernelHeadIdeal.nD Cert.KernelHeadIdeal.τ).loc Cert.KernelHeadIdeal.main_arg2)
      ∧ m' ((c.tc : Thread Cert.ReferenceHeadIdeal.nD Cert.ReferenceHeadIdeal.τ).loc Cert.ReferenceHeadIdeal.main_arg3) = m ((c.tc : Thread Cert.KernelHeadIdeal.nD Cert.KernelHeadIdeal.τ).loc Cert.KernelHeadIdeal.main_arg3)
      ∧ m' ((c.tc : Thread Cert.ReferenceHeadIdeal.nD Cert.ReferenceHeadIdeal.τ).loc Cert.ReferenceHeadIdeal.main_arg4) = m ((c.tc : Thread Cert.KernelHeadIdeal.nD Cert.KernelHeadIdeal.τ).loc Cert.KernelHeadIdeal.main_arg4)
      ∧ m' ((c.tc : Thread Cert.ReferenceHeadIdeal.nD Cert.ReferenceHeadIdeal.τ).loc Cert.ReferenceHeadIdeal.main_arg5) = m ((c.tc : Thread Cert.KernelHeadIdeal.nD Cert.KernelHeadIdeal.τ).loc Cert.KernelHeadIdeal.main_arg5)
      ∧ m' ((c.tc : Thread Cert.ReferenceHeadIdeal.nD Cert.ReferenceHeadIdeal.τ).loc Cert.ReferenceHeadIdeal.main_arg6) = m ((c.tc : Thread Cert.KernelHeadIdeal.nD Cert.KernelHeadIdeal.τ).loc Cert.KernelHeadIdeal.main_arg6)
      ∧ m' ((c.tc : Thread Cert.ReferenceHeadIdeal.nD Cert.ReferenceHeadIdeal.τ).loc Cert.ReferenceHeadIdeal.main_arg7) = m ((c.tc : Thread Cert.KernelHeadIdeal.nD Cert.KernelHeadIdeal.τ).loc Cert.KernelHeadIdeal.main_arg7)
      ∧ m' ((c.tc : Thread Cert.ReferenceHeadIdeal.nD Cert.ReferenceHeadIdeal.τ).loc Cert.ReferenceHeadIdeal.main_arg8) = m ((c.tc : Thread Cert.KernelHeadIdeal.nD Cert.KernelHeadIdeal.τ).loc Cert.KernelHeadIdeal.main_arg8)
      ∧ m' ((c.tc : Thread Cert.ReferenceHeadIdeal.nD Cert.ReferenceHeadIdeal.τ).loc Cert.ReferenceHeadIdeal.main_arg9) = m ((c.tc : Thread Cert.KernelHeadIdeal.nD Cert.KernelHeadIdeal.τ).loc Cert.KernelHeadIdeal.main_arg9)) →
    ∃ (v0 : (c : Dev Cert.KernelHeadIdeal.nD) → Buf (Elt Ideal) ((c.tc : Thread Cert.KernelHeadIdeal.nD Cert.KernelHeadIdeal.τ).loc Cert.KernelHeadIdeal.main_v3_0)) (v1 : (c : Dev Cert.KernelHeadIdeal.nD) → Buf (Elt Ideal) ((c.tc : Thread Cert.KernelHeadIdeal.nD Cert.KernelHeadIdeal.τ).loc Cert.KernelHeadIdeal.main_v3_1)) (v2 : (c : Dev Cert.KernelHeadIdeal.nD) → Buf (Elt Ideal) ((c.tc : Thread Cert.KernelHeadIdeal.nD Cert.KernelHeadIdeal.τ).loc Cert.KernelHeadIdeal.main_v3_2)) (v3 : (c : Dev Cert.KernelHeadIdeal.nD) → Buf (Elt Ideal) ((c.tc : Thread Cert.KernelHeadIdeal.nD Cert.KernelHeadIdeal.τ).loc Cert.KernelHeadIdeal.main_v3_3)) (v4 : (c : Dev Cert.KernelHeadIdeal.nD) → Buf (Elt Ideal) ((c.tc : Thread Cert.KernelHeadIdeal.nD Cert.KernelHeadIdeal.τ).loc Cert.KernelHeadIdeal.main_v3_4)) (v5 : (c : Dev Cert.KernelHeadIdeal.nD) → Buf (Elt Ideal) ((c.tc : Thread Cert.KernelHeadIdeal.nD Cert.KernelHeadIdeal.τ).loc Cert.KernelHeadIdeal.main_v3_5)) (v6 : (c : Dev Cert.KernelHeadIdeal.nD) → Buf (Elt Ideal) ((c.tc : Thread Cert.KernelHeadIdeal.nD Cert.KernelHeadIdeal.τ).loc Cert.KernelHeadIdeal.main_v3_6)) (v7 : (c : Dev Cert.KernelHeadIdeal.nD) → Buf (Elt Ideal) ((c.tc : Thread Cert.KernelHeadIdeal.nD Cert.KernelHeadIdeal.τ).loc Cert.KernelHeadIdeal.main_v3_7)) (v8 : (c : Dev Cert.KernelHeadIdeal.nD) → Buf (Elt Ideal) ((c.tc : Thread Cert.KernelHeadIdeal.nD Cert.KernelHeadIdeal.τ).loc Cert.KernelHeadIdeal.main_v3_8)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v3_0) = v0 c
          ∧ r.2.mem ((c.tc : Thread Cert.KernelHeadIdeal.nD Cert.KernelHeadIdeal.τ).loc Cert.KernelHeadIdeal.main_v3_1) = v1 c
          ∧ r.2.mem ((c.tc : Thread Cert.KernelHeadIdeal.nD Cert.KernelHeadIdeal.τ).loc Cert.KernelHeadIdeal.main_v3_2) = v2 c
          ∧ r.2.mem ((c.tc : Thread Cert.KernelHeadIdeal.nD Cert.KernelHeadIdeal.τ).loc Cert.KernelHeadIdeal.main_v3_3) = v3 c
          ∧ r.2.mem ((c.tc : Thread Cert.KernelHeadIdeal.nD Cert.KernelHeadIdeal.τ).loc Cert.KernelHeadIdeal.main_v3_4) = v4 c
          ∧ r.2.mem ((c.tc : Thread Cert.KernelHeadIdeal.nD Cert.KernelHeadIdeal.τ).loc Cert.KernelHeadIdeal.main_v3_5) = v5 c
          ∧ r.2.mem ((c.tc : Thread Cert.KernelHeadIdeal.nD Cert.KernelHeadIdeal.τ).loc Cert.KernelHeadIdeal.main_v3_6) = v6 c
          ∧ r.2.mem ((c.tc : Thread Cert.KernelHeadIdeal.nD Cert.KernelHeadIdeal.τ).loc Cert.KernelHeadIdeal.main_v3_7) = v7 c
          ∧ r.2.mem ((c.tc : Thread Cert.KernelHeadIdeal.nD Cert.KernelHeadIdeal.τ).loc Cert.KernelHeadIdeal.main_v3_8) = v8 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3)
          ∧ r.2.mem ((c.tc : Thread Cert.KernelHeadIdeal.nD Cert.KernelHeadIdeal.τ).loc Cert.KernelHeadIdeal.main_arg4) = m ((c.tc : Thread Cert.KernelHeadIdeal.nD Cert.KernelHeadIdeal.τ).loc Cert.KernelHeadIdeal.main_arg4)
          ∧ r.2.mem ((c.tc : Thread Cert.KernelHeadIdeal.nD Cert.KernelHeadIdeal.τ).loc Cert.KernelHeadIdeal.main_arg5) = m ((c.tc : Thread Cert.KernelHeadIdeal.nD Cert.KernelHeadIdeal.τ).loc Cert.KernelHeadIdeal.main_arg5)
          ∧ r.2.mem ((c.tc : Thread Cert.KernelHeadIdeal.nD Cert.KernelHeadIdeal.τ).loc Cert.KernelHeadIdeal.main_arg6) = m ((c.tc : Thread Cert.KernelHeadIdeal.nD Cert.KernelHeadIdeal.τ).loc Cert.KernelHeadIdeal.main_arg6)
          ∧ r.2.mem ((c.tc : Thread Cert.KernelHeadIdeal.nD Cert.KernelHeadIdeal.τ).loc Cert.KernelHeadIdeal.main_arg7) = m ((c.tc : Thread Cert.KernelHeadIdeal.nD Cert.KernelHeadIdeal.τ).loc Cert.KernelHeadIdeal.main_arg7)
          ∧ r.2.mem ((c.tc : Thread Cert.KernelHeadIdeal.nD Cert.KernelHeadIdeal.τ).loc Cert.KernelHeadIdeal.main_arg8) = m ((c.tc : Thread Cert.KernelHeadIdeal.nD Cert.KernelHeadIdeal.τ).loc Cert.KernelHeadIdeal.main_arg8)
          ∧ r.2.mem ((c.tc : Thread Cert.KernelHeadIdeal.nD Cert.KernelHeadIdeal.τ).loc Cert.KernelHeadIdeal.main_arg9) = m ((c.tc : Thread Cert.KernelHeadIdeal.nD Cert.KernelHeadIdeal.τ).loc Cert.KernelHeadIdeal.main_arg9))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v60) = v0 c
          ∧ r.2.mem ((c.tc : Thread Cert.ReferenceHeadIdeal.nD Cert.ReferenceHeadIdeal.τ).loc Cert.ReferenceHeadIdeal.main_v96) = v1 c
          ∧ r.2.mem ((c.tc : Thread Cert.ReferenceHeadIdeal.nD Cert.ReferenceHeadIdeal.τ).loc Cert.ReferenceHeadIdeal.main_v97) = v2 c
          ∧ r.2.mem ((c.tc : Thread Cert.ReferenceHeadIdeal.nD Cert.ReferenceHeadIdeal.τ).loc Cert.ReferenceHeadIdeal.main_v98) = v3 c
          ∧ r.2.mem ((c.tc : Thread Cert.ReferenceHeadIdeal.nD Cert.ReferenceHeadIdeal.τ).loc Cert.ReferenceHeadIdeal.main_v99) = v4 c
          ∧ r.2.mem ((c.tc : Thread Cert.ReferenceHeadIdeal.nD Cert.ReferenceHeadIdeal.τ).loc Cert.ReferenceHeadIdeal.main_v100) = v5 c
          ∧ r.2.mem ((c.tc : Thread Cert.ReferenceHeadIdeal.nD Cert.ReferenceHeadIdeal.τ).loc Cert.ReferenceHeadIdeal.main_v101) = v6 c
          ∧ r.2.mem ((c.tc : Thread Cert.ReferenceHeadIdeal.nD Cert.ReferenceHeadIdeal.τ).loc Cert.ReferenceHeadIdeal.main_v102) = v7 c
          ∧ r.2.mem ((c.tc : Thread Cert.ReferenceHeadIdeal.nD Cert.ReferenceHeadIdeal.τ).loc Cert.ReferenceHeadIdeal.main_v94) = v8 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1)
          ∧ r.2.mem ((c.tc : Thread Cert.ReferenceHeadIdeal.nD Cert.ReferenceHeadIdeal.τ).loc Cert.ReferenceHeadIdeal.main_arg2) = m' ((c.tc : Thread Cert.ReferenceHeadIdeal.nD Cert.ReferenceHeadIdeal.τ).loc Cert.ReferenceHeadIdeal.main_arg2)
          ∧ r.2.mem ((c.tc : Thread Cert.ReferenceHeadIdeal.nD Cert.ReferenceHeadIdeal.τ).loc Cert.ReferenceHeadIdeal.main_arg3) = m' ((c.tc : Thread Cert.ReferenceHeadIdeal.nD Cert.ReferenceHeadIdeal.τ).loc Cert.ReferenceHeadIdeal.main_arg3)
          ∧ r.2.mem ((c.tc : Thread Cert.ReferenceHeadIdeal.nD Cert.ReferenceHeadIdeal.τ).loc Cert.ReferenceHeadIdeal.main_arg4) = m' ((c.tc : Thread Cert.ReferenceHeadIdeal.nD Cert.ReferenceHeadIdeal.τ).loc Cert.ReferenceHeadIdeal.main_arg4)
          ∧ r.2.mem ((c.tc : Thread Cert.ReferenceHeadIdeal.nD Cert.ReferenceHeadIdeal.τ).loc Cert.ReferenceHeadIdeal.main_arg5) = m' ((c.tc : Thread Cert.ReferenceHeadIdeal.nD Cert.ReferenceHeadIdeal.τ).loc Cert.ReferenceHeadIdeal.main_arg5)
          ∧ r.2.mem ((c.tc : Thread Cert.ReferenceHeadIdeal.nD Cert.ReferenceHeadIdeal.τ).loc Cert.ReferenceHeadIdeal.main_arg6) = m' ((c.tc : Thread Cert.ReferenceHeadIdeal.nD Cert.ReferenceHeadIdeal.τ).loc Cert.ReferenceHeadIdeal.main_arg6)
          ∧ r.2.mem ((c.tc : Thread Cert.ReferenceHeadIdeal.nD Cert.ReferenceHeadIdeal.τ).loc Cert.ReferenceHeadIdeal.main_arg7) = m' ((c.tc : Thread Cert.ReferenceHeadIdeal.nD Cert.ReferenceHeadIdeal.τ).loc Cert.ReferenceHeadIdeal.main_arg7)
          ∧ r.2.mem ((c.tc : Thread Cert.ReferenceHeadIdeal.nD Cert.ReferenceHeadIdeal.τ).loc Cert.ReferenceHeadIdeal.main_arg8) = m' ((c.tc : Thread Cert.ReferenceHeadIdeal.nD Cert.ReferenceHeadIdeal.τ).loc Cert.ReferenceHeadIdeal.main_arg8)
          ∧ r.2.mem ((c.tc : Thread Cert.ReferenceHeadIdeal.nD Cert.ReferenceHeadIdeal.τ).loc Cert.ReferenceHeadIdeal.main_arg9) = m' ((c.tc : Thread Cert.ReferenceHeadIdeal.nD Cert.ReferenceHeadIdeal.τ).loc Cert.ReferenceHeadIdeal.main_arg9))

def preserves_KernelSumSmall_KernelSumSmallIdeal : Prop :=
  True

def algebraic_KernelSumSmallIdeal_ReferenceSumSmallIdeal [hKernelSumSmallIdeal : Cert.KernelSumSmallIdeal.Facts] [hReferenceSumSmallIdeal : Cert.ReferenceSumSmallIdeal.Facts] : Prop :=
  ∀ (m : (ℓ : Loc Cert.KernelSumSmallIdeal.nD Cert.KernelSumSmallIdeal.τ Cert.KernelSumSmallIdeal.sig) → Buf (Elt Ideal) ℓ) (g : Dev Cert.KernelSumSmallIdeal.nD → PrngReg)
    (m' : (ℓ : Loc Cert.ReferenceSumSmallIdeal.nD Cert.ReferenceSumSmallIdeal.τ Cert.ReferenceSumSmallIdeal.sig) → Buf (Elt Ideal) ℓ) (g' : Dev Cert.ReferenceSumSmallIdeal.nD → PrngReg), Pre_KernelSumSmallIdeal m →
    (∀ c : Dev Cert.KernelSumSmallIdeal.nD,
      m' ((c.tc : Thread Cert.ReferenceSumSmallIdeal.nD Cert.ReferenceSumSmallIdeal.τ).loc Cert.ReferenceSumSmallIdeal.main_arg0) = m ((c.tc : Thread Cert.KernelSumSmallIdeal.nD Cert.KernelSumSmallIdeal.τ).loc Cert.KernelSumSmallIdeal.main_arg0)) →
    ∃ (v0 : (c : Dev Cert.KernelSumSmallIdeal.nD) → Buf (Elt Ideal) ((c.tc : Thread Cert.KernelSumSmallIdeal.nD Cert.KernelSumSmallIdeal.τ).loc Cert.KernelSumSmallIdeal.main_v0)),
      θ_run (Cert.KernelSumSmallIdeal.defs (F := Ideal)) (onTc (τ := Cert.KernelSumSmallIdeal.τ) (Cert.KernelSumSmallIdeal.main (F := Ideal))) ⟨m, fun _ => 0, g⟩ (fun r => ∀ c : Dev Cert.KernelSumSmallIdeal.nD,
          r.2.mem ((c.tc : Thread Cert.KernelSumSmallIdeal.nD Cert.KernelSumSmallIdeal.τ).loc Cert.KernelSumSmallIdeal.main_v0) = v0 c
          ∧ r.2.mem ((c.tc : Thread Cert.KernelSumSmallIdeal.nD Cert.KernelSumSmallIdeal.τ).loc Cert.KernelSumSmallIdeal.main_arg0) = m ((c.tc : Thread Cert.KernelSumSmallIdeal.nD Cert.KernelSumSmallIdeal.τ).loc Cert.KernelSumSmallIdeal.main_arg0))
      ∧ θ_run (Cert.ReferenceSumSmallIdeal.defs (F := Ideal)) (onTc (τ := Cert.ReferenceSumSmallIdeal.τ) (Cert.ReferenceSumSmallIdeal.main (F := Ideal))) ⟨m', fun _ => 0, g'⟩ (fun r => ∀ c : Dev Cert.ReferenceSumSmallIdeal.nD,
          r.2.mem ((c.tc : Thread Cert.ReferenceSumSmallIdeal.nD Cert.ReferenceSumSmallIdeal.τ).loc Cert.ReferenceSumSmallIdeal.main_v0) = v0 c
          ∧ r.2.mem ((c.tc : Thread Cert.ReferenceSumSmallIdeal.nD Cert.ReferenceSumSmallIdeal.τ).loc Cert.ReferenceSumSmallIdeal.main_arg0) = m' ((c.tc : Thread Cert.ReferenceSumSmallIdeal.nD Cert.ReferenceSumSmallIdeal.τ).loc Cert.ReferenceSumSmallIdeal.main_arg0))

def preserves_KernelSumConvW_KernelSumConvWIdeal : Prop :=
  True

def algebraic_KernelSumConvWIdeal_ReferenceSumConvWIdeal [hKernelSumConvWIdeal : Cert.KernelSumConvWIdeal.Facts] [hReferenceSumConvWIdeal : Cert.ReferenceSumConvWIdeal.Facts] : Prop :=
  ∀ (m : (ℓ : Loc Cert.KernelSumConvWIdeal.nD Cert.KernelSumConvWIdeal.τ Cert.KernelSumConvWIdeal.sig) → Buf (Elt Ideal) ℓ) (g : Dev Cert.KernelSumConvWIdeal.nD → PrngReg)
    (m' : (ℓ : Loc Cert.ReferenceSumConvWIdeal.nD Cert.ReferenceSumConvWIdeal.τ Cert.ReferenceSumConvWIdeal.sig) → Buf (Elt Ideal) ℓ) (g' : Dev Cert.ReferenceSumConvWIdeal.nD → PrngReg), Pre_KernelSumConvWIdeal m →
    (∀ c : Dev Cert.KernelSumConvWIdeal.nD,
      m' ((c.tc : Thread Cert.ReferenceSumConvWIdeal.nD Cert.ReferenceSumConvWIdeal.τ).loc Cert.ReferenceSumConvWIdeal.main_arg0) = m ((c.tc : Thread Cert.KernelSumConvWIdeal.nD Cert.KernelSumConvWIdeal.τ).loc Cert.KernelSumConvWIdeal.main_arg0)) →
    ∃ (v0 : (c : Dev Cert.KernelSumConvWIdeal.nD) → Buf (Elt Ideal) ((c.tc : Thread Cert.KernelSumConvWIdeal.nD Cert.KernelSumConvWIdeal.τ).loc Cert.KernelSumConvWIdeal.main_v0)),
      θ_run (Cert.KernelSumConvWIdeal.defs (F := Ideal)) (onTc (τ := Cert.KernelSumConvWIdeal.τ) (Cert.KernelSumConvWIdeal.main (F := Ideal))) ⟨m, fun _ => 0, g⟩ (fun r => ∀ c : Dev Cert.KernelSumConvWIdeal.nD,
          r.2.mem ((c.tc : Thread Cert.KernelSumConvWIdeal.nD Cert.KernelSumConvWIdeal.τ).loc Cert.KernelSumConvWIdeal.main_v0) = v0 c
          ∧ r.2.mem ((c.tc : Thread Cert.KernelSumConvWIdeal.nD Cert.KernelSumConvWIdeal.τ).loc Cert.KernelSumConvWIdeal.main_arg0) = m ((c.tc : Thread Cert.KernelSumConvWIdeal.nD Cert.KernelSumConvWIdeal.τ).loc Cert.KernelSumConvWIdeal.main_arg0))
      ∧ θ_run (Cert.ReferenceSumConvWIdeal.defs (F := Ideal)) (onTc (τ := Cert.ReferenceSumConvWIdeal.τ) (Cert.ReferenceSumConvWIdeal.main (F := Ideal))) ⟨m', fun _ => 0, g'⟩ (fun r => ∀ c : Dev Cert.ReferenceSumConvWIdeal.nD,
          r.2.mem ((c.tc : Thread Cert.ReferenceSumConvWIdeal.nD Cert.ReferenceSumConvWIdeal.τ).loc Cert.ReferenceSumConvWIdeal.main_v0) = v0 c
          ∧ r.2.mem ((c.tc : Thread Cert.ReferenceSumConvWIdeal.nD Cert.ReferenceSumConvWIdeal.τ).loc Cert.ReferenceSumConvWIdeal.main_arg0) = m' ((c.tc : Thread Cert.ReferenceSumConvWIdeal.nD Cert.ReferenceSumConvWIdeal.τ).loc Cert.ReferenceSumConvWIdeal.main_arg0))

def preserves_KernelGradWAda_KernelGradWAdaIdeal : Prop :=
  True

def algebraic_KernelGradWAdaIdeal_ReferenceGradWAdaIdeal [hKernelGradWAdaIdeal : Cert.KernelGradWAdaIdeal.Facts] [hReferenceGradWAdaIdeal : Cert.ReferenceGradWAdaIdeal.Facts] : Prop :=
  ∀ (m : (ℓ : Loc Cert.KernelGradWAdaIdeal.nD Cert.KernelGradWAdaIdeal.τ Cert.KernelGradWAdaIdeal.sig) → Buf (Elt Ideal) ℓ) (g : Dev Cert.KernelGradWAdaIdeal.nD → PrngReg)
    (m' : (ℓ : Loc Cert.ReferenceGradWAdaIdeal.nD Cert.ReferenceGradWAdaIdeal.τ Cert.ReferenceGradWAdaIdeal.sig) → Buf (Elt Ideal) ℓ) (g' : Dev Cert.ReferenceGradWAdaIdeal.nD → PrngReg), Pre_KernelGradWAdaIdeal m →
    (∀ c : Dev Cert.KernelGradWAdaIdeal.nD,
      m' ((c.tc : Thread Cert.ReferenceGradWAdaIdeal.nD Cert.ReferenceGradWAdaIdeal.τ).loc Cert.ReferenceGradWAdaIdeal.main_arg0) = m ((c.tc : Thread Cert.KernelGradWAdaIdeal.nD Cert.KernelGradWAdaIdeal.τ).loc Cert.KernelGradWAdaIdeal.main_arg0)
      ∧ m' ((c.tc : Thread Cert.ReferenceGradWAdaIdeal.nD Cert.ReferenceGradWAdaIdeal.τ).loc Cert.ReferenceGradWAdaIdeal.main_arg1) = m ((c.tc : Thread Cert.KernelGradWAdaIdeal.nD Cert.KernelGradWAdaIdeal.τ).loc Cert.KernelGradWAdaIdeal.main_arg1)) →
    ∃ (v0 : (c : Dev Cert.KernelGradWAdaIdeal.nD) → Buf (Elt Ideal) ((c.tc : Thread Cert.KernelGradWAdaIdeal.nD Cert.KernelGradWAdaIdeal.τ).loc Cert.KernelGradWAdaIdeal.main_v1)),
      θ_run (Cert.KernelGradWAdaIdeal.defs (F := Ideal)) (onTc (τ := Cert.KernelGradWAdaIdeal.τ) (Cert.KernelGradWAdaIdeal.main (F := Ideal))) ⟨m, fun _ => 0, g⟩ (fun r => ∀ c : Dev Cert.KernelGradWAdaIdeal.nD,
          r.2.mem ((c.tc : Thread Cert.KernelGradWAdaIdeal.nD Cert.KernelGradWAdaIdeal.τ).loc Cert.KernelGradWAdaIdeal.main_v1) = v0 c
          ∧ r.2.mem ((c.tc : Thread Cert.KernelGradWAdaIdeal.nD Cert.KernelGradWAdaIdeal.τ).loc Cert.KernelGradWAdaIdeal.main_arg0) = m ((c.tc : Thread Cert.KernelGradWAdaIdeal.nD Cert.KernelGradWAdaIdeal.τ).loc Cert.KernelGradWAdaIdeal.main_arg0)
          ∧ r.2.mem ((c.tc : Thread Cert.KernelGradWAdaIdeal.nD Cert.KernelGradWAdaIdeal.τ).loc Cert.KernelGradWAdaIdeal.main_arg1) = m ((c.tc : Thread Cert.KernelGradWAdaIdeal.nD Cert.KernelGradWAdaIdeal.τ).loc Cert.KernelGradWAdaIdeal.main_arg1))
      ∧ θ_run (Cert.ReferenceGradWAdaIdeal.defs (F := Ideal)) (onTc (τ := Cert.ReferenceGradWAdaIdeal.τ) (Cert.ReferenceGradWAdaIdeal.main (F := Ideal))) ⟨m', fun _ => 0, g'⟩ (fun r => ∀ c : Dev Cert.ReferenceGradWAdaIdeal.nD,
          r.2.mem ((c.tc : Thread Cert.ReferenceGradWAdaIdeal.nD Cert.ReferenceGradWAdaIdeal.τ).loc Cert.ReferenceGradWAdaIdeal.main_v3) = v0 c
          ∧ r.2.mem ((c.tc : Thread Cert.ReferenceGradWAdaIdeal.nD Cert.ReferenceGradWAdaIdeal.τ).loc Cert.ReferenceGradWAdaIdeal.main_arg0) = m' ((c.tc : Thread Cert.ReferenceGradWAdaIdeal.nD Cert.ReferenceGradWAdaIdeal.τ).loc Cert.ReferenceGradWAdaIdeal.main_arg0)
          ∧ r.2.mem ((c.tc : Thread Cert.ReferenceGradWAdaIdeal.nD Cert.ReferenceGradWAdaIdeal.τ).loc Cert.ReferenceGradWAdaIdeal.main_arg1) = m' ((c.tc : Thread Cert.ReferenceGradWAdaIdeal.nD Cert.ReferenceGradWAdaIdeal.τ).loc Cert.ReferenceGradWAdaIdeal.main_arg1))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelAdamConvW_KernelAdamConvWIdeal : Prop :=
  True

def algebraic_KernelAdamConvWIdeal_ReferenceAdamConvWIdeal [hKernelAdamConvWIdeal : Cert.KernelAdamConvWIdeal.Facts] [hReferenceAdamConvWIdeal : Cert.ReferenceAdamConvWIdeal.Facts] : Prop :=
  ∀ (m : (ℓ : Loc Cert.KernelAdamConvWIdeal.nD Cert.KernelAdamConvWIdeal.τ Cert.KernelAdamConvWIdeal.sig) → Buf (Elt Ideal) ℓ) (g : Dev Cert.KernelAdamConvWIdeal.nD → PrngReg)
    (m' : (ℓ : Loc Cert.ReferenceAdamConvWIdeal.nD Cert.ReferenceAdamConvWIdeal.τ Cert.ReferenceAdamConvWIdeal.sig) → Buf (Elt Ideal) ℓ) (g' : Dev Cert.ReferenceAdamConvWIdeal.nD → PrngReg), Pre_KernelAdamConvWIdeal m →
    (∀ c : Dev Cert.KernelAdamConvWIdeal.nD,
      m' ((c.tc : Thread Cert.ReferenceAdamConvWIdeal.nD Cert.ReferenceAdamConvWIdeal.τ).loc Cert.ReferenceAdamConvWIdeal.main_arg0) = m ((c.tc : Thread Cert.KernelAdamConvWIdeal.nD Cert.KernelAdamConvWIdeal.τ).loc Cert.KernelAdamConvWIdeal.main_arg0)
      ∧ m' ((c.tc : Thread Cert.ReferenceAdamConvWIdeal.nD Cert.ReferenceAdamConvWIdeal.τ).loc Cert.ReferenceAdamConvWIdeal.main_arg1) = m ((c.tc : Thread Cert.KernelAdamConvWIdeal.nD Cert.KernelAdamConvWIdeal.τ).loc Cert.KernelAdamConvWIdeal.main_arg1)
      ∧ m' ((c.tc : Thread Cert.ReferenceAdamConvWIdeal.nD Cert.ReferenceAdamConvWIdeal.τ).loc Cert.ReferenceAdamConvWIdeal.main_arg2) = m ((c.tc : Thread Cert.KernelAdamConvWIdeal.nD Cert.KernelAdamConvWIdeal.τ).loc Cert.KernelAdamConvWIdeal.main_arg2)
      ∧ m' ((c.tc : Thread Cert.ReferenceAdamConvWIdeal.nD Cert.ReferenceAdamConvWIdeal.τ).loc Cert.ReferenceAdamConvWIdeal.main_arg3) = m ((c.tc : Thread Cert.KernelAdamConvWIdeal.nD Cert.KernelAdamConvWIdeal.τ).loc Cert.KernelAdamConvWIdeal.main_arg3)) →
    ∃ (v0 : (c : Dev Cert.KernelAdamConvWIdeal.nD) → Buf (Elt Ideal) ((c.tc : Thread Cert.KernelAdamConvWIdeal.nD Cert.KernelAdamConvWIdeal.τ).loc Cert.KernelAdamConvWIdeal.main_v0_0)) (v1 : (c : Dev Cert.KernelAdamConvWIdeal.nD) → Buf (Elt Ideal) ((c.tc : Thread Cert.KernelAdamConvWIdeal.nD Cert.KernelAdamConvWIdeal.τ).loc Cert.KernelAdamConvWIdeal.main_v0_1)) (v2 : (c : Dev Cert.KernelAdamConvWIdeal.nD) → Buf (Elt Ideal) ((c.tc : Thread Cert.KernelAdamConvWIdeal.nD Cert.KernelAdamConvWIdeal.τ).loc Cert.KernelAdamConvWIdeal.main_v0_2)),
      θ_run (Cert.KernelAdamConvWIdeal.defs (F := Ideal)) (onTc (τ := Cert.KernelAdamConvWIdeal.τ) (Cert.KernelAdamConvWIdeal.main (F := Ideal))) ⟨m, fun _ => 0, g⟩ (fun r => ∀ c : Dev Cert.KernelAdamConvWIdeal.nD,
          r.2.mem ((c.tc : Thread Cert.KernelAdamConvWIdeal.nD Cert.KernelAdamConvWIdeal.τ).loc Cert.KernelAdamConvWIdeal.main_v0_0) = v0 c
          ∧ r.2.mem ((c.tc : Thread Cert.KernelAdamConvWIdeal.nD Cert.KernelAdamConvWIdeal.τ).loc Cert.KernelAdamConvWIdeal.main_v0_1) = v1 c
          ∧ r.2.mem ((c.tc : Thread Cert.KernelAdamConvWIdeal.nD Cert.KernelAdamConvWIdeal.τ).loc Cert.KernelAdamConvWIdeal.main_v0_2) = v2 c
          ∧ r.2.mem ((c.tc : Thread Cert.KernelAdamConvWIdeal.nD Cert.KernelAdamConvWIdeal.τ).loc Cert.KernelAdamConvWIdeal.main_arg0) = m ((c.tc : Thread Cert.KernelAdamConvWIdeal.nD Cert.KernelAdamConvWIdeal.τ).loc Cert.KernelAdamConvWIdeal.main_arg0)
          ∧ r.2.mem ((c.tc : Thread Cert.KernelAdamConvWIdeal.nD Cert.KernelAdamConvWIdeal.τ).loc Cert.KernelAdamConvWIdeal.main_arg1) = m ((c.tc : Thread Cert.KernelAdamConvWIdeal.nD Cert.KernelAdamConvWIdeal.τ).loc Cert.KernelAdamConvWIdeal.main_arg1)
          ∧ r.2.mem ((c.tc : Thread Cert.KernelAdamConvWIdeal.nD Cert.KernelAdamConvWIdeal.τ).loc Cert.KernelAdamConvWIdeal.main_arg2) = m ((c.tc : Thread Cert.KernelAdamConvWIdeal.nD Cert.KernelAdamConvWIdeal.τ).loc Cert.KernelAdamConvWIdeal.main_arg2)
          ∧ r.2.mem ((c.tc : Thread Cert.KernelAdamConvWIdeal.nD Cert.KernelAdamConvWIdeal.τ).loc Cert.KernelAdamConvWIdeal.main_arg3) = m ((c.tc : Thread Cert.KernelAdamConvWIdeal.nD Cert.KernelAdamConvWIdeal.τ).loc Cert.KernelAdamConvWIdeal.main_arg3))
      ∧ θ_run (Cert.ReferenceAdamConvWIdeal.defs (F := Ideal)) (onTc (τ := Cert.ReferenceAdamConvWIdeal.τ) (Cert.ReferenceAdamConvWIdeal.main (F := Ideal))) ⟨m', fun _ => 0, g'⟩ (fun r => ∀ c : Dev Cert.ReferenceAdamConvWIdeal.nD,
          r.2.mem ((c.tc : Thread Cert.ReferenceAdamConvWIdeal.nD Cert.ReferenceAdamConvWIdeal.τ).loc Cert.ReferenceAdamConvWIdeal.main_v23) = v0 c
          ∧ r.2.mem ((c.tc : Thread Cert.ReferenceAdamConvWIdeal.nD Cert.ReferenceAdamConvWIdeal.τ).loc Cert.ReferenceAdamConvWIdeal.main_v4) = v1 c
          ∧ r.2.mem ((c.tc : Thread Cert.ReferenceAdamConvWIdeal.nD Cert.ReferenceAdamConvWIdeal.τ).loc Cert.ReferenceAdamConvWIdeal.main_v10) = v2 c
          ∧ r.2.mem ((c.tc : Thread Cert.ReferenceAdamConvWIdeal.nD Cert.ReferenceAdamConvWIdeal.τ).loc Cert.ReferenceAdamConvWIdeal.main_arg0) = m' ((c.tc : Thread Cert.ReferenceAdamConvWIdeal.nD Cert.ReferenceAdamConvWIdeal.τ).loc Cert.ReferenceAdamConvWIdeal.main_arg0)
          ∧ r.2.mem ((c.tc : Thread Cert.ReferenceAdamConvWIdeal.nD Cert.ReferenceAdamConvWIdeal.τ).loc Cert.ReferenceAdamConvWIdeal.main_arg1) = m' ((c.tc : Thread Cert.ReferenceAdamConvWIdeal.nD Cert.ReferenceAdamConvWIdeal.τ).loc Cert.ReferenceAdamConvWIdeal.main_arg1)
          ∧ r.2.mem ((c.tc : Thread Cert.ReferenceAdamConvWIdeal.nD Cert.ReferenceAdamConvWIdeal.τ).loc Cert.ReferenceAdamConvWIdeal.main_arg2) = m' ((c.tc : Thread Cert.ReferenceAdamConvWIdeal.nD Cert.ReferenceAdamConvWIdeal.τ).loc Cert.ReferenceAdamConvWIdeal.main_arg2)
          ∧ r.2.mem ((c.tc : Thread Cert.ReferenceAdamConvWIdeal.nD Cert.ReferenceAdamConvWIdeal.τ).loc Cert.ReferenceAdamConvWIdeal.main_arg3) = m' ((c.tc : Thread Cert.ReferenceAdamConvWIdeal.nD Cert.ReferenceAdamConvWIdeal.τ).loc Cert.ReferenceAdamConvWIdeal.main_arg3))

def preserves_KernelAdamWAda_KernelAdamWAdaIdeal : Prop :=
  True

def algebraic_KernelAdamWAdaIdeal_ReferenceAdamWAdaIdeal [hKernelAdamWAdaIdeal : Cert.KernelAdamWAdaIdeal.Facts] [hReferenceAdamWAdaIdeal : Cert.ReferenceAdamWAdaIdeal.Facts] : Prop :=
  ∀ (m : (ℓ : Loc Cert.KernelAdamWAdaIdeal.nD Cert.KernelAdamWAdaIdeal.τ Cert.KernelAdamWAdaIdeal.sig) → Buf (Elt Ideal) ℓ) (g : Dev Cert.KernelAdamWAdaIdeal.nD → PrngReg)
    (m' : (ℓ : Loc Cert.ReferenceAdamWAdaIdeal.nD Cert.ReferenceAdamWAdaIdeal.τ Cert.ReferenceAdamWAdaIdeal.sig) → Buf (Elt Ideal) ℓ) (g' : Dev Cert.ReferenceAdamWAdaIdeal.nD → PrngReg), Pre_KernelAdamWAdaIdeal m →
    (∀ c : Dev Cert.KernelAdamWAdaIdeal.nD,
      m' ((c.tc : Thread Cert.ReferenceAdamWAdaIdeal.nD Cert.ReferenceAdamWAdaIdeal.τ).loc Cert.ReferenceAdamWAdaIdeal.main_arg0) = m ((c.tc : Thread Cert.KernelAdamWAdaIdeal.nD Cert.KernelAdamWAdaIdeal.τ).loc Cert.KernelAdamWAdaIdeal.main_arg0)
      ∧ m' ((c.tc : Thread Cert.ReferenceAdamWAdaIdeal.nD Cert.ReferenceAdamWAdaIdeal.τ).loc Cert.ReferenceAdamWAdaIdeal.main_arg1) = m ((c.tc : Thread Cert.KernelAdamWAdaIdeal.nD Cert.KernelAdamWAdaIdeal.τ).loc Cert.KernelAdamWAdaIdeal.main_arg1)
      ∧ m' ((c.tc : Thread Cert.ReferenceAdamWAdaIdeal.nD Cert.ReferenceAdamWAdaIdeal.τ).loc Cert.ReferenceAdamWAdaIdeal.main_arg2) = m ((c.tc : Thread Cert.KernelAdamWAdaIdeal.nD Cert.KernelAdamWAdaIdeal.τ).loc Cert.KernelAdamWAdaIdeal.main_arg2)
      ∧ m' ((c.tc : Thread Cert.ReferenceAdamWAdaIdeal.nD Cert.ReferenceAdamWAdaIdeal.τ).loc Cert.ReferenceAdamWAdaIdeal.main_arg3) = m ((c.tc : Thread Cert.KernelAdamWAdaIdeal.nD Cert.KernelAdamWAdaIdeal.τ).loc Cert.KernelAdamWAdaIdeal.main_arg3)) →
    ∃ (v0 : (c : Dev Cert.KernelAdamWAdaIdeal.nD) → Buf (Elt Ideal) ((c.tc : Thread Cert.KernelAdamWAdaIdeal.nD Cert.KernelAdamWAdaIdeal.τ).loc Cert.KernelAdamWAdaIdeal.main_v0_0)) (v1 : (c : Dev Cert.KernelAdamWAdaIdeal.nD) → Buf (Elt Ideal) ((c.tc : Thread Cert.KernelAdamWAdaIdeal.nD Cert.KernelAdamWAdaIdeal.τ).loc Cert.KernelAdamWAdaIdeal.main_v0_1)) (v2 : (c : Dev Cert.KernelAdamWAdaIdeal.nD) → Buf (Elt Ideal) ((c.tc : Thread Cert.KernelAdamWAdaIdeal.nD Cert.KernelAdamWAdaIdeal.τ).loc Cert.KernelAdamWAdaIdeal.main_v0_2)),
      θ_run (Cert.KernelAdamWAdaIdeal.defs (F := Ideal)) (onTc (τ := Cert.KernelAdamWAdaIdeal.τ) (Cert.KernelAdamWAdaIdeal.main (F := Ideal))) ⟨m, fun _ => 0, g⟩ (fun r => ∀ c : Dev Cert.KernelAdamWAdaIdeal.nD,
          r.2.mem ((c.tc : Thread Cert.KernelAdamWAdaIdeal.nD Cert.KernelAdamWAdaIdeal.τ).loc Cert.KernelAdamWAdaIdeal.main_v0_0) = v0 c
          ∧ r.2.mem ((c.tc : Thread Cert.KernelAdamWAdaIdeal.nD Cert.KernelAdamWAdaIdeal.τ).loc Cert.KernelAdamWAdaIdeal.main_v0_1) = v1 c
          ∧ r.2.mem ((c.tc : Thread Cert.KernelAdamWAdaIdeal.nD Cert.KernelAdamWAdaIdeal.τ).loc Cert.KernelAdamWAdaIdeal.main_v0_2) = v2 c
          ∧ r.2.mem ((c.tc : Thread Cert.KernelAdamWAdaIdeal.nD Cert.KernelAdamWAdaIdeal.τ).loc Cert.KernelAdamWAdaIdeal.main_arg0) = m ((c.tc : Thread Cert.KernelAdamWAdaIdeal.nD Cert.KernelAdamWAdaIdeal.τ).loc Cert.KernelAdamWAdaIdeal.main_arg0)
          ∧ r.2.mem ((c.tc : Thread Cert.KernelAdamWAdaIdeal.nD Cert.KernelAdamWAdaIdeal.τ).loc Cert.KernelAdamWAdaIdeal.main_arg1) = m ((c.tc : Thread Cert.KernelAdamWAdaIdeal.nD Cert.KernelAdamWAdaIdeal.τ).loc Cert.KernelAdamWAdaIdeal.main_arg1)
          ∧ r.2.mem ((c.tc : Thread Cert.KernelAdamWAdaIdeal.nD Cert.KernelAdamWAdaIdeal.τ).loc Cert.KernelAdamWAdaIdeal.main_arg2) = m ((c.tc : Thread Cert.KernelAdamWAdaIdeal.nD Cert.KernelAdamWAdaIdeal.τ).loc Cert.KernelAdamWAdaIdeal.main_arg2)
          ∧ r.2.mem ((c.tc : Thread Cert.KernelAdamWAdaIdeal.nD Cert.KernelAdamWAdaIdeal.τ).loc Cert.KernelAdamWAdaIdeal.main_arg3) = m ((c.tc : Thread Cert.KernelAdamWAdaIdeal.nD Cert.KernelAdamWAdaIdeal.τ).loc Cert.KernelAdamWAdaIdeal.main_arg3))
      ∧ θ_run (Cert.ReferenceAdamWAdaIdeal.defs (F := Ideal)) (onTc (τ := Cert.ReferenceAdamWAdaIdeal.τ) (Cert.ReferenceAdamWAdaIdeal.main (F := Ideal))) ⟨m', fun _ => 0, g'⟩ (fun r => ∀ c : Dev Cert.ReferenceAdamWAdaIdeal.nD,
          r.2.mem ((c.tc : Thread Cert.ReferenceAdamWAdaIdeal.nD Cert.ReferenceAdamWAdaIdeal.τ).loc Cert.ReferenceAdamWAdaIdeal.main_v23) = v0 c
          ∧ r.2.mem ((c.tc : Thread Cert.ReferenceAdamWAdaIdeal.nD Cert.ReferenceAdamWAdaIdeal.τ).loc Cert.ReferenceAdamWAdaIdeal.main_v4) = v1 c
          ∧ r.2.mem ((c.tc : Thread Cert.ReferenceAdamWAdaIdeal.nD Cert.ReferenceAdamWAdaIdeal.τ).loc Cert.ReferenceAdamWAdaIdeal.main_v10) = v2 c
          ∧ r.2.mem ((c.tc : Thread Cert.ReferenceAdamWAdaIdeal.nD Cert.ReferenceAdamWAdaIdeal.τ).loc Cert.ReferenceAdamWAdaIdeal.main_arg0) = m' ((c.tc : Thread Cert.ReferenceAdamWAdaIdeal.nD Cert.ReferenceAdamWAdaIdeal.τ).loc Cert.ReferenceAdamWAdaIdeal.main_arg0)
          ∧ r.2.mem ((c.tc : Thread Cert.ReferenceAdamWAdaIdeal.nD Cert.ReferenceAdamWAdaIdeal.τ).loc Cert.ReferenceAdamWAdaIdeal.main_arg1) = m' ((c.tc : Thread Cert.ReferenceAdamWAdaIdeal.nD Cert.ReferenceAdamWAdaIdeal.τ).loc Cert.ReferenceAdamWAdaIdeal.main_arg1)
          ∧ r.2.mem ((c.tc : Thread Cert.ReferenceAdamWAdaIdeal.nD Cert.ReferenceAdamWAdaIdeal.τ).loc Cert.ReferenceAdamWAdaIdeal.main_arg2) = m' ((c.tc : Thread Cert.ReferenceAdamWAdaIdeal.nD Cert.ReferenceAdamWAdaIdeal.τ).loc Cert.ReferenceAdamWAdaIdeal.main_arg2)
          ∧ r.2.mem ((c.tc : Thread Cert.ReferenceAdamWAdaIdeal.nD Cert.ReferenceAdamWAdaIdeal.τ).loc Cert.ReferenceAdamWAdaIdeal.main_arg3) = m' ((c.tc : Thread Cert.ReferenceAdamWAdaIdeal.nD Cert.ReferenceAdamWAdaIdeal.τ).loc Cert.ReferenceAdamWAdaIdeal.main_arg3))

def preserves_KernelAdamWIn_KernelAdamWInIdeal : Prop :=
  True

def algebraic_KernelAdamWInIdeal_ReferenceAdamWInIdeal [hKernelAdamWInIdeal : Cert.KernelAdamWInIdeal.Facts] [hReferenceAdamWInIdeal : Cert.ReferenceAdamWInIdeal.Facts] : Prop :=
  ∀ (m : (ℓ : Loc Cert.KernelAdamWInIdeal.nD Cert.KernelAdamWInIdeal.τ Cert.KernelAdamWInIdeal.sig) → Buf (Elt Ideal) ℓ) (g : Dev Cert.KernelAdamWInIdeal.nD → PrngReg)
    (m' : (ℓ : Loc Cert.ReferenceAdamWInIdeal.nD Cert.ReferenceAdamWInIdeal.τ Cert.ReferenceAdamWInIdeal.sig) → Buf (Elt Ideal) ℓ) (g' : Dev Cert.ReferenceAdamWInIdeal.nD → PrngReg), Pre_KernelAdamWInIdeal m →
    (∀ c : Dev Cert.KernelAdamWInIdeal.nD,
      m' ((c.tc : Thread Cert.ReferenceAdamWInIdeal.nD Cert.ReferenceAdamWInIdeal.τ).loc Cert.ReferenceAdamWInIdeal.main_arg0) = m ((c.tc : Thread Cert.KernelAdamWInIdeal.nD Cert.KernelAdamWInIdeal.τ).loc Cert.KernelAdamWInIdeal.main_arg0)
      ∧ m' ((c.tc : Thread Cert.ReferenceAdamWInIdeal.nD Cert.ReferenceAdamWInIdeal.τ).loc Cert.ReferenceAdamWInIdeal.main_arg1) = m ((c.tc : Thread Cert.KernelAdamWInIdeal.nD Cert.KernelAdamWInIdeal.τ).loc Cert.KernelAdamWInIdeal.main_arg1)
      ∧ m' ((c.tc : Thread Cert.ReferenceAdamWInIdeal.nD Cert.ReferenceAdamWInIdeal.τ).loc Cert.ReferenceAdamWInIdeal.main_arg2) = m ((c.tc : Thread Cert.KernelAdamWInIdeal.nD Cert.KernelAdamWInIdeal.τ).loc Cert.KernelAdamWInIdeal.main_arg2)
      ∧ m' ((c.tc : Thread Cert.ReferenceAdamWInIdeal.nD Cert.ReferenceAdamWInIdeal.τ).loc Cert.ReferenceAdamWInIdeal.main_arg3) = m ((c.tc : Thread Cert.KernelAdamWInIdeal.nD Cert.KernelAdamWInIdeal.τ).loc Cert.KernelAdamWInIdeal.main_arg3)) →
    ∃ (v0 : (c : Dev Cert.KernelAdamWInIdeal.nD) → Buf (Elt Ideal) ((c.tc : Thread Cert.KernelAdamWInIdeal.nD Cert.KernelAdamWInIdeal.τ).loc Cert.KernelAdamWInIdeal.main_v0_0)) (v1 : (c : Dev Cert.KernelAdamWInIdeal.nD) → Buf (Elt Ideal) ((c.tc : Thread Cert.KernelAdamWInIdeal.nD Cert.KernelAdamWInIdeal.τ).loc Cert.KernelAdamWInIdeal.main_v0_1)) (v2 : (c : Dev Cert.KernelAdamWInIdeal.nD) → Buf (Elt Ideal) ((c.tc : Thread Cert.KernelAdamWInIdeal.nD Cert.KernelAdamWInIdeal.τ).loc Cert.KernelAdamWInIdeal.main_v0_2)) (v3 : (c : Dev Cert.KernelAdamWInIdeal.nD) → Buf (Elt Ideal) ((c.tc : Thread Cert.KernelAdamWInIdeal.nD Cert.KernelAdamWInIdeal.τ).loc Cert.KernelAdamWInIdeal.main_v0_3)),
      θ_run (Cert.KernelAdamWInIdeal.defs (F := Ideal)) (onTc (τ := Cert.KernelAdamWInIdeal.τ) (Cert.KernelAdamWInIdeal.main (F := Ideal))) ⟨m, fun _ => 0, g⟩ (fun r => ∀ c : Dev Cert.KernelAdamWInIdeal.nD,
          r.2.mem ((c.tc : Thread Cert.KernelAdamWInIdeal.nD Cert.KernelAdamWInIdeal.τ).loc Cert.KernelAdamWInIdeal.main_v0_0) = v0 c
          ∧ r.2.mem ((c.tc : Thread Cert.KernelAdamWInIdeal.nD Cert.KernelAdamWInIdeal.τ).loc Cert.KernelAdamWInIdeal.main_v0_1) = v1 c
          ∧ r.2.mem ((c.tc : Thread Cert.KernelAdamWInIdeal.nD Cert.KernelAdamWInIdeal.τ).loc Cert.KernelAdamWInIdeal.main_v0_2) = v2 c
          ∧ r.2.mem ((c.tc : Thread Cert.KernelAdamWInIdeal.nD Cert.KernelAdamWInIdeal.τ).loc Cert.KernelAdamWInIdeal.main_v0_3) = v3 c
          ∧ r.2.mem ((c.tc : Thread Cert.KernelAdamWInIdeal.nD Cert.KernelAdamWInIdeal.τ).loc Cert.KernelAdamWInIdeal.main_arg0) = m ((c.tc : Thread Cert.KernelAdamWInIdeal.nD Cert.KernelAdamWInIdeal.τ).loc Cert.KernelAdamWInIdeal.main_arg0)
          ∧ r.2.mem ((c.tc : Thread Cert.KernelAdamWInIdeal.nD Cert.KernelAdamWInIdeal.τ).loc Cert.KernelAdamWInIdeal.main_arg1) = m ((c.tc : Thread Cert.KernelAdamWInIdeal.nD Cert.KernelAdamWInIdeal.τ).loc Cert.KernelAdamWInIdeal.main_arg1)
          ∧ r.2.mem ((c.tc : Thread Cert.KernelAdamWInIdeal.nD Cert.KernelAdamWInIdeal.τ).loc Cert.KernelAdamWInIdeal.main_arg2) = m ((c.tc : Thread Cert.KernelAdamWInIdeal.nD Cert.KernelAdamWInIdeal.τ).loc Cert.KernelAdamWInIdeal.main_arg2)
          ∧ r.2.mem ((c.tc : Thread Cert.KernelAdamWInIdeal.nD Cert.KernelAdamWInIdeal.τ).loc Cert.KernelAdamWInIdeal.main_arg3) = m ((c.tc : Thread Cert.KernelAdamWInIdeal.nD Cert.KernelAdamWInIdeal.τ).loc Cert.KernelAdamWInIdeal.main_arg3))
      ∧ θ_run (Cert.ReferenceAdamWInIdeal.defs (F := Ideal)) (onTc (τ := Cert.ReferenceAdamWInIdeal.τ) (Cert.ReferenceAdamWInIdeal.main (F := Ideal))) ⟨m', fun _ => 0, g'⟩ (fun r => ∀ c : Dev Cert.ReferenceAdamWInIdeal.nD,
          r.2.mem ((c.tc : Thread Cert.ReferenceAdamWInIdeal.nD Cert.ReferenceAdamWInIdeal.τ).loc Cert.ReferenceAdamWInIdeal.main_v1) = v0 c
          ∧ r.2.mem ((c.tc : Thread Cert.ReferenceAdamWInIdeal.nD Cert.ReferenceAdamWInIdeal.τ).loc Cert.ReferenceAdamWInIdeal.main_v25) = v1 c
          ∧ r.2.mem ((c.tc : Thread Cert.ReferenceAdamWInIdeal.nD Cert.ReferenceAdamWInIdeal.τ).loc Cert.ReferenceAdamWInIdeal.main_v6) = v2 c
          ∧ r.2.mem ((c.tc : Thread Cert.ReferenceAdamWInIdeal.nD Cert.ReferenceAdamWInIdeal.τ).loc Cert.ReferenceAdamWInIdeal.main_v12) = v3 c
          ∧ r.2.mem ((c.tc : Thread Cert.ReferenceAdamWInIdeal.nD Cert.ReferenceAdamWInIdeal.τ).loc Cert.ReferenceAdamWInIdeal.main_arg0) = m' ((c.tc : Thread Cert.ReferenceAdamWInIdeal.nD Cert.ReferenceAdamWInIdeal.τ).loc Cert.ReferenceAdamWInIdeal.main_arg0)
          ∧ r.2.mem ((c.tc : Thread Cert.ReferenceAdamWInIdeal.nD Cert.ReferenceAdamWInIdeal.τ).loc Cert.ReferenceAdamWInIdeal.main_arg1) = m' ((c.tc : Thread Cert.ReferenceAdamWInIdeal.nD Cert.ReferenceAdamWInIdeal.τ).loc Cert.ReferenceAdamWInIdeal.main_arg1)
          ∧ r.2.mem ((c.tc : Thread Cert.ReferenceAdamWInIdeal.nD Cert.ReferenceAdamWInIdeal.τ).loc Cert.ReferenceAdamWInIdeal.main_arg2) = m' ((c.tc : Thread Cert.ReferenceAdamWInIdeal.nD Cert.ReferenceAdamWInIdeal.τ).loc Cert.ReferenceAdamWInIdeal.main_arg2)
          ∧ r.2.mem ((c.tc : Thread Cert.ReferenceAdamWInIdeal.nD Cert.ReferenceAdamWInIdeal.τ).loc Cert.ReferenceAdamWInIdeal.main_arg3) = m' ((c.tc : Thread Cert.ReferenceAdamWInIdeal.nD Cert.ReferenceAdamWInIdeal.τ).loc Cert.ReferenceAdamWInIdeal.main_arg3))

def preserves_KernelAdamWRetOut_KernelAdamWRetOutIdeal : Prop :=
  True

def algebraic_KernelAdamWRetOutIdeal_ReferenceAdamWRetOutIdeal [hKernelAdamWRetOutIdeal : Cert.KernelAdamWRetOutIdeal.Facts] [hReferenceAdamWRetOutIdeal : Cert.ReferenceAdamWRetOutIdeal.Facts] : Prop :=
  ∀ (m : (ℓ : Loc Cert.KernelAdamWRetOutIdeal.nD Cert.KernelAdamWRetOutIdeal.τ Cert.KernelAdamWRetOutIdeal.sig) → Buf (Elt Ideal) ℓ) (g : Dev Cert.KernelAdamWRetOutIdeal.nD → PrngReg)
    (m' : (ℓ : Loc Cert.ReferenceAdamWRetOutIdeal.nD Cert.ReferenceAdamWRetOutIdeal.τ Cert.ReferenceAdamWRetOutIdeal.sig) → Buf (Elt Ideal) ℓ) (g' : Dev Cert.ReferenceAdamWRetOutIdeal.nD → PrngReg), Pre_KernelAdamWRetOutIdeal m →
    (∀ c : Dev Cert.KernelAdamWRetOutIdeal.nD,
      m' ((c.tc : Thread Cert.ReferenceAdamWRetOutIdeal.nD Cert.ReferenceAdamWRetOutIdeal.τ).loc Cert.ReferenceAdamWRetOutIdeal.main_arg0) = m ((c.tc : Thread Cert.KernelAdamWRetOutIdeal.nD Cert.KernelAdamWRetOutIdeal.τ).loc Cert.KernelAdamWRetOutIdeal.main_arg0)
      ∧ m' ((c.tc : Thread Cert.ReferenceAdamWRetOutIdeal.nD Cert.ReferenceAdamWRetOutIdeal.τ).loc Cert.ReferenceAdamWRetOutIdeal.main_arg1) = m ((c.tc : Thread Cert.KernelAdamWRetOutIdeal.nD Cert.KernelAdamWRetOutIdeal.τ).loc Cert.KernelAdamWRetOutIdeal.main_arg1)
      ∧ m' ((c.tc : Thread Cert.ReferenceAdamWRetOutIdeal.nD Cert.ReferenceAdamWRetOutIdeal.τ).loc Cert.ReferenceAdamWRetOutIdeal.main_arg2) = m ((c.tc : Thread Cert.KernelAdamWRetOutIdeal.nD Cert.KernelAdamWRetOutIdeal.τ).loc Cert.KernelAdamWRetOutIdeal.main_arg2)
      ∧ m' ((c.tc : Thread Cert.ReferenceAdamWRetOutIdeal.nD Cert.ReferenceAdamWRetOutIdeal.τ).loc Cert.ReferenceAdamWRetOutIdeal.main_arg3) = m ((c.tc : Thread Cert.KernelAdamWRetOutIdeal.nD Cert.KernelAdamWRetOutIdeal.τ).loc Cert.KernelAdamWRetOutIdeal.main_arg3)) →
    ∃ (v0 : (c : Dev Cert.KernelAdamWRetOutIdeal.nD) → Buf (Elt Ideal) ((c.tc : Thread Cert.KernelAdamWRetOutIdeal.nD Cert.KernelAdamWRetOutIdeal.τ).loc Cert.KernelAdamWRetOutIdeal.main_v0_0)) (v1 : (c : Dev Cert.KernelAdamWRetOutIdeal.nD) → Buf (Elt Ideal) ((c.tc : Thread Cert.KernelAdamWRetOutIdeal.nD Cert.KernelAdamWRetOutIdeal.τ).loc Cert.KernelAdamWRetOutIdeal.main_v0_1)) (v2 : (c : Dev Cert.KernelAdamWRetOutIdeal.nD) → Buf (Elt Ideal) ((c.tc : Thread Cert.KernelAdamWRetOutIdeal.nD Cert.KernelAdamWRetOutIdeal.τ).loc Cert.KernelAdamWRetOutIdeal.main_v0_2)) (v3 : (c : Dev Cert.KernelAdamWRetOutIdeal.nD) → Buf (Elt Ideal) ((c.tc : Thread Cert.KernelAdamWRetOutIdeal.nD Cert.KernelAdamWRetOutIdeal.τ).loc Cert.KernelAdamWRetOutIdeal.main_v0_3)),
      θ_run (Cert.KernelAdamWRetOutIdeal.defs (F := Ideal)) (onTc (τ := Cert.KernelAdamWRetOutIdeal.τ) (Cert.KernelAdamWRetOutIdeal.main (F := Ideal))) ⟨m, fun _ => 0, g⟩ (fun r => ∀ c : Dev Cert.KernelAdamWRetOutIdeal.nD,
          r.2.mem ((c.tc : Thread Cert.KernelAdamWRetOutIdeal.nD Cert.KernelAdamWRetOutIdeal.τ).loc Cert.KernelAdamWRetOutIdeal.main_v0_0) = v0 c
          ∧ r.2.mem ((c.tc : Thread Cert.KernelAdamWRetOutIdeal.nD Cert.KernelAdamWRetOutIdeal.τ).loc Cert.KernelAdamWRetOutIdeal.main_v0_1) = v1 c
          ∧ r.2.mem ((c.tc : Thread Cert.KernelAdamWRetOutIdeal.nD Cert.KernelAdamWRetOutIdeal.τ).loc Cert.KernelAdamWRetOutIdeal.main_v0_2) = v2 c
          ∧ r.2.mem ((c.tc : Thread Cert.KernelAdamWRetOutIdeal.nD Cert.KernelAdamWRetOutIdeal.τ).loc Cert.KernelAdamWRetOutIdeal.main_v0_3) = v3 c
          ∧ r.2.mem ((c.tc : Thread Cert.KernelAdamWRetOutIdeal.nD Cert.KernelAdamWRetOutIdeal.τ).loc Cert.KernelAdamWRetOutIdeal.main_arg0) = m ((c.tc : Thread Cert.KernelAdamWRetOutIdeal.nD Cert.KernelAdamWRetOutIdeal.τ).loc Cert.KernelAdamWRetOutIdeal.main_arg0)
          ∧ r.2.mem ((c.tc : Thread Cert.KernelAdamWRetOutIdeal.nD Cert.KernelAdamWRetOutIdeal.τ).loc Cert.KernelAdamWRetOutIdeal.main_arg1) = m ((c.tc : Thread Cert.KernelAdamWRetOutIdeal.nD Cert.KernelAdamWRetOutIdeal.τ).loc Cert.KernelAdamWRetOutIdeal.main_arg1)
          ∧ r.2.mem ((c.tc : Thread Cert.KernelAdamWRetOutIdeal.nD Cert.KernelAdamWRetOutIdeal.τ).loc Cert.KernelAdamWRetOutIdeal.main_arg2) = m ((c.tc : Thread Cert.KernelAdamWRetOutIdeal.nD Cert.KernelAdamWRetOutIdeal.τ).loc Cert.KernelAdamWRetOutIdeal.main_arg2)
          ∧ r.2.mem ((c.tc : Thread Cert.KernelAdamWRetOutIdeal.nD Cert.KernelAdamWRetOutIdeal.τ).loc Cert.KernelAdamWRetOutIdeal.main_arg3) = m ((c.tc : Thread Cert.KernelAdamWRetOutIdeal.nD Cert.KernelAdamWRetOutIdeal.τ).loc Cert.KernelAdamWRetOutIdeal.main_arg3))
      ∧ θ_run (Cert.ReferenceAdamWRetOutIdeal.defs (F := Ideal)) (onTc (τ := Cert.ReferenceAdamWRetOutIdeal.τ) (Cert.ReferenceAdamWRetOutIdeal.main (F := Ideal))) ⟨m', fun _ => 0, g'⟩ (fun r => ∀ c : Dev Cert.ReferenceAdamWRetOutIdeal.nD,
          r.2.mem ((c.tc : Thread Cert.ReferenceAdamWRetOutIdeal.nD Cert.ReferenceAdamWRetOutIdeal.τ).loc Cert.ReferenceAdamWRetOutIdeal.main_v1) = v0 c
          ∧ r.2.mem ((c.tc : Thread Cert.ReferenceAdamWRetOutIdeal.nD Cert.ReferenceAdamWRetOutIdeal.τ).loc Cert.ReferenceAdamWRetOutIdeal.main_v25) = v1 c
          ∧ r.2.mem ((c.tc : Thread Cert.ReferenceAdamWRetOutIdeal.nD Cert.ReferenceAdamWRetOutIdeal.τ).loc Cert.ReferenceAdamWRetOutIdeal.main_v6) = v2 c
          ∧ r.2.mem ((c.tc : Thread Cert.ReferenceAdamWRetOutIdeal.nD Cert.ReferenceAdamWRetOutIdeal.τ).loc Cert.ReferenceAdamWRetOutIdeal.main_v12) = v3 c
          ∧ r.2.mem ((c.tc : Thread Cert.ReferenceAdamWRetOutIdeal.nD Cert.ReferenceAdamWRetOutIdeal.τ).loc Cert.ReferenceAdamWRetOutIdeal.main_arg0) = m' ((c.tc : Thread Cert.ReferenceAdamWRetOutIdeal.nD Cert.ReferenceAdamWRetOutIdeal.τ).loc Cert.ReferenceAdamWRetOutIdeal.main_arg0)
          ∧ r.2.mem ((c.tc : Thread Cert.ReferenceAdamWRetOutIdeal.nD Cert.ReferenceAdamWRetOutIdeal.τ).loc Cert.ReferenceAdamWRetOutIdeal.main_arg1) = m' ((c.tc : Thread Cert.ReferenceAdamWRetOutIdeal.nD Cert.ReferenceAdamWRetOutIdeal.τ).loc Cert.ReferenceAdamWRetOutIdeal.main_arg1)
          ∧ r.2.mem ((c.tc : Thread Cert.ReferenceAdamWRetOutIdeal.nD Cert.ReferenceAdamWRetOutIdeal.τ).loc Cert.ReferenceAdamWRetOutIdeal.main_arg2) = m' ((c.tc : Thread Cert.ReferenceAdamWRetOutIdeal.nD Cert.ReferenceAdamWRetOutIdeal.τ).loc Cert.ReferenceAdamWRetOutIdeal.main_arg2)
          ∧ r.2.mem ((c.tc : Thread Cert.ReferenceAdamWRetOutIdeal.nD Cert.ReferenceAdamWRetOutIdeal.τ).loc Cert.ReferenceAdamWRetOutIdeal.main_arg3) = m' ((c.tc : Thread Cert.ReferenceAdamWRetOutIdeal.nD Cert.ReferenceAdamWRetOutIdeal.τ).loc Cert.ReferenceAdamWRetOutIdeal.main_arg3))

def preserves_KernelAdamWOut_KernelAdamWOutIdeal : Prop :=
  True

def algebraic_KernelAdamWOutIdeal_ReferenceAdamWOutIdeal [hKernelAdamWOutIdeal : Cert.KernelAdamWOutIdeal.Facts] [hReferenceAdamWOutIdeal : Cert.ReferenceAdamWOutIdeal.Facts] : Prop :=
  ∀ (m : (ℓ : Loc Cert.KernelAdamWOutIdeal.nD Cert.KernelAdamWOutIdeal.τ Cert.KernelAdamWOutIdeal.sig) → Buf (Elt Ideal) ℓ) (g : Dev Cert.KernelAdamWOutIdeal.nD → PrngReg)
    (m' : (ℓ : Loc Cert.ReferenceAdamWOutIdeal.nD Cert.ReferenceAdamWOutIdeal.τ Cert.ReferenceAdamWOutIdeal.sig) → Buf (Elt Ideal) ℓ) (g' : Dev Cert.ReferenceAdamWOutIdeal.nD → PrngReg), Pre_KernelAdamWOutIdeal m →
    (∀ c : Dev Cert.KernelAdamWOutIdeal.nD,
      m' ((c.tc : Thread Cert.ReferenceAdamWOutIdeal.nD Cert.ReferenceAdamWOutIdeal.τ).loc Cert.ReferenceAdamWOutIdeal.main_arg0) = m ((c.tc : Thread Cert.KernelAdamWOutIdeal.nD Cert.KernelAdamWOutIdeal.τ).loc Cert.KernelAdamWOutIdeal.main_arg0)
      ∧ m' ((c.tc : Thread Cert.ReferenceAdamWOutIdeal.nD Cert.ReferenceAdamWOutIdeal.τ).loc Cert.ReferenceAdamWOutIdeal.main_arg1) = m ((c.tc : Thread Cert.KernelAdamWOutIdeal.nD Cert.KernelAdamWOutIdeal.τ).loc Cert.KernelAdamWOutIdeal.main_arg1)
      ∧ m' ((c.tc : Thread Cert.ReferenceAdamWOutIdeal.nD Cert.ReferenceAdamWOutIdeal.τ).loc Cert.ReferenceAdamWOutIdeal.main_arg2) = m ((c.tc : Thread Cert.KernelAdamWOutIdeal.nD Cert.KernelAdamWOutIdeal.τ).loc Cert.KernelAdamWOutIdeal.main_arg2)
      ∧ m' ((c.tc : Thread Cert.ReferenceAdamWOutIdeal.nD Cert.ReferenceAdamWOutIdeal.τ).loc Cert.ReferenceAdamWOutIdeal.main_arg3) = m ((c.tc : Thread Cert.KernelAdamWOutIdeal.nD Cert.KernelAdamWOutIdeal.τ).loc Cert.KernelAdamWOutIdeal.main_arg3)) →
    ∃ (v0 : (c : Dev Cert.KernelAdamWOutIdeal.nD) → Buf (Elt Ideal) ((c.tc : Thread Cert.KernelAdamWOutIdeal.nD Cert.KernelAdamWOutIdeal.τ).loc Cert.KernelAdamWOutIdeal.main_v0_0)) (v1 : (c : Dev Cert.KernelAdamWOutIdeal.nD) → Buf (Elt Ideal) ((c.tc : Thread Cert.KernelAdamWOutIdeal.nD Cert.KernelAdamWOutIdeal.τ).loc Cert.KernelAdamWOutIdeal.main_v0_1)) (v2 : (c : Dev Cert.KernelAdamWOutIdeal.nD) → Buf (Elt Ideal) ((c.tc : Thread Cert.KernelAdamWOutIdeal.nD Cert.KernelAdamWOutIdeal.τ).loc Cert.KernelAdamWOutIdeal.main_v0_2)) (v3 : (c : Dev Cert.KernelAdamWOutIdeal.nD) → Buf (Elt Ideal) ((c.tc : Thread Cert.KernelAdamWOutIdeal.nD Cert.KernelAdamWOutIdeal.τ).loc Cert.KernelAdamWOutIdeal.main_v0_3)),
      θ_run (Cert.KernelAdamWOutIdeal.defs (F := Ideal)) (onTc (τ := Cert.KernelAdamWOutIdeal.τ) (Cert.KernelAdamWOutIdeal.main (F := Ideal))) ⟨m, fun _ => 0, g⟩ (fun r => ∀ c : Dev Cert.KernelAdamWOutIdeal.nD,
          r.2.mem ((c.tc : Thread Cert.KernelAdamWOutIdeal.nD Cert.KernelAdamWOutIdeal.τ).loc Cert.KernelAdamWOutIdeal.main_v0_0) = v0 c
          ∧ r.2.mem ((c.tc : Thread Cert.KernelAdamWOutIdeal.nD Cert.KernelAdamWOutIdeal.τ).loc Cert.KernelAdamWOutIdeal.main_v0_1) = v1 c
          ∧ r.2.mem ((c.tc : Thread Cert.KernelAdamWOutIdeal.nD Cert.KernelAdamWOutIdeal.τ).loc Cert.KernelAdamWOutIdeal.main_v0_2) = v2 c
          ∧ r.2.mem ((c.tc : Thread Cert.KernelAdamWOutIdeal.nD Cert.KernelAdamWOutIdeal.τ).loc Cert.KernelAdamWOutIdeal.main_v0_3) = v3 c
          ∧ r.2.mem ((c.tc : Thread Cert.KernelAdamWOutIdeal.nD Cert.KernelAdamWOutIdeal.τ).loc Cert.KernelAdamWOutIdeal.main_arg0) = m ((c.tc : Thread Cert.KernelAdamWOutIdeal.nD Cert.KernelAdamWOutIdeal.τ).loc Cert.KernelAdamWOutIdeal.main_arg0)
          ∧ r.2.mem ((c.tc : Thread Cert.KernelAdamWOutIdeal.nD Cert.KernelAdamWOutIdeal.τ).loc Cert.KernelAdamWOutIdeal.main_arg1) = m ((c.tc : Thread Cert.KernelAdamWOutIdeal.nD Cert.KernelAdamWOutIdeal.τ).loc Cert.KernelAdamWOutIdeal.main_arg1)
          ∧ r.2.mem ((c.tc : Thread Cert.KernelAdamWOutIdeal.nD Cert.KernelAdamWOutIdeal.τ).loc Cert.KernelAdamWOutIdeal.main_arg2) = m ((c.tc : Thread Cert.KernelAdamWOutIdeal.nD Cert.KernelAdamWOutIdeal.τ).loc Cert.KernelAdamWOutIdeal.main_arg2)
          ∧ r.2.mem ((c.tc : Thread Cert.KernelAdamWOutIdeal.nD Cert.KernelAdamWOutIdeal.τ).loc Cert.KernelAdamWOutIdeal.main_arg3) = m ((c.tc : Thread Cert.KernelAdamWOutIdeal.nD Cert.KernelAdamWOutIdeal.τ).loc Cert.KernelAdamWOutIdeal.main_arg3))
      ∧ θ_run (Cert.ReferenceAdamWOutIdeal.defs (F := Ideal)) (onTc (τ := Cert.ReferenceAdamWOutIdeal.τ) (Cert.ReferenceAdamWOutIdeal.main (F := Ideal))) ⟨m', fun _ => 0, g'⟩ (fun r => ∀ c : Dev Cert.ReferenceAdamWOutIdeal.nD,
          r.2.mem ((c.tc : Thread Cert.ReferenceAdamWOutIdeal.nD Cert.ReferenceAdamWOutIdeal.τ).loc Cert.ReferenceAdamWOutIdeal.main_v1) = v0 c
          ∧ r.2.mem ((c.tc : Thread Cert.ReferenceAdamWOutIdeal.nD Cert.ReferenceAdamWOutIdeal.τ).loc Cert.ReferenceAdamWOutIdeal.main_v25) = v1 c
          ∧ r.2.mem ((c.tc : Thread Cert.ReferenceAdamWOutIdeal.nD Cert.ReferenceAdamWOutIdeal.τ).loc Cert.ReferenceAdamWOutIdeal.main_v6) = v2 c
          ∧ r.2.mem ((c.tc : Thread Cert.ReferenceAdamWOutIdeal.nD Cert.ReferenceAdamWOutIdeal.τ).loc Cert.ReferenceAdamWOutIdeal.main_v12) = v3 c
          ∧ r.2.mem ((c.tc : Thread Cert.ReferenceAdamWOutIdeal.nD Cert.ReferenceAdamWOutIdeal.τ).loc Cert.ReferenceAdamWOutIdeal.main_arg0) = m' ((c.tc : Thread Cert.ReferenceAdamWOutIdeal.nD Cert.ReferenceAdamWOutIdeal.τ).loc Cert.ReferenceAdamWOutIdeal.main_arg0)
          ∧ r.2.mem ((c.tc : Thread Cert.ReferenceAdamWOutIdeal.nD Cert.ReferenceAdamWOutIdeal.τ).loc Cert.ReferenceAdamWOutIdeal.main_arg1) = m' ((c.tc : Thread Cert.ReferenceAdamWOutIdeal.nD Cert.ReferenceAdamWOutIdeal.τ).loc Cert.ReferenceAdamWOutIdeal.main_arg1)
          ∧ r.2.mem ((c.tc : Thread Cert.ReferenceAdamWOutIdeal.nD Cert.ReferenceAdamWOutIdeal.τ).loc Cert.ReferenceAdamWOutIdeal.main_arg2) = m' ((c.tc : Thread Cert.ReferenceAdamWOutIdeal.nD Cert.ReferenceAdamWOutIdeal.τ).loc Cert.ReferenceAdamWOutIdeal.main_arg2)
          ∧ r.2.mem ((c.tc : Thread Cert.ReferenceAdamWOutIdeal.nD Cert.ReferenceAdamWOutIdeal.τ).loc Cert.ReferenceAdamWOutIdeal.main_arg3) = m' ((c.tc : Thread Cert.ReferenceAdamWOutIdeal.nD Cert.ReferenceAdamWOutIdeal.τ).loc Cert.ReferenceAdamWOutIdeal.main_arg3))

def preserves_KernelRf_KernelRfIdeal : Prop :=
  True

def algebraic_KernelRfIdeal_ReferenceRfIdeal [hKernelRfIdeal : Cert.KernelRfIdeal.Facts] [hReferenceRfIdeal : Cert.ReferenceRfIdeal.Facts] : Prop :=
  ∀ (m : (ℓ : Loc Cert.KernelRfIdeal.nD Cert.KernelRfIdeal.τ Cert.KernelRfIdeal.sig) → Buf (Elt Ideal) ℓ) (g : Dev Cert.KernelRfIdeal.nD → PrngReg)
    (m' : (ℓ : Loc Cert.ReferenceRfIdeal.nD Cert.ReferenceRfIdeal.τ Cert.ReferenceRfIdeal.sig) → Buf (Elt Ideal) ℓ) (g' : Dev Cert.ReferenceRfIdeal.nD → PrngReg), Pre_KernelRfIdeal m →
    (∀ c : Dev Cert.KernelRfIdeal.nD,
      m' ((c.tc : Thread Cert.ReferenceRfIdeal.nD Cert.ReferenceRfIdeal.τ).loc Cert.ReferenceRfIdeal.main_arg0) = m ((c.tc : Thread Cert.KernelRfIdeal.nD Cert.KernelRfIdeal.τ).loc Cert.KernelRfIdeal.main_arg0)
      ∧ m' ((c.tc : Thread Cert.ReferenceRfIdeal.nD Cert.ReferenceRfIdeal.τ).loc Cert.ReferenceRfIdeal.main_arg1) = m ((c.tc : Thread Cert.KernelRfIdeal.nD Cert.KernelRfIdeal.τ).loc Cert.KernelRfIdeal.main_arg1)
      ∧ m' ((c.tc : Thread Cert.ReferenceRfIdeal.nD Cert.ReferenceRfIdeal.τ).loc Cert.ReferenceRfIdeal.main_arg2) = m ((c.tc : Thread Cert.KernelRfIdeal.nD Cert.KernelRfIdeal.τ).loc Cert.KernelRfIdeal.main_arg2)) →
    ∃ (v0 : (c : Dev Cert.KernelRfIdeal.nD) → Buf (Elt Ideal) ((c.tc : Thread Cert.KernelRfIdeal.nD Cert.KernelRfIdeal.τ).loc Cert.KernelRfIdeal.main_v47_0)) (v1 : (c : Dev Cert.KernelRfIdeal.nD) → Buf (Elt Ideal) ((c.tc : Thread Cert.KernelRfIdeal.nD Cert.KernelRfIdeal.τ).loc Cert.KernelRfIdeal.main_v47_1)) (v2 : (c : Dev Cert.KernelRfIdeal.nD) → Buf (Elt Ideal) ((c.tc : Thread Cert.KernelRfIdeal.nD Cert.KernelRfIdeal.τ).loc Cert.KernelRfIdeal.main_v47_2)) (v3 : (c : Dev Cert.KernelRfIdeal.nD) → Buf (Elt Ideal) ((c.tc : Thread Cert.KernelRfIdeal.nD Cert.KernelRfIdeal.τ).loc Cert.KernelRfIdeal.main_v47_3)),
      θ_run (Cert.KernelRfIdeal.defs (F := Ideal)) (onTc (τ := Cert.KernelRfIdeal.τ) (Cert.KernelRfIdeal.main (F := Ideal))) ⟨m, fun _ => 0, g⟩ (fun r => ∀ c : Dev Cert.KernelRfIdeal.nD,
          r.2.mem ((c.tc : Thread Cert.KernelRfIdeal.nD Cert.KernelRfIdeal.τ).loc Cert.KernelRfIdeal.main_v47_0) = v0 c
          ∧ r.2.mem ((c.tc : Thread Cert.KernelRfIdeal.nD Cert.KernelRfIdeal.τ).loc Cert.KernelRfIdeal.main_v47_1) = v1 c
          ∧ r.2.mem ((c.tc : Thread Cert.KernelRfIdeal.nD Cert.KernelRfIdeal.τ).loc Cert.KernelRfIdeal.main_v47_2) = v2 c
          ∧ r.2.mem ((c.tc : Thread Cert.KernelRfIdeal.nD Cert.KernelRfIdeal.τ).loc Cert.KernelRfIdeal.main_v47_3) = v3 c
          ∧ r.2.mem ((c.tc : Thread Cert.KernelRfIdeal.nD Cert.KernelRfIdeal.τ).loc Cert.KernelRfIdeal.main_arg0) = m ((c.tc : Thread Cert.KernelRfIdeal.nD Cert.KernelRfIdeal.τ).loc Cert.KernelRfIdeal.main_arg0)
          ∧ r.2.mem ((c.tc : Thread Cert.KernelRfIdeal.nD Cert.KernelRfIdeal.τ).loc Cert.KernelRfIdeal.main_arg1) = m ((c.tc : Thread Cert.KernelRfIdeal.nD Cert.KernelRfIdeal.τ).loc Cert.KernelRfIdeal.main_arg1)
          ∧ r.2.mem ((c.tc : Thread Cert.KernelRfIdeal.nD Cert.KernelRfIdeal.τ).loc Cert.KernelRfIdeal.main_arg2) = m ((c.tc : Thread Cert.KernelRfIdeal.nD Cert.KernelRfIdeal.τ).loc Cert.KernelRfIdeal.main_arg2))
      ∧ θ_run (Cert.ReferenceRfIdeal.defs (F := Ideal)) (onTc (τ := Cert.ReferenceRfIdeal.τ) (Cert.ReferenceRfIdeal.main (F := Ideal))) ⟨m', fun _ => 0, g'⟩ (fun r => ∀ c : Dev Cert.ReferenceRfIdeal.nD,
          r.2.mem ((c.tc : Thread Cert.ReferenceRfIdeal.nD Cert.ReferenceRfIdeal.τ).loc Cert.ReferenceRfIdeal.main_v119) = v0 c
          ∧ r.2.mem ((c.tc : Thread Cert.ReferenceRfIdeal.nD Cert.ReferenceRfIdeal.τ).loc Cert.ReferenceRfIdeal.main_v120) = v1 c
          ∧ r.2.mem ((c.tc : Thread Cert.ReferenceRfIdeal.nD Cert.ReferenceRfIdeal.τ).loc Cert.ReferenceRfIdeal.main_v121) = v2 c
          ∧ r.2.mem ((c.tc : Thread Cert.ReferenceRfIdeal.nD Cert.ReferenceRfIdeal.τ).loc Cert.ReferenceRfIdeal.main_v123) = v3 c
          ∧ r.2.mem ((c.tc : Thread Cert.ReferenceRfIdeal.nD Cert.ReferenceRfIdeal.τ).loc Cert.ReferenceRfIdeal.main_arg0) = m' ((c.tc : Thread Cert.ReferenceRfIdeal.nD Cert.ReferenceRfIdeal.τ).loc Cert.ReferenceRfIdeal.main_arg0)
          ∧ r.2.mem ((c.tc : Thread Cert.ReferenceRfIdeal.nD Cert.ReferenceRfIdeal.τ).loc Cert.ReferenceRfIdeal.main_arg1) = m' ((c.tc : Thread Cert.ReferenceRfIdeal.nD Cert.ReferenceRfIdeal.τ).loc Cert.ReferenceRfIdeal.main_arg1)
          ∧ r.2.mem ((c.tc : Thread Cert.ReferenceRfIdeal.nD Cert.ReferenceRfIdeal.τ).loc Cert.ReferenceRfIdeal.main_arg2) = m' ((c.tc : Thread Cert.ReferenceRfIdeal.nD Cert.ReferenceRfIdeal.τ).loc Cert.ReferenceRfIdeal.main_arg2))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v0)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v0) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v2) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def Claim : Prop :=
  ∃ (hKernelDwr : Cert.KernelDwr.Facts) (hKernelDwrIdeal : Cert.KernelDwrIdeal.Facts) (hReferenceDwrIdeal : Cert.ReferenceDwrIdeal.Facts) (hKernelDwc : Cert.KernelDwc.Facts) (hKernelDwcIdeal : Cert.KernelDwcIdeal.Facts) (hReferenceDwcIdeal : Cert.ReferenceDwcIdeal.Facts) (hKernelDwg : Cert.KernelDwg.Facts) (hKernelDwgIdeal : Cert.KernelDwgIdeal.Facts) (hReferenceDwgIdeal : Cert.ReferenceDwgIdeal.Facts) (hKernelDwRetOut : Cert.KernelDwRetOut.Facts) (hKernelDwRetOutIdeal : Cert.KernelDwRetOutIdeal.Facts) (hReferenceDwRetOutIdeal : Cert.ReferenceDwRetOutIdeal.Facts) (hKernelDwConvOut : Cert.KernelDwConvOut.Facts) (hKernelDwConvOutIdeal : Cert.KernelDwConvOutIdeal.Facts) (hReferenceDwConvOutIdeal : Cert.ReferenceDwConvOutIdeal.Facts) (hKernelDwOut : Cert.KernelDwOut.Facts) (hKernelDwOutIdeal : Cert.KernelDwOutIdeal.Facts) (hReferenceDwOutIdeal : Cert.ReferenceDwOutIdeal.Facts) (hKernelDh : Cert.KernelDh.Facts) (hKernelDhIdeal : Cert.KernelDhIdeal.Facts) (hReferenceDhIdeal : Cert.ReferenceDhIdeal.Facts) (hKernelHead : Cert.KernelHead.Facts) (hKernelHeadIdeal : Cert.KernelHeadIdeal.Facts) (hReferenceHeadIdeal : Cert.ReferenceHeadIdeal.Facts) (hKernelSumSmall : Cert.KernelSumSmall.Facts) (hKernelSumSmallIdeal : Cert.KernelSumSmallIdeal.Facts) (hReferenceSumSmallIdeal : Cert.ReferenceSumSmallIdeal.Facts) (hKernelSumConvW : Cert.KernelSumConvW.Facts) (hKernelSumConvWIdeal : Cert.KernelSumConvWIdeal.Facts) (hReferenceSumConvWIdeal : Cert.ReferenceSumConvWIdeal.Facts) (hKernelGradWAda : Cert.KernelGradWAda.Facts) (hKernelGradWAdaIdeal : Cert.KernelGradWAdaIdeal.Facts) (hReferenceGradWAdaIdeal : Cert.ReferenceGradWAdaIdeal.Facts) (hKernelAdamSmall : Cert.KernelAdamSmall.Facts) (hKernelAdamSmallIdeal : Cert.KernelAdamSmallIdeal.Facts) (hReferenceAdamSmallIdeal : Cert.ReferenceAdamSmallIdeal.Facts) (hKernelAdamConvW : Cert.KernelAdamConvW.Facts) (hKernelAdamConvWIdeal : Cert.KernelAdamConvWIdeal.Facts) (hReferenceAdamConvWIdeal : Cert.ReferenceAdamConvWIdeal.Facts) (hKernelAdamWAda : Cert.KernelAdamWAda.Facts) (hKernelAdamWAdaIdeal : Cert.KernelAdamWAdaIdeal.Facts) (hReferenceAdamWAdaIdeal : Cert.ReferenceAdamWAdaIdeal.Facts) (hKernelAdamWIn : Cert.KernelAdamWIn.Facts) (hKernelAdamWInIdeal : Cert.KernelAdamWInIdeal.Facts) (hReferenceAdamWInIdeal : Cert.ReferenceAdamWInIdeal.Facts) (hKernelAdamWRetOut : Cert.KernelAdamWRetOut.Facts) (hKernelAdamWRetOutIdeal : Cert.KernelAdamWRetOutIdeal.Facts) (hReferenceAdamWRetOutIdeal : Cert.ReferenceAdamWRetOutIdeal.Facts) (hKernelAdamWOut : Cert.KernelAdamWOut.Facts) (hKernelAdamWOutIdeal : Cert.KernelAdamWOutIdeal.Facts) (hReferenceAdamWOutIdeal : Cert.ReferenceAdamWOutIdeal.Facts) (hKernelRf : Cert.KernelRf.Facts) (hKernelRfIdeal : Cert.KernelRfIdeal.Facts) (hReferenceRfIdeal : Cert.ReferenceRfIdeal.Facts) (hKernelMod : Cert.KernelMod.Facts) (hKernelModIdeal : Cert.KernelModIdeal.Facts) (hReferenceModIdeal : Cert.ReferenceModIdeal.Facts),
    quiescent_KernelDwr (hKernelDwr := hKernelDwr)
    ∧ quiescent_KernelDwrIdeal (hKernelDwrIdeal := hKernelDwrIdeal)
    ∧ quiescent_ReferenceDwrIdeal (hReferenceDwrIdeal := hReferenceDwrIdeal)
    ∧ quiescent_KernelDwc (hKernelDwc := hKernelDwc)
    ∧ quiescent_KernelDwcIdeal (hKernelDwcIdeal := hKernelDwcIdeal)
    ∧ quiescent_ReferenceDwcIdeal (hReferenceDwcIdeal := hReferenceDwcIdeal)
    ∧ quiescent_KernelDwg (hKernelDwg := hKernelDwg)
    ∧ quiescent_KernelDwgIdeal (hKernelDwgIdeal := hKernelDwgIdeal)
    ∧ quiescent_ReferenceDwgIdeal (hReferenceDwgIdeal := hReferenceDwgIdeal)
    ∧ quiescent_KernelDwRetOut (hKernelDwRetOut := hKernelDwRetOut)
    ∧ quiescent_KernelDwRetOutIdeal (hKernelDwRetOutIdeal := hKernelDwRetOutIdeal)
    ∧ quiescent_ReferenceDwRetOutIdeal (hReferenceDwRetOutIdeal := hReferenceDwRetOutIdeal)
    ∧ quiescent_KernelDwConvOut (hKernelDwConvOut := hKernelDwConvOut)
    ∧ quiescent_KernelDwConvOutIdeal (hKernelDwConvOutIdeal := hKernelDwConvOutIdeal)
    ∧ quiescent_ReferenceDwConvOutIdeal (hReferenceDwConvOutIdeal := hReferenceDwConvOutIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelHead (hKernelHead := hKernelHead)
    ∧ quiescent_KernelHeadIdeal (hKernelHeadIdeal := hKernelHeadIdeal)
    ∧ quiescent_ReferenceHeadIdeal (hReferenceHeadIdeal := hReferenceHeadIdeal)
    ∧ quiescent_KernelSumSmall (hKernelSumSmall := hKernelSumSmall)
    ∧ quiescent_KernelSumSmallIdeal (hKernelSumSmallIdeal := hKernelSumSmallIdeal)
    ∧ quiescent_ReferenceSumSmallIdeal (hReferenceSumSmallIdeal := hReferenceSumSmallIdeal)
    ∧ quiescent_KernelSumConvW (hKernelSumConvW := hKernelSumConvW)
    ∧ quiescent_KernelSumConvWIdeal (hKernelSumConvWIdeal := hKernelSumConvWIdeal)
    ∧ quiescent_ReferenceSumConvWIdeal (hReferenceSumConvWIdeal := hReferenceSumConvWIdeal)
    ∧ quiescent_KernelGradWAda (hKernelGradWAda := hKernelGradWAda)
    ∧ quiescent_KernelGradWAdaIdeal (hKernelGradWAdaIdeal := hKernelGradWAdaIdeal)
    ∧ quiescent_ReferenceGradWAdaIdeal (hReferenceGradWAdaIdeal := hReferenceGradWAdaIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelAdamConvW (hKernelAdamConvW := hKernelAdamConvW)
    ∧ quiescent_KernelAdamConvWIdeal (hKernelAdamConvWIdeal := hKernelAdamConvWIdeal)
    ∧ quiescent_ReferenceAdamConvWIdeal (hReferenceAdamConvWIdeal := hReferenceAdamConvWIdeal)
    ∧ quiescent_KernelAdamWAda (hKernelAdamWAda := hKernelAdamWAda)
    ∧ quiescent_KernelAdamWAdaIdeal (hKernelAdamWAdaIdeal := hKernelAdamWAdaIdeal)
    ∧ quiescent_ReferenceAdamWAdaIdeal (hReferenceAdamWAdaIdeal := hReferenceAdamWAdaIdeal)
    ∧ quiescent_KernelAdamWIn (hKernelAdamWIn := hKernelAdamWIn)
    ∧ quiescent_KernelAdamWInIdeal (hKernelAdamWInIdeal := hKernelAdamWInIdeal)
    ∧ quiescent_ReferenceAdamWInIdeal (hReferenceAdamWInIdeal := hReferenceAdamWInIdeal)
    ∧ quiescent_KernelAdamWRetOut (hKernelAdamWRetOut := hKernelAdamWRetOut)
    ∧ quiescent_KernelAdamWRetOutIdeal (hKernelAdamWRetOutIdeal := hKernelAdamWRetOutIdeal)
    ∧ quiescent_ReferenceAdamWRetOutIdeal (hReferenceAdamWRetOutIdeal := hReferenceAdamWRetOutIdeal)
    ∧ quiescent_KernelAdamWOut (hKernelAdamWOut := hKernelAdamWOut)
    ∧ quiescent_KernelAdamWOutIdeal (hKernelAdamWOutIdeal := hKernelAdamWOutIdeal)
    ∧ quiescent_ReferenceAdamWOutIdeal (hReferenceAdamWOutIdeal := hReferenceAdamWOutIdeal)
    ∧ quiescent_KernelRf (hKernelRf := hKernelRf)
    ∧ quiescent_KernelRfIdeal (hKernelRfIdeal := hKernelRfIdeal)
    ∧ quiescent_ReferenceRfIdeal (hReferenceRfIdeal := hReferenceRfIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ preserves_KernelDwr_KernelDwrIdeal
    ∧ algebraic_KernelDwrIdeal_ReferenceDwrIdeal (hKernelDwrIdeal := hKernelDwrIdeal) (hReferenceDwrIdeal := hReferenceDwrIdeal)
    ∧ preserves_KernelDwc_KernelDwcIdeal
    ∧ algebraic_KernelDwcIdeal_ReferenceDwcIdeal (hKernelDwcIdeal := hKernelDwcIdeal) (hReferenceDwcIdeal := hReferenceDwcIdeal)
    ∧ preserves_KernelDwg_KernelDwgIdeal
    ∧ algebraic_KernelDwgIdeal_ReferenceDwgIdeal (hKernelDwgIdeal := hKernelDwgIdeal) (hReferenceDwgIdeal := hReferenceDwgIdeal)
    ∧ preserves_KernelDwRetOut_KernelDwRetOutIdeal
    ∧ algebraic_KernelDwRetOutIdeal_ReferenceDwRetOutIdeal (hKernelDwRetOutIdeal := hKernelDwRetOutIdeal) (hReferenceDwRetOutIdeal := hReferenceDwRetOutIdeal)
    ∧ preserves_KernelDwConvOut_KernelDwConvOutIdeal
    ∧ algebraic_KernelDwConvOutIdeal_ReferenceDwConvOutIdeal (hKernelDwConvOutIdeal := hKernelDwConvOutIdeal) (hReferenceDwConvOutIdeal := hReferenceDwConvOutIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDh_KernelDhIdeal
    ∧ algebraic_KernelDhIdeal_ReferenceDhIdeal (hKernelDhIdeal := hKernelDhIdeal) (hReferenceDhIdeal := hReferenceDhIdeal)
    ∧ preserves_KernelHead_KernelHeadIdeal
    ∧ algebraic_KernelHeadIdeal_ReferenceHeadIdeal (hKernelHeadIdeal := hKernelHeadIdeal) (hReferenceHeadIdeal := hReferenceHeadIdeal)
    ∧ preserves_KernelSumSmall_KernelSumSmallIdeal
    ∧ algebraic_KernelSumSmallIdeal_ReferenceSumSmallIdeal (hKernelSumSmallIdeal := hKernelSumSmallIdeal) (hReferenceSumSmallIdeal := hReferenceSumSmallIdeal)
    ∧ preserves_KernelSumConvW_KernelSumConvWIdeal
    ∧ algebraic_KernelSumConvWIdeal_ReferenceSumConvWIdeal (hKernelSumConvWIdeal := hKernelSumConvWIdeal) (hReferenceSumConvWIdeal := hReferenceSumConvWIdeal)
    ∧ preserves_KernelGradWAda_KernelGradWAdaIdeal
    ∧ algebraic_KernelGradWAdaIdeal_ReferenceGradWAdaIdeal (hKernelGradWAdaIdeal := hKernelGradWAdaIdeal) (hReferenceGradWAdaIdeal := hReferenceGradWAdaIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelAdamConvW_KernelAdamConvWIdeal
    ∧ algebraic_KernelAdamConvWIdeal_ReferenceAdamConvWIdeal (hKernelAdamConvWIdeal := hKernelAdamConvWIdeal) (hReferenceAdamConvWIdeal := hReferenceAdamConvWIdeal)
    ∧ preserves_KernelAdamWAda_KernelAdamWAdaIdeal
    ∧ algebraic_KernelAdamWAdaIdeal_ReferenceAdamWAdaIdeal (hKernelAdamWAdaIdeal := hKernelAdamWAdaIdeal) (hReferenceAdamWAdaIdeal := hReferenceAdamWAdaIdeal)
    ∧ preserves_KernelAdamWIn_KernelAdamWInIdeal
    ∧ algebraic_KernelAdamWInIdeal_ReferenceAdamWInIdeal (hKernelAdamWInIdeal := hKernelAdamWInIdeal) (hReferenceAdamWInIdeal := hReferenceAdamWInIdeal)
    ∧ preserves_KernelAdamWRetOut_KernelAdamWRetOutIdeal
    ∧ algebraic_KernelAdamWRetOutIdeal_ReferenceAdamWRetOutIdeal (hKernelAdamWRetOutIdeal := hKernelAdamWRetOutIdeal) (hReferenceAdamWRetOutIdeal := hReferenceAdamWRetOutIdeal)
    ∧ preserves_KernelAdamWOut_KernelAdamWOutIdeal
    ∧ algebraic_KernelAdamWOutIdeal_ReferenceAdamWOutIdeal (hKernelAdamWOutIdeal := hKernelAdamWOutIdeal) (hReferenceAdamWOutIdeal := hReferenceAdamWOutIdeal)
    ∧ preserves_KernelRf_KernelRfIdeal
    ∧ algebraic_KernelRfIdeal_ReferenceRfIdeal (hKernelRfIdeal := hKernelRfIdeal) (hReferenceRfIdeal := hReferenceRfIdeal)
    ∧ preserves_KernelMod_KernelModIdeal
    ∧ algebraic_KernelModIdeal_ReferenceModIdeal (hKernelModIdeal := hKernelModIdeal) (hReferenceModIdeal := hReferenceModIdeal)
-- ==== KernelDwr.lean ====
abbrev S8192x1024 : Shape := ⟨2, ![8192, 1024]⟩
abbrev S8192x6144 : Shape := ⟨2, ![8192, 6144]⟩
abbrev S1024x1024 : Shape := ⟨2, ![1024, 1024]⟩
abbrev S1024x2048 : Shape := ⟨2, ![1024, 2048]⟩
abbrev S2048x1024 : Shape := ⟨2, ![2048, 1024]⟩
abbrev S2048x1536 : Shape := ⟨2, ![2048, 1536]⟩
abbrev S1024x256 : Shape := ⟨2, ![1024, 256]⟩
abbrev S1024x512 : Shape := ⟨2, ![1024, 512]⟩
abbrev S1024x1536 : Shape := ⟨2, ![1024, 1536]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceDwrIdeal.lean ====
abbrev S8192x1024 : Shape := ⟨2, ![8192, 1024]⟩
abbrev S8192x6144 : Shape := ⟨2, ![8192, 6144]⟩
abbrev S8192x4x1536 : Shape := ⟨3, ![8192, 4, 1536]⟩
abbrev S8192x4x256 : Shape := ⟨3, ![8192, 4, 256]⟩
abbrev S8192x4x512 : Shape := ⟨3, ![8192, 4, 512]⟩
abbrev S_ : Shape := ⟨0, ![]⟩
abbrev S1024x1024 : Shape := ⟨2, ![1024, 1024]⟩
abbrev S8192x2048 : Shape := ⟨2, ![8192, 2048]⟩
abbrev S1024x2048 : Shape := ⟨2, ![1024, 2048]⟩
abbrev S2048x1024 : Shape := ⟨2, ![2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x4x1536, .bf16⟩
  | .hbm, ⟨3, _⟩ => ⟨S8192x4x256, .bf16⟩
  | .hbm, ⟨4, _⟩ => ⟨S8192x4x256, .bf16⟩
  | .hbm, ⟨5, _⟩ => ⟨S8192x4x512, .bf16⟩
  | .hbm, ⟨6, _⟩ => ⟨S8192x4x512, .bf16⟩
  | .hbm, ⟨7, _⟩ => ⟨S8192x1024, .bf16⟩
  | .hbm, ⟨8, _⟩ => ⟨S_, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S1024x1024, .f32⟩
  | .hbm, ⟨15, _⟩ => ⟨S8192x1024, .bf16⟩
  | .hbm, ⟨16, _⟩ => ⟨S_, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S8192x2048, .bf16⟩
  | .hbm, ⟨24, _⟩ => ⟨S_, .f32⟩
  | .hbm, ⟨25, _⟩ => ⟨S1024x2048, .f32⟩
  | .hbm, ⟨26, _⟩ => ⟨S8192x1024, .f32⟩
  | .hbm, ⟨27, _⟩ => ⟨S8192x2048, .f32⟩
  | .hbm, ⟨28, _⟩ => ⟨S8192x2048, .f32⟩
  | .hbm, ⟨29, _⟩ => ⟨S2048x1024, .f32⟩
  | .hbm, ⟨30, _⟩ => ⟨S1024x2048, .f32⟩
  | .hbm, ⟨31, _⟩ => ⟨S8192x2048, .bf16⟩
  | .hbm, ⟨32, _⟩ => ⟨S_, .f32⟩
  | .hbm, ⟨33, _⟩ => ⟨S1024x2048, .f32⟩
  | .hbm, ⟨34, _⟩ => ⟨S8192x1024, .f32⟩
  | .hbm, ⟨35, _⟩ => ⟨S8192x2048, .f32⟩
  | .hbm, ⟨36, _⟩ => ⟨S8192x2048, .f32⟩
  | .hbm, ⟨37, _⟩ => ⟨S2048x1024, .f32⟩
  | .hbm, ⟨38, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== KernelDwc.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwcIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwg.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDwgIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwRetOut.lean ====
abbrev S8192x2048 : Shape := ⟨2, ![8192, 2048]⟩
abbrev S8192x1024 : Shape := ⟨2, ![8192, 1024]⟩
abbrev S2048x1024 : Shape := ⟨2, ![2048, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwRetOutIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwConvOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwConvOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceDwOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDh.lean ====
abbrev S8192x6144 : Shape := ⟨2, ![8192, 6144]⟩
abbrev S8192x3072 : Shape := ⟨2, ![8192, 3072]⟩
abbrev S8192x2048 : Shape := ⟨2, ![8192, 2048]⟩
abbrev S1024x11264 : Shape := ⟨2, ![1024, 11264]⟩
abbrev S8192x1024 : Shape := ⟨2, ![8192, 1024]⟩
abbrev S1x1024 : Shape := ⟨2, ![1, 1024]⟩
abbrev S8x1024 : Shape := ⟨2, ![8, 1024]⟩
abbrev S256x6144 : Shape := ⟨2, ![256, 6144]⟩
abbrev S256x3072 : Shape := ⟨2, ![256, 3072]⟩
abbrev S256x2048 : Shape := ⟨2, ![256, 2048]⟩
abbrev S256x1024 : Shape := ⟨2, ![256, 1024]⟩
abbrev S1024x3072 : Shape := ⟨2, ![1024, 3072]⟩
abbrev S1024x2048 : Shape := ⟨2, ![1024, 2048]⟩
abbrev S256x256 : Shape := ⟨2, ![256, 256]⟩
abbrev S1024x256 : Shape := ⟨2, ![1024, 256]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x6144, .bf16⟩
  | .hbm, ⟨1, _⟩ => ⟨S8192x3072, .bf16⟩
  | .hbm, ⟨2, _⟩ => ⟨S8192x2048, .bf16⟩
  | .hbm, ⟨3, _⟩ => ⟨S1024x11264, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1024x11264, .bf16⟩
  | .hbm, ⟨9, _⟩ => ⟨S8192x1024, .f32⟩
  | .hbm, ⟨10, _⟩ => ⟨S8x1024, .f32⟩
  | .local _ .vmem, ⟨0, _⟩ => ⟨S256x6144, .bf16⟩
  | .local _ .vmem, ⟨1, _⟩ => ⟨S256x6144, .bf16⟩
  | .local _ .vmem, ⟨2, _⟩ => ⟨S256x3072, .bf16⟩
  | .local _ .vmem, ⟨3, _⟩ => ⟨S256x3072, .bf16⟩
  | .local _ .vmem, ⟨4, _⟩ => ⟨S256x2048, .bf16⟩
  | .local _ .vmem, ⟨5, _⟩ => ⟨S256x2048, .bf16⟩
  | .local _ .vmem, ⟨6, _⟩ => ⟨S1024x11264, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x11264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceDhIdeal.lean ====
abbrev S8192x6144 : Shape := ⟨2, ![8192, 6144]⟩
abbrev S8192x3072 : Shape := ⟨2, ![8192, 3072]⟩
abbrev S8192x2048 : Shape := ⟨2, ![8192, 2048]⟩
abbrev S1024x11264 : Shape := ⟨2, ![1024, 11264]⟩
abbrev S8192x1024 : Shape := ⟨2, ![8192, 1024]⟩
abbrev S1x1024 : Shape := ⟨2, ![1, 1024]⟩
abbrev S8192x4x1536 : Shape := ⟨3, ![8192, 4, 1536]⟩
abbrev S8192x4x256 : Shape := ⟨3, ![8192, 4, 256]⟩
abbrev S8192x4x512 : Shape := ⟨3, ![8192, 4, 512]⟩
abbrev S8192x11264 : Shape := ⟨2, ![8192, 11264]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x3072, .bf16⟩
  | .hbm, ⟨2, _⟩ => ⟨S8192x2048, .bf16⟩
  | .hbm, ⟨3, _⟩ => ⟨S1024x11264, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S8192x6144, .f32⟩
  | .hbm, ⟨9, _⟩ => ⟨S8192x4x1536, .f32⟩
  | .hbm, ⟨10, _⟩ => ⟨S8192x4x256, .f32⟩
  | .hbm, ⟨11, _⟩ => ⟨S8192x4x256, .f32⟩
  | .hbm, ⟨12, _⟩ => ⟨S8192x4x512, .f32⟩
  | .hbm, ⟨13, _⟩ => ⟨S8192x4x512, .f32⟩
  | .hbm, ⟨14, _⟩ => ⟨S8192x1024, .f32⟩
  | .hbm, ⟨15, _⟩ => ⟨S8192x1024, .f32⟩
  | .hbm, ⟨16, _⟩ => ⟨S8192x2048, .f32⟩
  | .hbm, ⟨17, _⟩ => ⟨S8192x2048, .f32⟩
  | .hbm, ⟨18, _⟩ => ⟨S8192x3072, .f32⟩
  | .hbm, ⟨19, _⟩ => ⟨S8192x2048, .f32⟩
  | .hbm, ⟨20, _⟩ => ⟨S8192x11264, .f32⟩
  | .hbm, ⟨21, _⟩ => ⟨S_, .f32⟩
  | .hbm, ⟨22, _⟩ => ⟨S1x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x11264, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S5x1024, .f32⟩
  | .hbm, ⟨86, _⟩ => ⟨S8x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== KernelHead.lean ====
abbrev S8192x2048 : Shape := ⟨2, ![8192, 2048]⟩
abbrev S8192x1024 : Shape := ⟨2, ![8192, 1024]⟩
abbrev S8192x11264 : Shape := ⟨2, ![8192, 11264]⟩
abbrev S1x1024 : Shape := ⟨2, ![1, 1024]⟩
abbrev S2048x1024 : Shape := ⟨2, ![2048, 1024]⟩
abbrev S1024x1024 : Shape := ⟨2, ![1024, 1024]⟩
abbrev S8x1024 : Shape := ⟨2, ![8, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 22
  | .vmem => 34
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x11264, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S2048x1024, .bf16⟩
  | .hbm, ⟨11, _⟩ => ⟨S1024x1024, .bf16⟩
  | .hbm, ⟨12, _⟩ => ⟨S1024x1024, .bf16⟩
  | .hbm, ⟨13, _⟩ => ⟨S8192x1024, .f32⟩
  | .hbm, ⟨14, _⟩ => ⟨S8192x2048, .bf16⟩
  | .hbm, ⟨15, _⟩ => ⟨S8192x2048, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x2048, .bf16⟩
  | .local _ .vmem, ⟨20, _⟩ => ⟨S256x2048, .bf16⟩
  | .local _ .vmem, ⟨21, _⟩ => ⟨S256x2048, .f32⟩
  | .local _ .vmem, ⟨22, _⟩ => ⟨S256x2048, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceHeadIdeal.lean ====
abbrev S8192x2048 : Shape := ⟨2, ![8192, 2048]⟩
abbrev S8192x1024 : Shape := ⟨2, ![8192, 1024]⟩
abbrev S8192x11264 : Shape := ⟨2, ![8192, 11264]⟩
abbrev S1x1024 : Shape := ⟨2, ![1, 1024]⟩
abbrev S2048x1024 : Shape := ⟨2, ![2048, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 137
  | .vmem => 0
  | .smem => 0
  | _ => 0

abbrev hbmTy0_0 (i : Nat) : BufTy := match i % 128 with
  | 0 => ⟨S8192x2048, .bf16⟩
  | 1 => ⟨S8192x1024, .bf16⟩
  | 2 => ⟨S8192x11264, .f32⟩
  | 3 => ⟨S8192x1024, .f32⟩
  | 4 => ⟨S8192x1024, .f32⟩
  | 5 => ⟨S1x1024, .f32⟩
  | 6 => ⟨S1x1024, .f32⟩
  | 7 => ⟨S2048x1024, .f32⟩
  | 8 => ⟨S1024x1024, .f32⟩
  | 9 => ⟨S1024x1024, .f32⟩
  | 10 => ⟨S8192x2048, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192, .f32⟩
  | 73 => ⟨S_, .f32⟩
  | 74 => ⟨S8192, .f32⟩
  | 75 => ⟨S8192, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S8192, .f32⟩
  | 84 => ⟨S_, .f32⟩
  | 85 => ⟨S8192, .f32⟩
  | 86 => ⟨S8192, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S_, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S_, .f32⟩
  | 103 => ⟨S8192, .f32⟩
  | 104 => ⟨S8192x1, .f32⟩
  | 105 => ⟨S8192x1024, .f32⟩
  | 106 => ⟨S8192x1024, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S1x1024, .f32⟩
  | 126 => ⟨S_, .f32⟩
  | 127 => ⟨S5x1024, .f32⟩
  | _ => ⟨S8192x2048, .bf16⟩

abbrev hbmTy0_1 (i : Nat) : BufTy := match i % 128 with
  | 0 => ⟨S8x1024, .f32⟩
  | 1 => ⟨S8192x2048, .f32⟩
  | 2 => ⟨S8192x2048, .bf16⟩
  | 3 => ⟨S8192x2048, .f32⟩
  | 4 => ⟨S8192x1024, .f32⟩
  | 5 => ⟨S8192x1024, .bf16⟩
  | 6 => ⟨S8192x1024, .bf16⟩
  | 7 => ⟨S8192x1024, .bf16⟩
  | 8 => ⟨S8192x1024, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_cst_15 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_cst_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_22 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]
-- ==== KernelSumSmall.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceSumSmallIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelSumConvW.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .local _ .vmem, ⟨0, _⟩ => ⟨S8x32x128, .f32⟩
  | .local _ .vmem, ⟨1, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceSumConvWIdeal.lean ====
abbrev S8x32x128 : Shape := ⟨3, ![8, 32, 128]⟩
abbrev S_ : Shape := ⟨0, ![]⟩
abbrev S32x128 : Shape := ⟨2, ![32, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S_, .f32⟩
  | .hbm, ⟨2, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGradWAda.lean ====
abbrev S8x1024 : Shape := ⟨2, ![8, 1024]⟩
abbrev S8x384 : Shape := ⟨2, ![8, 384]⟩
abbrev S1024x8 : Shape := ⟨2, ![1024, 8]⟩
abbrev S1024x384 : Shape := ⟨2, ![1024, 384]⟩
abbrev S1024x1 : Shape := ⟨2, ![1024, 1]⟩
abbrev S1x384 : Shape := ⟨2, ![1, 384]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1024x8, .f32⟩
  | .hbm, ⟨3, _⟩ => ⟨S1024x384, .f32⟩
  | .local _ .vmem, ⟨0, _⟩ => ⟨S1024x8, .f32⟩
  | .local _ .vmem, ⟨1, _⟩ => ⟨S8x384, .f32⟩
  | .local _ .vmem, ⟨2, _⟩ => ⟨S1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceGradWAdaIdeal.lean ====
abbrev S8x1024 : Shape := ⟨2, ![8, 1024]⟩
abbrev S8x384 : Shape := ⟨2, ![8, 384]⟩
abbrev S_ : Shape := ⟨0, ![]⟩
abbrev S1024x384 : Shape := ⟨2, ![1024, 384]⟩
abbrev S384x1024 : Shape := ⟨2, ![384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S_, .f32⟩
  | .hbm, ⟨3, _⟩ => ⟨S1024x384, .f32⟩
  | .hbm, ⟨4, _⟩ => ⟨S8x384, .f32⟩
  | .hbm, ⟨5, _⟩ => ⟨S384x1024, .f32⟩
  | .hbm, ⟨6, _⟩ => ⟨S1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAdamSmall.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAdamSmallIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamConvW.lean ====
abbrev S32x128 : Shape := ⟨2, ![32, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAdamConvWIdeal.lean ====
abbrev S32x128 : Shape := ⟨2, ![32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S32x128, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S32x128, .f32⟩
  | .hbm, ⟨14, _⟩ => ⟨S32x128, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S_, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S_, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S32x128, .f32⟩
  | .hbm, ⟨36, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamWAda.lean ====
abbrev S1024x384 : Shape := ⟨2, ![1024, 384]⟩

abbrev nBuf : Space → Nat
  | .hbm => 7
  | .vmem => 7
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .local _ .vmem, ⟨0, _⟩ => ⟨S1024x384, .f32⟩
  | .local _ .vmem, ⟨1, _⟩ => ⟨S1024x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAdamWAdaIdeal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamWIn.lean ====
abbrev S8x1024x1408 : Shape := ⟨3, ![8, 1024, 1408]⟩
abbrev S1024x1408 : Shape := ⟨2, ![1024, 1408]⟩
abbrev S8x128x1408 : Shape := ⟨3, ![8, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1408, .bf16⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S8x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamWInIdeal.lean ====
abbrev S8x1024x1408 : Shape := ⟨3, ![8, 1024, 1408]⟩
abbrev S1024x1408 : Shape := ⟨2, ![1024, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1408, .bf16⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S8x1024x1408, .f32⟩
  | .hbm, ⟨5, _⟩ => ⟨S_, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S_, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S_, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S_, .f32⟩
  | .hbm, ⟨30, _⟩ => ⟨S1024x1408, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S_, .f32⟩
  | .hbm, ⟨38, _⟩ => ⟨S1024x1408, .f32⟩
  | .hbm, ⟨39, _⟩ => ⟨S1024x1408, .f32⟩
  | _, _ => ⟨S8x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamWRetOut.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamWRetOutIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamWOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamWOutIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelRf.lean ====
abbrev S8192x11264 : Shape := ⟨2, ![8192, 11264]⟩
abbrev S8192x128 : Shape := ⟨2, ![8192, 128]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128 : Shape := ⟨3, ![4, 1, 128]⟩
abbrev S8192x2048 : Shape := ⟨2, ![8192, 2048]⟩
abbrev S4x64x256x512 : Shape := ⟨4, ![4, 64, 256, 512]⟩
abbrev S8192x3072 : Shape := ⟨2, ![8192, 3072]⟩
abbrev S1024x256 : Shape := ⟨2, ![1024, 256]⟩
abbrev S1024x512 : Shape := ⟨2, ![1024, 512]⟩
abbrev S1024x128 : Shape := ⟨2, ![1024, 128]⟩
abbrev S1x128x1 : Shape := ⟨3, ![1, 128, 1]⟩
abbrev S1x1x128 : Shape := ⟨3, ![1, 1, 128]⟩
abbrev S1x8x256x512 : Shape := ⟨4, ![1, 8, 256, 512]⟩
abbrev S1024x768 : Shape := ⟨2, ![1024, 768]⟩
abbrev S256x512 : Shape := ⟨2, ![256, 512]⟩
abbrev S1x1x1 : Shape := ⟨3, ![1, 1, 1]⟩
abbrev S1x1 : Shape := ⟨2, ![1, 1]⟩
abbrev S128x256 : Shape := ⟨2, ![128, 256]⟩
abbrev S128x512 : Shape := ⟨2, ![128, 512]⟩
abbrev S1x1x256x512 : Shape := ⟨4, ![1, 1, 256, 512]⟩

abbrev nBuf : Space → Nat
  | .hbm => 67
  | .vmem => 29
  | .smem => 0
  | _ => 0

abbrev bufTy : (tb : Table) → Fin (tcTables nBuf tb) → BufTy
  | .hbm, ⟨0, _⟩ => ⟨S8192x11264, .f32⟩
  | .hbm, ⟨1, _⟩ => ⟨S8192x128, .f32⟩
  | .hbm, ⟨2, _⟩ => ⟨S8192x128, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S128, .f32⟩
  | .hbm, ⟨14, _⟩ => ⟨S128x1, .f32⟩
  | .hbm, ⟨15, _⟩ => ⟨S1x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .i1⟩
  | .hbm, ⟨22, _⟩ => ⟨S4x1x1, .f32⟩
  | .hbm, ⟨23, _⟩ => ⟨S_, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S4x1, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128x1, .f32⟩
  | .hbm, ⟨47, _⟩ => ⟨S4x1, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S4x128, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128x1, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x1x1, .f32⟩
  | .hbm, ⟨62, _⟩ => ⟨S4x1x128, .f32⟩
  | .hbm, ⟨63, _⟩ => ⟨S8192x2048, .bf16⟩
  | .hbm, ⟨64, _⟩ => ⟨S8192x2048, .f32⟩
  | .hbm, ⟨65, _⟩ => ⟨S4x64x256x512, .bf16⟩
  | .hbm, ⟨66, _⟩ => ⟨S8192x3072, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x128x128, .f32⟩
  | .local _ .vmem, ⟨13, _⟩ => ⟨S1x128x128, .f32⟩
  | .local _ .vmem, ⟨14, _⟩ => ⟨S1x128x1, .f32⟩
  | .local _ .vmem, ⟨15, _⟩ => ⟨S1x128x1, .f32⟩
  | .local _ .vmem, ⟨16, _⟩ => ⟨S1x128x1, .f32⟩
  | .local _ .vmem, ⟨17, _⟩ => ⟨S1x128x1, .f32⟩
  | .local _ .vmem, ⟨18, _⟩ => ⟨S1x1x128, .f32⟩
  | .local _ .vmem, ⟨19, _⟩ => ⟨S1x1x128, .f32⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x512, .f32⟩
  | .local _ .vmem, ⟨24, _⟩ => ⟨S1x8x256x512, .bf16⟩
  | .local _ .vmem, ⟨25, _⟩ => ⟨S1x8x256x512, .bf16⟩
  | .local _ .vmem, ⟨26, _⟩ => ⟨S1024x768, .bf16⟩
  | .local _ .vmem, ⟨27, _⟩ => ⟨S1024x768, .bf16⟩
  | .local _ .vmem, ⟨28, _⟩ => ⟨S256x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev main_v47_2 : Ref sig .tc := ⟨.hbm, 65, rfl⟩
abbrev main_v47_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceRfIdeal.lean ====
abbrev S8192x11264 : Shape := ⟨2, ![8192, 11264]⟩
abbrev S8192x128 : Shape := ⟨2, ![8192, 128]⟩
abbrev S8192x1024 : Shape := ⟨2, ![8192, 1024]⟩
abbrev S8192x4x256 : Shape := ⟨3, ![8192, 4, 256]⟩
abbrev S8192x1x128 : Shape := ⟨3, ![8192, 1, 128]⟩
abbrev S8192x4x128 : Shape := ⟨3, ![8192, 4, 128]⟩
abbrev S_ : Shape := ⟨0, ![]⟩
abbrev S8192x2048 : Shape := ⟨2, ![8192, 2048]⟩
abbrev S8192x4x512 : Shape := ⟨3, ![8192, 4, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x256x512 : Shape := ⟨3, ![4, 256, 512]⟩
abbrev S64x128x4x256 : Shape := ⟨4, ![64, 128, 4, 256]⟩
abbrev S64x4x128x256 : Shape := ⟨4, ![64, 4, 128, 256]⟩
abbrev S64x128x4x512 : Shape := ⟨4, ![64, 128, 4, 512]⟩
abbrev S64x4x128x512 : Shape := ⟨4, ![64, 4, 128, 512]⟩
abbrev S64x4x256x512 : Shape := ⟨4, ![64, 4, 256, 512]⟩
abbrev S64x4x128x768 : Shape := ⟨4, ![64, 4, 128, 768]⟩
abbrev S1x4x128x256 : Shape := ⟨4, ![1, 4, 128, 256]⟩
abbrev S4x128x256 : Shape := ⟨3, ![4, 128, 256]⟩
abbrev S1x4x128x512 : Shape := ⟨4, ![1, 4, 128, 512]⟩
abbrev S4x128x512 : Shape := ⟨3, ![4, 128, 512]⟩
abbrev S4x128x1 : Shape := ⟨3, ![4, 128, 1]⟩
abbrev S4x128x768 : Shape := ⟨3, ![4, 128, 768]⟩
abbrev S1x4x256x512 : Shape := ⟨4, ![1, 4, 256, 512]⟩
abbrev S1x4x128x768 : Shape := ⟨4, ![1, 4, 128, 768]⟩
abbrev S4x64x256x512 : Shape := ⟨4, ![4, 64, 256, 512]⟩
abbrev S64x128x4x768 : Shape := ⟨4, ![64, 128, 4, 768]⟩
abbrev S8192x4x768 : Shape := ⟨3, ![8192, 4, 768]⟩
abbrev S8192x4 : Shape := ⟨2, ![8192, 4]⟩
abbrev S8192x4x1 : Shape := ⟨3, ![8192, 4, 1]⟩
abbrev S8192x3072 : Shape := ⟨2, ![8192, 3072]⟩

abbrev nBuf : Space → Nat
  | .hbm => 221
  | .vmem => 0
  | .smem => 0
  | _ => 0

abbrev hbmTy0_0 (i : Nat) : BufTy := match i % 128 with
  | 0 => ⟨S8192x11264, .f32⟩
  | 1 => ⟨S8192x128, .f32⟩
  | 2 => ⟨S8192x128, .f32⟩
  | 3 => ⟨S8192x1024, .f32⟩
  | 4 => ⟨S8192x4x256, .f32⟩
  | 5 => ⟨S8192x1x128, .f32⟩
  | 6 => ⟨S8192x1x128, .f32⟩
  | 7 => ⟨S8192x4x128, .f32⟩
  | 8 => ⟨S8192x4x128, .f32⟩
  | 9 => ⟨S8192x4x128, .f32⟩
  | 10 => ⟨S8192x4x128, .f32⟩
  | 11 => ⟨S8192x4x128, .f32⟩
  | 12 => ⟨S8192x4x128, .f32⟩
  | 13 => ⟨S8192x4x128, .f32⟩
  | 14 => ⟨S8192x4x128, .f32⟩
  | 15 => ⟨S8192x4x128, .f32⟩
  | 16 => ⟨S8192x4x128, .f32⟩
  | 17 => ⟨S8192x4x128, .f32⟩
  | 18 => ⟨S8192x4x128, .f32⟩
  | 19 => ⟨S8192x4x256, .f32⟩
  | 20 => ⟨S8192x1024, .f32⟩
  | 21 => ⟨S8192x4x256, .f32⟩
  | 22 => ⟨S8192x1x128, .f32⟩
  | 23 => ⟨S8192x1x128, .f32⟩
  | 24 => ⟨S8192x4x128, .f32⟩
  | 25 => ⟨S8192x4x128, .f32⟩
  | 26 => ⟨S8192x4x128, .f32⟩
  | 27 => ⟨S8192x4x128, .f32⟩
  | 28 => ⟨S8192x4x128, .f32⟩
  | 29 => ⟨S8192x4x128, .f32⟩
  | 30 => ⟨S8192x4x128, .f32⟩
  | 31 => ⟨S8192x4x128, .f32⟩
  | 32 => ⟨S8192x4x128, .f32⟩
  | 33 => ⟨S8192x4x128, .f32⟩
  | 34 => ⟨S8192x4x128, .f32⟩
  | 35 => ⟨S8192x4x128, .f32⟩
  | 36 => ⟨S8192x4x256, .f32⟩
  | 37 => ⟨S_, .f32⟩
  | 38 => ⟨S8192x4x256, .f32⟩
  | 39 => ⟨S8192x4x256, .f32⟩
  | 40 => ⟨S8192x2048, .f32⟩
  | 41 => ⟨S8192x4x512, .f32⟩
  | 42 => ⟨S4, .f32⟩
  | 43 => ⟨S_, .f32⟩
  | 44 => ⟨S4, .f32⟩
  | 45 => ⟨S4, .f32⟩
  | 46 => ⟨S_, .f32⟩
  | 47 => ⟨S4, .f32⟩
  | 48 => ⟨S4, .f32⟩
  | 49 => ⟨S4, .f32⟩
  | 50 => ⟨S4, .f32⟩
  | 51 => ⟨S4, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S_, .f32⟩
  | 63 => ⟨S_, .f32⟩
  | 64 => ⟨S128x128, .f32⟩
  | 65 => ⟨S128x128, .f32⟩
  | 66 => ⟨S1x128x128, .f32⟩
  | 67 => ⟨S4x128x128, .f32⟩
  | 68 => ⟨S4x128x128, .f32⟩
  | 69 => ⟨S4x128x128, .f32⟩
  | 70 => ⟨S4x128x128, .f32⟩
  | 71 => ⟨S_, .f32⟩
  | 72 => ⟨S_, .f32⟩
  | 73 => ⟨S4x128x128, .i1⟩
  | 74 => ⟨S4x128x128, .f32⟩
  | 75 => ⟨S4x128x128, .f32⟩
  | 76 => ⟨S4x1, .f32⟩
  | 77 => ⟨S_, .f32⟩
  | 78 => ⟨S128, .f32⟩
  | 79 => ⟨S128, .f32⟩
  | 80 => ⟨S1x128, .f32⟩
  | 81 => ⟨S4x128, .f32⟩
  | 82 => ⟨S4x128, .f32⟩
  | 83 => ⟨S4x128, .f32⟩
  | 84 => ⟨S4x128, .f32⟩
  | 85 => ⟨S4x1, .f32⟩
  | 86 => ⟨S_, .f32⟩
  | 87 => ⟨S128, .f32⟩
  | 88 => ⟨S128, .f32⟩
  | 89 => ⟨S1x128, .f32⟩
  | 90 => ⟨S4x128, .f32⟩
  | 91 => ⟨S4x128, .f32⟩
  | 92 => ⟨S4x128, .f32⟩
  | 93 => ⟨S4x128, .f32⟩
  | 94 => ⟨S_, .f32⟩
  | 95 => ⟨S4, .f32⟩
  | 96 => ⟨S4, .f32⟩
  | 97 => ⟨S4, .f32⟩
  | 98 => ⟨S_, .f32⟩
  | 99 => ⟨S4x256x512, .f32⟩
  | 100 => ⟨S64x128x4x256, .f32⟩
  | 101 => ⟨S64x4x128x256, .f32⟩
  | 102 => ⟨S64x128x4x256, .f32⟩
  | 103 => ⟨S64x4x128x256, .f32⟩
  | 104 => ⟨S64x128x4x512, .f32⟩
  | 105 => ⟨S64x4x128x512, .f32⟩
  | 106 => ⟨S_, .f32⟩
  | 107 => ⟨S64x4x128x512, .f32⟩
  | 108 => ⟨S_, .f32⟩
  | 109 => ⟨S64x4x256x512, .f32⟩
  | 110 => ⟨S_, .f32⟩
  | 111 => ⟨S64x4x128x768, .f32⟩
  | 112 => ⟨S_, .i32⟩
  | 113 => ⟨S64x4x128x256, .f32⟩
  | 114 => ⟨S64x4x128x256, .f32⟩
  | 115 => ⟨S64x4x128x512, .f32⟩
  | 116 => ⟨S4x128x128, .f32⟩
  | 117 => ⟨S4x128, .f32⟩
  | 118 => ⟨S4x128, .f32⟩
  | 119 => ⟨S4, .f32⟩
  | 120 => ⟨S_, .i32⟩
  | 121 => ⟨S4x256x512, .f32⟩
  | 122 => ⟨S64x4x128x512, .f32⟩
  | 123 => ⟨S64x4x256x512, .f32⟩
  | 124 => ⟨S64x4x128x768, .f32⟩
  | 125 => ⟨S_, .i32⟩
  | 126 => ⟨S_, .i1⟩
  | 127 => ⟨S_, .i32⟩
  | _ => ⟨S8192x11264, .f32⟩

abbrev hbmTy0_1 (i : Nat) : BufTy := match i % 128 with
  | 0 => ⟨S_, .i32⟩
  | 1 => ⟨S_, .i32⟩
  | 2 => ⟨S1x4x128x256, .f32⟩
  | 3 => ⟨S4x128x256, .f32⟩
  | 4 => ⟨S_, .i32⟩
  | 5 => ⟨S_, .i32⟩
  | 6 => ⟨S_, .i32⟩
  | 7 => ⟨S1x4x128x256, .f32⟩
  | 8 => ⟨S4x128x256, .f32⟩
  | 9 => ⟨S_, .i32⟩
  | 10 => ⟨S_, .i32⟩
  | 11 => ⟨S_, .i32⟩
  | 12 => ⟨S1x4x128x512, .f32⟩
  | 13 => ⟨S4x128x512, .f32⟩
  | 14 => ⟨S4x128x128, .f32⟩
  | 15 => ⟨S4x128x128, .f32⟩
  | 16 => ⟨S4x128x512, .f32⟩
  | 17 => ⟨S4x128x512, .f32⟩
  | 18 => ⟨S4x128x1, .f32⟩
  | 19 => ⟨S4x128x512, .f32⟩
  | 20 => ⟨S4x128x512, .f32⟩
  | 21 => ⟨S4x128x1, .f32⟩
  | 22 => ⟨S4x128x256, .f32⟩
  | 23 => ⟨S4x128x256, .f32⟩
  | 24 => ⟨S4x1x1, .f32⟩
  | 25 => ⟨S4x256x512, .f32⟩
  | 26 => ⟨S4x256x512, .f32⟩
  | 27 => ⟨S4x256x512, .f32⟩
  | 28 => ⟨S4x256x512, .f32⟩
  | 29 => ⟨S4x128x512, .f32⟩
  | 30 => ⟨S4x128x768, .f32⟩
  | 31 => ⟨S1x4x128x512, .f32⟩
  | 32 => ⟨S_, .i32⟩
  | 33 => ⟨S_, .i32⟩
  | 34 => ⟨S_, .i32⟩
  | 35 => ⟨S64x4x128x512, .f32⟩
  | 36 => ⟨S1x4x256x512, .f32⟩
  | 37 => ⟨S_, .i32⟩
  | 38 => ⟨S_, .i32⟩
  | 39 => ⟨S_, .i32⟩
  | 40 => ⟨S64x4x256x512, .f32⟩
  | 41 => ⟨S1x4x128x768, .f32⟩
  | 42 => ⟨S_, .i32⟩
  | 43 => ⟨S_, .i32⟩
  | 44 => ⟨S_, .i32⟩
  | 45 => ⟨S64x4x128x768, .f32⟩
  | 46 => ⟨S_, .i32⟩
  | 47 => ⟨S_, .i32⟩
  | 48 => ⟨S64x128x4x512, .f32⟩
  | 49 => ⟨S8192x4x512, .f32⟩
  | 50 => ⟨S4x64x256x512, .f32⟩
  | 51 => ⟨S64x128x4x768, .f32⟩
  | 52 => ⟨S8192x4x768, .f32⟩
  | 53 => ⟨S_, .f32⟩
  | 54 => ⟨S8192x4, .f32⟩
  | 55 => ⟨S8192x4x1, .f32⟩
  | 56 => ⟨S_, .f32⟩
  | 57 => ⟨S8192x4x1, .f32⟩
  | 58 => ⟨S8192x4x1, .f32⟩
  | 59 => ⟨S8192x4x512, .f32⟩
  | 60 => ⟨S8192x4x512, .f32⟩
  | 61 => ⟨S8192x4x512, .f32⟩
  | 62 => ⟨S_, .f32⟩
  | 63 => ⟨S8192x4, .f32⟩
  | 64 => ⟨S8192x4x1, .f32⟩
  | 65 => ⟨S_, .f32⟩
  | 66 => ⟨S8192x4x1, .f32⟩
  | 67 => ⟨S8192x4x1, .f32⟩
  | 68 => ⟨S8192x4x512, .f32⟩
  | 69 => ⟨S8192x4x512, .f32⟩
  | 70 => ⟨S_, .f32⟩
  | 71 => ⟨S8192x4x1, .f32⟩
  | 72 => ⟨S8192x4x1, .f32⟩
  | 73 => ⟨S8192x4x1, .f32⟩
  | 74 => ⟨S8192x4x512, .f32⟩
  | 75 => ⟨S8192x4x512, .f32⟩
  | 76 => ⟨S8192x2048, .f32⟩
  | 77 => ⟨S8192x2048, .f32⟩
  | 78 => ⟨S8192x2048, .f32⟩
  | 79 => ⟨S8192x2048, .f32⟩
  | 80 => ⟨S_, .f32⟩
  | 81 => ⟨S8192x2048, .f32⟩
  | 82 => ⟨S8192x2048, .f32⟩
  | 83 => ⟨S_, .f32⟩
  | 84 => ⟨S8192x2048, .f32⟩
  | 85 => ⟨S8192x2048, .f32⟩
  | 86 => ⟨S8192x2048, .f32⟩
  | 87 => ⟨S8192x2048, .f32⟩
  | 88 => ⟨S8192x2048, .bf16⟩
  | 89 => ⟨S8192x2048, .f32⟩
  | 90 => ⟨S4x64x256x512, .bf16⟩
  | 91 => ⟨S8192x3072, .f32⟩
  | 92 => ⟨S8192x3072, .bf16⟩
  | _ => ⟨S8192x11264, .f32⟩

abbrev hbmTy (i : Nat) : BufTy := match i / 128 with
  | 0 => hbmTy0_0 i
  | 1 => hbmTy0_1 i
  | _ => ⟨S8192x11264, .f32⟩

abbrev bufTy : (tb : Table) → Fin (tcTables nBuf tb) → BufTy
  | .hbm, ⟨i, _⟩ => hbmTy i
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_cst : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_0 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_2 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_3 : Ref sig .tc := ⟨.hbm, 62, rfl⟩
abbrev main_call0_v0 : Ref sig .tc := ⟨.hbm, 63, rfl⟩
abbrev main_call0_v1 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_6 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_8 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_9 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_cst_11 : Ref sig .tc := ⟨.hbm, 110, rfl⟩
abbrev main_v90 : Ref sig .tc := ⟨.hbm, 111, rfl⟩
abbrev main_c : Ref sig .tc := ⟨.hbm, 112, rfl⟩
abbrev main_v91_0 : Ref sig .tc := ⟨.hbm, 113, rfl⟩
abbrev main_v91_1 : Ref sig .tc := ⟨.hbm, 114, rfl⟩
abbrev main_v91_2 : Ref sig .tc := ⟨.hbm, 115, rfl⟩
abbrev main_v91_3 : Ref sig .tc := ⟨.hbm, 116, rfl⟩
abbrev main_v91_4 : Ref sig .tc := ⟨.hbm, 117, rfl⟩
abbrev main_v91_5 : Ref sig .tc := ⟨.hbm, 118, rfl⟩
abbrev main_v91_6 : Ref sig .tc := ⟨.hbm, 119, rfl⟩
abbrev main_v91_7 : Ref sig .tc := ⟨.hbm, 120, rfl⟩
abbrev main_v91_8 : Ref sig .tc := ⟨.hbm, 121, rfl⟩
abbrev main_v91_9 : Ref sig .tc := ⟨.hbm, 122, rfl⟩
abbrev main_v91_10 : Ref sig .tc := ⟨.hbm, 123, rfl⟩
abbrev main_v91_11 : Ref sig .tc := ⟨.hbm, 124, rfl⟩
abbrev main_while0c_c_28 : Ref sig .tc := ⟨.hbm, 125, rfl⟩
abbrev main_while0c_v124 : Ref sig .tc := ⟨.hbm, 126, rfl⟩
abbrev main_while0b_call2_c : Ref sig .tc := ⟨.hbm, 127, rfl⟩
abbrev main_while0b_call2_c_0 : Ref sig .tc := ⟨.hbm, 128, rfl⟩
abbrev main_while0b_call2_c_1 : Ref sig .tc := ⟨.hbm, 129, rfl⟩
abbrev main_while0b_call2_v0 : Ref sig .tc := ⟨.hbm, 130, rfl⟩
abbrev main_while0b_v124 : Ref sig .tc := ⟨.hbm, 131, rfl⟩
abbrev main_while0b_call3_c : Ref sig .tc := ⟨.hbm, 132, rfl⟩
abbrev main_while0b_call3_c_0 : Ref sig .tc := ⟨.hbm, 133, rfl⟩
abbrev main_while0b_call3_c_1 : Ref sig .tc := ⟨.hbm, 134, rfl⟩
abbrev main_while0b_call3_v0 : Ref sig .tc := ⟨.hbm, 135, rfl⟩
abbrev main_while0b_v125 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_call4_c_1 : Ref sig .tc := ⟨.hbm, 139, rfl⟩
abbrev main_while0b_call4_v0 : Ref sig .tc := ⟨.hbm, 140, rfl⟩
abbrev main_while0b_v126 : Ref sig .tc := ⟨.hbm, 141, rfl⟩
abbrev main_while0b_v127 : Ref sig .tc := ⟨.hbm, 142, rfl⟩
abbrev main_while0b_v128 : Ref sig .tc := ⟨.hbm, 143, rfl⟩
abbrev main_while0b_v129 : Ref sig .tc := ⟨.hbm, 144, rfl⟩
abbrev main_while0b_v130 : Ref sig .tc := ⟨.hbm, 145, rfl⟩
abbrev main_while0b_v131 : Ref sig .tc := ⟨.hbm, 146, rfl⟩
abbrev main_while0b_v132 : Ref sig .tc := ⟨.hbm, 147, rfl⟩
abbrev main_while0b_v133 : Ref sig .tc := ⟨.hbm, 148, rfl⟩
abbrev main_while0b_v134 : Ref sig .tc := ⟨.hbm, 149, rfl⟩
abbrev main_while0b_v135 : Ref sig .tc := ⟨.hbm, 150, rfl⟩
abbrev main_while0b_v136 : Ref sig .tc := ⟨.hbm, 151, rfl⟩
abbrev main_while0b_v137 : Ref sig .tc := ⟨.hbm, 152, rfl⟩
abbrev main_while0b_v138 : Ref sig .tc := ⟨.hbm, 153, rfl⟩
abbrev main_while0b_v139 : Ref sig .tc := ⟨.hbm, 154, rfl⟩
abbrev main_while0b_v140 : Ref sig .tc := ⟨.hbm, 155, rfl⟩
abbrev main_while0b_v141 : Ref sig .tc := ⟨.hbm, 156, rfl⟩
abbrev main_while0b_v142 : Ref sig .tc := ⟨.hbm, 157, rfl⟩
abbrev main_while0b_v143 : Ref sig .tc := ⟨.hbm, 158, rfl⟩
abbrev main_while0b_call5_v0 : Ref sig .tc := ⟨.hbm, 159, rfl⟩
abbrev main_while0b_call5_c : Ref sig .tc := ⟨.hbm, 160, rfl⟩
abbrev main_while0b_call5_c_0 : Ref sig .tc := ⟨.hbm, 161, rfl⟩
abbrev main_while0b_call5_c_1 : Ref sig .tc := ⟨.hbm, 162, rfl⟩
abbrev main_while0b_v144 : Ref sig .tc := ⟨.hbm, 163, rfl⟩
abbrev main_while0b_call6_v0 : Ref sig .tc := ⟨.hbm, 164, rfl⟩
abbrev main_while0b_call6_c : Ref sig .tc := ⟨.hbm, 165, rfl⟩
abbrev main_while0b_call6_c_0 : Ref sig .tc := ⟨.hbm, 166, rfl⟩
abbrev main_while0b_call6_c_1 : Ref sig .tc := ⟨.hbm, 167, rfl⟩
abbrev main_while0b_v145 : Ref sig .tc := ⟨.hbm, 168, rfl⟩
abbrev main_while0b_call7_v0 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_v146 : Ref sig .tc := ⟨.hbm, 173, rfl⟩
abbrev main_while0b_c_28 : Ref sig .tc := ⟨.hbm, 174, rfl⟩
abbrev main_while0b_v147 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_cst_12 : Ref sig .tc := ⟨.hbm, 181, rfl⟩
abbrev main_v97 : Ref sig .tc := ⟨.hbm, 182, rfl⟩
abbrev main_v98 : Ref sig .tc := ⟨.hbm, 183, rfl⟩
abbrev main_cst_13 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_cst_14 : Ref sig .tc := ⟨.hbm, 190, rfl⟩
abbrev main_v104 : Ref sig .tc := ⟨.hbm, 191, rfl⟩
abbrev main_v105 : Ref sig .tc := ⟨.hbm, 192, rfl⟩
abbrev main_cst_15 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_cst_16 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_call8_v0 : Ref sig .tc := ⟨.hbm, 206, rfl⟩
abbrev main_call8_v1 : Ref sig .tc := ⟨.hbm, 207, rfl⟩
abbrev main_call8_cst : Ref sig .tc := ⟨.hbm, 208, rfl⟩
abbrev main_call8_v2 : Ref sig .tc := ⟨.hbm, 209, rfl⟩
abbrev main_call8_v3 : Ref sig .tc := ⟨.hbm, 210, rfl⟩
abbrev main_call8_cst_0 : Ref sig .tc := ⟨.hbm, 211, rfl⟩
abbrev main_call8_v4 : Ref sig .tc := ⟨.hbm, 212, rfl⟩
abbrev main_call8_v5 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩

abbrev nD : Nat := 1
abbrev τ : Topo := Topo.v7x

variable {F : FTy → Type} [FloatOps F]

abbrev main_while0_count : Scf.Loop 32 := ⟨0#32, 64#32, 1#32⟩
-- ==== KernelMod.lean ====
abbrev S8x1024 : Shape := ⟨2, ![8, 1024]⟩
abbrev S1024x384 : Shape := ⟨2, ![1024, 384]⟩
abbrev S1x384 : Shape := ⟨2, ![1, 384]⟩
abbrev S8x384 : Shape := ⟨2, ![8, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S1x384, .f32⟩
  | .local _ .vmem, ⟨3, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceModIdeal.lean ====
abbrev S8x1024 : Shape := ⟨2, ![8, 1024]⟩
abbrev S1024x384 : Shape := ⟨2, ![1024, 384]⟩
abbrev S1x384 : Shape := ⟨2, ![1, 384]⟩
abbrev S8x384 : Shape := ⟨2, ![8, 384]⟩

abbrev nBuf : Space → Nat
  | .hbm => 6
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x384, .f32⟩
  | .hbm, ⟨4, _⟩ => ⟨S8x384, .f32⟩
  | .hbm, ⟨5, _⟩ => ⟨S8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.WeightGrad.lean ====
/- Sums over the 8192 rows of a product Aᵀ B, taken in four blocks of 2048 rows: the arithmetic the weight-gradient
   programs share. -/
module

public import Idealize.ShloMosaic.Lib.Pipeline.Value
public import Idealize.ShloMosaic.Lib.ValueIdx
public import Idealize.ShloMosaic.PureOps.Ideal.Laws

@[expose] public section

noncomputable section

namespace Cert.WeightGrad

open Idealize.ShloMosaic Idealize.ShloMosaic.ValueIdx

/-- A sum over `a` blocks of `b` places is the sum over the `a * b` places. -/
theorem sum_blocks {M : Type*} [AddCommMonoid M] (f : ℕ → M) (a b : ℕ) :
    ∑ s ∈ Finset.range a, ∑ k ∈ Finset.range b, f (b * s + k) = ∑ n ∈ Finset.range (a * b), f n := by
  induction a with
  | zero => simp
  | succ a ih => rw [Finset.sum_range_succ, ih, Nat.succ_mul, Finset.sum_range_add, Nat.mul_comm b a]

/-- The place in a block of 2048 rows, carried to the whole array's rows. -/
def row (s : Fin 4) (k : Fin 2048) : Fin 8192 := ⟨2048 * s.val + k.val, by omega⟩

/-- The four blocks' sums together are the sum over all rows. -/
theorem sum_rows {M : Type*} [AddCommMonoid M] (f : Fin 8192 → M) :
    ∑ s : Fin 4, ∑ k : Fin 2048, f (row s k) = ∑ n : Fin 8192, f n := by
  let g : ℕ → M := fun n => if h : n < 8192 then f ⟨n, h⟩ else 0
  have hg : ∀ n : Fin 8192, f n = g n.val := fun n => by simp only [g, n.isLt, dite_true]
  simp only [hg]
  rw [Fin.sum_univ_eq_sum_range g, ← sum_blocks g 4 2048, Finset.sum_range]
  refine Finset.sum_congr rfl fun s _ => ?_
  rw [Finset.sum_range]
  rfl

/-- The fold of an accumulator started at the first block's product and stepped by each later block's, read at an index,
    is the sum of the products over all rows. -/
theorem fold_eq {N : ℕ} {ι : Type} (reset : (n : ℕ) → n < N → ι → EReal) (step : (n : ℕ) → n < N → (ι → EReal) → ι → EReal)
    (b : ℕ) (h : 4 * b + 3 < N) (i : ι) (p : Fin 8192 → ι → EReal)
    (hr : ∀ (h : 4 * b < N) (i : ι), reset (4 * b) h i = ∑ k : Fin 2048, p (row 0 k) i)
    (hs : ∀ (s : Fin 4) (h : 4 * b + s.val < N) (acc : ι → EReal) (i : ι),
      step (4 * b + s.val) h acc i = acc i + ∑ k : Fin 2048, p (row s k) i) :
    Pipeline.accAt reset step (4 * b) 3 h i = ∑ n : Fin 8192, p n i := by
  let M : ℕ → ι → EReal := fun n i => if hn : n - 4 * b < 4 then ∑ k : Fin 2048, p (row ⟨n - 4 * b, hn⟩ k) i else 0
  have hM : ∀ s : Fin 4, M (4 * b + s.val) i = ∑ k : Fin 2048, p (row s k) i := fun s => by
    have e : 4 * b + s.val - 4 * b = s.val := by omega
    show (if hn : 4 * b + s.val - 4 * b < 4 then _ else _) = _
    rw [dif_pos (by omega)]
    exact Finset.sum_congr rfl fun k _ => by congr 2; exact Fin.ext e
  rw [Pipeline.accAt_add_apply reset step (fun _ => 0) M (4 * b) 3 (fun h i => ?_) (fun n h acc i h1 h2 => ?_) 3 le_rfl h i,
    zero_add, Finset.sum_range, ← sum_rows fun n => p n i]
  · exact Finset.sum_congr rfl fun s _ => hM s
  · rw [hr h i, zero_add]
    show _ = (if hn : 4 * b - 4 * b < 4 then _ else _)
    rw [dif_pos (by omega)]
    exact Finset.sum_congr rfl fun k _ => by congr 2; exact Fin.ext (Nat.sub_self _).symm
  · obtain ⟨s, hs4, rfl⟩ : ∃ s, ∃ _ : s < 4, n = 4 * b + s := ⟨n - 4 * b, by omega, by omega⟩
    have e : 4 * b + s - 4 * b = s := by omega
    rw [hs ⟨s, hs4⟩ h acc i]
    show _ = acc i + (if hn : 4 * b + s - 4 * b < 4 then _ else _)
    rw [dif_pos (by omega)]
    exact congrArg (acc i + ·) (Finset.sum_congr rfl fun k _ => by congr 2; exact Fin.ext e.symm)

end Cert.WeightGrad

end
-- ==== Proof.DwrValue.lean ====
/- The gradients of w_in's retention columns: what the kernel leaves in its four results is the reference's products. -/
module

public import proofs.«01_k».proof.Proof.Gen.KernelDwrIdeal.Value
public import proofs.«01_k».proof.Proof.Gen.ReferenceDwrIdeal.Read
public import proofs.«01_k».proof.Proof.WeightGrad
public import Idealize.ShloMosaic.Lib.Pointwise

@[expose] public section

set_option maxRecDepth 16384

noncomputable section

namespace Cert.Dwr

open Idealize.ShloMosaic Idealize.ShloMosaic.TcCoe Idealize.SL.Sem
open Cert.KernelDwrIdeal Cert.KernelDwrIdeal.Gen Cert.KernelDwrIdeal.Value Cert.WeightGrad

variable (m : (ℓ : Loc nD τ sig) → Buf (Elt Ideal) ℓ) (c : Dev nD)

/-- The kernel's arguments: the layer's input, and the heads' gradients of q, k, v, z side by side. -/
abbrev X : S8192x1024.Idx → EReal := m ((c.tc : Thread nD τ).loc main_arg0)
abbrev Y : S8192x6144.Idx → EReal := m ((c.tc : Thread nD τ).loc main_arg1)

theorem index_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

theorem block0 (b : ℕ) (s : Fin 4) (h : 4 * b + s.val < cfg0.N) (k : Fin 2048) (r : Fin 1024) :
    iblk m c 0 ⟨4 * b + s.val, h⟩ (ix2 k r) = X m c (ix2 (row s k) r) := by
  obtain ⟨e0, e1, -, -⟩ := index_facts ⟨4 * b + s.val, h⟩
  refine congrArg (X m c) (funext fun a => Fin.ext ?_)
  match a with
  | ⟨0, _⟩ => show win0_0.index ⟨4 * b + s.val, h⟩ (0 : Fin 2) * 2048 + 1 * k.val = 2048 * s.val + k.val; rw [e0]; dsimp only; omega
  | ⟨1, _⟩ => show win0_0.index ⟨4 * b + s.val, h⟩ (1 : Fin 2) * 1024 + 1 * r.val = r.val; rw [e1]; omega

theorem block1 (b s : Fin 4) (h : 4 * b.val + s.val < cfg0.N) (k : Fin 2048) (r : Fin 1536) :
    iblk m c 1 ⟨4 * b.val + s.val, h⟩ (ix2 k r) = Y m c (ix2 (row s k) ⟨1536 * b.val + r.val, by omega⟩) := by
  obtain ⟨-, -, e0, e1⟩ := index_facts ⟨4 * b.val + s.val, h⟩
  refine congrArg (Y m c) (funext fun a => Fin.ext ?_)
  match a with
  | ⟨0, _⟩ => show win0_1.index ⟨4 * b.val + s.val, h⟩ (0 : Fin 2) * 2048 + 1 * k.val = 2048 * s.val + k.val; rw [e0]; dsimp only; omega
  | ⟨1, _⟩ => show win0_1.index ⟨4 * b.val + s.val, h⟩ (1 : Fin 2) * 1536 + 1 * r.val = 1536 * b.val + r.val; rw [e1]; dsimp only; omega

/-- The product of two blocks at an index. -/
theorem pay5_apply (x : Vec Ideal S2048x1024 .bf16) (y : Vec Ideal S2048x1536 .bf16) (i : S1024x1536.Idx) :
    k0_pay5 x y i = ∑ k : Fin 2048, x (ix2 k (i 0)) * y (ix2 k (i 1)) := by
  unfold k0_pay5
  pointwise

/-- The columns `off` to `off + w` of the product of two blocks. -/
abbrev part (off w : ℕ) (hw : off + w ≤ 1536) (x : Vec Ideal S2048x1024 .bf16) (y : Vec Ideal S2048x1536 .bf16)
    (j : (⟨2, ![1024, w]⟩ : Shape).Idx) : EReal :=
  ∑ k : Fin 2048, x (ix2 k (j 0)) * y (ix2 k ⟨off + (j 1).val, lt_of_lt_of_le (Nat.add_lt_add_left (j 1).isLt off) hw⟩)

/-- A slice of the product, added to an accumulator. -/
theorem part_of (off w : ℕ) (hw : off + w ≤ 1536) (hs : S1024x1536.Slices ![0, off] ⟨2, ![1024, w]⟩)
    (x : Vec Ideal S2048x1024 .bf16) (y : Vec Ideal S2048x1536 .bf16) (j : (⟨2, ![1024, w]⟩ : Shape).Idx) :
    extractStridedSlice ⟨2, ![1024, w]⟩ ![0, off] (k0_pay5 x y) hs j = part off w hw x y j := by
  refine (extractStridedSlice_apply ![0, off] (k0_pay5 x y) hs j
    (ix2 (j 0) ⟨off + (j 1).val, lt_of_lt_of_le (Nat.add_lt_add_left (j 1).isLt off) hw⟩) fun a => ?_).trans (pay5_apply x y _)
  match a with
  | ⟨0, _⟩ => exact (Nat.zero_add _).symm
  | ⟨1, _⟩ => rfl

/-- The fold of a slice of the product over a head's four blocks is the sum over all rows. -/
theorem fold_part (off w : ℕ) (hw : off + w ≤ 1536)
    (reset : (n : ℕ) → n < cfg0.N → ((⟨2, ![1024, w]⟩ : Shape).Idx → EReal))
    (step : (n : ℕ) → n < cfg0.N → ((⟨2, ![1024, w]⟩ : Shape).Idx → EReal) → ((⟨2, ![1024, w]⟩ : Shape).Idx → EReal))
    (hr : ∀ n h j, reset n h j = part off w hw (iblk m c 0 ⟨n, h⟩) (iblk m c 1 ⟨n, h⟩) j)
    (hs : ∀ n h acc j, step n h acc j = acc j + part off w hw (iblk m c 0 ⟨n, h⟩) (iblk m c 1 ⟨n, h⟩) j)
    (b : Fin 4) (h : 4 * b.val + 3 < cfg0.N) (j : (⟨2, ![1024, w]⟩ : Shape).Idx) :
    Pipeline.accAt reset step (4 * b.val) 3 h j = ∑ n : Fin 8192, X m c (ix2 n (j 0))
      * Y m c (ix2 n ⟨1536 * b.val + (off + (j 1).val), by have := lt_of_lt_of_le (Nat.add_lt_add_left (j 1).isLt off) hw; omega⟩) := by
  refine fold_eq reset step b.val h j (fun n j => X m c (ix2 n (j 0)) * Y m c (ix2 n ⟨1536 * b.val + (off + (j 1).val), by
    have := lt_of_lt_of_le (Nat.add_lt_add_left (j 1).isLt off) hw; omega⟩)) (fun h j => ?_) (fun s h acc j => ?_)
  · refine (hr _ h j).trans (Finset.sum_congr rfl fun k _ => ?_)
    exact congrArg₂ (· * ·) (block0 m c b.val 0 h k (j 0)) (block1 m c b 0 h k _)
  · refine (hs _ h acc j).trans (congrArg (acc j + ·) (Finset.sum_congr rfl fun k _ => ?_))
    exact congrArg₂ (· * ·) (block0 m c b.val s h k (j 0)) (block1 m c b s h k _)

/-- The same, of the run holding an index of the result. -/
theorem folds (off w : ℕ) (hw : off + w ≤ 1536)
    (reset : (n : ℕ) → n < cfg0.N → ((⟨2, ![1024, w]⟩ : Shape).Idx → EReal))
    (step : (n : ℕ) → n < cfg0.N → ((⟨2, ![1024, w]⟩ : Shape).Idx → EReal) → ((⟨2, ![1024, w]⟩ : Shape).Idx → EReal))
    (hr : ∀ n h j, reset n h j = part off w hw (iblk m c 0 ⟨n, h⟩) (iblk m c 1 ⟨n, h⟩) j)
    (hs : ∀ n h acc j, step n h acc j = acc j + part off w hw (iblk m c 0 ⟨n, h⟩) (iblk m c 1 ⟨n, h⟩) j)
    (j : (⟨2, ![1024, w]⟩ : Shape).Idx) (r : Fin 1024) (q : Fin w) (h0 : j 0 = r) (h1 : j 1 = q)
    (b : ℕ) (hb : b < 4) {run : ℕ} (hrun : run = b) :
    4 * run + 3 < cfg0.N ∧ ∀ h, Pipeline.accAt reset step (4 * run) 3 h j = ∑ n : Fin 8192, X m c (ix2 n r)
      * Y m c (ix2 n ⟨1536 * b + (off + q.val), by omega⟩) := by
  subst hrun h0 h1
  have hN : cfg0.N = 16 := N_0
  exact ⟨by rw [hN]; omega, fun h => fold_part m c off w hw reset step hr hs ⟨run, hb⟩ h j⟩

/- The four results: the head, and the place in it, of a result's column. -/
theorem value2 (i : S1024x1024.Idx) : G2 m c i = ∑ n : Fin 8192, X m c (ix2 n (i 0))
    * Y m c (ix2 n ⟨1536 * ((i 1).val / 256) + (0 + (i 1).val % 256), by have : (i 1).val < 1024 := (i 1).isLt; omega⟩) := by
  have hi0 : (i 0).val < 1024 := (i 0).isLt
  have hi1 : (i 1).val < 1024 := (i 1).isLt
  have key := folds m c 0 256 (by decide) (reset2 m c) (step2 m c)
    (fun n h j => (congrArg₂ (· + ·) Ideal.ofBits_zero_f32 (part_of 0 256 _ slices_S1024x1536_o0_0_S1024x256 _ _ j)).trans (zero_add _))
    (fun n h acc j => congrArg₂ (· + ·) (congrFun (shapeCast_self acc _) j) (part_of 0 256 _ slices_S1024x1536_o0_0_S1024x256 _ _ j))
    (loc2Of i) (i 0) ⟨(i 1).val % 256, by omega⟩ (Fin.ext (Nat.mod_eq_of_lt hi0)) rfl ((i 1).val / 256) (by omega) (run := run2Of i)
    (by show 4 * ((i 0).val / 1024 - 0) + 1 * ((i 1).val / 256 - 0) = _; omega)
  unfold G2
  exact (dif_pos key.1).trans (key.2 _)

theorem value3 (i : S1024x1024.Idx) : G3 m c i = ∑ n : Fin 8192, X m c (ix2 n (i 0))
    * Y m c (ix2 n ⟨1536 * ((i 1).val / 256) + (256 + (i 1).val % 256), by have : (i 1).val < 1024 := (i 1).isLt; omega⟩) := by
  have hi0 : (i 0).val < 1024 := (i 0).isLt
  have hi1 : (i 1).val < 1024 := (i 1).isLt
  have key := folds m c 256 256 (by decide) (reset3 m c) (step3 m c)
    (fun n h j => (congrArg₂ (· + ·) Ideal.ofBits_zero_f32 (part_of 256 256 _ slices_S1024x1536_o0_256_S1024x256 _ _ j)).trans (zero_add _))
    (fun n h acc j => congrArg₂ (· + ·) (congrFun (shapeCast_self acc _) j) (part_of 256 256 _ slices_S1024x1536_o0_256_S1024x256 _ _ j))
    (loc3Of i) (i 0) ⟨(i 1).val % 256, by omega⟩ (Fin.ext (Nat.mod_eq_of_lt hi0)) rfl ((i 1).val / 256) (by omega) (run := run3Of i)
    (by show 4 * ((i 0).val / 1024 - 0) + 1 * ((i 1).val / 256 - 0) = _; omega)
  unfold G3
  exact (dif_pos key.1).trans (key.2 _)

theorem value4 (i : S1024x2048.Idx) : G4 m c i = ∑ n : Fin 8192, X m c (ix2 n (i 0))
    * Y m c (ix2 n ⟨1536 * ((i 1).val / 512) + (512 + (i 1).val % 512), by have : (i 1).val < 2048 := (i 1).isLt; omega⟩) := by
  have hi0 : (i 0).val < 1024 := (i 0).isLt
  have hi1 : (i 1).val < 2048 := (i 1).isLt
  have key := folds m c 512 512 (by decide) (reset4 m c) (step4 m c)
    (fun n h j => (congrArg₂ (· + ·) Ideal.ofBits_zero_f32 (part_of 512 512 _ slices_S1024x1536_o0_512_S1024x512 _ _ j)).trans (zero_add _))
    (fun n h acc j => congrArg₂ (· + ·) (congrFun (shapeCast_self acc _) j) (part_of 512 512 _ slices_S1024x1536_o0_512_S1024x512 _ _ j))
    (loc4Of i) (i 0) ⟨(i 1).val % 512, by omega⟩ (Fin.ext (Nat.mod_eq_of_lt hi0)) rfl ((i 1).val / 512) (by omega) (run := run4Of i)
    (by show 4 * ((i 0).val / 1024 - 0) + 1 * ((i 1).val / 512 - 0) = _; omega)
  unfold G4
  exact (dif_pos key.1).trans (key.2 _)

theorem value5 (i : S1024x2048.Idx) : G5 m c i = ∑ n : Fin 8192, X m c (ix2 n (i 0))
    * Y m c (ix2 n ⟨1536 * ((i 1).val / 512) + (1024 + (i 1).val % 512), by have : (i 1).val < 2048 := (i 1).isLt; omega⟩) := by
  have hi0 : (i 0).val < 1024 := (i 0).isLt
  have hi1 : (i 1).val < 2048 := (i 1).isLt
  have key := folds m c 1024 512 (by decide) (reset5 m c) (step5 m c)
    (fun n h j => (congrArg₂ (· + ·) Ideal.ofBits_zero_f32 (part_of 1024 512 _ slices_S1024x1536_o0_1024_S1024x512 _ _ j)).trans (zero_add _))
    (fun n h acc j => congrArg₂ (· + ·) (congrFun (shapeCast_self acc _) j) (part_of 1024 512 _ slices_S1024x1536_o0_1024_S1024x512 _ _ j))
    (loc5Of i) (i 0) ⟨(i 1).val % 512, by omega⟩ (Fin.ext (Nat.mod_eq_of_lt hi0)) rfl ((i 1).val / 512) (by omega) (run := run5Of i)
    (by show 4 * ((i 0).val / 1024 - 0) + 1 * ((i 1).val / 512 - 0) = _; omega)
  unfold G5
  exact (dif_pos key.1).trans (key.2 _)

open Cert.ReferenceDwrIdeal.Read

/- What the reference leaves in its four results is the kernel's folds. -/
theorem reference2 : val_main_v11 (F := Ideal) (X m c) (Y m c) = G2 m c := by
  funext i
  have hi1 : (i 1).val < 1024 := (i 1).isLt
  rw [value2, val_main_v11_apply, val_main_v10_apply]
  refine Finset.sum_congr rfl fun n _ => ?_
  rw [val_main_v9_apply, val_main_v5_apply, val_main_v1_apply, val_main_v0_apply, val_main_v7_apply]
  refine (mul_comm _ _).trans (congrArg₂ (· * ·) (congrArg (X m c) (funext fun a => ?_)) (congrArg (Y m c) (funext fun a => ?_)))
  · match a with
    | ⟨0, _⟩ => rfl
    | ⟨1, _⟩ => rfl
  · match a with
    | ⟨0, _⟩ => exact Fin.ext (by show (((n.val * 1024 + (i 1).val) / 1024 * 4 + (n.val * 1024 + (i 1).val) / 256 % 4) * 1536 + ((n.val * 1024 + (i 1).val) % 256)) / 6144 = n.val; omega)
    | ⟨1, _⟩ => exact Fin.ext (by show (((n.val * 1024 + (i 1).val) / 1024 * 4 + (n.val * 1024 + (i 1).val) / 256 % 4) * 1536 + ((n.val * 1024 + (i 1).val) % 256)) % 6144 = 1536 * ((i 1).val / 256) + (0 + (i 1).val % 256); omega)

theorem reference3 : val_main_v18 (F := Ideal) (X m c) (Y m c) = G3 m c := by
  funext i
  have hi1 : (i 1).val < 1024 := (i 1).isLt
  rw [value3, val_main_v18_apply, val_main_v17_apply]
  refine Finset.sum_congr rfl fun n _ => ?_
  rw [val_main_v16_apply, val_main_v12_apply, val_main_v2_apply, val_main_v0_apply, val_main_v14_apply]
  refine (mul_comm _ _).trans (congrArg₂ (· * ·) (congrArg (X m c) (funext fun a => ?_)) (congrArg (Y m c) (funext fun a => ?_)))
  · match a with
    | ⟨0, _⟩ => rfl
    | ⟨1, _⟩ => rfl
  · match a with
    | ⟨0, _⟩ => exact Fin.ext (by show (((n.val * 1024 + (i 1).val) / 1024 * 4 + (n.val * 1024 + (i 1).val) / 256 % 4) * 1536 + (256 + (n.val * 1024 + (i 1).val) % 256)) / 6144 = n.val; omega)
    | ⟨1, _⟩ => exact Fin.ext (by show (((n.val * 1024 + (i 1).val) / 1024 * 4 + (n.val * 1024 + (i 1).val) / 256 % 4) * 1536 + (256 + (n.val * 1024 + (i 1).val) % 256)) % 6144 = 1536 * ((i 1).val / 256) + (256 + (i 1).val % 256); omega)

theorem reference4 : val_main_v25 (F := Ideal) (X m c) (Y m c) = G4 m c := by
  funext i
  have hi1 : (i 1).val < 2048 := (i 1).isLt
  rw [value4, val_main_v25_apply, val_main_v24_apply]
  refine Finset.sum_congr rfl fun n _ => ?_
  rw [val_main_v23_apply, val_main_v19_apply, val_main_v3_apply, val_main_v0_apply, val_main_v21_apply]
  refine (mul_comm _ _).trans (congrArg₂ (· * ·) (congrArg (X m c) (funext fun a => ?_)) (congrArg (Y m c) (funext fun a => ?_)))
  · match a with
    | ⟨0, _⟩ => rfl
    | ⟨1, _⟩ => rfl
  · match a with
    | ⟨0, _⟩ => exact Fin.ext (by show (((n.val * 2048 + (i 1).val) / 2048 * 4 + (n.val * 2048 + (i 1).val) / 512 % 4) * 1536 + (512 + (n.val * 2048 + (i 1).val) % 512)) / 6144 = n.val; omega)
    | ⟨1, _⟩ => exact Fin.ext (by show (((n.val * 2048 + (i 1).val) / 2048 * 4 + (n.val * 2048 + (i 1).val) / 512 % 4) * 1536 + (512 + (n.val * 2048 + (i 1).val) % 512)) % 6144 = 1536 * ((i 1).val / 512) + (512 + (i 1).val % 512); omega)

theorem reference5 : val_main_v32 (F := Ideal) (X m c) (Y m c) = G5 m c := by
  funext i
  have hi1 : (i 1).val < 2048 := (i 1).isLt
  rw [value5, val_main_v32_apply, val_main_v31_apply]
  refine Finset.sum_congr rfl fun n _ => ?_
  rw [val_main_v30_apply, val_main_v26_apply, val_main_v4_apply, val_main_v0_apply, val_main_v28_apply]
  refine (mul_comm _ _).trans (congrArg₂ (· * ·) (congrArg (X m c) (funext fun a => ?_)) (congrArg (Y m c) (funext fun a => ?_)))
  · match a with
    | ⟨0, _⟩ => rfl
    | ⟨1, _⟩ => rfl
  · match a with
    | ⟨0, _⟩ => exact Fin.ext (by show (((n.val * 2048 + (i 1).val) / 2048 * 4 + (n.val * 2048 + (i 1).val) / 512 % 4) * 1536 + (1024 + (n.val * 2048 + (i 1).val) % 512)) / 6144 = n.val; omega)
    | ⟨1, _⟩ => exact Fin.ext (by show (((n.val * 2048 + (i 1).val) / 2048 * 4 + (n.val * 2048 + (i 1).val) / 512 % 4) * 1536 + (1024 + (n.val * 2048 + (i 1).val) % 512)) % 6144 = 1536 * ((i 1).val / 512) + (1024 + (i 1).val % 512); omega)

end Cert.Dwr

end
-- ==== Proof.DwcValue.lean ====
/- The gradient of w_in's convolution columns: what the kernel leaves in its result is the reference's product. -/
module

public import proofs.«01_k».proof.Proof.Gen.KernelDwcIdeal.Value
public import proofs.«01_k».proof.Proof.Gen.ReferenceDwcIdeal.Read
public import proofs.«01_k».proof.Proof.WeightGrad
public import Idealize.ShloMosaic.Lib.Pointwise

@[expose] public section

set_option maxRecDepth 16384

noncomputable section

namespace Cert.Dwc

open Idealize.ShloMosaic Idealize.ShloMosaic.TcCoe Idealize.SL.Sem
open Cert.KernelDwcIdeal Cert.KernelDwcIdeal.Gen Cert.KernelDwcIdeal.Value Cert.WeightGrad

variable (m : (ℓ : Loc nD τ sig) → Buf (Elt Ideal) ℓ) (c : Dev nD)

/-- The kernel's arguments: the layer's input and the columns' cotangent. -/
abbrev X : S8192x1024.Idx → EReal := m ((c.tc : Thread nD τ).loc main_arg0)
abbrev Y : S8192x3072.Idx → EReal := m ((c.tc : Thread nD τ).loc main_arg1)

theorem index_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

theorem block0 (b : ℕ) (s : Fin 4) (h : 4 * b + s.val < cfg0.N) (k : Fin 2048) (r : Fin 1024) :
    iblk m c 0 ⟨4 * b + s.val, h⟩ (ix2 k r) = X m c (ix2 (row s k) r) := by
  obtain ⟨e0, e1, -, -⟩ := index_facts ⟨4 * b + s.val, h⟩
  refine congrArg (X m c) (funext fun a => Fin.ext ?_)
  match a with
  | ⟨0, _⟩ => show win0_0.index ⟨4 * b + s.val, h⟩ (0 : Fin 2) * 2048 + 1 * k.val = 2048 * s.val + k.val; rw [e0]; dsimp only; omega
  | ⟨1, _⟩ => show win0_0.index ⟨4 * b + s.val, h⟩ (1 : Fin 2) * 1024 + 1 * r.val = r.val; rw [e1]; omega

theorem block1 (b : Fin 3) (s : Fin 4) (h : 4 * b.val + s.val < cfg0.N) (k : Fin 2048) (r : Fin 1024) :
    iblk m c 1 ⟨4 * b.val + s.val, h⟩ (ix2 k r) = Y m c (ix2 (row s k) ⟨1024 * b.val + r.val, by omega⟩) := by
  obtain ⟨-, -, e0, e1⟩ := index_facts ⟨4 * b.val + s.val, h⟩
  refine congrArg (Y m c) (funext fun a => Fin.ext ?_)
  match a with
  | ⟨0, _⟩ => show win0_1.index ⟨4 * b.val + s.val, h⟩ (0 : Fin 2) * 2048 + 1 * k.val = 2048 * s.val + k.val; rw [e0]; dsimp only; omega
  | ⟨1, _⟩ => show win0_1.index ⟨4 * b.val + s.val, h⟩ (1 : Fin 2) * 1024 + 1 * r.val = 1024 * b.val + r.val; rw [e1]; dsimp only; omega

/-- One point's payload: the accumulator plus the product of the two blocks. -/
theorem pay2_apply (acc : Vec Ideal S1024x1024 .f32) (x y : Vec Ideal S2048x1024 .bf16) (i : S1024x1024.Idx) :
    k0_pay2 acc x y i = acc i + ∑ k : Fin 2048, x (ix2 k (i 0)) * y (ix2 k (i 1)) := by
  unfold k0_pay2
  pointwise

theorem value (i : S1024x3072.Idx) :
    G2 m c i = ∑ n : Fin 8192, X m c (ix2 n (i 0)) * Y m c (ix2 n (i 1)) := by
  have hi0 : (i 0).val < 1024 := (i 0).isLt
  have hi1 : (i 1).val < 3072 := (i 1).isLt
  obtain ⟨b, hb⟩ : ∃ b : Fin 3, b.val = (i 1).val / 1024 := ⟨⟨(i 1).val / 1024, by omega⟩, rfl⟩
  have hrun : run2Of i = b.val := by show 3 * ((i 0).val / 1024 - 0) + 1 * ((i 1).val / 1024 - 0) = b.val; omega
  have key : ∀ r, r = b.val → ∀ h, Pipeline.accAt (reset2 m c) (step2 m c) (4 * r) 3 h (loc2Of i)
      = ∑ n : Fin 8192, X m c (ix2 n (i 0)) * Y m c (ix2 n (i 1)) := by
    rintro _ rfl h
    refine (fold_eq (reset2 m c) (step2 m c) b.val h (loc2Of i)
      (fun n j => X m c (ix2 n (j 0)) * Y m c (ix2 n ⟨1024 * b.val + (j 1).val, by have : (j 1).val < 1024 := (j 1).isLt; omega⟩))
      (fun h j => ?_) (fun s h acc j => ?_)).trans ?_
    · unfold reset2
      rw [pay2_apply, show k0_pay1 (F := Ideal) j = 0 from Ideal.ofBits_zero_f32, zero_add]
      exact Finset.sum_congr rfl fun k _ => congrArg₂ (· * ·) (block0 m c b.val 0 h k (j 0)) (block1 m c b 0 h k (j 1))
    · unfold step2
      rw [pay2_apply]
      refine congrArg (acc j + ·) (Finset.sum_congr rfl fun k _ => ?_)
      exact congrArg₂ (· * ·) (block0 m c b.val s h k (j 0)) (block1 m c b s h k (j 1))
    · refine Finset.sum_congr rfl fun n _ => congrArg₂ (· * ·) (congrArg (X m c) ?_) (congrArg (Y m c) ?_)
      · exact congrArg (ix2 n) (Fin.ext (Nat.mod_eq_of_lt hi0))
      · exact congrArg (ix2 n) (Fin.ext (show 1024 * b.val + (i 1).val % 1024 = (i 1).val by omega))
  have hN : cfg0.N = 12 := N_0
  unfold G2
  exact (dif_pos (by rw [hrun, hN]; omega)).trans (key _ hrun _)

open Cert.ReferenceDwcIdeal.Read in
/-- What the reference leaves in its result is the kernel's fold. -/
theorem reference_eq : val_main_v5 (F := Ideal) (X m c) (Y m c) = G2 m c := by
  funext i
  rw [value, val_main_v5_apply, val_main_v4_apply]
  refine Finset.sum_congr rfl fun n _ => ?_
  rw [val_main_v3_apply, val_main_v1_apply]
  refine (mul_comm _ _).trans (congrArg₂ (· * ·) (congrArg (X m c) ?_) (congrArg (Y m c) ?_)) <;>
  · funext a
    match a with
    | ⟨0, _⟩ => rfl
    | ⟨1, _⟩ => rfl

end Cert.Dwc

end
-- ==== Proof.DwgValue.lean ====
/- The gradient of w_in's gate columns: what the kernel leaves in its result is the reference's product. -/
module

public import proofs.«01_k».proof.Proof.Gen.KernelDwgIdeal.Value
public import proofs.«01_k».proof.Proof.Gen.ReferenceDwgIdeal.Read
public import proofs.«01_k».proof.Proof.WeightGrad
public import Idealize.ShloMosaic.Lib.Pointwise

@[expose] public section

set_option maxRecDepth 16384

noncomputable section

namespace Cert.Dwg

open Idealize.ShloMosaic Idealize.ShloMosaic.TcCoe Idealize.SL.Sem
open Cert.KernelDwgIdeal Cert.KernelDwgIdeal.Gen Cert.KernelDwgIdeal.Value Cert.WeightGrad

variable (m : (ℓ : Loc nD τ sig) → Buf (Elt Ideal) ℓ) (c : Dev nD)

/-- The kernel's arguments: the layer's input and the columns' cotangent. -/
abbrev X : S8192x1024.Idx → EReal := m ((c.tc : Thread nD τ).loc main_arg0)
abbrev Y : S8192x2048.Idx → EReal := m ((c.tc : Thread nD τ).loc main_arg1)

theorem index_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

theorem block0 (b : ℕ) (s : Fin 4) (h : 4 * b + s.val < cfg0.N) (k : Fin 2048) (r : Fin 1024) :
    iblk m c 0 ⟨4 * b + s.val, h⟩ (ix2 k r) = X m c (ix2 (row s k) r) := by
  obtain ⟨e0, e1, -, -⟩ := index_facts ⟨4 * b + s.val, h⟩
  refine congrArg (X m c) (funext fun a => Fin.ext ?_)
  match a with
  | ⟨0, _⟩ => show win0_0.index ⟨4 * b + s.val, h⟩ (0 : Fin 2) * 2048 + 1 * k.val = 2048 * s.val + k.val; rw [e0]; dsimp only; omega
  | ⟨1, _⟩ => show win0_0.index ⟨4 * b + s.val, h⟩ (1 : Fin 2) * 1024 + 1 * r.val = r.val; rw [e1]; omega

theorem block1 (b : Fin 2) (s : Fin 4) (h : 4 * b.val + s.val < cfg0.N) (k : Fin 2048) (r : Fin 1024) :
    iblk m c 1 ⟨4 * b.val + s.val, h⟩ (ix2 k r) = Y m c (ix2 (row s k) ⟨1024 * b.val + r.val, by omega⟩) := by
  obtain ⟨-, -, e0, e1⟩ := index_facts ⟨4 * b.val + s.val, h⟩
  refine congrArg (Y m c) (funext fun a => Fin.ext ?_)
  match a with
  | ⟨0, _⟩ => show win0_1.index ⟨4 * b.val + s.val, h⟩ (0 : Fin 2) * 2048 + 1 * k.val = 2048 * s.val + k.val; rw [e0]; dsimp only; omega
  | ⟨1, _⟩ => show win0_1.index ⟨4 * b.val + s.val, h⟩ (1 : Fin 2) * 1024 + 1 * r.val = 1024 * b.val + r.val; rw [e1]; dsimp only; omega

/-- One point's payload: the accumulator plus the product of the two blocks. -/
theorem pay2_apply (acc : Vec Ideal S1024x1024 .f32) (x y : Vec Ideal S2048x1024 .bf16) (i : S1024x1024.Idx) :
    k0_pay2 acc x y i = acc i + ∑ k : Fin 2048, x (ix2 k (i 0)) * y (ix2 k (i 1)) := by
  unfold k0_pay2
  pointwise

theorem value (i : S1024x2048.Idx) :
    G2 m c i = ∑ n : Fin 8192, X m c (ix2 n (i 0)) * Y m c (ix2 n (i 1)) := by
  have hi0 : (i 0).val < 1024 := (i 0).isLt
  have hi1 : (i 1).val < 2048 := (i 1).isLt
  obtain ⟨b, hb⟩ : ∃ b : Fin 2, b.val = (i 1).val / 1024 := ⟨⟨(i 1).val / 1024, by omega⟩, rfl⟩
  have hrun : run2Of i = b.val := by show 2 * ((i 0).val / 1024 - 0) + 1 * ((i 1).val / 1024 - 0) = b.val; omega
  have key : ∀ r, r = b.val → ∀ h, Pipeline.accAt (reset2 m c) (step2 m c) (4 * r) 3 h (loc2Of i)
      = ∑ n : Fin 8192, X m c (ix2 n (i 0)) * Y m c (ix2 n (i 1)) := by
    rintro _ rfl h
    refine (fold_eq (reset2 m c) (step2 m c) b.val h (loc2Of i)
      (fun n j => X m c (ix2 n (j 0)) * Y m c (ix2 n ⟨1024 * b.val + (j 1).val, by have : (j 1).val < 1024 := (j 1).isLt; omega⟩))
      (fun h j => ?_) (fun s h acc j => ?_)).trans ?_
    · unfold reset2
      rw [pay2_apply, show k0_pay1 (F := Ideal) j = 0 from Ideal.ofBits_zero_f32, zero_add]
      exact Finset.sum_congr rfl fun k _ => congrArg₂ (· * ·) (block0 m c b.val 0 h k (j 0)) (block1 m c b 0 h k (j 1))
    · unfold step2
      rw [pay2_apply]
      refine congrArg (acc j + ·) (Finset.sum_congr rfl fun k _ => ?_)
      exact congrArg₂ (· * ·) (block0 m c b.val s h k (j 0)) (block1 m c b s h k (j 1))
    · refine Finset.sum_congr rfl fun n _ => congrArg₂ (· * ·) (congrArg (X m c) ?_) (congrArg (Y m c) ?_)
      · exact congrArg (ix2 n) (Fin.ext (Nat.mod_eq_of_lt hi0))
      · exact congrArg (ix2 n) (Fin.ext (show 1024 * b.val + (i 1).val % 1024 = (i 1).val by omega))
  have hN : cfg0.N = 8 := N_0
  unfold G2
  exact (dif_pos (by rw [hrun, hN]; omega)).trans (key _ hrun _)

open Cert.ReferenceDwgIdeal.Read in
/-- What the reference leaves in its result is the kernel's fold. -/
theorem reference_eq : val_main_v5 (F := Ideal) (X m c) (Y m c) = G2 m c := by
  funext i
  rw [value, val_main_v5_apply, val_main_v4_apply]
  refine Finset.sum_congr rfl fun n _ => ?_
  rw [val_main_v3_apply, val_main_v1_apply]
  refine (mul_comm _ _).trans (congrArg₂ (· * ·) (congrArg (X m c) ?_) (congrArg (Y m c) ?_)) <;>
  · funext a
    match a with
    | ⟨0, _⟩ => rfl
    | ⟨1, _⟩ => rfl

end Cert.Dwg

end
-- ==== Proof.DwRetOutValue.lean ====
/- The gradient of w_ret_out: what the kernel leaves in its result is the reference's product. -/
module

public import proofs.«01_k».proof.Proof.Gen.KernelDwRetOutIdeal.Value
public import proofs.«01_k».proof.Proof.Gen.ReferenceDwRetOutIdeal.Read
public import proofs.«01_k».proof.Proof.WeightGrad
public import Idealize.ShloMosaic.Lib.Pointwise

@[expose] public section

set_option maxRecDepth 16384

noncomputable section

namespace Cert.DwRetOut

open Idealize.ShloMosaic Idealize.ShloMosaic.TcCoe Idealize.SL.Sem
open Cert.KernelDwRetOutIdeal Cert.KernelDwRetOutIdeal.Gen Cert.KernelDwRetOutIdeal.Value Cert.WeightGrad

variable (m : (ℓ : Loc nD τ sig) → Buf (Elt Ideal) ℓ) (c : Dev nD)

/-- The kernel's arguments: the layer's input and the columns' cotangent. -/
abbrev X : S8192x2048.Idx → EReal := m ((c.tc : Thread nD τ).loc main_arg0)
abbrev Y : S8192x1024.Idx → EReal := m ((c.tc : Thread nD τ).loc main_arg1)

theorem index_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

theorem block0 (b : ℕ) (s : Fin 4) (h : 4 * b + s.val < cfg0.N) (k : Fin 2048) (r : Fin 2048) :
    iblk m c 0 ⟨4 * b + s.val, h⟩ (ix2 k r) = X m c (ix2 (row s k) r) := by
  obtain ⟨e0, e1, -, -⟩ := index_facts ⟨4 * b + s.val, h⟩
  refine congrArg (X m c) (funext fun a => Fin.ext ?_)
  match a with
  | ⟨0, _⟩ => show win0_0.index ⟨4 * b + s.val, h⟩ (0 : Fin 2) * 2048 + 1 * k.val = 2048 * s.val + k.val; rw [e0]; dsimp only; omega
  | ⟨1, _⟩ => show win0_0.index ⟨4 * b + s.val, h⟩ (1 : Fin 2) * 2048 + 1 * r.val = r.val; rw [e1]; omega

theorem block1 (b : Fin 1) (s : Fin 4) (h : 4 * b.val + s.val < cfg0.N) (k : Fin 2048) (r : Fin 1024) :
    iblk m c 1 ⟨4 * b.val + s.val, h⟩ (ix2 k r) = Y m c (ix2 (row s k) ⟨1024 * b.val + r.val, by omega⟩) := by
  obtain ⟨-, -, e0, e1⟩ := index_facts ⟨4 * b.val + s.val, h⟩
  refine congrArg (Y m c) (funext fun a => Fin.ext ?_)
  match a with
  | ⟨0, _⟩ => show win0_1.index ⟨4 * b.val + s.val, h⟩ (0 : Fin 2) * 2048 + 1 * k.val = 2048 * s.val + k.val; rw [e0]; dsimp only; omega
  | ⟨1, _⟩ => show win0_1.index ⟨4 * b.val + s.val, h⟩ (1 : Fin 2) * 1024 + 1 * r.val = 1024 * b.val + r.val; rw [e1]; dsimp only; omega

/-- One point's payload: the accumulator plus the product of the two blocks. -/
theorem pay2_apply (acc : Vec Ideal S2048x1024 .f32) (x : Vec Ideal S2048x2048 .bf16) (y : Vec Ideal S2048x1024 .bf16) (i : S2048x1024.Idx) :
    k0_pay2 acc x y i = acc i + ∑ k : Fin 2048, x (ix2 k (i 0)) * y (ix2 k (i 1)) := by
  unfold k0_pay2
  pointwise

theorem value (i : S2048x1024.Idx) :
    G2 m c i = ∑ n : Fin 8192, X m c (ix2 n (i 0)) * Y m c (ix2 n (i 1)) := by
  have hi0 : (i 0).val < 2048 := (i 0).isLt
  have hi1 : (i 1).val < 1024 := (i 1).isLt
  obtain ⟨b, hb⟩ : ∃ b : Fin 1, b.val = (i 1).val / 1024 := ⟨⟨(i 1).val / 1024, by omega⟩, rfl⟩
  have hrun : run2Of i = b.val := by show 1 * ((i 0).val / 2048 - 0) + 1 * ((i 1).val / 1024 - 0) = b.val; omega
  have key : ∀ r, r = b.val → ∀ h, Pipeline.accAt (reset2 m c) (step2 m c) (4 * r) 3 h (loc2Of i)
      = ∑ n : Fin 8192, X m c (ix2 n (i 0)) * Y m c (ix2 n (i 1)) := by
    rintro _ rfl h
    refine (fold_eq (reset2 m c) (step2 m c) b.val h (loc2Of i)
      (fun n j => X m c (ix2 n (j 0)) * Y m c (ix2 n ⟨1024 * b.val + (j 1).val, by have : (j 1).val < 1024 := (j 1).isLt; omega⟩))
      (fun h j => ?_) (fun s h acc j => ?_)).trans ?_
    · unfold reset2
      rw [pay2_apply, show k0_pay1 (F := Ideal) j = 0 from Ideal.ofBits_zero_f32, zero_add]
      exact Finset.sum_congr rfl fun k _ => congrArg₂ (· * ·) (block0 m c b.val 0 h k (j 0)) (block1 m c b 0 h k (j 1))
    · unfold step2
      rw [pay2_apply]
      refine congrArg (acc j + ·) (Finset.sum_congr rfl fun k _ => ?_)
      exact congrArg₂ (· * ·) (block0 m c b.val s h k (j 0)) (block1 m c b s h k (j 1))
    · refine Finset.sum_congr rfl fun n _ => congrArg₂ (· * ·) (congrArg (X m c) ?_) (congrArg (Y m c) ?_)
      · exact congrArg (ix2 n) (Fin.ext (Nat.mod_eq_of_lt hi0))
      · exact congrArg (ix2 n) (Fin.ext (show 1024 * b.val + (i 1).val % 1024 = (i 1).val by omega))
  have hN : cfg0.N = 4 := N_0
  unfold G2
  exact (dif_pos (by rw [hrun, hN]; omega)).trans (key _ hrun _)

open Cert.ReferenceDwRetOutIdeal.Read in
/-- What the reference leaves in its result is the kernel's fold. -/
theorem reference_eq : val_main_v5 (F := Ideal) (X m c) (Y m c) = G2 m c := by
  funext i
  rw [value, val_main_v5_apply, val_main_v4_apply]
  refine Finset.sum_congr rfl fun n _ => ?_
  rw [val_main_v3_apply, val_main_v1_apply]
  refine (mul_comm _ _).trans (congrArg₂ (· * ·) (congrArg (X m c) ?_) (congrArg (Y m c) ?_)) <;>
  · funext a
    match a with
    | ⟨0, _⟩ => rfl
    | ⟨1, _⟩ => rfl

end Cert.DwRetOut

end
-- ==== Proof.DwConvOutValue.lean ====
/- The gradient of w_conv_out: what the kernel leaves in its result is the reference's product. -/
module

public import proofs.«01_k».proof.Proof.Gen.KernelDwConvOutIdeal.Value
public import proofs.«01_k».proof.Proof.Gen.ReferenceDwConvOutIdeal.Read
public import proofs.«01_k».proof.Proof.WeightGrad
public import Idealize.ShloMosaic.Lib.Pointwise

@[expose] public section

set_option maxRecDepth 16384

noncomputable section

namespace Cert.DwConvOut

open Idealize.ShloMosaic Idealize.ShloMosaic.TcCoe Idealize.SL.Sem
open Cert.KernelDwConvOutIdeal Cert.KernelDwConvOutIdeal.Gen Cert.KernelDwConvOutIdeal.Value Cert.WeightGrad

variable (m : (ℓ : Loc nD τ sig) → Buf (Elt Ideal) ℓ) (c : Dev nD)

/-- The kernel's arguments: the layer's input and the columns' cotangent. -/
abbrev X : S8192x1024.Idx → EReal := m ((c.tc : Thread nD τ).loc main_arg0)
abbrev Y : S8192x1024.Idx → EReal := m ((c.tc : Thread nD τ).loc main_arg1)

theorem index_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

theorem block0 (b : ℕ) (s : Fin 4) (h : 4 * b + s.val < cfg0.N) (k : Fin 2048) (r : Fin 1024) :
    iblk m c 0 ⟨4 * b + s.val, h⟩ (ix2 k r) = X m c (ix2 (row s k) r) := by
  obtain ⟨e0, e1, -, -⟩ := index_facts ⟨4 * b + s.val, h⟩
  refine congrArg (X m c) (funext fun a => Fin.ext ?_)
  match a with
  | ⟨0, _⟩ => show win0_0.index ⟨4 * b + s.val, h⟩ (0 : Fin 2) * 2048 + 1 * k.val = 2048 * s.val + k.val; rw [e0]; dsimp only; omega
  | ⟨1, _⟩ => show win0_0.index ⟨4 * b + s.val, h⟩ (1 : Fin 2) * 1024 + 1 * r.val = r.val; rw [e1]; omega

theorem block1 (b : Fin 1) (s : Fin 4) (h : 4 * b.val + s.val < cfg0.N) (k : Fin 2048) (r : Fin 1024) :
    iblk m c 1 ⟨4 * b.val + s.val, h⟩ (ix2 k r) = Y m c (ix2 (row s k) ⟨1024 * b.val + r.val, by omega⟩) := by
  obtain ⟨-, -, e0, e1⟩ := index_facts ⟨4 * b.val + s.val, h⟩
  refine congrArg (Y m c) (funext fun a => Fin.ext ?_)
  match a with
  | ⟨0, _⟩ => show win0_1.index ⟨4 * b.val + s.val, h⟩ (0 : Fin 2) * 2048 + 1 * k.val = 2048 * s.val + k.val; rw [e0]; dsimp only; omega
  | ⟨1, _⟩ => show win0_1.index ⟨4 * b.val + s.val, h⟩ (1 : Fin 2) * 1024 + 1 * r.val = 1024 * b.val + r.val; rw [e1]; dsimp only; omega

/-- One point's payload: the accumulator plus the product of the two blocks. -/
theorem pay2_apply (acc : Vec Ideal S1024x1024 .f32) (x y : Vec Ideal S2048x1024 .bf16) (i : S1024x1024.Idx) :
    k0_pay2 acc x y i = acc i + ∑ k : Fin 2048, x (ix2 k (i 0)) * y (ix2 k (i 1)) := by
  unfold k0_pay2
  pointwise

theorem value (i : S1024x1024.Idx) :
    G2 m c i = ∑ n : Fin 8192, X m c (ix2 n (i 0)) * Y m c (ix2 n (i 1)) := by
  have hi0 : (i 0).val < 1024 := (i 0).isLt
  have hi1 : (i 1).val < 1024 := (i 1).isLt
  obtain ⟨b, hb⟩ : ∃ b : Fin 1, b.val = (i 1).val / 1024 := ⟨⟨(i 1).val / 1024, by omega⟩, rfl⟩
  have hrun : run2Of i = b.val := by show 1 * ((i 0).val / 1024 - 0) + 1 * ((i 1).val / 1024 - 0) = b.val; omega
  have key : ∀ r, r = b.val → ∀ h, Pipeline.accAt (reset2 m c) (step2 m c) (4 * r) 3 h (loc2Of i)
      = ∑ n : Fin 8192, X m c (ix2 n (i 0)) * Y m c (ix2 n (i 1)) := by
    rintro _ rfl h
    refine (fold_eq (reset2 m c) (step2 m c) b.val h (loc2Of i)
      (fun n j => X m c (ix2 n (j 0)) * Y m c (ix2 n ⟨1024 * b.val + (j 1).val, by have : (j 1).val < 1024 := (j 1).isLt; omega⟩))
      (fun h j => ?_) (fun s h acc j => ?_)).trans ?_
    · unfold reset2
      rw [pay2_apply, show k0_pay1 (F := Ideal) j = 0 from Ideal.ofBits_zero_f32, zero_add]
      exact Finset.sum_congr rfl fun k _ => congrArg₂ (· * ·) (block0 m c b.val 0 h k (j 0)) (block1 m c b 0 h k (j 1))
    · unfold step2
      rw [pay2_apply]
      refine congrArg (acc j + ·) (Finset.sum_congr rfl fun k _ => ?_)
      exact congrArg₂ (· * ·) (block0 m c b.val s h k (j 0)) (block1 m c b s h k (j 1))
    · refine Finset.sum_congr rfl fun n _ => congrArg₂ (· * ·) (congrArg (X m c) ?_) (congrArg (Y m c) ?_)
      · exact congrArg (ix2 n) (Fin.ext (Nat.mod_eq_of_lt hi0))
      · exact congrArg (ix2 n) (Fin.ext (show 1024 * b.val + (i 1).val % 1024 = (i 1).val by omega))
  have hN : cfg0.N = 4 := N_0
  unfold G2
  exact (dif_pos (by rw [hrun, hN]; omega)).trans (key _ hrun _)

open Cert.ReferenceDwConvOutIdeal.Read in
/-- What the reference leaves in its result is the kernel's fold. -/
theorem reference_eq : val_main_v5 (F := Ideal) (X m c) (Y m c) = G2 m c := by
  funext i
  rw [value, val_main_v5_apply, val_main_v4_apply]
  refine Finset.sum_congr rfl fun n _ => ?_
  rw [val_main_v3_apply, val_main_v1_apply]
  refine (mul_comm _ _).trans (congrArg₂ (· * ·) (congrArg (X m c) ?_) (congrArg (Y m c) ?_)) <;>
  · funext a
    match a with
    | ⟨0, _⟩ => rfl
    | ⟨1, _⟩ => rfl

end Cert.DwConvOut

end
-- ==== Proof.DwOutValue.lean ====
/- The gradient of w_out: what the kernel leaves in its result is the reference's product. -/
module

public import proofs.«01_k».proof.Proof.Gen.KernelDwOutIdeal.Value
public import proofs.«01_k».proof.Proof.Gen.ReferenceDwOutIdeal.Read
public import proofs.«01_k».proof.Proof.WeightGrad
public import Idealize.ShloMosaic.Lib.Pointwise

@[expose] public section

set_option maxRecDepth 16384

noncomputable section

namespace Cert.DwOut

open Idealize.ShloMosaic Idealize.ShloMosaic.TcCoe Idealize.SL.Sem
open Cert.KernelDwOutIdeal Cert.KernelDwOutIdeal.Gen Cert.KernelDwOutIdeal.Value Cert.WeightGrad

variable (m : (ℓ : Loc nD τ sig) → Buf (Elt Ideal) ℓ) (c : Dev nD)

/-- The kernel's arguments: the layer's input and the columns' cotangent. -/
abbrev X : S8192x1024.Idx → EReal := m ((c.tc : Thread nD τ).loc main_arg0)
abbrev Y : S8192x1024.Idx → EReal := m ((c.tc : Thread nD τ).loc main_arg1)

theorem index_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

theorem block0 (b : ℕ) (s : Fin 4) (h : 4 * b + s.val < cfg0.N) (k : Fin 2048) (r : Fin 1024) :
    iblk m c 0 ⟨4 * b + s.val, h⟩ (ix2 k r) = X m c (ix2 (row s k) r) := by
  obtain ⟨e0, e1, -, -⟩ := index_facts ⟨4 * b + s.val, h⟩
  refine congrArg (X m c) (funext fun a => Fin.ext ?_)
  match a with
  | ⟨0, _⟩ => show win0_0.index ⟨4 * b + s.val, h⟩ (0 : Fin 2) * 2048 + 1 * k.val = 2048 * s.val + k.val; rw [e0]; dsimp only; omega
  | ⟨1, _⟩ => show win0_0.index ⟨4 * b + s.val, h⟩ (1 : Fin 2) * 1024 + 1 * r.val = r.val; rw [e1]; omega

theorem block1 (b : Fin 1) (s : Fin 4) (h : 4 * b.val + s.val < cfg0.N) (k : Fin 2048) (r : Fin 1024) :
    iblk m c 1 ⟨4 * b.val + s.val, h⟩ (ix2 k r) = Y m c (ix2 (row s k) ⟨1024 * b.val + r.val, by omega⟩) := by
  obtain ⟨-, -, e0, e1⟩ := index_facts ⟨4 * b.val + s.val, h⟩
  refine congrArg (Y m c) (funext fun a => Fin.ext ?_)
  match a with
  | ⟨0, _⟩ => show win0_1.index ⟨4 * b.val + s.val, h⟩ (0 : Fin 2) * 2048 + 1 * k.val = 2048 * s.val + k.val; rw [e0]; dsimp only; omega
  | ⟨1, _⟩ => show win0_1.index ⟨4 * b.val + s.val, h⟩ (1 : Fin 2) * 1024 + 1 * r.val = 1024 * b.val + r.val; rw [e1]; dsimp only; omega

/-- One point's payload: the accumulator plus the product of the two blocks. -/
theorem pay2_apply (acc : Vec Ideal S1024x1024 .f32) (x y : Vec Ideal S2048x1024 .bf16) (i : S1024x1024.Idx) :
    k0_pay2 acc x y i = acc i + ∑ k : Fin 2048, x (ix2 k (i 0)) * y (ix2 k (i 1)) := by
  unfold k0_pay2
  pointwise

theorem value (i : S1024x1024.Idx) :
    G2 m c i = ∑ n : Fin 8192, X m c (ix2 n (i 0)) * Y m c (ix2 n (i 1)) := by
  have hi0 : (i 0).val < 1024 := (i 0).isLt
  have hi1 : (i 1).val < 1024 := (i 1).isLt
  obtain ⟨b, hb⟩ : ∃ b : Fin 1, b.val = (i 1).val / 1024 := ⟨⟨(i 1).val / 1024, by omega⟩, rfl⟩
  have hrun : run2Of i = b.val := by show 1 * ((i 0).val / 1024 - 0) + 1 * ((i 1).val / 1024 - 0) = b.val; omega
  have key : ∀ r, r = b.val → ∀ h, Pipeline.accAt (reset2 m c) (step2 m c) (4 * r) 3 h (loc2Of i)
      = ∑ n : Fin 8192, X m c (ix2 n (i 0)) * Y m c (ix2 n (i 1)) := by
    rintro _ rfl h
    refine (fold_eq (reset2 m c) (step2 m c) b.val h (loc2Of i)
      (fun n j => X m c (ix2 n (j 0)) * Y m c (ix2 n ⟨1024 * b.val + (j 1).val, by have : (j 1).val < 1024 := (j 1).isLt; omega⟩))
      (fun h j => ?_) (fun s h acc j => ?_)).trans ?_
    · unfold reset2
      rw [pay2_apply, show k0_pay1 (F := Ideal) j = 0 from Ideal.ofBits_zero_f32, zero_add]
      exact Finset.sum_congr rfl fun k _ => congrArg₂ (· * ·) (block0 m c b.val 0 h k (j 0)) (block1 m c b 0 h k (j 1))
    · unfold step2
      rw [pay2_apply]
      refine congrArg (acc j + ·) (Finset.sum_congr rfl fun k _ => ?_)
      exact congrArg₂ (· * ·) (block0 m c b.val s h k (j 0)) (block1 m c b s h k (j 1))
    · refine Finset.sum_congr rfl fun n _ => congrArg₂ (· * ·) (congrArg (X m c) ?_) (congrArg (Y m c) ?_)
      · exact congrArg (ix2 n) (Fin.ext (Nat.mod_eq_of_lt hi0))
      · exact congrArg (ix2 n) (Fin.ext (show 1024 * b.val + (i 1).val % 1024 = (i 1).val by omega))
  have hN : cfg0.N = 4 := N_0
  unfold G2
  exact (dif_pos (by rw [hrun, hN]; omega)).trans (key _ hrun _)

open Cert.ReferenceDwOutIdeal.Read in
/-- What the reference leaves in its result is the kernel's fold. -/
theorem reference_eq : val_main_v5 (F := Ideal) (X m c) (Y m c) = G2 m c := by
  funext i
  rw [value, val_main_v5_apply, val_main_v4_apply]
  refine Finset.sum_congr rfl fun n _ => ?_
  rw [val_main_v3_apply, val_main_v1_apply]
  refine (mul_comm _ _).trans (congrArg₂ (· * ·) (congrArg (X m c) ?_) (congrArg (Y m c) ?_)) <;>
  · funext a
    match a with
    | ⟨0, _⟩ => rfl
    | ⟨1, _⟩ => rfl

end Cert.DwOut

end
-- ==== Proof.InputGrad.lean ====
/- The arithmetic of the input gradient: a sum over the 11264 columns taken in eighteen segments, and the gradient of the
   root-mean-square norm in the two forms the kernel and the reference give it. -/
module

public import Idealize.ShloMosaic.Lib.ValueIdx
public import Idealize.ShloMosaic.PureOps.Ideal.Laws

@[expose] public section

noncomputable section

namespace Cert.InputGrad

open Idealize.ShloMosaic

/-- The sum of `w` consecutive terms from the `a`-th on. -/
def seg (f : ℕ → EReal) (a w : ℕ) : EReal := ∑ j : Fin w, f (a + j.val)

theorem seg_add (f : ℕ → EReal) (a v w : ℕ) : seg f a (v + w) = seg f a v + seg f (a + v) w := by
  unfold seg
  rw [Fin.sum_univ_add]
  refine congrArg (_ + ·) (Finset.sum_congr rfl fun j _ => congrArg f ?_)
  exact (Nat.add_assoc _ _ _).symm

/-- The columns in the order the kernel adds them: the convolution's, the gates', then each head's q, k, v, z. -/
theorem seg_all (f : ℕ → EReal) :
    seg f 6144 3072 + seg f 9216 2048
      + seg f 0 256 + seg f 1024 256 + seg f 2048 512 + seg f 4096 512
      + seg f 256 256 + seg f 1280 256 + seg f 2560 512 + seg f 4608 512
      + seg f 512 256 + seg f 1536 256 + seg f 3072 512 + seg f 5120 512
      + seg f 768 256 + seg f 1792 256 + seg f 3584 512 + seg f 5632 512 = ∑ c : Fin 11264, f c.val := by
  have h : ∑ c : Fin 11264, f c.val = seg f 0 (256 + (256 + (256 + (256 + (256 + (256 + (256 + (256
      + (512 + (512 + (512 + (512 + (512 + (512 + (512 + (512 + (3072 + 2048))))))))))))))))) :=
    Finset.sum_congr rfl fun c _ => congrArg f (Nat.zero_add _).symm
  rw [h]
  simp only [seg_add]
  simp only [Nat.zero_add, Nat.reduceAdd]
  ac_rfl

theorem sum_mul_pos {n : ℕ} (f : Fin n → EReal) {ρ : ℝ} (h : 0 ≤ ρ) : ∑ j, f j * (ρ : EReal) = (∑ j, f j) * (ρ : EReal) := by
  classical
  refine Finset.induction_on (Finset.univ : Finset (Fin n)) (by simp) fun a s ha ih => ?_
  rw [Finset.sum_insert ha, Finset.sum_insert ha, ih, mul_comm, mul_comm _ (ρ : EReal), mul_comm _ (ρ : EReal),
    EReal.left_distrib_of_nonneg_of_ne_top (EReal.coe_nonneg.2 h) (EReal.coe_ne_top _)]

theorem coe_sum {n : ℕ} (f : Fin n → ℝ) : ((∑ j, f j : ℝ) : EReal) = ∑ j, (f j : EReal) := by
  classical
  refine Finset.induction_on (Finset.univ : Finset (Fin n)) (by simp) fun a s ha ih => ?_
  rw [Finset.sum_insert ha, Finset.sum_insert ha, EReal.coe_add, ih]

theorem twice (y : EReal) : y + y = y * ((2 : ℝ) : EReal) := by
  induction y with
  | bot => simp [EReal.bot_mul_coe_of_pos]
  | top => simp [EReal.top_mul_coe_of_pos]
  | coe r => rw [← EReal.coe_add, ← EReal.coe_mul]; exact congrArg _ (by ring)

theorem sq_nonneg (x : EReal) : 0 ≤ x * x := by
  induction x with
  | bot => simp
  | top => simp
  | coe r => rw [← EReal.coe_mul]; exact EReal.coe_nonneg.2 (mul_self_nonneg r)

/-- A sum of squares is either `⊤` or that of real numbers. -/
theorem sum_sq {n : ℕ} (x : Fin n → EReal) :
    ∑ j, x j * x j = ⊤ ∨ ∃ a : Fin n → ℝ, x = fun j => (a j : EReal) := by
  by_cases h : ∀ j, x j ≠ ⊤ ∧ x j ≠ ⊥
  · exact .inr ⟨fun j => (x j).toReal, funext fun j => (EReal.coe_toReal (h j).1 (h j).2).symm⟩
  · left
    push Not at h
    obtain ⟨j, hj⟩ := h
    have e : x j * x j = ⊤ := by
      by_cases ht : x j = ⊤
      · rw [ht]; rfl
      · rw [hj ht]; rfl
    have hle : x j * x j ≤ ∑ j, x j * x j := Finset.single_le_sum (fun j _ => sq_nonneg (x j)) (Finset.mem_univ j)
    rw [e] at hle
    exact top_le_iff.1 hle

theorem eps_eq : Ideal.ofBits .f32 0x358637BD#32 = ((8796093 * 2 ^ (-43 : ℤ) : ℝ) : EReal) := by
  simp [Ideal.ofBits, Ideal.ieee]
theorem two10_eq : Ideal.ofBits .f32 0x44800000#32 = ((1024 : ℝ) : EReal) := by
  simp only [Ideal.ofBits, Ideal.ieee]; simp; rw [← EReal.coe_mul]; norm_num
theorem neg_half_eq : Ideal.ofBits .f32 0xBF000000#32 = ((-(1 / 2) : ℝ) : EReal) := by
  simp only [Ideal.ofBits, Ideal.ieee]; simp; rw [← EReal.coe_mul]; norm_num

/-- The reciprocal root of a row's mean square. -/
def rms (S : EReal) : EReal := Ideal.div S (Ideal.ofBits .f32 0x44800000#32) + Ideal.ofBits .f32 0x358637BD#32

/-- The norm's gradient: `r (d - x̂ mean(d x̂))` is the sum of what flows through `x` itself and, twice, through its square. -/
theorem norm_back (x d : Fin 1024 → EReal) (k : Fin 1024) :
    Ideal.rsqrt (rms (∑ j, x j * x j)) * (d k - x k * Ideal.rsqrt (rms (∑ j, x j * x j))
        * Ideal.div (∑ j, d j * (x j * Ideal.rsqrt (rms (∑ j, x j * x j)))) (Ideal.ofBits .f32 0x44800000#32))
      = d k * Ideal.rsqrt (rms (∑ j, x j * x j))
        + x k * Ideal.div ((∑ j, x j * d j) * (Ideal.ofBits .f32 0xBF000000#32
            * Ideal.div (Ideal.rsqrt (rms (∑ j, x j * x j))) (rms (∑ j, x j * x j)))) (Ideal.ofBits .f32 0x44800000#32)
        + Ideal.div ((∑ j, x j * d j) * (Ideal.ofBits .f32 0xBF000000#32
            * Ideal.div (Ideal.rsqrt (rms (∑ j, x j * x j))) (rms (∑ j, x j * x j)))) (Ideal.ofBits .f32 0x44800000#32) * x k := by
  have n10 : (1024 : ℝ) ≠ 0 := by norm_num
  rcases sum_sq x with h | ⟨a, rfl⟩
  · have e : rms (∑ j, x j * x j) = ⊤ := by
      rw [h]; unfold rms
      rw [two10_eq, eps_eq, Ideal.div_coe n10, EReal.top_mul_coe_of_pos (by norm_num), EReal.top_add_coe]
    rw [e, Ideal.rsqrt_top, two10_eq]
    simp [Ideal.div]
  · obtain ⟨s, hs0, hs⟩ : ∃ s : ℝ, 0 < s ∧ rms (∑ j, ((a j : ℝ) : EReal) * (a j : EReal)) = (s : EReal) := by
      refine ⟨(∑ j, a j * a j) * (1 / 1024) + 8796093 * 2 ^ (-43 : ℤ), ?_, ?_⟩
      · have : 0 ≤ ∑ j, a j * a j := Finset.sum_nonneg fun j _ => mul_self_nonneg _
        positivity
      · unfold rms
        rw [two10_eq, eps_eq, Ideal.div_coe n10, EReal.coe_add, EReal.coe_mul _ (1 / 1024 : ℝ), coe_sum]
        simp only [EReal.coe_mul]
    have hr : Ideal.rsqrt (s : EReal) = (((Real.sqrt s)⁻¹ : ℝ) : EReal) := by
      rw [Ideal.rsqrt_coe, if_neg (by linarith), if_neg (by linarith)]
    have hρ : 0 < (Real.sqrt s)⁻¹ := inv_pos.2 (Real.sqrt_pos.2 hs0)
    have hρ2 : (Real.sqrt s)⁻¹ * (Real.sqrt s)⁻¹ = 1 / s := by
      rw [← mul_inv, Real.mul_self_sqrt hs0.le, one_div]
    simp only [hs, hr]
    generalize (Real.sqrt s)⁻¹ = ρ at *
    simp only [two10_eq, neg_half_eq, Ideal.div_coe n10, Ideal.div_coe hs0.ne']
    simp only [← mul_assoc]
    rw [sum_mul_pos _ hρ.le]
    have hT : ∑ j, ((a j : ℝ) : EReal) * d j = ∑ j, d j * (a j : EReal) := Finset.sum_congr rfl fun j _ => mul_comm _ _
    rw [hT]
    generalize ∑ j, d j * (a j : EReal) = T
    rw [sub_eq_add_neg, EReal.left_distrib_of_nonneg_of_ne_top (EReal.coe_nonneg.2 hρ.le) (EReal.coe_ne_top _), add_assoc,
      mul_comm (ρ : EReal) (d k)]
    congr 1
    have e1 : (ρ : EReal) * -(↑(a k) * ↑ρ * (T * ↑ρ * ((1 / 1024 : ℝ) : EReal)))
        = T * ((-(ρ * (a k * ρ * (ρ * (1 / 1024)))) : ℝ) : EReal) := by
      rw [EReal.coe_neg, mul_neg, mul_neg]
      simp only [EReal.coe_mul]
      refine congrArg _ ?_
      ac_rfl
    have e2 : (a k : EReal) * (T * ((-(1 / 2) : ℝ) : EReal) * ρ * ((1 / s : ℝ) : EReal) * ((1 / 1024 : ℝ) : EReal))
        = T * ((-(1 / 2) * ρ * (1 / s) * (1 / 1024) * a k : ℝ) : EReal) := by
      simp only [EReal.coe_mul]
      ac_rfl
    have e3 : T * ((-(1 / 2) : ℝ) : EReal) * ρ * ((1 / s : ℝ) : EReal) * ((1 / 1024 : ℝ) : EReal) * a k
        = T * ((-(1 / 2) * ρ * (1 / s) * (1 / 1024) * a k : ℝ) : EReal) := (mul_comm _ _).trans e2
    simp only [← mul_assoc] at e1 e2 ⊢
    rw [e1, e2, e3, twice, mul_assoc T, ← EReal.coe_mul]
    refine congrArg (fun q : ℝ => T * (q : EReal)) ?_
    rw [← hρ2]
    ring

end Cert.InputGrad

end
-- ==== Proof.DhPoint.lean ====
/- The input gradient's kernel at one block of 256 rows: the cotangent of the block's normed rows as one sum over all
   the projection's columns, and the payloads made of it. -/
module

public import proofs.«01_k».proof.Proof.Gen.KernelDhIdeal.Value
public import proofs.«01_k».proof.Proof.InputGrad
public import Idealize.ShloMosaic.Lib.Pointwise

@[expose] public section

set_option maxRecDepth 16384

noncomputable section

namespace Cert.Dh

open Idealize.ShloMosaic Idealize.ShloMosaic.TcCoe Idealize.SL.Sem
open Cert.KernelDhIdeal Cert.KernelDhIdeal.Gen Cert.InputGrad

/-! ## The projection's cotangent at a column, from the three arrays that hold it -/

/-- Column `n` of the projection's cotangent: each head's q, k, v, z lie together in the retention's rows. -/
def proj (dr : Fin 6144 → EReal) (dc : Fin 3072 → EReal) (dg : Fin 2048 → EReal) (n : ℕ) : EReal :=
  if h : n < 1024 then dr ⟨1536 * (n / 256) + n % 256, by omega⟩
  else if h : n < 2048 then dr ⟨1536 * ((n - 1024) / 256) + (256 + (n - 1024) % 256), by omega⟩
  else if h : n < 4096 then dr ⟨1536 * ((n - 2048) / 512) + (512 + (n - 2048) % 512), by omega⟩
  else if h : n < 6144 then dr ⟨1536 * ((n - 4096) / 512) + (1024 + (n - 4096) % 512), by omega⟩
  else if h : n < 9216 then dc ⟨n - 6144, by omega⟩
  else if h : n < 11264 then dg ⟨n - 9216, by omega⟩
  else 0

/-- A column's term of the cotangent of the normed input: the cotangent there times the weight. -/
def term (dr : Fin 6144 → EReal) (dc : Fin 3072 → EReal) (dg : Fin 2048 → EReal) (w : Fin 11264 → EReal) (n : ℕ) : EReal :=
  proj dr dc dg n * (if h : n < 11264 then w ⟨n, h⟩ else 0)

variable (dr : Fin 6144 → EReal) (dc : Fin 3072 → EReal) (dg : Fin 2048 → EReal)

theorem proj_q (h : Fin 4) (j : Fin 256) : proj dr dc dg (256 * h.val + j.val) = dr ⟨1536 * h.val + j.val, by omega⟩ := by
  unfold proj
  rw [dif_pos (by omega)]
  exact congrArg dr (Fin.ext (by dsimp only; omega))

theorem proj_k (h : Fin 4) (j : Fin 256) :
    proj dr dc dg (1024 + 256 * h.val + j.val) = dr ⟨1536 * h.val + 256 + j.val, by omega⟩ := by
  unfold proj
  rw [dif_neg (by omega), dif_pos (by omega)]
  exact congrArg dr (Fin.ext (by dsimp only; omega))

theorem proj_v (h : Fin 4) (j : Fin 512) :
    proj dr dc dg (2048 + 512 * h.val + j.val) = dr ⟨1536 * h.val + 512 + j.val, by omega⟩ := by
  unfold proj
  rw [dif_neg (by omega), dif_neg (by omega), dif_pos (by omega)]
  exact congrArg dr (Fin.ext (by dsimp only; omega))

theorem proj_z (h : Fin 4) (j : Fin 512) :
    proj dr dc dg (4096 + 512 * h.val + j.val) = dr ⟨1536 * h.val + 1024 + j.val, by omega⟩ := by
  unfold proj
  rw [dif_neg (by omega), dif_neg (by omega), dif_neg (by omega), dif_pos (by omega)]
  exact congrArg dr (Fin.ext (by dsimp only; omega))

theorem proj_c (j : Fin 3072) : proj dr dc dg (6144 + j.val) = dc j := by
  unfold proj
  rw [dif_neg (by omega), dif_neg (by omega), dif_neg (by omega), dif_neg (by omega), dif_pos (by omega)]
  exact congrArg dc (Fin.ext (by dsimp only; omega))

theorem proj_g (j : Fin 2048) : proj dr dc dg (9216 + j.val) = dg j := by
  unfold proj
  rw [dif_neg (by omega), dif_neg (by omega), dif_neg (by omega), dif_neg (by omega), dif_neg (by omega), dif_pos (by omega)]
  exact congrArg dg (Fin.ext (by dsimp only; omega))

/-! ## Loads -/

/-- A load of a window reads its contents at the offset. -/
theorem load_apply {S : Shape} {e : EltTy} (a : Memref sig .tc .vmem S e) (ha : a.IsWhole) (x : S.Idx → Elt Ideal e)
    (off size : Fin S.rank → ℕ) (inb : ∀ i, off i + size i ≤ S.size i) (y : (Rect.unit off size inb).shape.Idx) (i : S.Idx)
    (hi : ∀ b, (i b : ℕ) = off b + (y b : ℕ)) :
    View.readAt (Elt Ideal) a.view (Rect.unit off size inb).toLoadRect (ha.unread x) y = x i :=
  (congrArg (fun X => View.ld X (Rect.unit off size inb) y) (ha.read_unread x)).trans
    (congrArg x (funext fun b => Fin.ext ((congrArg (off b + ·) (Nat.one_mul _)).trans (hi b).symm)))

/-- A load of columns from `o` on. -/
theorem load_cols {a b w o : ℕ} {e : EltTy} (arg : Memref sig .tc .vmem ⟨2, ![a, b]⟩ e) (ha : arg.IsWhole)
    (x : (⟨2, ![a, b]⟩ : Shape).Idx → Elt Ideal e) (inb : ∀ i, (![0, o] : Fin 2 → ℕ) i + (![a, w] : Fin 2 → ℕ) i ≤ (![a, b] : Fin 2 → ℕ) i)
    (r : Fin a) (j : Fin w) (h : o + j.val < b) :
    View.readAt (Elt Ideal) arg.view (Rect.unit (s := ⟨2, ![a, b]⟩) ![0, o] ![a, w] inb).toLoadRect (ha.unread x) (ix2 r j)
      = x (ix2 r ⟨o + j.val, h⟩) :=
  load_apply arg ha x _ _ inb _ _ (Fin.forall_fin_two.2 ⟨(Nat.zero_add _).symm, rfl⟩)

theorem load_full {a b : ℕ} {e : EltTy} (arg : Memref sig .tc .vmem ⟨2, ![a, b]⟩ e) (ha : arg.IsWhole)
    (x : (⟨2, ![a, b]⟩ : Shape).Idx → Elt Ideal e) (inb : ∀ i, (![0, 0] : Fin 2 → ℕ) i + (![a, b] : Fin 2 → ℕ) i ≤ (![a, b] : Fin 2 → ℕ) i) :
    View.readAt (Elt Ideal) arg.view (Rect.unit (s := ⟨2, ![a, b]⟩) ![0, 0] ![a, b] inb).toLoadRect (ha.unread x) = x :=
  funext fun y => load_apply arg ha x _ _ inb y y (Fin.forall_fin_two.2 ⟨(Nat.zero_add _).symm, (Nat.zero_add _).symm⟩)

/-! ## The block's products -/

/-- The product of a row by a row of weights. -/
def dotT {a b w : ℕ} (x : (⟨2, ![a, w]⟩ : Shape).Idx → EReal) (y : (⟨2, ![b, w]⟩ : Shape).Idx → EReal) (r : Fin a) (k : Fin b) : EReal :=
  ∑ j : Fin w, x (ix2 r j) * y (ix2 k j)

theorem pay4_apply (v3 : Vec Ideal S256x3072 .bf16) (v4 : Vec Ideal S1024x3072 .bf16) (v7 : Vec Ideal S256x2048 .bf16)
    (v8 : Vec Ideal S1024x2048 .bf16) (v12 : Vec Ideal S256x256 .bf16) (v13 : Vec Ideal S1024x256 .bf16)
    (v17 : Vec Ideal S256x256 .bf16) (v18 : Vec Ideal S1024x256 .bf16) (v22 : Vec Ideal S256x512 .bf16)
    (v23 : Vec Ideal S1024x512 .bf16) (r : Fin 256) (k : Fin 1024) :
    k0_pay4 v3 v4 v7 v8 v12 v13 v17 v18 v22 v23 (ix2 r k)
      = dotT v3 v4 r k + dotT v7 v8 r k + dotT v12 v13 r k + dotT v17 v18 r k + dotT v22 v23 r k := by
  unfold k0_pay4 dotT
  pointwise

theorem pay5_apply (a : Vec Ideal S256x1024 .f32) (x0 : Vec Ideal S256x512 .bf16) (y0 : Vec Ideal S1024x512 .bf16)
    (x1 : Vec Ideal S256x256 .bf16) (y1 : Vec Ideal S1024x256 .bf16) (x2 : Vec Ideal S256x256 .bf16) (y2 : Vec Ideal S1024x256 .bf16)
    (x3 : Vec Ideal S256x512 .bf16) (y3 : Vec Ideal S1024x512 .bf16) (x4 : Vec Ideal S256x512 .bf16) (y4 : Vec Ideal S1024x512 .bf16)
    (x5 : Vec Ideal S256x256 .bf16) (y5 : Vec Ideal S1024x256 .bf16) (r : Fin 256) (k : Fin 1024) :
    k0_pay5 a x0 y0 x1 y1 x2 y2 x3 y3 x4 y4 x5 y5 (ix2 r k)
      = a (ix2 r k) + dotT x0 y0 r k + dotT x1 y1 r k + dotT x2 y2 r k + dotT x3 y3 r k + dotT x4 y4 r k + dotT x5 y5 r k := by
  unfold k0_pay5 dotT
  pointwise

theorem pay6_apply (a : Vec Ideal S256x1024 .f32) (x0 : Vec Ideal S256x256 .bf16) (y0 : Vec Ideal S1024x256 .bf16)
    (x1 : Vec Ideal S256x512 .bf16) (y1 : Vec Ideal S1024x512 .bf16) (x2 : Vec Ideal S256x512 .bf16) (y2 : Vec Ideal S1024x512 .bf16)
    (x3 : Vec Ideal S256x256 .bf16) (y3 : Vec Ideal S1024x256 .bf16) (x4 : Vec Ideal S256x256 .bf16) (y4 : Vec Ideal S1024x256 .bf16)
    (x5 : Vec Ideal S256x512 .bf16) (y5 : Vec Ideal S1024x512 .bf16) (r : Fin 256) (k : Fin 1024) :
    k0_pay6 a x0 y0 x1 y1 x2 y2 x3 y3 x4 y4 x5 y5 (ix2 r k)
      = a (ix2 r k) + dotT x0 y0 r k + dotT x1 y1 r k + dotT x2 y2 r k + dotT x3 y3 r k + dotT x4 y4 r k + dotT x5 y5 r k := by
  unfold k0_pay6 dotT
  pointwise

theorem pay7_apply (a : Vec Ideal S256x1024 .f32) (x : Vec Ideal S256x512 .bf16) (y : Vec Ideal S1024x512 .bf16) (r : Fin 256) (k : Fin 1024) :
    k0_pay7 a x y (ix2 r k) = a (ix2 r k) + dotT x y r k := by
  unfold k0_pay7 dotT
  pointwise

/-- A product of loaded columns is the sum of the terms at the columns they hold. -/
theorem piece {a n w o b : ℕ}
    (arg : Memref sig .tc .vmem ⟨2, ![a, n]⟩ .bf16) (ha : arg.IsWhole) (x : (⟨2, ![a, n]⟩ : Shape).Idx → EReal)
    (arg4 : Memref sig .tc .vmem S1024x11264 .bf16) (h4 : arg4.IsWhole) (x3 : S1024x11264.Idx → EReal)
    (inb : ∀ i, (![0, o] : Fin 2 → ℕ) i + (![a, w] : Fin 2 → ℕ) i ≤ (![a, n] : Fin 2 → ℕ) i)
    (inb4 : ∀ i, (![0, b] : Fin 2 → ℕ) i + (![1024, w] : Fin 2 → ℕ) i ≤ (![1024, 11264] : Fin 2 → ℕ) i)
    (r : Fin a) (k : Fin 1024)
    (hp : ∀ (j : Fin w) (h : o + j.val < n), proj dr dc dg (b + j.val) = x (ix2 r ⟨o + j.val, h⟩)) :
    dotT (View.readAt (Elt Ideal) arg.view (Rect.unit (s := ⟨2, ![a, n]⟩) ![0, o] ![a, w] inb).toLoadRect (ha.unread (Val := Elt Ideal) x))
        (View.readAt (Elt Ideal) arg4.view (Rect.unit (s := S1024x11264) ![0, b] ![1024, w] inb4).toLoadRect (h4.unread (Val := Elt Ideal) x3)) r k
      = seg (term dr dc dg fun j => x3 (ix2 k j)) b w := by
  refine Finset.sum_congr rfl fun j _ => ?_
  have h1 : o + j.val < n := lt_of_lt_of_le (Nat.add_lt_add_left j.isLt o) (inb 1)
  have h4' : b + j.val < 11264 := lt_of_lt_of_le (Nat.add_lt_add_left j.isLt b) (inb4 1)
  refine congrArg₂ (· * ·) ((load_cols arg ha x inb r j h1).trans (hp j h1).symm) ((load_cols arg4 h4 x3 inb4 k j h4').trans ?_)
  exact (dif_pos (c := b + j.val < 11264) (t := fun h => x3 (ix2 k ⟨b + j.val, h⟩)) h4').symm

theorem add2 {a b c d : EReal} (h : a = b) (h' : c = d) : a + c = b + d := congrArg₂ _ h h'

/-- The cotangent of the block's normed rows: the kernel's eighteen products are one sum over the columns. -/
theorem dh_apply (c : Dev nD) (arg1 : Memref sig .tc .vmem S256x6144 .bf16) (h1 : arg1.IsWhole)
    (arg2 : Memref sig .tc .vmem S256x3072 .bf16) (h2 : arg2.IsWhole) (arg3 : Memref sig .tc .vmem S256x2048 .bf16) (h3 : arg3.IsWhole)
    (arg4 : Memref sig .tc .vmem S1024x11264 .bf16) (h4 : arg4.IsWhole) (x0 : Vec Ideal S256x6144 .bf16)
    (x1 : Vec Ideal S256x3072 .bf16) (x2 : Vec Ideal S256x2048 .bf16) (x3 : Vec Ideal S1024x11264 .bf16) (r : Fin 256) (k : Fin 1024) :
    kernelRun0_A.sl.r_6 (F := Ideal) c arg1 h1 arg2 h2 arg3 h3 arg4 h4 x0 x1 x2 x3 (ix2 r k)
      = ∑ n : Fin 11264, term (fun j => x0 (ix2 r j)) (fun j => x1 (ix2 r j)) (fun j => x2 (ix2 r j)) (fun j => x3 (ix2 k j)) n.val := by
  refine Eq.trans ?_ (seg_all _)
  refine (pay7_apply _ _ _ r k).trans (add2 ((pay6_apply _ _ _ _ _ _ _ _ _ _ _ _ _ r k).trans (add2 (add2 (add2 (add2 (add2 (add2
    ((pay5_apply _ _ _ _ _ _ _ _ _ _ _ _ _ r k).trans (add2 (add2 (add2 (add2 (add2 (add2
      ((pay4_apply _ _ _ _ _ _ _ _ _ _ r k).trans (add2 (add2 (add2 (add2 ?_ ?_) ?_) ?_) ?_)) ?_) ?_) ?_) ?_) ?_) ?_)) ?_) ?_) ?_) ?_) ?_) ?_)) ?_)
  · exact piece _ _ _ arg2 h2 x1 arg4 h4 x3 _ _ r k fun j h =>
      (proj_c _ _ _ j).trans (congrArg (fun i => x1 (ix2 r i)) (Fin.ext (Nat.zero_add _).symm))
  · exact piece _ _ _ arg3 h3 x2 arg4 h4 x3 _ _ r k fun j h =>
      (proj_g _ _ _ j).trans (congrArg (fun i => x2 (ix2 r i)) (Fin.ext (Nat.zero_add _).symm))
  · exact piece _ _ _ arg1 h1 x0 arg4 h4 x3 _ _ r k fun j h => proj_q _ _ _ 0 j
  · exact piece _ _ _ arg1 h1 x0 arg4 h4 x3 _ _ r k fun j h => proj_k _ _ _ 0 j
  · exact piece _ _ _ arg1 h1 x0 arg4 h4 x3 _ _ r k fun j h => proj_v _ _ _ 0 j
  · exact piece _ _ _ arg1 h1 x0 arg4 h4 x3 _ _ r k fun j h => proj_z _ _ _ 0 j
  · exact piece _ _ _ arg1 h1 x0 arg4 h4 x3 _ _ r k fun j h => proj_q _ _ _ 1 j
  · exact piece _ _ _ arg1 h1 x0 arg4 h4 x3 _ _ r k fun j h => proj_k _ _ _ 1 j
  · exact piece _ _ _ arg1 h1 x0 arg4 h4 x3 _ _ r k fun j h => proj_v _ _ _ 1 j
  · exact piece _ _ _ arg1 h1 x0 arg4 h4 x3 _ _ r k fun j h => proj_z _ _ _ 1 j
  · exact piece _ _ _ arg1 h1 x0 arg4 h4 x3 _ _ r k fun j h => proj_q _ _ _ 2 j
  · exact piece _ _ _ arg1 h1 x0 arg4 h4 x3 _ _ r k fun j h => proj_k _ _ _ 2 j
  · exact piece _ _ _ arg1 h1 x0 arg4 h4 x3 _ _ r k fun j h => proj_v _ _ _ 2 j
  · exact piece _ _ _ arg1 h1 x0 arg4 h4 x3 _ _ r k fun j h => proj_z _ _ _ 2 j
  · exact piece _ _ _ arg1 h1 x0 arg4 h4 x3 _ _ r k fun j h => proj_q _ _ _ 3 j
  · exact piece _ _ _ arg1 h1 x0 arg4 h4 x3 _ _ r k fun j h => proj_k _ _ _ 3 j
  · exact piece _ _ _ arg1 h1 x0 arg4 h4 x3 _ _ r k fun j h => proj_v _ _ _ 3 j
  · exact piece _ _ _ arg1 h1 x0 arg4 h4 x3 _ _ r k fun j h => proj_z _ _ _ 3 j

/-! ## The norm's payloads -/

/-- A row's reciprocal root mean square. -/
def rr (x : Fin 1024 → EReal) : EReal := Ideal.rsqrt (rms (∑ j, x j * x j))

theorem pay8_apply (x : Vec Ideal S256x1024 .f32) (r : Fin 256) (z : Fin 1) : k0_pay8 x (ix2 r z) = rr fun j => x (ix2 r j) := by
  unfold k0_pay8 rr rms
  pointwise

theorem pay9_apply (x : Vec Ideal S256x1024 .f32) (r : Fin 256) (k : Fin 1024) :
    k0_pay9 x (ix2 r k) = x (ix2 r k) * rr fun j => x (ix2 r j) := by
  rw [← pay8_apply x r 0]
  unfold k0_pay9
  pointwise

/-- The scale: one plus what the modulation adds. -/
def one (s : EReal) : EReal := Ideal.ofBits .f32 0x3F800000#32 + s

theorem pay10_apply (s : Vec Ideal S1x1024 .f32) (z : Fin 1) (k : Fin 1024) : k0_pay10 s (ix2 z k) = one (s (ix2 z k)) := by
  unfold k0_pay10 one
  pointwise

theorem pay1_apply (d xh : Vec Ideal S256x1024 .f32) (s row : Vec Ideal S1x1024 .f32) (z : Fin 1) (k : Fin 1024) :
    k0_pay1 d xh s row (ix2 z k) = row (ix2 z k) + ∑ r : Fin 256, d (ix2 r k) * s (ix2 0 k) * xh (ix2 r k) := by
  unfold k0_pay1
  pointwise

theorem pay11_apply (a : Vec Ideal S256x1024 .f32) (x : Vec Ideal S256x512 .bf16) (y : Vec Ideal S1024x512 .bf16)
    (row : Vec Ideal S1x1024 .f32) (z : Fin 1) (k : Fin 1024) :
    k0_pay11 a x y row (ix2 z k) = row (ix2 z k) + ∑ r : Fin 256, k0_pay7 a x y (ix2 r k) := by
  unfold k0_pay11
  generalize k0_pay7 a x y = d
  pointwise

theorem pay12_apply (a : Vec Ideal S256x1024 .f32) (x : Vec Ideal S256x512 .bf16) (y : Vec Ideal S1024x512 .bf16)
    (v : Vec Ideal S256x1024 .f32) (g row : Vec Ideal S1x1024 .f32) (z : Fin 1) (k : Fin 1024) :
    k0_pay12 a x y v g row (ix2 z k)
      = row (ix2 z k) + ∑ r : Fin 256, k0_pay7 a x y (ix2 r k) * (k0_pay9 v (ix2 r k) * g (ix2 0 k)) := by
  unfold k0_pay12
  generalize k0_pay7 a x y = d
  generalize k0_pay9 v = xh
  pointwise

theorem pay2_apply (d : Vec Ideal S256x1024 .f32) (ri : Vec Ideal S256x1 .f32) (xh : Vec Ideal S256x1024 .f32)
    (g s : Vec Ideal S1x1024 .f32) (o : Vec Ideal S256x1024 .f32) (r : Fin 256) (k : Fin 1024) :
    k0_pay2 d ri xh g s o (ix2 r k)
      = o (ix2 r k) + ri (ix2 r 0) * (d (ix2 r k) * s (ix2 0 k) * g (ix2 0 k)
          - xh (ix2 r k) * Ideal.div (∑ j : Fin 1024, d (ix2 r j) * s (ix2 0 j) * g (ix2 0 j) * xh (ix2 r j)) (Ideal.ofBits .f32 0x44800000#32)) := by
  unfold k0_pay2
  pointwise

end Cert.Dh

end
-- ==== Proof.DhBlock.lean ====
/- The input gradient's kernel at one block of 256 rows: what a grid point leaves in its two results. -/
module

public import proofs.«01_k».proof.Proof.Gen.KernelDhIdeal.Value
public import proofs.«01_k».proof.Proof.DhPoint
public import Idealize.ShloMosaic.Lib.WritesUnit
public import Idealize.ShloMosaic.Lib.Pipeline.ReadBack

@[expose] public section

set_option maxRecDepth 16384

noncomputable section

namespace Cert.Dh

open Idealize.ShloMosaic Idealize.ShloMosaic.TcCoe Idealize.SL.Sem
open Cert.KernelDhIdeal Cert.KernelDhIdeal.Gen Cert.InputGrad

/-- The rows of small gradients at one row and column: the shift's, the scale's and the gain's, from the cotangent `d`, one
    plus the scale, the gain and the normed input. -/
def small (q : ℕ) (d s g xh : EReal) : EReal :=
  match q with
  | 0 => d
  | 1 => d * (xh * g)
  | 2 => d * s * xh
  | _ => 0

section Block

variable (x0 : Vec Ideal S256x6144 .bf16) (x1 : Vec Ideal S256x3072 .bf16) (x2 : Vec Ideal S256x2048 .bf16)
  (x3 : Vec Ideal S1024x11264 .bf16) (x4 x5 : Vec Ideal S256x1024 .f32) (x6 x7 : Vec Ideal S1x1024 .f32)

/-- The cotangent of the block's normed, scaled input. -/
def bdh (r : Fin 256) (k : Fin 1024) : EReal :=
  ∑ n : Fin 11264, term (fun j => x0 (ix2 r j)) (fun j => x1 (ix2 r j)) (fun j => x2 (ix2 r j)) (fun j => x3 (ix2 k j)) n.val

/-- A row's reciprocal root mean square. -/
def bri (r : Fin 256) : EReal := rr fun j => x4 (ix2 r j)

/-- What a row leaves of the input's gradient. -/
def bgx (r : Fin 256) (k : Fin 1024) : EReal :=
  x5 (ix2 r k) + bri x4 r * (bdh x0 x1 x2 x3 r k * one (x7 (ix2 0 k)) * x6 (ix2 0 k)
    - x4 (ix2 r k) * bri x4 r * Ideal.div (∑ j : Fin 1024, bdh x0 x1 x2 x3 r j * one (x7 (ix2 0 j)) * x6 (ix2 0 j) * (x4 (ix2 r j) * bri x4 r)) (Ideal.ofBits .f32 0x44800000))

/-- What a row adds to the small gradients' row `q`. -/
def bsm (q : ℕ) (r : Fin 256) (k : Fin 1024) : EReal :=
  small q (bdh x0 x1 x2 x3 r k) (one (x7 (ix2 0 k))) (x6 (ix2 0 k)) (x4 (ix2 r k) * bri x4 r)

variable (c : Dev nD) (i : grid0.Coords)
  (arg1 : Memref sig .tc .vmem S256x6144 .bf16) (h1 : arg1.IsWhole) (arg2 : Memref sig .tc .vmem S256x3072 .bf16) (h2 : arg2.IsWhole)
  (arg3 : Memref sig .tc .vmem S256x2048 .bf16) (h3 : arg3.IsWhole) (arg4 : Memref sig .tc .vmem S1024x11264 .bf16) (h4 : arg4.IsWhole)
  (arg5 : Memref sig .tc .vmem S256x1024 .f32) (h5 : arg5.IsWhole) (arg6 : Memref sig .tc .vmem S256x1024 .f32) (h6 : arg6.IsWhole)
  (arg7 : Memref sig .tc .vmem S1x1024 .f32) (h7 : arg7.IsWhole) (arg8 : Memref sig .tc .vmem S1x1024 .f32) (h8 : arg8.IsWhole)
  (arg9 : Memref sig .tc .vmem S256x1024 .f32) (h9 : arg9.IsWhole) (arg10 : Memref sig .tc .vmem S8x1024 .f32) (h10 : arg10.IsWhole)

abbrev D : Vec Ideal S256x1024 .f32 := kernelRun0_A.sl.r_6 (F := Ideal) c arg1 h1 arg2 h2 arg3 h3 arg4 h4 x0 x1 x2 x3

theorem D_apply (r : Fin 256) (k : Fin 1024) : D x0 x1 x2 x3 c arg1 h1 arg2 h2 arg3 h3 arg4 h4 (ix2 r k) = bdh x0 x1 x2 x3 r k :=
  dh_apply c arg1 h1 arg2 h2 arg3 h3 arg4 h4 x0 x1 x2 x3 r k

theorem r7_eq : kernelRun0_A.sl.r_7 (F := Ideal) c arg5 h5 x4 = k0_pay8 x4 := congrArg k0_pay8 (load_full arg5 h5 x4 _)
theorem r8_eq : kernelRun0_A.sl.r_8 (F := Ideal) c arg5 h5 x4 = k0_pay9 x4 := congrArg k0_pay9 (load_full arg5 h5 x4 _)
theorem r9_eq : kernelRun0_A.sl.r_9 (F := Ideal) c arg7 h7 x6 = x6 := load_full arg7 h7 x6 _
theorem r10_eq : kernelRun0_A.sl.r_10 (F := Ideal) c arg8 h8 x7 = k0_pay10 x7 := congrArg k0_pay10 (load_full arg8 h8 x7 _)

theorem gx_apply (r : Fin 256) (k : Fin 1024) (inb) :
    k0_pay2 (D x0 x1 x2 x3 c arg1 h1 arg2 h2 arg3 h3 arg4 h4) (kernelRun0_A.sl.r_7 (F := Ideal) c arg5 h5 x4)
      (kernelRun0_A.sl.r_8 (F := Ideal) c arg5 h5 x4) (kernelRun0_A.sl.r_9 (F := Ideal) c arg7 h7 x6) (kernelRun0_A.sl.r_10 (F := Ideal) c arg8 h8 x7)
      (View.readAt (Elt Ideal) arg6.view (Rect.unit ![0, 0] S256x1024.size inb) (h6.unread x5)) (ix2 r k)
    = bgx x0 x1 x2 x3 x4 x5 x6 x7 r k := by
  rw [r7_eq, r8_eq, r9_eq, r10_eq, load_full arg6 h6 x5 inb, pay2_apply]
  simp only [pay8_apply, pay9_apply, pay10_apply, D_apply]
  rfl

theorem out8_A (hc : cond0_0 i) (r : Fin 256) (k : Fin 1024) :
    out0_A_8 (F := Ideal) c i arg1 h1 arg2 h2 arg3 h3 arg4 h4 arg5 h5 arg6 h6 arg7 h7 arg8 h8 arg9 h9 arg10 h10 hc x0 x1 x2 x3 x4 x5 x6 x7 (ix2 r k)
      = bgx x0 x1 x2 x3 x4 x5 x6 x7 r k := by
  unfold out0_A_8
  exact (View.read_writes_cons_unit_of_mem VO0_8 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans
    (gx_apply x0 x1 x2 x3 x4 x5 x6 x7 c arg1 h1 arg2 h2 arg3 h3 arg4 h4 arg5 h5 arg6 h6 arg7 h7 arg8 h8 r k _)

theorem out8_B (hc : ¬cond0_0 i) (xo9 : Vec Ideal S8x1024 .f32) (r : Fin 256) (k : Fin 1024) :
    out0_B_8 (F := Ideal) c i arg1 h1 arg2 h2 arg3 h3 arg4 h4 arg5 h5 arg6 h6 arg7 h7 arg8 h8 arg9 h9 arg10 h10 hc x0 x1 x2 x3 x4 x5 x6 x7 xo9 (ix2 r k)
      = bgx x0 x1 x2 x3 x4 x5 x6 x7 r k := by
  unfold out0_B_8
  exact (View.read_writes_cons_unit_of_mem VO0_8 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans
    (gx_apply x0 x1 x2 x3 x4 x5 x6 x7 c arg1 h1 arg2 h2 arg3 h3 arg4 h4 arg5 h5 arg6 h6 arg7 h7 arg8 h8 r k _)

/-! ## The small gradients' rows -/

abbrev sm (q : ℕ) (k : Fin 1024) : EReal := ∑ r : Fin 256, bsm x0 x1 x2 x3 x4 x6 x7 q r k

theorem row0_apply (a : Vec Ideal S256x1024 .f32) (x : Vec Ideal S256x512 .bf16) (y : Vec Ideal S1024x512 .bf16)
    (hD : ∀ r k, k0_pay7 a x y (ix2 r k) = bdh x0 x1 x2 x3 r k) (row : Vec Ideal S1x1024 .f32) (k : Fin 1024) (v : EReal)
    (hv : row (ix2 0 k) = v) : k0_pay11 a x y row (ix2 0 k) = v + sm x0 x1 x2 x3 x4 x6 x7 0 k := by
  rw [pay11_apply, hv]
  exact congrArg (v + ·) (Finset.sum_congr rfl fun r _ => hD r k)

theorem row1_apply (a : Vec Ideal S256x1024 .f32) (x : Vec Ideal S256x512 .bf16) (y : Vec Ideal S1024x512 .bf16)
    (hD : ∀ r k, k0_pay7 a x y (ix2 r k) = bdh x0 x1 x2 x3 r k) (xl : Vec Ideal S256x1024 .f32) (hx : xl = x4)
    (gl : Vec Ideal S1x1024 .f32) (hg : gl = x6) (row : Vec Ideal S1x1024 .f32) (k : Fin 1024) (v : EReal)
    (hv : row (ix2 0 k) = v) : k0_pay12 a x y xl gl row (ix2 0 k) = v + sm x0 x1 x2 x3 x4 x6 x7 1 k := by
  subst hx hg
  rw [pay12_apply, hv]
  refine congrArg (v + ·) (Finset.sum_congr rfl fun r _ => ?_)
  rw [hD, pay9_apply]
  rfl

theorem row2_apply (d : Vec Ideal S256x1024 .f32) (hD : ∀ r k, d (ix2 r k) = bdh x0 x1 x2 x3 r k)
    (xh : Vec Ideal S256x1024 .f32) (hx : xh = k0_pay9 x4) (s : Vec Ideal S1x1024 .f32) (hs : s = k0_pay10 x7)
    (row : Vec Ideal S1x1024 .f32) (k : Fin 1024) (v : EReal)
    (hv : row (ix2 0 k) = v) : k0_pay1 d xh s row (ix2 0 k) = v + sm x0 x1 x2 x3 x4 x6 x7 2 k := by
  subst hx hs
  rw [pay1_apply, hv]
  refine congrArg (v + ·) (Finset.sum_congr rfl fun r _ => ?_)
  rw [hD, pay9_apply, pay10_apply]
  rfl

theorem sm_zero (q : ℕ) (hq : 3 ≤ q) (k : Fin 1024) : sm x0 x1 x2 x3 x4 x6 x7 q k = 0 := by
  refine Finset.sum_eq_zero fun r _ => ?_
  match q, hq with
  | q + 3, _ => rfl

theorem row_load (xo : Vec Ideal S8x1024 .f32) (q : ℕ) (hq : q < 8) (inb) (k : Fin 1024) :
    View.readAt (Elt Ideal) arg10.view (Rect.unit (s := S8x1024) ![q, 0] ![1, 1024] inb).toLoadRect (h10.unread xo) (ix2 (0 : Fin 1) k) = xo (ix2 ⟨q, hq⟩ k) :=
  load_apply arg10 h10 xo _ _ inb (ix2 (0 : Fin 1) k) (ix2 ⟨q, hq⟩ k) (Fin.forall_fin_two.2 ⟨rfl, (Nat.zero_add _).symm⟩)

theorem pay3_apply (j : S8x1024.Idx) : k0_pay3 (F := Ideal) j = 0 := Ideal.ofBits_zero_f32

set_option maxHeartbeats 1000000 in
theorem out9_B (hc : ¬cond0_0 i) (xo9 : Vec Ideal S8x1024 .f32) (q : Fin 8) (k : Fin 1024) :
    out0_B_9 (F := Ideal) c i arg1 h1 arg2 h2 arg3 h3 arg4 h4 arg5 h5 arg6 h6 arg7 h7 arg8 h8 arg9 h9 arg10 h10 hc x0 x1 x2 x3 x4 x5 x6 x7 xo9 (ix2 q k)
      = xo9 (ix2 q k) + sm x0 x1 x2 x3 x4 x6 x7 q.val k := by
  have hD := D_apply x0 x1 x2 x3 c arg1 h1 arg2 h2 arg3 h3 arg4 h4
  unfold out0_B_9
  by_cases hq2 : q.val = 2
  · obtain rfl : q = 2 := Fin.ext hq2
    refine (View.read_writes_cons_rows_of_mem arg10.view _ (o := 2) _ _ _ (ix2 2 k) (ix2 (0 : Fin 1) k) rfl rfl rfl).trans ?_
    exact (row2_apply x0 x1 x2 x3 x4 x6 x7 _ hD _ (r8_eq x4 c arg5 h5) _ (r10_eq x7 c arg8 h8) _ k _ (row_load arg10 h10 xo9 2 (by omega) _ k))
  refine (View.read_writes_cons_rows_of_not_mem arg10.view _ (o := 2) (W := 1) _ _ _ (ix2 q k) rfl rfl
    (show q.val < 2 ∨ 2 + 1 ≤ q.val by omega)).trans ?_
  by_cases hq1 : q.val = 1
  · obtain rfl : q = 1 := Fin.ext hq1
    refine (View.read_writes_cons_rows_of_mem arg10.view _ (o := 1) _ _ _ (ix2 1 k) (ix2 (0 : Fin 1) k) rfl rfl rfl).trans ?_
    exact (row1_apply x0 x1 x2 x3 x4 x6 x7 _ _ _ hD _ (load_full arg5 h5 x4 _) _ (load_full arg7 h7 x6 _) _ k _ (row_load arg10 h10 xo9 1 (by omega) _ k))
  refine (View.read_writes_cons_rows_of_not_mem arg10.view _ (o := 1) (W := 1) _ _ _ (ix2 q k) rfl rfl
    (show q.val < 1 ∨ 1 + 1 ≤ q.val by omega)).trans ?_
  by_cases hq0 : q.val = 0
  · obtain rfl : q = 0 := Fin.ext hq0
    refine (View.read_writes_cons_rows_of_mem arg10.view _ (o := 0) _ _ _ (ix2 0 k) (ix2 (0 : Fin 1) k) rfl rfl rfl).trans ?_
    exact (row0_apply x0 x1 x2 x3 x4 x6 x7 _ _ _ hD _ k _ (row_load arg10 h10 xo9 0 (by omega) _ k))
  refine (View.read_writes_cons_rows_of_not_mem arg10.view _ (o := 0) (W := 1) _ _ _ (ix2 q k) rfl rfl
    (show q.val < 0 ∨ 0 + 1 ≤ q.val by omega)).trans ?_
  rw [sm_zero x0 x1 x2 x3 x4 x6 x7 q.val (by omega) k, add_zero]
  exact congrFun (h10.read_unread xo9) (ix2 q k)

theorem fill_zero (r : Rect S8x1024) (y : r.shape.Idx) : arg10.view.readCov (Val := Elt Ideal) kernelRun0_A.sl.H9_1 r.toLoadRect y = 0 :=
  (congrFun (View.readCov_fill (Val := Elt Ideal) (e := .f32) arg10.view (off := ![0, 0]) inb_S8x1024_S8x1024_0_0 (k0_pay3 (F := Ideal)) [] r
    (Fin.forall_fin_two.2 ⟨rfl, rfl⟩)) y).trans (pay3_apply _)

theorem v107_zero (k : Fin 1024) : kernelRun0_A.sl.v107 (F := Ideal) c arg10 (ix2 (0 : Fin 1) k) = 0 := fill_zero arg10 _ _

theorem v113_zero (k : Fin 1024) :
    kernelRun0_A.sl.v113 (F := Ideal) c arg1 h1 arg2 h2 arg3 h3 arg4 h4 arg10 x0 x1 x2 x3 (ix2 (0 : Fin 1) k) = 0 := by
  unfold kernelRun0_A.sl.v113 kernelRun0_A.sl.H9_2
  rw [View.readCov_skip _ _ _ _ _ (by decide)]
  exact fill_zero arg10 _ _

theorem v122_zero (k : Fin 1024) :
    kernelRun0_A.sl.v122 (F := Ideal) c arg1 h1 arg2 h2 arg3 h3 arg4 h4 arg5 h5 arg7 h7 arg10 x0 x1 x2 x3 x4 x6 (ix2 (0 : Fin 1) k) = 0 := by
  unfold kernelRun0_A.sl.v122 kernelRun0_A.sl.H9_3 kernelRun0_A.sl.H9_2
  rw [View.readCov_skip _ _ _ _ _ (by decide), View.readCov_skip _ _ _ _ _ (by decide)]
  exact fill_zero arg10 _ _

set_option maxHeartbeats 1000000 in
theorem out9_A (hc : cond0_0 i) (q : Fin 8) (k : Fin 1024) :
    out0_A_9 (F := Ideal) c i arg1 h1 arg2 h2 arg3 h3 arg4 h4 arg5 h5 arg6 h6 arg7 h7 arg8 h8 arg9 h9 arg10 h10 hc x0 x1 x2 x3 x4 x5 x6 x7 (ix2 q k)
      = 0 + sm x0 x1 x2 x3 x4 x6 x7 q.val k := by
  have hD := D_apply x0 x1 x2 x3 c arg1 h1 arg2 h2 arg3 h3 arg4 h4
  unfold out0_A_9
  by_cases hq2 : q.val = 2
  · obtain rfl : q = 2 := Fin.ext hq2
    refine (View.read_writes_cons_rows_of_mem VO0_9 _ (o := 2) _ _ _ (ix2 2 k) (ix2 (0 : Fin 1) k) rfl rfl rfl).trans ?_
    exact (row2_apply x0 x1 x2 x3 x4 x6 x7 _ hD _ (r8_eq x4 c arg5 h5) _ (r10_eq x7 c arg8 h8) _ k _
        (v122_zero x0 x1 x2 x3 x4 x6 c arg1 h1 arg2 h2 arg3 h3 arg4 h4 arg5 h5 arg7 h7 arg10 k))
  refine (View.read_writes_cons_rows_of_not_mem VO0_9 _ (o := 2) (W := 1) _ _ _ (ix2 q k) rfl rfl
    (show q.val < 2 ∨ 2 + 1 ≤ q.val by omega)).trans ?_
  by_cases hq1 : q.val = 1
  · obtain rfl : q = 1 := Fin.ext hq1
    refine (View.read_writes_cons_rows_of_mem VO0_9 _ (o := 1) _ _ _ (ix2 1 k) (ix2 (0 : Fin 1) k) rfl rfl rfl).trans ?_
    exact (row1_apply x0 x1 x2 x3 x4 x6 x7 _ _ _ hD _ (load_full arg5 h5 x4 _) _ (load_full arg7 h7 x6 _) _ k _
        (v113_zero x0 x1 x2 x3 c arg1 h1 arg2 h2 arg3 h3 arg4 h4 arg10 k))
  refine (View.read_writes_cons_rows_of_not_mem VO0_9 _ (o := 1) (W := 1) _ _ _ (ix2 q k) rfl rfl
    (show q.val < 1 ∨ 1 + 1 ≤ q.val by omega)).trans ?_
  by_cases hq0 : q.val = 0
  · obtain rfl : q = 0 := Fin.ext hq0
    refine (View.read_writes_cons_rows_of_mem VO0_9 _ (o := 0) _ _ _ (ix2 0 k) (ix2 (0 : Fin 1) k) rfl rfl rfl).trans ?_
    exact (row0_apply x0 x1 x2 x3 x4 x6 x7 _ _ _ hD _ k _ (v107_zero c arg10 k))
  refine (View.read_writes_cons_rows_of_not_mem VO0_9 _ (o := 0) (W := 1) _ _ _ (ix2 q k) rfl rfl
    (show q.val < 0 ∨ 0 + 1 ≤ q.val by omega)).trans ?_
  rw [sm_zero x0 x1 x2 x3 x4 x6 x7 q.val (by omega) k, add_zero]
  exact (View.read_writes_cons_rows_of_mem VO0_9 _ (o := 0) _ _ _ (ix2 q k) (ix2 q k) rfl (Nat.zero_add _).symm rfl).trans (pay3_apply _)

end Block

end Cert.Dh

end
-- ==== Proof.DhValue.lean ====
/- The input gradient's kernel: what it leaves in its two results, over whole arrays. -/
module

public import proofs.«01_k».proof.Proof.Gen.KernelDhIdeal.Value
public import proofs.«01_k».proof.Proof.DhBlock
public import proofs.«01_k».proof.Proof.WeightGrad
public import Idealize.ShloMosaic.Lib.StableHlo.RunRead

@[expose] public section

set_option maxRecDepth 16384

noncomputable section

namespace Cert.Dh

open Idealize.ShloMosaic Idealize.ShloMosaic.TcCoe Idealize.SL.Sem
open Cert.KernelDhIdeal Cert.KernelDhIdeal.Gen Cert.KernelDhIdeal.Value Cert.InputGrad Cert.WeightGrad

variable (m : (ℓ : Loc nD τ sig) → Buf (Elt Ideal) ℓ) (c : Dev nD)

/-- The kernel's arguments: the cotangents of the projection's three parts, the projection's weight, the step's input and
    output cotangent, the norm's gain and the scale. -/
abbrev A0 : S8192x6144.Idx → EReal := m ((c.tc : Thread nD τ).loc main_arg0)
abbrev A1 : S8192x3072.Idx → EReal := m ((c.tc : Thread nD τ).loc main_arg1)
abbrev A2 : S8192x2048.Idx → EReal := m ((c.tc : Thread nD τ).loc main_arg2)
abbrev A3 : S1024x11264.Idx → EReal := m ((c.tc : Thread nD τ).loc main_arg3)
abbrev A4 : S8192x1024.Idx → EReal := m ((c.tc : Thread nD τ).loc main_arg4)
abbrev A5 : S8192x1024.Idx → EReal := m ((c.tc : Thread nD τ).loc main_arg5)
abbrev A6 : S1x1024.Idx → EReal := m ((c.tc : Thread nD τ).loc main_arg6)
abbrev A7 : S1x1024.Idx → EReal := m ((c.tc : Thread nD τ).loc main_arg7)

/-- The cotangent of the normed, scaled input at row `n`. -/
def dh (n : Fin 8192) (k : Fin 1024) : EReal :=
  ∑ q : Fin 11264, term (fun j => A0 m c (ix2 n j)) (fun j => A1 m c (ix2 n j)) (fun j => A2 m c (ix2 n j)) (fun j => A3 m c (ix2 k j)) q.val

def ri (n : Fin 8192) : EReal := rr fun j => A4 m c (ix2 n j)

/-- The input's gradient at row `n`. -/
def gx (n : Fin 8192) (k : Fin 1024) : EReal :=
  A5 m c (ix2 n k) + ri m c n * (dh m c n k * one (A7 m c (ix2 0 k)) * A6 m c (ix2 0 k)
    - A4 m c (ix2 n k) * ri m c n * Ideal.div (∑ j : Fin 1024, dh m c n j * one (A7 m c (ix2 0 j)) * A6 m c (ix2 0 j) * (A4 m c (ix2 n j) * ri m c n)) (Ideal.ofBits .f32 0x44800000))

/-- Row `n`'s part of row `q` of the small gradients. -/
def part (q : ℕ) (n : Fin 8192) (k : Fin 1024) : EReal :=
  small q (dh m c n k) (one (A7 m c (ix2 0 k))) (A6 m c (ix2 0 k)) (A4 m c (ix2 n k) * ri m c n)

def partN (q : ℕ) (k : Fin 1024) (n : ℕ) : EReal := if h : n < 8192 then part m c q ⟨n, h⟩ k else 0

/-! ## The blocks of the arguments -/

theorem index_facts : ∀ t : Fin cfg0.N, (win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = 0 ∧ win0_9.index t (1 : Fin 2) = 0)
  := (by decide +kernel : ∀ t : Fin grid0.N, _)

theorem V_weight : V m c main_v0 = A3 m c := by
  show StableHlo.after hostOps0 (fun b => m (c, b)) main_v0 = _
  unfold hostOps0
  after_reads_simp
  rfl

def row (t : Fin cfg0.N) (r : Fin 256) : Fin 8192 := ⟨256 * t.val + r.val, by have := t.isLt; have : cfg0.N = 32 := N_0; omega⟩

theorem block0 (t : Fin cfg0.N) (r : Fin 256) (j : Fin 6144) : iblk m c 0 t (ix2 r j) = A0 m c (ix2 (row t r) j) := by
  obtain ⟨e0, e1, -, -, -, -, -, -, -, -, -, -, -, -, -, -, -, -, -, -⟩ := index_facts t
  refine congrArg (A0 m c) (funext fun a => Fin.ext ?_)
  match a with
  | ⟨0, _⟩ => show win0_0.index t (0 : Fin 2) * 256 + 1 * r.val = 256 * t.val + r.val; rw [e0]; omega
  | ⟨1, _⟩ => show win0_0.index t (1 : Fin 2) * 6144 + 1 * j.val = j.val; rw [e1]; omega

theorem block1 (t : Fin cfg0.N) (r : Fin 256) (j : Fin 3072) : iblk m c 1 t (ix2 r j) = A1 m c (ix2 (row t r) j) := by
  obtain ⟨-, -, e0, e1, -, -, -, -, -, -, -, -, -, -, -, -, -, -, -, -⟩ := index_facts t
  refine congrArg (A1 m c) (funext fun a => Fin.ext ?_)
  match a with
  | ⟨0, _⟩ => show win0_1.index t (0 : Fin 2) * 256 + 1 * r.val = 256 * t.val + r.val; rw [e0]; omega
  | ⟨1, _⟩ => show win0_1.index t (1 : Fin 2) * 3072 + 1 * j.val = j.val; rw [e1]; omega

theorem block2 (t : Fin cfg0.N) (r : Fin 256) (j : Fin 2048) : iblk m c 2 t (ix2 r j) = A2 m c (ix2 (row t r) j) := by
  obtain ⟨-, -, -, -, e0, e1, -, -, -, -, -, -, -, -, -, -, -, -, -, -⟩ := index_facts t
  refine congrArg (A2 m c) (funext fun a => Fin.ext ?_)
  match a with
  | ⟨0, _⟩ => show win0_2.index t (0 : Fin 2) * 256 + 1 * r.val = 256 * t.val + r.val; rw [e0]; omega
  | ⟨1, _⟩ => show win0_2.index t (1 : Fin 2) * 2048 + 1 * j.val = j.val; rw [e1]; omega

theorem block3 (t : Fin cfg0.N) (r : Fin 1024) (j : Fin 11264) : iblk m c 3 t (ix2 r j) = A3 m c (ix2 r j) := by
  obtain ⟨-, -, -, -, -, -, e0, e1, -, -, -, -, -, -, -, -, -, -, -, -⟩ := index_facts t
  refine Eq.trans ?_ (congrFun (V_weight m c) (ix2 r j))
  refine congrArg (V m c main_v0) (funext fun a => Fin.ext ?_)
  match a with
  | ⟨0, _⟩ => show win0_3.index t (0 : Fin 2) * 1024 + 1 * r.val = r.val; rw [e0]; omega
  | ⟨1, _⟩ => show win0_3.index t (1 : Fin 2) * 11264 + 1 * j.val = j.val; rw [e1]; omega

theorem block4 (t : Fin cfg0.N) (r : Fin 256) (j : Fin 1024) : iblk m c 4 t (ix2 r j) = A4 m c (ix2 (row t r) j) := by
  obtain ⟨-, -, -, -, -, -, -, -, e0, e1, -, -, -, -, -, -, -, -, -, -⟩ := index_facts t
  refine congrArg (A4 m c) (funext fun a => Fin.ext ?_)
  match a with
  | ⟨0, _⟩ => show win0_4.index t (0 : Fin 2) * 256 + 1 * r.val = 256 * t.val + r.val; rw [e0]; omega
  | ⟨1, _⟩ => show win0_4.index t (1 : Fin 2) * 1024 + 1 * j.val = j.val; rw [e1]; omega

theorem block5 (t : Fin cfg0.N) (r : Fin 256) (j : Fin 1024) : iblk m c 5 t (ix2 r j) = A5 m c (ix2 (row t r) j) := by
  obtain ⟨-, -, -, -, -, -, -, -, -, -, e0, e1, -, -, -, -, -, -, -, -⟩ := index_facts t
  refine congrArg (A5 m c) (funext fun a => Fin.ext ?_)
  match a with
  | ⟨0, _⟩ => show win0_5.index t (0 : Fin 2) * 256 + 1 * r.val = 256 * t.val + r.val; rw [e0]; omega
  | ⟨1, _⟩ => show win0_5.index t (1 : Fin 2) * 1024 + 1 * j.val = j.val; rw [e1]; omega

theorem block6 (t : Fin cfg0.N) (r : Fin 1) (j : Fin 1024) : iblk m c 6 t (ix2 r j) = A6 m c (ix2 r j) := by
  obtain ⟨-, -, -, -, -, -, -, -, -, -, -, -, e0, e1, -, -, -, -, -, -⟩ := index_facts t
  refine congrArg (A6 m c) (funext fun a => Fin.ext ?_)
  match a with
  | ⟨0, _⟩ => show win0_6.index t (0 : Fin 2) * 1 + 1 * r.val = r.val; rw [e0]; omega
  | ⟨1, _⟩ => show win0_6.index t (1 : Fin 2) * 1024 + 1 * j.val = j.val; rw [e1]; omega

theorem block7 (t : Fin cfg0.N) (r : Fin 1) (j : Fin 1024) : iblk m c 7 t (ix2 r j) = A7 m c (ix2 r j) := by
  obtain ⟨-, -, -, -, -, -, -, -, -, -, -, -, -, -, e0, e1, -, -, -, -⟩ := index_facts t
  refine congrArg (A7 m c) (funext fun a => Fin.ext ?_)
  match a with
  | ⟨0, _⟩ => show win0_7.index t (0 : Fin 2) * 1 + 1 * r.val = r.val; rw [e0]; omega
  | ⟨1, _⟩ => show win0_7.index t (1 : Fin 2) * 1024 + 1 * j.val = j.val; rw [e1]; omega

/-! ## A point's results over the arrays -/

theorem bdh_eq (t : Fin cfg0.N) (r : Fin 256) (k : Fin 1024) :
    bdh (iblk m c 0 t) (iblk m c 1 t) (iblk m c 2 t) (iblk m c 3 t) r k = dh m c (row t r) k := by
  unfold bdh dh
  refine Finset.sum_congr rfl fun n _ => ?_
  rw [funext (block0 m c t r), funext (block1 m c t r), funext (block2 m c t r), funext (block3 m c t k)]

theorem bri_eq (t : Fin cfg0.N) (r : Fin 256) : bri (iblk m c 4 t) r = ri m c (row t r) :=
  congrArg rr (funext (block4 m c t r))

theorem bgx_eq (t : Fin cfg0.N) (r : Fin 256) (k : Fin 1024) :
    bgx (iblk m c 0 t) (iblk m c 1 t) (iblk m c 2 t) (iblk m c 3 t) (iblk m c 4 t) (iblk m c 5 t) (iblk m c 6 t) (iblk m c 7 t) r k
      = gx m c (row t r) k := by
  have e4 := block4 m c t r
  have e6 := block6 m c t 0
  have e7 := block7 m c t 0
  unfold bgx gx
  simp only [bdh_eq, bri_eq]
  rw [block5 m c t r k, e4 k, e6 k, e7 k]
  refine congrArg (fun s => A5 m c (ix2 (row t r) k) + ri m c (row t r) * (dh m c (row t r) k * one (A7 m c (ix2 0 k)) * A6 m c (ix2 0 k)
    - A4 m c (ix2 (row t r) k) * ri m c (row t r) * Ideal.div s (Ideal.ofBits .f32 0x44800000))) ?_
  refine Finset.sum_congr rfl fun j _ => ?_
  rw [e4 j, e6 j, e7 j]

theorem bsm_eq (t : Fin cfg0.N) (q : ℕ) (r : Fin 256) (k : Fin 1024) :
    bsm (iblk m c 0 t) (iblk m c 1 t) (iblk m c 2 t) (iblk m c 3 t) (iblk m c 4 t) (iblk m c 6 t) (iblk m c 7 t) q r k
      = part m c q (row t r) k := by
  have e4 := block4 m c t r k
  have e6 := block6 m c t 0 k
  have e7 := block7 m c t 0 k
  unfold bsm part
  rw [bdh_eq, bri_eq, e4, e6, e7]

theorem sm_eq (t : Fin cfg0.N) (q : ℕ) (k : Fin 1024) :
    sm (iblk m c 0 t) (iblk m c 1 t) (iblk m c 2 t) (iblk m c 3 t) (iblk m c 4 t) (iblk m c 6 t) (iblk m c 7 t) q k
      = ∑ r ∈ Finset.range 256, partN m c q k (256 * t.val + r) := by
  rw [Finset.sum_range]
  refine Finset.sum_congr rfl fun r _ => (bsm_eq m c t q r k).trans ?_
  unfold partN
  rw [dif_pos (show 256 * t.val + r.val < 8192 from (row t r).isLt)]
  rfl

theorem out8_eq (t : Fin cfg0.N) (r : Fin 256) (k : Fin 1024) : (outsAt0 m c t.val t.isLt).1 (ix2 r k) = gx m c (row t r) k := by
  by_cases h : t.val % 32 = 0
  · rw [outsAt0_A m c t h]
    dsimp only
    rw [out8_A, bgx_eq]
  · rw [outsAt0_B m c t h]
    dsimp only
    rw [out8_B, bgx_eq]

theorem out9_eq (q : Fin 8) (k : Fin 1024) : ∀ n (hn : n < cfg0.N),
    (outsAt0 m c n hn).2 (ix2 q k) = ∑ s ∈ Finset.range (n + 1), ∑ r ∈ Finset.range 256, partN m c q.val k (256 * s + r) := by
  intro n
  have hN : cfg0.N = 32 := N_0
  induction n with
  | zero =>
    intro hn
    have e := outsAt0_A m c ⟨0, hn⟩ (Nat.zero_mod 32)
    rw [show outsAt0 m c 0 hn = _ from e, Finset.sum_range_one]
    dsimp only
    rw [out9_A, zero_add]
    exact sm_eq m c ⟨0, hn⟩ q.val k
  | succ n ih =>
    intro hn
    have h : ¬(n + 1) % 32 = 0 := by omega
    have e := outsAt0_B m c ⟨n + 1, hn⟩ h
    rw [show outsAt0 m c (n + 1) hn = _ from e, Finset.sum_range_succ]
    dsimp only
    rw [out9_B]
    exact congrArg₂ (· + ·) (ih _) (sm_eq m c ⟨n + 1, hn⟩ q.val k)

/-! ## The results -/

theorem result8 (n : Fin 8192) (k : Fin 1024) : (dats m 0 c).arrAt 8 cfg0.N (ix2 n k) = gx m c n k := by
  have hN : cfg0.N = 32 := N_0
  let t : Fin cfg0.N := ⟨n.val / 256, by omega⟩
  let r : Fin 256 := ⟨n.val % 256, by omega⟩
  have hrow : row t r = n := Fin.ext (show 256 * (n.val / 256) + n.val % 256 = n.val by omega)
  have hf : (cfg0.win 8).flush t = true := (by decide +kernel : ∀ t : Fin cfg0.N, (cfg0.win 8).flush t = true) t
  obtain ⟨-, -, -, -, -, -, -, -, -, -, -, -, -, -, -, -, e0, e1, -, -⟩ := index_facts t
  have hi : ((cfg0.win 8).blk t).view.read (Elt Ideal) ((dats m 0 c).arrAt 8 cfg0.N) (ix2 r k) = (dats m 0 c).arrAt 8 cfg0.N (ix2 n k) := by
    refine congrArg ((dats m 0 c).arrAt 8 cfg0.N) (funext fun a => Fin.ext ?_)
    match a with
    | ⟨0, _⟩ => show win0_8.index t (0 : Fin 2) * 256 + 1 * r.val = n.val; rw [e0]; show n.val / 256 * 256 + 1 * (n.val % 256) = n.val; omega
    | ⟨1, _⟩ => show win0_8.index t (1 : Fin 2) * 1024 + 1 * k.val = k.val; rw [e1]; omega
  refine hi.symm.trans ?_
  rw [blocks8 m c t hf, flushed8]
  exact (out8_eq m c t r k).trans (by rw [hrow])

theorem flush9 : ∀ t : Fin cfg0.N, (cfg0.win 9).flush t = true → t.val = 31 :=
  (by decide +kernel : ∀ t : Fin cfg0.N, (cfg0.win 9).flush t = true → t.val = 31)

theorem result9 (q : Fin 8) (k : Fin 1024) : (dats m 0 c).arrAt 9 cfg0.N (ix2 q k) = ∑ n : Fin 8192, part m c q.val n k := by
  have hN : cfg0.N = 32 := N_0
  let t : Fin cfg0.N := ⟨31, by omega⟩
  have hf : (cfg0.win 9).flush t = true := (by decide +kernel : ∀ t : Fin cfg0.N, t.val = 31 → (cfg0.win 9).flush t = true) t rfl
  obtain ⟨-, -, -, -, -, -, -, -, -, -, -, -, -, -, -, -, -, -, e0, e1⟩ := index_facts t
  have hi : ((cfg0.win 9).blk t).view.read (Elt Ideal) ((dats m 0 c).arrAt 9 cfg0.N) (ix2 q k) = (dats m 0 c).arrAt 9 cfg0.N (ix2 q k) := by
    refine congrArg ((dats m 0 c).arrAt 9 cfg0.N) (funext fun a => Fin.ext ?_)
    match a with
    | ⟨0, _⟩ => show win0_9.index t (0 : Fin 2) * 8 + 1 * q.val = q.val; rw [e0]; omega
    | ⟨1, _⟩ => show win0_9.index t (1 : Fin 2) * 1024 + 1 * k.val = k.val; rw [e1]; omega
  refine hi.symm.trans ?_
  rw [(dats m 0 c).read_blk_arrAt_eq_flushed 9
    (fun t t' h h' hne => absurd (Fin.ext ((flush9 t h).trans (flush9 t' h').symm)) hne) cfg0.N t t.isLt hf, flushed9]
  refine (out9_eq m c q k 31 t.isLt).trans ?_
  rw [sum_blocks, Finset.sum_range]
  exact Finset.sum_congr rfl fun n _ => dif_pos n.isLt

end Cert.Dh

end
-- ==== Proof.DhReference.lean ====
/- The input gradient's reference is what the kernel leaves in its two results. -/
module

public import proofs.«01_k».proof.Proof.Gen.ReferenceDhIdeal.Read
public import proofs.«01_k».proof.Proof.DhValue
public import Idealize.ShloMosaic.Lib.Pipeline.Value

@[expose] public section

set_option maxRecDepth 16384

noncomputable section

namespace Cert.Dh

open Idealize.ShloMosaic Idealize.ShloMosaic.TcCoe Idealize.SL.Sem
open Cert.ReferenceDhIdeal Cert.ReferenceDhIdeal.Read Cert.InputGrad

/-! ## The projection's cotangent put together -/

theorem cols256 (N Q d : ℕ) (hQ : Q < 1024) :
    (((N * 1024 + Q) / 1024 * 4 + (N * 1024 + Q) / 256 % 4) * 1536) + (d + (N * 1024 + Q) % 256)
      = 6144 * N + (1536 * (Q / 256) + (d + Q % 256)) := by
  have h1 : (N * 1024 + Q) / 1024 = N := by omega
  have h2 : (N * 1024 + Q) / 256 % 4 = Q / 256 := by omega
  have h3 : (N * 1024 + Q) % 256 = Q % 256 := by omega
  rw [h1, h2, h3]; omega

theorem cols512 (N Q d : ℕ) (hQ : Q < 2048) :
    (((N * 2048 + Q) / 2048 * 4 + (N * 2048 + Q) / 512 % 4) * 1536) + (d + (N * 2048 + Q) % 512)
      = 6144 * N + (1536 * (Q / 512) + (d + Q % 512)) := by
  have h1 : (N * 2048 + Q) / 2048 = N := by omega
  have h2 : (N * 2048 + Q) / 512 % 4 = Q / 512 := by omega
  have h3 : (N * 2048 + Q) % 512 = Q % 512 := by omega
  rw [h1, h2, h3]; omega

section Columns

variable (x0 : S8192x6144.Idx → EReal) (x1 : S8192x3072.Idx → EReal) (x2 : S8192x2048.Idx → EReal)

theorem part_q (n : Fin 8192) (q : Fin 1024) :
    val_main_v6 (F := Ideal) x0 (ix2 n q) = x0 (ix2 n ⟨1536 * (q.val / 256) + q.val % 256, by omega⟩) := by
  have hq := q.isLt
  have e := cols256 n.val q.val 0 hq
  rw [val_main_v6_apply, val_main_v2_apply, val_main_v1_apply]
  refine congrArg x0 (funext fun a => Fin.ext ?_)
  match a with
  | ⟨0, _⟩ =>
    show (((n.val * 1024 + q.val) / 1024 * 4 + (n.val * 1024 + q.val) / 256 % 4) * 1536 + (n.val * 1024 + q.val) % 256) / 6144 = n.val
    omega
  | ⟨1, _⟩ =>
    show (((n.val * 1024 + q.val) / 1024 * 4 + (n.val * 1024 + q.val) / 256 % 4) * 1536 + (n.val * 1024 + q.val) % 256) % 6144
      = 1536 * (q.val / 256) + q.val % 256
    omega

theorem part_k (n : Fin 8192) (q : Fin 1024) :
    val_main_v7 (F := Ideal) x0 (ix2 n q) = x0 (ix2 n ⟨1536 * (q.val / 256) + (256 + q.val % 256), by omega⟩) := by
  have hq := q.isLt
  have e := cols256 n.val q.val 256 hq
  rw [val_main_v7_apply, val_main_v3_apply, val_main_v1_apply]
  refine congrArg x0 (funext fun a => Fin.ext ?_)
  match a with
  | ⟨0, _⟩ =>
    show (((n.val * 1024 + q.val) / 1024 * 4 + (n.val * 1024 + q.val) / 256 % 4) * 1536 + (256 + (n.val * 1024 + q.val) % 256)) / 6144 = n.val
    rw [e]; omega
  | ⟨1, _⟩ =>
    show (((n.val * 1024 + q.val) / 1024 * 4 + (n.val * 1024 + q.val) / 256 % 4) * 1536 + (256 + (n.val * 1024 + q.val) % 256)) % 6144
      = 1536 * (q.val / 256) + (256 + q.val % 256)
    rw [e]; omega

theorem part_v (n : Fin 8192) (q : Fin 2048) :
    val_main_v8 (F := Ideal) x0 (ix2 n q) = x0 (ix2 n ⟨1536 * (q.val / 512) + (512 + q.val % 512), by omega⟩) := by
  have hq := q.isLt
  have e := cols512 n.val q.val 512 hq
  rw [val_main_v8_apply, val_main_v4_apply, val_main_v1_apply]
  refine congrArg x0 (funext fun a => Fin.ext ?_)
  match a with
  | ⟨0, _⟩ =>
    show (((n.val * 2048 + q.val) / 2048 * 4 + (n.val * 2048 + q.val) / 512 % 4) * 1536 + (512 + (n.val * 2048 + q.val) % 512)) / 6144 = n.val
    rw [e]; omega
  | ⟨1, _⟩ =>
    show (((n.val * 2048 + q.val) / 2048 * 4 + (n.val * 2048 + q.val) / 512 % 4) * 1536 + (512 + (n.val * 2048 + q.val) % 512)) % 6144
      = 1536 * (q.val / 512) + (512 + q.val % 512)
    rw [e]; omega

theorem part_z (n : Fin 8192) (q : Fin 2048) :
    val_main_v9 (F := Ideal) x0 (ix2 n q) = x0 (ix2 n ⟨1536 * (q.val / 512) + (1024 + q.val % 512), by omega⟩) := by
  have hq := q.isLt
  have e := cols512 n.val q.val 1024 hq
  rw [val_main_v9_apply, val_main_v5_apply, val_main_v1_apply]
  refine congrArg x0 (funext fun a => Fin.ext ?_)
  match a with
  | ⟨0, _⟩ =>
    show (((n.val * 2048 + q.val) / 2048 * 4 + (n.val * 2048 + q.val) / 512 % 4) * 1536 + (1024 + (n.val * 2048 + q.val) % 512)) / 6144 = n.val
    rw [e]; omega
  | ⟨1, _⟩ =>
    show (((n.val * 2048 + q.val) / 2048 * 4 + (n.val * 2048 + q.val) / 512 % 4) * 1536 + (1024 + (n.val * 2048 + q.val) % 512)) % 6144
      = 1536 * (q.val / 512) + (1024 + q.val % 512)
    rw [e]; omega

/-- The reference's cotangent of the projection holds the three arrays' columns. -/
theorem columns (n : Fin 8192) (q : Fin 11264) :
    val_main_v12 (F := Ideal) x0 x1 x2 (ix2 n q) = proj (fun j => x0 (ix2 n j)) (fun j => x1 (ix2 n j)) (fun j => x2 (ix2 n j)) q.val := by
  have hq := q.isLt
  unfold val_main_v12 proj
  split
  · next h =>
    refine Eq.trans (concatenate_apply_piece _ _ _ (ix2 n q) 0 (by show 0 < 6; omega) S8192x1024 (val_main_v6 (F := Ideal) x0) rfl rfl 0 rfl (ix2 n ⟨q.val, h⟩)
      (Fin.forall_fin_two.2 ⟨fun _ => rfl, fun h => absurd rfl h⟩) (Nat.zero_add _)) ?_
    exact part_q x0 n ⟨q.val, h⟩
  split
  · next h0 h =>
    refine Eq.trans (concatenate_apply_piece _ _ _ (ix2 n q) 1 (by show 1 < 6; omega) S8192x1024 (val_main_v7 (F := Ideal) x0) rfl rfl 1024 rfl (ix2 n ⟨q.val - 1024, by omega⟩)
      (Fin.forall_fin_two.2 ⟨fun _ => rfl, fun h => absurd rfl h⟩) (show 1024 + (q.val - 1024) = q.val by omega)) ?_
    exact part_k x0 n ⟨q.val - 1024, by omega⟩
  split
  · next h0 h1 h =>
    refine Eq.trans (concatenate_apply_piece _ _ _ (ix2 n q) 2 (by show 2 < 6; omega) S8192x2048 (val_main_v8 (F := Ideal) x0) rfl rfl 2048 rfl (ix2 n ⟨q.val - 2048, by omega⟩)
      (Fin.forall_fin_two.2 ⟨fun _ => rfl, fun h => absurd rfl h⟩) (show 2048 + (q.val - 2048) = q.val by omega)) ?_
    exact part_v x0 n ⟨q.val - 2048, by omega⟩
  split
  · next h0 h1 h2 h =>
    refine Eq.trans (concatenate_apply_piece _ _ _ (ix2 n q) 3 (by show 3 < 6; omega) S8192x2048 (val_main_v9 (F := Ideal) x0) rfl rfl 4096 rfl (ix2 n ⟨q.val - 4096, by omega⟩)
      (Fin.forall_fin_two.2 ⟨fun _ => rfl, fun h => absurd rfl h⟩) (show 4096 + (q.val - 4096) = q.val by omega)) ?_
    exact part_z x0 n ⟨q.val - 4096, by omega⟩
  split
  · next h0 h1 h2 h3 h =>
    exact concatenate_apply_piece _ _ _ (ix2 n q) 4 (by show 4 < 6; omega) S8192x3072 (val_main_v10 (F := Ideal) x1) rfl rfl 6144 rfl (ix2 n ⟨q.val - 6144, by omega⟩)
      (Fin.forall_fin_two.2 ⟨fun _ => rfl, fun h => absurd rfl h⟩) (show 6144 + (q.val - 6144) = q.val by omega)
  exact concatenate_apply_piece _ _ _ (ix2 n q) 5 (by show 5 < 6; omega) S8192x2048 (val_main_v11 (F := Ideal) x2) rfl rfl 9216 rfl (ix2 n ⟨q.val - 9216, by omega⟩)
      (Fin.forall_fin_two.2 ⟨fun _ => rfl, fun h => absurd rfl h⟩) (show 9216 + (q.val - 9216) = q.val by omega)

end Columns

variable (m : (ℓ : Loc Cert.KernelDhIdeal.nD Cert.KernelDhIdeal.τ Cert.KernelDhIdeal.sig) → Buf (Elt Ideal) ℓ) (c : Dev Cert.KernelDhIdeal.nD)

/-! ## The reference's stages at an index -/

theorem r36 (n : Fin 8192) (k : Fin 1024) : val_main_v36 (F := Ideal) (A0 m c) (A1 m c) (A2 m c) (A3 m c) (ix2 n k) = dh m c n k := by
  rw [val_main_v36_apply]
  refine Finset.sum_congr rfl fun q _ => ?_
  unfold term
  rw [dif_pos q.isLt]
  exact congrArg₂ (· * ·) ((congrArg (val_main_v12 (F := Ideal) (A0 m c) (A1 m c) (A2 m c)) (funext fun a => by
    match a with | ⟨0, _⟩ => rfl | ⟨1, _⟩ => rfl)).trans (columns (A0 m c) (A1 m c) (A2 m c) n q))
    (congrArg (A3 m c) (funext fun a => by match a with | ⟨0, _⟩ => rfl | ⟨1, _⟩ => rfl))

theorem r20 (n : Fin 8192) (z : Fin 1) :
    val_main_v20 (F := Ideal) (A4 m c) (ix2 n z) = rms (∑ j : Fin 1024, A4 m c (ix2 n j) * A4 m c (ix2 n j)) := by
  have e : val_main_v15 (F := Ideal) (A4 m c) (idx_main_v16 (ix2 n z)) = ∑ j : Fin 1024, A4 m c (ix2 n j) * A4 m c (ix2 n j) := by
    rw [val_main_v15_apply]
    refine (congrArg (· + _) Ideal.ofBits_zero_f32).trans ((zero_add _).trans (Finset.sum_congr rfl fun j _ => ?_))
    have hj : idx_main_v15 (idx_main_v16 (ix2 n z)) j = ix2 n j := funext fun a => by match a with | ⟨0, _⟩ => rfl | ⟨1, _⟩ => rfl
    rw [hj]; rfl
  rw [val_main_v20_apply, val_main_v18_apply, val_main_v16_apply, e]
  rfl

theorem r21 (n : Fin 8192) (z : Fin 1) : val_main_v21 (F := Ideal) (A4 m c) (ix2 n z) = ri m c n :=
  congrArg Ideal.rsqrt (r20 m c n z)

theorem r26 (n : Fin 8192) (k : Fin 1024) : val_main_v26 (F := Ideal) (A4 m c) (ix2 n k) = A4 m c (ix2 n k) * ri m c n := by
  have hj : idx_main_v25 (ix2 n k) = ix2 n 0 := funext fun a => by match a with | ⟨0, _⟩ => rfl | ⟨1, _⟩ => rfl
  rw [val_main_v26_apply, val_main_v25_apply, hj, r21]
  rfl

theorem r43 (n : Fin 8192) (k : Fin 1024) :
    val_main_v43 (F := Ideal) (A0 m c) (A1 m c) (A2 m c) (A3 m c) (A7 m c) (ix2 n k) = dh m c n k * one (A7 m c (ix2 0 k)) := by
  have hj : idx_main_v42 (ix2 n k) = ix2 0 k := funext fun a => by match a with | ⟨0, _⟩ => rfl | ⟨1, _⟩ => rfl
  rw [val_main_v43_apply, r36, val_main_v42_apply, hj]
  rfl

theorem r48 (n : Fin 8192) (k : Fin 1024) :
    val_main_v48 (F := Ideal) (A0 m c) (A1 m c) (A2 m c) (A3 m c) (A6 m c) (A7 m c) (ix2 n k)
      = dh m c n k * one (A7 m c (ix2 0 k)) * A6 m c (ix2 0 k) := by
  have hj : idx_main_v47 (ix2 n k) = ix2 0 k := funext fun a => by match a with | ⟨0, _⟩ => rfl | ⟨1, _⟩ => rfl
  rw [val_main_v48_apply, r43, val_main_v47_apply, hj]
  rfl

theorem r51 (n : Fin 8192) (z : Fin 1) :
    val_main_v51 (F := Ideal) (A0 m c) (A1 m c) (A2 m c) (A3 m c) (A4 m c) (A6 m c) (A7 m c) (ix2 n z)
      = ∑ j : Fin 1024, A4 m c (ix2 n j) * (dh m c n j * one (A7 m c (ix2 0 j)) * A6 m c (ix2 0 j)) := by
  rw [val_main_v51_apply, val_main_v50_apply]
  refine (congrArg (· + _) Ideal.ofBits_zero_f32).trans ((zero_add _).trans (Finset.sum_congr rfl fun j _ => ?_))
  have hj : idx_main_v50 (idx_main_v51 (ix2 n z)) j = ix2 n j := funext fun a => Fin.ext (by
    match a with
    | ⟨0, _⟩ => show n.val * 1 + z.val = n.val; omega
    | ⟨1, _⟩ => rfl)
  rw [hj, val_main_v49_apply, r48]
  rfl

/-- What the mean square hands back to each of the row's entries, once. -/
abbrev back (n : Fin 8192) : EReal :=
  Ideal.div ((∑ j : Fin 1024, A4 m c (ix2 n j) * (dh m c n j * one (A7 m c (ix2 0 j)) * A6 m c (ix2 0 j)))
    * (Ideal.ofBits .f32 0xBF000000 * Ideal.div (Ideal.rsqrt (rms (∑ j : Fin 1024, A4 m c (ix2 n j) * A4 m c (ix2 n j))))
      (rms (∑ j : Fin 1024, A4 m c (ix2 n j) * A4 m c (ix2 n j))))) (Ideal.ofBits .f32 0x44800000)

theorem r58 (n : Fin 8192) (k : Fin 1024) :
    val_main_v58 (F := Ideal) (A0 m c) (A1 m c) (A2 m c) (A3 m c) (A4 m c) (A6 m c) (A7 m c) (ix2 n k) = back m c n := by
  rw [val_main_v58_apply, val_main_v57_apply]
  refine (congrArg (· + _) Ideal.ofBits_zero_f32).trans ((zero_add _).trans ((Fin.sum_univ_one _).trans ?_))
  have hj : idx_main_v57 (idx_main_v58 (ix2 n k)) 0 = ix2 n 0 := funext fun a => by match a with | ⟨0, _⟩ => rfl | ⟨1, _⟩ => rfl
  rw [hj, val_main_v56_apply, val_main_v54_apply, r51, val_main_v24_apply, val_main_v22_apply, r21, r20]
  rfl

theorem reference_gx (n : Fin 8192) (k : Fin 1024) :
    val_main_v63 (F := Ideal) (A0 m c) (A1 m c) (A2 m c) (A3 m c) (A4 m c) (A5 m c) (A6 m c) (A7 m c) (ix2 n k) = gx m c n k := by
  have hj : idx_main_v52 (ix2 n k) = ix2 n 0 := funext fun a => by match a with | ⟨0, _⟩ => rfl | ⟨1, _⟩ => rfl
  rw [val_main_v63_apply, val_main_v62_apply, val_main_v60_apply, val_main_v61_apply, val_main_v59_apply, val_main_v53_apply, r58, r48,
    val_main_v52_apply, hj, r21]
  exact congrArg (A5 m c (ix2 n k) + ·) (norm_back (fun j => A4 m c (ix2 n j))
    (fun j => dh m c n j * one (A7 m c (ix2 0 j)) * A6 m c (ix2 0 j)) k).symm

theorem r38 (z : Fin 1) (k : Fin 1024) :
    val_main_v38 (F := Ideal) (A0 m c) (A1 m c) (A2 m c) (A3 m c) (ix2 z k) = ∑ n : Fin 8192, part m c 0 n k := by
  rw [val_main_v38_apply, val_main_v37_apply]
  refine (congrArg (· + _) Ideal.ofBits_zero_f32).trans ((zero_add _).trans (Finset.sum_congr rfl fun n _ => ?_))
  have hj : idx_main_v37 (idx_main_v38 (ix2 z k)) n = ix2 n k := funext fun a => Fin.ext (by
    match a with
    | ⟨0, _⟩ => rfl
    | ⟨1, _⟩ => show z.val * 1024 + k.val = k.val; omega)
  rw [hj, r36]
  rfl

theorem r41 (z : Fin 1) (k : Fin 1024) :
    val_main_v41 (F := Ideal) (A0 m c) (A1 m c) (A2 m c) (A3 m c) (A4 m c) (A6 m c) (ix2 z k) = ∑ n : Fin 8192, part m c 1 n k := by
  rw [val_main_v41_apply, val_main_v40_apply]
  refine (congrArg (· + _) Ideal.ofBits_zero_f32).trans ((zero_add _).trans (Finset.sum_congr rfl fun n _ => ?_))
  have hj : idx_main_v40 (idx_main_v41 (ix2 z k)) n = ix2 n k := funext fun a => Fin.ext (by
    match a with
    | ⟨0, _⟩ => rfl
    | ⟨1, _⟩ => show z.val * 1024 + k.val = k.val; omega)
  have hg : idx_main_v27 (ix2 n k) = ix2 0 k := funext fun a => by match a with | ⟨0, _⟩ => rfl | ⟨1, _⟩ => rfl
  rw [hj, val_main_v39_apply, r36, val_main_v28_apply, r26, val_main_v27_apply, hg]
  exact mul_comm _ _

theorem r46 (z : Fin 1) (k : Fin 1024) :
    val_main_v46 (F := Ideal) (A0 m c) (A1 m c) (A2 m c) (A3 m c) (A4 m c) (A7 m c) (ix2 z k) = ∑ n : Fin 8192, part m c 2 n k := by
  rw [val_main_v46_apply, val_main_v45_apply]
  refine (congrArg (· + _) Ideal.ofBits_zero_f32).trans ((zero_add _).trans (Finset.sum_congr rfl fun n _ => ?_))
  have hj : idx_main_v45 (idx_main_v46 (ix2 z k)) n = ix2 n k := funext fun a => Fin.ext (by
    match a with
    | ⟨0, _⟩ => rfl
    | ⟨1, _⟩ => show z.val * 1024 + k.val = k.val; omega)
  rw [hj, val_main_v44_apply, r43, r26]
  exact mul_comm _ _

theorem reference_small (q : Fin 8) (k : Fin 1024) :
    val_main_v65 (F := Ideal) (A0 m c) (A1 m c) (A2 m c) (A3 m c) (A4 m c) (A6 m c) (A7 m c) (ix2 q k) = ∑ n : Fin 8192, part m c q.val n k := by
  unfold val_main_v65
  by_cases h0 : q.val = 0
  · rw [h0]
    refine Eq.trans (concatenate_apply_piece _ _ _ (ix2 q k) 0 (by show 0 < 4; omega) S1x1024 (val_main_v38 (F := Ideal) (A0 m c) (A1 m c) (A2 m c) (A3 m c)) rfl rfl 0 rfl (ix2 0 k)
      (Fin.forall_fin_two.2 ⟨fun h => absurd rfl h, fun _ => rfl⟩) h0.symm) ?_
    exact r38 m c 0 k
  by_cases h1 : q.val = 1
  · rw [h1]
    refine Eq.trans (concatenate_apply_piece _ _ _ (ix2 q k) 1 (by show 1 < 4; omega) S1x1024 (val_main_v41 (F := Ideal) (A0 m c) (A1 m c) (A2 m c) (A3 m c) (A4 m c) (A6 m c)) rfl rfl 1 rfl (ix2 0 k)
      (Fin.forall_fin_two.2 ⟨fun h => absurd rfl h, fun _ => rfl⟩) h1.symm) ?_
    exact r41 m c 0 k
  by_cases h2 : q.val = 2
  · rw [h2]
    refine Eq.trans (concatenate_apply_piece _ _ _ (ix2 q k) 2 (by show 2 < 4; omega) S1x1024 (val_main_v46 (F := Ideal) (A0 m c) (A1 m c) (A2 m c) (A3 m c) (A4 m c) (A7 m c)) rfl rfl 2 rfl (ix2 0 k)
      (Fin.forall_fin_two.2 ⟨fun h => absurd rfl h, fun _ => rfl⟩) h2.symm) ?_
    exact r46 m c 0 k
  have hq := q.isLt
  refine Eq.trans (concatenate_apply_piece _ _ _ (ix2 q k) 3 (by show 3 < 4; omega) S5x1024 (val_main_v64 (F := Ideal)) rfl rfl 3 rfl (ix2 ⟨q.val - 3, by omega⟩ k)
      (Fin.forall_fin_two.2 ⟨fun h => absurd rfl h, fun _ => rfl⟩) (show 3 + (q.val - 3) = q.val by omega)) ?_
  rw [val_main_v64_apply]
  refine Ideal.ofBits_zero_f32.trans (Finset.sum_eq_zero fun n _ => ?_).symm
  unfold part small
  split <;> first | omega | rfl

/-! ## Kernel and reference agree -/

theorem reference8 : val_main_v63 (F := Ideal) (A0 m c) (A1 m c) (A2 m c) (A3 m c) (A4 m c) (A5 m c) (A6 m c) (A7 m c)
    = (Cert.KernelDhIdeal.Gen.dats m 0 c).arrAt 8 Cert.KernelDhIdeal.cfg0.N := by
  funext i
  have hi : i = ix2 (i 0) (i 1) := funext fun a => by match a with | ⟨0, _⟩ => rfl | ⟨1, _⟩ => rfl
  rw [hi]
  exact (reference_gx m c _ _).trans (result8 m c _ _).symm

theorem reference9 : val_main_v65 (F := Ideal) (A0 m c) (A1 m c) (A2 m c) (A3 m c) (A4 m c) (A6 m c) (A7 m c)
    = (Cert.KernelDhIdeal.Gen.dats m 0 c).arrAt 9 Cert.KernelDhIdeal.cfg0.N := by
  funext i
  have hi : i = ix2 (i 0) (i 1) := funext fun a => by match a with | ⟨0, _⟩ => rfl | ⟨1, _⟩ => rfl
  rw [hi]
  exact (reference_small m c _ _).trans (result9 m c _ _).symm

end Cert.Dh

end
-- ==== Proof.HeadRow.lean ====
/- The merge, the loss head and their gradients at one row of the step's arrays, as the kernel writes them. -/
module

public import proofs.«01_k».proof.Proof.InputGrad
public import Idealize.ShloMosaic.Lib.Pointwise

@[expose] public section

noncomputable section

namespace Cert.Head

open Idealize.ShloMosaic Cert.InputGrad

/-- What one row's values depend on: the row of the two branches, of the two merge gates, of the input and the target, and
    the gate, the norm's gain and the three weights, which all rows share. -/
structure Row where
  pa : Fin 2048 → EReal
  pb : Fin 1024 → EReal
  ga : Fin 1024 → EReal
  gb : Fin 1024 → EReal
  x : Fin 1024 → EReal
  t : Fin 1024 → EReal
  gate : Fin 1024 → EReal
  gp : Fin 1024 → EReal
  wr : Fin 2048 → Fin 1024 → EReal
  wc : Fin 1024 → Fin 1024 → EReal
  wo : Fin 1024 → Fin 1024 → EReal

namespace Row

abbrev c1024 : EReal := Ideal.ofBits .f32 0x44800000#32
abbrev c1 : EReal := Ideal.ofBits .f32 0x3F800000#32

variable (R : Row)

/-- The branches' output products. -/
def ya (k : Fin 1024) : EReal := ∑ j : Fin 2048, R.pa j * R.wr j k
def yb (k : Fin 1024) : EReal := ∑ j : Fin 1024, R.pb j * R.wc j k
def sa (k : Fin 1024) : EReal := Ideal.logistic (R.ga k)
def sb (k : Fin 1024) : EReal := Ideal.logistic (R.gb k)
/-- The gated merge and its output product. -/
def mg (k : Fin 1024) : EReal := R.sa k * R.ya k + R.sb k * R.yb k
def y (k : Fin 1024) : EReal := ∑ j : Fin 1024, R.mg j * R.wo j k
/-- The reciprocal root mean square, the normed row, with its gain, and the error. -/
def ri : EReal := Ideal.rsqrt (rms (∑ j : Fin 1024, R.y j * R.y j))
def yh (k : Fin 1024) : EReal := R.y k * R.ri
def yn (k : Fin 1024) : EReal := R.yh k * R.gp k
def err (k : Fin 1024) : EReal := R.x k + R.gate k * R.yn k - R.t k
def loss : EReal := Ideal.div (∑ j : Fin 1024, R.err j * R.err j) c1024
/-- The cotangents, from the output's back to the branches'. -/
def dout (k : Fin 1024) : EReal := R.err k * Ideal.ofBits .f32 0x3A800000#32
def dn (k : Fin 1024) : EReal := R.dout k * R.gate k
def dyh (k : Fin 1024) : EReal := R.dn k * R.gp k
def dy (k : Fin 1024) : EReal := R.ri * (R.dyh k - R.yh k * Ideal.div (∑ j : Fin 1024, R.dyh j * R.yh j) c1024)
def dm (k : Fin 1024) : EReal := ∑ j : Fin 1024, R.dy j * R.wo k j
def dya (k : Fin 1024) : EReal := R.dm k * R.sa k
def dyb (k : Fin 1024) : EReal := R.dm k * R.sb k
def dga (k : Fin 1024) : EReal := R.dya k * R.ya k * (c1 - R.sa k)
def dgb (k : Fin 1024) : EReal := R.dyb k * R.yb k * (c1 - R.sb k)
def dpa (k : Fin 2048) : EReal := ∑ j : Fin 1024, R.dya j * R.wr k j
def dpb (k : Fin 1024) : EReal := ∑ j : Fin 1024, R.dyb j * R.wc k j

/-- What the row adds to row `q` of the small results: the gate's gradient, the gain's, and the loss. -/
def small (q : ℕ) (k : Fin 1024) : EReal :=
  match q with
  | 0 => R.dout k * R.yn k
  | 1 => R.dn k * R.yh k
  | 2 => R.loss * Ideal.ofBits .f32 0x3F000000#32
  | _ => 0

/-- The two gates' cotangents, side by side. -/
def dg (k : Fin 2048) : EReal := if h : k.val < 1024 then R.dga ⟨k.val, h⟩ else R.dgb ⟨k.val - 1024, by omega⟩

end Row

/-- Row `n` of the step's arrays: the two branches, the projection (whose last columns are the gates), the input, the target,
    the output's gate, the norm's gain, and the three weights. -/
def arow (x0 : (⟨2, ![8192, 2048]⟩ : Shape).Idx → EReal) (x1 : (⟨2, ![8192, 1024]⟩ : Shape).Idx → EReal)
    (x2 : (⟨2, ![8192, 11264]⟩ : Shape).Idx → EReal) (x3 x4 : (⟨2, ![8192, 1024]⟩ : Shape).Idx → EReal)
    (x5 x6 : (⟨2, ![1, 1024]⟩ : Shape).Idx → EReal) (x7 : (⟨2, ![2048, 1024]⟩ : Shape).Idx → EReal)
    (x8 x9 : (⟨2, ![1024, 1024]⟩ : Shape).Idx → EReal) (n : Fin 8192) : Row where
  pa j := x0 (ix2 n j)
  pb j := x1 (ix2 n j)
  ga j := x2 (ix2 n ⟨9216 + j.val, by omega⟩)
  gb j := x2 (ix2 n ⟨10240 + j.val, by omega⟩)
  x j := x3 (ix2 n j)
  t j := x4 (ix2 n j)
  gate j := x5 (ix2 0 j)
  gp j := x6 (ix2 0 j)
  wr j k := x7 (ix2 j k)
  wc j k := x8 (ix2 j k)
  wo j k := x9 (ix2 j k)

end Cert.Head

end
-- ==== Proof.HeadReference.lean ====
/- The loss head's reference, row by row: its nine results are the rows' values the kernel writes. -/
module

public import proofs.«01_k».proof.Proof.Gen.ReferenceHeadIdeal.Read
public import proofs.«01_k».proof.Proof.HeadRow
public import Idealize.ShloMosaic.Lib.Pipeline.Value

@[expose] public section

set_option maxRecDepth 16384

noncomputable section

namespace Cert.Head

open Idealize.ShloMosaic Idealize.ShloMosaic.TcCoe Idealize.SL.Sem
open Cert.ReferenceHeadIdeal Cert.ReferenceHeadIdeal.Read Cert.InputGrad

variable (x0 : S8192x2048.Idx → EReal) (x1 : S8192x1024.Idx → EReal) (x2 : S8192x11264.Idx → EReal) (x3 x4 : S8192x1024.Idx → EReal)
  (x5 x6 : S1x1024.Idx → EReal) (x7 : S2048x1024.Idx → EReal) (x8 x9 : S1024x1024.Idx → EReal)

/-! ## The branches, the gates and the merge -/

theorem r1 (n : Fin 8192) (k : Fin 1024) : val_main_v1 (F := Ideal) x0 x7 (ix2 n k) = (arow x0 x1 x2 x3 x4 x5 x6 x7 x8 x9 n).ya k := by
  rw [val_main_v1_apply]
  refine Finset.sum_congr rfl fun j _ => congrArg₂ (· * ·) (congrArg x0 ?_) (congrArg x7 ?_) <;>
    exact funext fun a => by match a with | ⟨0, _⟩ => rfl | ⟨1, _⟩ => rfl

theorem r3 (n : Fin 8192) (k : Fin 1024) : val_main_v3 (F := Ideal) x1 x8 (ix2 n k) = (arow x0 x1 x2 x3 x4 x5 x6 x7 x8 x9 n).yb k := by
  rw [val_main_v3_apply]
  refine Finset.sum_congr rfl fun j _ => congrArg₂ (· * ·) (congrArg x1 ?_) (congrArg x8 ?_) <;>
    exact funext fun a => by match a with | ⟨0, _⟩ => rfl | ⟨1, _⟩ => rfl

theorem logistic_eq (x : EReal) :
    Ideal.div (Ideal.ofBits .f32 0x3F800000#32) (Ideal.ofBits .f32 0x3F800000#32 + Ideal.exp (-x)) = Ideal.logistic x := by
  rw [Ideal.ofBits_one_f32]
  rfl

theorem r11 (n : Fin 8192) (k : Fin 1024) : val_main_v11 (F := Ideal) x2 (ix2 n k) = (arow x0 x1 x2 x3 x4 x5 x6 x7 x8 x9 n).sa k := by
  rw [val_main_v11_apply, val_main_v10_apply, val_main_v9_apply, val_main_v8_apply, val_main_v7_apply, val_main_v6_apply, val_main_v4_apply]
  exact (logistic_eq _).trans (congrArg (fun i => Ideal.logistic (x2 i)) (funext fun a => by match a with | ⟨0, _⟩ => rfl | ⟨1, _⟩ => rfl))

theorem r21 (n : Fin 8192) (k : Fin 1024) : val_main_v21 (F := Ideal) x2 (ix2 n k) = (arow x0 x1 x2 x3 x4 x5 x6 x7 x8 x9 n).sb k := by
  rw [val_main_v21_apply, val_main_v20_apply, val_main_v19_apply, val_main_v18_apply, val_main_v17_apply, val_main_v16_apply, val_main_v5_apply]
  exact (logistic_eq _).trans (congrArg (fun i => Ideal.logistic (x2 i)) (funext fun a => by match a with | ⟨0, _⟩ => rfl | ⟨1, _⟩ => rfl))

theorem r26 (n : Fin 8192) (k : Fin 1024) : val_main_v26 (F := Ideal) x0 x1 x2 x7 x8 (ix2 n k) = (arow x0 x1 x2 x3 x4 x5 x6 x7 x8 x9 n).mg k := by
  rw [val_main_v26_apply, val_main_v15_apply, val_main_v25_apply, r1 x0 x1 x2 x3 x4 x5 x6 x7 x8 x9, r3 x0 x1 x2 x3 x4 x5 x6 x7 x8 x9, r11 x0 x1 x2 x3 x4 x5 x6 x7 x8 x9, r21 x0 x1 x2 x3 x4 x5 x6 x7 x8 x9]
  rfl

theorem r27 (n : Fin 8192) (k : Fin 1024) : val_main_v27 (F := Ideal) x0 x1 x2 x7 x8 x9 (ix2 n k) = (arow x0 x1 x2 x3 x4 x5 x6 x7 x8 x9 n).y k := by
  rw [val_main_v27_apply]
  refine Finset.sum_congr rfl fun j _ => congrArg₂ (· * ·) ?_ (congrArg x9 (funext fun a => by match a with | ⟨0, _⟩ => rfl | ⟨1, _⟩ => rfl))
  exact (congrArg (val_main_v26 (F := Ideal) x0 x1 x2 x7 x8) (funext fun a => by match a with | ⟨0, _⟩ => rfl | ⟨1, _⟩ => rfl)).trans (r26 x0 x1 x2 x3 x4 x5 x6 x7 x8 x9 n j)

/-! ## The norm and the error -/

theorem r34 (n : Fin 8192) (z : Fin 1) :
    val_main_v34 (F := Ideal) x0 x1 x2 x7 x8 x9 (ix2 n z) = rms (∑ j : Fin 1024, (arow x0 x1 x2 x3 x4 x5 x6 x7 x8 x9 n).y j * (arow x0 x1 x2 x3 x4 x5 x6 x7 x8 x9 n).y j) := by
  have e : val_main_v29 (F := Ideal) x0 x1 x2 x7 x8 x9 (idx_main_v30 (ix2 n z)) = ∑ j : Fin 1024, (arow x0 x1 x2 x3 x4 x5 x6 x7 x8 x9 n).y j * (arow x0 x1 x2 x3 x4 x5 x6 x7 x8 x9 n).y j := by
    rw [val_main_v29_apply]
    refine (congrArg (· + _) Ideal.ofBits_zero_f32).trans ((zero_add _).trans (Finset.sum_congr rfl fun j _ => ?_))
    have hj : idx_main_v29 (idx_main_v30 (ix2 n z)) j = ix2 n j := funext fun a => by match a with | ⟨0, _⟩ => rfl | ⟨1, _⟩ => rfl
    rw [hj, val_main_v28_apply, r27 x0 x1 x2 x3 x4 x5 x6 x7 x8 x9]
    rfl
  rw [val_main_v34_apply, val_main_v32_apply, val_main_v30_apply, e]
  rfl

theorem r35 (n : Fin 8192) (z : Fin 1) : val_main_v35 (F := Ideal) x0 x1 x2 x7 x8 x9 (ix2 n z) = (arow x0 x1 x2 x3 x4 x5 x6 x7 x8 x9 n).ri :=
  congrArg Ideal.rsqrt (r34 x0 x1 x2 x3 x4 x5 x6 x7 x8 x9 n z)

theorem r40 (n : Fin 8192) (k : Fin 1024) : val_main_v40 (F := Ideal) x0 x1 x2 x7 x8 x9 (ix2 n k) = (arow x0 x1 x2 x3 x4 x5 x6 x7 x8 x9 n).yh k := by
  have hj : idx_main_v39 (ix2 n k) = ix2 n 0 := funext fun a => by match a with | ⟨0, _⟩ => rfl | ⟨1, _⟩ => rfl
  rw [val_main_v40_apply, val_main_v39_apply, hj, r35 x0 x1 x2 x3 x4 x5 x6 x7 x8 x9, r27 x0 x1 x2 x3 x4 x5 x6 x7 x8 x9]
  rfl

theorem r42 (n : Fin 8192) (k : Fin 1024) : val_main_v42 (F := Ideal) x0 x1 x2 x6 x7 x8 x9 (ix2 n k) = (arow x0 x1 x2 x3 x4 x5 x6 x7 x8 x9 n).yn k := by
  have hj : idx_main_v41 (ix2 n k) = ix2 0 k := funext fun a => by match a with | ⟨0, _⟩ => rfl | ⟨1, _⟩ => rfl
  rw [val_main_v42_apply, val_main_v41_apply, hj, r40 x0 x1 x2 x3 x4 x5 x6 x7 x8 x9]
  rfl

theorem r46 (n : Fin 8192) (k : Fin 1024) : val_main_v46 (F := Ideal) x0 x1 x2 x3 x4 x5 x6 x7 x8 x9 (ix2 n k) = (arow x0 x1 x2 x3 x4 x5 x6 x7 x8 x9 n).err k := by
  have hj : idx_main_v43 (ix2 n k) = ix2 0 k := funext fun a => by match a with | ⟨0, _⟩ => rfl | ⟨1, _⟩ => rfl
  rw [val_main_v46_apply, val_main_v45_apply, val_main_v44_apply, val_main_v43_apply, hj, r42 x0 x1 x2 x3 x4 x5 x6 x7 x8 x9]
  rfl

theorem r52 (n : Fin 8192) : val_main_v52 (F := Ideal) x0 x1 x2 x3 x4 x5 x6 x7 x8 x9 (ix1 n) = (arow x0 x1 x2 x3 x4 x5 x6 x7 x8 x9 n).loss := by
  have e : val_main_v50 (F := Ideal) x0 x1 x2 x3 x4 x5 x6 x7 x8 x9 (ix1 n) = ∑ j : Fin 1024, (arow x0 x1 x2 x3 x4 x5 x6 x7 x8 x9 n).err j * (arow x0 x1 x2 x3 x4 x5 x6 x7 x8 x9 n).err j := by
    rw [val_main_v50_apply]
    refine (congrArg (· + _) Ideal.ofBits_zero_f32).trans ((zero_add _).trans (Finset.sum_congr rfl fun j _ => ?_))
    have hj : idx_main_v50 (ix1 n) j = ix2 n j := funext fun a => by match a with | ⟨0, _⟩ => rfl | ⟨1, _⟩ => rfl
    rw [hj, val_main_v47_apply, r46 x0 x1 x2 x3 x4 x5 x6 x7 x8 x9]
    rfl
  rw [val_main_v52_apply, e]
  rfl

/-- The rows are the indices of a vector of that length. -/
def rows : Fin 8192 ≃ S8192.Idx where
  toFun n := ix1 n
  invFun i := i 0
  left_inv _ := rfl
  right_inv i := funext fun a => by match a with | ⟨0, _⟩ => rfl

theorem half_real : Ideal.ofBits .f32 0x3F000000#32 = (((1 / 2) : ℝ) : EReal) := by
  simp only [Ideal.ofBits, Ideal.ieee]; simp; rw [← EReal.coe_mul]; norm_num

theorem two_real : Ideal.ofBits .f32 0x40000000#32 = ((2 : ℝ) : EReal) := by
  simp only [Ideal.ofBits, Ideal.ieee]; simp; rw [← EReal.coe_mul]; norm_num

theorem tenth_real : Ideal.ofBits .f32 0x3A800000#32 = (((1 / 1024) : ℝ) : EReal) := by
  simp only [Ideal.ofBits, Ideal.ieee]; simp; rw [← EReal.coe_mul]; norm_num

theorem r92 (z : Fin 1) (k : Fin 1024) : val_main_v92 (F := Ideal) x0 x1 x2 x3 x4 x5 x6 x7 x8 x9 (ix2 z k) = ∑ n : Fin 8192, (arow x0 x1 x2 x3 x4 x5 x6 x7 x8 x9 n).small 2 k := by
  rw [val_main_v92_apply, val_main_v54_apply, val_main_v53_apply]
  refine (congrArg (fun s => Ideal.ofBits .f32 0x3F000000#32 * (s + _)) Ideal.ofBits_zero_f32).trans ?_
  rw [zero_add, ← Equiv.sum_comp rows]
  show _ * _ = ∑ n : Fin 8192, (arow x0 x1 x2 x3 x4 x5 x6 x7 x8 x9 n).loss * Ideal.ofBits .f32 0x3F000000#32
  rw [half_real, sum_mul_pos _ (by norm_num), mul_comm]
  exact congrArg (· * _) (Finset.sum_congr rfl fun n _ => r52 x0 x1 x2 x3 x4 x5 x6 x7 x8 x9 n)

/-! ## The gradients -/

theorem scale_eq (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  have n10 : (1024 : ℝ) ≠ 0 := by norm_num
  rw [Ideal.ofBits_one_f32, mul_one, half_real, two_real, tenth_real, two10_eq, Ideal.div_coe n10, ← mul_assoc, ← EReal.coe_mul, ← EReal.coe_mul, mul_comm]
  norm_num

theorem r60 (n : Fin 8192) (k : Fin 1024) : val_main_v60 (F := Ideal) x0 x1 x2 x3 x4 x5 x6 x7 x8 x9 (ix2 n k) = (arow x0 x1 x2 x3 x4 x5 x6 x7 x8 x9 n).dout k := by
  rw [val_main_v60_apply, val_main_v49_apply, r46 x0 x1 x2 x3 x4 x5 x6 x7 x8 x9, val_main_v59_apply, val_main_v58_apply, val_main_v56_apply]
  exact scale_eq _

theorem r62 (n : Fin 8192) (k : Fin 1024) : val_main_v62 (F := Ideal) x0 x1 x2 x3 x4 x5 x6 x7 x8 x9 (ix2 n k) = (arow x0 x1 x2 x3 x4 x5 x6 x7 x8 x9 n).dn k := by
  have hj : idx_main_v61 (ix2 n k) = ix2 0 k := funext fun a => by match a with | ⟨0, _⟩ => rfl | ⟨1, _⟩ => rfl
  rw [val_main_v62_apply, val_main_v61_apply, hj, r60 x0 x1 x2 x3 x4 x5 x6 x7 x8 x9]
  exact mul_comm _ _

theorem r65 (z : Fin 1) (k : Fin 1024) : val_main_v65 (F := Ideal) x0 x1 x2 x3 x4 x5 x6 x7 x8 x9 (ix2 z k) = ∑ n : Fin 8192, (arow x0 x1 x2 x3 x4 x5 x6 x7 x8 x9 n).small 0 k := by
  rw [val_main_v65_apply, val_main_v64_apply]
  refine (congrArg (· + _) Ideal.ofBits_zero_f32).trans ((zero_add _).trans (Finset.sum_congr rfl fun n _ => ?_))
  have hj : idx_main_v64 (idx_main_v65 (ix2 z k)) n = ix2 n k := funext fun a => Fin.ext (by
    match a with
    | ⟨0, _⟩ => rfl
    | ⟨1, _⟩ => show z.val * 1024 + k.val = k.val; omega)
  rw [hj, val_main_v63_apply, r60 x0 x1 x2 x3 x4 x5 x6 x7 x8 x9, r42 x0 x1 x2 x3 x4 x5 x6 x7 x8 x9]
  rfl

theorem r68 (z : Fin 1) (k : Fin 1024) : val_main_v68 (F := Ideal) x0 x1 x2 x3 x4 x5 x6 x7 x8 x9 (ix2 z k) = ∑ n : Fin 8192, (arow x0 x1 x2 x3 x4 x5 x6 x7 x8 x9 n).small 1 k := by
  rw [val_main_v68_apply, val_main_v67_apply]
  refine (congrArg (· + _) Ideal.ofBits_zero_f32).trans ((zero_add _).trans (Finset.sum_congr rfl fun n _ => ?_))
  have hj : idx_main_v67 (idx_main_v68 (ix2 z k)) n = ix2 n k := funext fun a => Fin.ext (by
    match a with
    | ⟨0, _⟩ => rfl
    | ⟨1, _⟩ => show z.val * 1024 + k.val = k.val; omega)
  rw [hj, val_main_v66_apply, r40 x0 x1 x2 x3 x4 x5 x6 x7 x8 x9, r62 x0 x1 x2 x3 x4 x5 x6 x7 x8 x9]
  exact mul_comm _ _

theorem r70 (n : Fin 8192) (k : Fin 1024) : val_main_v70 (F := Ideal) x0 x1 x2 x3 x4 x5 x6 x7 x8 x9 (ix2 n k) = (arow x0 x1 x2 x3 x4 x5 x6 x7 x8 x9 n).dyh k := by
  have hj : idx_main_v69 (ix2 n k) = ix2 0 k := funext fun a => by match a with | ⟨0, _⟩ => rfl | ⟨1, _⟩ => rfl
  rw [val_main_v70_apply, val_main_v69_apply, hj, r62 x0 x1 x2 x3 x4 x5 x6 x7 x8 x9]
  rfl

theorem r73 (n : Fin 8192) (z : Fin 1) :
    val_main_v73 (F := Ideal) x0 x1 x2 x3 x4 x5 x6 x7 x8 x9 (ix2 n z) = ∑ j : Fin 1024, (arow x0 x1 x2 x3 x4 x5 x6 x7 x8 x9 n).y j * (arow x0 x1 x2 x3 x4 x5 x6 x7 x8 x9 n).dyh j := by
  rw [val_main_v73_apply, val_main_v72_apply]
  refine (congrArg (· + _) Ideal.ofBits_zero_f32).trans ((zero_add _).trans (Finset.sum_congr rfl fun j _ => ?_))
  have hj : idx_main_v72 (idx_main_v73 (ix2 n z)) j = ix2 n j := funext fun a => Fin.ext (by
    match a with
    | ⟨0, _⟩ => show n.val * 1 + z.val = n.val; omega
    | ⟨1, _⟩ => rfl)
  rw [hj, val_main_v71_apply, r27 x0 x1 x2 x3 x4 x5 x6 x7 x8 x9, r70 x0 x1 x2 x3 x4 x5 x6 x7 x8 x9]
  rfl

/-- What the mean square hands back to each of the row's entries, once. -/
abbrev Row.back (R : Row) : EReal :=
  Ideal.div ((∑ j : Fin 1024, R.y j * R.dyh j) * (Ideal.ofBits .f32 0xBF000000#32
    * Ideal.div (Ideal.rsqrt (rms (∑ j : Fin 1024, R.y j * R.y j))) (rms (∑ j : Fin 1024, R.y j * R.y j)))) (Ideal.ofBits .f32 0x44800000#32)

theorem r80 (n : Fin 8192) (k : Fin 1024) : val_main_v80 (F := Ideal) x0 x1 x2 x3 x4 x5 x6 x7 x8 x9 (ix2 n k) = (arow x0 x1 x2 x3 x4 x5 x6 x7 x8 x9 n).back := by
  rw [val_main_v80_apply, val_main_v79_apply]
  refine (congrArg (· + _) Ideal.ofBits_zero_f32).trans ((zero_add _).trans ((Fin.sum_univ_one _).trans ?_))
  have hj : idx_main_v79 (idx_main_v80 (ix2 n k)) 0 = ix2 n 0 := funext fun a => by match a with | ⟨0, _⟩ => rfl | ⟨1, _⟩ => rfl
  rw [hj, val_main_v78_apply, val_main_v76_apply, r73 x0 x1 x2 x3 x4 x5 x6 x7 x8 x9, val_main_v38_apply, val_main_v36_apply, r35 x0 x1 x2 x3 x4 x5 x6 x7 x8 x9, r34 x0 x1 x2 x3 x4 x5 x6 x7 x8 x9]
  rfl

theorem r84 (n : Fin 8192) (k : Fin 1024) : val_main_v84 (F := Ideal) x0 x1 x2 x3 x4 x5 x6 x7 x8 x9 (ix2 n k) = (arow x0 x1 x2 x3 x4 x5 x6 x7 x8 x9 n).dy k := by
  have hj : idx_main_v74 (ix2 n k) = ix2 n 0 := funext fun a => by match a with | ⟨0, _⟩ => rfl | ⟨1, _⟩ => rfl
  rw [val_main_v84_apply, val_main_v82_apply, val_main_v83_apply, val_main_v81_apply, val_main_v75_apply, val_main_v74_apply, hj, r80 x0 x1 x2 x3 x4 x5 x6 x7 x8 x9, r70 x0 x1 x2 x3 x4 x5 x6 x7 x8 x9, r35 x0 x1 x2 x3 x4 x5 x6 x7 x8 x9, r27 x0 x1 x2 x3 x4 x5 x6 x7 x8 x9]
  exact (norm_back (arow x0 x1 x2 x3 x4 x5 x6 x7 x8 x9 n).y (arow x0 x1 x2 x3 x4 x5 x6 x7 x8 x9 n).dyh k).symm

theorem r85 (n : Fin 8192) (k : Fin 1024) : val_main_v85 (F := Ideal) x0 x1 x2 x3 x4 x5 x6 x7 x8 x9 (ix2 n k) = (arow x0 x1 x2 x3 x4 x5 x6 x7 x8 x9 n).dm k := by
  rw [val_main_v85_apply]
  refine Finset.sum_congr rfl fun j _ => congrArg₂ (· * ·) ?_ (congrArg x9 (funext fun a => by match a with | ⟨0, _⟩ => rfl | ⟨1, _⟩ => rfl))
  exact (congrArg (val_main_v84 (F := Ideal) x0 x1 x2 x3 x4 x5 x6 x7 x8 x9) (funext fun a => by match a with | ⟨0, _⟩ => rfl | ⟨1, _⟩ => rfl)).trans (r84 x0 x1 x2 x3 x4 x5 x6 x7 x8 x9 n j)

theorem r86 (n : Fin 8192) (k : Fin 1024) : val_main_v86 (F := Ideal) x0 x1 x2 x3 x4 x5 x6 x7 x8 x9 (ix2 n k) = (arow x0 x1 x2 x3 x4 x5 x6 x7 x8 x9 n).dyb k := by
  rw [val_main_v86_apply, r21 x0 x1 x2 x3 x4 x5 x6 x7 x8 x9, r85 x0 x1 x2 x3 x4 x5 x6 x7 x8 x9]
  exact mul_comm _ _

theorem r89 (n : Fin 8192) (k : Fin 1024) : val_main_v89 (F := Ideal) x0 x1 x2 x3 x4 x5 x6 x7 x8 x9 (ix2 n k) = (arow x0 x1 x2 x3 x4 x5 x6 x7 x8 x9 n).dya k := by
  rw [val_main_v89_apply, r11 x0 x1 x2 x3 x4 x5 x6 x7 x8 x9, r85 x0 x1 x2 x3 x4 x5 x6 x7 x8 x9]
  exact mul_comm _ _

theorem gate_eq (d s y o : EReal) : d * y * (s * o) = d * s * y * o := by
  rw [← mul_assoc, mul_right_comm d y s]

theorem r88 (n : Fin 8192) (k : Fin 1024) : val_main_v88 (F := Ideal) x0 x1 x2 x3 x4 x5 x6 x7 x8 x9 (ix2 n k) = (arow x0 x1 x2 x3 x4 x5 x6 x7 x8 x9 n).dgb k := by
  rw [val_main_v88_apply, val_main_v87_apply, val_main_v24_apply, val_main_v23_apply, val_main_v22_apply, r21 x0 x1 x2 x3 x4 x5 x6 x7 x8 x9, r85 x0 x1 x2 x3 x4 x5 x6 x7 x8 x9, r3 x0 x1 x2 x3 x4 x5 x6 x7 x8 x9]
  exact gate_eq _ _ _ _

theorem r91 (n : Fin 8192) (k : Fin 1024) : val_main_v91 (F := Ideal) x0 x1 x2 x3 x4 x5 x6 x7 x8 x9 (ix2 n k) = (arow x0 x1 x2 x3 x4 x5 x6 x7 x8 x9 n).dga k := by
  rw [val_main_v91_apply, val_main_v90_apply, val_main_v14_apply, val_main_v13_apply, val_main_v12_apply, r11 x0 x1 x2 x3 x4 x5 x6 x7 x8 x9, r85 x0 x1 x2 x3 x4 x5 x6 x7 x8 x9, r1 x0 x1 x2 x3 x4 x5 x6 x7 x8 x9]
  exact gate_eq _ _ _ _

/-! ## The results -/

theorem r95 (n : Fin 8192) (k : Fin 2048) : val_main_v95 (F := Ideal) x0 x1 x2 x3 x4 x5 x6 x7 x8 x9 (ix2 n k) = (arow x0 x1 x2 x3 x4 x5 x6 x7 x8 x9 n).dg k := by
  have hk := k.isLt
  unfold val_main_v95 Row.dg
  split
  · next h =>
    refine Eq.trans (concatenate_apply_piece _ _ _ (ix2 n k) 0 (by show 0 < 2; omega) S8192x1024 (val_main_v91 (F := Ideal) x0 x1 x2 x3 x4 x5 x6 x7 x8 x9) rfl rfl 0 rfl (ix2 n ⟨k.val, h⟩)
      (Fin.forall_fin_two.2 ⟨fun _ => rfl, fun h => absurd rfl h⟩) (Nat.zero_add _)) ?_
    exact r91 x0 x1 x2 x3 x4 x5 x6 x7 x8 x9 n ⟨k.val, h⟩
  · next h =>
    refine Eq.trans (concatenate_apply_piece _ _ _ (ix2 n k) 1 (by show 1 < 2; omega) S8192x1024 (val_main_v88 (F := Ideal) x0 x1 x2 x3 x4 x5 x6 x7 x8 x9) rfl rfl 1024 rfl (ix2 n ⟨k.val - 1024, by omega⟩)
      (Fin.forall_fin_two.2 ⟨fun _ => rfl, fun h => absurd rfl h⟩) (show 1024 + (k.val - 1024) = k.val by omega)) ?_
    exact r88 x0 x1 x2 x3 x4 x5 x6 x7 x8 x9 n ⟨k.val - 1024, by omega⟩

theorem r97 (n : Fin 8192) (k : Fin 2048) : val_main_v97 (F := Ideal) x0 x1 x2 x3 x4 x5 x6 x7 x8 x9 (ix2 n k) = (arow x0 x1 x2 x3 x4 x5 x6 x7 x8 x9 n).dpa k := by
  rw [val_main_v97_apply]
  refine Finset.sum_congr rfl fun j _ => congrArg₂ (· * ·) ?_ (congrArg x7 (funext fun a => by match a with | ⟨0, _⟩ => rfl | ⟨1, _⟩ => rfl))
  exact (congrArg (val_main_v89 (F := Ideal) x0 x1 x2 x3 x4 x5 x6 x7 x8 x9) (funext fun a => by match a with | ⟨0, _⟩ => rfl | ⟨1, _⟩ => rfl)).trans (r89 x0 x1 x2 x3 x4 x5 x6 x7 x8 x9 n j)

theorem r98 (n : Fin 8192) (k : Fin 1024) : val_main_v98 (F := Ideal) x0 x1 x2 x3 x4 x5 x6 x7 x8 x9 (ix2 n k) = (arow x0 x1 x2 x3 x4 x5 x6 x7 x8 x9 n).dpb k := by
  rw [val_main_v98_apply]
  refine Finset.sum_congr rfl fun j _ => congrArg₂ (· * ·) ?_ (congrArg x8 (funext fun a => by match a with | ⟨0, _⟩ => rfl | ⟨1, _⟩ => rfl))
  exact (congrArg (val_main_v86 (F := Ideal) x0 x1 x2 x3 x4 x5 x6 x7 x8 x9) (funext fun a => by match a with | ⟨0, _⟩ => rfl | ⟨1, _⟩ => rfl)).trans (r86 x0 x1 x2 x3 x4 x5 x6 x7 x8 x9 n j)

theorem r94 (q : Fin 8) (k : Fin 1024) : val_main_v94 (F := Ideal) x0 x1 x2 x3 x4 x5 x6 x7 x8 x9 (ix2 q k) = ∑ n : Fin 8192, (arow x0 x1 x2 x3 x4 x5 x6 x7 x8 x9 n).small q.val k := by
  unfold val_main_v94
  by_cases h0 : q.val = 0
  · rw [h0]
    refine Eq.trans (concatenate_apply_piece _ _ _ (ix2 q k) 0 (by show 0 < 4; omega) S1x1024 (val_main_v65 (F := Ideal) x0 x1 x2 x3 x4 x5 x6 x7 x8 x9) rfl rfl 0 rfl (ix2 0 k)
      (Fin.forall_fin_two.2 ⟨fun h => absurd rfl h, fun _ => rfl⟩) h0.symm) ?_
    exact r65 x0 x1 x2 x3 x4 x5 x6 x7 x8 x9 0 k
  by_cases h1 : q.val = 1
  · rw [h1]
    refine Eq.trans (concatenate_apply_piece _ _ _ (ix2 q k) 1 (by show 1 < 4; omega) S1x1024 (val_main_v68 (F := Ideal) x0 x1 x2 x3 x4 x5 x6 x7 x8 x9) rfl rfl 1 rfl (ix2 0 k)
      (Fin.forall_fin_two.2 ⟨fun h => absurd rfl h, fun _ => rfl⟩) h1.symm) ?_
    exact r68 x0 x1 x2 x3 x4 x5 x6 x7 x8 x9 0 k
  by_cases h2 : q.val = 2
  · rw [h2]
    refine Eq.trans (concatenate_apply_piece _ _ _ (ix2 q k) 2 (by show 2 < 4; omega) S1x1024 (val_main_v92 (F := Ideal) x0 x1 x2 x3 x4 x5 x6 x7 x8 x9) rfl rfl 2 rfl (ix2 0 k)
      (Fin.forall_fin_two.2 ⟨fun h => absurd rfl h, fun _ => rfl⟩) h2.symm) ?_
    exact r92 x0 x1 x2 x3 x4 x5 x6 x7 x8 x9 0 k
  have hq := q.isLt
  refine Eq.trans (concatenate_apply_piece _ _ _ (ix2 q k) 3 (by show 3 < 4; omega) S5x1024 (val_main_v93 (F := Ideal)) rfl rfl 3 rfl (ix2 ⟨q.val - 3, by omega⟩ k)
      (Fin.forall_fin_two.2 ⟨fun h => absurd rfl h, fun _ => rfl⟩) (show 3 + (q.val - 3) = q.val by omega)) ?_
  rw [val_main_v93_apply]
  refine Ideal.ofBits_zero_f32.trans (Finset.sum_eq_zero fun n _ => ?_).symm
  unfold Row.small
  split <;> first | omega | rfl

end Cert.Head

end
-- ==== Proof.HeadPoint.lean ====
/- The loss head's kernel at one block of 256 rows: its payloads are the rows' values. -/
module

public import proofs.«01_k».proof.Proof.Gen.KernelHeadIdeal.Value
public import proofs.«01_k».proof.Proof.HeadRow
public import Idealize.ShloMosaic.Lib.Pointwise

@[expose] public section

set_option maxRecDepth 16384

noncomputable section

namespace Cert.Head

open Idealize.ShloMosaic Idealize.ShloMosaic.TcCoe Idealize.SL.Sem
open Cert.KernelHeadIdeal Cert.KernelHeadIdeal.Gen Cert.InputGrad

/-! ## The payloads at an index -/

theorem pay6_apply (a : Vec Ideal S256x2048 .bf16) (w : Vec Ideal S2048x1024 .bf16) (r : Fin 256) (k : Fin 1024) :
    k0_pay6 a w (ix2 r k) = ∑ j : Fin 2048, a (ix2 r j) * w (ix2 j k) := by
  unfold k0_pay6
  pointwise

theorem pay7_apply (a : Vec Ideal S256x1024 .bf16) (w : Vec Ideal S1024x1024 .bf16) (r : Fin 256) (k : Fin 1024) :
    k0_pay7 a w (ix2 r k) = ∑ j : Fin 1024, a (ix2 r j) * w (ix2 j k) := by
  unfold k0_pay7
  pointwise

theorem pay8_apply (a : Vec Ideal S256x1024 .f32) (r : Fin 256) (k : Fin 1024) : k0_pay8 a (ix2 r k) = Ideal.logistic (a (ix2 r k)) := by
  unfold k0_pay8
  pointwise

theorem pay9_apply (a : Vec Ideal S256x1024 .f32) (r : Fin 256) (k : Fin 1024) : k0_pay9 a (ix2 r k) = Ideal.logistic (a (ix2 r k)) := by
  unfold k0_pay9
  pointwise

theorem pay10_apply (a : Vec Ideal S256x2048 .bf16) (w : Vec Ideal S2048x1024 .bf16) (b : Vec Ideal S256x1024 .bf16)
    (v : Vec Ideal S1024x1024 .bf16) (g h : Vec Ideal S256x1024 .f32) (r : Fin 256) (k : Fin 1024) :
    k0_pay10 a w b v g h (ix2 r k)
      = k0_pay8 g (ix2 r k) * k0_pay6 a w (ix2 r k) + k0_pay9 h (ix2 r k) * k0_pay7 b v (ix2 r k) := by
  unfold k0_pay10
  generalize k0_pay8 g = g'
  generalize k0_pay9 h = h'
  generalize k0_pay6 a w = a'
  generalize k0_pay7 b v = b'
  pointwise

theorem pay11_apply (a : Vec Ideal S256x2048 .bf16) (w : Vec Ideal S2048x1024 .bf16) (b : Vec Ideal S256x1024 .bf16)
    (v : Vec Ideal S1024x1024 .bf16) (g h : Vec Ideal S256x1024 .f32) (u : Vec Ideal S1024x1024 .bf16) (r : Fin 256) (k : Fin 1024) :
    k0_pay11 a w b v g h u (ix2 r k) = ∑ j : Fin 1024, k0_pay10 a w b v g h (ix2 r j) * u (ix2 j k) := by
  unfold k0_pay11
  generalize k0_pay10 a w b v g h = m
  pointwise

theorem pay12_apply (a : Vec Ideal S256x2048 .bf16) (w : Vec Ideal S2048x1024 .bf16) (b : Vec Ideal S256x1024 .bf16)
    (v : Vec Ideal S1024x1024 .bf16) (g h : Vec Ideal S256x1024 .f32) (u : Vec Ideal S1024x1024 .bf16) (r : Fin 256) (z : Fin 1) :
    k0_pay12 a w b v g h u (ix2 r z)
      = Ideal.div (∑ j : Fin 1024, k0_pay11 a w b v g h u (ix2 r j) * k0_pay11 a w b v g h u (ix2 r j)) Row.c1024 := by
  unfold k0_pay12
  generalize k0_pay11 a w b v g h u = y
  pointwise

theorem pay13_apply (ms : Vec Ideal S256x1 .f32) (r : Fin 256) (z : Fin 1) :
    k0_pay13 (F := Ideal) ms (ix2 r z) = Ideal.rsqrt (ms (ix2 r z) + Ideal.ofBits .f32 0x358637BD#32) := by
  unfold k0_pay13
  pointwise

theorem pay14_apply (y : Vec Ideal S256x1024 .f32) (ms : Vec Ideal S256x1 .f32) (r : Fin 256) (k : Fin 1024) :
    k0_pay14 (F := Ideal) y ms (ix2 r k) = y (ix2 r k) * k0_pay13 (F := Ideal) ms (ix2 r 0) := by
  unfold k0_pay14
  generalize k0_pay13 (F := Ideal) ms = q
  pointwise

theorem pay15_apply (gp : Vec Ideal S1x1024 .f32) (y : Vec Ideal S256x1024 .f32) (ms : Vec Ideal S256x1 .f32) (r : Fin 256) (k : Fin 1024) :
    k0_pay15 (F := Ideal) gp y ms (ix2 r k) = k0_pay14 (F := Ideal) y ms (ix2 r k) * gp (ix2 0 k) := by
  unfold k0_pay15
  generalize k0_pay14 (F := Ideal) y ms = q
  pointwise

theorem pay16_apply (ga gp : Vec Ideal S1x1024 .f32) (y : Vec Ideal S256x1024 .f32) (ms : Vec Ideal S256x1 .f32)
    (x t : Vec Ideal S256x1024 .f32) (r : Fin 256) (k : Fin 1024) :
    k0_pay16 ga gp y ms x t (ix2 r k) = x (ix2 r k) + ga (ix2 0 k) * k0_pay15 (F := Ideal) gp y ms (ix2 r k) - t (ix2 r k) := by
  unfold k0_pay16
  generalize k0_pay15 (F := Ideal) gp y ms = q
  pointwise

theorem pay17_apply (ga gp : Vec Ideal S1x1024 .f32) (y : Vec Ideal S256x1024 .f32) (ms : Vec Ideal S256x1 .f32)
    (x t : Vec Ideal S256x1024 .f32) (row : Vec Ideal S1x1024 .f32) (z : Fin 1) (k : Fin 1024) :
    k0_pay17 ga gp y ms x t row (ix2 z k) = row (ix2 z k) + Ideal.ofBits .f32 0x3F000000#32
      * ∑ r : Fin 256, Ideal.div (∑ j : Fin 1024, k0_pay16 ga gp y ms x t (ix2 r j) * k0_pay16 ga gp y ms x t (ix2 r j)) Row.c1024 := by
  unfold k0_pay17
  generalize k0_pay16 ga gp y ms x t = q
  pointwise
  simp only [Fin.sum_univ_one]

theorem pay18_apply (ga gp : Vec Ideal S1x1024 .f32) (y : Vec Ideal S256x1024 .f32) (ms : Vec Ideal S256x1 .f32)
    (x t : Vec Ideal S256x1024 .f32) (r : Fin 256) (k : Fin 1024) :
    k0_pay18 ga gp y ms x t (ix2 r k) = k0_pay16 ga gp y ms x t (ix2 r k) * Ideal.ofBits .f32 0x3A800000#32 := by
  unfold k0_pay18
  generalize k0_pay16 ga gp y ms x t = q
  pointwise

theorem pay19_apply (ga gp : Vec Ideal S1x1024 .f32) (y : Vec Ideal S256x1024 .f32) (ms : Vec Ideal S256x1 .f32)
    (x t : Vec Ideal S256x1024 .f32) (row : Vec Ideal S1x1024 .f32) (z : Fin 1) (k : Fin 1024) :
    k0_pay19 ga gp y ms x t row (ix2 z k)
      = row (ix2 z k) + ∑ r : Fin 256, k0_pay18 ga gp y ms x t (ix2 r k) * k0_pay15 (F := Ideal) gp y ms (ix2 r k) := by
  unfold k0_pay19
  generalize k0_pay18 ga gp y ms x t = q
  generalize k0_pay15 (F := Ideal) gp y ms = q'
  pointwise

theorem pay20_apply (ga : Vec Ideal S1x1024 .f32) (d : Vec Ideal S256x1024 .f32) (r : Fin 256) (k : Fin 1024) :
    k0_pay20 ga d (ix2 r k) = d (ix2 r k) * ga (ix2 0 k) := by
  unfold k0_pay20
  pointwise

theorem pay21_apply (ga : Vec Ideal S1x1024 .f32) (yh d : Vec Ideal S256x1024 .f32) (row : Vec Ideal S1x1024 .f32) (z : Fin 1) (k : Fin 1024) :
    k0_pay21 ga yh d row (ix2 z k) = row (ix2 z k) + ∑ r : Fin 256, k0_pay20 ga d (ix2 r k) * yh (ix2 r k) := by
  unfold k0_pay21
  generalize k0_pay20 ga d = q
  pointwise

theorem pay22_apply (ga gp : Vec Ideal S1x1024 .f32) (ri : Vec Ideal S256x1 .f32) (yh d : Vec Ideal S256x1024 .f32) (r : Fin 256) (k : Fin 1024) :
    k0_pay22 ga gp ri yh d (ix2 r k) = ri (ix2 r 0) * (k0_pay20 ga d (ix2 r k) * gp (ix2 0 k)
      - yh (ix2 r k) * Ideal.div (∑ j : Fin 1024, k0_pay20 ga d (ix2 r j) * gp (ix2 0 j) * yh (ix2 r j)) Row.c1024) := by
  unfold k0_pay22
  generalize k0_pay20 ga d = q
  pointwise

theorem pay23_apply (ga gp : Vec Ideal S1x1024 .f32) (ri : Vec Ideal S256x1 .f32) (yh d : Vec Ideal S256x1024 .f32)
    (u : Vec Ideal S1024x1024 .bf16) (r : Fin 256) (k : Fin 1024) :
    k0_pay23 ga gp ri yh d u (ix2 r k) = ∑ j : Fin 1024, k0_pay22 ga gp ri yh d (ix2 r j) * u (ix2 k j) := by
  unfold k0_pay23
  generalize k0_pay22 ga gp ri yh d = q
  pointwise

theorem pay24_apply (ga gp : Vec Ideal S1x1024 .f32) (s : Vec Ideal S256x1024 .f32) (ri : Vec Ideal S256x1 .f32) (yh d : Vec Ideal S256x1024 .f32)
    (u : Vec Ideal S1024x1024 .bf16) (r : Fin 256) (k : Fin 1024) :
    k0_pay24 ga gp s ri yh d u (ix2 r k) = k0_pay23 ga gp ri yh d u (ix2 r k) * s (ix2 r k) := by
  unfold k0_pay24
  generalize k0_pay23 ga gp ri yh d u = q
  pointwise

theorem pay25_apply (ga gp : Vec Ideal S1x1024 .f32) (s : Vec Ideal S256x1024 .f32) (ri : Vec Ideal S256x1 .f32) (yh d : Vec Ideal S256x1024 .f32)
    (u : Vec Ideal S1024x1024 .bf16) (r : Fin 256) (k : Fin 1024) :
    k0_pay25 ga gp s ri yh d u (ix2 r k) = k0_pay23 ga gp ri yh d u (ix2 r k) * s (ix2 r k) := by
  unfold k0_pay25
  generalize k0_pay23 ga gp ri yh d u = q
  pointwise

theorem pay26_apply (ga gp : Vec Ideal S1x1024 .f32) (y s : Vec Ideal S256x1024 .f32) (ri : Vec Ideal S256x1 .f32) (yh d : Vec Ideal S256x1024 .f32)
    (u : Vec Ideal S1024x1024 .bf16) (r : Fin 256) (k : Fin 1024) :
    k0_pay26 ga gp y s ri yh d u (ix2 r k) = k0_pay24 ga gp s ri yh d u (ix2 r k) * y (ix2 r k) * (Row.c1 - s (ix2 r k)) := by
  unfold k0_pay26
  generalize k0_pay24 ga gp s ri yh d u = q
  pointwise

theorem pay27_apply (ga gp : Vec Ideal S1x1024 .f32) (y s : Vec Ideal S256x1024 .f32) (ri : Vec Ideal S256x1 .f32) (yh d : Vec Ideal S256x1024 .f32)
    (u : Vec Ideal S1024x1024 .bf16) (r : Fin 256) (k : Fin 1024) :
    k0_pay27 ga gp y s ri yh d u (ix2 r k) = k0_pay25 ga gp s ri yh d u (ix2 r k) * y (ix2 r k) * (Row.c1 - s (ix2 r k)) := by
  unfold k0_pay27
  generalize k0_pay25 ga gp s ri yh d u = q
  pointwise

theorem pay3_apply (d : Vec Ideal S256x1024 .f32) (w : Vec Ideal S2048x1024 .bf16) (r : Fin 256) (k : Fin 2048) :
    k0_pay3 d w (ix2 r k) = ∑ j : Fin 1024, d (ix2 r j) * w (ix2 k j) := by
  unfold k0_pay3 k0_pay1
  pointwise

theorem pay4_apply (d : Vec Ideal S256x1024 .f32) (w : Vec Ideal S1024x1024 .bf16) (r : Fin 256) (k : Fin 1024) :
    k0_pay4 d w (ix2 r k) = ∑ j : Fin 1024, d (ix2 r j) * w (ix2 k j) := by
  unfold k0_pay4 k0_pay2
  pointwise

theorem pay5_apply (j : S8x1024.Idx) : k0_pay5 (F := Ideal) j = 0 := Ideal.ofBits_zero_f32

/-! ## A block's rows -/

section Block

variable (x0 : Vec Ideal S256x2048 .bf16) (x1 : Vec Ideal S256x1024 .bf16) (x2 x3 x4 x5 : Vec Ideal S256x1024 .f32)
  (x6 x7 : Vec Ideal S1x1024 .f32) (x8 : Vec Ideal S2048x1024 .bf16) (x9 x10 : Vec Ideal S1024x1024 .bf16)

/-- Row `r` of the block. -/
def brow (r : Fin 256) : Row where
  pa j := x0 (ix2 r j)
  pb j := x1 (ix2 r j)
  ga j := x2 (ix2 r j)
  gb j := x3 (ix2 r j)
  x j := x4 (ix2 r j)
  t j := x5 (ix2 r j)
  gate j := x6 (ix2 0 j)
  gp j := x7 (ix2 0 j)
  wr j k := x8 (ix2 j k)
  wc j k := x9 (ix2 j k)
  wo j k := x10 (ix2 j k)

abbrev Mg : Vec Ideal S256x1024 .bf16 := k0_pay10 x0 x8 x1 x9 x2 x3
abbrev Y : Vec Ideal S256x1024 .f32 := k0_pay11 x0 x8 x1 x9 x2 x3 x10
abbrev Ms : Vec Ideal S256x1 .f32 := k0_pay12 x0 x8 x1 x9 x2 x3 x10
abbrev Ri : Vec Ideal S256x1 .f32 := k0_pay13 (F := Ideal) (Ms x0 x1 x2 x3 x8 x9 x10)
abbrev Yh : Vec Ideal S256x1024 .f32 := k0_pay14 (F := Ideal) (Y x0 x1 x2 x3 x8 x9 x10) (Ms x0 x1 x2 x3 x8 x9 x10)
abbrev Do : Vec Ideal S256x1024 .f32 := k0_pay18 x6 x7 (Y x0 x1 x2 x3 x8 x9 x10) (Ms x0 x1 x2 x3 x8 x9 x10) x4 x5
abbrev Dya : Vec Ideal S256x1024 .f32 :=
  k0_pay24 x6 x7 (k0_pay8 x2) (Ri x0 x1 x2 x3 x8 x9 x10) (Yh x0 x1 x2 x3 x8 x9 x10) (Do x0 x1 x2 x3 x4 x5 x6 x7 x8 x9 x10) x10
abbrev Dyb : Vec Ideal S256x1024 .f32 :=
  k0_pay25 x6 x7 (k0_pay9 x3) (Ri x0 x1 x2 x3 x8 x9 x10) (Yh x0 x1 x2 x3 x8 x9 x10) (Do x0 x1 x2 x3 x4 x5 x6 x7 x8 x9 x10) x10

variable (r : Fin 256) (k : Fin 1024)

theorem ya_apply : k0_pay6 x0 x8 (ix2 r k) = (brow x0 x1 x2 x3 x4 x5 x6 x7 x8 x9 x10 r).ya k := pay6_apply x0 x8 r k
theorem yb_apply : k0_pay7 x1 x9 (ix2 r k) = (brow x0 x1 x2 x3 x4 x5 x6 x7 x8 x9 x10 r).yb k := pay7_apply x1 x9 r k
theorem sa_apply : k0_pay8 x2 (ix2 r k) = (brow x0 x1 x2 x3 x4 x5 x6 x7 x8 x9 x10 r).sa k := pay8_apply x2 r k
theorem sb_apply : k0_pay9 x3 (ix2 r k) = (brow x0 x1 x2 x3 x4 x5 x6 x7 x8 x9 x10 r).sb k := pay9_apply x3 r k

theorem mg_apply : Mg x0 x1 x2 x3 x8 x9 (ix2 r k) = (brow x0 x1 x2 x3 x4 x5 x6 x7 x8 x9 x10 r).mg k := by
  rw [Mg, pay10_apply, pay6_apply, pay7_apply, pay8_apply, pay9_apply]
  rfl

theorem y_apply : Y x0 x1 x2 x3 x8 x9 x10 (ix2 r k) = (brow x0 x1 x2 x3 x4 x5 x6 x7 x8 x9 x10 r).y k :=
  (pay11_apply x0 x8 x1 x9 x2 x3 x10 r k).trans
    (Finset.sum_congr rfl fun j _ => congrArg (· * x10 (ix2 j k)) (mg_apply x0 x1 x2 x3 x4 x5 x6 x7 x8 x9 x10 r j))

theorem ri_apply (z : Fin 1) : Ri x0 x1 x2 x3 x8 x9 x10 (ix2 r z) = (brow x0 x1 x2 x3 x4 x5 x6 x7 x8 x9 x10 r).ri := by
  rw [Ri, pay13_apply, Ms, pay12_apply]
  unfold Row.ri rms
  refine congrArg (fun s => Ideal.rsqrt (Ideal.div s Row.c1024 + Ideal.ofBits .f32 0x358637BD#32)) (Finset.sum_congr rfl fun j _ => ?_)
  rw [show k0_pay11 x0 x8 x1 x9 x2 x3 x10 (ix2 r j) = _ from y_apply x0 x1 x2 x3 x4 x5 x6 x7 x8 x9 x10 r j]

theorem yh_apply : Yh x0 x1 x2 x3 x8 x9 x10 (ix2 r k) = (brow x0 x1 x2 x3 x4 x5 x6 x7 x8 x9 x10 r).yh k :=
  (pay14_apply _ _ r k).trans (congrArg₂ (· * ·) (y_apply x0 x1 x2 x3 x4 x5 x6 x7 x8 x9 x10 r k) (ri_apply x0 x1 x2 x3 x4 x5 x6 x7 x8 x9 x10 r 0))

theorem yn_apply : k0_pay15 (F := Ideal) x7 (Y x0 x1 x2 x3 x8 x9 x10) (Ms x0 x1 x2 x3 x8 x9 x10) (ix2 r k) = (brow x0 x1 x2 x3 x4 x5 x6 x7 x8 x9 x10 r).yn k :=
  (pay15_apply _ _ _ r k).trans (congrArg (· * x7 (ix2 0 k)) (yh_apply x0 x1 x2 x3 x4 x5 x6 x7 x8 x9 x10 r k))

theorem err_apply : k0_pay16 x6 x7 (Y x0 x1 x2 x3 x8 x9 x10) (Ms x0 x1 x2 x3 x8 x9 x10) x4 x5 (ix2 r k) = (brow x0 x1 x2 x3 x4 x5 x6 x7 x8 x9 x10 r).err k :=
  (pay16_apply _ _ _ _ _ _ r k).trans
    (congrArg (fun q => x4 (ix2 r k) + x6 (ix2 0 k) * q - x5 (ix2 r k)) (yn_apply x0 x1 x2 x3 x4 x5 x6 x7 x8 x9 x10 r k))

theorem do_apply : Do x0 x1 x2 x3 x4 x5 x6 x7 x8 x9 x10 (ix2 r k) = (brow x0 x1 x2 x3 x4 x5 x6 x7 x8 x9 x10 r).dout k :=
  (pay18_apply _ _ _ _ _ _ r k).trans (congrArg (· * Ideal.ofBits .f32 0x3A800000#32) (err_apply x0 x1 x2 x3 x4 x5 x6 x7 x8 x9 x10 r k))

theorem dn_apply : k0_pay20 x6 (Do x0 x1 x2 x3 x4 x5 x6 x7 x8 x9 x10) (ix2 r k) = (brow x0 x1 x2 x3 x4 x5 x6 x7 x8 x9 x10 r).dn k :=
  (pay20_apply _ _ r k).trans (congrArg (· * x6 (ix2 0 k)) (do_apply x0 x1 x2 x3 x4 x5 x6 x7 x8 x9 x10 r k))

theorem dy_apply : k0_pay22 x6 x7 (Ri x0 x1 x2 x3 x8 x9 x10) (Yh x0 x1 x2 x3 x8 x9 x10) (Do x0 x1 x2 x3 x4 x5 x6 x7 x8 x9 x10) (ix2 r k) = (brow x0 x1 x2 x3 x4 x5 x6 x7 x8 x9 x10 r).dy k := by
  rw [pay22_apply]
  simp only [dn_apply x0 x1 x2 x3 x4 x5 x6 x7 x8 x9 x10, yh_apply x0 x1 x2 x3 x4 x5 x6 x7 x8 x9 x10, ri_apply x0 x1 x2 x3 x4 x5 x6 x7 x8 x9 x10]
  rfl

theorem dm_apply : k0_pay23 x6 x7 (Ri x0 x1 x2 x3 x8 x9 x10) (Yh x0 x1 x2 x3 x8 x9 x10) (Do x0 x1 x2 x3 x4 x5 x6 x7 x8 x9 x10) x10 (ix2 r k) = (brow x0 x1 x2 x3 x4 x5 x6 x7 x8 x9 x10 r).dm k :=
  (pay23_apply _ _ _ _ _ _ r k).trans
    (Finset.sum_congr rfl fun j _ => congrArg (· * x10 (ix2 k j)) (dy_apply x0 x1 x2 x3 x4 x5 x6 x7 x8 x9 x10 r j))

theorem dya_apply : Dya x0 x1 x2 x3 x4 x5 x6 x7 x8 x9 x10 (ix2 r k) = (brow x0 x1 x2 x3 x4 x5 x6 x7 x8 x9 x10 r).dya k :=
  (pay24_apply _ _ _ _ _ _ _ r k).trans
    (congrArg₂ (· * ·) (dm_apply x0 x1 x2 x3 x4 x5 x6 x7 x8 x9 x10 r k) (sa_apply x0 x1 x2 x3 x4 x5 x6 x7 x8 x9 x10 r k))

theorem dyb_apply : Dyb x0 x1 x2 x3 x4 x5 x6 x7 x8 x9 x10 (ix2 r k) = (brow x0 x1 x2 x3 x4 x5 x6 x7 x8 x9 x10 r).dyb k :=
  (pay25_apply _ _ _ _ _ _ _ r k).trans
    (congrArg₂ (· * ·) (dm_apply x0 x1 x2 x3 x4 x5 x6 x7 x8 x9 x10 r k) (sb_apply x0 x1 x2 x3 x4 x5 x6 x7 x8 x9 x10 r k))

theorem dga_apply : k0_pay26 x6 x7 (k0_pay6 x0 x8) (k0_pay8 x2) (Ri x0 x1 x2 x3 x8 x9 x10) (Yh x0 x1 x2 x3 x8 x9 x10)
    (Do x0 x1 x2 x3 x4 x5 x6 x7 x8 x9 x10) x10 (ix2 r k) = (brow x0 x1 x2 x3 x4 x5 x6 x7 x8 x9 x10 r).dga k := by
  rw [pay26_apply]
  exact congrArg₂ (· * ·) (congrArg₂ (· * ·) (dya_apply x0 x1 x2 x3 x4 x5 x6 x7 x8 x9 x10 r k) (ya_apply x0 x1 x2 x3 x4 x5 x6 x7 x8 x9 x10 r k))
    (congrArg (Row.c1 - ·) (sa_apply x0 x1 x2 x3 x4 x5 x6 x7 x8 x9 x10 r k))

theorem dgb_apply : k0_pay27 x6 x7 (k0_pay7 x1 x9) (k0_pay9 x3) (Ri x0 x1 x2 x3 x8 x9 x10) (Yh x0 x1 x2 x3 x8 x9 x10)
    (Do x0 x1 x2 x3 x4 x5 x6 x7 x8 x9 x10) x10 (ix2 r k) = (brow x0 x1 x2 x3 x4 x5 x6 x7 x8 x9 x10 r).dgb k := by
  rw [pay27_apply]
  exact congrArg₂ (· * ·) (congrArg₂ (· * ·) (dyb_apply x0 x1 x2 x3 x4 x5 x6 x7 x8 x9 x10 r k) (yb_apply x0 x1 x2 x3 x4 x5 x6 x7 x8 x9 x10 r k))
    (congrArg (Row.c1 - ·) (sb_apply x0 x1 x2 x3 x4 x5 x6 x7 x8 x9 x10 r k))

theorem dpa_apply (q : Fin 2048) : k0_pay3 (Dya x0 x1 x2 x3 x4 x5 x6 x7 x8 x9 x10) x8 (ix2 r q) = (brow x0 x1 x2 x3 x4 x5 x6 x7 x8 x9 x10 r).dpa q :=
  (pay3_apply _ _ r q).trans (Finset.sum_congr rfl fun j _ => congrArg (· * x8 (ix2 q j)) (dya_apply x0 x1 x2 x3 x4 x5 x6 x7 x8 x9 x10 r j))

theorem dpb_apply : k0_pay4 (Dyb x0 x1 x2 x3 x4 x5 x6 x7 x8 x9 x10) x9 (ix2 r k) = (brow x0 x1 x2 x3 x4 x5 x6 x7 x8 x9 x10 r).dpb k :=
  (pay4_apply _ _ r k).trans (Finset.sum_congr rfl fun j _ => congrArg (· * x9 (ix2 k j)) (dyb_apply x0 x1 x2 x3 x4 x5 x6 x7 x8 x9 x10 r j))

/-! ## The block's part of the small results -/

/-- What the block adds to row `q` of the small results. -/
def sm (q : ℕ) (k : Fin 1024) : EReal := ∑ r : Fin 256, (brow x0 x1 x2 x3 x4 x5 x6 x7 x8 x9 x10 r).small q k

theorem row0_apply (row : Vec Ideal S1x1024 .f32) (v : EReal) (hv : row (ix2 0 k) = v) :
    k0_pay19 x6 x7 (Y x0 x1 x2 x3 x8 x9 x10) (Ms x0 x1 x2 x3 x8 x9 x10) x4 x5 row (ix2 0 k) = v + sm x0 x1 x2 x3 x4 x5 x6 x7 x8 x9 x10 0 k := by
  rw [pay19_apply, hv]
  exact congrArg (v + ·) (Finset.sum_congr rfl fun r _ =>
    congrArg₂ (· * ·) (do_apply x0 x1 x2 x3 x4 x5 x6 x7 x8 x9 x10 r k) (yn_apply x0 x1 x2 x3 x4 x5 x6 x7 x8 x9 x10 r k))

theorem row1_apply (row : Vec Ideal S1x1024 .f32) (v : EReal) (hv : row (ix2 0 k) = v) :
    k0_pay21 x6 (Yh x0 x1 x2 x3 x8 x9 x10) (Do x0 x1 x2 x3 x4 x5 x6 x7 x8 x9 x10) row (ix2 0 k) = v + sm x0 x1 x2 x3 x4 x5 x6 x7 x8 x9 x10 1 k := by
  rw [pay21_apply, hv]
  exact congrArg (v + ·) (Finset.sum_congr rfl fun r _ =>
    congrArg₂ (· * ·) (dn_apply x0 x1 x2 x3 x4 x5 x6 x7 x8 x9 x10 r k) (yh_apply x0 x1 x2 x3 x4 x5 x6 x7 x8 x9 x10 r k))

theorem half_eq : Ideal.ofBits .f32 0x3F000000#32 = (((1 / 2) : ℝ) : EReal) := by
  simp only [Ideal.ofBits, Ideal.ieee]; simp; rw [← EReal.coe_mul]; norm_num

theorem row2_apply (row : Vec Ideal S1x1024 .f32) (v : EReal) (hv : row (ix2 0 k) = v) :
    k0_pay17 x6 x7 (Y x0 x1 x2 x3 x8 x9 x10) (Ms x0 x1 x2 x3 x8 x9 x10) x4 x5 row (ix2 0 k) = v + sm x0 x1 x2 x3 x4 x5 x6 x7 x8 x9 x10 2 k := by
  rw [pay17_apply, hv]
  refine congrArg (v + ·) ?_
  show _ = ∑ r : Fin 256, (brow x0 x1 x2 x3 x4 x5 x6 x7 x8 x9 x10 r).loss * Ideal.ofBits .f32 0x3F000000#32
  rw [half_eq, sum_mul_pos _ (by norm_num), mul_comm]
  refine congrArg (· * _) (Finset.sum_congr rfl fun r _ => ?_)
  refine congrArg (Ideal.div · Row.c1024) (Finset.sum_congr rfl fun j _ => ?_)
  rw [err_apply x0 x1 x2 x3 x4 x5 x6 x7 x8 x9 x10 r j]

theorem sm_zero (q : ℕ) (hq : 3 ≤ q) : sm x0 x1 x2 x3 x4 x5 x6 x7 x8 x9 x10 q k = 0 := by
  refine Finset.sum_eq_zero fun r _ => ?_
  match q, hq with
  | q + 3, _ => rfl

end Block

end Cert.Head

end
-- ==== Proof.HeadBlock.lean ====
/- The loss head's kernel at one block of 256 rows: what a grid point leaves in its nine results. -/
module

public import proofs.«01_k».proof.Proof.Gen.KernelHeadIdeal.Value
public import proofs.«01_k».proof.Proof.HeadPoint
public import Idealize.ShloMosaic.Lib.WritesUnit
public import Idealize.ShloMosaic.Lib.Pipeline.ReadBack

@[expose] public section

set_option maxRecDepth 16384

noncomputable section

namespace Cert.Head

open Idealize.ShloMosaic Idealize.ShloMosaic.TcCoe Idealize.SL.Sem
open Cert.KernelHeadIdeal Cert.KernelHeadIdeal.Gen Cert.InputGrad

/-- A load of a window reads its contents at the offset. -/
theorem load_apply {S : Shape} {e : EltTy} (a : Memref sig .tc .vmem S e) (ha : a.IsWhole) (x : S.Idx → Elt Ideal e)
    (off size : Fin S.rank → ℕ) (inb : ∀ i, off i + size i ≤ S.size i) (y : (Rect.unit off size inb).shape.Idx) (i : S.Idx)
    (hi : ∀ b, (i b : ℕ) = off b + (y b : ℕ)) :
    View.readAt (Elt Ideal) a.view (Rect.unit off size inb).toLoadRect (ha.unread x) y = x i :=
  (congrArg (fun X => View.ld X (Rect.unit off size inb) y) (ha.read_unread x)).trans
    (congrArg x (funext fun b => Fin.ext ((congrArg (off b + ·) (Nat.one_mul _)).trans (hi b).symm)))

theorem full_inb {a b : ℕ} : ∀ i, (![0, 0] : Fin 2 → ℕ) i + (![a, b] : Fin 2 → ℕ) i ≤ (![a, b] : Fin 2 → ℕ) i :=
  fun i => by match i with | ⟨0, _⟩ => exact (Nat.zero_add _).le | ⟨1, _⟩ => exact (Nat.zero_add _).le

/-- The load of a whole window. -/
abbrev ld {a b : ℕ} {e : EltTy} (arg : Memref sig .tc .vmem ⟨2, ![a, b]⟩ e) (ha : arg.IsWhole)
    (x : (⟨2, ![a, b]⟩ : Shape).Idx → Elt Ideal e) : (⟨2, ![a, b]⟩ : Shape).Idx → Elt Ideal e :=
  View.readAt (Elt Ideal) arg.view (Rect.unit (s := ⟨2, ![a, b]⟩) ![0, 0] ![a, b] full_inb).toLoadRect (ha.unread x)

theorem ld_eq {a b : ℕ} {e : EltTy} (arg : Memref sig .tc .vmem ⟨2, ![a, b]⟩ e) (ha : arg.IsWhole)
    (x : (⟨2, ![a, b]⟩ : Shape).Idx → Elt Ideal e) : ld arg ha x = x :=
  funext fun y => load_apply arg ha x _ _ full_inb y y (Fin.forall_fin_two.2 ⟨(Nat.zero_add _).symm, (Nat.zero_add _).symm⟩)

section Block

variable (x0 : Vec Ideal S256x2048 .bf16) (x1 : Vec Ideal S256x1024 .bf16) (x2 x3 x4 x5 : Vec Ideal S256x1024 .f32)
  (x6 x7 : Vec Ideal S1x1024 .f32) (x8 : Vec Ideal S2048x1024 .bf16) (x9 x10 : Vec Ideal S1024x1024 .bf16)
  (c : Dev nD) (i : grid0.Coords)
  (arg1 : Memref sig .tc .vmem S256x2048 .bf16) (h1 : arg1.IsWhole) (arg2 : Memref sig .tc .vmem S256x1024 .bf16) (h2 : arg2.IsWhole)
  (arg3 : Memref sig .tc .vmem S256x1024 .f32) (h3 : arg3.IsWhole) (arg4 : Memref sig .tc .vmem S256x1024 .f32) (h4 : arg4.IsWhole)
  (arg5 : Memref sig .tc .vmem S256x1024 .f32) (h5 : arg5.IsWhole) (arg6 : Memref sig .tc .vmem S256x1024 .f32) (h6 : arg6.IsWhole)
  (arg7 : Memref sig .tc .vmem S1x1024 .f32) (h7 : arg7.IsWhole) (arg8 : Memref sig .tc .vmem S1x1024 .f32) (h8 : arg8.IsWhole)
  (arg9 : Memref sig .tc .vmem S2048x1024 .bf16) (h9 : arg9.IsWhole) (arg10 : Memref sig .tc .vmem S1024x1024 .bf16) (h10 : arg10.IsWhole)
  (arg11 : Memref sig .tc .vmem S1024x1024 .bf16) (h11 : arg11.IsWhole) (arg12 : Memref sig .tc .vmem S256x1024 .f32) (h12 : arg12.IsWhole)
  (arg13 : Memref sig .tc .vmem S256x2048 .bf16) (h13 : arg13.IsWhole) (arg14 : Memref sig .tc .vmem S256x2048 .f32) (h14 : arg14.IsWhole)
  (arg15 : Memref sig .tc .vmem S256x1024 .f32) (h15 : arg15.IsWhole) (arg16 : Memref sig .tc .vmem S256x1024 .bf16) (h16 : arg16.IsWhole)
  (arg17 : Memref sig .tc .vmem S256x1024 .bf16) (h17 : arg17.IsWhole) (arg18 : Memref sig .tc .vmem S256x1024 .bf16) (h18 : arg18.IsWhole)
  (arg19 : Memref sig .tc .vmem S256x1024 .bf16) (h19 : arg19.IsWhole) (arg20 : Memref sig .tc .vmem S8x1024 .f32) (h20 : arg20.IsWhole)

/-- The loaded rows are the windows' rows. -/
theorem brow_ld (r : Fin 256) :
    brow (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r = brow x0 x1 x2 x3 x4 x5 x6 x7 x8 x9 x10 r := by
  rw [ld_eq arg1, ld_eq arg2, ld_eq arg3, ld_eq arg4, ld_eq arg5, ld_eq arg6, ld_eq arg7, ld_eq arg8, ld_eq arg9, ld_eq arg10, ld_eq arg11]

theorem out11 (r : Fin 256) (k : Fin 1024) :
    (∀ hc, out0_A_11 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).dout k)
    ∧ ∀ hc xo19, out0_B_11 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).dout k := by
  have e := (do_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r k).trans (congrArg (Row.dout · k) (brow_ld x0 x1 x2 x3 x4 x5 x6 x7 x8 x9 x10 arg1 h1 arg2 h2 arg3 h3 arg4 h4 arg5 h5 arg6 h6 arg7 h7 arg8 h8 arg9 h9 arg10 h10 arg11 h11 r))
  constructor <;> intros
  · unfold out0_A_11
    exact (View.read_writes_cons_unit_of_mem VO0_11 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e
  · unfold out0_B_11
    exact (View.read_writes_cons_unit_of_mem VO0_11 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e

theorem out13 (r : Fin 256) (k : Fin 2048) :
    (∀ hc, out0_A_13 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).dpa k)
    ∧ ∀ hc xo19, out0_B_13 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).dpa k := by
  have e := (dpa_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r k).trans (congrArg (Row.dpa · k) (brow_ld x0 x1 x2 x3 x4 x5 x6 x7 x8 x9 x10 arg1 h1 arg2 h2 arg3 h3 arg4 h4 arg5 h5 arg6 h6 arg7 h7 arg8 h8 arg9 h9 arg10 h10 arg11 h11 r))
  constructor <;> intros
  · unfold out0_A_13
    exact (View.read_writes_cons_unit_of_mem VO0_13 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e
  · unfold out0_B_13
    exact (View.read_writes_cons_unit_of_mem VO0_13 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e

theorem out14 (r : Fin 256) (k : Fin 1024) :
    (∀ hc, out0_A_14 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).dpb k)
    ∧ ∀ hc xo19, out0_B_14 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).dpb k := by
  have e := (dpb_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r k).trans (congrArg (Row.dpb · k) (brow_ld x0 x1 x2 x3 x4 x5 x6 x7 x8 x9 x10 arg1 h1 arg2 h2 arg3 h3 arg4 h4 arg5 h5 arg6 h6 arg7 h7 arg8 h8 arg9 h9 arg10 h10 arg11 h11 r))
  constructor <;> intros
  · unfold out0_A_14
    exact (View.read_writes_cons_unit_of_mem VO0_14 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e
  · unfold out0_B_14
    exact (View.read_writes_cons_unit_of_mem VO0_14 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e

theorem out15 (r : Fin 256) (k : Fin 1024) :
    (∀ hc, out0_A_15 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).mg k)
    ∧ ∀ hc xo19, out0_B_15 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).mg k := by
  have e := (mg_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r k).trans (congrArg (Row.mg · k) (brow_ld x0 x1 x2 x3 x4 x5 x6 x7 x8 x9 x10 arg1 h1 arg2 h2 arg3 h3 arg4 h4 arg5 h5 arg6 h6 arg7 h7 arg8 h8 arg9 h9 arg10 h10 arg11 h11 r))
  constructor <;> intros
  · unfold out0_A_15
    exact (View.read_writes_cons_unit_of_mem VO0_15 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e
  · unfold out0_B_15
    exact (View.read_writes_cons_unit_of_mem VO0_15 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e

theorem out16 (r : Fin 256) (k : Fin 1024) :
    (∀ hc, out0_A_16 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).dy k)
    ∧ ∀ hc xo19, out0_B_16 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).dy k := by
  have e := (dy_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r k).trans (congrArg (Row.dy · k) (brow_ld x0 x1 x2 x3 x4 x5 x6 x7 x8 x9 x10 arg1 h1 arg2 h2 arg3 h3 arg4 h4 arg5 h5 arg6 h6 arg7 h7 arg8 h8 arg9 h9 arg10 h10 arg11 h11 r))
  constructor <;> intros
  · unfold out0_A_16
    exact (View.read_writes_cons_unit_of_mem VO0_16 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e
  · unfold out0_B_16
    exact (View.read_writes_cons_unit_of_mem VO0_16 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e

theorem out17 (r : Fin 256) (k : Fin 1024) :
    (∀ hc, out0_A_17 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).dya k)
    ∧ ∀ hc xo19, out0_B_17 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).dya k := by
  have e := (dya_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r k).trans (congrArg (Row.dya · k) (brow_ld x0 x1 x2 x3 x4 x5 x6 x7 x8 x9 x10 arg1 h1 arg2 h2 arg3 h3 arg4 h4 arg5 h5 arg6 h6 arg7 h7 arg8 h8 arg9 h9 arg10 h10 arg11 h11 r))
  constructor <;> intros
  · unfold out0_A_17
    exact (View.read_writes_cons_unit_of_mem VO0_17 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e
  · unfold out0_B_17
    exact (View.read_writes_cons_unit_of_mem VO0_17 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e

theorem out18 (r : Fin 256) (k : Fin 1024) :
    (∀ hc, out0_A_18 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).dyb k)
    ∧ ∀ hc xo19, out0_B_18 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).dyb k := by
  have e := (dyb_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r k).trans (congrArg (Row.dyb · k) (brow_ld x0 x1 x2 x3 x4 x5 x6 x7 x8 x9 x10 arg1 h1 arg2 h2 arg3 h3 arg4 h4 arg5 h5 arg6 h6 arg7 h7 arg8 h8 arg9 h9 arg10 h10 arg11 h11 r))
  constructor <;> intros
  · unfold out0_A_18
    exact (View.read_writes_cons_unit_of_mem VO0_18 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e
  · unfold out0_B_18
    exact (View.read_writes_cons_unit_of_mem VO0_18 _ _ _ _ (ix2 r k) (ix2 r k) (funext fun a => by match a with | ⟨0, _⟩ => rfl | ⟨1, _⟩ => rfl)
    (fun a => by match a with | ⟨0, _⟩ => exact (Nat.zero_add _).symm | ⟨1, _⟩ => exact (Nat.zero_add _).symm)).trans e

theorem out12 (r : Fin 256) (k : Fin 2048) :
    (∀ hc, out0_A_12 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 r k) = (brow x0 x1 x2 x3 x4 x5 x6 x7 x8 x9 x10 r).dg k)
    ∧ ∀ hc xo19, out0_B_12 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 r k) = (brow x0 x1 x2 x3 x4 x5 x6 x7 x8 x9 x10 r).dg k := by
  unfold Row.dg
  by_cases h : k.val < 1024
  · have e := (dga_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r ⟨k.val, h⟩).trans (congrArg (Row.dga · _) (brow_ld x0 x1 x2 x3 x4 x5 x6 x7 x8 x9 x10 arg1 h1 arg2 h2 arg3 h3 arg4 h4 arg5 h5 arg6 h6 arg7 h7 arg8 h8 arg9 h9 arg10 h10 arg11 h11 r))
    rw [dif_pos h]
    constructor <;> intros
    · unfold out0_A_12
      refine (View.read_writes_cons_unit_of_not_mem VO0_12 _ _ _ _ (off' := ![0, 1024]) (ix2 r k) rfl (1 : Fin 2) (Or.inl h)).trans ?_
      exact (View.read_writes_cons_unit_of_mem VO0_12 _ _ _ _ (ix2 r k) (ix2 r (⟨k.val, h⟩ : Fin 1024)) (funext fun a => by match a with | ⟨0, _⟩ => rfl | ⟨1, _⟩ => rfl)
        (fun a => by match a with | ⟨0, _⟩ => exact (Nat.zero_add _).symm | ⟨1, _⟩ => exact (Nat.zero_add _).symm)).trans e
    · unfold out0_B_12
      refine (View.read_writes_cons_unit_of_not_mem VO0_12 _ _ _ _ (off' := ![0, 1024]) (ix2 r k) rfl (1 : Fin 2) (Or.inl h)).trans ?_
      exact (View.read_writes_cons_unit_of_mem VO0_12 _ _ _ _ (ix2 r k) (ix2 r (⟨k.val, h⟩ : Fin 1024)) (funext fun a => by match a with | ⟨0, _⟩ => rfl | ⟨1, _⟩ => rfl)
        (fun a => by match a with | ⟨0, _⟩ => exact (Nat.zero_add _).symm | ⟨1, _⟩ => exact (Nat.zero_add _).symm)).trans e
  · have e := (dgb_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) r ⟨k.val - 1024, by omega⟩).trans (congrArg (Row.dgb · _) (brow_ld x0 x1 x2 x3 x4 x5 x6 x7 x8 x9 x10 arg1 h1 arg2 h2 arg3 h3 arg4 h4 arg5 h5 arg6 h6 arg7 h7 arg8 h8 arg9 h9 arg10 h10 arg11 h11 r))
    rw [dif_neg h]
    constructor <;> intros
    · unfold out0_A_12
      exact (View.read_writes_cons_unit_of_mem VO0_12 _ _ _ _ (ix2 r k) (ix2 r (⟨k.val - 1024, by omega⟩ : Fin 1024)) (funext fun a => by match a with | ⟨0, _⟩ => rfl | ⟨1, _⟩ => rfl)
    (fun a => by match a with | ⟨0, _⟩ => exact (Nat.zero_add _).symm | ⟨1, _⟩ => show k.val = 1024 + (k.val - 1024); omega)).trans e
    · unfold out0_B_12
      exact (View.read_writes_cons_unit_of_mem VO0_12 _ _ _ _ (ix2 r k) (ix2 r (⟨k.val - 1024, by omega⟩ : Fin 1024)) (funext fun a => by match a with | ⟨0, _⟩ => rfl | ⟨1, _⟩ => rfl)
    (fun a => by match a with | ⟨0, _⟩ => exact (Nat.zero_add _).symm | ⟨1, _⟩ => show k.val = 1024 + (k.val - 1024); omega)).trans e

/-! ## The small results' rows -/

theorem sm_ld (q : ℕ) (k : Fin 1024) : sm (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) q k = sm x0 x1 x2 x3 x4 x5 x6 x7 x8 x9 x10 q k :=
  Finset.sum_congr rfl fun r _ => congrArg (Row.small · q k) (brow_ld x0 x1 x2 x3 x4 x5 x6 x7 x8 x9 x10 arg1 h1 arg2 h2 arg3 h3 arg4 h4 arg5 h5 arg6 h6 arg7 h7 arg8 h8 arg9 h9 arg10 h10 arg11 h11 r)

theorem row_load (xo : Vec Ideal S8x1024 .f32) (q : ℕ) (hq : q < 8) (inb) (k : Fin 1024) :
    View.readAt (Elt Ideal) arg20.view (Rect.unit (s := S8x1024) ![q, 0] ![1, 1024] inb).toLoadRect (h20.unread xo) (ix2 (0 : Fin 1) k) = xo (ix2 ⟨q, hq⟩ k) :=
  load_apply arg20 h20 xo _ _ inb (ix2 (0 : Fin 1) k) (ix2 ⟨q, hq⟩ k) (Fin.forall_fin_two.2 ⟨rfl, (Nat.zero_add _).symm⟩)

set_option maxHeartbeats 1000000 in
theorem out19_B (hc : ¬cond0_0 i) (xo19 : Vec Ideal S8x1024 .f32) (q : Fin 8) (k : Fin 1024) :
    out0_B_19 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 xo19 (ix2 q k) = xo19 (ix2 q k) + sm x0 x1 x2 x3 x4 x5 x6 x7 x8 x9 x10 q.val k := by
  by_cases hq1 : q.val = 1
  · obtain rfl : q = 1 := Fin.ext hq1
    unfold out0_B_19
    refine (View.read_writes_cons_rows_of_mem arg20.view _ (o := 1) _ _ _ (ix2 1 k) (ix2 (0 : Fin 1) k) rfl rfl rfl).trans ?_
    exact (row1_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) k _ _ (row_load arg20 h20 xo19 1 (by omega) _ k)).trans (congrArg _ (sm_ld x0 x1 x2 x3 x4 x5 x6 x7 x8 x9 x10 arg1 h1 arg2 h2 arg3 h3 arg4 h4 arg5 h5 arg6 h6 arg7 h7 arg8 h8 arg9 h9 arg10 h10 arg11 h11 1 k))
  by_cases hq0 : q.val = 0
  · obtain rfl : q = 0 := Fin.ext hq0
    unfold out0_B_19
    refine (View.read_writes_cons_rows_of_not_mem arg20.view _ (o := 1) (W := 1) _ _ _ (ix2 0 k) rfl rfl (Or.inl Nat.zero_lt_one)).trans ?_
    refine (View.read_writes_cons_rows_of_mem arg20.view _ (o := 0) _ _ _ (ix2 0 k) (ix2 (0 : Fin 1) k) rfl rfl rfl).trans ?_
    exact (row0_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) k _ _ (row_load arg20 h20 xo19 0 (by omega) _ k)).trans (congrArg _ (sm_ld x0 x1 x2 x3 x4 x5 x6 x7 x8 x9 x10 arg1 h1 arg2 h2 arg3 h3 arg4 h4 arg5 h5 arg6 h6 arg7 h7 arg8 h8 arg9 h9 arg10 h10 arg11 h11 0 k))
  by_cases hq2 : q.val = 2
  · obtain rfl : q = 2 := Fin.ext hq2
    unfold out0_B_19
    refine (View.read_writes_cons_rows_of_not_mem arg20.view _ (o := 1) (W := 1) _ _ _ (ix2 2 k) rfl rfl (Or.inr (Nat.le_refl 2))).trans ?_
    refine (View.read_writes_cons_rows_of_not_mem arg20.view _ (o := 0) (W := 1) _ _ _ (ix2 2 k) rfl rfl (Or.inr (show 0 + 1 ≤ 2 by omega))).trans ?_
    refine (View.read_writes_cons_rows_of_mem arg20.view _ (o := 2) _ _ _ (ix2 2 k) (ix2 (0 : Fin 1) k) rfl rfl rfl).trans ?_
    exact (row2_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) k _ _ (row_load arg20 h20 xo19 2 (by omega) _ k)).trans (congrArg _ (sm_ld x0 x1 x2 x3 x4 x5 x6 x7 x8 x9 x10 arg1 h1 arg2 h2 arg3 h3 arg4 h4 arg5 h5 arg6 h6 arg7 h7 arg8 h8 arg9 h9 arg10 h10 arg11 h11 2 k))
  unfold out0_B_19
  refine (View.read_writes_cons_rows_of_not_mem arg20.view _ (o := 1) (W := 1) _ _ _ (ix2 q k) rfl rfl
    (show q.val < 1 ∨ 1 + 1 ≤ q.val by omega)).trans ?_
  refine (View.read_writes_cons_rows_of_not_mem arg20.view _ (o := 0) (W := 1) _ _ _ (ix2 q k) rfl rfl
    (show q.val < 0 ∨ 0 + 1 ≤ q.val by omega)).trans ?_
  refine (View.read_writes_cons_rows_of_not_mem arg20.view _ (o := 2) (W := 1) _ _ _ (ix2 q k) rfl rfl
    (show q.val < 2 ∨ 2 + 1 ≤ q.val by omega)).trans ?_
  rw [sm_zero x0 x1 x2 x3 x4 x5 x6 x7 x8 x9 x10 k q.val (by omega), add_zero]
  exact congrFun (h20.read_unread xo19) (ix2 q k)

theorem fill_zero (r : Rect S8x1024) (y : r.shape.Idx) : arg20.view.readCov (Val := Elt Ideal) kernelRun0_A.sl.H19_1 r.toLoadRect y = 0 :=
  (congrFun (View.readCov_fill (Val := Elt Ideal) (e := .f32) arg20.view (off := ![0, 0]) inb_S8x1024_S8x1024_0_0 (k0_pay5 (F := Ideal)) [] r
    (Fin.forall_fin_two.2 ⟨rfl, rfl⟩)) y).trans (pay5_apply _)

theorem v43_zero (k : Fin 1024) : kernelRun0_A.sl.v43 (F := Ideal) c arg20 (ix2 (0 : Fin 1) k) = 0 := fill_zero arg20 _ _

theorem v61_zero (k : Fin 1024) : kernelRun0_A.sl.v61 (F := Ideal) c arg1 h1 arg2 h2 arg3 h3 arg4 h4 arg5 h5 arg6 h6 arg7 h7 arg8 h8 arg9 h9 arg10 h10 arg11 h11 arg20 x0 x1 x2 x3 x4 x5 x6 x7 x8 x9 x10 (ix2 (0 : Fin 1) k) = 0 := by
  unfold kernelRun0_A.sl.v61 kernelRun0_A.sl.H19_2
  rw [View.readCov_skip _ _ _ _ _ (by decide)]
  exact fill_zero arg20 _ _

theorem v70_zero (k : Fin 1024) : kernelRun0_A.sl.v70 (F := Ideal) c arg1 h1 arg2 h2 arg3 h3 arg4 h4 arg5 h5 arg6 h6 arg7 h7 arg8 h8 arg9 h9 arg10 h10 arg11 h11 arg20 x0 x1 x2 x3 x4 x5 x6 x7 x8 x9 x10 (ix2 (0 : Fin 1) k) = 0 := by
  unfold kernelRun0_A.sl.v70 kernelRun0_A.sl.H19_3 kernelRun0_A.sl.H19_2
  rw [View.readCov_skip _ _ _ _ _ (by decide), View.readCov_skip _ _ _ _ _ (by decide)]
  exact fill_zero arg20 _ _

set_option maxHeartbeats 1000000 in
theorem out19_A (hc : cond0_0 i) (q : Fin 8) (k : Fin 1024) :
    out0_A_19 (F := Ideal) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 hc x0 x1 x2 x3 x4 x5 x6 x7 x8 x9 x10 (ix2 q k) = 0 + sm x0 x1 x2 x3 x4 x5 x6 x7 x8 x9 x10 q.val k := by
  by_cases hq1 : q.val = 1
  · obtain rfl : q = 1 := Fin.ext hq1
    unfold out0_A_19
    refine (View.read_writes_cons_rows_of_mem VO0_19 _ (o := 1) _ _ _ (ix2 1 k) (ix2 (0 : Fin 1) k) rfl rfl rfl).trans ?_
    exact (row1_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) k _ _ (v70_zero x0 x1 x2 x3 x4 x5 x6 x7 x8 x9 x10 c arg1 h1 arg2 h2 arg3 h3 arg4 h4 arg5 h5 arg6 h6 arg7 h7 arg8 h8 arg9 h9 arg10 h10 arg11 h11 arg20 k)).trans (congrArg _ (sm_ld x0 x1 x2 x3 x4 x5 x6 x7 x8 x9 x10 arg1 h1 arg2 h2 arg3 h3 arg4 h4 arg5 h5 arg6 h6 arg7 h7 arg8 h8 arg9 h9 arg10 h10 arg11 h11 1 k))
  by_cases hq0 : q.val = 0
  · obtain rfl : q = 0 := Fin.ext hq0
    unfold out0_A_19
    refine (View.read_writes_cons_rows_of_not_mem VO0_19 _ (o := 1) (W := 1) _ _ _ (ix2 0 k) rfl rfl (Or.inl Nat.zero_lt_one)).trans ?_
    refine (View.read_writes_cons_rows_of_mem VO0_19 _ (o := 0) _ _ _ (ix2 0 k) (ix2 (0 : Fin 1) k) rfl rfl rfl).trans ?_
    exact (row0_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) k _ _ (v61_zero x0 x1 x2 x3 x4 x5 x6 x7 x8 x9 x10 c arg1 h1 arg2 h2 arg3 h3 arg4 h4 arg5 h5 arg6 h6 arg7 h7 arg8 h8 arg9 h9 arg10 h10 arg11 h11 arg20 k)).trans (congrArg _ (sm_ld x0 x1 x2 x3 x4 x5 x6 x7 x8 x9 x10 arg1 h1 arg2 h2 arg3 h3 arg4 h4 arg5 h5 arg6 h6 arg7 h7 arg8 h8 arg9 h9 arg10 h10 arg11 h11 0 k))
  by_cases hq2 : q.val = 2
  · obtain rfl : q = 2 := Fin.ext hq2
    unfold out0_A_19
    refine (View.read_writes_cons_rows_of_not_mem VO0_19 _ (o := 1) (W := 1) _ _ _ (ix2 2 k) rfl rfl (Or.inr (Nat.le_refl 2))).trans ?_
    refine (View.read_writes_cons_rows_of_not_mem VO0_19 _ (o := 0) (W := 1) _ _ _ (ix2 2 k) rfl rfl (Or.inr (show 0 + 1 ≤ 2 by omega))).trans ?_
    refine (View.read_writes_cons_rows_of_mem VO0_19 _ (o := 2) _ _ _ (ix2 2 k) (ix2 (0 : Fin 1) k) rfl rfl rfl).trans ?_
    exact (row2_apply (ld arg1 h1 x0) (ld arg2 h2 x1) (ld arg3 h3 x2) (ld arg4 h4 x3) (ld arg5 h5 x4) (ld arg6 h6 x5) (ld arg7 h7 x6) (ld arg8 h8 x7) (ld arg9 h9 x8) (ld arg10 h10 x9) (ld arg11 h11 x10) k _ _ (v43_zero c arg20 k)).trans (congrArg _ (sm_ld x0 x1 x2 x3 x4 x5 x6 x7 x8 x9 x10 arg1 h1 arg2 h2 arg3 h3 arg4 h4 arg5 h5 arg6 h6 arg7 h7 arg8 h8 arg9 h9 arg10 h10 arg11 h11 2 k))
  unfold out0_A_19
  refine (View.read_writes_cons_rows_of_not_mem VO0_19 _ (o := 1) (W := 1) _ _ _ (ix2 q k) rfl rfl
    (show q.val < 1 ∨ 1 + 1 ≤ q.val by omega)).trans ?_
  refine (View.read_writes_cons_rows_of_not_mem VO0_19 _ (o := 0) (W := 1) _ _ _ (ix2 q k) rfl rfl
    (show q.val < 0 ∨ 0 + 1 ≤ q.val by omega)).trans ?_
  refine (View.read_writes_cons_rows_of_not_mem VO0_19 _ (o := 2) (W := 1) _ _ _ (ix2 q k) rfl rfl
    (show q.val < 2 ∨ 2 + 1 ≤ q.val by omega)).trans ?_
  rw [sm_zero x0 x1 x2 x3 x4 x5 x6 x7 x8 x9 x10 k q.val (by omega), add_zero]
  exact (View.read_writes_cons_rows_of_mem VO0_19 _ (o := 0) _ _ _ (ix2 q k) (ix2 q k) rfl (Nat.zero_add _).symm rfl).trans (pay5_apply _)

end Block

end Cert.Head

end
-- ==== Proof.HeadValue.lean ====
/- The head's kernel: what it leaves in its nine results, over whole arrays. -/
module

public import proofs.«01_k».proof.Proof.Gen.KernelHeadIdeal.Value
public import proofs.«01_k».proof.Proof.HeadBlock
public import proofs.«01_k».proof.Proof.WeightGrad
public import Idealize.ShloMosaic.Lib.StableHlo.RunRead

@[expose] public section

set_option maxRecDepth 16384

noncomputable section

namespace Cert.Head

open Idealize.ShloMosaic Idealize.ShloMosaic.TcCoe Idealize.SL.Sem
open Cert.KernelHeadIdeal Cert.KernelHeadIdeal.Gen Cert.KernelHeadIdeal.Value Cert.WeightGrad

variable (m : (ℓ : Loc nD τ sig) → Buf (Elt Ideal) ℓ) (c : Dev nD)

/-- The kernel's arguments: the two branches, the projection, the input, the target, the output's gate, the norm's gain, and
    the three output weights. -/
abbrev A0 : S8192x2048.Idx → EReal := m ((c.tc : Thread nD τ).loc main_arg0)
abbrev A1 : S8192x1024.Idx → EReal := m ((c.tc : Thread nD τ).loc main_arg1)
abbrev A2 : S8192x11264.Idx → EReal := m ((c.tc : Thread nD τ).loc main_arg2)
abbrev A3 : S8192x1024.Idx → EReal := m ((c.tc : Thread nD τ).loc main_arg3)
abbrev A4 : S8192x1024.Idx → EReal := m ((c.tc : Thread nD τ).loc main_arg4)
abbrev A5 : S1x1024.Idx → EReal := m ((c.tc : Thread nD τ).loc main_arg5)
abbrev A6 : S1x1024.Idx → EReal := m ((c.tc : Thread nD τ).loc main_arg6)
abbrev A7 : S2048x1024.Idx → EReal := m ((c.tc : Thread nD τ).loc main_arg7)
abbrev A8 : S1024x1024.Idx → EReal := m ((c.tc : Thread nD τ).loc main_arg8)
abbrev A9 : S1024x1024.Idx → EReal := m ((c.tc : Thread nD τ).loc main_arg9)

/-- Row `n` of the arguments. -/
abbrev arg (n : Fin 8192) : Row := arow (A0 m c) (A1 m c) (A2 m c) (A3 m c) (A4 m c) (A5 m c) (A6 m c) (A7 m c) (A8 m c) (A9 m c) n

def partN (q : ℕ) (k : Fin 1024) (n : ℕ) : EReal := if h : n < 8192 then (arg m c ⟨n, h⟩).small q k else 0

/-! ## The blocks of the arguments -/

/-- The windows that move with the point, and the ones that stay. -/
theorem index_rows : ∀ t : Fin cfg0.N, (win0_0.index t = ![t.val, 0] ∧ win0_1.index t = ![t.val, 0] ∧ win0_2.index t = ![t.val, 9]
    ∧ win0_3.index t = ![t.val, 10] ∧ win0_4.index t = ![t.val, 0] ∧ win0_5.index t = ![t.val, 0])
  := (by decide +kernel : ∀ t : Fin grid0.N, _)

theorem index_fixed : ∀ t : Fin cfg0.N, (win0_6.index t = ![0, 0] ∧ win0_7.index t = ![0, 0] ∧ win0_8.index t = ![0, 0]
    ∧ win0_9.index t = ![0, 0] ∧ win0_10.index t = ![0, 0] ∧ win0_19.index t = ![0, 0])
  := (by decide +kernel : ∀ t : Fin grid0.N, _)

theorem index_results : ∀ t : Fin cfg0.N, (win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0])
  := (by decide +kernel : ∀ t : Fin grid0.N, _)

theorem V_wr : V m c main_v0 = A7 m c := by
  show StableHlo.after hostOps0 (fun b => m (c, b)) main_v0 = _
  unfold hostOps0
  after_reads_simp
  rfl

theorem V_wc : V m c main_v1 = A8 m c := by
  show StableHlo.after hostOps0 (fun b => m (c, b)) main_v1 = _
  unfold hostOps0
  after_reads_simp
  rfl

theorem V_wo : V m c main_v2 = A9 m c := by
  show StableHlo.after hostOps0 (fun b => m (c, b)) main_v2 = _
  unfold hostOps0
  after_reads_simp
  rfl

def row (t : Fin cfg0.N) (r : Fin 256) : Fin 8192 := ⟨256 * t.val + r.val, by have := t.isLt; have : cfg0.N = 32 := N_0; omega⟩

/-- An index of an `a × b` array with the places a window of `a' × b'` blocks gives it. -/
theorem place {a b : ℕ} (p : Fin 2 → ℕ) (u v a' b' : ℕ) (hp : p = ![u, v]) (x y : ℕ) (i : (⟨2, ![a, b]⟩ : Shape).Idx) (n : Fin a) (k : Fin b)
    (h0 : (i 0).val = p 0 * a' + 1 * x) (h1 : (i 1).val = p 1 * b' + 1 * y) (hn : n.val = a' * u + x) (hk : k.val = b' * v + y) :
    i = ix2 n k := by
  subst hp
  funext j
  refine Fin.ext ?_
  match j with
  | ⟨0, _⟩ => show (i 0).val = n.val; rw [h0, hn]; show u * a' + 1 * x = _; rw [Nat.mul_comm, Nat.one_mul]
  | ⟨1, _⟩ => show (i 1).val = k.val; rw [h1, hk]; show v * b' + 1 * y = _; rw [Nat.mul_comm, Nat.one_mul]

theorem block0 (t : Fin cfg0.N) (r : Fin 256) (j : Fin 2048) : iblk m c 0 t (ix2 r j) = A0 m c (ix2 (row t r) j) :=
  congrArg (A0 m c) (place (win0_0.index t) t.val 0 256 2048 ((index_rows t).1) r.val j.val _ _ _ rfl rfl rfl (by simp))

theorem block1 (t : Fin cfg0.N) (r : Fin 256) (j : Fin 1024) : iblk m c 1 t (ix2 r j) = A1 m c (ix2 (row t r) j) :=
  congrArg (A1 m c) (place (win0_1.index t) t.val 0 256 1024 ((index_rows t).2.1) r.val j.val _ _ _ rfl rfl rfl (by simp))

theorem block2 (t : Fin cfg0.N) (r : Fin 256) (j : Fin 1024) : iblk m c 2 t (ix2 r j) = A2 m c (ix2 (row t r) ⟨9216 + j.val, by omega⟩) :=
  congrArg (A2 m c) (place (win0_2.index t) t.val 9 256 1024 ((index_rows t).2.2.1) r.val j.val _ _ _ rfl rfl rfl (by rfl))

theorem block3 (t : Fin cfg0.N) (r : Fin 256) (j : Fin 1024) : iblk m c 3 t (ix2 r j) = A2 m c (ix2 (row t r) ⟨10240 + j.val, by omega⟩) :=
  congrArg (A2 m c) (place (win0_3.index t) t.val 10 256 1024 ((index_rows t).2.2.2.1) r.val j.val _ _ _ rfl rfl rfl (by rfl))

theorem block4 (t : Fin cfg0.N) (r : Fin 256) (j : Fin 1024) : iblk m c 4 t (ix2 r j) = A3 m c (ix2 (row t r) j) :=
  congrArg (A3 m c) (place (win0_4.index t) t.val 0 256 1024 ((index_rows t).2.2.2.2.1) r.val j.val _ _ _ rfl rfl rfl (by simp))

theorem block5 (t : Fin cfg0.N) (r : Fin 256) (j : Fin 1024) : iblk m c 5 t (ix2 r j) = A4 m c (ix2 (row t r) j) :=
  congrArg (A4 m c) (place (win0_5.index t) t.val 0 256 1024 ((index_rows t).2.2.2.2.2) r.val j.val _ _ _ rfl rfl rfl (by simp))

theorem block6 (t : Fin cfg0.N) (r : Fin 1) (j : Fin 1024) : iblk m c 6 t (ix2 r j) = A5 m c (ix2 r j) :=
  congrArg (A5 m c) (place (win0_6.index t) 0 0 1 1024 ((index_fixed t).1) r.val j.val _ _ _ rfl rfl (by simp) (by simp))

theorem block7 (t : Fin cfg0.N) (r : Fin 1) (j : Fin 1024) : iblk m c 7 t (ix2 r j) = A6 m c (ix2 r j) :=
  congrArg (A6 m c) (place (win0_7.index t) 0 0 1 1024 ((index_fixed t).2.1) r.val j.val _ _ _ rfl rfl (by simp) (by simp))

theorem block8 (t : Fin cfg0.N) (r : Fin 2048) (j : Fin 1024) : iblk m c 8 t (ix2 r j) = A7 m c (ix2 r j) :=
  (congrArg (V m c main_v0) (place (win0_8.index t) 0 0 2048 1024 ((index_fixed t).2.2.1) r.val j.val _ _ _ rfl rfl (by simp) (by simp))).trans
    (congrFun (V_wr m c) (ix2 r j))

theorem block9 (t : Fin cfg0.N) (r : Fin 1024) (j : Fin 1024) : iblk m c 9 t (ix2 r j) = A8 m c (ix2 r j) :=
  (congrArg (V m c main_v1) (place (win0_9.index t) 0 0 1024 1024 ((index_fixed t).2.2.2.1) r.val j.val _ _ _ rfl rfl (by simp) (by simp))).trans
    (congrFun (V_wc m c) (ix2 r j))

theorem block10 (t : Fin cfg0.N) (r : Fin 1024) (j : Fin 1024) : iblk m c 10 t (ix2 r j) = A9 m c (ix2 r j) :=
  (congrArg (V m c main_v2) (place (win0_10.index t) 0 0 1024 1024 ((index_fixed t).2.2.2.2.1) r.val j.val _ _ _ rfl rfl (by simp) (by simp))).trans
    (congrFun (V_wo m c) (ix2 r j))

/-- A point's row of the blocks is the arguments' row. -/
theorem brow_eq (t : Fin cfg0.N) (r : Fin 256) :
    brow (iblk m c 0 t) (iblk m c 1 t) (iblk m c 2 t) (iblk m c 3 t) (iblk m c 4 t) (iblk m c 5 t) (iblk m c 6 t) (iblk m c 7 t) (iblk m c 8 t) (iblk m c 9 t) (iblk m c 10 t) r
      = arg m c (row t r) := by
  unfold arg arow brow
  rw [funext (block0 m c t r), funext (block1 m c t r), funext (block2 m c t r), funext (block3 m c t r), funext (block4 m c t r),
    funext (block5 m c t r), funext (block6 m c t 0), funext (block7 m c t 0), funext fun j => funext (block8 m c t j),
    funext fun j => funext (block9 m c t j), funext fun j => funext (block10 m c t j)]

theorem sm_eq (t : Fin cfg0.N) (q : ℕ) (k : Fin 1024) :
    sm (iblk m c 0 t) (iblk m c 1 t) (iblk m c 2 t) (iblk m c 3 t) (iblk m c 4 t) (iblk m c 5 t) (iblk m c 6 t) (iblk m c 7 t) (iblk m c 8 t) (iblk m c 9 t) (iblk m c 10 t) q k
      = ∑ r ∈ Finset.range 256, partN m c q k (256 * t.val + r) := by
  rw [Finset.sum_range]
  refine Finset.sum_congr rfl fun r _ => (congrArg (fun R : Row => R.small q k) (brow_eq m c t r)).trans ?_
  unfold partN
  rw [dif_pos (show 256 * t.val + r.val < 8192 from (row t r).isLt)]
  rfl

/-! ## A point's results over the arrays -/

theorem out11_eq (t : Fin cfg0.N) (r : Fin 256) (k : Fin 1024) : (outsAt0 m c t.val t.isLt).1 (ix2 r k) = (arg m c (row t r)).dout k := by
  rw [← brow_eq m c t r]
  by_cases h : t.val % 32 = 0
  · rw [outsAt0_A m c t h]
    dsimp only
    exact (out11 ..).1 _
  · rw [outsAt0_B m c t h]
    dsimp only
    exact (out11 ..).2 _ _

theorem out12_eq (t : Fin cfg0.N) (r : Fin 256) (k : Fin 2048) : (outsAt0 m c t.val t.isLt).2.1 (ix2 r k) = (arg m c (row t r)).dg k := by
  rw [← brow_eq m c t r]
  by_cases h : t.val % 32 = 0
  · rw [outsAt0_A m c t h]
    dsimp only
    exact (out12 ..).1 _
  · rw [outsAt0_B m c t h]
    dsimp only
    exact (out12 ..).2 _ _

theorem out13_eq (t : Fin cfg0.N) (r : Fin 256) (k : Fin 2048) : (outsAt0 m c t.val t.isLt).2.2.1 (ix2 r k) = (arg m c (row t r)).dpa k := by
  rw [← brow_eq m c t r]
  by_cases h : t.val % 32 = 0
  · rw [outsAt0_A m c t h]
    dsimp only
    exact (out13 ..).1 _
  · rw [outsAt0_B m c t h]
    dsimp only
    exact (out13 ..).2 _ _

theorem out14_eq (t : Fin cfg0.N) (r : Fin 256) (k : Fin 1024) : (outsAt0 m c t.val t.isLt).2.2.2.1 (ix2 r k) = (arg m c (row t r)).dpb k := by
  rw [← brow_eq m c t r]
  by_cases h : t.val % 32 = 0
  · rw [outsAt0_A m c t h]
    dsimp only
    exact (out14 ..).1 _
  · rw [outsAt0_B m c t h]
    dsimp only
    exact (out14 ..).2 _ _

theorem out15_eq (t : Fin cfg0.N) (r : Fin 256) (k : Fin 1024) : (outsAt0 m c t.val t.isLt).2.2.2.2.1 (ix2 r k) = (arg m c (row t r)).mg k := by
  rw [← brow_eq m c t r]
  by_cases h : t.val % 32 = 0
  · rw [outsAt0_A m c t h]
    dsimp only
    exact (out15 ..).1 _
  · rw [outsAt0_B m c t h]
    dsimp only
    exact (out15 ..).2 _ _

theorem out16_eq (t : Fin cfg0.N) (r : Fin 256) (k : Fin 1024) : (outsAt0 m c t.val t.isLt).2.2.2.2.2.1 (ix2 r k) = (arg m c (row t r)).dy k := by
  rw [← brow_eq m c t r]
  by_cases h : t.val % 32 = 0
  · rw [outsAt0_A m c t h]
    dsimp only
    exact (out16 ..).1 _
  · rw [outsAt0_B m c t h]
    dsimp only
    exact (out16 ..).2 _ _

theorem out17_eq (t : Fin cfg0.N) (r : Fin 256) (k : Fin 1024) : (outsAt0 m c t.val t.isLt).2.2.2.2.2.2.1 (ix2 r k) = (arg m c (row t r)).dya k := by
  rw [← brow_eq m c t r]
  by_cases h : t.val % 32 = 0
  · rw [outsAt0_A m c t h]
    dsimp only
    exact (out17 ..).1 _
  · rw [outsAt0_B m c t h]
    dsimp only
    exact (out17 ..).2 _ _

theorem out18_eq (t : Fin cfg0.N) (r : Fin 256) (k : Fin 1024) : (outsAt0 m c t.val t.isLt).2.2.2.2.2.2.2.1 (ix2 r k) = (arg m c (row t r)).dyb k := by
  rw [← brow_eq m c t r]
  by_cases h : t.val % 32 = 0
  · rw [outsAt0_A m c t h]
    dsimp only
    exact (out18 ..).1 _
  · rw [outsAt0_B m c t h]
    dsimp only
    exact (out18 ..).2 _ _

theorem out19_eq (q : Fin 8) (k : Fin 1024) : ∀ n (hn : n < cfg0.N),
    (outsAt0 m c n hn).2.2.2.2.2.2.2.2 (ix2 q k) = ∑ s ∈ Finset.range (n + 1), ∑ r ∈ Finset.range 256, partN m c q.val k (256 * s + r) := by
  intro n
  have hN : cfg0.N = 32 := N_0
  induction n with
  | zero =>
    intro hn
    have e := outsAt0_A m c ⟨0, hn⟩ (Nat.zero_mod 32)
    rw [show outsAt0 m c 0 hn = _ from e, Finset.sum_range_one]
    dsimp only
    rw [out19_A, zero_add]
    exact sm_eq m c ⟨0, hn⟩ q.val k
  | succ n ih =>
    intro hn
    have h : ¬(n + 1) % 32 = 0 := by omega
    have e := outsAt0_B m c ⟨n + 1, hn⟩ h
    rw [show outsAt0 m c (n + 1) hn = _ from e, Finset.sum_range_succ]
    dsimp only
    rw [out19_B]
    exact congrArg₂ (· + ·) (ih _) (sm_eq m c ⟨n + 1, hn⟩ q.val k)

/-! ## The results -/

/-- The point that owns row `n`, and the row's place in its block. -/
def pt (n : Fin 8192) : Fin cfg0.N := ⟨n.val / 256, by have : cfg0.N = 32 := N_0; omega⟩
def loc (n : Fin 8192) : Fin 256 := ⟨n.val % 256, by omega⟩

theorem row_pt (n : Fin 8192) : row (pt n) (loc n) = n := Fin.ext (show 256 * (n.val / 256) + n.val % 256 = n.val by omega)

theorem at_pt (n : Fin 8192) : n.val = 256 * (pt n).val + (loc n).val := (Nat.div_add_mod n.val 256).symm

theorem flushes : ∀ t : Fin cfg0.N, ((cfg0.win 11).flush t = true ∧ (cfg0.win 12).flush t = true ∧ (cfg0.win 13).flush t = true
    ∧ (cfg0.win 14).flush t = true ∧ (cfg0.win 15).flush t = true ∧ (cfg0.win 16).flush t = true ∧ (cfg0.win 17).flush t = true
    ∧ (cfg0.win 18).flush t = true) := (by decide +kernel : ∀ t : Fin cfg0.N, _)

theorem result11 (n : Fin 8192) (k : Fin 1024) : (dats m 0 c).arrAt 11 cfg0.N (ix2 n k) = (arg m c n).dout k := by
  refine (congrArg ((dats m 0 c).arrAt 11 cfg0.N) (place (win0_11.index (pt n)) (pt n).val 0 256 1024 ((index_results (pt n)).1)
    (loc n).val k.val (((cfg0.win 11).blk (pt n)).view.emb (ix2 (loc n) k)) n k rfl rfl (at_pt n) (by simp))).symm.trans ?_
  refine (congrFun (blocks11 m c (pt n) (flushes (pt n)).1) (ix2 (loc n) k)).trans ?_
  rw [flushed11]
  exact (out11_eq m c (pt n) (loc n) k).trans (by rw [row_pt])

theorem result12 (n : Fin 8192) (k : Fin 2048) : (dats m 0 c).arrAt 12 cfg0.N (ix2 n k) = (arg m c n).dg k := by
  refine (congrArg ((dats m 0 c).arrAt 12 cfg0.N) (place (win0_12.index (pt n)) (pt n).val 0 256 2048 ((index_results (pt n)).2.1)
    (loc n).val k.val (((cfg0.win 12).blk (pt n)).view.emb (ix2 (loc n) k)) n k rfl rfl (at_pt n) (by simp))).symm.trans ?_
  refine (congrFun (blocks12 m c (pt n) (flushes (pt n)).2.1) (ix2 (loc n) k)).trans ?_
  rw [flushed12]
  exact (out12_eq m c (pt n) (loc n) k).trans (by rw [row_pt])

theorem result13 (n : Fin 8192) (k : Fin 2048) : (dats m 0 c).arrAt 13 cfg0.N (ix2 n k) = (arg m c n).dpa k := by
  refine (congrArg ((dats m 0 c).arrAt 13 cfg0.N) (place (win0_13.index (pt n)) (pt n).val 0 256 2048 ((index_results (pt n)).2.2.1)
    (loc n).val k.val (((cfg0.win 13).blk (pt n)).view.emb (ix2 (loc n) k)) n k rfl rfl (at_pt n) (by simp))).symm.trans ?_
  refine (congrFun (blocks13 m c (pt n) (flushes (pt n)).2.2.1) (ix2 (loc n) k)).trans ?_
  rw [flushed13]
  exact (out13_eq m c (pt n) (loc n) k).trans (by rw [row_pt])

theorem result14 (n : Fin 8192) (k : Fin 1024) : (dats m 0 c).arrAt 14 cfg0.N (ix2 n k) = (arg m c n).dpb k := by
  refine (congrArg ((dats m 0 c).arrAt 14 cfg0.N) (place (win0_14.index (pt n)) (pt n).val 0 256 1024 ((index_results (pt n)).2.2.2.1)
    (loc n).val k.val (((cfg0.win 14).blk (pt n)).view.emb (ix2 (loc n) k)) n k rfl rfl (at_pt n) (by simp))).symm.trans ?_
  refine (congrFun (blocks14 m c (pt n) (flushes (pt n)).2.2.2.1) (ix2 (loc n) k)).trans ?_
  rw [flushed14]
  exact (out14_eq m c (pt n) (loc n) k).trans (by rw [row_pt])

theorem result15 (n : Fin 8192) (k : Fin 1024) : (dats m 0 c).arrAt 15 cfg0.N (ix2 n k) = (arg m c n).mg k := by
  refine (congrArg ((dats m 0 c).arrAt 15 cfg0.N) (place (win0_15.index (pt n)) (pt n).val 0 256 1024 ((index_results (pt n)).2.2.2.2.1)
    (loc n).val k.val (((cfg0.win 15).blk (pt n)).view.emb (ix2 (loc n) k)) n k rfl rfl (at_pt n) (by simp))).symm.trans ?_
  refine (congrFun (blocks15 m c (pt n) (flushes (pt n)).2.2.2.2.1) (ix2 (loc n) k)).trans ?_
  rw [flushed15]
  exact (out15_eq m c (pt n) (loc n) k).trans (by rw [row_pt])

theorem result16 (n : Fin 8192) (k : Fin 1024) : (dats m 0 c).arrAt 16 cfg0.N (ix2 n k) = (arg m c n).dy k := by
  refine (congrArg ((dats m 0 c).arrAt 16 cfg0.N) (place (win0_16.index (pt n)) (pt n).val 0 256 1024 ((index_results (pt n)).2.2.2.2.2.1)
    (loc n).val k.val (((cfg0.win 16).blk (pt n)).view.emb (ix2 (loc n) k)) n k rfl rfl (at_pt n) (by simp))).symm.trans ?_
  refine (congrFun (blocks16 m c (pt n) (flushes (pt n)).2.2.2.2.2.1) (ix2 (loc n) k)).trans ?_
  rw [flushed16]
  exact (out16_eq m c (pt n) (loc n) k).trans (by rw [row_pt])

theorem result17 (n : Fin 8192) (k : Fin 1024) : (dats m 0 c).arrAt 17 cfg0.N (ix2 n k) = (arg m c n).dya k := by
  refine (congrArg ((dats m 0 c).arrAt 17 cfg0.N) (place (win0_17.index (pt n)) (pt n).val 0 256 1024 ((index_results (pt n)).2.2.2.2.2.2.1)
    (loc n).val k.val (((cfg0.win 17).blk (pt n)).view.emb (ix2 (loc n) k)) n k rfl rfl (at_pt n) (by simp))).symm.trans ?_
  refine (congrFun (blocks17 m c (pt n) (flushes (pt n)).2.2.2.2.2.2.1) (ix2 (loc n) k)).trans ?_
  rw [flushed17]
  exact (out17_eq m c (pt n) (loc n) k).trans (by rw [row_pt])

theorem result18 (n : Fin 8192) (k : Fin 1024) : (dats m 0 c).arrAt 18 cfg0.N (ix2 n k) = (arg m c n).dyb k := by
  refine (congrArg ((dats m 0 c).arrAt 18 cfg0.N) (place (win0_18.index (pt n)) (pt n).val 0 256 1024 ((index_results (pt n)).2.2.2.2.2.2.2)
    (loc n).val k.val (((cfg0.win 18).blk (pt n)).view.emb (ix2 (loc n) k)) n k rfl rfl (at_pt n) (by simp))).symm.trans ?_
  refine (congrFun (blocks18 m c (pt n) (flushes (pt n)).2.2.2.2.2.2.2) (ix2 (loc n) k)).trans ?_
  rw [flushed18]
  exact (out18_eq m c (pt n) (loc n) k).trans (by rw [row_pt])

theorem flush19 : ∀ t : Fin cfg0.N, (cfg0.win 19).flush t = true → t.val = 31 :=
  (by decide +kernel : ∀ t : Fin cfg0.N, (cfg0.win 19).flush t = true → t.val = 31)

theorem result19 (q : Fin 8) (k : Fin 1024) : (dats m 0 c).arrAt 19 cfg0.N (ix2 q k) = ∑ n : Fin 8192, (arg m c n).small q.val k := by
  have hN : cfg0.N = 32 := N_0
  let t : Fin cfg0.N := ⟨31, by omega⟩
  have hf : (cfg0.win 19).flush t = true := (by decide +kernel : ∀ t : Fin cfg0.N, t.val = 31 → (cfg0.win 19).flush t = true) t rfl
  refine (congrArg ((dats m 0 c).arrAt 19 cfg0.N) (place (win0_19.index t) 0 0 8 1024 (index_fixed t).2.2.2.2.2
    q.val k.val (((cfg0.win 19).blk t).view.emb (ix2 q k)) q k rfl rfl (by simp) (by simp))).symm.trans ?_
  refine (congrFun ((dats m 0 c).read_blk_arrAt_eq_flushed 19
    (fun t t' h h' hne => absurd (Fin.ext ((flush19 t h).trans (flush19 t' h').symm)) hne) cfg0.N t t.isLt hf) (ix2 q k)).trans ?_
  rw [flushed19]
  refine (out19_eq m c q k 31 t.isLt).trans ?_
  rw [sum_blocks, Finset.sum_range]
  exact Finset.sum_congr rfl fun n _ => dif_pos n.isLt

end Cert.Head

end
-- ==== Proof.HeadResult.lean ====
/- The head: what the reference leaves in each result is what the kernel leaves there. -/
module

public import proofs.«01_k».proof.Proof.HeadReference
public import proofs.«01_k».proof.Proof.HeadValue

@[expose] public section

set_option maxRecDepth 16384

noncomputable section

namespace Cert.Head

open Idealize.ShloMosaic Idealize.ShloMosaic.TcCoe Idealize.SL.Sem
open Cert.KernelHeadIdeal Cert.KernelHeadIdeal.Gen Cert.ReferenceHeadIdeal.Read

variable (m : (ℓ : Loc nD τ sig) → Buf (Elt Ideal) ℓ) (c : Dev nD)

/-- Two arrays equal at every pair of places are equal. -/
theorem ext2 {a b : ℕ} {f g : (⟨2, ![a, b]⟩ : Shape).Idx → EReal} (h : ∀ n k, f (ix2 n k) = g (ix2 n k)) : f = g :=
  funext fun i => by
    rw [show i = ix2 (i 0) (i 1) from funext fun j => match j with | ⟨0, _⟩ => rfl | ⟨1, _⟩ => rfl]
    exact h _ _

theorem reference11 : val_main_v60 (F := Ideal) (A0 m c) (A1 m c) (A2 m c) (A3 m c) (A4 m c) (A5 m c) (A6 m c) (A7 m c) (A8 m c) (A9 m c) = (dats m 0 c).arrAt 11 cfg0.N :=
  ext2 fun n k => (r60 (A0 m c) (A1 m c) (A2 m c) (A3 m c) (A4 m c) (A5 m c) (A6 m c) (A7 m c) (A8 m c) (A9 m c) n k).trans (result11 m c n k).symm

theorem reference12 : val_main_v96 (F := Ideal) (A0 m c) (A1 m c) (A2 m c) (A3 m c) (A4 m c) (A5 m c) (A6 m c) (A7 m c) (A8 m c) (A9 m c) = (dats m 0 c).arrAt 12 cfg0.N :=
  ext2 fun n k => (r95 (A0 m c) (A1 m c) (A2 m c) (A3 m c) (A4 m c) (A5 m c) (A6 m c) (A7 m c) (A8 m c) (A9 m c) n k).trans (result12 m c n k).symm

theorem reference13 : val_main_v97 (F := Ideal) (A0 m c) (A1 m c) (A2 m c) (A3 m c) (A4 m c) (A5 m c) (A6 m c) (A7 m c) (A8 m c) (A9 m c) = (dats m 0 c).arrAt 13 cfg0.N :=
  ext2 fun n k => (r97 (A0 m c) (A1 m c) (A2 m c) (A3 m c) (A4 m c) (A5 m c) (A6 m c) (A7 m c) (A8 m c) (A9 m c) n k).trans (result13 m c n k).symm

theorem reference14 : val_main_v98 (F := Ideal) (A0 m c) (A1 m c) (A2 m c) (A3 m c) (A4 m c) (A5 m c) (A6 m c) (A7 m c) (A8 m c) (A9 m c) = (dats m 0 c).arrAt 14 cfg0.N :=
  ext2 fun n k => (r98 (A0 m c) (A1 m c) (A2 m c) (A3 m c) (A4 m c) (A5 m c) (A6 m c) (A7 m c) (A8 m c) (A9 m c) n k).trans (result14 m c n k).symm

theorem reference15 : val_main_v99 (F := Ideal) (A0 m c) (A1 m c) (A2 m c) (A7 m c) (A8 m c) = (dats m 0 c).arrAt 15 cfg0.N :=
  ext2 fun n k => (r26 (A0 m c) (A1 m c) (A2 m c) (A3 m c) (A4 m c) (A5 m c) (A6 m c) (A7 m c) (A8 m c) (A9 m c) n k).trans (result15 m c n k).symm

theorem reference16 : val_main_v100 (F := Ideal) (A0 m c) (A1 m c) (A2 m c) (A3 m c) (A4 m c) (A5 m c) (A6 m c) (A7 m c) (A8 m c) (A9 m c) = (dats m 0 c).arrAt 16 cfg0.N :=
  ext2 fun n k => (r84 (A0 m c) (A1 m c) (A2 m c) (A3 m c) (A4 m c) (A5 m c) (A6 m c) (A7 m c) (A8 m c) (A9 m c) n k).trans (result16 m c n k).symm

theorem reference17 : val_main_v101 (F := Ideal) (A0 m c) (A1 m c) (A2 m c) (A3 m c) (A4 m c) (A5 m c) (A6 m c) (A7 m c) (A8 m c) (A9 m c) = (dats m 0 c).arrAt 17 cfg0.N :=
  ext2 fun n k => (r89 (A0 m c) (A1 m c) (A2 m c) (A3 m c) (A4 m c) (A5 m c) (A6 m c) (A7 m c) (A8 m c) (A9 m c) n k).trans (result17 m c n k).symm

theorem reference18 : val_main_v102 (F := Ideal) (A0 m c) (A1 m c) (A2 m c) (A3 m c) (A4 m c) (A5 m c) (A6 m c) (A7 m c) (A8 m c) (A9 m c) = (dats m 0 c).arrAt 18 cfg0.N :=
  ext2 fun n k => (r86 (A0 m c) (A1 m c) (A2 m c) (A3 m c) (A4 m c) (A5 m c) (A6 m c) (A7 m c) (A8 m c) (A9 m c) n k).trans (result18 m c n k).symm

theorem reference19 : val_main_v94 (F := Ideal) (A0 m c) (A1 m c) (A2 m c) (A3 m c) (A4 m c) (A5 m c) (A6 m c) (A7 m c) (A8 m c) (A9 m c) = (dats m 0 c).arrAt 19 cfg0.N :=
  ext2 fun q k => (r94 (A0 m c) (A1 m c) (A2 m c) (A3 m c) (A4 m c) (A5 m c) (A6 m c) (A7 m c) (A8 m c) (A9 m c) q k).trans (result19 m c q k).symm

end Cert.Head

end
-- ==== Proof.Adam.lean ====
/- The optimiser's step on one element, and the sum over the eight devices: what the optimiser's programs share. -/
module

public import Idealize.ShloMosaic.Lib.Pipeline.Value
public import Idealize.ShloMosaic.Lib.ValueIdx
public import Idealize.ShloMosaic.PureOps.Ideal.Laws

@[expose] public section

noncomputable section

namespace Cert.Adam

open Idealize.ShloMosaic Idealize.ShloMosaic.ValueIdx

variable {F : FTy → Type} [FloatOps F]

/-- The first moment after the step. -/
def first (g m : F .f32) : F .f32 :=
  FloatOps.addf (FloatOps.mulf (Scalar.ofBits .f32 0x3F666666#32) m) (FloatOps.mulf (Scalar.ofBits .f32 0x3DCCCCCD#32) g)

/-- The second moment after the step. -/
def second (g v : F .f32) : F .f32 :=
  FloatOps.addf (FloatOps.mulf (Scalar.ofBits .f32 0x3F7FBE77#32) v)
    (FloatOps.mulf (Scalar.ofBits .f32 0x3A83126F#32) (FloatOps.mulf g g))

/-- What the step adds to the weight. -/
def delta (g w m v : F .f32) : F .f32 :=
  FloatOps.mulf (Scalar.ofBits .f32 0xBA83126F#32)
    (FloatOps.addf
      (FloatOps.divf (FloatOps.divf (first g m) (Scalar.ofBits .f32 0x3F26BD02#32))
        (FloatOps.addf (FloatOps.sqrt (FloatOps.divf (second g v) (Scalar.ofBits .f32 0x3C231ACC#32))) (Scalar.ofBits .f32 0x322BCC77#32)))
      (FloatOps.mulf (Scalar.ofBits .f32 0x3C23D70A#32) w))

/-- The eight devices' parts added one after another are their sum. -/
theorem eight (f : Fin 8 → EReal) : f 0 + f 1 + f 2 + f 3 + f 4 + f 5 + f 6 + f 7 = ∑ p : Fin 8, f p :=
  (Fin.sum_univ_eight f).symm

/-- Two arrays equal at every pair of places are equal. -/
theorem ext2 {a b : ℕ} {f g : (⟨2, ![a, b]⟩ : Shape).Idx → EReal} (h : ∀ n k, f (ix2 n k) = g (ix2 n k)) : f = g :=
  funext fun i => by
    rw [show i = ix2 (i 0) (i 1) from funext fun j => match j with | ⟨0, _⟩ => rfl | ⟨1, _⟩ => rfl]
    exact h _ _

/-- An index of an `a × b` array in the block of 128 rows that a window gives it. -/
theorem place2 {a b : ℕ} (p : Fin 2 → ℕ) (t : ℕ) (hp : p = ![t, 0]) (x y : ℕ) (i : (⟨2, ![a, b]⟩ : Shape).Idx) (n : Fin a) (k : Fin b)
    (h0 : (i 0).val = p 0 * 128 + 1 * x) (h1 : (i 1).val = p 1 * b + 1 * y) (hn : n.val = 128 * t + x) (hk : k.val = y) :
    i = ix2 n k := by
  subst hp
  funext j
  refine Fin.ext ?_
  match j with
  | ⟨0, _⟩ => show (i 0).val = n.val; rw [h0, hn]; show t * 128 + 1 * x = _; omega
  | ⟨1, _⟩ => show (i 1).val = k.val; rw [h1, hk]; show 0 * b + 1 * y = _; omega

/-- The same for a stack of eight arrays. -/
theorem place3 {a b : ℕ} (p : Fin 3 → ℕ) (t : ℕ) (hp : p = ![0, t, 0]) (q : Fin 8) (x y : ℕ) (i : (⟨3, ![8, a, b]⟩ : Shape).Idx)
    (n : Fin a) (k : Fin b) (hq : (i 0).val = p 0 * 8 + 1 * q.val) (h0 : (i 1).val = p 1 * 128 + 1 * x)
    (h1 : (i 2).val = p 2 * b + 1 * y) (hn : n.val = 128 * t + x) (hk : k.val = y) :
    i = ix3 q n k := by
  subst hp
  funext j
  refine Fin.ext ?_
  match j with
  | ⟨0, _⟩ => show (i 0).val = q.val; rw [hq]; show 0 * 8 + 1 * q.val = _; omega
  | ⟨1, _⟩ => show (i 1).val = n.val; rw [h0, hn]; show t * 128 + 1 * x = _; omega
  | ⟨2, _⟩ => show (i 2).val = k.val; rw [h1, hk]; show 0 * b + 1 * y = _; omega

/-- Device `q`'s part, read through a rectangle that lies in it. -/
theorem part {a b : ℕ} (x : (⟨3, ![8, a, b]⟩ : Shape).Idx → EReal) (q : Fin 8) (n : Fin a) (k : Fin b)
    (i : (⟨3, ![8, a, b]⟩ : Shape).Idx) (h0 : (i 0).val = q.val + 1 * 0) (h1 : (i 1).val = 0 + 1 * n.val) (h2 : (i 2).val = 0 + 1 * k.val) :
    x i = x (ix3 q n k) :=
  congrArg x (funext fun j => Fin.ext (match j with
    | ⟨0, _⟩ => h0.trans (Nat.add_zero _)
    | ⟨1, _⟩ => h1.trans (by show 0 + 1 * n.val = n.val; omega)
    | ⟨2, _⟩ => h2.trans (by show 0 + 1 * k.val = k.val; omega)))

end Cert.Adam

end
-- ==== Proof.SumDevices.lean ====
/- The sums over the eight devices: what the kernel leaves in its result is what the reference leaves there. -/
module

public import proofs.«01_k».proof.Proof.Gen.KernelSumSmallIdeal.Value
public import proofs.«01_k».proof.Proof.Gen.ReferenceSumSmallIdeal.Read
public import proofs.«01_k».proof.Proof.Gen.KernelSumConvWIdeal.Value
public import proofs.«01_k».proof.Proof.Gen.ReferenceSumConvWIdeal.Read
public import proofs.«01_k».proof.Proof.Adam

@[expose] public section

set_option maxRecDepth 16384

noncomputable section

open Idealize.ShloMosaic Idealize.ShloMosaic.ValueIdx Cert.Adam

namespace Cert.SumSmall

open Cert.KernelSumSmallIdeal Cert.KernelSumSmallIdeal.Gen Cert.KernelSumSmallIdeal.Value

variable (g : S8x16x1024.Idx → EReal)

theorem total (n : Fin 16) (k : Fin 1024) : G1 (F := Ideal) g (ix2 n k) = ∑ p : Fin 8, g (ix3 p n k) := by
  have h := canon1_eq (F := Ideal) (View.ld g r0_0) (View.ld g r0_1) (View.ld g r0_2) (View.ld g r0_3) (View.ld g r0_4) (View.ld g r0_5)
    (View.ld g r0_6) (View.ld g r0_7) (ix2 n k)
  rw [View.canon_unit_zero hz1] at h
  refine h.trans (Eq.trans ?_ (eight fun p => g (ix3 p n k)))
  exact congrArg₂ (· + ·) (congrArg₂ (· + ·) (congrArg₂ (· + ·) (congrArg₂ (· + ·) (congrArg₂ (· + ·) (congrArg₂ (· + ·) (congrArg₂ (· + ·)
    (part g 0 n k _ rfl rfl rfl) (part g 1 n k _ rfl rfl rfl)) (part g 2 n k _ rfl rfl rfl)) (part g 3 n k _ rfl rfl rfl))
    (part g 4 n k _ rfl rfl rfl)) (part g 5 n k _ rfl rfl rfl)) (part g 6 n k _ rfl rfl rfl)) (part g 7 n k _ rfl rfl rfl)

open Cert.ReferenceSumSmallIdeal.Read in
theorem reference_eq : val_main_v0 (F := Ideal) g = G1 (F := Ideal) g := ext2 fun n k => by
  rw [total, val_main_v0_apply, show val_main_cst (F := Ideal) _ = 0 from Ideal.ofBits_zero_f32, zero_add]
  refine Finset.sum_congr rfl fun p _ => congrArg g (funext fun a => ?_)
  match a with
  | ⟨0, _⟩ => rfl
  | ⟨1, _⟩ => rfl
  | ⟨2, _⟩ => rfl

end Cert.SumSmall

namespace Cert.SumConvW

open Cert.KernelSumConvWIdeal Cert.KernelSumConvWIdeal.Gen Cert.KernelSumConvWIdeal.Value

variable (g : S8x32x128.Idx → EReal)

theorem total (n : Fin 32) (k : Fin 128) : G1 (F := Ideal) g (ix2 n k) = ∑ p : Fin 8, g (ix3 p n k) := by
  have h := canon1_eq (F := Ideal) (View.ld g r0_0) (View.ld g r0_1) (View.ld g r0_2) (View.ld g r0_3) (View.ld g r0_4) (View.ld g r0_5)
    (View.ld g r0_6) (View.ld g r0_7) (ix2 n k)
  rw [View.canon_unit_zero hz1] at h
  refine h.trans (Eq.trans ?_ (eight fun p => g (ix3 p n k)))
  exact congrArg₂ (· + ·) (congrArg₂ (· + ·) (congrArg₂ (· + ·) (congrArg₂ (· + ·) (congrArg₂ (· + ·) (congrArg₂ (· + ·) (congrArg₂ (· + ·)
    (part g 0 n k _ rfl rfl rfl) (part g 1 n k _ rfl rfl rfl)) (part g 2 n k _ rfl rfl rfl)) (part g 3 n k _ rfl rfl rfl))
    (part g 4 n k _ rfl rfl rfl)) (part g 5 n k _ rfl rfl rfl)) (part g 6 n k _ rfl rfl rfl)) (part g 7 n k _ rfl rfl rfl)

open Cert.ReferenceSumConvWIdeal.Read in
theorem reference_eq : val_main_v0 (F := Ideal) g = G1 (F := Ideal) g := ext2 fun n k => by
  rw [total, val_main_v0_apply, show val_main_cst (F := Ideal) _ = 0 from Ideal.ofBits_zero_f32, zero_add]
  refine Finset.sum_congr rfl fun p _ => congrArg g (funext fun a => ?_)
  match a with
  | ⟨0, _⟩ => rfl
  | ⟨1, _⟩ => rfl
  | ⟨2, _⟩ => rfl

end Cert.SumConvW

end
-- ==== Proof.GradWAdaValue.lean ====
/- The gradient of w_ada: what the kernel leaves in its result is the reference's product of the conditions' transpose and the
   modulation's cotangent. -/
module

public import proofs.«01_k».proof.Proof.Gen.KernelGradWAdaIdeal.Value
public import proofs.«01_k».proof.Proof.Gen.ReferenceGradWAdaIdeal.Read
public import proofs.«01_k».proof.Proof.Adam
public import Idealize.ShloMosaic.Lib.StableHlo.RunRead

@[expose] public section

set_option maxRecDepth 16384

noncomputable section

namespace Cert.GradWAda

open Idealize.ShloMosaic Idealize.ShloMosaic.TcCoe Idealize.ShloMosaic.ValueIdx Idealize.SL.Sem
open Cert.KernelGradWAdaIdeal Cert.KernelGradWAdaIdeal.Gen Cert.KernelGradWAdaIdeal.Value Cert.Adam

variable (m : (ℓ : Loc nD τ sig) → Buf (Elt Ideal) ℓ) (c : Dev nD)

/-- The kernel's arguments: the devices' conditions, and the cotangent of their modulation. -/
abbrev C : S8x1024.Idx → EReal := m ((c.tc : Thread nD τ).loc main_arg0)
abbrev D : S8x384.Idx → EReal := m ((c.tc : Thread nD τ).loc main_arg1)

theorem V_transposed : V m c main_v0 = transpose S1024x8 [1, 0] (C m c) transposes_S8x1024_S1024x8_1_0 := by
  show StableHlo.after hostOps0 (fun b => m (c, b)) main_v0 = _
  unfold hostOps0
  after_reads_simp

theorem index_facts : ∀ t : Fin cfg0.N, win0_0.index t = ![0, 0] ∧ win0_1.index t = ![0, 0] ∧ win0_2.index t = ![0, 0]
    ∧ (cfg0.win 2).flush t = true :=
  (by decide +kernel : ∀ t : Fin grid0.N, _)

/-- The one block of an array is the array. -/
theorem place {a b : ℕ} (p : Fin 2 → ℕ) (hp : p = ![0, 0]) (i : (⟨2, ![a, b]⟩ : Shape).Idx) (n : Fin a) (k : Fin b)
    (h0 : (i 0).val = p 0 * a + 1 * n.val) (h1 : (i 1).val = p 1 * b + 1 * k.val) : i = ix2 n k := by
  subst hp
  funext j
  refine Fin.ext ?_
  match j with
  | ⟨0, _⟩ => show (i 0).val = n.val; rw [h0]; show 0 * a + 1 * n.val = _; omega
  | ⟨1, _⟩ => show (i 1).val = k.val; rw [h1]; show 0 * b + 1 * k.val = _; omega

theorem block0 (t : Fin cfg0.N) (n : Fin 1024) (p : Fin 8) : iblk m c 0 t (ix2 n p) = C m c (ix2 p n) := by
  refine (congrArg (V m c main_v0) (place (win0_0.index t) (index_facts t).1 (((cfg0.win 0).blk t).view.emb (ix2 n p)) n p rfl rfl)).trans ?_
  rw [V_transposed]
  exact transpose_apply [1, 0] (C m c) transposes_S8x1024_S1024x8_1_0 (ix2 n p) (ix2 p n) (fun b => match b with
    | ⟨0, _⟩ => rfl
    | ⟨1, _⟩ => rfl)

theorem block1 (t : Fin cfg0.N) (p : Fin 8) (k : Fin 384) : iblk m c 1 t (ix2 p k) = D m c (ix2 p k) :=
  congrArg (D m c) (place (win0_1.index t) (index_facts t).2.1 _ p k rfl rfl)

/-- A column of the transposed conditions, and a row of the cotangents. -/
theorem col (x : S1024x8.Idx → EReal) (p : Fin 8) (n : Fin 1024) (i : S1024x8.Idx) (h0 : (i 0).val = 0 + 1 * n.val)
    (h1 : (i 1).val = p.val + 1 * 0) : x i = x (ix2 n p) :=
  congrArg x (funext fun j => Fin.ext (match j with
    | ⟨0, _⟩ => h0.trans (by show 0 + 1 * n.val = n.val; omega)
    | ⟨1, _⟩ => h1.trans (Nat.add_zero _)))

theorem row (x : S8x384.Idx → EReal) (p : Fin 8) (k : Fin 384) (i : S8x384.Idx) (h0 : (i 0).val = p.val + 1 * 0)
    (h1 : (i 1).val = 0 + 1 * k.val) : x i = x (ix2 p k) :=
  congrArg x (funext fun j => Fin.ext (match j with
    | ⟨0, _⟩ => h0.trans (Nat.add_zero _)
    | ⟨1, _⟩ => h1.trans (by show 0 + 1 * k.val = k.val; omega)))

theorem out2_eq (x0 : Vec Ideal S1024x8 .f32) (x1 : Vec Ideal S8x384 .f32) (n : Fin 1024) (k : Fin 384) :
    out0_2 x0 x1 (ix2 n k) = ∑ p : Fin 8, x0 (ix2 n p) * x1 (ix2 p k) := by
  unfold out0_2
  refine (canon2_eq (F := Ideal) (View.ld x0 r0_0) (View.ld x1 r0_1) (View.ld x0 r0_2) (View.ld x1 r0_3) (View.ld x0 r0_4) (View.ld x1 r0_5)
    (View.ld x0 r0_6) (View.ld x1 r0_7) (View.ld x0 r0_8) (View.ld x1 r0_9) (View.ld x0 r0_10) (View.ld x1 r0_11) (View.ld x0 r0_12)
    (View.ld x1 r0_13) (View.ld x0 r0_14) (View.ld x1 r0_15) (ix2 n k)).trans ?_
  have e : ∀ (p : Fin 8) (i : S1024x8.Idx) (j : S8x384.Idx), (i 0).val = 0 + 1 * n.val → (i 1).val = p.val + 1 * 0
      → (j 0).val = p.val + 1 * 0 → (j 1).val = 0 + 1 * k.val → x0 i * x1 j = x0 (ix2 n p) * x1 (ix2 p k) :=
    fun p i j h0 h1 h2 h3 => congrArg₂ (· * ·) (col x0 p n i h0 h1) (row x1 p k j h2 h3)
  refine Eq.trans ?_ (eight fun p => x0 (ix2 n p) * x1 (ix2 p k))
  exact congrArg₂ (· + ·) (congrArg₂ (· + ·) (congrArg₂ (· + ·) (congrArg₂ (· + ·) (congrArg₂ (· + ·) (congrArg₂ (· + ·) (congrArg₂ (· + ·)
    (e 0 _ _ rfl rfl rfl rfl) (e 1 _ _ rfl rfl rfl rfl)) (e 2 _ _ rfl rfl rfl rfl)) (e 3 _ _ rfl rfl rfl rfl))
    (e 4 _ _ rfl rfl rfl rfl)) (e 5 _ _ rfl rfl rfl rfl)) (e 6 _ _ rfl rfl rfl rfl)) (e 7 _ _ rfl rfl rfl rfl)

theorem result (n : Fin 1024) (k : Fin 384) : (dats m 0 c).arrAt 2 cfg0.N (ix2 n k) = ∑ p : Fin 8, C m c (ix2 p n) * D m c (ix2 p k) := by
  let t : Fin cfg0.N := ⟨0, by decide⟩
  refine (congrArg ((dats m 0 c).arrAt 2 cfg0.N) (place (win0_2.index t) (index_facts t).2.2.1
    (((cfg0.win 2).blk t).view.emb (ix2 n k)) n k rfl rfl)).symm.trans ?_
  refine (congrFun (blocks2 m c t (index_facts t).2.2.2) (ix2 n k)).trans ?_
  rw [flushed2]
  refine (out2_eq (iblk m c 0 t) (iblk m c 1 t) n k).trans (Finset.sum_congr rfl fun p _ => ?_)
  exact congrArg₂ (· * ·) (block0 m c t n p) (block1 m c t p k)

open Cert.ReferenceGradWAdaIdeal.Read in
theorem reference_eq : val_main_v3 (F := Ideal) (C m c) (D m c) = (dats m 0 c).arrAt 2 cfg0.N := ext2 fun n k => by
  rw [result, val_main_v3_apply, val_main_v2_apply]
  refine Finset.sum_congr rfl fun p _ => (mul_comm _ _).trans (congrArg₂ (· * ·) (congrArg (C m c) ?_) (congrArg (D m c) ?_)) <;>
  · funext a
    match a with
    | ⟨0, _⟩ => rfl
    | ⟨1, _⟩ => rfl

end Cert.GradWAda

end
-- ==== Proof.AdamSmallValue.lean ====
/- The optimiser on the replicated leaves: what the kernel leaves in its results is what the reference leaves there. -/
module

public import proofs.«01_k».proof.Proof.Gen.KernelAdamSmallIdeal.Value
public import proofs.«01_k».proof.Proof.Gen.ReferenceAdamSmallIdeal.Read
public import proofs.«01_k».proof.Proof.Gen.KernelAdamConvWIdeal.Value
public import proofs.«01_k».proof.Proof.Gen.ReferenceAdamConvWIdeal.Read
public import proofs.«01_k».proof.Proof.Gen.KernelAdamWAdaIdeal.Value
public import proofs.«01_k».proof.Proof.Gen.ReferenceAdamWAdaIdeal.Read
public import Idealize.ShloMosaic.PureOps.Ideal.Laws

@[expose] public section

set_option maxRecDepth 16384

noncomputable section

open Idealize.ShloMosaic

namespace Cert.AdamSmall

open Cert.KernelAdamSmallIdeal Cert.KernelAdamSmallIdeal.Value Cert.ReferenceAdamSmallIdeal.Read

variable (g w m v : S8x1024.Idx → EReal)

theorem delta_eq : val_main_v23 (F := Ideal) g w m v = G4 (F := Ideal) w g m v := rfl
theorem first_eq : val_main_v4 (F := Ideal) g m = G5 (F := Ideal) g m := rfl
theorem second_eq : val_main_v10 (F := Ideal) g v = G6 (F := Ideal) g v := rfl

end Cert.AdamSmall

namespace Cert.AdamConvW

open Cert.KernelAdamConvWIdeal Cert.KernelAdamConvWIdeal.Value Cert.ReferenceAdamConvWIdeal.Read

variable (g w m v : S32x128.Idx → EReal)

theorem delta_eq : val_main_v23 (F := Ideal) g w m v = G4 (F := Ideal) w g m v := rfl
theorem first_eq : val_main_v4 (F := Ideal) g m = G5 (F := Ideal) g m := rfl
theorem second_eq : val_main_v10 (F := Ideal) g v = G6 (F := Ideal) g v := rfl

end Cert.AdamConvW

namespace Cert.AdamWAda

open Cert.KernelAdamWAdaIdeal Cert.KernelAdamWAdaIdeal.Value Cert.ReferenceAdamWAdaIdeal.Read

variable (g w m v : S1024x384.Idx → EReal)

theorem delta_eq : val_main_v23 (F := Ideal) g w m v = G4 (F := Ideal) w g m v := rfl
theorem first_eq : val_main_v4 (F := Ideal) g m = G5 (F := Ideal) g m := rfl
theorem second_eq : val_main_v10 (F := Ideal) g v = G6 (F := Ideal) g v := rfl

end Cert.AdamWAda

end
-- ==== Proof.AdamWInValue.lean ====
/- The optimiser on w_in's shard: what the kernel leaves in its four results is what the reference leaves there. -/
module

public import proofs.«01_k».proof.Proof.Gen.KernelAdamWInIdeal.Value
public import proofs.«01_k».proof.Proof.Gen.ReferenceAdamWInIdeal.Read
public import proofs.«01_k».proof.Proof.Adam

@[expose] public section

set_option maxRecDepth 16384

noncomputable section

namespace Cert.AdamWIn

open Idealize.ShloMosaic Idealize.ShloMosaic.TcCoe Idealize.ShloMosaic.ValueIdx Idealize.SL.Sem
open Cert.KernelAdamWInIdeal Cert.KernelAdamWInIdeal.Gen Cert.KernelAdamWInIdeal.Value Cert.Adam

variable (m : (ℓ : Loc nD τ sig) → Buf (Elt Ideal) ℓ) (c : Dev nD)

/-- The kernel's arguments: the eight devices' parts of the gradient, the weight, and its two moments. -/
abbrev G : S8x1024x1408.Idx → EReal := m ((c.tc : Thread nD τ).loc main_arg0)
abbrev W : S1024x1408.Idx → EReal := m ((c.tc : Thread nD τ).loc main_arg1)
abbrev M : S1024x1408.Idx → EReal := m ((c.tc : Thread nD τ).loc main_arg2)
abbrev S : S1024x1408.Idx → EReal := m ((c.tc : Thread nD τ).loc main_arg3)

/-- The gradient: the sum of the parts. -/
def grad (n : Fin 1024) (k : Fin 1408) : EReal := ∑ p : Fin 8, G m c (ix3 p n k)

theorem index_args : ∀ t : Fin cfg0.N, win0_0.index t = ![0, t.val, 0] ∧ win0_1.index t = ![t.val, 0] ∧ win0_2.index t = ![t.val, 0]
    ∧ win0_3.index t = ![t.val, 0] :=
  (by decide +kernel : ∀ t : Fin grid0.N, _)

theorem index_results : ∀ t : Fin cfg0.N, win0_4.index t = ![t.val, 0] ∧ win0_5.index t = ![t.val, 0] ∧ win0_6.index t = ![t.val, 0]
    ∧ win0_7.index t = ![t.val, 0] :=
  (by decide +kernel : ∀ t : Fin grid0.N, _)

def row (t : Fin cfg0.N) (r : Fin 128) : Fin 1024 := ⟨128 * t.val + r.val, by have := t.isLt; have : cfg0.N = 8 := N_0; omega⟩

theorem block0 (t : Fin cfg0.N) (p : Fin 8) (r : Fin 128) (k : Fin 1408) : iblk m c 0 t (ix3 p r k) = G m c (ix3 p (row t r) k) :=
  congrArg (G m c) (place3 (win0_0.index t) t.val (index_args t).1 p r.val k.val _ _ _ rfl rfl rfl rfl rfl)

theorem block1 (t : Fin cfg0.N) (r : Fin 128) (k : Fin 1408) : iblk m c 1 t (ix2 r k) = W m c (ix2 (row t r) k) :=
  congrArg (W m c) (place2 (win0_1.index t) t.val (index_args t).2.1 r.val k.val _ _ _ rfl rfl rfl rfl)

theorem block2 (t : Fin cfg0.N) (r : Fin 128) (k : Fin 1408) : iblk m c 2 t (ix2 r k) = M m c (ix2 (row t r) k) :=
  congrArg (M m c) (place2 (win0_2.index t) t.val (index_args t).2.2.1 r.val k.val _ _ _ rfl rfl rfl rfl)

theorem block3 (t : Fin cfg0.N) (r : Fin 128) (k : Fin 1408) : iblk m c 3 t (ix2 r k) = S m c (ix2 (row t r) k) :=
  congrArg (S m c) (place2 (win0_3.index t) t.val (index_args t).2.2.2 r.val k.val _ _ _ rfl rfl rfl rfl)

theorem zeros : (![0, 0] : Fin 2 → Nat) = fun _ => 0 := funext fun a => by fin_cases a <;> rfl

/-- A point's gradient is the sum of the eight parts' blocks. -/
theorem total (x0 : Vec Ideal S8x128x1408 .bf16) (r : Fin 128) (k : Fin 1408) :
    k0_pay4 (View.ld x0 r0_0) (View.ld x0 r0_1) (View.ld x0 r0_2) (View.ld x0 r0_3) (View.ld x0 r0_4) (View.ld x0 r0_5) (View.ld x0 r0_6)
      (View.ld x0 r0_7) (ix2 r k) = ∑ p : Fin 8, x0 (ix3 p r k) := by
  have h := canon4_eq (F := Ideal) (View.ld x0 r0_0) (View.ld x0 r0_1) (View.ld x0 r0_2) (View.ld x0 r0_3) (View.ld x0 r0_4) (View.ld x0 r0_5)
    (View.ld x0 r0_6) (View.ld x0 r0_7) (ix2 r k)
  rw [View.canon_unit_zero zeros] at h
  refine h.trans (Eq.trans ?_ (eight fun p => x0 (ix3 p r k)))
  exact congrArg₂ (· + ·) (congrArg₂ (· + ·) (congrArg₂ (· + ·) (congrArg₂ (· + ·) (congrArg₂ (· + ·) (congrArg₂ (· + ·) (congrArg₂ (· + ·)
    (part x0 0 r k _ rfl rfl rfl) (part x0 1 r k _ rfl rfl rfl)) (part x0 2 r k _ rfl rfl rfl)) (part x0 3 r k _ rfl rfl rfl))
    (part x0 4 r k _ rfl rfl rfl)) (part x0 5 r k _ rfl rfl rfl)) (part x0 6 r k _ rfl rfl rfl)) (part x0 7 r k _ rfl rfl rfl)

variable (t : Fin cfg0.N) (r : Fin 128) (k : Fin 1408)

theorem total_block (r : Fin 128) (k : Fin 1408) :
    k0_pay4 (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r k)
      = grad m c (row t r) k :=
  (total (iblk m c 0 t) r k).trans (Finset.sum_congr rfl fun p _ => block0 m c t p r k)

/-- What the body leaves in each result's block. -/
theorem out4_eq : out0_4 (iblk m c 0 t) (iblk m c 1 t) (iblk m c 2 t) (iblk m c 3 t) (ix2 r k) = grad m c (row t r) k := by
  unfold out0_4
  rw [View.canon_unit_zero zeros]
  exact total_block m c t r k

theorem out5_eq : out0_5 (iblk m c 0 t) (iblk m c 1 t) (iblk m c 2 t) (iblk m c 3 t) (ix2 r k)
    = delta (F := Ideal) (grad m c (row t r) k) (W m c (ix2 (row t r) k)) (M m c (ix2 (row t r) k)) (S m c (ix2 (row t r) k)) := by
  unfold out0_5 k0_pay5
  rw [View.canon_unit_zero zeros, View.ld_unit_zero zeros, View.ld_unit_zero zeros, View.ld_unit_zero zeros, ← total_block m c t r k,
    ← block1 m c t r k, ← block2 m c t r k, ← block3 m c t r k]
  rfl

theorem out6_eq : out0_6 (iblk m c 0 t) (iblk m c 1 t) (iblk m c 2 t) (iblk m c 3 t) (ix2 r k)
    = first (F := Ideal) (grad m c (row t r) k) (M m c (ix2 (row t r) k)) := by
  unfold out0_6 k0_pay5
  rw [View.canon_unit_zero zeros, View.ld_unit_zero zeros, ← total_block m c t r k, ← block2 m c t r k]
  rfl

theorem out7_eq : out0_7 (iblk m c 0 t) (iblk m c 1 t) (iblk m c 2 t) (iblk m c 3 t) (ix2 r k)
    = second (F := Ideal) (grad m c (row t r) k) (S m c (ix2 (row t r) k)) := by
  unfold out0_7 k0_pay5
  rw [View.canon_unit_zero zeros, View.ld_unit_zero zeros, ← total_block m c t r k, ← block3 m c t r k]
  rfl

/-! ## The results over whole arrays -/

def pt (n : Fin 1024) : Fin cfg0.N := ⟨n.val / 128, by have : cfg0.N = 8 := N_0; omega⟩
def loc (n : Fin 1024) : Fin 128 := ⟨n.val % 128, by omega⟩

theorem at_pt (n : Fin 1024) : n.val = 128 * (pt n).val + (loc n).val := (Nat.div_add_mod n.val 128).symm
theorem row_pt (n : Fin 1024) : row (pt n) (loc n) = n := Fin.ext (at_pt n).symm

theorem flushes : ∀ t : Fin cfg0.N, (cfg0.win 4).flush t = true ∧ (cfg0.win 5).flush t = true ∧ (cfg0.win 6).flush t = true
    ∧ (cfg0.win 7).flush t = true :=
  fun t => ⟨flush0_4 t, flush0_5 t, flush0_6 t, flush0_7 t⟩

variable (n : Fin 1024)

theorem result4 : (dats m 0 c).arrAt 4 cfg0.N (ix2 n k) = grad m c n k := by
  refine (congrArg ((dats m 0 c).arrAt 4 cfg0.N) (place2 (win0_4.index (pt n)) (pt n).val (index_results (pt n)).1
    (loc n).val k.val (((cfg0.win 4).blk (pt n)).view.emb (ix2 (loc n) k)) n k rfl rfl (at_pt n) rfl)).symm.trans ?_
  refine (congrFun (blocks4 m c (pt n) (flushes (pt n)).1) (ix2 (loc n) k)).trans ?_
  rw [flushed4]
  exact (out4_eq m c (pt n) (loc n) k).trans (by rw [row_pt])

theorem result5 : (dats m 0 c).arrAt 5 cfg0.N (ix2 n k)
    = delta (F := Ideal) (grad m c n k) (W m c (ix2 n k)) (M m c (ix2 n k)) (S m c (ix2 n k)) := by
  refine (congrArg ((dats m 0 c).arrAt 5 cfg0.N) (place2 (win0_5.index (pt n)) (pt n).val (index_results (pt n)).2.1
    (loc n).val k.val (((cfg0.win 5).blk (pt n)).view.emb (ix2 (loc n) k)) n k rfl rfl (at_pt n) rfl)).symm.trans ?_
  refine (congrFun (blocks5 m c (pt n) (flushes (pt n)).2.1) (ix2 (loc n) k)).trans ?_
  rw [flushed5]
  exact (out5_eq m c (pt n) (loc n) k).trans (by rw [row_pt])

theorem result6 : (dats m 0 c).arrAt 6 cfg0.N (ix2 n k) = first (F := Ideal) (grad m c n k) (M m c (ix2 n k)) := by
  refine (congrArg ((dats m 0 c).arrAt 6 cfg0.N) (place2 (win0_6.index (pt n)) (pt n).val (index_results (pt n)).2.2.1
    (loc n).val k.val (((cfg0.win 6).blk (pt n)).view.emb (ix2 (loc n) k)) n k rfl rfl (at_pt n) rfl)).symm.trans ?_
  refine (congrFun (blocks6 m c (pt n) (flushes (pt n)).2.2.1) (ix2 (loc n) k)).trans ?_
  rw [flushed6]
  exact (out6_eq m c (pt n) (loc n) k).trans (by rw [row_pt])

theorem result7 : (dats m 0 c).arrAt 7 cfg0.N (ix2 n k) = second (F := Ideal) (grad m c n k) (S m c (ix2 n k)) := by
  refine (congrArg ((dats m 0 c).arrAt 7 cfg0.N) (place2 (win0_7.index (pt n)) (pt n).val (index_results (pt n)).2.2.2
    (loc n).val k.val (((cfg0.win 7).blk (pt n)).view.emb (ix2 (loc n) k)) n k rfl rfl (at_pt n) rfl)).symm.trans ?_
  refine (congrFun (blocks7 m c (pt n) (flushes (pt n)).2.2.2) (ix2 (loc n) k)).trans ?_
  rw [flushed7]
  exact (out7_eq m c (pt n) (loc n) k).trans (by rw [row_pt])

/-! ## The reference -/

open Cert.ReferenceAdamWInIdeal.Read

theorem summed : val_main_v1 (F := Ideal) (G m c) (ix2 n k) = grad m c n k := by
  rw [val_main_v1_apply, show val_main_cst (F := Ideal) _ = 0 from Ideal.ofBits_zero_f32, zero_add]
  refine Finset.sum_congr rfl fun p _ => congrArg (G m c) (funext fun a => ?_)
  match a with
  | ⟨0, _⟩ => rfl
  | ⟨1, _⟩ => rfl
  | ⟨2, _⟩ => rfl

theorem reference4 : val_main_v1 (F := Ideal) (G m c) = (dats m 0 c).arrAt 4 cfg0.N :=
  ext2 fun n k => (summed m c k n).trans (result4 m c k n).symm

theorem reference5 : val_main_v25 (F := Ideal) (G m c) (W m c) (M m c) (S m c) = (dats m 0 c).arrAt 5 cfg0.N :=
  ext2 fun n k => by
    rw [result5, ← summed]
    rfl

theorem reference6 : val_main_v6 (F := Ideal) (G m c) (M m c) = (dats m 0 c).arrAt 6 cfg0.N :=
  ext2 fun n k => by
    rw [result6, ← summed]
    rfl

theorem reference7 : val_main_v12 (F := Ideal) (G m c) (S m c) = (dats m 0 c).arrAt 7 cfg0.N :=
  ext2 fun n k => by
    rw [result7, ← summed]
    rfl

end Cert.AdamWIn

end
-- ==== Proof.AdamWRetOutValue.lean ====
/- The optimiser on w_ret_out's shard: what the kernel leaves in its four results is what the reference leaves there. -/
module

public import proofs.«01_k».proof.Proof.Gen.KernelAdamWRetOutIdeal.Value
public import proofs.«01_k».proof.Proof.Gen.ReferenceAdamWRetOutIdeal.Read
public import proofs.«01_k».proof.Proof.Adam

@[expose] public section

set_option maxRecDepth 16384

noncomputable section

namespace Cert.AdamWRetOut

open Idealize.ShloMosaic Idealize.ShloMosaic.TcCoe Idealize.ShloMosaic.ValueIdx Idealize.SL.Sem
open Cert.KernelAdamWRetOutIdeal Cert.KernelAdamWRetOutIdeal.Gen Cert.KernelAdamWRetOutIdeal.Value Cert.Adam

variable (m : (ℓ : Loc nD τ sig) → Buf (Elt Ideal) ℓ) (c : Dev nD)

/-- The kernel's arguments: the eight devices' parts of the gradient, the weight, and its two moments. -/
abbrev G : S8x256x1024.Idx → EReal := m ((c.tc : Thread nD τ).loc main_arg0)
abbrev W : S256x1024.Idx → EReal := m ((c.tc : Thread nD τ).loc main_arg1)
abbrev M : S256x1024.Idx → EReal := m ((c.tc : Thread nD τ).loc main_arg2)
abbrev S : S256x1024.Idx → EReal := m ((c.tc : Thread nD τ).loc main_arg3)

/-- The gradient: the sum of the parts. -/
def grad (n : Fin 256) (k : Fin 1024) : EReal := ∑ p : Fin 8, G m c (ix3 p n k)

theorem index_args : ∀ t : Fin cfg0.N, win0_0.index t = ![0, t.val, 0] ∧ win0_1.index t = ![t.val, 0] ∧ win0_2.index t = ![t.val, 0]
    ∧ win0_3.index t = ![t.val, 0] :=
  (by decide +kernel : ∀ t : Fin grid0.N, _)

theorem index_results : ∀ t : Fin cfg0.N, win0_4.index t = ![t.val, 0] ∧ win0_5.index t = ![t.val, 0] ∧ win0_6.index t = ![t.val, 0]
    ∧ win0_7.index t = ![t.val, 0] :=
  (by decide +kernel : ∀ t : Fin grid0.N, _)

def row (t : Fin cfg0.N) (r : Fin 128) : Fin 256 := ⟨128 * t.val + r.val, by have := t.isLt; have : cfg0.N = 2 := N_0; omega⟩

theorem block0 (t : Fin cfg0.N) (p : Fin 8) (r : Fin 128) (k : Fin 1024) : iblk m c 0 t (ix3 p r k) = G m c (ix3 p (row t r) k) :=
  congrArg (G m c) (place3 (win0_0.index t) t.val (index_args t).1 p r.val k.val _ _ _ rfl rfl rfl rfl rfl)

theorem block1 (t : Fin cfg0.N) (r : Fin 128) (k : Fin 1024) : iblk m c 1 t (ix2 r k) = W m c (ix2 (row t r) k) :=
  congrArg (W m c) (place2 (win0_1.index t) t.val (index_args t).2.1 r.val k.val _ _ _ rfl rfl rfl rfl)

theorem block2 (t : Fin cfg0.N) (r : Fin 128) (k : Fin 1024) : iblk m c 2 t (ix2 r k) = M m c (ix2 (row t r) k) :=
  congrArg (M m c) (place2 (win0_2.index t) t.val (index_args t).2.2.1 r.val k.val _ _ _ rfl rfl rfl rfl)

theorem block3 (t : Fin cfg0.N) (r : Fin 128) (k : Fin 1024) : iblk m c 3 t (ix2 r k) = S m c (ix2 (row t r) k) :=
  congrArg (S m c) (place2 (win0_3.index t) t.val (index_args t).2.2.2 r.val k.val _ _ _ rfl rfl rfl rfl)

theorem zeros : (![0, 0] : Fin 2 → Nat) = fun _ => 0 := funext fun a => by fin_cases a <;> rfl

/-- A point's gradient is the sum of the eight parts' blocks. -/
theorem total (x0 : Vec Ideal S8x128x1024 .bf16) (r : Fin 128) (k : Fin 1024) :
    k0_pay4 (View.ld x0 r0_0) (View.ld x0 r0_1) (View.ld x0 r0_2) (View.ld x0 r0_3) (View.ld x0 r0_4) (View.ld x0 r0_5) (View.ld x0 r0_6)
      (View.ld x0 r0_7) (ix2 r k) = ∑ p : Fin 8, x0 (ix3 p r k) := by
  have h := canon4_eq (F := Ideal) (View.ld x0 r0_0) (View.ld x0 r0_1) (View.ld x0 r0_2) (View.ld x0 r0_3) (View.ld x0 r0_4) (View.ld x0 r0_5)
    (View.ld x0 r0_6) (View.ld x0 r0_7) (ix2 r k)
  rw [View.canon_unit_zero zeros] at h
  refine h.trans (Eq.trans ?_ (eight fun p => x0 (ix3 p r k)))
  exact congrArg₂ (· + ·) (congrArg₂ (· + ·) (congrArg₂ (· + ·) (congrArg₂ (· + ·) (congrArg₂ (· + ·) (congrArg₂ (· + ·) (congrArg₂ (· + ·)
    (part x0 0 r k _ rfl rfl rfl) (part x0 1 r k _ rfl rfl rfl)) (part x0 2 r k _ rfl rfl rfl)) (part x0 3 r k _ rfl rfl rfl))
    (part x0 4 r k _ rfl rfl rfl)) (part x0 5 r k _ rfl rfl rfl)) (part x0 6 r k _ rfl rfl rfl)) (part x0 7 r k _ rfl rfl rfl)

variable (t : Fin cfg0.N) (r : Fin 128) (k : Fin 1024)

theorem total_block (r : Fin 128) (k : Fin 1024) :
    k0_pay4 (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r k)
      = grad m c (row t r) k :=
  (total (iblk m c 0 t) r k).trans (Finset.sum_congr rfl fun p _ => block0 m c t p r k)

/-- What the body leaves in each result's block. -/
theorem out4_eq : out0_4 (iblk m c 0 t) (iblk m c 1 t) (iblk m c 2 t) (iblk m c 3 t) (ix2 r k) = grad m c (row t r) k := by
  unfold out0_4
  rw [View.canon_unit_zero zeros]
  exact total_block m c t r k

theorem out5_eq : out0_5 (iblk m c 0 t) (iblk m c 1 t) (iblk m c 2 t) (iblk m c 3 t) (ix2 r k)
    = delta (F := Ideal) (grad m c (row t r) k) (W m c (ix2 (row t r) k)) (M m c (ix2 (row t r) k)) (S m c (ix2 (row t r) k)) := by
  unfold out0_5 k0_pay5
  rw [View.canon_unit_zero zeros, View.ld_unit_zero zeros, View.ld_unit_zero zeros, View.ld_unit_zero zeros, ← total_block m c t r k,
    ← block1 m c t r k, ← block2 m c t r k, ← block3 m c t r k]
  rfl

theorem out6_eq : out0_6 (iblk m c 0 t) (iblk m c 1 t) (iblk m c 2 t) (iblk m c 3 t) (ix2 r k)
    = first (F := Ideal) (grad m c (row t r) k) (M m c (ix2 (row t r) k)) := by
  unfold out0_6 k0_pay5
  rw [View.canon_unit_zero zeros, View.ld_unit_zero zeros, ← total_block m c t r k, ← block2 m c t r k]
  rfl

theorem out7_eq : out0_7 (iblk m c 0 t) (iblk m c 1 t) (iblk m c 2 t) (iblk m c 3 t) (ix2 r k)
    = second (F := Ideal) (grad m c (row t r) k) (S m c (ix2 (row t r) k)) := by
  unfold out0_7 k0_pay5
  rw [View.canon_unit_zero zeros, View.ld_unit_zero zeros, ← total_block m c t r k, ← block3 m c t r k]
  rfl

/-! ## The results over whole arrays -/

def pt (n : Fin 256) : Fin cfg0.N := ⟨n.val / 128, by have : cfg0.N = 2 := N_0; omega⟩
def loc (n : Fin 256) : Fin 128 := ⟨n.val % 128, by omega⟩

theorem at_pt (n : Fin 256) : n.val = 128 * (pt n).val + (loc n).val := (Nat.div_add_mod n.val 128).symm
theorem row_pt (n : Fin 256) : row (pt n) (loc n) = n := Fin.ext (at_pt n).symm

theorem flushes : ∀ t : Fin cfg0.N, (cfg0.win 4).flush t = true ∧ (cfg0.win 5).flush t = true ∧ (cfg0.win 6).flush t = true
    ∧ (cfg0.win 7).flush t = true :=
  fun t => ⟨flush0_4 t, flush0_5 t, flush0_6 t, flush0_7 t⟩

variable (n : Fin 256)

theorem result4 : (dats m 0 c).arrAt 4 cfg0.N (ix2 n k) = grad m c n k := by
  refine (congrArg ((dats m 0 c).arrAt 4 cfg0.N) (place2 (win0_4.index (pt n)) (pt n).val (index_results (pt n)).1
    (loc n).val k.val (((cfg0.win 4).blk (pt n)).view.emb (ix2 (loc n) k)) n k rfl rfl (at_pt n) rfl)).symm.trans ?_
  refine (congrFun (blocks4 m c (pt n) (flushes (pt n)).1) (ix2 (loc n) k)).trans ?_
  rw [flushed4]
  exact (out4_eq m c (pt n) (loc n) k).trans (by rw [row_pt])

theorem result5 : (dats m 0 c).arrAt 5 cfg0.N (ix2 n k)
    = delta (F := Ideal) (grad m c n k) (W m c (ix2 n k)) (M m c (ix2 n k)) (S m c (ix2 n k)) := by
  refine (congrArg ((dats m 0 c).arrAt 5 cfg0.N) (place2 (win0_5.index (pt n)) (pt n).val (index_results (pt n)).2.1
    (loc n).val k.val (((cfg0.win 5).blk (pt n)).view.emb (ix2 (loc n) k)) n k rfl rfl (at_pt n) rfl)).symm.trans ?_
  refine (congrFun (blocks5 m c (pt n) (flushes (pt n)).2.1) (ix2 (loc n) k)).trans ?_
  rw [flushed5]
  exact (out5_eq m c (pt n) (loc n) k).trans (by rw [row_pt])

theorem result6 : (dats m 0 c).arrAt 6 cfg0.N (ix2 n k) = first (F := Ideal) (grad m c n k) (M m c (ix2 n k)) := by
  refine (congrArg ((dats m 0 c).arrAt 6 cfg0.N) (place2 (win0_6.index (pt n)) (pt n).val (index_results (pt n)).2.2.1
    (loc n).val k.val (((cfg0.win 6).blk (pt n)).view.emb (ix2 (loc n) k)) n k rfl rfl (at_pt n) rfl)).symm.trans ?_
  refine (congrFun (blocks6 m c (pt n) (flushes (pt n)).2.2.1) (ix2 (loc n) k)).trans ?_
  rw [flushed6]
  exact (out6_eq m c (pt n) (loc n) k).trans (by rw [row_pt])

theorem result7 : (dats m 0 c).arrAt 7 cfg0.N (ix2 n k) = second (F := Ideal) (grad m c n k) (S m c (ix2 n k)) := by
  refine (congrArg ((dats m 0 c).arrAt 7 cfg0.N) (place2 (win0_7.index (pt n)) (pt n).val (index_results (pt n)).2.2.2
    (loc n).val k.val (((cfg0.win 7).blk (pt n)).view.emb (ix2 (loc n) k)) n k rfl rfl (at_pt n) rfl)).symm.trans ?_
  refine (congrFun (blocks7 m c (pt n) (flushes (pt n)).2.2.2) (ix2 (loc n) k)).trans ?_
  rw [flushed7]
  exact (out7_eq m c (pt n) (loc n) k).trans (by rw [row_pt])

/-! ## The reference -/

open Cert.ReferenceAdamWRetOutIdeal.Read

theorem summed : val_main_v1 (F := Ideal) (G m c) (ix2 n k) = grad m c n k := by
  rw [val_main_v1_apply, show val_main_cst (F := Ideal) _ = 0 from Ideal.ofBits_zero_f32, zero_add]
  refine Finset.sum_congr rfl fun p _ => congrArg (G m c) (funext fun a => ?_)
  match a with
  | ⟨0, _⟩ => rfl
  | ⟨1, _⟩ => rfl
  | ⟨2, _⟩ => rfl

theorem reference4 : val_main_v1 (F := Ideal) (G m c) = (dats m 0 c).arrAt 4 cfg0.N :=
  ext2 fun n k => (summed m c k n).trans (result4 m c k n).symm

theorem reference5 : val_main_v25 (F := Ideal) (G m c) (W m c) (M m c) (S m c) = (dats m 0 c).arrAt 5 cfg0.N :=
  ext2 fun n k => by
    rw [result5, ← summed]
    rfl

theorem reference6 : val_main_v6 (F := Ideal) (G m c) (M m c) = (dats m 0 c).arrAt 6 cfg0.N :=
  ext2 fun n k => by
    rw [result6, ← summed]
    rfl

theorem reference7 : val_main_v12 (F := Ideal) (G m c) (S m c) = (dats m 0 c).arrAt 7 cfg0.N :=
  ext2 fun n k => by
    rw [result7, ← summed]
    rfl

end Cert.AdamWRetOut

end
-- ==== Proof.AdamWOutValue.lean ====
/- The optimiser on w_out's shard: what the kernel leaves in its four results is what the reference leaves there. -/
module

public import proofs.«01_k».proof.Proof.Gen.KernelAdamWOutIdeal.Value
public import proofs.«01_k».proof.Proof.Gen.ReferenceAdamWOutIdeal.Read
public import proofs.«01_k».proof.Proof.Adam

@[expose] public section

set_option maxRecDepth 16384

noncomputable section

namespace Cert.AdamWOut

open Idealize.ShloMosaic Idealize.ShloMosaic.TcCoe Idealize.ShloMosaic.ValueIdx Idealize.SL.Sem
open Cert.KernelAdamWOutIdeal Cert.KernelAdamWOutIdeal.Gen Cert.KernelAdamWOutIdeal.Value Cert.Adam

variable (m : (ℓ : Loc nD τ sig) → Buf (Elt Ideal) ℓ) (c : Dev nD)

/-- The kernel's arguments: the eight devices' parts of the gradient, the weight, and its two moments. -/
abbrev G : S8x128x1024.Idx → EReal := m ((c.tc : Thread nD τ).loc main_arg0)
abbrev W : S128x1024.Idx → EReal := m ((c.tc : Thread nD τ).loc main_arg1)
abbrev M : S128x1024.Idx → EReal := m ((c.tc : Thread nD τ).loc main_arg2)
abbrev S : S128x1024.Idx → EReal := m ((c.tc : Thread nD τ).loc main_arg3)

/-- The gradient: the sum of the parts. -/
def grad (n : Fin 128) (k : Fin 1024) : EReal := ∑ p : Fin 8, G m c (ix3 p n k)

theorem index_args : ∀ t : Fin cfg0.N, win0_0.index t = ![0, t.val, 0] ∧ win0_1.index t = ![t.val, 0] ∧ win0_2.index t = ![t.val, 0]
    ∧ win0_3.index t = ![t.val, 0] :=
  (by decide +kernel : ∀ t : Fin grid0.N, _)

theorem index_results : ∀ t : Fin cfg0.N, win0_4.index t = ![t.val, 0] ∧ win0_5.index t = ![t.val, 0] ∧ win0_6.index t = ![t.val, 0]
    ∧ win0_7.index t = ![t.val, 0] :=
  (by decide +kernel : ∀ t : Fin grid0.N, _)

def row (t : Fin cfg0.N) (r : Fin 128) : Fin 128 := ⟨128 * t.val + r.val, by have := t.isLt; have : cfg0.N = 1 := N_0; omega⟩

theorem block0 (t : Fin cfg0.N) (p : Fin 8) (r : Fin 128) (k : Fin 1024) : iblk m c 0 t (ix3 p r k) = G m c (ix3 p (row t r) k) :=
  congrArg (G m c) (place3 (win0_0.index t) t.val (index_args t).1 p r.val k.val _ _ _ rfl rfl rfl rfl rfl)

theorem block1 (t : Fin cfg0.N) (r : Fin 128) (k : Fin 1024) : iblk m c 1 t (ix2 r k) = W m c (ix2 (row t r) k) :=
  congrArg (W m c) (place2 (win0_1.index t) t.val (index_args t).2.1 r.val k.val _ _ _ rfl rfl rfl rfl)

theorem block2 (t : Fin cfg0.N) (r : Fin 128) (k : Fin 1024) : iblk m c 2 t (ix2 r k) = M m c (ix2 (row t r) k) :=
  congrArg (M m c) (place2 (win0_2.index t) t.val (index_args t).2.2.1 r.val k.val _ _ _ rfl rfl rfl rfl)

theorem block3 (t : Fin cfg0.N) (r : Fin 128) (k : Fin 1024) : iblk m c 3 t (ix2 r k) = S m c (ix2 (row t r) k) :=
  congrArg (S m c) (place2 (win0_3.index t) t.val (index_args t).2.2.2 r.val k.val _ _ _ rfl rfl rfl rfl)

theorem zeros : (![0, 0] : Fin 2 → Nat) = fun _ => 0 := funext fun a => by fin_cases a <;> rfl

/-- A point's gradient is the sum of the eight parts' blocks. -/
theorem total (x0 : Vec Ideal S8x128x1024 .bf16) (r : Fin 128) (k : Fin 1024) :
    k0_pay4 (View.ld x0 r0_0) (View.ld x0 r0_1) (View.ld x0 r0_2) (View.ld x0 r0_3) (View.ld x0 r0_4) (View.ld x0 r0_5) (View.ld x0 r0_6)
      (View.ld x0 r0_7) (ix2 r k) = ∑ p : Fin 8, x0 (ix3 p r k) := by
  have h := canon4_eq (F := Ideal) (View.ld x0 r0_0) (View.ld x0 r0_1) (View.ld x0 r0_2) (View.ld x0 r0_3) (View.ld x0 r0_4) (View.ld x0 r0_5)
    (View.ld x0 r0_6) (View.ld x0 r0_7) (ix2 r k)
  rw [View.canon_unit_zero zeros] at h
  refine h.trans (Eq.trans ?_ (eight fun p => x0 (ix3 p r k)))
  exact congrArg₂ (· + ·) (congrArg₂ (· + ·) (congrArg₂ (· + ·) (congrArg₂ (· + ·) (congrArg₂ (· + ·) (congrArg₂ (· + ·) (congrArg₂ (· + ·)
    (part x0 0 r k _ rfl rfl rfl) (part x0 1 r k _ rfl rfl rfl)) (part x0 2 r k _ rfl rfl rfl)) (part x0 3 r k _ rfl rfl rfl))
    (part x0 4 r k _ rfl rfl rfl)) (part x0 5 r k _ rfl rfl rfl)) (part x0 6 r k _ rfl rfl rfl)) (part x0 7 r k _ rfl rfl rfl)

variable (t : Fin cfg0.N) (r : Fin 128) (k : Fin 1024)

theorem total_block (r : Fin 128) (k : Fin 1024) :
    k0_pay4 (View.ld (iblk m c 0 t) r0_0) (View.ld (iblk m c 0 t) r0_1) (View.ld (iblk m c 0 t) r0_2) (View.ld (iblk m c 0 t) r0_3)
      (View.ld (iblk m c 0 t) r0_4) (View.ld (iblk m c 0 t) r0_5) (View.ld (iblk m c 0 t) r0_6) (View.ld (iblk m c 0 t) r0_7) (ix2 r k)
      = grad m c (row t r) k :=
  (total (iblk m c 0 t) r k).trans (Finset.sum_congr rfl fun p _ => block0 m c t p r k)

/-- What the body leaves in each result's block. -/
theorem out4_eq : out0_4 (iblk m c 0 t) (iblk m c 1 t) (iblk m c 2 t) (iblk m c 3 t) (ix2 r k) = grad m c (row t r) k := by
  unfold out0_4
  rw [View.canon_unit_zero zeros]
  exact total_block m c t r k

theorem out5_eq : out0_5 (iblk m c 0 t) (iblk m c 1 t) (iblk m c 2 t) (iblk m c 3 t) (ix2 r k)
    = delta (F := Ideal) (grad m c (row t r) k) (W m c (ix2 (row t r) k)) (M m c (ix2 (row t r) k)) (S m c (ix2 (row t r) k)) := by
  unfold out0_5 k0_pay5
  rw [View.canon_unit_zero zeros, View.ld_unit_zero zeros, View.ld_unit_zero zeros, View.ld_unit_zero zeros, ← total_block m c t r k,
    ← block1 m c t r k, ← block2 m c t r k, ← block3 m c t r k]
  rfl

theorem out6_eq : out0_6 (iblk m c 0 t) (iblk m c 1 t) (iblk m c 2 t) (iblk m c 3 t) (ix2 r k)
    = first (F := Ideal) (grad m c (row t r) k) (M m c (ix2 (row t r) k)) := by
  unfold out0_6 k0_pay5
  rw [View.canon_unit_zero zeros, View.ld_unit_zero zeros, ← total_block m c t r k, ← block2 m c t r k]
  rfl

theorem out7_eq : out0_7 (iblk m c 0 t) (iblk m c 1 t) (iblk m c 2 t) (iblk m c 3 t) (ix2 r k)
    = second (F := Ideal) (grad m c (row t r) k) (S m c (ix2 (row t r) k)) := by
  unfold out0_7 k0_pay5
  rw [View.canon_unit_zero zeros, View.ld_unit_zero zeros, ← total_block m c t r k, ← block3 m c t r k]
  rfl

/-! ## The results over whole arrays -/

def pt (n : Fin 128) : Fin cfg0.N := ⟨n.val / 128, by have : cfg0.N = 1 := N_0; omega⟩
def loc (n : Fin 128) : Fin 128 := ⟨n.val % 128, by omega⟩

theorem at_pt (n : Fin 128) : n.val = 128 * (pt n).val + (loc n).val := (Nat.div_add_mod n.val 128).symm
theorem row_pt (n : Fin 128) : row (pt n) (loc n) = n := Fin.ext (at_pt n).symm

theorem flushes : ∀ t : Fin cfg0.N, (cfg0.win 4).flush t = true ∧ (cfg0.win 5).flush t = true ∧ (cfg0.win 6).flush t = true
    ∧ (cfg0.win 7).flush t = true :=
  fun t => ⟨flush0_4 t, flush0_5 t, flush0_6 t, flush0_7 t⟩

variable (n : Fin 128)

theorem result4 : (dats m 0 c).arrAt 4 cfg0.N (ix2 n k) = grad m c n k := by
  refine (congrArg ((dats m 0 c).arrAt 4 cfg0.N) (place2 (win0_4.index (pt n)) (pt n).val (index_results (pt n)).1
    (loc n).val k.val (((cfg0.win 4).blk (pt n)).view.emb (ix2 (loc n) k)) n k rfl rfl (at_pt n) rfl)).symm.trans ?_
  refine (congrFun (blocks4 m c (pt n) (flushes (pt n)).1) (ix2 (loc n) k)).trans ?_
  rw [flushed4]
  exact (out4_eq m c (pt n) (loc n) k).trans (by rw [row_pt])

theorem result5 : (dats m 0 c).arrAt 5 cfg0.N (ix2 n k)
    = delta (F := Ideal) (grad m c n k) (W m c (ix2 n k)) (M m c (ix2 n k)) (S m c (ix2 n k)) := by
  refine (congrArg ((dats m 0 c).arrAt 5 cfg0.N) (place2 (win0_5.index (pt n)) (pt n).val (index_results (pt n)).2.1
    (loc n).val k.val (((cfg0.win 5).blk (pt n)).view.emb (ix2 (loc n) k)) n k rfl rfl (at_pt n) rfl)).symm.trans ?_
  refine (congrFun (blocks5 m c (pt n) (flushes (pt n)).2.1) (ix2 (loc n) k)).trans ?_
  rw [flushed5]
  exact (out5_eq m c (pt n) (loc n) k).trans (by rw [row_pt])

theorem result6 : (dats m 0 c).arrAt 6 cfg0.N (ix2 n k) = first (F := Ideal) (grad m c n k) (M m c (ix2 n k)) := by
  refine (congrArg ((dats m 0 c).arrAt 6 cfg0.N) (place2 (win0_6.index (pt n)) (pt n).val (index_results (pt n)).2.2.1
    (loc n).val k.val (((cfg0.win 6).blk (pt n)).view.emb (ix2 (loc n) k)) n k rfl rfl (at_pt n) rfl)).symm.trans ?_
  refine (congrFun (blocks6 m c (pt n) (flushes (pt n)).2.2.1) (ix2 (loc n) k)).trans ?_
  rw [flushed6]
  exact (out6_eq m c (pt n) (loc n) k).trans (by rw [row_pt])

theorem result7 : (dats m 0 c).arrAt 7 cfg0.N (ix2 n k) = second (F := Ideal) (grad m c n k) (S m c (ix2 n k)) := by
  refine (congrArg ((dats m 0 c).arrAt 7 cfg0.N) (place2 (win0_7.index (pt n)) (pt n).val (index_results (pt n)).2.2.2
    (loc n).val k.val (((cfg0.win 7).blk (pt n)).view.emb (ix2 (loc n) k)) n k rfl rfl (at_pt n) rfl)).symm.trans ?_
  refine (congrFun (blocks7 m c (pt n) (flushes (pt n)).2.2.2) (ix2 (loc n) k)).trans ?_
  rw [flushed7]
  exact (out7_eq m c (pt n) (loc n) k).trans (by rw [row_pt])

/-! ## The reference -/

open Cert.ReferenceAdamWOutIdeal.Read

theorem summed : val_main_v1 (F := Ideal) (G m c) (ix2 n k) = grad m c n k := by
  rw [val_main_v1_apply, show val_main_cst (F := Ideal) _ = 0 from Ideal.ofBits_zero_f32, zero_add]
  refine Finset.sum_congr rfl fun p _ => congrArg (G m c) (funext fun a => ?_)
  match a with
  | ⟨0, _⟩ => rfl
  | ⟨1, _⟩ => rfl
  | ⟨2, _⟩ => rfl

theorem reference4 : val_main_v1 (F := Ideal) (G m c) = (dats m 0 c).arrAt 4 cfg0.N :=
  ext2 fun n k => (summed m c k n).trans (result4 m c k n).symm

theorem reference5 : val_main_v25 (F := Ideal) (G m c) (W m c) (M m c) (S m c) = (dats m 0 c).arrAt 5 cfg0.N :=
  ext2 fun n k => by
    rw [result5, ← summed]
    rfl

theorem reference6 : val_main_v6 (F := Ideal) (G m c) (M m c) = (dats m 0 c).arrAt 6 cfg0.N :=
  ext2 fun n k => by
    rw [result6, ← summed]
    rfl

theorem reference7 : val_main_v12 (F := Ideal) (G m c) (S m c) = (dats m 0 c).arrAt 7 cfg0.N :=
  ext2 fun n k => by
    rw [result7, ← summed]
    rfl

end Cert.AdamWOut

end
-- ==== Proof.RfMath.lean ====
/- Chunked retention of one head, row by row: what one chunk of 128 rows gives, and the state it hands on. -/
module

public import Idealize.ShloMosaic.Lib.Pointwise
public import Idealize.ShloMosaic.PureOps.Ideal.Laws

@[expose] public section

set_option maxRecDepth 16384

noncomputable section

namespace Cert.Retention

open Idealize.ShloMosaic

/-- A row of 256 entries turned by its 128 angles. -/
def rot (cs sn : Fin 128 → EReal) (t : Fin 256 → EReal) (d : Fin 256) : EReal :=
  if h : d.val < 128 then
    t d * cs ⟨d.val, h⟩ - t ⟨128 + d.val, by omega⟩ * sn ⟨d.val, h⟩
  else
    t ⟨d.val - 128, by omega⟩ * sn ⟨d.val - 128, by omega⟩
      + t ⟨128 + (d.val - 128), by omega⟩ * cs ⟨d.val - 128, by omega⟩

/-- One sixteenth, the keys' scale. -/
def sixteenth : EReal := Ideal.ofBits .f32 0x3D800000#32

/-- The chunk's rows: within the chunk under the mask, and from the state. -/
def outRow (M : Fin 128 → Fin 128 → EReal) (xi : Fin 128 → EReal) (q k : Fin 128 → Fin 256 → EReal)
    (v : Fin 128 → Fin 512 → EReal) (s : Fin 256 → Fin 512 → EReal) (i : Fin 128) (e : Fin 512) : EReal :=
  (∑ j : Fin 128, (∑ d : Fin 256, q i d * k j d) * M i j * v j e) + (∑ d : Fin 256, q i d * s d e) * xi i

/-- The state after the chunk. -/
def nextState (ze : Fin 128 → EReal) (g : EReal) (k : Fin 128 → Fin 256 → EReal)
    (v : Fin 128 → Fin 512 → EReal) (s : Fin 256 → Fin 512 → EReal) (d : Fin 256) (e : Fin 512) : EReal :=
  s d e * g + ∑ j : Fin 128, k j d * ze j * v j e

def c512 : EReal := Ideal.ofBits .f32 0x44000000#32
def eps : EReal := Ideal.ofBits .f32 0x3727C5AC#32

def mean (o : Fin 512 → EReal) : EReal := Ideal.div (∑ e : Fin 512, o e) c512

/-- A row of a head, normalised over its 512 entries and gated. -/
def gated (o z : Fin 512 → EReal) (e : Fin 512) : EReal :=
  (o e - mean o) * Ideal.rsqrt (mean (fun e => (o e - mean o) * (o e - mean o)) + eps) * (z e * Ideal.logistic (z e))

/-- What the retention reads: the projection, the angles' cosines and sines, and the decays of its four heads. -/
structure Inputs where
  p : (⟨2, ![8192, 11264]⟩ : Shape).Idx → EReal
  cs : (⟨2, ![8192, 128]⟩ : Shape).Idx → EReal
  sn : (⟨2, ![8192, 128]⟩ : Shape).Idx → EReal
  M : Fin 4 → Fin 128 → Fin 128 → EReal
  xi : Fin 4 → Fin 128 → EReal
  ze : Fin 4 → Fin 128 → EReal
  g : Fin 4 → EReal

/-- Row `j` of chunk `n`. -/
def rowOf (n : Fin 64) (j : Fin 128) : Fin 8192 := ⟨128 * n.val + j.val, by omega⟩

namespace Inputs

variable (I : Inputs) (h : Fin 4) (n : Fin 64)

/-- The rows of head `h` in chunk `n`: queries, scaled keys, values and gates. -/
def q (j : Fin 128) : Fin 256 → EReal :=
  rot (fun a => I.cs (ix2 (rowOf n j) a)) (fun a => I.sn (ix2 (rowOf n j) a)) (fun a => I.p (ix2 (rowOf n j) ⟨256 * h.val + a.val, by omega⟩))
def k (j : Fin 128) (d : Fin 256) : EReal :=
  rot (fun a => I.cs (ix2 (rowOf n j) a)) (fun a => I.sn (ix2 (rowOf n j) a)) (fun a => I.p (ix2 (rowOf n j) ⟨1024 + 256 * h.val + a.val, by omega⟩)) d
    * sixteenth
def v (j : Fin 128) (e : Fin 512) : EReal := I.p (ix2 (rowOf n j) ⟨2048 + 512 * h.val + e.val, by omega⟩)
def z (j : Fin 128) (e : Fin 512) : EReal := I.p (ix2 (rowOf n j) ⟨4096 + 512 * h.val + e.val, by omega⟩)

/-- The state of head `h` before chunk `n`. -/
def state : ℕ → Fin 256 → Fin 512 → EReal
  | 0 => fun _ _ => 0
  | n + 1 => nextState (I.ze h) (I.g h) (I.k h (Fin.ofNat 64 n)) (I.v h (Fin.ofNat 64 n)) (state n)

/-- The retention's rows, and the same normalised and gated. -/
def out : Fin 128 → Fin 512 → EReal := outRow (I.M h) (I.xi h) (I.q h n) (I.k h n) (I.v h n) (I.state h n.val)
def gatedOut (j : Fin 128) : Fin 512 → EReal := gated (I.out h n j) (I.z h n j)

/-- The rows kept for the way back: queries, keys and decayed keys. -/
def kept (j : Fin 128) (b : Fin 3) (d : Fin 256) : EReal :=
  (![I.q h n j d, I.k h n j d, I.k h n j d * I.ze h j] : Fin 3 → EReal) b

end Inputs

end Cert.Retention
end
-- ==== Proof.RfStep.lean ====
/- The retention's reference: one trip of its loop over the chunks, and the 64 of them. -/
module

public import proofs.«01_k».proof.Proof.Gen.ReferenceRfIdeal.Run
public import proofs.«01_k».proof.Proof.RfMath
public import Idealize.ShloMosaic.Lib.Pointwise
public import Idealize.ShloMosaic.Lib.WordCmp

@[expose] public section

set_option maxRecDepth 16384

noncomputable section

namespace Cert.RetentionReference

open Idealize.ShloMosaic Idealize.ShloMosaic.TcCoe Idealize.SL.Sem
open Cert.ReferenceRfIdeal Cert.ReferenceRfIdeal.Gen Cert.ReferenceRfIdeal.Value
open Idealize.ShloMosaic.StableHlo Idealize.ShloMosaic.WordCmp
open Cert.Retention

/-- A row of queries, keys and decayed keys side by side. -/
def joined (I : Inputs) (h : Fin 4) (n : Fin 64) (j : Fin 128) (k : Fin 768) : EReal :=
  I.kept h n j ⟨k.val / 256, by omega⟩ ⟨k.val % 256, by omega⟩

theorem joined_at (I : Inputs) (h : Fin 4) (n : Fin 64) (j : Fin 128) (b : Fin 3) (d : Fin 256) :
    joined I h n j ⟨256 * b.val + d.val, by omega⟩ = I.kept h n j b d :=
  congrArg₂ (I.kept h n j) (Fin.ext (show (256 * b.val + d.val) / 256 = b.val by omega)) (Fin.ext (show (256 * b.val + d.val) % 256 = d.val by omega))

/-- What a trip's buffers hold before chunk `N`. -/
structure Before (I : Inputs) (N : ℕ) (V : Valuation τ sig (Elt Ideal)) : Prop where
  q : ∀ (n : Fin 64) (h : Fin 4) (j : Fin 128) (d : Fin 256), (V (Proc.devRef .tc main_v91_0) : S64x4x128x256.Idx → EReal) (ix4 n h j d) = I.q h n j d
  k : ∀ (n : Fin 64) (h : Fin 4) (j : Fin 128) (d : Fin 256), (V (Proc.devRef .tc main_v91_1) : S64x4x128x256.Idx → EReal) (ix4 n h j d) = I.k h n j d
  v : ∀ (n : Fin 64) (h : Fin 4) (j : Fin 128) (e : Fin 512), (V (Proc.devRef .tc main_v91_2) : S64x4x128x512.Idx → EReal) (ix4 n h j e) = I.v h n j e
  M : ∀ (h : Fin 4) (i j : Fin 128), (V (Proc.devRef .tc main_v91_3) : S4x128x128.Idx → EReal) (ix3 h i j) = I.M h i j
  xi : ∀ (h : Fin 4) (i : Fin 128), (V (Proc.devRef .tc main_v91_4) : S4x128.Idx → EReal) (ix2 h i) = I.xi h i
  g : ∀ (h : Fin 4), (V (Proc.devRef .tc main_v91_6) : S4.Idx → EReal) (ix1 h) = I.g h
  ze : ∀ (h : Fin 4) (i : Fin 128), (V (Proc.devRef .tc main_v91_5) : S4x128.Idx → EReal) (ix2 h i) = I.ze h i
  ctr : V (Proc.devRef .tc main_v91_7) = fun _ => BitVec.ofNat 32 N
  state : ∀ (h : Fin 4) (d : Fin 256) (e : Fin 512), (V (Proc.devRef .tc main_v91_8) : S4x256x512.Idx → EReal) (ix3 h d e) = I.state h N d e
  out : ∀ (n : Fin 64), n.val < N → ∀ (h : Fin 4) (j : Fin 128) (e : Fin 512), (V (Proc.devRef .tc main_v91_9) : S64x4x128x512.Idx → EReal) (ix4 n h j e) = I.out h n j e
  states : ∀ (n : Fin 64), n.val < N → ∀ (h : Fin 4) (d : Fin 256) (e : Fin 512), (V (Proc.devRef .tc main_v91_10) : S64x4x256x512.Idx → EReal) (ix4 n h d e) = I.state h n.val d e
  rows : ∀ (n : Fin 64), n.val < N → ∀ (h : Fin 4) (j : Fin 128) (b : Fin 3) (d : Fin 256),
    (V (Proc.devRef .tc main_v91_11) : S64x4x128x768.Idx → EReal) (ix4 n h j (⟨256 * b.val + d.val, by omega⟩ : Fin 768)) = I.kept h n j b d

variable {I : Inputs} {n : Fin 64} {V : Valuation τ sig (Elt Ideal)} (B : Before I n.val V)

include B

theorem starts (k : Fin 4) : (((![V (Proc.devRef .tc main_v91_7), constantI S_ 32 0#32, constantI S_ 32 0#32, constantI S_ 32 0#32] : Fin 4 → (⟨S_, .i32⟩ : BufTy).Contents (Elt Ideal))) k (Shape.Idx.first h_S_)).toInt
    = ((![n.val, 0, 0, 0] : Fin 4 → ℕ) k : ℤ) := by
  rw [B.ctr]
  match k with
  | ⟨0, _⟩ => exact toInt_ofNat_of_lt (w := 32) (a := n.val) (by omega)
  | ⟨1, _⟩ => rfl
  | ⟨2, _⟩ => rfl
  | ⟨3, _⟩ => rfl

theorem fits256 : S64x4x128x256.Slices ![n.val, 0, 0, 0] S1x4x128x256 := ⟨rfl, fun a => by
  match a with
  | ⟨0, _⟩ => show n.val + 1 ≤ 64; omega
  | ⟨1, _⟩ => show 0 + 4 ≤ 4; omega
  | ⟨2, _⟩ => show 0 + 128 ≤ 128; omega
  | ⟨3, _⟩ => show 0 + 256 ≤ 256; omega⟩

theorem fits512 : S64x4x128x512.Slices ![n.val, 0, 0, 0] S1x4x128x512 := ⟨rfl, fun a => by
  match a with
  | ⟨0, _⟩ => show n.val + 1 ≤ 64; omega
  | ⟨1, _⟩ => show 0 + 4 ≤ 4; omega
  | ⟨2, _⟩ => show 0 + 128 ≤ 128; omega
  | ⟨3, _⟩ => show 0 + 512 ≤ 512; omega⟩

theorem fitsState : S64x4x256x512.Slices ![n.val, 0, 0, 0] S1x4x256x512 := ⟨rfl, fun a => by
  match a with
  | ⟨0, _⟩ => show n.val + 1 ≤ 64; omega
  | ⟨1, _⟩ => show 0 + 4 ≤ 4; omega
  | ⟨2, _⟩ => show 0 + 256 ≤ 256; omega
  | ⟨3, _⟩ => show 0 + 512 ≤ 512; omega⟩

theorem fits768 : S64x4x128x768.Slices ![n.val, 0, 0, 0] S1x4x128x768 := ⟨rfl, fun a => by
  match a with
  | ⟨0, _⟩ => show n.val + 1 ≤ 64; omega
  | ⟨1, _⟩ => show 0 + 4 ≤ 4; omega
  | ⟨2, _⟩ => show 0 + 128 ≤ 128; omega
  | ⟨3, _⟩ => show 0 + 768 ≤ 768; omega⟩

theorem chunk_q (h : Fin 4) (j : Fin 128) (d : Fin 256) : res_main_while0b_v124 V (ix3 h j d) = I.q h n j d := by
  unfold res_main_while0b_v124
  rw [dynamicSlice_eq_extract _ _ _ _ ![n.val, 0, 0, 0] (fits256 B)]
  swap
  · exact starts B
  refine Eq.trans ?_ (B.q n h j d)
  pointwise

theorem chunk_k (h : Fin 4) (j : Fin 128) (d : Fin 256) : res_main_while0b_v125 V (ix3 h j d) = I.k h n j d := by
  unfold res_main_while0b_v125
  rw [dynamicSlice_eq_extract _ _ _ _ ![n.val, 0, 0, 0] (fits256 B)]
  swap
  · exact starts B
  refine Eq.trans ?_ (B.k n h j d)
  pointwise

theorem chunk_v (h : Fin 4) (j : Fin 128) (e : Fin 512) : res_main_while0b_v126 V (ix3 h j e) = I.v h n j e := by
  unfold res_main_while0b_v126
  rw [dynamicSlice_eq_extract _ _ _ _ ![n.val, 0, 0, 0] (fits512 B)]
  swap
  · exact starts B
  refine Eq.trans ?_ (B.v n h j e)
  pointwise

theorem chunk_kz (h : Fin 4) (j : Fin 128) (d : Fin 256) : res_main_while0b_v136 V (ix3 h j d) = I.k h n j d * I.ze h j := by
  unfold res_main_while0b_v136
  pointwise
  rw [chunk_k B, B.ze]

theorem step_state (h : Fin 4) (d : Fin 256) (e : Fin 512) : (step_main_v91_8 V : S4x256x512.Idx → EReal) (ix3 h d e) = I.state h (n.val + 1) d e := by
  unfold step_main_v91_8
  rw [id]
  pointwise
  simp only [chunk_kz B, chunk_v B, B.state, B.g]
  show _ = nextState (I.ze h) (I.g h) (I.k h (Fin.ofNat 64 n.val)) (I.v h (Fin.ofNat 64 n.val)) (I.state h n.val) d e
  rw [show Fin.ofNat 64 n.val = n from Fin.ext (Nat.mod_eq_of_lt n.isLt)]
  rfl

theorem step_out (n' : Fin 64) (h : Fin 4) (j : Fin 128) (e : Fin 512) :
    (step_main_v91_9 V : S64x4x128x512.Idx → EReal) (ix4 n' h j e)
      = if n' = n then I.out h n j e else (V (Proc.devRef .tc main_v91_9) : S64x4x128x512.Idx → EReal) (ix4 n' h j e) := by
  unfold step_main_v91_9
  rw [id]
  rw [dynamicUpdateSlice_eq_update _ _ _ _ ![n.val, 0, 0, 0] (fits512 B)]
  swap
  · exact starts B
  pointwise
  simp only [chunk_q B, chunk_k B, chunk_v B, B.state, B.M, B.xi]
  by_cases hn : n' = n
  · subst hn
    rw [if_pos rfl, dif_pos]
    · rfl
    · intro a
      match a with
      | ⟨0, _⟩ => exact ⟨le_rfl, Nat.lt_succ_self _⟩
      | ⟨1, _⟩ => exact ⟨Nat.zero_le _, (Nat.zero_add 4).symm ▸ h.isLt⟩
      | ⟨2, _⟩ => exact ⟨Nat.zero_le _, (Nat.zero_add 128).symm ▸ j.isLt⟩
      | ⟨3, _⟩ => exact ⟨Nat.zero_le _, (Nat.zero_add 512).symm ▸ e.isLt⟩
  · rw [if_neg hn, dif_neg]
    intro ha
    have h0 : n.val ≤ n'.val ∧ n'.val < n.val + 1 := ha 0
    exact hn (Fin.ext (by omega))

theorem step_states (n' : Fin 64) (h : Fin 4) (d : Fin 256) (e : Fin 512) :
    (step_main_v91_10 V : S64x4x256x512.Idx → EReal) (ix4 n' h d e)
      = if n' = n then I.state h n.val d e else (V (Proc.devRef .tc main_v91_10) : S64x4x256x512.Idx → EReal) (ix4 n' h d e) := by
  unfold step_main_v91_10
  rw [id]
  rw [dynamicUpdateSlice_eq_update _ _ _ _ ![n.val, 0, 0, 0] (fitsState B)]
  swap
  · exact starts B
  pointwise
  simp only [B.state]
  by_cases hn : n' = n
  · subst hn
    rw [if_pos rfl, dif_pos]
    intro a
    match a with
    | ⟨0, _⟩ => exact ⟨le_rfl, Nat.lt_succ_self _⟩
    | ⟨1, _⟩ => exact ⟨Nat.zero_le _, (Nat.zero_add 4).symm ▸ h.isLt⟩
    | ⟨2, _⟩ => exact ⟨Nat.zero_le _, (Nat.zero_add 256).symm ▸ d.isLt⟩
    | ⟨3, _⟩ => exact ⟨Nat.zero_le _, (Nat.zero_add 512).symm ▸ e.isLt⟩
  · rw [if_neg hn, dif_neg]
    intro ha
    have h0 : n.val ≤ n'.val ∧ n'.val < n.val + 1 := ha 0
    exact hn (Fin.ext (by omega))

theorem rows_joined (h : Fin 4) (j : Fin 128) (k : Fin 768) :
    (concatenate S4x128x768 2 [⟨S4x128x256, (res_main_while0b_v124 V : FVec Ideal S4x128x256 .f32)⟩, ⟨S4x128x256, (res_main_while0b_v125 V : FVec Ideal S4x128x256 .f32)⟩,
      ⟨S4x128x256, (res_main_while0b_v136 V : FVec Ideal S4x128x256 .f32)⟩] concatenates_S4x128x256_S4x128x256_S4x128x256_S4x128x768_d2 : S4x128x768.Idx → EReal) (ix3 h j k)
      = joined I h n j k := by
  pointwise
  simp only [chunk_q B, chunk_k B, chunk_kz B]
  unfold joined Inputs.kept
  by_cases h1 : k.val < 256
  · rw [dif_pos h1]
    rw [show (⟨k.val / 256, by omega⟩ : Fin 3) = 0 from Fin.ext (show k.val / 256 = 0 by omega)]
    exact congrArg (I.q h n j) (Fin.ext (show k.val = k.val % 256 by omega))
  rw [dif_neg h1]
  by_cases h2 : k.val - 256 < 256
  · rw [dif_pos h2]
    rw [show (⟨k.val / 256, by omega⟩ : Fin 3) = 1 from Fin.ext (show k.val / 256 = 1 by omega)]
    exact congrArg (I.k h n j) (Fin.ext (show k.val - 256 = k.val % 256 by omega))
  · rw [dif_neg h2]
    rw [show (⟨k.val / 256, by omega⟩ : Fin 3) = 2 from Fin.ext (show k.val / 256 = 2 by omega)]
    exact congrArg (fun d => I.k h n j d * I.ze h j) (Fin.ext (show k.val - 256 - 256 = k.val % 256 by omega))

theorem step_rows (n' : Fin 64) (h : Fin 4) (j : Fin 128) (k : Fin 768) :
    (step_main_v91_11 V : S64x4x128x768.Idx → EReal) (ix4 n' h j k)
      = if n' = n then joined I h n j k else (V (Proc.devRef .tc main_v91_11) : S64x4x128x768.Idx → EReal) (ix4 n' h j k) := by
  unfold step_main_v91_11
  rw [id]
  rw [dynamicUpdateSlice_eq_update _ _ _ _ ![n.val, 0, 0, 0] (fits768 B)]
  swap
  · exact starts B
  have hC : (concatenate S4x128x768 2 [⟨S4x128x256, (res_main_while0b_v124 V : FVec Ideal S4x128x256 .f32)⟩, ⟨S4x128x256, (res_main_while0b_v125 V : FVec Ideal S4x128x256 .f32)⟩,
      ⟨S4x128x256, (res_main_while0b_v136 V : FVec Ideal S4x128x256 .f32)⟩] concatenates_S4x128x256_S4x128x256_S4x128x256_S4x128x768_d2 : S4x128x768.Idx → EReal) (ix3 h j k)
      = joined I h n j k := rows_joined B h j k
  generalize (concatenate S4x128x768 2 _ _ : S4x128x768.Idx → EReal) = C at hC ⊢
  pointwise
  rw [← hC]
  by_cases hn : n' = n
  · subst hn
    rw [if_pos rfl, dif_pos]
    intro a
    match a with
    | ⟨0, _⟩ => exact ⟨le_rfl, Nat.lt_succ_self _⟩
    | ⟨1, _⟩ => exact ⟨Nat.zero_le _, (Nat.zero_add 4).symm ▸ h.isLt⟩
    | ⟨2, _⟩ => exact ⟨Nat.zero_le _, (Nat.zero_add 128).symm ▸ j.isLt⟩
    | ⟨3, _⟩ => exact ⟨Nat.zero_le _, (Nat.zero_add 768).symm ▸ k.isLt⟩
  · rw [if_neg hn, dif_neg]
    intro ha
    have h0 : n.val ≤ n'.val ∧ n'.val < n.val + 1 := ha 0
    exact hn (Fin.ext (by omega))

/-- A trip takes the buffers from before its chunk to before the next. -/
theorem step : Before I (n.val + 1) (STEP V) where
  q := by rw [STEP_main_v91_0]; exact B.q
  k := by rw [STEP_main_v91_1]; exact B.k
  v := by rw [STEP_main_v91_2]; exact B.v
  M := by rw [STEP_main_v91_3]; exact B.M
  xi := by rw [STEP_main_v91_4]; exact B.xi
  g := by rw [STEP_main_v91_6]; exact B.g
  ze := by rw [STEP_main_v91_5]; exact B.ze
  ctr := by
    rw [STEP_main_v91_7]
    unfold step_main_v91_7
    rw [B.ctr]
    exact funext fun _ => (BitVec.ofNat_add n.val 1).symm
  state := by rw [STEP_main_v91_8]; exact step_state B
  out := by
    intro n' hn' h j e
    rw [STEP_main_v91_9, step_out B]
    by_cases hn : n' = n
    · rw [if_pos hn, hn]
    · rw [if_neg hn]
      exact B.out n' (by have : n'.val ≠ n.val := fun x => hn (Fin.ext x); omega) h j e
  states := by
    intro n' hn' h d e
    rw [STEP_main_v91_10, step_states B]
    by_cases hn : n' = n
    · rw [if_pos hn, hn]
    · rw [if_neg hn]
      exact B.states n' (by have : n'.val ≠ n.val := fun x => hn (Fin.ext x); omega) h d e
  rows := by
    intro n' hn' h j b d
    rw [STEP_main_v91_11, step_rows B]
    by_cases hn : n' = n
    · rw [if_pos hn, hn, joined_at]
    · rw [if_neg hn]
      exact B.rows n' (by have : n'.val ≠ n.val := fun x => hn (Fin.ext x); omega) h j b d

omit B in
theorem steps (B0 : Before I 0 V) : ∀ N ≤ 64, Before I N (STEP^[N] V)
  | 0, _ => B0
  | N + 1, hN => by
    rw [Function.iterate_succ_apply']
    exact step (n := ⟨N, by omega⟩) (steps B0 N (by omega))

end Cert.RetentionReference
end
-- ==== Proof.RfChunk.lean ====
/- The retention kernel's payloads on one chunk, read at an index. -/
module

public import proofs.«01_k».proof.Proof.Gen.KernelRfIdeal.Skeleton
public import proofs.«01_k».proof.Proof.RfMath

@[expose] public section

set_option maxRecDepth 16384

noncomputable section

namespace Cert.Retention

open Idealize.ShloMosaic Idealize.ShloMosaic.TcCoe Idealize.SL.Sem
open Cert.KernelRfIdeal Cert.KernelRfIdeal.Gen

/-- One chunk's rows in the kernel's vector operations. -/
def chunkOut (m : Vec Ideal S1x128x128 .f32) (xi : Vec Ideal S1x128x1 .f32) (cs sn : Vec Ideal S128x128 .f32)
    (q k : Vec Ideal S128x256 .f32) (v : Vec Ideal S128x512 .f32) (s : Vec Ideal S256x512 .f32) : Vec Ideal S128x512 .f32 :=
  k0_pay16 (F := Ideal) (k0_pay2 (F := Ideal) m) (k0_pay3 (F := Ideal) xi) (k0_pay6 (F := Ideal) cs sn q) (k0_pay7 (F := Ideal) cs sn k) (k0_pay8 (F := Ideal)) v s

/-- The state one chunk hands on. -/
def chunkState (ze : Vec Ideal S1x128x1 .f32) (g : Vec Ideal S1x1x1 .f32) (cs sn : Vec Ideal S128x128 .f32)
    (k : Vec Ideal S128x256 .f32) (v : Vec Ideal S128x512 .f32) (s : Vec Ideal S256x512 .f32) : Vec Ideal S256x512 .f32 :=
  k0_pay17 (F := Ideal) (k0_pay4 (F := Ideal) ze) (k0_pay5 (F := Ideal) g) (k0_pay7 (F := Ideal) cs sn k) (k0_pay8 (F := Ideal)) v s

theorem pay6_apply (cs sn : Vec Ideal S128x128 .f32) (q : Vec Ideal S128x256 .f32) (i : Fin 128) (d : Fin 256) :
    k0_pay6 (F := Ideal) cs sn q (ix2 i d) = rot (fun a => cs (ix2 i a)) (fun a => sn (ix2 i a)) (fun a => q (ix2 i a)) d := by
  unfold k0_pay6
  pointwise
  rfl

theorem pay7_apply (cs sn : Vec Ideal S128x128 .f32) (k : Vec Ideal S128x256 .f32) (i : Fin 128) (d : Fin 256) :
    k0_pay7 (F := Ideal) cs sn k (ix2 i d) = rot (fun a => cs (ix2 i a)) (fun a => sn (ix2 i a)) (fun a => k (ix2 i a)) d :=
  pay6_apply cs sn k i d

theorem pay16_apply (m : Vec Ideal S128x128 .f32) (xi : Vec Ideal S128x1 .f32) (q k c : Vec Ideal S128x256 .f32)
    (v : Vec Ideal S128x512 .f32) (s : Vec Ideal S256x512 .f32) (i : Fin 128) (e : Fin 512) :
    k0_pay16 (F := Ideal) m xi q k c v s (ix2 i e)
      = outRow (fun i j => m (ix2 i j)) (fun i => xi (ix2 i 0)) (fun i d => q (ix2 i d)) (fun i d => k (ix2 i d) * c (ix2 i d))
          (fun i e => v (ix2 i e)) (fun d e => s (ix2 d e)) i e := by
  unfold k0_pay16 k0_pay11 k0_pay12 k0_pay10 k0_pay14 k0_pay9
  pointwise
  rfl

theorem pay17_apply (ze : Vec Ideal S128x1 .f32) (g : Vec Ideal S1x1 .f32) (k c : Vec Ideal S128x256 .f32)
    (v : Vec Ideal S128x512 .f32) (s : Vec Ideal S256x512 .f32) (d : Fin 256) (e : Fin 512) :
    k0_pay17 (F := Ideal) ze g k c v s (ix2 d e)
      = nextState (fun i => ze (ix2 i 0)) (g (ix2 0 0)) (fun i d => k (ix2 i d) * c (ix2 i d))
          (fun i e => v (ix2 i e)) (fun d e => s (ix2 d e)) d e := by
  unfold k0_pay17 k0_pay13 k0_pay10 k0_pay9
  pointwise
  rfl

theorem pay18_apply (o z : Vec Ideal S128x512 .f32) (i : Fin 128) (e : Fin 512) :
    k0_pay18 (F := Ideal) o z (ix2 i e) = gated (fun e => o (ix2 i e)) (fun e => z (ix2 i e)) e := by
  unfold k0_pay18
  pointwise
  rfl

theorem chunkOut_apply (m : Vec Ideal S1x128x128 .f32) (xi : Vec Ideal S1x128x1 .f32) (cs sn : Vec Ideal S128x128 .f32)
    (q k : Vec Ideal S128x256 .f32) (v : Vec Ideal S128x512 .f32) (s : Vec Ideal S256x512 .f32) (i : Fin 128) (e : Fin 512) :
    chunkOut m xi cs sn q k v s (ix2 i e)
      = outRow (fun i j => m (ix3 0 i j)) (fun i => xi (ix3 0 i 0))
          (fun i => rot (fun a => cs (ix2 i a)) (fun a => sn (ix2 i a)) (fun a => q (ix2 i a)))
          (fun i d => rot (fun a => cs (ix2 i a)) (fun a => sn (ix2 i a)) (fun a => k (ix2 i a)) d * sixteenth)
          (fun i e => v (ix2 i e)) (fun d e => s (ix2 d e)) i e := by
  have hm : ∀ i j, k0_pay2 (F := Ideal) m (ix2 i j) = m (ix3 0 i j) := fun i j => by unfold k0_pay2; pointwise
  have hx : ∀ i, k0_pay3 (F := Ideal) xi (ix2 i 0) = xi (ix3 0 i 0) := fun i => by unfold k0_pay3; pointwise
  have hc : ∀ (i : Fin 128) (d : Fin 256), k0_pay8 (F := Ideal) (ix2 i d) = sixteenth := fun i d => by unfold k0_pay8; pointwise; rfl
  unfold chunkOut
  rw [pay16_apply]
  simp only [pay6_apply, pay7_apply, hm, hx, hc]

theorem chunkState_apply (ze : Vec Ideal S1x128x1 .f32) (g : Vec Ideal S1x1x1 .f32) (cs sn : Vec Ideal S128x128 .f32)
    (k : Vec Ideal S128x256 .f32) (v : Vec Ideal S128x512 .f32) (s : Vec Ideal S256x512 .f32) (d : Fin 256) (e : Fin 512) :
    chunkState ze g cs sn k v s (ix2 d e)
      = nextState (fun i => ze (ix3 0 i 0)) (g (ix3 0 0 0))
          (fun i d => rot (fun a => cs (ix2 i a)) (fun a => sn (ix2 i a)) (fun a => k (ix2 i a)) d * sixteenth)
          (fun i e => v (ix2 i e)) (fun d e => s (ix2 d e)) d e := by
  have hz : ∀ i, k0_pay4 (F := Ideal) ze (ix2 i 0) = ze (ix3 0 i 0) := fun i => by unfold k0_pay4; pointwise
  have hg : k0_pay5 (F := Ideal) g (ix2 0 0) = g (ix3 0 0 0) := by unfold k0_pay5; pointwise
  have hc : ∀ (i : Fin 128) (d : Fin 256), k0_pay8 (F := Ideal) (ix2 i d) = sixteenth := fun i d => by unfold k0_pay8; pointwise; rfl
  unfold chunkState
  rw [pay17_apply]
  simp only [pay7_apply, hz, hg, hc]

/-- The chunk's turned queries, scaled keys and decayed keys. -/
def chunkKept (ze : Vec Ideal S1x128x1 .f32) (cs sn : Vec Ideal S128x128 .f32) (q k : Vec Ideal S128x256 .f32) : Fin 3 → Vec Ideal S128x256 .bf16 :=
  ![k0_pay11 (F := Ideal) (k0_pay6 (F := Ideal) cs sn q), k0_pay12 (F := Ideal) (k0_pay7 (F := Ideal) cs sn k) (k0_pay8 (F := Ideal)),
    k0_pay13 (F := Ideal) (k0_pay4 (F := Ideal) ze) (k0_pay7 (F := Ideal) cs sn k) (k0_pay8 (F := Ideal))]

theorem chunkKept_apply (ze : Vec Ideal S1x128x1 .f32) (cs sn : Vec Ideal S128x128 .f32) (q k : Vec Ideal S128x256 .f32) (b : Fin 3)
    (i : Fin 128) (d : Fin 256) :
    chunkKept ze cs sn q k b (ix2 i d)
      = (![rot (fun a => cs (ix2 i a)) (fun a => sn (ix2 i a)) (fun a => q (ix2 i a)) d,
          rot (fun a => cs (ix2 i a)) (fun a => sn (ix2 i a)) (fun a => k (ix2 i a)) d * sixteenth,
          rot (fun a => cs (ix2 i a)) (fun a => sn (ix2 i a)) (fun a => k (ix2 i a)) d * sixteenth * ze (ix3 0 i 0)] : Fin 3 → EReal) b := by
  have hz : ∀ i, k0_pay4 (F := Ideal) ze (ix2 i 0) = ze (ix3 0 i 0) := fun i => by unfold k0_pay4; pointwise
  have hc : ∀ (i : Fin 128) (d : Fin 256), k0_pay8 (F := Ideal) (ix2 i d) = sixteenth := fun i d => by unfold k0_pay8; pointwise; rfl
  match b with
  | ⟨0, _⟩ =>
    show k0_pay11 (F := Ideal) (k0_pay6 (F := Ideal) cs sn q) (ix2 i d) = rot (fun a => cs (ix2 i a)) (fun a => sn (ix2 i a)) (fun a => q (ix2 i a)) d
    rw [← pay6_apply]
    unfold k0_pay11
    pointwise
  | ⟨1, _⟩ =>
    show k0_pay12 (F := Ideal) (k0_pay7 (F := Ideal) cs sn k) (k0_pay8 (F := Ideal)) (ix2 i d) = rot (fun a => cs (ix2 i a)) (fun a => sn (ix2 i a)) (fun a => k (ix2 i a)) d * sixteenth
    rw [← pay7_apply, ← hc i d]
    unfold k0_pay12 k0_pay9
    pointwise
  | ⟨2, _⟩ =>
    show k0_pay13 (F := Ideal) (k0_pay4 (F := Ideal) ze) (k0_pay7 (F := Ideal) cs sn k) (k0_pay8 (F := Ideal)) (ix2 i d) = rot (fun a => cs (ix2 i a)) (fun a => sn (ix2 i a)) (fun a => k (ix2 i a)) d * sixteenth * ze (ix3 0 i 0)
    rw [← pay7_apply, ← hc i d, ← hz i]
    unfold k0_pay13 k0_pay9
    pointwise

theorem pay15_apply (s : Vec Ideal S256x512 .f32) (d : Fin 256) (e : Fin 512) : k0_pay15 (F := Ideal) s (ix4 0 0 d e) = s (ix2 d e) := by
  unfold k0_pay15 k0_pay14
  pointwise

end Cert.Retention
end
-- ==== Proof.RfBlock.lean ====
/- The retention kernel at one grid point: the eight chunks of its block of 1024 rows. -/
module

public import proofs.«01_k».proof.Proof.Gen.KernelRfIdeal.Frame
public import proofs.«01_k».proof.Proof.RfChunk
public import Idealize.ShloMosaic.Lib.WritesUnit
public import Idealize.ShloMosaic.Lib.Pipeline.ReadBack

@[expose] public section

set_option maxRecDepth 16384

noncomputable section

namespace Cert.Retention

open Idealize.ShloMosaic Idealize.ShloMosaic.TcCoe Idealize.SL.Sem
open Cert.KernelRfIdeal Cert.KernelRfIdeal.Gen

/-- Chunk `n`'s 128 rows of a block of 1024. -/
def rows {w : ℕ} {e : EltTy} (x : (⟨2, ![1024, w]⟩ : Shape).Idx → Elt Ideal e) (n : Fin 8) : (⟨2, ![128, w]⟩ : Shape).Idx → Elt Ideal e :=
  fun y => x (ix2 (⟨128 * n.val + (y 0).val, by have : (y 0).val < 128 := (y 0).isLt; omega⟩ : Fin 1024) (y 1))

/-- A load of 128 rows of a window reads its contents there. -/
theorem load_rows {w : ℕ} {e : EltTy} (a : Memref sig .tc .vmem ⟨2, ![1024, w]⟩ e) (ha : a.IsWhole)
    (x : (⟨2, ![1024, w]⟩ : Shape).Idx → Elt Ideal e) (o : ℕ) (n : Fin 8) (ho : o = 128 * n.val)
    (inb : ∀ i, (![o, 0] : Fin 2 → ℕ) i + (![128, w] : Fin 2 → ℕ) i ≤ (![1024, w] : Fin 2 → ℕ) i) :
    View.readAt (Elt Ideal) a.view (Rect.unit (s := ⟨2, ![1024, w]⟩) ![o, 0] ![128, w] inb).toLoadRect (ha.unread x) = rows x n := by
  subst ho
  funext y
  refine (congrArg (fun X => View.ld X (Rect.unit (s := ⟨2, ![1024, w]⟩) ![128 * n.val, 0] ![128, w] inb) y) (ha.read_unread x)).trans
    (congrArg x (funext fun b => Fin.ext ?_))
  match b with
  | ⟨0, _⟩ => exact congrArg (128 * n.val + ·) (Nat.one_mul _)
  | ⟨1, _⟩ => exact (Nat.zero_add _).trans (Nat.one_mul _)

/-- Eight stores of 128 rows each: the row of chunk `n` is its store's. -/
theorem rows8 {e : EltTy} (v : View sig .tc .vmem S1024x512 e) (f : v.ty.Contents (Elt Ideal)) (P : Fin 8 → S128x512.Idx → Elt Ideal e)
    (n : Fin 8) (r : Fin 128) (k : Fin 512) :
    v.read (Elt Ideal) (v.writes (Elt Ideal) f
      [⟨Rect.unit ![896, 0] S128x512.size inb_S1024x512_S128x512_896_0, P 7⟩, ⟨Rect.unit ![768, 0] S128x512.size inb_S1024x512_S128x512_768_0, P 6⟩,
       ⟨Rect.unit ![640, 0] S128x512.size inb_S1024x512_S128x512_640_0, P 5⟩, ⟨Rect.unit ![512, 0] S128x512.size inb_S1024x512_S128x512_512_0, P 4⟩,
       ⟨Rect.unit ![384, 0] S128x512.size inb_S1024x512_S128x512_384_0, P 3⟩, ⟨Rect.unit ![256, 0] S128x512.size inb_S1024x512_S128x512_256_0, P 2⟩,
       ⟨Rect.unit ![128, 0] S128x512.size inb_S1024x512_S128x512_128_0, P 1⟩, ⟨Rect.unit ![0, 0] S128x512.size inb_S1024x512_S128x512_0_0, P 0⟩])
      (ix2 (⟨128 * n.val + r.val, by omega⟩ : Fin 1024) k) = P n (ix2 r k) := by
  have hr := r.isLt
  fin_cases n
  all_goals
    repeat first
      | exact View.read_writes_cons_rows_of_mem v f _ _ _ _ (ix2 r k) rfl (by simp [ix2] <;> omega) rfl
      | refine (View.read_writes_cons_rows_of_not_mem (W := 128) v f _ _ _ _ rfl rfl (Or.inl (by simp [ix2] <;> omega))).trans ?_

section Stores

variable (v : View sig .tc .vmem S1024x768 .bf16) (f : v.ty.Contents (Elt Ideal)) (n : Fin 8) (b : Fin 3) (r : Fin 128) (d : Fin 256) {o p : ℕ}
  (inb : ∀ a, (![o, p] : Fin 2 → ℕ) a + S128x256.size a ≤ S1024x768.size a) (w : S128x256.Idx → Elt Ideal .bf16)
  (L : List (View.Piece (Elt Ideal) S1024x768 .bf16))

/-- A store of 128 rows and 256 columns, read inside it, in rows below it, and in columns before it. -/
theorem cell_hit (ho : 128 * n.val = o) (hp : 256 * b.val = p) :
    v.read (Elt Ideal) (v.writes (Elt Ideal) f ((⟨Rect.unit ![o, p] S128x256.size inb, w⟩ : View.Piece (Elt Ideal) S1024x768 .bf16) :: L))
      (ix2 (⟨128 * n.val + r.val, by omega⟩ : Fin 1024) (⟨256 * b.val + d.val, by omega⟩ : Fin 768)) = w (ix2 r d) := by
  subst ho hp
  exact View.read_writes_cons_unit_of_mem v f inb w L _ (ix2 r d) rfl (fun a => match a with | ⟨0, _⟩ => rfl | ⟨1, _⟩ => rfl)

theorem cell_row (ho : 128 * n.val + 128 ≤ o) :
    v.read (Elt Ideal) (v.writes (Elt Ideal) f ((⟨Rect.unit ![o, p] S128x256.size inb, w⟩ : View.Piece (Elt Ideal) S1024x768 .bf16) :: L))
      (ix2 (⟨128 * n.val + r.val, by omega⟩ : Fin 1024) (⟨256 * b.val + d.val, by omega⟩ : Fin 768))
      = v.read (Elt Ideal) (v.writes (Elt Ideal) f L) (ix2 (⟨128 * n.val + r.val, by omega⟩ : Fin 1024) (⟨256 * b.val + d.val, by omega⟩ : Fin 768)) :=
  View.read_writes_cons_unit_of_not_mem v f inb w L _ rfl (0 : Fin 2) (Or.inl (by show 128 * n.val + r.val < o; omega))

theorem cell_col (hp : 256 * b.val + 256 ≤ p) :
    v.read (Elt Ideal) (v.writes (Elt Ideal) f ((⟨Rect.unit ![o, p] S128x256.size inb, w⟩ : View.Piece (Elt Ideal) S1024x768 .bf16) :: L))
      (ix2 (⟨128 * n.val + r.val, by omega⟩ : Fin 1024) (⟨256 * b.val + d.val, by omega⟩ : Fin 768))
      = v.read (Elt Ideal) (v.writes (Elt Ideal) f L) (ix2 (⟨128 * n.val + r.val, by omega⟩ : Fin 1024) (⟨256 * b.val + d.val, by omega⟩ : Fin 768)) :=
  View.read_writes_cons_unit_of_not_mem v f inb w L _ rfl (1 : Fin 2) (Or.inl (by show 256 * b.val + d.val < p; omega))

end Stores

section StateStores

variable (v : View sig .tc .vmem S1x8x256x512 .bf16) (f : v.ty.Contents (Elt Ideal)) (n : Fin 8) (d : Fin 256) (k : Fin 512) {o : ℕ}
  (inb : ∀ a, (![0, o, 0, 0] : Fin 4 → ℕ) a + S1x1x256x512.size a ≤ S1x8x256x512.size a) (w : S1x1x256x512.Idx → Elt Ideal .bf16)
  (L : List (View.Piece (Elt Ideal) S1x8x256x512 .bf16))

/-- A store of one state, read inside it and before it. -/
theorem state_hit (ho : n.val = o) :
    v.read (Elt Ideal) (v.writes (Elt Ideal) f ((⟨Rect.unit ![0, o, 0, 0] S1x1x256x512.size inb, w⟩ : View.Piece (Elt Ideal) S1x8x256x512 .bf16) :: L))
      (ix4 (0 : Fin 1) n d k) = w (ix4 0 0 d k) := by
  subst ho
  exact View.read_writes_cons_unit_of_mem v f inb w L _ (ix4 0 0 d k) rfl
    (fun a => match a with | ⟨0, _⟩ => rfl | ⟨1, _⟩ => rfl | ⟨2, _⟩ => (Nat.zero_add _).symm | ⟨3, _⟩ => (Nat.zero_add _).symm)

theorem state_miss (ho : n.val < o) :
    v.read (Elt Ideal) (v.writes (Elt Ideal) f ((⟨Rect.unit ![0, o, 0, 0] S1x1x256x512.size inb, w⟩ : View.Piece (Elt Ideal) S1x8x256x512 .bf16) :: L))
      (ix4 (0 : Fin 1) n d k) = v.read (Elt Ideal) (v.writes (Elt Ideal) f L) (ix4 (0 : Fin 1) n d k) :=
  View.read_writes_cons_unit_of_not_mem v f inb w L _ rfl (1 : Fin 4) (Or.inl ho)

end StateStores

set_option maxHeartbeats 2000000 in
/-- Eight stores of one state each. -/
theorem states8 (v : View sig .tc .vmem S1x8x256x512 .bf16) (f : v.ty.Contents (Elt Ideal)) (P : Fin 8 → S1x1x256x512.Idx → Elt Ideal .bf16)
    (n : Fin 8) (d : Fin 256) (k : Fin 512) :
    v.read (Elt Ideal) (v.writes (Elt Ideal) f
      [⟨Rect.unit ![0, 7, 0, 0] S1x1x256x512.size inb_S1x8x256x512_S1x1x256x512_0_7_0_0, P 7⟩,
       ⟨Rect.unit ![0, 6, 0, 0] S1x1x256x512.size inb_S1x8x256x512_S1x1x256x512_0_6_0_0, P 6⟩,
       ⟨Rect.unit ![0, 5, 0, 0] S1x1x256x512.size inb_S1x8x256x512_S1x1x256x512_0_5_0_0, P 5⟩,
       ⟨Rect.unit ![0, 4, 0, 0] S1x1x256x512.size inb_S1x8x256x512_S1x1x256x512_0_4_0_0, P 4⟩,
       ⟨Rect.unit ![0, 3, 0, 0] S1x1x256x512.size inb_S1x8x256x512_S1x1x256x512_0_3_0_0, P 3⟩,
       ⟨Rect.unit ![0, 2, 0, 0] S1x1x256x512.size inb_S1x8x256x512_S1x1x256x512_0_2_0_0, P 2⟩,
       ⟨Rect.unit ![0, 1, 0, 0] S1x1x256x512.size inb_S1x8x256x512_S1x1x256x512_0_1_0_0, P 1⟩,
       ⟨Rect.unit ![0, 0, 0, 0] S1x1x256x512.size inb_S1x8x256x512_S1x1x256x512_0_0_0_0, P 0⟩])
      (ix4 (0 : Fin 1) n d k) = P n (ix4 0 0 d k) := by
  match n with
  | ⟨0, _⟩ | ⟨1, _⟩ | ⟨2, _⟩ | ⟨3, _⟩ | ⟨4, _⟩ | ⟨5, _⟩ | ⟨6, _⟩ | ⟨7, _⟩ =>
    repeat first
      | refine (state_miss v f _ d k _ _ _ (by exact Nat.le_of_ble_eq_true rfl)).trans ?_
      | exact state_hit v f _ d k _ _ _ rfl

set_option maxHeartbeats 2000000 in
/-- Twenty-four stores of 128 rows and 256 columns each. -/
theorem rows24 (v : View sig .tc .vmem S1024x768 .bf16) (f : v.ty.Contents (Elt Ideal)) (P : Fin 8 → Fin 3 → S128x256.Idx → Elt Ideal .bf16)
    (n : Fin 8) (b : Fin 3) (r : Fin 128) (d : Fin 256) :
    v.read (Elt Ideal) (v.writes (Elt Ideal) f
      [⟨Rect.unit ![896, 512] S128x256.size inb_S1024x768_S128x256_896_512, P 7 2⟩, ⟨Rect.unit ![896, 256] S128x256.size inb_S1024x768_S128x256_896_256, P 7 1⟩, ⟨Rect.unit ![896, 0] S128x256.size inb_S1024x768_S128x256_896_0, P 7 0⟩,
       ⟨Rect.unit ![768, 512] S128x256.size inb_S1024x768_S128x256_768_512, P 6 2⟩, ⟨Rect.unit ![768, 256] S128x256.size inb_S1024x768_S128x256_768_256, P 6 1⟩, ⟨Rect.unit ![768, 0] S128x256.size inb_S1024x768_S128x256_768_0, P 6 0⟩,
       ⟨Rect.unit ![640, 512] S128x256.size inb_S1024x768_S128x256_640_512, P 5 2⟩, ⟨Rect.unit ![640, 256] S128x256.size inb_S1024x768_S128x256_640_256, P 5 1⟩, ⟨Rect.unit ![640, 0] S128x256.size inb_S1024x768_S128x256_640_0, P 5 0⟩,
       ⟨Rect.unit ![512, 512] S128x256.size inb_S1024x768_S128x256_512_512, P 4 2⟩, ⟨Rect.unit ![512, 256] S128x256.size inb_S1024x768_S128x256_512_256, P 4 1⟩, ⟨Rect.unit ![512, 0] S128x256.size inb_S1024x768_S128x256_512_0, P 4 0⟩,
       ⟨Rect.unit ![384, 512] S128x256.size inb_S1024x768_S128x256_384_512, P 3 2⟩, ⟨Rect.unit ![384, 256] S128x256.size inb_S1024x768_S128x256_384_256, P 3 1⟩, ⟨Rect.unit ![384, 0] S128x256.size inb_S1024x768_S128x256_384_0, P 3 0⟩,
       ⟨Rect.unit ![256, 512] S128x256.size inb_S1024x768_S128x256_256_512, P 2 2⟩, ⟨Rect.unit ![256, 256] S128x256.size inb_S1024x768_S128x256_256_256, P 2 1⟩, ⟨Rect.unit ![256, 0] S128x256.size inb_S1024x768_S128x256_256_0, P 2 0⟩,
       ⟨Rect.unit ![128, 512] S128x256.size inb_S1024x768_S128x256_128_512, P 1 2⟩, ⟨Rect.unit ![128, 256] S128x256.size inb_S1024x768_S128x256_128_256, P 1 1⟩, ⟨Rect.unit ![128, 0] S128x256.size inb_S1024x768_S128x256_128_0, P 1 0⟩,
       ⟨Rect.unit ![0, 512] S128x256.size inb_S1024x768_S128x256_0_512, P 0 2⟩, ⟨Rect.unit ![0, 256] S128x256.size inb_S1024x768_S128x256_0_256, P 0 1⟩, ⟨Rect.unit ![0, 0] S128x256.size inb_S1024x768_S128x256_0_0, P 0 0⟩])
      (ix2 (⟨128 * n.val + r.val, by omega⟩ : Fin 1024) (⟨256 * b.val + d.val, by omega⟩ : Fin 768)) = P n b (ix2 r d) := by
  match n with
  | ⟨0, _⟩ | ⟨1, _⟩ | ⟨2, _⟩ | ⟨3, _⟩ | ⟨4, _⟩ | ⟨5, _⟩ | ⟨6, _⟩ | ⟨7, _⟩ =>
    match b with
    | ⟨0, _⟩ | ⟨1, _⟩ | ⟨2, _⟩ =>
      repeat first
        | refine (cell_row v f _ _ r d _ _ _ (by exact Nat.le_of_ble_eq_true rfl)).trans ?_
        | refine (cell_col v f _ _ r d _ _ _ (by exact Nat.le_of_ble_eq_true rfl)).trans ?_
        | exact cell_hit v f _ _ r d _ _ _ rfl rfl

theorem inb_rows (w : ℕ) (n : Fin 8) : ∀ i, (![128 * n.val, 0] : Fin 2 → ℕ) i + (![128, w] : Fin 2 → ℕ) i ≤ (![1024, w] : Fin 2 → ℕ) i :=
  fun i => by match i with | ⟨0, _⟩ => show 128 * n.val + 128 ≤ 1024; omega | ⟨1, _⟩ => exact (Nat.zero_add _).le

/-- The load of chunk `n`'s rows of a window. -/
abbrev ldRows {w : ℕ} {e : EltTy} (a : Memref sig .tc .vmem ⟨2, ![1024, w]⟩ e) (ha : a.IsWhole)
    (x : (⟨2, ![1024, w]⟩ : Shape).Idx → Elt Ideal e) (n : Fin 8) : (⟨2, ![128, w]⟩ : Shape).Idx → Elt Ideal e :=
  View.readAt (Elt Ideal) a.view (Rect.unit (s := ⟨2, ![1024, w]⟩) ![128 * n.val, 0] ![128, w] (inb_rows w n)).toLoadRect (ha.unread x)

theorem ldRows_eq {w : ℕ} {e : EltTy} (a : Memref sig .tc .vmem ⟨2, ![1024, w]⟩ e) (ha : a.IsWhole)
    (x : (⟨2, ![1024, w]⟩ : Shape).Idx → Elt Ideal e) (n : Fin 8) : ldRows a ha x n = rows x n :=
  load_rows a ha x _ n rfl _

/-- The load of the leading block of a rank-3 window. -/
abbrev ldTab {S T : Fin 3 → ℕ} {e : EltTy} (a : Memref sig .tc .vmem ⟨3, S⟩ e) (ha : a.IsWhole) (x : (⟨3, S⟩ : Shape).Idx → Elt Ideal e)
    (inb : ∀ i, (![0, 0, 0] : Fin 3 → ℕ) i + T i ≤ S i) : (⟨3, T⟩ : Shape).Idx → Elt Ideal e :=
  View.readAt (Elt Ideal) a.view (Rect.unit (s := ⟨3, S⟩) ![0, 0, 0] T inb).toLoadRect (ha.unread x)

theorem ldTab_apply {S T : Fin 3 → ℕ} {e : EltTy} (a : Memref sig .tc .vmem ⟨3, S⟩ e) (ha : a.IsWhole) (x : (⟨3, S⟩ : Shape).Idx → Elt Ideal e)
    (inb : ∀ i, (![0, 0, 0] : Fin 3 → ℕ) i + T i ≤ S i) (y : (⟨3, T⟩ : Shape).Idx) (z : (⟨3, S⟩ : Shape).Idx) (h : ∀ b, (z b).val = (y b).val) :
    ldTab a ha x inb y = x z := by
  refine (congrArg (fun X => View.ld X (Rect.unit (s := ⟨3, S⟩) ![0, 0, 0] T inb) y) (ha.read_unread x)).trans (congrArg x (funext fun b => Fin.ext ?_))
  rw [h b]
  match b with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem ldTab_eq {S : Fin 3 → ℕ} {e : EltTy} (a : Memref sig .tc .vmem ⟨3, S⟩ e) (ha : a.IsWhole) (x : (⟨3, S⟩ : Shape).Idx → Elt Ideal e)
    (inb : ∀ i, (![0, 0, 0] : Fin 3 → ℕ) i + S i ≤ S i) : ldTab a ha x inb = x :=
  funext fun y => ldTab_apply a ha x inb y y fun _ => rfl

/-- The leading entry of the chunk decay's window. -/
def lead (x : Vec Ideal S1x1x128 .f32) : Vec Ideal S1x1x1 .f32 := fun _ => x (ix3 0 0 0)

theorem inb_lead : ∀ i, (![0, 0, 0] : Fin 3 → ℕ) i + (![1, 1, 1] : Fin 3 → ℕ) i ≤ (![1, 1, 128] : Fin 3 → ℕ) i := by decide

theorem ldTab_lead (a : Memref sig .tc .vmem S1x1x128 .f32) (ha : a.IsWhole) (x : Vec Ideal S1x1x128 .f32) :
    ldTab (T := ![1, 1, 1]) a ha x inb_lead = lead x :=
  funext fun y => ldTab_apply a ha x _ y _ fun b => by
    match b with
    | ⟨0, _⟩ => exact (Fin.val_eq_zero (y 0)).symm
    | ⟨1, _⟩ => exact (Fin.val_eq_zero (y 1)).symm
    | ⟨2, _⟩ => exact (Fin.val_eq_zero (y 2)).symm

/-- The state before each chunk of a block, from the one at its start. -/
def blockState (x1 : Vec Ideal S1024x256 .f32) (x2 : Vec Ideal S1024x512 .f32) (x4 x5 : Vec Ideal S1024x128 .f32) (x8 : Vec Ideal S1x128x1 .f32)
    (x9 : Vec Ideal S1x1x128 .f32) (s : Vec Ideal S256x512 .f32) : ℕ → Vec Ideal S256x512 .f32
  | 0 => s
  | n + 1 => chunkState x8 (lead x9) (rows x4 (Fin.ofNat 8 n)) (rows x5 (Fin.ofNat 8 n)) (rows x1 (Fin.ofNat 8 n)) (rows x2 (Fin.ofNat 8 n))
      (blockState x1 x2 x4 x5 x8 x9 s n)

/-- Chunk `n`'s rows of a block. -/
def blockOut (x0 x1 : Vec Ideal S1024x256 .f32) (x2 : Vec Ideal S1024x512 .f32) (x4 x5 : Vec Ideal S1024x128 .f32) (x6 : Vec Ideal S1x128x128 .f32)
    (x7 x8 : Vec Ideal S1x128x1 .f32) (x9 : Vec Ideal S1x1x128 .f32) (s : Vec Ideal S256x512 .f32) (n : Fin 8) : Vec Ideal S128x512 .f32 :=
  chunkOut x6 x7 (rows x4 n) (rows x5 n) (rows x0 n) (rows x1 n) (rows x2 n) (blockState x1 x2 x4 x5 x8 x9 s n.val)

/-- A whole load of the state reads what the stores left. -/
theorem canon_whole (v : View sig .tc .vmem S256x512 .f32) (L : List (View.Piece (Elt Ideal) S256x512 .f32)) :
    v.readCov (Val := Elt Ideal) L (Rect.unit ![0, 0] S256x512.size inb_S256x512_S256x512_0_0).toLoadRect = View.canon L :=
  (View.readCov_eq_canon' v L _).trans
    (View.ld_unit_zero (funext fun a => by match a with | ⟨0, _⟩ => rfl | ⟨1, _⟩ => rfl) inb_S256x512_S256x512_0_0 (View.canon L))

section Block

variable (x0 x1 : Vec Ideal S1024x256 .f32) (x2 x3 : Vec Ideal S1024x512 .f32) (x4 x5 : Vec Ideal S1024x128 .f32) (x6 : Vec Ideal S1x128x128 .f32)
  (x7 x8 : Vec Ideal S1x128x1 .f32) (x9 : Vec Ideal S1x1x128 .f32) (s : Vec Ideal S256x512 .f32)
  (c : Dev nD) (i : grid0.Coords)
  (arg2 : Memref sig .tc .vmem S1024x256 .f32) (h2 : arg2.IsWhole) (arg3 : Memref sig .tc .vmem S1024x256 .f32) (h3 : arg3.IsWhole)
  (arg4 : Memref sig .tc .vmem S1024x512 .f32) (h4 : arg4.IsWhole) (arg5 : Memref sig .tc .vmem S1024x512 .f32) (h5 : arg5.IsWhole)
  (arg6 : Memref sig .tc .vmem S1024x128 .f32) (h6 : arg6.IsWhole) (arg7 : Memref sig .tc .vmem S1024x128 .f32) (h7 : arg7.IsWhole)
  (arg8 : Memref sig .tc .vmem S1x128x128 .f32) (h8 : arg8.IsWhole) (arg9 : Memref sig .tc .vmem S1x128x1 .f32) (h9 : arg9.IsWhole)
  (arg10 : Memref sig .tc .vmem S1x128x1 .f32) (h10 : arg10.IsWhole) (arg11 : Memref sig .tc .vmem S1x1x128 .f32) (h11 : arg11.IsWhole)
  (arg12 : Memref sig .tc .vmem S1024x512 .bf16) (h12 : arg12.IsWhole) (arg13 : Memref sig .tc .vmem S1024x512 .f32) (h13 : arg13.IsWhole)
  (arg14 : Memref sig .tc .vmem S1x8x256x512 .bf16) (h14 : arg14.IsWhole) (arg15 : Memref sig .tc .vmem S1024x768 .bf16) (h15 : arg15.IsWhole)
  (arg16 : Memref sig .tc .vmem S256x512 .f32) (h16 : arg16.IsWhole)

/-- A state stored and read back whole is the chunk's, of the loaded rows. -/
theorem state_step (n : ℕ) (L : List (View.Piece (Elt Ideal) S256x512 .f32)) (p : Vec Ideal S256x512 .f32)
    (hp : p = blockState x1 x2 x4 x5 x8 x9 s n) :
    arg16.view.readCov (Val := Elt Ideal)
      (⟨Rect.unit ![0, 0] S256x512.size inb_S256x512_S256x512_0_0,
        chunkState (ldTab arg10 h10 x8 inb_S1x128x1_S1x128x1_0_0_0) (ldTab (T := ![1, 1, 1]) arg11 h11 x9 inb_lead)
          (ldRows arg6 h6 x4 (Fin.ofNat 8 n)) (ldRows arg7 h7 x5 (Fin.ofNat 8 n)) (ldRows arg3 h3 x1 (Fin.ofNat 8 n)) (ldRows arg4 h4 x2 (Fin.ofNat 8 n)) p⟩ :: L)
      (Rect.unit ![0, 0] S256x512.size inb_S256x512_S256x512_0_0).toLoadRect
      = blockState x1 x2 x4 x5 x8 x9 s (n + 1) := by
  subst hp
  refine (View.readCov_fill (Val := Elt Ideal) (e := .f32) arg16.view (off := ![0, 0]) inb_S256x512_S256x512_0_0 _ L _ (fun a => by match a with | ⟨0, _⟩ => rfl | ⟨1, _⟩ => rfl)).trans ?_
  refine (View.ld_unit_zero (funext fun a => by match a with | ⟨0, _⟩ => rfl | ⟨1, _⟩ => rfl) _ _).trans ?_
  rw [ldTab_eq, ldTab_lead, ldRows_eq, ldRows_eq, ldRows_eq, ldRows_eq]
  rfl

/-- The states the body loads before each chunk, where it starts from zero. -/
def loadedA : Fin 8 → Vec Ideal S256x512 .f32 :=
  ![kernelRun0_A.sl.v45 (F := Ideal) c arg16, kernelRun0_A.sl.v122 (F := Ideal) c arg3 h3 arg4 h4 arg6 h6 arg7 h7 arg10 h10 arg11 h11 arg16 x1 x2 x4 x5 x8 x9, kernelRun0_A.sl.v199 (F := Ideal) c arg3 h3 arg4 h4 arg6 h6 arg7 h7 arg10 h10 arg11 h11 arg16 x1 x2 x4 x5 x8 x9, kernelRun0_A.sl.v276 (F := Ideal) c arg3 h3 arg4 h4 arg6 h6 arg7 h7 arg10 h10 arg11 h11 arg16 x1 x2 x4 x5 x8 x9, kernelRun0_A.sl.v353 (F := Ideal) c arg3 h3 arg4 h4 arg6 h6 arg7 h7 arg10 h10 arg11 h11 arg16 x1 x2 x4 x5 x8 x9, kernelRun0_A.sl.v430 (F := Ideal) c arg3 h3 arg4 h4 arg6 h6 arg7 h7 arg10 h10 arg11 h11 arg16 x1 x2 x4 x5 x8 x9, kernelRun0_A.sl.v507 (F := Ideal) c arg3 h3 arg4 h4 arg6 h6 arg7 h7 arg10 h10 arg11 h11 arg16 x1 x2 x4 x5 x8 x9, kernelRun0_A.sl.v584 (F := Ideal) c arg3 h3 arg4 h4 arg6 h6 arg7 h7 arg10 h10 arg11 h11 arg16 x1 x2 x4 x5 x8 x9]

/-- The same, where it starts from what the scratch holds. -/
def loadedB : Fin 8 → Vec Ideal S256x512 .f32 :=
  ![View.readAt (Elt Ideal) arg16.view (Rect.unit ![0, 0] S256x512.size inb_S256x512_S256x512_0_0).toLoadRect (h16.unread s), kernelRun0_B.sl.v122 (F := Ideal) c arg3 h3 arg4 h4 arg6 h6 arg7 h7 arg10 h10 arg11 h11 arg16 h16 x1 x2 x4 x5 x8 x9 s, kernelRun0_B.sl.v199 (F := Ideal) c arg3 h3 arg4 h4 arg6 h6 arg7 h7 arg10 h10 arg11 h11 arg16 h16 x1 x2 x4 x5 x8 x9 s, kernelRun0_B.sl.v276 (F := Ideal) c arg3 h3 arg4 h4 arg6 h6 arg7 h7 arg10 h10 arg11 h11 arg16 h16 x1 x2 x4 x5 x8 x9 s, kernelRun0_B.sl.v353 (F := Ideal) c arg3 h3 arg4 h4 arg6 h6 arg7 h7 arg10 h10 arg11 h11 arg16 h16 x1 x2 x4 x5 x8 x9 s, kernelRun0_B.sl.v430 (F := Ideal) c arg3 h3 arg4 h4 arg6 h6 arg7 h7 arg10 h10 arg11 h11 arg16 h16 x1 x2 x4 x5 x8 x9 s, kernelRun0_B.sl.v507 (F := Ideal) c arg3 h3 arg4 h4 arg6 h6 arg7 h7 arg10 h10 arg11 h11 arg16 h16 x1 x2 x4 x5 x8 x9 s, kernelRun0_B.sl.v584 (F := Ideal) c arg3 h3 arg4 h4 arg6 h6 arg7 h7 arg10 h10 arg11 h11 arg16 h16 x1 x2 x4 x5 x8 x9 s]

theorem loadedA_eq (n : Fin 8) : loadedA x1 x2 x4 x5 x8 x9 c arg3 h3 arg4 h4 arg6 h6 arg7 h7 arg10 h10 arg11 h11 arg16 n = blockState x1 x2 x4 x5 x8 x9 (k0_pay1 (F := Ideal)) n.val := by
  have e0 : kernelRun0_A.sl.v45 (F := Ideal) c arg16 = blockState x1 x2 x4 x5 x8 x9 (k0_pay1 (F := Ideal)) 0 :=
    (View.readCov_fill (Val := Elt Ideal) (e := .f32) arg16.view (off := ![0, 0]) inb_S256x512_S256x512_0_0 _ [] _ (fun a => by match a with | ⟨0, _⟩ => rfl | ⟨1, _⟩ => rfl)).trans
      (View.ld_unit_zero (funext fun a => by match a with | ⟨0, _⟩ => rfl | ⟨1, _⟩ => rfl) _ _)
  have e1 : kernelRun0_A.sl.v122 (F := Ideal) c arg3 h3 arg4 h4 arg6 h6 arg7 h7 arg10 h10 arg11 h11 arg16 x1 x2 x4 x5 x8 x9 = blockState x1 x2 x4 x5 x8 x9 (k0_pay1 (F := Ideal)) 1 := state_step x1 x2 x4 x5 x8 x9 _ arg3 h3 arg4 h4 arg6 h6 arg7 h7 arg10 h10 arg11 h11 arg16 0 _ _ e0
  have e2 : kernelRun0_A.sl.v199 (F := Ideal) c arg3 h3 arg4 h4 arg6 h6 arg7 h7 arg10 h10 arg11 h11 arg16 x1 x2 x4 x5 x8 x9 = blockState x1 x2 x4 x5 x8 x9 (k0_pay1 (F := Ideal)) 2 := state_step x1 x2 x4 x5 x8 x9 _ arg3 h3 arg4 h4 arg6 h6 arg7 h7 arg10 h10 arg11 h11 arg16 1 _ _ e1
  have e3 : kernelRun0_A.sl.v276 (F := Ideal) c arg3 h3 arg4 h4 arg6 h6 arg7 h7 arg10 h10 arg11 h11 arg16 x1 x2 x4 x5 x8 x9 = blockState x1 x2 x4 x5 x8 x9 (k0_pay1 (F := Ideal)) 3 := state_step x1 x2 x4 x5 x8 x9 _ arg3 h3 arg4 h4 arg6 h6 arg7 h7 arg10 h10 arg11 h11 arg16 2 _ _ e2
  have e4 : kernelRun0_A.sl.v353 (F := Ideal) c arg3 h3 arg4 h4 arg6 h6 arg7 h7 arg10 h10 arg11 h11 arg16 x1 x2 x4 x5 x8 x9 = blockState x1 x2 x4 x5 x8 x9 (k0_pay1 (F := Ideal)) 4 := state_step x1 x2 x4 x5 x8 x9 _ arg3 h3 arg4 h4 arg6 h6 arg7 h7 arg10 h10 arg11 h11 arg16 3 _ _ e3
  have e5 : kernelRun0_A.sl.v430 (F := Ideal) c arg3 h3 arg4 h4 arg6 h6 arg7 h7 arg10 h10 arg11 h11 arg16 x1 x2 x4 x5 x8 x9 = blockState x1 x2 x4 x5 x8 x9 (k0_pay1 (F := Ideal)) 5 := state_step x1 x2 x4 x5 x8 x9 _ arg3 h3 arg4 h4 arg6 h6 arg7 h7 arg10 h10 arg11 h11 arg16 4 _ _ e4
  have e6 : kernelRun0_A.sl.v507 (F := Ideal) c arg3 h3 arg4 h4 arg6 h6 arg7 h7 arg10 h10 arg11 h11 arg16 x1 x2 x4 x5 x8 x9 = blockState x1 x2 x4 x5 x8 x9 (k0_pay1 (F := Ideal)) 6 := state_step x1 x2 x4 x5 x8 x9 _ arg3 h3 arg4 h4 arg6 h6 arg7 h7 arg10 h10 arg11 h11 arg16 5 _ _ e5
  have e7 : kernelRun0_A.sl.v584 (F := Ideal) c arg3 h3 arg4 h4 arg6 h6 arg7 h7 arg10 h10 arg11 h11 arg16 x1 x2 x4 x5 x8 x9 = blockState x1 x2 x4 x5 x8 x9 (k0_pay1 (F := Ideal)) 7 := state_step x1 x2 x4 x5 x8 x9 _ arg3 h3 arg4 h4 arg6 h6 arg7 h7 arg10 h10 arg11 h11 arg16 6 _ _ e6
  match n with
  | ⟨0, _⟩ => exact e0
  | ⟨1, _⟩ => exact e1
  | ⟨2, _⟩ => exact e2
  | ⟨3, _⟩ => exact e3
  | ⟨4, _⟩ => exact e4
  | ⟨5, _⟩ => exact e5
  | ⟨6, _⟩ => exact e6
  | ⟨7, _⟩ => exact e7

theorem loadedB_eq (n : Fin 8) : loadedB x1 x2 x4 x5 x8 x9 s c arg3 h3 arg4 h4 arg6 h6 arg7 h7 arg10 h10 arg11 h11 arg16 h16 n = blockState x1 x2 x4 x5 x8 x9 s n.val := by
  have e0 : View.readAt (Elt Ideal) arg16.view (Rect.unit ![0, 0] S256x512.size inb_S256x512_S256x512_0_0).toLoadRect (h16.unread s) = blockState x1 x2 x4 x5 x8 x9 s 0 :=
    (congrArg (fun X => View.ld X (Rect.unit ![0, 0] S256x512.size inb_S256x512_S256x512_0_0)) (h16.read_unread s)).trans
      (View.ld_unit_zero (funext fun a => by match a with | ⟨0, _⟩ => rfl | ⟨1, _⟩ => rfl) _ _)
  have e1 : kernelRun0_B.sl.v122 (F := Ideal) c arg3 h3 arg4 h4 arg6 h6 arg7 h7 arg10 h10 arg11 h11 arg16 h16 x1 x2 x4 x5 x8 x9 s = blockState x1 x2 x4 x5 x8 x9 s 1 := state_step x1 x2 x4 x5 x8 x9 _ arg3 h3 arg4 h4 arg6 h6 arg7 h7 arg10 h10 arg11 h11 arg16 0 _ _ e0
  have e2 : kernelRun0_B.sl.v199 (F := Ideal) c arg3 h3 arg4 h4 arg6 h6 arg7 h7 arg10 h10 arg11 h11 arg16 h16 x1 x2 x4 x5 x8 x9 s = blockState x1 x2 x4 x5 x8 x9 s 2 := state_step x1 x2 x4 x5 x8 x9 _ arg3 h3 arg4 h4 arg6 h6 arg7 h7 arg10 h10 arg11 h11 arg16 1 _ _ e1
  have e3 : kernelRun0_B.sl.v276 (F := Ideal) c arg3 h3 arg4 h4 arg6 h6 arg7 h7 arg10 h10 arg11 h11 arg16 h16 x1 x2 x4 x5 x8 x9 s = blockState x1 x2 x4 x5 x8 x9 s 3 := state_step x1 x2 x4 x5 x8 x9 _ arg3 h3 arg4 h4 arg6 h6 arg7 h7 arg10 h10 arg11 h11 arg16 2 _ _ e2
  have e4 : kernelRun0_B.sl.v353 (F := Ideal) c arg3 h3 arg4 h4 arg6 h6 arg7 h7 arg10 h10 arg11 h11 arg16 h16 x1 x2 x4 x5 x8 x9 s = blockState x1 x2 x4 x5 x8 x9 s 4 := state_step x1 x2 x4 x5 x8 x9 _ arg3 h3 arg4 h4 arg6 h6 arg7 h7 arg10 h10 arg11 h11 arg16 3 _ _ e3
  have e5 : kernelRun0_B.sl.v430 (F := Ideal) c arg3 h3 arg4 h4 arg6 h6 arg7 h7 arg10 h10 arg11 h11 arg16 h16 x1 x2 x4 x5 x8 x9 s = blockState x1 x2 x4 x5 x8 x9 s 5 := state_step x1 x2 x4 x5 x8 x9 _ arg3 h3 arg4 h4 arg6 h6 arg7 h7 arg10 h10 arg11 h11 arg16 4 _ _ e4
  have e6 : kernelRun0_B.sl.v507 (F := Ideal) c arg3 h3 arg4 h4 arg6 h6 arg7 h7 arg10 h10 arg11 h11 arg16 h16 x1 x2 x4 x5 x8 x9 s = blockState x1 x2 x4 x5 x8 x9 s 6 := state_step x1 x2 x4 x5 x8 x9 _ arg3 h3 arg4 h4 arg6 h6 arg7 h7 arg10 h10 arg11 h11 arg16 5 _ _ e5
  have e7 : kernelRun0_B.sl.v584 (F := Ideal) c arg3 h3 arg4 h4 arg6 h6 arg7 h7 arg10 h10 arg11 h11 arg16 h16 x1 x2 x4 x5 x8 x9 s = blockState x1 x2 x4 x5 x8 x9 s 7 := state_step x1 x2 x4 x5 x8 x9 _ arg3 h3 arg4 h4 arg6 h6 arg7 h7 arg10 h10 arg11 h11 arg16 6 _ _ e6
  match n with
  | ⟨0, _⟩ => exact e0
  | ⟨1, _⟩ => exact e1
  | ⟨2, _⟩ => exact e2
  | ⟨3, _⟩ => exact e3
  | ⟨4, _⟩ => exact e4
  | ⟨5, _⟩ => exact e5
  | ⟨6, _⟩ => exact e6
  | ⟨7, _⟩ => exact e7

/-- Chunk `n`'s rows, of loaded values. -/
abbrev loadedOut (st : Fin 8 → Vec Ideal S256x512 .f32) (n : Fin 8) : Vec Ideal S128x512 .f32 :=
  chunkOut (ldTab arg8 h8 x6 inb_S1x128x128_S1x128x128_0_0_0) (ldTab arg9 h9 x7 inb_S1x128x1_S1x128x1_0_0_0) (ldRows arg6 h6 x4 n) (ldRows arg7 h7 x5 n)
    (ldRows arg2 h2 x0 n) (ldRows arg3 h3 x1 n) (ldRows arg4 h4 x2 n) (st n)

theorem loadedOut_eq (st : Fin 8 → Vec Ideal S256x512 .f32) (n : Fin 8) (h : st n = blockState x1 x2 x4 x5 x8 x9 s n.val) :
    loadedOut x0 x1 x2 x4 x5 x6 x7 arg2 h2 arg3 h3 arg4 h4 arg6 h6 arg7 h7 arg8 h8 arg9 h9 st n = blockOut x0 x1 x2 x4 x5 x6 x7 x8 x9 s n := by
  unfold loadedOut
  rw [ldTab_eq, ldTab_eq, ldRows_eq, ldRows_eq, ldRows_eq, ldRows_eq, ldRows_eq, h]
  rfl

theorem outA11 (hc) (n : Fin 8) (r : Fin 128) (k : Fin 512) :
    out0_A_11 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 (ix2 (⟨128 * n.val + r.val, by omega⟩ : Fin 1024) k)
      = blockOut x0 x1 x2 x4 x5 x6 x7 x8 x9 (k0_pay1 (F := Ideal)) n (ix2 r k) := by
  unfold out0_A_11
  exact (rows8 VO0_11 _ (fun n => loadedOut x0 x1 x2 x4 x5 x6 x7 arg2 h2 arg3 h3 arg4 h4 arg6 h6 arg7 h7 arg8 h8 arg9 h9 (loadedA x1 x2 x4 x5 x8 x9 c arg3 h3 arg4 h4 arg6 h6 arg7 h7 arg10 h10 arg11 h11 arg16) n) n r k).trans
    (congrFun (loadedOut_eq x0 x1 x2 x4 x5 x6 x7 x8 x9 (k0_pay1 (F := Ideal)) arg2 h2 arg3 h3 arg4 h4 arg6 h6 arg7 h7 arg8 h8 arg9 h9 (loadedA x1 x2 x4 x5 x8 x9 c arg3 h3 arg4 h4 arg6 h6 arg7 h7 arg10 h10 arg11 h11 arg16) n (loadedA_eq x1 x2 x4 x5 x8 x9 c arg3 h3 arg4 h4 arg6 h6 arg7 h7 arg10 h10 arg11 h11 arg16 n)) _)

theorem outA10 (hc) (n : Fin 8) (r : Fin 128) (k : Fin 512) :
    out0_A_10 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 (ix2 (⟨128 * n.val + r.val, by omega⟩ : Fin 1024) k)
      = k0_pay18 (F := Ideal) (blockOut x0 x1 x2 x4 x5 x6 x7 x8 x9 (k0_pay1 (F := Ideal)) n) (rows x3 n) (ix2 r k) := by
  unfold out0_A_10
  refine (rows8 VO0_10 _ (fun n => k0_pay18 (F := Ideal) (loadedOut x0 x1 x2 x4 x5 x6 x7 arg2 h2 arg3 h3 arg4 h4 arg6 h6 arg7 h7 arg8 h8 arg9 h9 (loadedA x1 x2 x4 x5 x8 x9 c arg3 h3 arg4 h4 arg6 h6 arg7 h7 arg10 h10 arg11 h11 arg16) n) (ldRows arg5 h5 x3 n)) n r k).trans ?_
  rw [ldRows_eq, loadedOut_eq x0 x1 x2 x4 x5 x6 x7 x8 x9 (k0_pay1 (F := Ideal)) arg2 h2 arg3 h3 arg4 h4 arg6 h6 arg7 h7 arg8 h8 arg9 h9 (loadedA x1 x2 x4 x5 x8 x9 c arg3 h3 arg4 h4 arg6 h6 arg7 h7 arg10 h10 arg11 h11 arg16) n (loadedA_eq x1 x2 x4 x5 x8 x9 c arg3 h3 arg4 h4 arg6 h6 arg7 h7 arg10 h10 arg11 h11 arg16 n)]

/-- What the block leaves in the scratch. -/
theorem scrA (hc) :
    sout0_A_0 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 = blockState x1 x2 x4 x5 x8 x9 (k0_pay1 (F := Ideal)) 8 := by
  unfold sout0_A_0
  exact (View.read_writes_junk_eq_canon (Val := Elt Ideal) VS0_0 _).trans ((canon_whole arg16.view _).symm.trans
    (state_step x1 x2 x4 x5 x8 x9 (k0_pay1 (F := Ideal)) arg3 h3 arg4 h4 arg6 h6 arg7 h7 arg10 h10 arg11 h11 arg16 7 _ _ (loadedA_eq x1 x2 x4 x5 x8 x9 c arg3 h3 arg4 h4 arg6 h6 arg7 h7 arg10 h10 arg11 h11 arg16 7)))

theorem outB11 (hc) (n : Fin 8) (r : Fin 128) (k : Fin 512) :
    out0_B_11 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 s (ix2 (⟨128 * n.val + r.val, by omega⟩ : Fin 1024) k)
      = blockOut x0 x1 x2 x4 x5 x6 x7 x8 x9 s n (ix2 r k) := by
  unfold out0_B_11
  exact (rows8 VO0_11 _ (fun n => loadedOut x0 x1 x2 x4 x5 x6 x7 arg2 h2 arg3 h3 arg4 h4 arg6 h6 arg7 h7 arg8 h8 arg9 h9 (loadedB x1 x2 x4 x5 x8 x9 s c arg3 h3 arg4 h4 arg6 h6 arg7 h7 arg10 h10 arg11 h11 arg16 h16) n) n r k).trans
    (congrFun (loadedOut_eq x0 x1 x2 x4 x5 x6 x7 x8 x9 s arg2 h2 arg3 h3 arg4 h4 arg6 h6 arg7 h7 arg8 h8 arg9 h9 (loadedB x1 x2 x4 x5 x8 x9 s c arg3 h3 arg4 h4 arg6 h6 arg7 h7 arg10 h10 arg11 h11 arg16 h16) n (loadedB_eq x1 x2 x4 x5 x8 x9 s c arg3 h3 arg4 h4 arg6 h6 arg7 h7 arg10 h10 arg11 h11 arg16 h16 n)) _)

theorem outB10 (hc) (n : Fin 8) (r : Fin 128) (k : Fin 512) :
    out0_B_10 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 s (ix2 (⟨128 * n.val + r.val, by omega⟩ : Fin 1024) k)
      = k0_pay18 (F := Ideal) (blockOut x0 x1 x2 x4 x5 x6 x7 x8 x9 s n) (rows x3 n) (ix2 r k) := by
  unfold out0_B_10
  refine (rows8 VO0_10 _ (fun n => k0_pay18 (F := Ideal) (loadedOut x0 x1 x2 x4 x5 x6 x7 arg2 h2 arg3 h3 arg4 h4 arg6 h6 arg7 h7 arg8 h8 arg9 h9 (loadedB x1 x2 x4 x5 x8 x9 s c arg3 h3 arg4 h4 arg6 h6 arg7 h7 arg10 h10 arg11 h11 arg16 h16) n) (ldRows arg5 h5 x3 n)) n r k).trans ?_
  rw [ldRows_eq, loadedOut_eq x0 x1 x2 x4 x5 x6 x7 x8 x9 s arg2 h2 arg3 h3 arg4 h4 arg6 h6 arg7 h7 arg8 h8 arg9 h9 (loadedB x1 x2 x4 x5 x8 x9 s c arg3 h3 arg4 h4 arg6 h6 arg7 h7 arg10 h10 arg11 h11 arg16 h16) n (loadedB_eq x1 x2 x4 x5 x8 x9 s c arg3 h3 arg4 h4 arg6 h6 arg7 h7 arg10 h10 arg11 h11 arg16 h16 n)]

/-- What the block leaves in the scratch. -/
theorem scrB (hc) :
    sout0_B_0 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 s = blockState x1 x2 x4 x5 x8 x9 s 8 := by
  unfold sout0_B_0
  exact (View.read_writes_junk_eq_canon (Val := Elt Ideal) VS0_0 _).trans ((canon_whole arg16.view _).symm.trans
    (state_step x1 x2 x4 x5 x8 x9 s arg3 h3 arg4 h4 arg6 h6 arg7 h7 arg10 h10 arg11 h11 arg16 7 _ _ (loadedB_eq x1 x2 x4 x5 x8 x9 s c arg3 h3 arg4 h4 arg6 h6 arg7 h7 arg10 h10 arg11 h11 arg16 h16 7)))

/-- Chunk `n`'s kept rows, of loaded values. -/
abbrev loadedKept (n : Fin 8) : Fin 3 → Vec Ideal S128x256 .bf16 :=
  chunkKept (ldTab arg10 h10 x8 inb_S1x128x1_S1x128x1_0_0_0) (ldRows arg6 h6 x4 n) (ldRows arg7 h7 x5 n) (ldRows arg2 h2 x0 n) (ldRows arg3 h3 x1 n)

theorem loadedKept_eq (n : Fin 8) :
    loadedKept x0 x1 x4 x5 x8 arg2 h2 arg3 h3 arg6 h6 arg7 h7 arg10 h10 n = chunkKept x8 (rows x4 n) (rows x5 n) (rows x0 n) (rows x1 n) := by
  unfold loadedKept
  rw [ldTab_eq, ldRows_eq, ldRows_eq, ldRows_eq, ldRows_eq]

set_option maxHeartbeats 2000000 in
theorem outA12 (hc) (n : Fin 8) (d : Fin 256) (k : Fin 512) :
    out0_A_12 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 (ix4 (0 : Fin 1) n d k)
      = blockState x1 x2 x4 x5 x8 x9 (k0_pay1 (F := Ideal)) n.val (ix2 d k) := by
  unfold out0_A_12
  refine (states8 VO0_12 _ (fun n => k0_pay15 (F := Ideal) (loadedA x1 x2 x4 x5 x8 x9 c arg3 h3 arg4 h4 arg6 h6 arg7 h7 arg10 h10 arg11 h11 arg16 n)) n d k).trans ?_
  rw [pay15_apply, loadedA_eq]

set_option maxHeartbeats 2000000 in
theorem outA13 (hc) (n : Fin 8) (b : Fin 3) (r : Fin 128) (d : Fin 256) :
    out0_A_13 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 (ix2 (⟨128 * n.val + r.val, by omega⟩ : Fin 1024) (⟨256 * b.val + d.val, by omega⟩ : Fin 768))
      = chunkKept x8 (rows x4 n) (rows x5 n) (rows x0 n) (rows x1 n) b (ix2 r d) := by
  unfold out0_A_13
  refine (rows24 VO0_13 _ (fun n => loadedKept x0 x1 x4 x5 x8 arg2 h2 arg3 h3 arg6 h6 arg7 h7 arg10 h10 n) n b r d).trans ?_
  rw [loadedKept_eq]

set_option maxHeartbeats 2000000 in
theorem outB12 (hc) (n : Fin 8) (d : Fin 256) (k : Fin 512) :
    out0_B_12 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 s (ix4 (0 : Fin 1) n d k)
      = blockState x1 x2 x4 x5 x8 x9 s n.val (ix2 d k) := by
  unfold out0_B_12
  refine (states8 VO0_12 _ (fun n => k0_pay15 (F := Ideal) (loadedB x1 x2 x4 x5 x8 x9 s c arg3 h3 arg4 h4 arg6 h6 arg7 h7 arg10 h10 arg11 h11 arg16 h16 n)) n d k).trans ?_
  rw [pay15_apply, loadedB_eq]

set_option maxHeartbeats 2000000 in
theorem outB13 (hc) (n : Fin 8) (b : Fin 3) (r : Fin 128) (d : Fin 256) :
    out0_B_13 (F := Ideal) c i arg2 h2 arg3 h3 arg4 h4 arg5 h5 arg6 h6 arg7 h7 arg8 h8 arg9 h9 arg10 h10 arg11 h11 arg12 h12 arg13 h13 arg14 h14 arg15 h15 arg16 h16 hc x0 x1 x2 x3 x4 x5 x6 x7 x8 x9 s (ix2 (⟨128 * n.val + r.val, by omega⟩ : Fin 1024) (⟨256 * b.val + d.val, by omega⟩ : Fin 768))
      = chunkKept x8 (rows x4 n) (rows x5 n) (rows x0 n) (rows x1 n) b (ix2 r d) := by
  unfold out0_B_13
  refine (rows24 VO0_13 _ (fun n => loadedKept x0 x1 x4 x5 x8 arg2 h2 arg3 h3 arg6 h6 arg7 h7 arg10 h10 n) n b r d).trans ?_
  rw [loadedKept_eq]

end Block

end Cert.Retention
end
-- ==== Proof.RfValue.lean ====
/- The retention's kernel: what it leaves in its four results, over whole arrays. -/
module

public import proofs.«01_k».proof.Proof.Gen.KernelRfIdeal.Value
public import proofs.«01_k».proof.Proof.RfBlock
public import Idealize.ShloMosaic.Lib.StableHlo.RunRead

@[expose] public section

set_option maxRecDepth 16384

noncomputable section

namespace Cert.Retention

open Idealize.ShloMosaic Idealize.ShloMosaic.TcCoe Idealize.SL.Sem
open Cert.KernelRfIdeal Cert.KernelRfIdeal.Gen Cert.KernelRfIdeal.Value

variable (m : (ℓ : Loc nD τ sig) → Buf (Elt Ideal) ℓ) (c : Dev nD)

/-- The kernel's inputs: its arguments, and the decays its host code computes. -/
def inputs : Inputs where
  p := m ((c.tc : Thread nD τ).loc main_arg0)
  cs := m ((c.tc : Thread nD τ).loc main_arg1)
  sn := m ((c.tc : Thread nD τ).loc main_arg2)
  M h i j := (V m c main_v23 : S4x128x128.Idx → EReal) (ix3 h i j)
  xi h i := (V m c main_v32 : S4x128x1.Idx → EReal) (ix3 h i 0)
  ze h i := (V m c main_v41 : S4x128x1.Idx → EReal) (ix3 h i 0)
  g h := (V m c main_v46 : S4x1x128.Idx → EReal) (ix3 h 0 0)

theorem index_rows : ∀ t : Fin cfg0.N, (win0_0.index t = ![t.val % 8, t.val / 8] ∧ win0_1.index t = ![t.val % 8, 4 + t.val / 8]
    ∧ win0_2.index t = ![t.val % 8, 4 + t.val / 8] ∧ win0_3.index t = ![t.val % 8, 8 + t.val / 8]
    ∧ win0_4.index t = ![t.val % 8, 0] ∧ win0_5.index t = ![t.val % 8, 0])
  := (by decide +kernel : ∀ t : Fin grid0.N, _)

theorem index_tables : ∀ t : Fin cfg0.N, (win0_6.index t = ![t.val / 8, 0, 0] ∧ win0_7.index t = ![t.val / 8, 0, 0]
    ∧ win0_8.index t = ![t.val / 8, 0, 0] ∧ win0_9.index t = ![t.val / 8, 0, 0])
  := (by decide +kernel : ∀ t : Fin grid0.N, _)

theorem index_results : ∀ t : Fin cfg0.N, (win0_10.index t = ![t.val % 8, t.val / 8] ∧ win0_11.index t = ![t.val % 8, t.val / 8]
    ∧ win0_12.index t = ![t.val / 8, t.val % 8, 0, 0] ∧ win0_13.index t = ![t.val % 8, t.val / 8])
  := (by decide +kernel : ∀ t : Fin grid0.N, _)

/-- A point's head, and chunk `n` of its block among the head's 64. -/
def head (t : Fin cfg0.N) : Fin 4 := ⟨t.val / 8, by have := t.isLt; have : cfg0.N = 32 := N_0; omega⟩
def chunk (t : Fin cfg0.N) (n : Fin 8) : Fin 64 := ⟨8 * (t.val % 8) + n.val, by omega⟩

theorem place {a b : ℕ} (p : Fin 2 → ℕ) (u v a' b' : ℕ) (hp : p = ![u, v]) (x y : ℕ) (i : (⟨2, ![a, b]⟩ : Shape).Idx) (n : Fin a) (k : Fin b)
    (h0 : (i 0).val = p 0 * a' + 1 * x) (h1 : (i 1).val = p 1 * b' + 1 * y) (hn : n.val = a' * u + x) (hk : k.val = b' * v + y) :
    i = ix2 n k := by
  subst hp
  funext j
  refine Fin.ext ?_
  match j with
  | ⟨0, _⟩ => show (i 0).val = n.val; rw [h0, hn]; show u * a' + 1 * x = _; rw [Nat.mul_comm, Nat.one_mul]
  | ⟨1, _⟩ => show (i 1).val = k.val; rw [h1, hk]; show v * b' + 1 * y = _; rw [Nat.mul_comm, Nat.one_mul]

theorem place3 {a b d : ℕ} (p : Fin 3 → ℕ) (u b' d' : ℕ) (hp : p = ![u, 0, 0]) (x y : ℕ) (i : (⟨3, ![a, b, d]⟩ : Shape).Idx) (n : Fin a) (k : Fin b)
    (l : Fin d) (h0 : (i 0).val = p 0 * 1 + 1 * 0) (h1 : (i 1).val = p 1 * b' + 1 * x) (h2 : (i 2).val = p 2 * d' + 1 * y)
    (hn : n.val = u) (hk : k.val = x) (hl : l.val = y) : i = ix3 n k l := by
  subst hp
  funext j
  refine Fin.ext ?_
  match j with
  | ⟨0, _⟩ => show (i 0).val = n.val; rw [h0, hn]; show u * 1 + 1 * 0 = _; omega
  | ⟨1, _⟩ => show (i 1).val = k.val; rw [h1, hk]; show 0 * b' + 1 * x = _; omega
  | ⟨2, _⟩ => show (i 2).val = l.val; rw [h2, hl]; show 0 * d' + 1 * y = _; omega

theorem place4 {a b d l : ℕ} (p : Fin 4 → ℕ) (u v b' d' l' : ℕ) (hp : p = ![u, v, 0, 0]) (x y z : ℕ) (i : (⟨4, ![a, b, d, l]⟩ : Shape).Idx)
    (n : Fin a) (k : Fin b) (q : Fin d) (r : Fin l) (h0 : (i 0).val = p 0 * 1 + 1 * 0) (h1 : (i 1).val = p 1 * b' + 1 * x)
    (h2 : (i 2).val = p 2 * d' + 1 * y) (h3 : (i 3).val = p 3 * l' + 1 * z)
    (hn : n.val = u) (hk : k.val = b' * v + x) (hq : q.val = y) (hr : r.val = z) : i = ix4 n k q r := by
  subst hp
  funext j
  refine Fin.ext ?_
  match j with
  | ⟨0, _⟩ => show (i 0).val = n.val; rw [h0, hn]; show u * 1 + 1 * 0 = _; omega
  | ⟨1, _⟩ => show (i 1).val = k.val; rw [h1, hk]; show v * b' + 1 * x = _; rw [Nat.mul_comm, Nat.one_mul]
  | ⟨2, _⟩ => show (i 2).val = q.val; rw [h2, hq]; show 0 * d' + 1 * y = _; omega
  | ⟨3, _⟩ => show (i 3).val = r.val; rw [h3, hr]; show 0 * l' + 1 * z = _; omega

theorem rows0 (t : Fin cfg0.N) (n : Fin 8) (r : Fin 128) (a : Fin 256) :
    rows (e := .f32) (iblk m c 0 t) n (ix2 r a) = (inputs m c).p (ix2 (rowOf (chunk t n) r) ⟨256 * (head t).val + a.val, by omega⟩) :=
  congrArg (inputs m c).p (place (win0_0.index t) (t.val % 8) (t.val / 8) 1024 256 ((index_rows t).1) (128 * n.val + r.val) a.val _ _ _ rfl rfl
    (by show 128 * (8 * (t.val % 8) + n.val) + r.val = _; omega) rfl)

theorem rows1 (t : Fin cfg0.N) (n : Fin 8) (r : Fin 128) (a : Fin 256) :
    rows (e := .f32) (iblk m c 1 t) n (ix2 r a) = (inputs m c).p (ix2 (rowOf (chunk t n) r) ⟨1024 + 256 * (head t).val + a.val, by omega⟩) :=
  congrArg (inputs m c).p (place (win0_1.index t) (t.val % 8) (4 + t.val / 8) 1024 256 ((index_rows t).2.1) (128 * n.val + r.val) a.val _ _ _ rfl rfl
    (by show 128 * (8 * (t.val % 8) + n.val) + r.val = _; omega) (by show 1024 + 256 * (t.val / 8) + a.val = _; omega))

theorem rows2 (t : Fin cfg0.N) (n : Fin 8) (r : Fin 128) (e : Fin 512) :
    rows (e := .f32) (iblk m c 2 t) n (ix2 r e) = (inputs m c).v (head t) (chunk t n) r e :=
  congrArg (inputs m c).p (place (win0_2.index t) (t.val % 8) (4 + t.val / 8) 1024 512 ((index_rows t).2.2.1) (128 * n.val + r.val) e.val _ _ _ rfl rfl
    (by show 128 * (8 * (t.val % 8) + n.val) + r.val = _; omega) (by show 2048 + 512 * (t.val / 8) + e.val = _; omega))

theorem rows3 (t : Fin cfg0.N) (n : Fin 8) (r : Fin 128) (e : Fin 512) :
    rows (e := .f32) (iblk m c 3 t) n (ix2 r e) = (inputs m c).z (head t) (chunk t n) r e :=
  congrArg (inputs m c).p (place (win0_3.index t) (t.val % 8) (8 + t.val / 8) 1024 512 ((index_rows t).2.2.2.1) (128 * n.val + r.val) e.val _ _ _ rfl rfl
    (by show 128 * (8 * (t.val % 8) + n.val) + r.val = _; omega) (by show 4096 + 512 * (t.val / 8) + e.val = _; omega))

theorem rows4 (t : Fin cfg0.N) (n : Fin 8) (r : Fin 128) (a : Fin 128) :
    rows (e := .f32) (iblk m c 4 t) n (ix2 r a) = (inputs m c).cs (ix2 (rowOf (chunk t n) r) a) :=
  congrArg (inputs m c).cs (place (win0_4.index t) (t.val % 8) 0 1024 128 ((index_rows t).2.2.2.2.1) (128 * n.val + r.val) a.val _ _ _ rfl rfl
    (by show 128 * (8 * (t.val % 8) + n.val) + r.val = _; omega) (by simp))

theorem rows5 (t : Fin cfg0.N) (n : Fin 8) (r : Fin 128) (a : Fin 128) :
    rows (e := .f32) (iblk m c 5 t) n (ix2 r a) = (inputs m c).sn (ix2 (rowOf (chunk t n) r) a) :=
  congrArg (inputs m c).sn (place (win0_5.index t) (t.val % 8) 0 1024 128 ((index_rows t).2.2.2.2.2) (128 * n.val + r.val) a.val _ _ _ rfl rfl
    (by show 128 * (8 * (t.val % 8) + n.val) + r.val = _; omega) (by simp))

theorem block6 (t : Fin cfg0.N) (i j : Fin 128) : iblk m c 6 t (ix3 0 i j) = (inputs m c).M (head t) i j :=
  congrArg (V m c main_v23) (place3 (win0_6.index t) (t.val / 8) 128 128 ((index_tables t).1) i.val j.val _ _ _ _ rfl rfl rfl rfl rfl rfl)

theorem block7 (t : Fin cfg0.N) (i : Fin 128) : iblk m c 7 t (ix3 0 i 0) = (inputs m c).xi (head t) i :=
  congrArg (V m c main_v32) (place3 (win0_7.index t) (t.val / 8) 128 1 ((index_tables t).2.1) i.val 0 _ _ _ _ rfl rfl rfl rfl rfl rfl)

theorem block8 (t : Fin cfg0.N) (i : Fin 128) : iblk m c 8 t (ix3 0 i 0) = (inputs m c).ze (head t) i :=
  congrArg (V m c main_v41) (place3 (win0_8.index t) (t.val / 8) 128 1 ((index_tables t).2.2.1) i.val 0 _ _ _ _ rfl rfl rfl rfl rfl rfl)

theorem block9 (t : Fin cfg0.N) : iblk m c 9 t (ix3 0 0 0) = (inputs m c).g (head t) :=
  congrArg (V m c main_v46) (place3 (win0_9.index t) (t.val / 8) 1 128 ((index_tables t).2.2.2) 0 0 _ _ _ _ rfl rfl rfl rfl rfl rfl)

/-- The states inside a block are the head's. -/
theorem blockState_eq (t : Fin cfg0.N) (s : Vec Ideal S256x512 .f32)
    (hs : ∀ d e, s (ix2 d e) = (inputs m c).state (head t) (8 * (t.val % 8)) d e) (n : ℕ) (hn : n ≤ 8) (d : Fin 256) (e : Fin 512) :
    blockState (iblk m c 1 t) (iblk m c 2 t) (iblk m c 4 t) (iblk m c 5 t) (iblk m c 8 t) (iblk m c 9 t) s n (ix2 d e)
      = (inputs m c).state (head t) (8 * (t.val % 8) + n) d e := by
  induction n generalizing d e with
  | zero => exact hs d e
  | succ n ih =>
    have hc : Fin.ofNat 64 (8 * (t.val % 8) + n) = chunk t (Fin.ofNat 8 n) := Fin.ext (by
      show (8 * (t.val % 8) + n) % 64 = 8 * (t.val % 8) + n % 8; omega)
    show chunkState _ _ _ _ _ _ _ (ix2 d e) = nextState ((inputs m c).ze (head t)) ((inputs m c).g (head t))
      ((inputs m c).k (head t) (Fin.ofNat 64 (8 * (t.val % 8) + n))) ((inputs m c).v (head t) (Fin.ofNat 64 (8 * (t.val % 8) + n)))
      ((inputs m c).state (head t) (8 * (t.val % 8) + n)) d e
    rw [hc, chunkState_apply]
    simp only [rows1, rows2, rows4, rows5, block8, ih (by omega)]
    rw [show lead (iblk m c 9 t) (ix3 0 0 0) = (inputs m c).g (head t) from block9 m c t]
    rfl

/-- The state a point starts from. -/
theorem start_zero (t : Fin cfg0.N) (h : t.val % 8 = 0) (d : Fin 256) (e : Fin 512) :
    k0_pay1 (F := Ideal) (ix2 d e) = (inputs m c).state (head t) (8 * (t.val % 8)) d e := by
  rw [h]
  show k0_pay1 (F := Ideal) (ix2 d e) = (0 : EReal)
  unfold k0_pay1
  pointwise

theorem blockOut_eq (t : Fin cfg0.N) (s : Vec Ideal S256x512 .f32)
    (hs : ∀ d e, s (ix2 d e) = (inputs m c).state (head t) (8 * (t.val % 8)) d e) (n : Fin 8) (r : Fin 128) (k : Fin 512) :
    blockOut (iblk m c 0 t) (iblk m c 1 t) (iblk m c 2 t) (iblk m c 4 t) (iblk m c 5 t) (iblk m c 6 t) (iblk m c 7 t) (iblk m c 8 t) (iblk m c 9 t) s n (ix2 r k)
      = (inputs m c).out (head t) (chunk t n) r k := by
  unfold blockOut
  rw [chunkOut_apply]
  simp only [rows0, rows1, rows2, rows4, rows5, block6, block7, blockState_eq m c t s hs n.val (by omega)]
  rfl

/-- What a point leaves in the kept state is the head's state after the point's chunks. -/
theorem kept_eq : ∀ (n : ℕ) (hn : n < cfg0.N) (d : Fin 256) (e : Fin 512),
    (outsAt0 m c n hn).2.2.2.2 (ix2 d e) = (inputs m c).state (head ⟨n, hn⟩) (8 * (n % 8) + 8) d e := by
  intro n
  induction n with
  | zero =>
    intro hn d e
    rw [show outsAt0 m c 0 hn = _ from outsAt0_A m c ⟨0, hn⟩ rfl]
    dsimp only
    rw [scrA]
    exact blockState_eq m c ⟨0, hn⟩ _ (start_zero m c ⟨0, hn⟩ rfl) 8 le_rfl d e
  | succ n ih =>
    intro hn d e
    by_cases h : (n + 1) % 8 = 0
    · rw [show outsAt0 m c (n + 1) hn = _ from outsAt0_A m c ⟨n + 1, hn⟩ h]
      dsimp only
      rw [scrA]
      exact blockState_eq m c ⟨n + 1, hn⟩ _ (start_zero m c ⟨n + 1, hn⟩ h) 8 le_rfl d e
    · rw [show outsAt0 m c (n + 1) hn = _ from outsAt0_B m c ⟨n + 1, hn⟩ h]
      dsimp only
      rw [scrB]
      refine blockState_eq m c ⟨n + 1, hn⟩ _ (fun d e => (ih (Nat.lt_of_succ_lt hn) d e).trans ?_) 8 le_rfl d e
      rw [show head ⟨n, Nat.lt_of_succ_lt hn⟩ = head ⟨n + 1, hn⟩ from Fin.ext (show n / 8 = (n + 1) / 8 by omega),
        show 8 * (n % 8) + 8 = 8 * ((n + 1) % 8) by omega]

theorem start_kept (t : Fin cfg0.N) (h : ¬t.val % 8 = 0) (d : Fin 256) (e : Fin 512) :
    (outsAt0 m c (t.val - 1) (Nat.lt_of_le_of_lt (Nat.sub_le _ _) t.isLt)).2.2.2.2 (ix2 d e)
      = (inputs m c).state (head t) (8 * (t.val % 8)) d e := by
  rw [kept_eq, show head ⟨t.val - 1, Nat.lt_of_le_of_lt (Nat.sub_le _ _) t.isLt⟩ = head t from Fin.ext (show (t.val - 1) / 8 = t.val / 8 by omega),
    show 8 * ((t.val - 1) % 8) + 8 = 8 * (t.val % 8) by omega]

/-- The retention a point stores. -/
theorem out11_eq (t : Fin cfg0.N) (n : Fin 8) (r : Fin 128) (k : Fin 512) :
    (outsAt0 m c t.val t.isLt).2.1 (ix2 (⟨128 * n.val + r.val, by omega⟩ : Fin 1024) k) = (inputs m c).out (head t) (chunk t n) r k := by
  by_cases h : t.val % 8 = 0
  · rw [outsAt0_A m c t h]
    dsimp only
    rw [outA11]
    exact blockOut_eq m c t _ (start_zero m c t h) n r k
  · rw [outsAt0_B m c t h]
    dsimp only
    rw [outB11]
    exact blockOut_eq m c t _ (start_kept m c t h) n r k

/-- The normalised and gated retention a point stores. -/
theorem out10_eq (t : Fin cfg0.N) (n : Fin 8) (r : Fin 128) (k : Fin 512) :
    (outsAt0 m c t.val t.isLt).1 (ix2 (⟨128 * n.val + r.val, by omega⟩ : Fin 1024) k) = (inputs m c).gatedOut (head t) (chunk t n) r k := by
  by_cases h : t.val % 8 = 0
  · rw [outsAt0_A m c t h]
    dsimp only
    rw [outA10, pay18_apply]
    simp only [blockOut_eq m c t _ (start_zero m c t h), rows3]
    rfl
  · rw [outsAt0_B m c t h]
    dsimp only
    rw [outB10, pay18_apply]
    simp only [blockOut_eq m c t _ (start_kept m c t h), rows3]
    rfl

/-- The states a point stores. -/
theorem out12_eq (t : Fin cfg0.N) (n : Fin 8) (d : Fin 256) (k : Fin 512) :
    (outsAt0 m c t.val t.isLt).2.2.1 (ix4 (0 : Fin 1) n d k) = (inputs m c).state (head t) (8 * (t.val % 8) + n.val) d k := by
  by_cases h : t.val % 8 = 0
  · rw [outsAt0_A m c t h]
    dsimp only
    rw [outA12]
    exact blockState_eq m c t _ (start_zero m c t h) n.val (by omega) d k
  · rw [outsAt0_B m c t h]
    dsimp only
    rw [outB12]
    exact blockState_eq m c t _ (start_kept m c t h) n.val (by omega) d k

theorem chunkKept_eq (t : Fin cfg0.N) (n : Fin 8) (b : Fin 3) (r : Fin 128) (d : Fin 256) :
    chunkKept (iblk m c 8 t) (rows (e := .f32) (iblk m c 4 t) n) (rows (e := .f32) (iblk m c 5 t) n) (rows (e := .f32) (iblk m c 0 t) n)
      (rows (e := .f32) (iblk m c 1 t) n) b (ix2 r d) = (inputs m c).kept (head t) (chunk t n) r b d := by
  rw [chunkKept_apply]
  simp only [rows0, rows1, rows4, rows5, block8]
  rfl

/-- The turned and decayed rows a point stores. -/
theorem out13_eq (t : Fin cfg0.N) (n : Fin 8) (b : Fin 3) (r : Fin 128) (d : Fin 256) :
    (outsAt0 m c t.val t.isLt).2.2.2.1 (ix2 (⟨128 * n.val + r.val, by omega⟩ : Fin 1024) (⟨256 * b.val + d.val, by omega⟩ : Fin 768))
      = (inputs m c).kept (head t) (chunk t n) r b d := by
  by_cases h : t.val % 8 = 0
  · rw [outsAt0_A m c t h]
    dsimp only
    rw [outA13]
    exact chunkKept_eq m c t n b r d
  · rw [outsAt0_B m c t h]
    dsimp only
    rw [outB13]
    exact chunkKept_eq m c t n b r d

/-! ## The results -/

/-- The point that owns head `h` of chunk `n`, and the chunk's place in its block. -/
def pt (h : Fin 4) (n : Fin 64) : Fin cfg0.N := ⟨8 * h.val + n.val / 8, by have : cfg0.N = 32 := N_0; omega⟩
def loc (n : Fin 64) : Fin 8 := ⟨n.val % 8, by omega⟩

theorem head_pt (h : Fin 4) (n : Fin 64) : head (pt h n) = h := Fin.ext (show (8 * h.val + n.val / 8) / 8 = h.val by omega)
theorem chunk_pt (h : Fin 4) (n : Fin 64) : chunk (pt h n) (loc n) = n :=
  Fin.ext (show 8 * ((8 * h.val + n.val / 8) % 8) + n.val % 8 = n.val by omega)

theorem flushes : ∀ t : Fin cfg0.N, ((cfg0.win 10).flush t = true ∧ (cfg0.win 11).flush t = true ∧ (cfg0.win 12).flush t = true ∧ (cfg0.win 13).flush t = true) := (by decide +kernel : ∀ t : Fin cfg0.N, _)

theorem at_row (h : Fin 4) (n : Fin 64) (j : Fin 128) :
    (rowOf n j).val = 1024 * ((pt h n).val % 8) + (128 * (loc n).val + j.val) := by
  show 128 * n.val + j.val = 1024 * ((8 * h.val + n.val / 8) % 8) + (128 * (n.val % 8) + j.val); omega

theorem at_col (h : Fin 4) (n : Fin 64) (e : Fin 512) : 512 * h.val + e.val = 512 * ((pt h n).val / 8) + e.val := by
  show _ = 512 * ((8 * h.val + n.val / 8) / 8) + e.val; omega

theorem result10 (h : Fin 4) (n : Fin 64) (j : Fin 128) (e : Fin 512) :
    (dats m 0 c).arrAt 10 cfg0.N (ix2 (rowOf n j) (⟨512 * h.val + e.val, by omega⟩ : Fin 2048)) = (inputs m c).gatedOut h n j e := by
  refine (congrArg ((dats m 0 c).arrAt 10 cfg0.N) (place (win0_10.index (pt h n)) ((pt h n).val % 8) ((pt h n).val / 8) 1024 512 ((index_results (pt h n)).1)
    (128 * (loc n).val + j.val) e.val (((cfg0.win 10).blk (pt h n)).view.emb (ix2 (⟨128 * (loc n).val + j.val, by omega⟩ : Fin 1024) e)) (rowOf n j)
    (⟨512 * h.val + e.val, by omega⟩ : Fin 2048) rfl rfl (at_row h n j) (at_col h n e))).symm.trans ?_
  refine (congrFun (blocks10 m c (pt h n) (flushes (pt h n)).1) (ix2 (⟨128 * (loc n).val + j.val, by omega⟩ : Fin 1024) e)).trans ?_
  rw [flushed10]
  exact (out10_eq m c (pt h n) (loc n) j e).trans (by rw [head_pt, chunk_pt])

theorem result11 (h : Fin 4) (n : Fin 64) (j : Fin 128) (e : Fin 512) :
    (dats m 0 c).arrAt 11 cfg0.N (ix2 (rowOf n j) (⟨512 * h.val + e.val, by omega⟩ : Fin 2048)) = (inputs m c).out h n j e := by
  refine (congrArg ((dats m 0 c).arrAt 11 cfg0.N) (place (win0_11.index (pt h n)) ((pt h n).val % 8) ((pt h n).val / 8) 1024 512 ((index_results (pt h n)).2.1)
    (128 * (loc n).val + j.val) e.val (((cfg0.win 11).blk (pt h n)).view.emb (ix2 (⟨128 * (loc n).val + j.val, by omega⟩ : Fin 1024) e)) (rowOf n j)
    (⟨512 * h.val + e.val, by omega⟩ : Fin 2048) rfl rfl (at_row h n j) (at_col h n e))).symm.trans ?_
  refine (congrFun (blocks11 m c (pt h n) (flushes (pt h n)).2.1) (ix2 (⟨128 * (loc n).val + j.val, by omega⟩ : Fin 1024) e)).trans ?_
  rw [flushed11]
  exact (out11_eq m c (pt h n) (loc n) j e).trans (by rw [head_pt, chunk_pt])

theorem result12 (h : Fin 4) (n : Fin 64) (d : Fin 256) (e : Fin 512) :
    (dats m 0 c).arrAt 12 cfg0.N (ix4 h n d e) = (inputs m c).state h n.val d e := by
  refine (congrArg ((dats m 0 c).arrAt 12 cfg0.N) (place4 (win0_12.index (pt h n)) ((pt h n).val / 8) ((pt h n).val % 8) 8 256 512
    ((index_results (pt h n)).2.2.1) (loc n).val d.val e.val (((cfg0.win 12).blk (pt h n)).view.emb (ix4 (0 : Fin 1) (loc n) d e)) h n d e rfl rfl rfl rfl
    (by show h.val = (8 * h.val + n.val / 8) / 8; omega) (by show n.val = 8 * ((8 * h.val + n.val / 8) % 8) + n.val % 8; omega) rfl rfl)).symm.trans ?_
  refine (congrFun (blocks12 m c (pt h n) (flushes (pt h n)).2.2.1) (ix4 (0 : Fin 1) (loc n) d e)).trans ?_
  rw [flushed12]
  refine (out12_eq m c (pt h n) (loc n) d e).trans ?_
  rw [head_pt, show 8 * ((pt h n).val % 8) + (loc n).val = n.val by
    show 8 * ((8 * h.val + n.val / 8) % 8) + n.val % 8 = n.val; omega]

theorem result13 (h : Fin 4) (n : Fin 64) (j : Fin 128) (b : Fin 3) (d : Fin 256) :
    (dats m 0 c).arrAt 13 cfg0.N (ix2 (rowOf n j) (⟨768 * h.val + (256 * b.val + d.val), by omega⟩ : Fin 3072)) = (inputs m c).kept h n j b d := by
  refine (congrArg ((dats m 0 c).arrAt 13 cfg0.N) (place (win0_13.index (pt h n)) ((pt h n).val % 8) ((pt h n).val / 8) 1024 768 ((index_results (pt h n)).2.2.2)
    (128 * (loc n).val + j.val) (256 * b.val + d.val) (((cfg0.win 13).blk (pt h n)).view.emb
      (ix2 (⟨128 * (loc n).val + j.val, by omega⟩ : Fin 1024) (⟨256 * b.val + d.val, by omega⟩ : Fin 768))) (rowOf n j)
    (⟨768 * h.val + (256 * b.val + d.val), by omega⟩ : Fin 3072) rfl rfl (at_row h n j)
    (by show 768 * h.val + _ = 768 * ((8 * h.val + n.val / 8) / 8) + _; omega))).symm.trans ?_
  refine (congrFun (blocks13 m c (pt h n) (flushes (pt h n)).2.2.2)
    (ix2 (⟨128 * (loc n).val + j.val, by omega⟩ : Fin 1024) (⟨256 * b.val + d.val, by omega⟩ : Fin 768))).trans ?_
  rw [flushed13]
  exact (out13_eq m c (pt h n) (loc n) b j d).trans (by rw [head_pt, chunk_pt])

end Cert.Retention
end
-- ==== Proof.RfTables.lean ====
/- The retention's decays, as the kernel's host code computes them. -/
module

public import proofs.«01_k».proof.Proof.RfValue

@[expose] public section

set_option maxRecDepth 16384

noncomputable section

namespace Cert.Retention

open Idealize.ShloMosaic Idealize.ShloMosaic.TcCoe Idealize.SL.Sem
open Cert.KernelRfIdeal Cert.KernelRfIdeal.Gen Cert.KernelRfIdeal.Value

/-- The logarithms of the four heads' decays. -/
def logG : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

/-- The rows' places in their chunk. -/
def places : FVec Ideal S128 .f32 := sitofp .f32 (iotaInDim S128 32 0)

def apart : FVec Ideal S128x128 .f32 :=
  subf (broadcastInDim S128x128 ![0, 1] bcast_S128x1_S128x128_0_1 (broadcastInDim S128x1 ![0] bcast_S128_S128x1_0 places))
    (broadcastInDim S128x128 ![0, 1] bcast_S1x128_S128x128_0_1 (broadcastInDim S1x128 ![1] bcast_S128_S1x128_1 places))

def causal : Vec Ideal S128x128 .i1 := cmpf .oge apart (broadcastInDim S128x128 ![] bcast_S_S128x128 (constant (F := Ideal) S_ .f32 0x00000000#32))

def maskT : FVec Ideal S4x128x128 .f32 :=
  select (broadcastInDim S4x128x128 ![1, 2] bcast_S128x128_S4x128x128_1_2 causal)
    (Host.exp (mulf (broadcastInDim S4x128x128 ![0, 1, 2] bcast_S4x1x1_S4x128x128_0_1_2 (broadcastInDim S4x1x1 ![0] bcast_S4_S4x1x1_0 logG))
      (broadcastInDim S4x128x128 ![0, 1, 2] bcast_S1x128x128_S4x128x128_0_1_2 (broadcastInDim S1x128x128 ![1, 2] bcast_S128x128_S1x128x128_1_2
        (select causal apart (broadcastInDim S128x128 ![] bcast_S_S128x128 (constant (F := Ideal) S_ .f32 0x00000000#32)))))))
    (broadcastInDim S4x128x128 ![] bcast_S_S4x128x128 (constant (F := Ideal) S_ .f32 0x00000000#32))

def xiT : FVec Ideal S4x128 .f32 :=
  Host.exp (mulf (broadcastInDim S4x128 ![0, 1] bcast_S4x1_S4x128_0_1 (broadcastInDim S4x1 ![0] bcast_S4_S4x1_0 logG))
    (broadcastInDim S4x128 ![0, 1] bcast_S1x128_S4x128_0_1 (broadcastInDim S1x128 ![1] bcast_S128_S1x128_1
      (addf places (broadcastInDim S128 ![] bcast_S_S128 (constant (F := Ideal) S_ .f32 0x3F800000#32))))))

def zeT : FVec Ideal S4x128 .f32 :=
  Host.exp (mulf (broadcastInDim S4x128 ![0, 1] bcast_S4x1_S4x128_0_1 (broadcastInDim S4x1 ![0] bcast_S4_S4x1_0 logG))
    (broadcastInDim S4x128 ![0, 1] bcast_S1x128_S4x128_0_1 (broadcastInDim S1x128 ![1] bcast_S128_S1x128_1
      (subf (broadcastInDim S128 ![] bcast_S_S128 (constant (F := Ideal) S_ .f32 0x42FE0000#32)) places))))

def gT : FVec Ideal S4 .f32 := Host.exp (mulf logG (broadcastInDim S4 ![] bcast_S_S4 (constant (F := Ideal) S_ .f32 0x43000000#32)))

/-- What the retention reads at given projection and angles. -/
def given (p : S8192x11264.Idx → EReal) (cs sn : S8192x128.Idx → EReal) : Inputs where
  p := p
  cs := cs
  sn := sn
  M h i j := maskT (ix3 h i j)
  xi h i := xiT (ix2 h i)
  ze h i := zeT (ix2 h i)
  g h := gT (ix1 h)

variable (m : (ℓ : Loc nD τ sig) → Buf (Elt Ideal) ℓ) (c : Dev nD)

set_option maxHeartbeats 1000000 in
theorem V_mask : V m c main_v23 = maskT := by
  show StableHlo.after (List.flatten [hostOps0, hostOps0_1, hostOps0_2, hostOps0_3, hostOps0_4]) (fun b => m (c, b)) main_v23 = _
  simp only [hostOps0, hostOps0_1, hostOps0_2, hostOps0_3, hostOps0_4, List.flatten_cons, List.flatten_nil, List.append_nil, List.cons_append, List.nil_append]
  after_reads_simp
  rfl

set_option maxHeartbeats 1000000 in
theorem V_xi : V m c main_v32 = broadcastInDim S4x128x1 ![0, 1] bcast_S4x128_S4x128x1_0_1 xiT := by
  show StableHlo.after (List.flatten [hostOps0, hostOps0_1, hostOps0_2, hostOps0_3, hostOps0_4]) (fun b => m (c, b)) main_v32 = _
  simp only [hostOps0, hostOps0_1, hostOps0_2, hostOps0_3, hostOps0_4, List.flatten_cons, List.flatten_nil, List.append_nil, List.cons_append, List.nil_append]
  after_reads_simp
  rfl

set_option maxHeartbeats 1000000 in
theorem V_ze : V m c main_v41 = broadcastInDim S4x128x1 ![0, 1] bcast_S4x128_S4x128x1_0_1 zeT := by
  show StableHlo.after (List.flatten [hostOps0, hostOps0_1, hostOps0_2, hostOps0_3, hostOps0_4]) (fun b => m (c, b)) main_v41 = _
  simp only [hostOps0, hostOps0_1, hostOps0_2, hostOps0_3, hostOps0_4, List.flatten_cons, List.flatten_nil, List.append_nil, List.cons_append, List.nil_append]
  after_reads_simp
  rfl

set_option maxHeartbeats 1000000 in
theorem V_g : V m c main_v46 = broadcastInDim S4x1x128 ![0, 1, 2] bcast_S4x1x1_S4x1x128_0_1_2 (broadcastInDim S4x1x1 ![0] bcast_S4_S4x1x1_0 gT) := by
  show StableHlo.after (List.flatten [hostOps0, hostOps0_1, hostOps0_2, hostOps0_3, hostOps0_4]) (fun b => m (c, b)) main_v46 = _
  simp only [hostOps0, hostOps0_1, hostOps0_2, hostOps0_3, hostOps0_4, List.flatten_cons, List.flatten_nil, List.append_nil, List.cons_append, List.nil_append]
  after_reads_simp
  rfl

/-- The kernel's inputs, with the decays spelt out. -/
theorem inputs_eq : inputs m c = given (m ((c.tc : Thread nD τ).loc main_arg0)) (m ((c.tc : Thread nD τ).loc main_arg1)) (m ((c.tc : Thread nD τ).loc main_arg2)) := by
  unfold inputs given
  congr 1

end Cert.Retention
end
-- ==== Proof.RfEntry.lean ====
/- The retention's reference: what its loop starts from. -/
module

public import proofs.«01_k».proof.Proof.Gen.ReferenceRfIdeal.Run
public import proofs.«01_k».proof.Proof.RfTables

@[expose] public section

set_option maxRecDepth 16384

noncomputable section

namespace Cert.RetentionReference

open Idealize.ShloMosaic Idealize.ShloMosaic.TcCoe Idealize.SL.Sem
open Cert.ReferenceRfIdeal Cert.ReferenceRfIdeal.Gen Cert.ReferenceRfIdeal.Value
open Cert.Retention (Inputs given maskT xiT zeT gT rot rowOf)
open Idealize.ShloMosaic.StableHlo

variable (m : (ℓ : Loc nD τ sig) → Buf (Elt Ideal) ℓ) (c : Dev nD)

set_option maxHeartbeats 2000000 in
theorem entry_M : entryContents preI m c (Proc.devRef .tc main_v91_3) = maskT := by
  simp only [entryContents, afterL_cons, afterL_nil]
  after_reads_simp
  rfl

set_option maxHeartbeats 2000000 in
theorem entry_xi : entryContents preI m c (Proc.devRef .tc main_v91_4) = xiT := by
  simp only [entryContents, afterL_cons, afterL_nil]
  after_reads_simp
  rfl

set_option maxHeartbeats 2000000 in
theorem entry_g : entryContents preI m c (Proc.devRef .tc main_v91_6) = gT := by
  simp only [entryContents, afterL_cons, afterL_nil]
  after_reads_simp
  rfl

set_option maxHeartbeats 2000000 in
theorem entry_ze : entryContents preI m c (Proc.devRef .tc main_v91_5) = zeT := by
  simp only [entryContents, afterL_cons, afterL_nil]
  after_reads_simp
  rfl

/-- The reference's inputs. -/
def inputs : Inputs :=
  given (m ((c.tc : Thread nD τ).loc main_arg0)) (m ((c.tc : Thread nD τ).loc main_arg1)) (m ((c.tc : Thread nD τ).loc main_arg2))

theorem entry_ctr : entryContents preI m c (Proc.devRef .tc main_v91_7) = fun _ => BitVec.ofNat 32 0 := ctr_entry m c

set_option maxHeartbeats 2000000 in
theorem entry_state (h : Fin 4) (d : Fin 256) (e : Fin 512) :
    (entryContents preI m c (Proc.devRef .tc main_v91_8) : S4x256x512.Idx → EReal) (ix3 h d e) = (0 : EReal) := by
  have E : entryContents preI m c (Proc.devRef .tc main_v91_8) = broadcastInDim S4x256x512 ![] bcast_S_S4x256x512 (constant (F := Ideal) S_ .f32 0x00000000#32) := by
    simp only [entryContents, afterL_cons, afterL_nil]
    after_reads_simp
    rfl
  rw [E]
  pointwise

/-- The heads' rows turned by their angles. -/
def turned (cs sn : FVec Ideal S8192x128 .f32) (x : FVec Ideal S8192x4x256 .f32) : FVec Ideal S8192x4x256 .f32 :=
  concatenate S8192x4x256 2
    [⟨S8192x4x128, subf
        (mulf (extractStridedSlice S8192x4x128 ![0, 0, 0] x slices_S8192x4x256_S8192x4x128_0_0_0)
          (broadcastInDim S8192x4x128 ![0, 1, 2] bcast_S8192x1x128_S8192x4x128_0_1_2 (broadcastInDim S8192x1x128 ![0, 2] bcast_S8192x128_S8192x1x128_0_2 cs)))
        (mulf (extractStridedSlice S8192x4x128 ![0, 0, 128] x slices_S8192x4x256_S8192x4x128_0_0_128)
          (broadcastInDim S8192x4x128 ![0, 1, 2] bcast_S8192x1x128_S8192x4x128_0_1_2 (broadcastInDim S8192x1x128 ![0, 2] bcast_S8192x128_S8192x1x128_0_2 sn)))⟩,
     ⟨S8192x4x128, addf
        (mulf (extractStridedSlice S8192x4x128 ![0, 0, 0] x slices_S8192x4x256_S8192x4x128_0_0_0)
          (broadcastInDim S8192x4x128 ![0, 1, 2] bcast_S8192x1x128_S8192x4x128_0_1_2 (broadcastInDim S8192x1x128 ![0, 2] bcast_S8192x128_S8192x1x128_0_2 sn)))
        (mulf (extractStridedSlice S8192x4x128 ![0, 0, 128] x slices_S8192x4x256_S8192x4x128_0_0_128)
          (broadcastInDim S8192x4x128 ![0, 1, 2] bcast_S8192x1x128_S8192x4x128_0_1_2 (broadcastInDim S8192x1x128 ![0, 2] bcast_S8192x128_S8192x1x128_0_2 cs)))⟩]
    concatenates_S8192x4x128_S8192x4x128_S8192x4x256_d2

theorem turned_apply (cs sn : FVec Ideal S8192x128 .f32) (x : FVec Ideal S8192x4x256 .f32) (r : Fin 8192) (h : Fin 4) (d : Fin 256) :
    turned cs sn x (ix3 r h d) = rot (fun a => cs (ix2 r a)) (fun a => sn (ix2 r a)) (fun a => x (ix3 r h a)) d := by
  unfold turned rot
  pointwise

def p0 : FVec Ideal S8192x11264 .f32 := m ((c.tc : Thread nD τ).loc main_arg0)
def p1 : FVec Ideal S8192x128 .f32 := m ((c.tc : Thread nD τ).loc main_arg1)
def p2 : FVec Ideal S8192x128 .f32 := m ((c.tc : Thread nD τ).loc main_arg2)

set_option maxHeartbeats 2000000 in
theorem term_v : entryContents preI m c (Proc.devRef .tc main_v91_2) = transpose S64x4x128x512 [0, 2, 1, 3]
    (shapeCast S64x128x4x512 (shapeCast S8192x4x512 (extractStridedSlice S8192x2048 ![0, 2048] (p0 m c) slices_S8192x11264_S8192x2048_0_2048)
      shapeCasts_S8192x2048_S8192x4x512) shapeCasts_S8192x4x512_S64x128x4x512) transposes_S64x128x4x512_S64x4x128x512_0_2_1_3 := by
  simp only [entryContents, afterL_cons, afterL_nil]
  after_reads_simp
  rfl

set_option maxHeartbeats 2000000 in
theorem term_q : entryContents preI m c (Proc.devRef .tc main_v91_0) = transpose S64x4x128x256 [0, 2, 1, 3]
    (shapeCast S64x128x4x256 (turned (p1 m c) (p2 m c) (shapeCast S8192x4x256 (extractStridedSlice S8192x1024 ![0, 0] (p0 m c) slices_S8192x11264_S8192x1024_0_0)
      shapeCasts_S8192x1024_S8192x4x256)) shapeCasts_S8192x4x256_S64x128x4x256) transposes_S64x128x4x256_S64x4x128x256_0_2_1_3 := by
  simp only [entryContents, afterL_cons, afterL_nil]
  after_reads_simp
  rfl

set_option maxHeartbeats 2000000 in
theorem term_k : entryContents preI m c (Proc.devRef .tc main_v91_1) = transpose S64x4x128x256 [0, 2, 1, 3]
    (shapeCast S64x128x4x256 (mulf (turned (p1 m c) (p2 m c) (shapeCast S8192x4x256 (extractStridedSlice S8192x1024 ![0, 1024] (p0 m c) slices_S8192x11264_S8192x1024_0_1024)
      shapeCasts_S8192x1024_S8192x4x256)) (broadcastInDim S8192x4x256 ![] bcast_S_S8192x4x256 (constant (F := Ideal) S_ .f32 0x3D800000#32)))
      shapeCasts_S8192x4x256_S64x128x4x256) transposes_S64x128x4x256_S64x4x128x256_0_2_1_3 := by
  simp only [entryContents, afterL_cons, afterL_nil]
  after_reads_simp
  rfl

theorem row_eq (n : Fin 64) (j : Fin 128) : (⟨n.val * 128 + j.val, by omega⟩ : Fin 8192) = rowOf n j :=
  Fin.ext (show n.val * 128 + j.val = 128 * n.val + j.val by omega)

theorem col_q (h : Fin 4) (a : Fin 256) : (⟨h.val * 256 + a.val, by omega⟩ : Fin 11264) = ⟨256 * h.val + a.val, by omega⟩ :=
  Fin.ext (show h.val * 256 + a.val = 256 * h.val + a.val by omega)

theorem col_k (h : Fin 4) (a : Fin 256) : (⟨1024 + (h.val * 256 + a.val), by omega⟩ : Fin 11264) = ⟨1024 + 256 * h.val + a.val, by omega⟩ :=
  Fin.ext (show 1024 + (h.val * 256 + a.val) = 1024 + 256 * h.val + a.val by omega)

theorem col_v (h : Fin 4) (a : Fin 512) : (⟨2048 + (h.val * 512 + a.val), by omega⟩ : Fin 11264) = ⟨2048 + 512 * h.val + a.val, by omega⟩ :=
  Fin.ext (show 2048 + (h.val * 512 + a.val) = 2048 + 512 * h.val + a.val by omega)

theorem entry_v (n : Fin 64) (h : Fin 4) (j : Fin 128) (e : Fin 512) :
    (entryContents preI m c (Proc.devRef .tc main_v91_2) : S64x4x128x512.Idx → EReal) (ix4 n h j e) = (inputs m c).v h n j e := by
  rw [term_v]
  pointwise
  rw [row_eq, col_v]
  rfl

theorem entry_q (n : Fin 64) (h : Fin 4) (j : Fin 128) (d : Fin 256) :
    (entryContents preI m c (Proc.devRef .tc main_v91_0) : S64x4x128x256.Idx → EReal) (ix4 n h j d) = (inputs m c).q h n j d := by
  rw [term_q]
  pointwise
  rw [turned_apply]
  pointwise
  simp only [row_eq, col_q]
  rfl

theorem entry_k (n : Fin 64) (h : Fin 4) (j : Fin 128) (d : Fin 256) :
    (entryContents preI m c (Proc.devRef .tc main_v91_1) : S64x4x128x256.Idx → EReal) (ix4 n h j d) = (inputs m c).k h n j d := by
  rw [term_k]
  pointwise
  rw [turned_apply]
  pointwise
  simp only [row_eq, col_k]
  rfl

end Cert.RetentionReference
end
-- ==== Proof.RfResult.lean ====
/- The retention: what the reference leaves in each result is what the kernel leaves there. -/
module

public import proofs.«01_k».proof.Proof.RfStep
public import proofs.«01_k».proof.Proof.RfEntry

@[expose] public section

set_option maxRecDepth 16384

noncomputable section

namespace Cert.RetentionReference

open Idealize.ShloMosaic Idealize.ShloMosaic.TcCoe Idealize.SL.Sem
open Cert.ReferenceRfIdeal Cert.ReferenceRfIdeal.Gen Cert.ReferenceRfIdeal.Value
open Idealize.ShloMosaic.StableHlo
open Cert.Retention (Inputs rowOf gated)

variable {I : Inputs} {V : Valuation τ sig (Elt Ideal)} (B : Before I 64 V)

include B

theorem back (n : Fin 64) (h : Fin 4) (j : Fin 128) (e : Fin 512) :
    (shapeCast S8192x4x512 (transpose S64x128x4x512 [0, 2, 1, 3] (V (Proc.devRef .tc main_v91_9)) transposes_S64x4x128x512_S64x128x4x512_0_2_1_3)
      shapeCasts_S64x128x4x512_S8192x4x512 : S8192x4x512.Idx → EReal) (ix3 (rowOf n j) h e) = I.out h n j e := by
  refine Eq.trans ?_ (B.out n n.isLt h j e)
  pointwise
  refine congrArg (V (Proc.devRef .tc main_v91_9)) (congrArg₂ (fun a b => ix4 a h b e) (Fin.ext ?_) (Fin.ext ?_))
  · show (128 * n.val + j.val) / 128 = n.val; omega
  · show (128 * n.val + j.val) % 128 = j.val; omega

theorem at120 (n : Fin 64) (h : Fin 4) (j : Fin 128) (e : Fin 512) :
    (out_main_v120 V : S8192x2048.Idx → EReal) (ix2 (rowOf n j) (⟨512 * h.val + e.val, by omega⟩ : Fin 2048)) = I.out h n j e := by
  unfold out_main_v120
  have hY := back B n h j
  generalize (shapeCast S8192x4x512 (transpose S64x128x4x512 [0, 2, 1, 3] (V (Proc.devRef .tc main_v91_9)) transposes_S64x4x128x512_S64x128x4x512_0_2_1_3)
      shapeCasts_S64x128x4x512_S8192x4x512 : S8192x4x512.Idx → EReal) = Y at hY ⊢
  rw [← hY]
  pointwise

theorem at119 (hp : V (Proc.devRef .tc main_arg0) = I.p) (n : Fin 64) (h : Fin 4) (j : Fin 128) (e : Fin 512) :
    (out_main_v119 V : S8192x2048.Idx → EReal) (ix2 (rowOf n j) (⟨512 * h.val + e.val, by omega⟩ : Fin 2048)) = I.gatedOut h n j e := by
  unfold out_main_v119
  have hY := back B n h j
  generalize (shapeCast S8192x4x512 (transpose S64x128x4x512 [0, 2, 1, 3] (V (Proc.devRef .tc main_v91_9)) transposes_S64x4x128x512_S64x128x4x512_0_2_1_3)
      shapeCasts_S64x128x4x512_S8192x4x512 : S8192x4x512.Idx → EReal) = Y at hY ⊢
  rw [hp]
  pointwise
  simp only [hY]
  rw [show (⟨4096 + (512 * h.val + e.val), by omega⟩ : Fin 11264) = ⟨4096 + 512 * h.val + e.val, by omega⟩ from
    Fin.ext (show 4096 + (512 * h.val + e.val) = 4096 + 512 * h.val + e.val by omega)]
  rfl

theorem at121 (h : Fin 4) (n : Fin 64) (d : Fin 256) (e : Fin 512) :
    (out_main_v121 V : S4x64x256x512.Idx → EReal) (ix4 h n d e) = I.state h n.val d e := by
  unfold out_main_v121
  refine Eq.trans ?_ (B.states n n.isLt h d e)
  pointwise

theorem at123 (n : Fin 64) (h : Fin 4) (j : Fin 128) (b : Fin 3) (d : Fin 256) :
    (out_main_v123 V : S8192x3072.Idx → EReal) (ix2 (rowOf n j) (⟨768 * h.val + (256 * b.val + d.val), by omega⟩ : Fin 3072)) = I.kept h n j b d := by
  unfold out_main_v123
  refine Eq.trans ?_ (B.rows n n.isLt h j b d)
  pointwise
  refine congrArg (V (Proc.devRef .tc main_v91_11)) (funext fun x => Fin.ext ?_)
  match x with
  | ⟨0, _⟩ => show (128 * n.val + j.val) / 128 = n.val; omega
  | ⟨1, _⟩ => rfl
  | ⟨2, _⟩ => show (128 * n.val + j.val) % 128 = j.val; omega
  | ⟨3, _⟩ => show (768 * h.val + (256 * b.val + d.val)) % 768 = 256 * b.val + d.val; omega

omit B

variable (m : (ℓ : Loc nD τ sig) → Buf (Elt Ideal) ℓ) (c : Dev nD)

/-- The buffers the loop starts from. -/
theorem entry : Before (inputs m c) 0 (entryContents preI m c) where
  q := entry_q m c
  k := entry_k m c
  v := entry_v m c
  M h i j := congrFun (entry_M m c) (ix3 h i j)
  xi h i := congrFun (entry_xi m c) (ix2 h i)
  g h := congrFun (entry_g m c) (ix1 h)
  ze h i := congrFun (entry_ze m c) (ix2 h i)
  ctr := entry_ctr m c
  state := entry_state m c
  out n hn := absurd hn (Nat.not_lt_zero _)
  states n hn := absurd hn (Nat.not_lt_zero _)
  rows n hn := absurd hn (Nat.not_lt_zero _)

/-- Two arrays equal at every head's rows in every chunk are equal. -/
theorem ext_rows {f g : S8192x2048.Idx → EReal} (H : ∀ (n : Fin 64) (h : Fin 4) (j : Fin 128) (e : Fin 512),
    f (ix2 (rowOf n j) (⟨512 * h.val + e.val, by omega⟩ : Fin 2048)) = g (ix2 (rowOf n j) (⟨512 * h.val + e.val, by omega⟩ : Fin 2048))) : f = g :=
  funext fun i => by
    have h0 : (i 0).val < 8192 := (i 0).isLt
    have h1 : (i 1).val < 2048 := (i 1).isLt
    rw [show i = ix2 (rowOf ⟨(i 0).val / 128, by omega⟩ ⟨(i 0).val % 128, by omega⟩) (⟨512 * ((i 1).val / 512) + (i 1).val % 512, by omega⟩ : Fin 2048) from
      funext fun a => match a with
      | ⟨0, _⟩ => Fin.ext (show (i 0).val = 128 * ((i 0).val / 128) + (i 0).val % 128 by omega)
      | ⟨1, _⟩ => Fin.ext (show (i 1).val = 512 * ((i 1).val / 512) + (i 1).val % 512 by omega)]
    exact H ⟨(i 0).val / 128, by omega⟩ ⟨(i 1).val / 512, by omega⟩ ⟨(i 0).val % 128, by omega⟩ ⟨(i 1).val % 512, by omega⟩

theorem ext_states {f g : S4x64x256x512.Idx → EReal} (H : ∀ (h : Fin 4) (n : Fin 64) (d : Fin 256) (e : Fin 512), f (ix4 h n d e) = g (ix4 h n d e)) : f = g :=
  funext fun i => by
    rw [show i = ix4 (i 0) (i 1) (i 2) (i 3) from funext fun a => match a with | ⟨0, _⟩ => rfl | ⟨1, _⟩ => rfl | ⟨2, _⟩ => rfl | ⟨3, _⟩ => rfl]
    exact H (i 0) (i 1) (i 2) (i 3)

theorem ext_kept {f g : S8192x3072.Idx → EReal} (H : ∀ (n : Fin 64) (h : Fin 4) (j : Fin 128) (b : Fin 3) (d : Fin 256),
    f (ix2 (rowOf n j) (⟨768 * h.val + (256 * b.val + d.val), by omega⟩ : Fin 3072)) = g (ix2 (rowOf n j) (⟨768 * h.val + (256 * b.val + d.val), by omega⟩ : Fin 3072))) : f = g :=
  funext fun i => by
    have h0 : (i 0).val < 8192 := (i 0).isLt
    have h1 : (i 1).val < 3072 := (i 1).isLt
    rw [show i = ix2 (rowOf ⟨(i 0).val / 128, by omega⟩ ⟨(i 0).val % 128, by omega⟩)
        (⟨768 * ((i 1).val / 768) + (256 * ((i 1).val % 768 / 256) + (i 1).val % 256), by omega⟩ : Fin 3072) from
      funext fun a => match a with
      | ⟨0, _⟩ => Fin.ext (show (i 0).val = 128 * ((i 0).val / 128) + (i 0).val % 128 by omega)
      | ⟨1, _⟩ => Fin.ext (show (i 1).val = 768 * ((i 1).val / 768) + (256 * ((i 1).val % 768 / 256) + (i 1).val % 256) by omega)]
    exact H ⟨(i 0).val / 128, by omega⟩ ⟨(i 1).val / 768, by omega⟩ ⟨(i 0).val % 128, by omega⟩ ⟨(i 1).val % 768 / 256, by omega⟩ ⟨(i 1).val % 256, by omega⟩

variable (mk : (ℓ : Loc Cert.KernelRfIdeal.nD Cert.KernelRfIdeal.τ Cert.KernelRfIdeal.sig) → Buf (Elt Ideal) ℓ)
  (hI : inputs m c = Cert.Retention.inputs mk c)

include hI

theorem reference10 : out_main_v119 (STEP^[64] (entryContents preI m c)) = (Cert.KernelRfIdeal.Gen.dats mk 0 c).arrAt 10 Cert.KernelRfIdeal.cfg0.N :=
  ext_rows fun n h j e => (at119 (steps (entry m c) 64 le_rfl) (iter_main_arg0 m c 64) n h j e).trans
    ((congrArg (fun I : Inputs => I.gatedOut h n j e) hI).trans (Cert.Retention.result10 mk c h n j e).symm)

theorem reference11 : out_main_v120 (STEP^[64] (entryContents preI m c)) = (Cert.KernelRfIdeal.Gen.dats mk 0 c).arrAt 11 Cert.KernelRfIdeal.cfg0.N :=
  ext_rows fun n h j e => (at120 (steps (entry m c) 64 le_rfl) n h j e).trans
    ((congrArg (fun I : Inputs => I.out h n j e) hI).trans (Cert.Retention.result11 mk c h n j e).symm)

theorem reference12 : out_main_v121 (STEP^[64] (entryContents preI m c)) = (Cert.KernelRfIdeal.Gen.dats mk 0 c).arrAt 12 Cert.KernelRfIdeal.cfg0.N :=
  ext_states fun h n d e => (at121 (steps (entry m c) 64 le_rfl) h n d e).trans
    ((congrArg (fun I : Inputs => I.state h n.val d e) hI).trans (Cert.Retention.result12 mk c h n d e).symm)

theorem reference13 : out_main_v123 (STEP^[64] (entryContents preI m c)) = (Cert.KernelRfIdeal.Gen.dats mk 0 c).arrAt 13 Cert.KernelRfIdeal.cfg0.N :=
  ext_kept fun n h j b d => (at123 (steps (entry m c) 64 le_rfl) n h j b d).trans
    ((congrArg (fun I : Inputs => I.kept h n j b d) hI).trans (Cert.Retention.result13 mk c h n j b d).symm)

end Cert.RetentionReference
end
-- ==== Proof.ModValue.lean ====
/- The modulation: what the kernel leaves in its result is the reference's product of the conditions and the weights' columns,
   plus the bias. -/
module

public import proofs.«01_k».proof.Proof.Gen.KernelModIdeal.Value
public import proofs.«01_k».proof.Proof.Gen.ReferenceModIdeal.Read
public import proofs.«01_k».proof.Proof.Adam
public import Idealize.ShloMosaic.Lib.Pointwise

@[expose] public section

set_option maxRecDepth 16384

noncomputable section

namespace Cert.Modulation

open Idealize.ShloMosaic
open Cert.KernelModIdeal Cert.KernelModIdeal.Gen Cert.KernelModIdeal.Value

variable (x : S8x1024.Idx → EReal) (w : S1024x384.Idx → EReal) (b : S1x384.Idx → EReal)

theorem modulated (n : Fin 8) (k : Fin 384) : G3 (F := Ideal) x w b (ix2 n k) = (∑ p : Fin 1024, x (ix2 n p) * w (ix2 p k)) + b (ix2 0 k) := by
  unfold G3 k0_pay1
  pointwise

open Cert.ReferenceModIdeal.Read in
theorem reference_eq : val_main_v2 (F := Ideal) x w b = G3 (F := Ideal) x w b := Cert.Adam.ext2 fun n k => by
  show _ = G3 (F := Ideal) x w b (ix2 n k)
  rw [modulated, val_main_v2_apply, val_main_v0_apply, val_main_v1_apply]
  refine congrArg₂ (· + ·) (Finset.sum_congr rfl fun p _ => congrArg₂ (· * ·) (congrArg x ?_) (congrArg w ?_)) (congrArg b ?_) <;>
  · funext a
    match a with
    | ⟨0, _⟩ => rfl
    | ⟨1, _⟩ => rfl

end Cert.Modulation

end
-- ==== Proof.lean ====
module

public import proofs.«01_k».proof.Defs
public import proofs.«01_k».proof.Proof.Gen.KernelDwr
public import proofs.«01_k».proof.Proof.Gen.KernelDwr.Skeleton
public import proofs.«01_k».proof.Proof.Gen.KernelDwr.Launch
public import proofs.«01_k».proof.Proof.Gen.KernelDwr.Points
public import proofs.«01_k».proof.Proof.Gen.KernelDwr.Frame
public import proofs.«01_k».proof.Proof.Gen.KernelDwrIdeal
public import proofs.«01_k».proof.Proof.Gen.KernelDwrIdeal.Skeleton
public import proofs.«01_k».proof.Proof.Gen.KernelDwrIdeal.Launch
public import proofs.«01_k».proof.Proof.Gen.KernelDwrIdeal.Points
public import proofs.«01_k».proof.Proof.Gen.KernelDwrIdeal.Frame
public import proofs.«01_k».proof.Proof.Gen.ReferenceDwrIdeal
public import proofs.«01_k».proof.Proof.Gen.ReferenceDwrIdeal.Run
public import proofs.«01_k».proof.Proof.Gen.ReferenceDwrIdeal.Read
public import proofs.«01_k».proof.Proof.Gen.KernelDwrIdeal.Value
public import proofs.«01_k».proof.Proof.Gen.KernelDwc
public import proofs.«01_k».proof.Proof.Gen.KernelDwc.Skeleton
public import proofs.«01_k».proof.Proof.Gen.KernelDwc.Launch
public import proofs.«01_k».proof.Proof.Gen.KernelDwc.Points
public import proofs.«01_k».proof.Proof.Gen.KernelDwc.Frame
public import proofs.«01_k».proof.Proof.Gen.KernelDwcIdeal
public import proofs.«01_k».proof.Proof.Gen.KernelDwcIdeal.Skeleton
public import proofs.«01_k».proof.Proof.Gen.KernelDwcIdeal.Launch
public import proofs.«01_k».proof.Proof.Gen.KernelDwcIdeal.Points
public import proofs.«01_k».proof.Proof.Gen.KernelDwcIdeal.Frame
public import proofs.«01_k».proof.Proof.Gen.ReferenceDwcIdeal
public import proofs.«01_k».proof.Proof.Gen.ReferenceDwcIdeal.Run
public import proofs.«01_k».proof.Proof.Gen.ReferenceDwcIdeal.Read
public import proofs.«01_k».proof.Proof.Gen.KernelDwcIdeal.Value
public import proofs.«01_k».proof.Proof.Gen.KernelDwg
public import proofs.«01_k».proof.Proof.Gen.KernelDwg.Skeleton
public import proofs.«01_k».proof.Proof.Gen.KernelDwg.Launch
public import proofs.«01_k».proof.Proof.Gen.KernelDwg.Points
public import proofs.«01_k».proof.Proof.Gen.KernelDwg.Frame
public import proofs.«01_k».proof.Proof.Gen.KernelDwgIdeal
public import proofs.«01_k».proof.Proof.Gen.KernelDwgIdeal.Skeleton
public import proofs.«01_k».proof.Proof.Gen.KernelDwgIdeal.Launch
public import proofs.«01_k».proof.Proof.Gen.KernelDwgIdeal.Points
public import proofs.«01_k».proof.Proof.Gen.KernelDwgIdeal.Frame
public import proofs.«01_k».proof.Proof.Gen.ReferenceDwgIdeal
public import proofs.«01_k».proof.Proof.Gen.ReferenceDwgIdeal.Run
public import proofs.«01_k».proof.Proof.Gen.ReferenceDwgIdeal.Read
public import proofs.«01_k».proof.Proof.Gen.KernelDwgIdeal.Value
public import proofs.«01_k».proof.Proof.Gen.KernelDwRetOut
public import proofs.«01_k».proof.Proof.Gen.KernelDwRetOut.Skeleton
public import proofs.«01_k».proof.Proof.Gen.KernelDwRetOut.Launch
public import proofs.«01_k».proof.Proof.Gen.KernelDwRetOut.Points
public import proofs.«01_k».proof.Proof.Gen.KernelDwRetOut.Frame
public import proofs.«01_k».proof.Proof.Gen.KernelDwRetOutIdeal
public import proofs.«01_k».proof.Proof.Gen.KernelDwRetOutIdeal.Skeleton
public import proofs.«01_k».proof.Proof.Gen.KernelDwRetOutIdeal.Launch
public import proofs.«01_k».proof.Proof.Gen.KernelDwRetOutIdeal.Points
public import proofs.«01_k».proof.Proof.Gen.KernelDwRetOutIdeal.Frame
public import proofs.«01_k».proof.Proof.Gen.ReferenceDwRetOutIdeal
public import proofs.«01_k».proof.Proof.Gen.ReferenceDwRetOutIdeal.Run
public import proofs.«01_k».proof.Proof.Gen.ReferenceDwRetOutIdeal.Read
public import proofs.«01_k».proof.Proof.Gen.KernelDwRetOutIdeal.Value
public import proofs.«01_k».proof.Proof.Gen.KernelDwConvOut
public import proofs.«01_k».proof.Proof.Gen.KernelDwConvOut.Skeleton
public import proofs.«01_k».proof.Proof.Gen.KernelDwConvOut.Launch
public import proofs.«01_k».proof.Proof.Gen.KernelDwConvOut.Points
public import proofs.«01_k».proof.Proof.Gen.KernelDwConvOut.Frame
public import proofs.«01_k».proof.Proof.Gen.KernelDwConvOutIdeal
public import proofs.«01_k».proof.Proof.Gen.KernelDwConvOutIdeal.Skeleton
public import proofs.«01_k».proof.Proof.Gen.KernelDwConvOutIdeal.Launch
public import proofs.«01_k».proof.Proof.Gen.KernelDwConvOutIdeal.Points
public import proofs.«01_k».proof.Proof.Gen.KernelDwConvOutIdeal.Frame
public import proofs.«01_k».proof.Proof.Gen.ReferenceDwConvOutIdeal
public import proofs.«01_k».proof.Proof.Gen.ReferenceDwConvOutIdeal.Run
public import proofs.«01_k».proof.Proof.Gen.ReferenceDwConvOutIdeal.Read
public import proofs.«01_k».proof.Proof.Gen.KernelDwConvOutIdeal.Value
public import proofs.«01_k».proof.Proof.Gen.KernelDwOut
public import proofs.«01_k».proof.Proof.Gen.KernelDwOut.Skeleton
public import proofs.«01_k».proof.Proof.Gen.KernelDwOut.Launch
public import proofs.«01_k».proof.Proof.Gen.KernelDwOut.Points
public import proofs.«01_k».proof.Proof.Gen.KernelDwOut.Frame
public import proofs.«01_k».proof.Proof.Gen.KernelDwOutIdeal
public import proofs.«01_k».proof.Proof.Gen.KernelDwOutIdeal.Skeleton
public import proofs.«01_k».proof.Proof.Gen.KernelDwOutIdeal.Launch
public import proofs.«01_k».proof.Proof.Gen.KernelDwOutIdeal.Points
public import proofs.«01_k».proof.Proof.Gen.KernelDwOutIdeal.Frame
public import proofs.«01_k».proof.Proof.Gen.ReferenceDwOutIdeal
public import proofs.«01_k».proof.Proof.Gen.ReferenceDwOutIdeal.Run
public import proofs.«01_k».proof.Proof.Gen.ReferenceDwOutIdeal.Read
public import proofs.«01_k».proof.Proof.Gen.KernelDwOutIdeal.Value
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.ReferenceDhIdeal
public import proofs.«01_k».proof.Proof.Gen.ReferenceDhIdeal.Run
public import proofs.«01_k».proof.Proof.Gen.ReferenceDhIdeal.Read
public import proofs.«01_k».proof.Proof.Gen.KernelDhIdeal.Value
public import proofs.«01_k».proof.Proof.Gen.KernelHead
public import proofs.«01_k».proof.Proof.Gen.KernelHead.Skeleton
public import proofs.«01_k».proof.Proof.Gen.KernelHead.Launch
public import proofs.«01_k».proof.Proof.Gen.KernelHead.Points
public import proofs.«01_k».proof.Proof.Gen.KernelHead.Frame
public import proofs.«01_k».proof.Proof.Gen.KernelHeadIdeal
public import proofs.«01_k».proof.Proof.Gen.KernelHeadIdeal.Skeleton
public import proofs.«01_k».proof.Proof.Gen.KernelHeadIdeal.Launch
public import proofs.«01_k».proof.Proof.Gen.KernelHeadIdeal.Points
public import proofs.«01_k».proof.Proof.Gen.KernelHeadIdeal.Frame
public import proofs.«01_k».proof.Proof.Gen.ReferenceHeadIdeal
public import proofs.«01_k».proof.Proof.Gen.ReferenceHeadIdeal.Run
public import proofs.«01_k».proof.Proof.Gen.ReferenceHeadIdeal.Read
public import proofs.«01_k».proof.Proof.Gen.KernelHeadIdeal.Value
public import proofs.«01_k».proof.Proof.Gen.KernelSumSmall
public import proofs.«01_k».proof.Proof.Gen.KernelSumSmall.Skeleton
public import proofs.«01_k».proof.Proof.Gen.KernelSumSmall.Launch
public import proofs.«01_k».proof.Proof.Gen.KernelSumSmall.Points
public import proofs.«01_k».proof.Proof.Gen.KernelSumSmall.Frame
public import proofs.«01_k».proof.Proof.Gen.KernelSumSmallIdeal
public import proofs.«01_k».proof.Proof.Gen.KernelSumSmallIdeal.Skeleton
public import proofs.«01_k».proof.Proof.Gen.KernelSumSmallIdeal.Launch
public import proofs.«01_k».proof.Proof.Gen.KernelSumSmallIdeal.Points
public import proofs.«01_k».proof.Proof.Gen.KernelSumSmallIdeal.Frame
public import proofs.«01_k».proof.Proof.Gen.ReferenceSumSmallIdeal
public import proofs.«01_k».proof.Proof.Gen.ReferenceSumSmallIdeal.Run
public import proofs.«01_k».proof.Proof.Gen.ReferenceSumSmallIdeal.Read
public import proofs.«01_k».proof.Proof.Gen.KernelSumSmallIdeal.Value
public import proofs.«01_k».proof.Proof.Gen.KernelSumConvW
public import proofs.«01_k».proof.Proof.Gen.KernelSumConvW.Skeleton
public import proofs.«01_k».proof.Proof.Gen.KernelSumConvW.Launch
public import proofs.«01_k».proof.Proof.Gen.KernelSumConvW.Points
public import proofs.«01_k».proof.Proof.Gen.KernelSumConvW.Frame
public import proofs.«01_k».proof.Proof.Gen.KernelSumConvWIdeal
public import proofs.«01_k».proof.Proof.Gen.KernelSumConvWIdeal.Skeleton
public import proofs.«01_k».proof.Proof.Gen.KernelSumConvWIdeal.Launch
public import proofs.«01_k».proof.Proof.Gen.KernelSumConvWIdeal.Points
public import proofs.«01_k».proof.Proof.Gen.KernelSumConvWIdeal.Frame
public import proofs.«01_k».proof.Proof.Gen.ReferenceSumConvWIdeal
public import proofs.«01_k».proof.Proof.Gen.ReferenceSumConvWIdeal.Run
public import proofs.«01_k».proof.Proof.Gen.ReferenceSumConvWIdeal.Read
public import proofs.«01_k».proof.Proof.Gen.KernelSumConvWIdeal.Value
public import proofs.«01_k».proof.Proof.Gen.KernelGradWAda
public import proofs.«01_k».proof.Proof.Gen.KernelGradWAda.Skeleton
public import proofs.«01_k».proof.Proof.Gen.KernelGradWAda.Launch
public import proofs.«01_k».proof.Proof.Gen.KernelGradWAda.Points
public import proofs.«01_k».proof.Proof.Gen.KernelGradWAda.Frame
public import proofs.«01_k».proof.Proof.Gen.KernelGradWAdaIdeal
public import proofs.«01_k».proof.Proof.Gen.KernelGradWAdaIdeal.Skeleton
public import proofs.«01_k».proof.Proof.Gen.KernelGradWAdaIdeal.Launch
public import proofs.«01_k».proof.Proof.Gen.KernelGradWAdaIdeal.Points
public import proofs.«01_k».proof.Proof.Gen.KernelGradWAdaIdeal.Frame
public import proofs.«01_k».proof.Proof.Gen.ReferenceGradWAdaIdeal
public import proofs.«01_k».proof.Proof.Gen.ReferenceGradWAdaIdeal.Run
public import proofs.«01_k».proof.Proof.Gen.ReferenceGradWAdaIdeal.Read
public import proofs.«01_k».proof.Proof.Gen.KernelGradWAdaIdeal.Value
public import proofs.«01_k».proof.Proof.Gen.KernelAdamSmall
public import proofs.«01_k».proof.Proof.Gen.KernelAdamSmall.Skeleton
public import proofs.«01_k».proof.Proof.Gen.KernelAdamSmall.Launch
public import proofs.«01_k».proof.Proof.Gen.KernelAdamSmall.Points
public import proofs.«01_k».proof.Proof.Gen.KernelAdamSmall.Frame
public import proofs.«01_k».proof.Proof.Gen.KernelAdamSmallIdeal
public import proofs.«01_k».proof.Proof.Gen.KernelAdamSmallIdeal.Skeleton
public import proofs.«01_k».proof.Proof.Gen.KernelAdamSmallIdeal.Launch
public import proofs.«01_k».proof.Proof.Gen.KernelAdamSmallIdeal.Points
public import proofs.«01_k».proof.Proof.Gen.KernelAdamSmallIdeal.Frame
public import proofs.«01_k».proof.Proof.Gen.ReferenceAdamSmallIdeal
public import proofs.«01_k».proof.Proof.Gen.ReferenceAdamSmallIdeal.Run
public import proofs.«01_k».proof.Proof.Gen.ReferenceAdamSmallIdeal.Read
public import proofs.«01_k».proof.Proof.Gen.KernelAdamSmallIdeal.Value
public import proofs.«01_k».proof.Proof.Gen.KernelAdamConvW
public import proofs.«01_k».proof.Proof.Gen.KernelAdamConvW.Skeleton
public import proofs.«01_k».proof.Proof.Gen.KernelAdamConvW.Launch
public import proofs.«01_k».proof.Proof.Gen.KernelAdamConvW.Points
public import proofs.«01_k».proof.Proof.Gen.KernelAdamConvW.Frame
public import proofs.«01_k».proof.Proof.Gen.KernelAdamConvWIdeal
public import proofs.«01_k».proof.Proof.Gen.KernelAdamConvWIdeal.Skeleton
public import proofs.«01_k».proof.Proof.Gen.KernelAdamConvWIdeal.Launch
public import proofs.«01_k».proof.Proof.Gen.KernelAdamConvWIdeal.Points
public import proofs.«01_k».proof.Proof.Gen.KernelAdamConvWIdeal.Frame
public import proofs.«01_k».proof.Proof.Gen.ReferenceAdamConvWIdeal
public import proofs.«01_k».proof.Proof.Gen.ReferenceAdamConvWIdeal.Run
public import proofs.«01_k».proof.Proof.Gen.ReferenceAdamConvWIdeal.Read
public import proofs.«01_k».proof.Proof.Gen.KernelAdamConvWIdeal.Value
public import proofs.«01_k».proof.Proof.Gen.KernelAdamWAda
public import proofs.«01_k».proof.Proof.Gen.KernelAdamWAda.Skeleton
public import proofs.«01_k».proof.Proof.Gen.KernelAdamWAda.Launch
public import proofs.«01_k».proof.Proof.Gen.KernelAdamWAda.Points
public import proofs.«01_k».proof.Proof.Gen.KernelAdamWAda.Frame
public import proofs.«01_k».proof.Proof.Gen.KernelAdamWAdaIdeal
public import proofs.«01_k».proof.Proof.Gen.KernelAdamWAdaIdeal.Skeleton
public import proofs.«01_k».proof.Proof.Gen.KernelAdamWAdaIdeal.Launch
public import proofs.«01_k».proof.Proof.Gen.KernelAdamWAdaIdeal.Points
public import proofs.«01_k».proof.Proof.Gen.KernelAdamWAdaIdeal.Frame
public import proofs.«01_k».proof.Proof.Gen.ReferenceAdamWAdaIdeal
public import proofs.«01_k».proof.Proof.Gen.ReferenceAdamWAdaIdeal.Run
public import proofs.«01_k».proof.Proof.Gen.ReferenceAdamWAdaIdeal.Read
public import proofs.«01_k».proof.Proof.Gen.KernelAdamWAdaIdeal.Value
public import proofs.«01_k».proof.Proof.Gen.KernelAdamWIn
public import proofs.«01_k».proof.Proof.Gen.KernelAdamWIn.Skeleton
public import proofs.«01_k».proof.Proof.Gen.KernelAdamWIn.Launch
public import proofs.«01_k».proof.Proof.Gen.KernelAdamWIn.Points
public import proofs.«01_k».proof.Proof.Gen.KernelAdamWIn.Frame
public import proofs.«01_k».proof.Proof.Gen.KernelAdamWInIdeal
public import proofs.«01_k».proof.Proof.Gen.KernelAdamWInIdeal.Skeleton
public import proofs.«01_k».proof.Proof.Gen.KernelAdamWInIdeal.Launch
public import proofs.«01_k».proof.Proof.Gen.KernelAdamWInIdeal.Points
public import proofs.«01_k».proof.Proof.Gen.KernelAdamWInIdeal.Frame
public import proofs.«01_k».proof.Proof.Gen.ReferenceAdamWInIdeal
public import proofs.«01_k».proof.Proof.Gen.ReferenceAdamWInIdeal.Run
public import proofs.«01_k».proof.Proof.Gen.ReferenceAdamWInIdeal.Read
public import proofs.«01_k».proof.Proof.Gen.KernelAdamWInIdeal.Value
public import proofs.«01_k».proof.Proof.Gen.KernelAdamWRetOut
public import proofs.«01_k».proof.Proof.Gen.KernelAdamWRetOut.Skeleton
public import proofs.«01_k».proof.Proof.Gen.KernelAdamWRetOut.Launch
public import proofs.«01_k».proof.Proof.Gen.KernelAdamWRetOut.Points
public import proofs.«01_k».proof.Proof.Gen.KernelAdamWRetOut.Frame
public import proofs.«01_k».proof.Proof.Gen.KernelAdamWRetOutIdeal
public import proofs.«01_k».proof.Proof.Gen.KernelAdamWRetOutIdeal.Skeleton
public import proofs.«01_k».proof.Proof.Gen.KernelAdamWRetOutIdeal.Launch
public import proofs.«01_k».proof.Proof.Gen.KernelAdamWRetOutIdeal.Points
public import proofs.«01_k».proof.Proof.Gen.KernelAdamWRetOutIdeal.Frame
public import proofs.«01_k».proof.Proof.Gen.ReferenceAdamWRetOutIdeal
public import proofs.«01_k».proof.Proof.Gen.ReferenceAdamWRetOutIdeal.Run
public import proofs.«01_k».proof.Proof.Gen.ReferenceAdamWRetOutIdeal.Read
public import proofs.«01_k».proof.Proof.Gen.KernelAdamWRetOutIdeal.Value
public import proofs.«01_k».proof.Proof.Gen.KernelAdamWOut
public import proofs.«01_k».proof.Proof.Gen.KernelAdamWOut.Skeleton
public import proofs.«01_k».proof.Proof.Gen.KernelAdamWOut.Launch
public import proofs.«01_k».proof.Proof.Gen.KernelAdamWOut.Points
public import proofs.«01_k».proof.Proof.Gen.KernelAdamWOut.Frame
public import proofs.«01_k».proof.Proof.Gen.KernelAdamWOutIdeal
public import proofs.«01_k».proof.Proof.Gen.KernelAdamWOutIdeal.Skeleton
public import proofs.«01_k».proof.Proof.Gen.KernelAdamWOutIdeal.Launch
public import proofs.«01_k».proof.Proof.Gen.KernelAdamWOutIdeal.Points
public import proofs.«01_k».proof.Proof.Gen.KernelAdamWOutIdeal.Frame
public import proofs.«01_k».proof.Proof.Gen.ReferenceAdamWOutIdeal
public import proofs.«01_k».proof.Proof.Gen.ReferenceAdamWOutIdeal.Run
public import proofs.«01_k».proof.Proof.Gen.ReferenceAdamWOutIdeal.Read
public import proofs.«01_k».proof.Proof.Gen.KernelAdamWOutIdeal.Value
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Gen.ReferenceRfIdeal.Run
public import proofs.«01_k».proof.Proof.Gen.KernelRfIdeal.Value
public import proofs.«01_k».proof.Proof.Gen.KernelRf
public import proofs.«01_k».proof.Proof.Gen.KernelRf.Skeleton
public import proofs.«01_k».proof.Proof.Gen.KernelRf.Launch
public import proofs.«01_k».proof.Proof.Gen.KernelRf.Points
public import proofs.«01_k».proof.Proof.Gen.KernelRf.Frame
public import proofs.«01_k».proof.Proof.Gen.KernelRfIdeal
public import proofs.«01_k».proof.Proof.Gen.KernelRfIdeal.Skeleton
public import proofs.«01_k».proof.Proof.Gen.KernelRfIdeal.Launch
public import proofs.«01_k».proof.Proof.Gen.KernelRfIdeal.Points
public import proofs.«01_k».proof.Proof.Gen.KernelRfIdeal.Frame
public import proofs.«01_k».proof.Proof.Gen.ReferenceRfIdeal
public import proofs.«01_k».proof.Proof.DwrValue
public import proofs.«01_k».proof.Proof.DwcValue
public import proofs.«01_k».proof.Proof.DwgValue
public import proofs.«01_k».proof.Proof.DwRetOutValue
public import proofs.«01_k».proof.Proof.DwConvOutValue
public import proofs.«01_k».proof.Proof.DwOutValue
public import proofs.«01_k».proof.Proof.DhReference
public import proofs.«01_k».proof.Proof.HeadResult
public import proofs.«01_k».proof.Proof.SumDevices
public import proofs.«01_k».proof.Proof.GradWAdaValue
public import proofs.«01_k».proof.Proof.AdamSmallValue
public import proofs.«01_k».proof.Proof.AdamWInValue
public import proofs.«01_k».proof.Proof.AdamWRetOutValue
public import proofs.«01_k».proof.Proof.AdamWOutValue
public import proofs.«01_k».proof.Proof.RfResult
public import proofs.«01_k».proof.Proof.ModValue
public import Idealize.ShloMosaic.Lib.Quiescent
public import Idealize.ShloMosaic.Adequacy
public import Idealize.ShloMosaic.Init

@[expose] public section

noncomputable section

namespace Cert.Proof

open Idealize.ShloMosaic Idealize.SL.Sem

/- The references' frames: each is a straight line of host operations that declares no semaphore. -/
theorem frame_dwr : Cert.quiescent_ReferenceDwrIdeal := fun m g _ =>
  (θ_run Cert.ReferenceDwrIdeal.defs _ _).mono (fun r h => ⟨fun c => (h c).2.2.2.2, sem_eq_zero_of_no_sems (by decide) r.2⟩)
    (Cert.ReferenceDwrIdeal.Value.run (F := Ideal) m g)

theorem frame_dwc : Cert.quiescent_ReferenceDwcIdeal := fun m g _ =>
  (θ_run Cert.ReferenceDwcIdeal.defs _ _).mono (fun r h => ⟨fun c => (h c).2, sem_eq_zero_of_no_sems (by decide) r.2⟩)
    (Cert.ReferenceDwcIdeal.Value.run (F := Ideal) m g)

theorem frame_dwg : Cert.quiescent_ReferenceDwgIdeal := fun m g _ =>
  (θ_run Cert.ReferenceDwgIdeal.defs _ _).mono (fun r h => ⟨fun c => (h c).2, sem_eq_zero_of_no_sems (by decide) r.2⟩)
    (Cert.ReferenceDwgIdeal.Value.run (F := Ideal) m g)

theorem frame_dw_ret_out : Cert.quiescent_ReferenceDwRetOutIdeal := fun m g _ =>
  (θ_run Cert.ReferenceDwRetOutIdeal.defs _ _).mono (fun r h => ⟨fun c => (h c).2, sem_eq_zero_of_no_sems (by decide) r.2⟩)
    (Cert.ReferenceDwRetOutIdeal.Value.run (F := Ideal) m g)

theorem frame_dw_conv_out : Cert.quiescent_ReferenceDwConvOutIdeal := fun m g _ =>
  (θ_run Cert.ReferenceDwConvOutIdeal.defs _ _).mono (fun r h => ⟨fun c => (h c).2, sem_eq_zero_of_no_sems (by decide) r.2⟩)
    (Cert.ReferenceDwConvOutIdeal.Value.run (F := Ideal) m g)

theorem frame_dw_out : Cert.quiescent_ReferenceDwOutIdeal := fun m g _ =>
  (θ_run Cert.ReferenceDwOutIdeal.defs _ _).mono (fun r h => ⟨fun c => (h c).2, sem_eq_zero_of_no_sems (by decide) r.2⟩)
    (Cert.ReferenceDwOutIdeal.Value.run (F := Ideal) m g)

theorem frame_dh : Cert.quiescent_ReferenceDhIdeal := fun m g _ =>
  (θ_run Cert.ReferenceDhIdeal.defs _ _).mono (fun r h => ⟨fun c => (h c).2.2, sem_eq_zero_of_no_sems (by decide) r.2⟩)
    (Cert.ReferenceDhIdeal.Value.run (F := Ideal) m g)

theorem frame_head : Cert.quiescent_ReferenceHeadIdeal := fun m g _ =>
  (θ_run Cert.ReferenceHeadIdeal.defs _ _).mono (fun r h => ⟨fun c => (h c).2.2.2.2.2.2.2.2.2, sem_eq_zero_of_no_sems (by decide) r.2⟩)
    (Cert.ReferenceHeadIdeal.Value.run (F := Ideal) m g)

theorem frame_sum_small : Cert.quiescent_ReferenceSumSmallIdeal := fun m g _ =>
  (θ_run Cert.ReferenceSumSmallIdeal.defs _ _).mono (fun r h => ⟨fun c => (h c).2, sem_eq_zero_of_no_sems (by decide) r.2⟩)
    (Cert.ReferenceSumSmallIdeal.Value.run (F := Ideal) m g)

theorem frame_sum_conv_w : Cert.quiescent_ReferenceSumConvWIdeal := fun m g _ =>
  (θ_run Cert.ReferenceSumConvWIdeal.defs _ _).mono (fun r h => ⟨fun c => (h c).2, sem_eq_zero_of_no_sems (by decide) r.2⟩)
    (Cert.ReferenceSumConvWIdeal.Value.run (F := Ideal) m g)

theorem frame_grad_w_ada : Cert.quiescent_ReferenceGradWAdaIdeal := fun m g _ =>
  (θ_run Cert.ReferenceGradWAdaIdeal.defs _ _).mono (fun r h => ⟨fun c => (h c).2, sem_eq_zero_of_no_sems (by decide) r.2⟩)
    (Cert.ReferenceGradWAdaIdeal.Value.run (F := Ideal) m g)

theorem frame_adam_small : Cert.quiescent_ReferenceAdamSmallIdeal := fun m g _ =>
  (θ_run Cert.ReferenceAdamSmallIdeal.defs _ _).mono (fun r h => ⟨fun c => (h c).2.2.2, sem_eq_zero_of_no_sems (by decide) r.2⟩)
    (Cert.ReferenceAdamSmallIdeal.Value.run (F := Ideal) m g)

theorem frame_adam_conv_w : Cert.quiescent_ReferenceAdamConvWIdeal := fun m g _ =>
  (θ_run Cert.ReferenceAdamConvWIdeal.defs _ _).mono (fun r h => ⟨fun c => (h c).2.2.2, sem_eq_zero_of_no_sems (by decide) r.2⟩)
    (Cert.ReferenceAdamConvWIdeal.Value.run (F := Ideal) m g)

theorem frame_adam_w_ada : Cert.quiescent_ReferenceAdamWAdaIdeal := fun m g _ =>
  (θ_run Cert.ReferenceAdamWAdaIdeal.defs _ _).mono (fun r h => ⟨fun c => (h c).2.2.2, sem_eq_zero_of_no_sems (by decide) r.2⟩)
    (Cert.ReferenceAdamWAdaIdeal.Value.run (F := Ideal) m g)

theorem frame_adam_w_in : Cert.quiescent_ReferenceAdamWInIdeal := fun m g _ =>
  (θ_run Cert.ReferenceAdamWInIdeal.defs _ _).mono (fun r h => ⟨fun c => (h c).2.2.2.2, sem_eq_zero_of_no_sems (by decide) r.2⟩)
    (Cert.ReferenceAdamWInIdeal.Value.run (F := Ideal) m g)

theorem frame_adam_w_ret_out : Cert.quiescent_ReferenceAdamWRetOutIdeal := fun m g _ =>
  (θ_run Cert.ReferenceAdamWRetOutIdeal.defs _ _).mono (fun r h => ⟨fun c => (h c).2.2.2.2, sem_eq_zero_of_no_sems (by decide) r.2⟩)
    (Cert.ReferenceAdamWRetOutIdeal.Value.run (F := Ideal) m g)

theorem frame_adam_w_out : Cert.quiescent_ReferenceAdamWOutIdeal := fun m g _ =>
  (θ_run Cert.ReferenceAdamWOutIdeal.defs _ _).mono (fun r h => ⟨fun c => (h c).2.2.2.2, sem_eq_zero_of_no_sems (by decide) r.2⟩)
    (Cert.ReferenceAdamWOutIdeal.Value.run (F := Ideal) m g)

theorem frame_retention : Cert.quiescent_ReferenceRfIdeal := fun m g _ =>
  (θ_run Cert.ReferenceRfIdeal.defs _ _).mono (fun r h => ⟨fun c => (h c).2.2.2.2, sem_eq_zero_of_no_sems (by decide) r.2⟩)
    (Cert.ReferenceRfIdeal.Value.run (F := Ideal) m g)

theorem frame_modulation : Cert.quiescent_ReferenceModIdeal := fun m g _ =>
  (θ_run Cert.ReferenceModIdeal.defs _ _).mono (fun r h => ⟨fun c => (h c).2, sem_eq_zero_of_no_sems (by decide) r.2⟩)
    (Cert.ReferenceModIdeal.Value.run (F := Ideal) m g)

/- The values: the kernel's results are the folds its value module names, and the reference's are the same. -/
theorem algebraic_dwr : Cert.algebraic_KernelDwrIdeal_ReferenceDwrIdeal := by
  intro m g m' g' _ hagree
  refine ⟨fun c => Cert.KernelDwrIdeal.Value.G2 m c, fun c => Cert.KernelDwrIdeal.Value.G3 m c, fun c => Cert.KernelDwrIdeal.Value.G4 m c, fun c => Cert.KernelDwrIdeal.Value.G5 m c, Cert.KernelDwrIdeal.Value.run (F := Ideal) m g,
    (θ_run Cert.ReferenceDwrIdeal.defs _ _).mono (fun r h c => ?_) (Cert.ReferenceDwrIdeal.Value.run (F := Ideal) m' g')⟩
  have h := h c
  rw [(hagree c).1, (hagree c).2] at h
  obtain ⟨r0, r1, r2, r3, h0, h1⟩ := h
  exact ⟨(r0.trans (Cert.ReferenceDwrIdeal.Read.val_main_v11_eq (F := Ideal) _ _)).trans (Cert.Dwr.reference2 m c), (r1.trans (Cert.ReferenceDwrIdeal.Read.val_main_v18_eq (F := Ideal) _ _)).trans (Cert.Dwr.reference3 m c), (r2.trans (Cert.ReferenceDwrIdeal.Read.val_main_v25_eq (F := Ideal) _ _)).trans (Cert.Dwr.reference4 m c), (r3.trans (Cert.ReferenceDwrIdeal.Read.val_main_v32_eq (F := Ideal) _ _)).trans (Cert.Dwr.reference5 m c), h0.trans (hagree c).1.symm, h1.trans (hagree c).2.symm⟩

theorem algebraic_dwc : Cert.algebraic_KernelDwcIdeal_ReferenceDwcIdeal := by
  intro m g m' g' _ hagree
  refine ⟨fun c => Cert.KernelDwcIdeal.Value.G2 m c, Cert.KernelDwcIdeal.Value.run (F := Ideal) m g,
    (θ_run Cert.ReferenceDwcIdeal.defs _ _).mono (fun r h c => ?_) (Cert.ReferenceDwcIdeal.Value.run (F := Ideal) m' g')⟩
  have h := h c
  rw [(hagree c).1, (hagree c).2] at h
  obtain ⟨r0, h0, h1⟩ := h
  exact ⟨(r0.trans (Cert.ReferenceDwcIdeal.Read.val_main_v5_eq (F := Ideal) _ _)).trans (Cert.Dwc.reference_eq m c), h0.trans (hagree c).1.symm, h1.trans (hagree c).2.symm⟩

theorem algebraic_dwg : Cert.algebraic_KernelDwgIdeal_ReferenceDwgIdeal := by
  intro m g m' g' _ hagree
  refine ⟨fun c => Cert.KernelDwgIdeal.Value.G2 m c, Cert.KernelDwgIdeal.Value.run (F := Ideal) m g,
    (θ_run Cert.ReferenceDwgIdeal.defs _ _).mono (fun r h c => ?_) (Cert.ReferenceDwgIdeal.Value.run (F := Ideal) m' g')⟩
  have h := h c
  rw [(hagree c).1, (hagree c).2] at h
  obtain ⟨r0, h0, h1⟩ := h
  exact ⟨(r0.trans (Cert.ReferenceDwgIdeal.Read.val_main_v5_eq (F := Ideal) _ _)).trans (Cert.Dwg.reference_eq m c), h0.trans (hagree c).1.symm, h1.trans (hagree c).2.symm⟩

theorem algebraic_dw_ret_out : Cert.algebraic_KernelDwRetOutIdeal_ReferenceDwRetOutIdeal := by
  intro m g m' g' _ hagree
  refine ⟨fun c => Cert.KernelDwRetOutIdeal.Value.G2 m c, Cert.KernelDwRetOutIdeal.Value.run (F := Ideal) m g,
    (θ_run Cert.ReferenceDwRetOutIdeal.defs _ _).mono (fun r h c => ?_) (Cert.ReferenceDwRetOutIdeal.Value.run (F := Ideal) m' g')⟩
  have h := h c
  rw [(hagree c).1, (hagree c).2] at h
  obtain ⟨r0, h0, h1⟩ := h
  exact ⟨(r0.trans (Cert.ReferenceDwRetOutIdeal.Read.val_main_v5_eq (F := Ideal) _ _)).trans (Cert.DwRetOut.reference_eq m c), h0.trans (hagree c).1.symm, h1.trans (hagree c).2.symm⟩

theorem algebraic_dw_conv_out : Cert.algebraic_KernelDwConvOutIdeal_ReferenceDwConvOutIdeal := by
  intro m g m' g' _ hagree
  refine ⟨fun c => Cert.KernelDwConvOutIdeal.Value.G2 m c, Cert.KernelDwConvOutIdeal.Value.run (F := Ideal) m g,
    (θ_run Cert.ReferenceDwConvOutIdeal.defs _ _).mono (fun r h c => ?_) (Cert.ReferenceDwConvOutIdeal.Value.run (F := Ideal) m' g')⟩
  have h := h c
  rw [(hagree c).1, (hagree c).2] at h
  obtain ⟨r0, h0, h1⟩ := h
  exact ⟨(r0.trans (Cert.ReferenceDwConvOutIdeal.Read.val_main_v5_eq (F := Ideal) _ _)).trans (Cert.DwConvOut.reference_eq m c), h0.trans (hagree c).1.symm, h1.trans (hagree c).2.symm⟩

theorem algebraic_dw_out : Cert.algebraic_KernelDwOutIdeal_ReferenceDwOutIdeal := by
  intro m g m' g' _ hagree
  refine ⟨fun c => Cert.KernelDwOutIdeal.Value.G2 m c, Cert.KernelDwOutIdeal.Value.run (F := Ideal) m g,
    (θ_run Cert.ReferenceDwOutIdeal.defs _ _).mono (fun r h c => ?_) (Cert.ReferenceDwOutIdeal.Value.run (F := Ideal) m' g')⟩
  have h := h c
  rw [(hagree c).1, (hagree c).2] at h
  obtain ⟨r0, h0, h1⟩ := h
  exact ⟨(r0.trans (Cert.ReferenceDwOutIdeal.Read.val_main_v5_eq (F := Ideal) _ _)).trans (Cert.DwOut.reference_eq m c), h0.trans (hagree c).1.symm, h1.trans (hagree c).2.symm⟩

theorem algebraic_dh : Cert.algebraic_KernelDhIdeal_ReferenceDhIdeal := by
  intro m g m' g' _ hagree
  refine ⟨fun c => (Cert.KernelDhIdeal.Gen.dats m 0 c).arrAt 8 Cert.KernelDhIdeal.cfg0.N, fun c => (Cert.KernelDhIdeal.Gen.dats m 0 c).arrAt 9 Cert.KernelDhIdeal.cfg0.N,
    Cert.KernelDhIdeal.Value.run_blocks (F := Ideal) m g,
    (θ_run Cert.ReferenceDhIdeal.defs _ _).mono (fun r h c => ?_) (Cert.ReferenceDhIdeal.Value.run (F := Ideal) m' g')⟩
  obtain ⟨r0, r1, hargs⟩ := h c
  obtain ⟨a0, a1, a2, a3, a4, a5, a6, a7⟩ := hagree c
  rw [a0, a1, a2, a3, a4, a5, a6, a7] at hargs
  refine ⟨r0.trans ((Cert.ReferenceDhIdeal.Read.val_main_v63_eq (F := Ideal) m' c).trans ?_),
    r1.trans ((Cert.ReferenceDhIdeal.Read.val_main_v65_eq (F := Ideal) m' c).trans ?_), ?_⟩
  · rw [a0, a1, a2, a3, a4, a5, a6, a7]
    exact Cert.Dh.reference8 m c
  · rw [a0, a1, a2, a3, a4, a6, a7]
    exact Cert.Dh.reference9 m c
  · obtain ⟨k0, k1, k2, k3, k4, k5, k6, k7⟩ := hargs
    exact ⟨k0.trans a0.symm, k1.trans a1.symm, k2.trans a2.symm, k3.trans a3.symm, k4.trans a4.symm, k5.trans a5.symm, k6.trans a6.symm, k7.trans a7.symm⟩

set_option maxHeartbeats 2000000 in
theorem algebraic_head : Cert.algebraic_KernelHeadIdeal_ReferenceHeadIdeal := by
  intro m g m' g' _ hagree
  refine ⟨fun c => (Cert.KernelHeadIdeal.Gen.dats m 0 c).arrAt 11 Cert.KernelHeadIdeal.cfg0.N, fun c => (Cert.KernelHeadIdeal.Gen.dats m 0 c).arrAt 12 Cert.KernelHeadIdeal.cfg0.N,
    fun c => (Cert.KernelHeadIdeal.Gen.dats m 0 c).arrAt 13 Cert.KernelHeadIdeal.cfg0.N, fun c => (Cert.KernelHeadIdeal.Gen.dats m 0 c).arrAt 14 Cert.KernelHeadIdeal.cfg0.N,
    fun c => (Cert.KernelHeadIdeal.Gen.dats m 0 c).arrAt 15 Cert.KernelHeadIdeal.cfg0.N, fun c => (Cert.KernelHeadIdeal.Gen.dats m 0 c).arrAt 16 Cert.KernelHeadIdeal.cfg0.N,
    fun c => (Cert.KernelHeadIdeal.Gen.dats m 0 c).arrAt 17 Cert.KernelHeadIdeal.cfg0.N, fun c => (Cert.KernelHeadIdeal.Gen.dats m 0 c).arrAt 18 Cert.KernelHeadIdeal.cfg0.N,
    fun c => (Cert.KernelHeadIdeal.Gen.dats m 0 c).arrAt 19 Cert.KernelHeadIdeal.cfg0.N,
    Cert.KernelHeadIdeal.Value.run_blocks (F := Ideal) m g,
    (θ_run Cert.ReferenceHeadIdeal.defs _ _).mono (fun r h c => ?_) (Cert.ReferenceHeadIdeal.Value.run (F := Ideal) m' g')⟩
  obtain ⟨r0, r1, r2, r3, r4, r5, r6, r7, r8, hargs⟩ := h c
  obtain ⟨a0, a1, a2, a3, a4, a5, a6, a7, a8, a9⟩ := hagree c
  rw [a0, a1, a2, a3, a4, a5, a6, a7, a8, a9] at hargs
  refine ⟨r0.trans ((Cert.ReferenceHeadIdeal.Read.val_main_v60_eq (F := Ideal) m' c).trans ?_),
    r1.trans ((Cert.ReferenceHeadIdeal.Read.val_main_v96_eq (F := Ideal) m' c).trans ?_),
    r2.trans ((Cert.ReferenceHeadIdeal.Read.val_main_v97_eq (F := Ideal) m' c).trans ?_),
    r3.trans ((Cert.ReferenceHeadIdeal.Read.val_main_v98_eq (F := Ideal) m' c).trans ?_),
    r4.trans ((Cert.ReferenceHeadIdeal.Read.val_main_v99_eq (F := Ideal) _ _ _ _ _).trans ?_),
    r5.trans ((Cert.ReferenceHeadIdeal.Read.val_main_v100_eq (F := Ideal) m' c).trans ?_),
    r6.trans ((Cert.ReferenceHeadIdeal.Read.val_main_v101_eq (F := Ideal) m' c).trans ?_),
    r7.trans ((Cert.ReferenceHeadIdeal.Read.val_main_v102_eq (F := Ideal) m' c).trans ?_),
    r8.trans ((Cert.ReferenceHeadIdeal.Read.val_main_v94_eq (F := Ideal) m' c).trans ?_), ?_⟩
  · rw [a0, a1, a2, a3, a4, a5, a6, a7, a8, a9]
    exact Cert.Head.reference11 m c
  · rw [a0, a1, a2, a3, a4, a5, a6, a7, a8, a9]
    exact Cert.Head.reference12 m c
  · rw [a0, a1, a2, a3, a4, a5, a6, a7, a8, a9]
    exact Cert.Head.reference13 m c
  · rw [a0, a1, a2, a3, a4, a5, a6, a7, a8, a9]
    exact Cert.Head.reference14 m c
  · rw [a0, a1, a2, a7, a8]
    exact Cert.Head.reference15 m c
  · rw [a0, a1, a2, a3, a4, a5, a6, a7, a8, a9]
    exact Cert.Head.reference16 m c
  · rw [a0, a1, a2, a3, a4, a5, a6, a7, a8, a9]
    exact Cert.Head.reference17 m c
  · rw [a0, a1, a2, a3, a4, a5, a6, a7, a8, a9]
    exact Cert.Head.reference18 m c
  · rw [a0, a1, a2, a3, a4, a5, a6, a7, a8, a9]
    exact Cert.Head.reference19 m c
  · obtain ⟨k0, k1, k2, k3, k4, k5, k6, k7, k8, k9⟩ := hargs
    exact ⟨k0.trans a0.symm, k1.trans a1.symm, k2.trans a2.symm, k3.trans a3.symm, k4.trans a4.symm, k5.trans a5.symm, k6.trans a6.symm, k7.trans a7.symm, k8.trans a8.symm, k9.trans a9.symm⟩

theorem algebraic_sum_small : Cert.algebraic_KernelSumSmallIdeal_ReferenceSumSmallIdeal := by
  intro m g m' g' _ hagree
  refine ⟨fun c => Cert.KernelSumSmallIdeal.Value.G1 (F := Ideal) (m ((c.tc : Thread _ _).loc Cert.KernelSumSmallIdeal.main_arg0)), Cert.KernelSumSmallIdeal.Value.run (F := Ideal) m g,
    (θ_run Cert.ReferenceSumSmallIdeal.defs _ _).mono (fun r h c => ?_) (Cert.ReferenceSumSmallIdeal.Value.run (F := Ideal) m' g')⟩
  obtain ⟨r0, h0⟩ := h c
  have a0 := hagree c
  rw [a0] at r0
  exact ⟨(r0.trans (Cert.ReferenceSumSmallIdeal.Read.val_main_v0_eq (F := Ideal) _)).trans (Cert.SumSmall.reference_eq _), h0⟩

theorem algebraic_sum_conv_w : Cert.algebraic_KernelSumConvWIdeal_ReferenceSumConvWIdeal := by
  intro m g m' g' _ hagree
  refine ⟨fun c => Cert.KernelSumConvWIdeal.Value.G1 (F := Ideal) (m ((c.tc : Thread _ _).loc Cert.KernelSumConvWIdeal.main_arg0)), Cert.KernelSumConvWIdeal.Value.run (F := Ideal) m g,
    (θ_run Cert.ReferenceSumConvWIdeal.defs _ _).mono (fun r h c => ?_) (Cert.ReferenceSumConvWIdeal.Value.run (F := Ideal) m' g')⟩
  obtain ⟨r0, h0⟩ := h c
  have a0 := hagree c
  rw [a0] at r0
  exact ⟨(r0.trans (Cert.ReferenceSumConvWIdeal.Read.val_main_v0_eq (F := Ideal) _)).trans (Cert.SumConvW.reference_eq _), h0⟩

theorem algebraic_grad_w_ada : Cert.algebraic_KernelGradWAdaIdeal_ReferenceGradWAdaIdeal := by
  intro m g m' g' _ hagree
  refine ⟨fun c => (Cert.KernelGradWAdaIdeal.Gen.dats m 0 c).arrAt 2 Cert.KernelGradWAdaIdeal.cfg0.N, Cert.KernelGradWAdaIdeal.Value.run_blocks (F := Ideal) m g,
    (θ_run Cert.ReferenceGradWAdaIdeal.defs _ _).mono (fun r h c => ?_) (Cert.ReferenceGradWAdaIdeal.Value.run (F := Ideal) m' g')⟩
  obtain ⟨r0, h0, h1⟩ := h c
  obtain ⟨a0, a1⟩ := hagree c
  rw [a0, a1] at r0
  exact ⟨(r0.trans (Cert.ReferenceGradWAdaIdeal.Read.val_main_v3_eq (F := Ideal) _ _)).trans (Cert.GradWAda.reference_eq m c), h0, h1⟩

theorem algebraic_adam_small : Cert.algebraic_KernelAdamSmallIdeal_ReferenceAdamSmallIdeal := by
  intro m g m' g' _ hagree
  refine ⟨fun c => Cert.KernelAdamSmallIdeal.Value.G4 (F := Ideal) (m ((c.tc : Thread _ _).loc Cert.KernelAdamSmallIdeal.main_arg1)) (m ((c.tc : Thread _ _).loc Cert.KernelAdamSmallIdeal.main_arg0)) (m ((c.tc : Thread _ _).loc Cert.KernelAdamSmallIdeal.main_arg2)) (m ((c.tc : Thread _ _).loc Cert.KernelAdamSmallIdeal.main_arg3)),
    fun c => Cert.KernelAdamSmallIdeal.Value.G5 (F := Ideal) (m ((c.tc : Thread _ _).loc Cert.KernelAdamSmallIdeal.main_arg0)) (m ((c.tc : Thread _ _).loc Cert.KernelAdamSmallIdeal.main_arg2)),
    fun c => Cert.KernelAdamSmallIdeal.Value.G6 (F := Ideal) (m ((c.tc : Thread _ _).loc Cert.KernelAdamSmallIdeal.main_arg0)) (m ((c.tc : Thread _ _).loc Cert.KernelAdamSmallIdeal.main_arg3)), Cert.KernelAdamSmallIdeal.Value.run (F := Ideal) m g,
    (θ_run Cert.ReferenceAdamSmallIdeal.defs _ _).mono (fun r h c => ?_) (Cert.ReferenceAdamSmallIdeal.Value.run (F := Ideal) m' g')⟩
  obtain ⟨r0, r1, r2, hargs⟩ := h c
  obtain ⟨a0, a1, a2, a3⟩ := hagree c
  rw [a0, a1, a2, a3] at r0
  rw [a0, a2] at r1
  rw [a0, a3] at r2
  exact ⟨(r0.trans (Cert.ReferenceAdamSmallIdeal.Read.val_main_v23_eq (F := Ideal) _ _ _ _)).trans (Cert.AdamSmall.delta_eq _ _ _ _),
    (r1.trans (Cert.ReferenceAdamSmallIdeal.Read.val_main_v4_eq (F := Ideal) _ _)).trans (Cert.AdamSmall.first_eq _ _),
    (r2.trans (Cert.ReferenceAdamSmallIdeal.Read.val_main_v10_eq (F := Ideal) _ _)).trans (Cert.AdamSmall.second_eq _ _), hargs⟩

theorem algebraic_adam_conv_w : Cert.algebraic_KernelAdamConvWIdeal_ReferenceAdamConvWIdeal := by
  intro m g m' g' _ hagree
  refine ⟨fun c => Cert.KernelAdamConvWIdeal.Value.G4 (F := Ideal) (m ((c.tc : Thread _ _).loc Cert.KernelAdamConvWIdeal.main_arg1)) (m ((c.tc : Thread _ _).loc Cert.KernelAdamConvWIdeal.main_arg0)) (m ((c.tc : Thread _ _).loc Cert.KernelAdamConvWIdeal.main_arg2)) (m ((c.tc : Thread _ _).loc Cert.KernelAdamConvWIdeal.main_arg3)),
    fun c => Cert.KernelAdamConvWIdeal.Value.G5 (F := Ideal) (m ((c.tc : Thread _ _).loc Cert.KernelAdamConvWIdeal.main_arg0)) (m ((c.tc : Thread _ _).loc Cert.KernelAdamConvWIdeal.main_arg2)),
    fun c => Cert.KernelAdamConvWIdeal.Value.G6 (F := Ideal) (m ((c.tc : Thread _ _).loc Cert.KernelAdamConvWIdeal.main_arg0)) (m ((c.tc : Thread _ _).loc Cert.KernelAdamConvWIdeal.main_arg3)), Cert.KernelAdamConvWIdeal.Value.run (F := Ideal) m g,
    (θ_run Cert.ReferenceAdamConvWIdeal.defs _ _).mono (fun r h c => ?_) (Cert.ReferenceAdamConvWIdeal.Value.run (F := Ideal) m' g')⟩
  obtain ⟨r0, r1, r2, hargs⟩ := h c
  obtain ⟨a0, a1, a2, a3⟩ := hagree c
  rw [a0, a1, a2, a3] at r0
  rw [a0, a2] at r1
  rw [a0, a3] at r2
  exact ⟨(r0.trans (Cert.ReferenceAdamConvWIdeal.Read.val_main_v23_eq (F := Ideal) _ _ _ _)).trans (Cert.AdamConvW.delta_eq _ _ _ _),
    (r1.trans (Cert.ReferenceAdamConvWIdeal.Read.val_main_v4_eq (F := Ideal) _ _)).trans (Cert.AdamConvW.first_eq _ _),
    (r2.trans (Cert.ReferenceAdamConvWIdeal.Read.val_main_v10_eq (F := Ideal) _ _)).trans (Cert.AdamConvW.second_eq _ _), hargs⟩

theorem algebraic_adam_w_ada : Cert.algebraic_KernelAdamWAdaIdeal_ReferenceAdamWAdaIdeal := by
  intro m g m' g' _ hagree
  refine ⟨fun c => Cert.KernelAdamWAdaIdeal.Value.G4 (F := Ideal) (m ((c.tc : Thread _ _).loc Cert.KernelAdamWAdaIdeal.main_arg1)) (m ((c.tc : Thread _ _).loc Cert.KernelAdamWAdaIdeal.main_arg0)) (m ((c.tc : Thread _ _).loc Cert.KernelAdamWAdaIdeal.main_arg2)) (m ((c.tc : Thread _ _).loc Cert.KernelAdamWAdaIdeal.main_arg3)),
    fun c => Cert.KernelAdamWAdaIdeal.Value.G5 (F := Ideal) (m ((c.tc : Thread _ _).loc Cert.KernelAdamWAdaIdeal.main_arg0)) (m ((c.tc : Thread _ _).loc Cert.KernelAdamWAdaIdeal.main_arg2)),
    fun c => Cert.KernelAdamWAdaIdeal.Value.G6 (F := Ideal) (m ((c.tc : Thread _ _).loc Cert.KernelAdamWAdaIdeal.main_arg0)) (m ((c.tc : Thread _ _).loc Cert.KernelAdamWAdaIdeal.main_arg3)), Cert.KernelAdamWAdaIdeal.Value.run (F := Ideal) m g,
    (θ_run Cert.ReferenceAdamWAdaIdeal.defs _ _).mono (fun r h c => ?_) (Cert.ReferenceAdamWAdaIdeal.Value.run (F := Ideal) m' g')⟩
  obtain ⟨r0, r1, r2, hargs⟩ := h c
  obtain ⟨a0, a1, a2, a3⟩ := hagree c
  rw [a0, a1, a2, a3] at r0
  rw [a0, a2] at r1
  rw [a0, a3] at r2
  exact ⟨(r0.trans (Cert.ReferenceAdamWAdaIdeal.Read.val_main_v23_eq (F := Ideal) _ _ _ _)).trans (Cert.AdamWAda.delta_eq _ _ _ _),
    (r1.trans (Cert.ReferenceAdamWAdaIdeal.Read.val_main_v4_eq (F := Ideal) _ _)).trans (Cert.AdamWAda.first_eq _ _),
    (r2.trans (Cert.ReferenceAdamWAdaIdeal.Read.val_main_v10_eq (F := Ideal) _ _)).trans (Cert.AdamWAda.second_eq _ _), hargs⟩

theorem algebraic_adam_w_in : Cert.algebraic_KernelAdamWInIdeal_ReferenceAdamWInIdeal := by
  intro m g m' g' _ hagree
  refine ⟨fun c => (Cert.KernelAdamWInIdeal.Gen.dats m 0 c).arrAt 4 Cert.KernelAdamWInIdeal.cfg0.N, fun c => (Cert.KernelAdamWInIdeal.Gen.dats m 0 c).arrAt 5 Cert.KernelAdamWInIdeal.cfg0.N,
    fun c => (Cert.KernelAdamWInIdeal.Gen.dats m 0 c).arrAt 6 Cert.KernelAdamWInIdeal.cfg0.N, fun c => (Cert.KernelAdamWInIdeal.Gen.dats m 0 c).arrAt 7 Cert.KernelAdamWInIdeal.cfg0.N,
    Cert.KernelAdamWInIdeal.Value.run_blocks (F := Ideal) m g,
    (θ_run Cert.ReferenceAdamWInIdeal.defs _ _).mono (fun r h c => ?_) (Cert.ReferenceAdamWInIdeal.Value.run (F := Ideal) m' g')⟩
  obtain ⟨r0, r1, r2, r3, hargs⟩ := h c
  obtain ⟨a0, a1, a2, a3⟩ := hagree c
  rw [a0] at r0
  rw [a0, a1, a2, a3] at r1
  rw [a0, a2] at r2
  rw [a0, a3] at r3
  exact ⟨(r0.trans (Cert.ReferenceAdamWInIdeal.Read.val_main_v1_eq (F := Ideal) _)).trans (Cert.AdamWIn.reference4 m c),
    (r1.trans (Cert.ReferenceAdamWInIdeal.Read.val_main_v25_eq (F := Ideal) _ _ _ _)).trans (Cert.AdamWIn.reference5 m c),
    (r2.trans (Cert.ReferenceAdamWInIdeal.Read.val_main_v6_eq (F := Ideal) _ _)).trans (Cert.AdamWIn.reference6 m c),
    (r3.trans (Cert.ReferenceAdamWInIdeal.Read.val_main_v12_eq (F := Ideal) _ _)).trans (Cert.AdamWIn.reference7 m c), hargs⟩

theorem algebraic_adam_w_ret_out : Cert.algebraic_KernelAdamWRetOutIdeal_ReferenceAdamWRetOutIdeal := by
  intro m g m' g' _ hagree
  refine ⟨fun c => (Cert.KernelAdamWRetOutIdeal.Gen.dats m 0 c).arrAt 4 Cert.KernelAdamWRetOutIdeal.cfg0.N, fun c => (Cert.KernelAdamWRetOutIdeal.Gen.dats m 0 c).arrAt 5 Cert.KernelAdamWRetOutIdeal.cfg0.N,
    fun c => (Cert.KernelAdamWRetOutIdeal.Gen.dats m 0 c).arrAt 6 Cert.KernelAdamWRetOutIdeal.cfg0.N, fun c => (Cert.KernelAdamWRetOutIdeal.Gen.dats m 0 c).arrAt 7 Cert.KernelAdamWRetOutIdeal.cfg0.N,
    Cert.KernelAdamWRetOutIdeal.Value.run_blocks (F := Ideal) m g,
    (θ_run Cert.ReferenceAdamWRetOutIdeal.defs _ _).mono (fun r h c => ?_) (Cert.ReferenceAdamWRetOutIdeal.Value.run (F := Ideal) m' g')⟩
  obtain ⟨r0, r1, r2, r3, hargs⟩ := h c
  obtain ⟨a0, a1, a2, a3⟩ := hagree c
  rw [a0] at r0
  rw [a0, a1, a2, a3] at r1
  rw [a0, a2] at r2
  rw [a0, a3] at r3
  exact ⟨(r0.trans (Cert.ReferenceAdamWRetOutIdeal.Read.val_main_v1_eq (F := Ideal) _)).trans (Cert.AdamWRetOut.reference4 m c),
    (r1.trans (Cert.ReferenceAdamWRetOutIdeal.Read.val_main_v25_eq (F := Ideal) _ _ _ _)).trans (Cert.AdamWRetOut.reference5 m c),
    (r2.trans (Cert.ReferenceAdamWRetOutIdeal.Read.val_main_v6_eq (F := Ideal) _ _)).trans (Cert.AdamWRetOut.reference6 m c),
    (r3.trans (Cert.ReferenceAdamWRetOutIdeal.Read.val_main_v12_eq (F := Ideal) _ _)).trans (Cert.AdamWRetOut.reference7 m c), hargs⟩

theorem algebraic_adam_w_out : Cert.algebraic_KernelAdamWOutIdeal_ReferenceAdamWOutIdeal := by
  intro m g m' g' _ hagree
  refine ⟨fun c => (Cert.KernelAdamWOutIdeal.Gen.dats m 0 c).arrAt 4 Cert.KernelAdamWOutIdeal.cfg0.N, fun c => (Cert.KernelAdamWOutIdeal.Gen.dats m 0 c).arrAt 5 Cert.KernelAdamWOutIdeal.cfg0.N,
    fun c => (Cert.KernelAdamWOutIdeal.Gen.dats m 0 c).arrAt 6 Cert.KernelAdamWOutIdeal.cfg0.N, fun c => (Cert.KernelAdamWOutIdeal.Gen.dats m 0 c).arrAt 7 Cert.KernelAdamWOutIdeal.cfg0.N,
    Cert.KernelAdamWOutIdeal.Value.run_blocks (F := Ideal) m g,
    (θ_run Cert.ReferenceAdamWOutIdeal.defs _ _).mono (fun r h c => ?_) (Cert.ReferenceAdamWOutIdeal.Value.run (F := Ideal) m' g')⟩
  obtain ⟨r0, r1, r2, r3, hargs⟩ := h c
  obtain ⟨a0, a1, a2, a3⟩ := hagree c
  rw [a0] at r0
  rw [a0, a1, a2, a3] at r1
  rw [a0, a2] at r2
  rw [a0, a3] at r3
  exact ⟨(r0.trans (Cert.ReferenceAdamWOutIdeal.Read.val_main_v1_eq (F := Ideal) _)).trans (Cert.AdamWOut.reference4 m c),
    (r1.trans (Cert.ReferenceAdamWOutIdeal.Read.val_main_v25_eq (F := Ideal) _ _ _ _)).trans (Cert.AdamWOut.reference5 m c),
    (r2.trans (Cert.ReferenceAdamWOutIdeal.Read.val_main_v6_eq (F := Ideal) _ _)).trans (Cert.AdamWOut.reference6 m c),
    (r3.trans (Cert.ReferenceAdamWOutIdeal.Read.val_main_v12_eq (F := Ideal) _ _)).trans (Cert.AdamWOut.reference7 m c), hargs⟩

theorem algebraic_retention : Cert.algebraic_KernelRfIdeal_ReferenceRfIdeal := by
  intro m g m' g' _ hagree
  refine ⟨fun c => (Cert.KernelRfIdeal.Gen.dats m 0 c).arrAt 10 Cert.KernelRfIdeal.cfg0.N, fun c => (Cert.KernelRfIdeal.Gen.dats m 0 c).arrAt 11 Cert.KernelRfIdeal.cfg0.N,
    fun c => (Cert.KernelRfIdeal.Gen.dats m 0 c).arrAt 12 Cert.KernelRfIdeal.cfg0.N, fun c => (Cert.KernelRfIdeal.Gen.dats m 0 c).arrAt 13 Cert.KernelRfIdeal.cfg0.N,
    (θ_run Cert.KernelRfIdeal.defs _ _).mono (fun r h c => ?_) (Cert.KernelRfIdeal.Value.run (F := Ideal) m g),
    (θ_run Cert.ReferenceRfIdeal.defs _ _).mono (fun r h c => ?_) (Cert.ReferenceRfIdeal.Value.run (F := Ideal) m' g')⟩
  · obtain ⟨r0, r1, r2, r3, hargs⟩ := h c
    exact ⟨r0.trans (Cert.KernelRfIdeal.Value.final10 m c).symm, r1.trans (Cert.KernelRfIdeal.Value.final11 m c).symm,
      r2.trans (Cert.KernelRfIdeal.Value.final12 m c).symm, r3.trans (Cert.KernelRfIdeal.Value.final13 m c).symm, hargs⟩
  · obtain ⟨r0, r1, r2, r3, hargs⟩ := h c
    obtain ⟨a0, a1, a2⟩ := hagree c
    have hI : Cert.RetentionReference.inputs m' c = Cert.Retention.inputs m c := by
      rw [Cert.Retention.inputs_eq]
      unfold Cert.RetentionReference.inputs
      rw [a0, a1, a2]
    exact ⟨r0.trans (Cert.RetentionReference.reference10 m' c m hI), r1.trans (Cert.RetentionReference.reference11 m' c m hI),
      r2.trans (Cert.RetentionReference.reference12 m' c m hI), r3.trans (Cert.RetentionReference.reference13 m' c m hI), hargs⟩

theorem algebraic_modulation : Cert.algebraic_KernelModIdeal_ReferenceModIdeal := by
  intro m g m' g' _ hagree
  refine ⟨fun c => Cert.KernelModIdeal.Value.G3 (F := Ideal) (m ((c.tc : Thread _ _).loc Cert.KernelModIdeal.main_arg0)) (m ((c.tc : Thread _ _).loc Cert.KernelModIdeal.main_arg1)) (m ((c.tc : Thread _ _).loc Cert.KernelModIdeal.main_arg2)),
    Cert.KernelModIdeal.Value.run (F := Ideal) m g,
    (θ_run Cert.ReferenceModIdeal.defs _ _).mono (fun r h c => ?_) (Cert.ReferenceModIdeal.Value.run (F := Ideal) m' g')⟩
  obtain ⟨r0, hargs⟩ := h c
  obtain ⟨a0, a1, a2⟩ := hagree c
  rw [a0, a1, a2] at r0
  exact ⟨(r0.trans (Cert.ReferenceModIdeal.Read.val_main_v2_eq (F := Ideal) _ _ _)).trans (Cert.Modulation.reference_eq _ _ _), hargs⟩

theorem claim : Cert.Claim := ⟨Cert.KernelDwr.Gen.facts, Cert.KernelDwrIdeal.Gen.facts, Cert.ReferenceDwrIdeal.Gen.facts, Cert.KernelDwc.Gen.facts, Cert.KernelDwcIdeal.Gen.facts, Cert.ReferenceDwcIdeal.Gen.facts, Cert.KernelDwg.Gen.facts, Cert.KernelDwgIdeal.Gen.facts, Cert.ReferenceDwgIdeal.Gen.facts, Cert.KernelDwRetOut.Gen.facts, Cert.KernelDwRetOutIdeal.Gen.facts, Cert.ReferenceDwRetOutIdeal.Gen.facts,
  Cert.KernelDwConvOut.Gen.facts, Cert.KernelDwConvOutIdeal.Gen.facts, Cert.ReferenceDwConvOutIdeal.Gen.facts,
  Cert.KernelDwOut.Gen.facts, Cert.KernelDwOutIdeal.Gen.facts, Cert.ReferenceDwOutIdeal.Gen.facts,
  Cert.KernelDh.Gen.facts, Cert.KernelDhIdeal.Gen.facts, Cert.ReferenceDhIdeal.Gen.facts,
  Cert.KernelHead.Gen.facts, Cert.KernelHeadIdeal.Gen.facts, Cert.ReferenceHeadIdeal.Gen.facts,
  Cert.KernelSumSmall.Gen.facts, Cert.KernelSumSmallIdeal.Gen.facts, Cert.ReferenceSumSmallIdeal.Gen.facts,
  Cert.KernelSumConvW.Gen.facts, Cert.KernelSumConvWIdeal.Gen.facts, Cert.ReferenceSumConvWIdeal.Gen.facts,
  Cert.KernelGradWAda.Gen.facts, Cert.KernelGradWAdaIdeal.Gen.facts, Cert.ReferenceGradWAdaIdeal.Gen.facts,
  Cert.KernelAdamSmall.Gen.facts, Cert.KernelAdamSmallIdeal.Gen.facts, Cert.ReferenceAdamSmallIdeal.Gen.facts,
  Cert.KernelAdamConvW.Gen.facts, Cert.KernelAdamConvWIdeal.Gen.facts, Cert.ReferenceAdamConvWIdeal.Gen.facts,
  Cert.KernelAdamWAda.Gen.facts, Cert.KernelAdamWAdaIdeal.Gen.facts, Cert.ReferenceAdamWAdaIdeal.Gen.facts,
  Cert.KernelAdamWIn.Gen.facts, Cert.KernelAdamWInIdeal.Gen.facts, Cert.ReferenceAdamWInIdeal.Gen.facts,
  Cert.KernelAdamWRetOut.Gen.facts, Cert.KernelAdamWRetOutIdeal.Gen.facts, Cert.ReferenceAdamWRetOutIdeal.Gen.facts,
  Cert.KernelAdamWOut.Gen.facts, Cert.KernelAdamWOutIdeal.Gen.facts, Cert.ReferenceAdamWOutIdeal.Gen.facts,
  Cert.KernelRf.Gen.facts, Cert.KernelRfIdeal.Gen.facts, Cert.ReferenceRfIdeal.Gen.facts,
  Cert.KernelMod.Gen.facts, Cert.KernelModIdeal.Gen.facts, Cert.ReferenceModIdeal.Gen.facts,
  fun m g _ => Cert.KernelDwr.Gen.frame (F := Bits) m g,
  fun m g _ => Cert.KernelDwrIdeal.Gen.frame (F := Ideal) m g,
  frame_dwr,
  fun m g _ => Cert.KernelDwc.Gen.frame (F := Bits) m g,
  fun m g _ => Cert.KernelDwcIdeal.Gen.frame (F := Ideal) m g,
  frame_dwc,
  fun m g _ => Cert.KernelDwg.Gen.frame (F := Bits) m g,
  fun m g _ => Cert.KernelDwgIdeal.Gen.frame (F := Ideal) m g,
  frame_dwg,
  fun m g _ => Cert.KernelDwRetOut.Gen.frame (F := Bits) m g,
  fun m g _ => Cert.KernelDwRetOutIdeal.Gen.frame (F := Ideal) m g,
  frame_dw_ret_out,
  fun m g _ => Cert.KernelDwConvOut.Gen.frame (F := Bits) m g,
  fun m g _ => Cert.KernelDwConvOutIdeal.Gen.frame (F := Ideal) m g,
  frame_dw_conv_out,
  fun m g _ => Cert.KernelDwOut.Gen.frame (F := Bits) m g,
  fun m g _ => Cert.KernelDwOutIdeal.Gen.frame (F := Ideal) m g,
  frame_dw_out,
  fun m g _ => Cert.KernelDh.Gen.frame (F := Bits) m g,
  fun m g _ => Cert.KernelDhIdeal.Gen.frame (F := Ideal) m g,
  frame_dh,
  fun m g _ => Cert.KernelHead.Gen.frame (F := Bits) m g,
  fun m g _ => Cert.KernelHeadIdeal.Gen.frame (F := Ideal) m g,
  frame_head,
  fun m g _ => Cert.KernelSumSmall.Gen.frame (F := Bits) m g,
  fun m g _ => Cert.KernelSumSmallIdeal.Gen.frame (F := Ideal) m g,
  frame_sum_small,
  fun m g _ => Cert.KernelSumConvW.Gen.frame (F := Bits) m g,
  fun m g _ => Cert.KernelSumConvWIdeal.Gen.frame (F := Ideal) m g,
  frame_sum_conv_w,
  fun m g _ => Cert.KernelGradWAda.Gen.frame (F := Bits) m g,
  fun m g _ => Cert.KernelGradWAdaIdeal.Gen.frame (F := Ideal) m g,
  frame_grad_w_ada,
  fun m g _ => Cert.KernelAdamSmall.Gen.frame (F := Bits) m g,
  fun m g _ => Cert.KernelAdamSmallIdeal.Gen.frame (F := Ideal) m g,
  frame_adam_small,
  fun m g _ => Cert.KernelAdamConvW.Gen.frame (F := Bits) m g,
  fun m g _ => Cert.KernelAdamConvWIdeal.Gen.frame (F := Ideal) m g,
  frame_adam_conv_w,
  fun m g _ => Cert.KernelAdamWAda.Gen.frame (F := Bits) m g,
  fun m g _ => Cert.KernelAdamWAdaIdeal.Gen.frame (F := Ideal) m g,
  frame_adam_w_ada,
  fun m g _ => Cert.KernelAdamWIn.Gen.frame (F := Bits) m g,
  fun m g _ => Cert.KernelAdamWInIdeal.Gen.frame (F := Ideal) m g,
  frame_adam_w_in,
  fun m g _ => Cert.KernelAdamWRetOut.Gen.frame (F := Bits) m g,
  fun m g _ => Cert.KernelAdamWRetOutIdeal.Gen.frame (F := Ideal) m g,
  frame_adam_w_ret_out,
  fun m g _ => Cert.KernelAdamWOut.Gen.frame (F := Bits) m g,
  fun m g _ => Cert.KernelAdamWOutIdeal.Gen.frame (F := Ideal) m g,
  frame_adam_w_out,
  fun m g _ => Cert.KernelRf.Gen.frame (F := Bits) m g,
  fun m g _ => Cert.KernelRfIdeal.Gen.frame (F := Ideal) m g,
  frame_retention,
  fun m g _ => Cert.KernelMod.Gen.frame (F := Bits) m g,
  fun m g _ => Cert.KernelModIdeal.Gen.frame (F := Ideal) m g,
  frame_modulation,
  trivial,
  algebraic_dwr,
  trivial,
  algebraic_dwc,
  trivial,
  algebraic_dwg,
  trivial,
  algebraic_dw_ret_out,
  trivial,
  algebraic_dw_conv_out,
  trivial,
  algebraic_dw_out,
  trivial,
  algebraic_dh,
  trivial,
  algebraic_head,
  trivial,
  algebraic_sum_small,
  trivial,
  algebraic_sum_conv_w,
  trivial,
  algebraic_grad_w_ada,
  trivial,
  algebraic_adam_small,
  trivial,
  algebraic_adam_conv_w,
  trivial,
  algebraic_adam_w_ada,
  trivial,
  algebraic_adam_w_in,
  trivial,
  algebraic_adam_w_ret_out,
  trivial,
  algebraic_adam_w_out,
  trivial,
  algebraic_retention,
  trivial,
  algebraic_modulation⟩

end Cert.Proof

end
